-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_finite [hPre_scores_finite : Cert.Pre_scores_finite.Facts] (m : (ℓ : Loc Cert.KernelIdeal.nD Cert.KernelIdeal.τ Cert.KernelIdeal.sig) → Buf (Elt Ideal) ℓ) : Prop :=
  ∀ c : Dev Cert.KernelIdeal.nD,
    (Cert.Pre_scores_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_scores_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_finite [hPre_scores_finite : Cert.Pre_scores_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_scores_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def Pre_KernelCached (m : (ℓ : Loc Cert.KernelCached.nD Cert.KernelCached.τ Cert.KernelCached.sig) → Buf (Elt Bits) ℓ) : Prop :=
  True

def Pre_KernelCachedIdeal (m : (ℓ : Loc Cert.KernelCachedIdeal.nD Cert.KernelCachedIdeal.τ Cert.KernelCachedIdeal.sig) → Buf (Elt Ideal) ℓ) : Prop :=
  True

def Pre_ReferenceCachedIdeal (m : (ℓ : Loc Cert.ReferenceCachedIdeal.nD Cert.ReferenceCachedIdeal.τ Cert.ReferenceCachedIdeal.sig) → Buf (Elt Ideal) ℓ) : Prop :=
  True

def Pre_KernelFfn (m : (ℓ : Loc Cert.KernelFfn.nD Cert.KernelFfn.τ Cert.KernelFfn.sig) → Buf (Elt Bits) ℓ) : Prop :=
  True

def Pre_KernelFfnIdeal (m : (ℓ : Loc Cert.KernelFfnIdeal.nD Cert.KernelFfnIdeal.τ Cert.KernelFfnIdeal.sig) → Buf (Elt Ideal) ℓ) : Prop :=
  True

def Pre_ReferenceFfnIdeal (m : (ℓ : Loc Cert.ReferenceFfnIdeal.nD Cert.ReferenceFfnIdeal.τ Cert.ReferenceFfnIdeal.sig) → Buf (Elt Ideal) ℓ) : Prop :=
  True

def Pre_KernelNormMm (m : (ℓ : Loc Cert.KernelNormMm.nD Cert.KernelNormMm.τ Cert.KernelNormMm.sig) → Buf (Elt Bits) ℓ) : Prop :=
  True

def Pre_KernelNormMmIdeal (m : (ℓ : Loc Cert.KernelNormMmIdeal.nD Cert.KernelNormMmIdeal.τ Cert.KernelNormMmIdeal.sig) → Buf (Elt Ideal) ℓ) : Prop :=
  True

def Pre_ReferenceNormMmIdeal (m : (ℓ : Loc Cert.ReferenceNormMmIdeal.nD Cert.ReferenceNormMmIdeal.τ Cert.ReferenceNormMmIdeal.sig) → Buf (Elt Ideal) ℓ) : Prop :=
  True

def Pre_KernelProj (m : (ℓ : Loc Cert.KernelProj.nD Cert.KernelProj.τ Cert.KernelProj.sig) → Buf (Elt Bits) ℓ) : Prop :=
  True

def Pre_KernelProjIdeal (m : (ℓ : Loc Cert.KernelProjIdeal.nD Cert.KernelProjIdeal.τ Cert.KernelProjIdeal.sig) → Buf (Elt Ideal) ℓ) : Prop :=
  True

def Pre_ReferenceProjIdeal (m : (ℓ : Loc Cert.ReferenceProjIdeal.nD Cert.ReferenceProjIdeal.τ Cert.ReferenceProjIdeal.sig) → Buf (Elt Ideal) ℓ) : Prop :=
  True

def Pre_KernelGated (m : (ℓ : Loc Cert.KernelGated.nD Cert.KernelGated.τ Cert.KernelGated.sig) → Buf (Elt Bits) ℓ) : Prop :=
  True

def Pre_KernelGatedIdeal (m : (ℓ : Loc Cert.KernelGatedIdeal.nD Cert.KernelGatedIdeal.τ Cert.KernelGatedIdeal.sig) → Buf (Elt Ideal) ℓ) : Prop :=
  True

def Pre_ReferenceGatedIdeal (m : (ℓ : Loc Cert.ReferenceGatedIdeal.nD Cert.ReferenceGatedIdeal.τ Cert.ReferenceGatedIdeal.sig) → Buf (Elt Ideal) ℓ) : Prop :=
  True

def Pre_KernelNorm (m : (ℓ : Loc Cert.KernelNorm.nD Cert.KernelNorm.τ Cert.KernelNorm.sig) → Buf (Elt Bits) ℓ) : Prop :=
  True

def Pre_KernelNormIdeal (m : (ℓ : Loc Cert.KernelNormIdeal.nD Cert.KernelNormIdeal.τ Cert.KernelNormIdeal.sig) → Buf (Elt Ideal) ℓ) : Prop :=
  True

def Pre_ReferenceNormIdeal (m : (ℓ : Loc Cert.ReferenceNormIdeal.nD Cert.ReferenceNormIdeal.τ Cert.ReferenceNormIdeal.sig) → Buf (Elt Ideal) ℓ) : Prop :=
  True

def Pre_KernelRkv (m : (ℓ : Loc Cert.KernelRkv.nD Cert.KernelRkv.τ Cert.KernelRkv.sig) → Buf (Elt Bits) ℓ) : Prop :=
  True

def Pre_KernelRkvIdeal (m : (ℓ : Loc Cert.KernelRkvIdeal.nD Cert.KernelRkvIdeal.τ Cert.KernelRkvIdeal.sig) → Buf (Elt Ideal) ℓ) : Prop :=
  True

def Pre_ReferenceRkvIdeal (m : (ℓ : Loc Cert.ReferenceRkvIdeal.nD Cert.ReferenceRkvIdeal.τ Cert.ReferenceRkvIdeal.sig) → Buf (Elt Ideal) ℓ) : Prop :=
  True

def Pre_KernelLora (m : (ℓ : Loc Cert.KernelLora.nD Cert.KernelLora.τ Cert.KernelLora.sig) → Buf (Elt Bits) ℓ) : Prop :=
  True

def Pre_KernelLoraIdeal (m : (ℓ : Loc Cert.KernelLoraIdeal.nD Cert.KernelLoraIdeal.τ Cert.KernelLoraIdeal.sig) → Buf (Elt Ideal) ℓ) : Prop :=
  True

def Pre_ReferenceLoraIdeal (m : (ℓ : Loc Cert.ReferenceLoraIdeal.nD Cert.ReferenceLoraIdeal.τ Cert.ReferenceLoraIdeal.sig) → Buf (Elt Ideal) ℓ) : Prop :=
  True

def Pre_KernelHgrn (m : (ℓ : Loc Cert.KernelHgrn.nD Cert.KernelHgrn.τ Cert.KernelHgrn.sig) → Buf (Elt Bits) ℓ) : Prop :=
  True

def Pre_KernelHgrnIdeal (m : (ℓ : Loc Cert.KernelHgrnIdeal.nD Cert.KernelHgrnIdeal.τ Cert.KernelHgrnIdeal.sig) → Buf (Elt Ideal) ℓ) : Prop :=
  True

def Pre_KernelHgrnIdeal_bound_finite [hPre_bound_finite : Cert.Pre_bound_finite.Facts] (m : (ℓ : Loc Cert.KernelHgrnIdeal.nD Cert.KernelHgrnIdeal.τ Cert.KernelHgrnIdeal.sig) → Buf (Elt Ideal) ℓ) : Prop :=
  ∀ c : Dev Cert.KernelHgrnIdeal.nD,
    (Cert.Pre_bound_finite.fn (F := Ideal) (m ((c.tc : Thread Cert.KernelHgrnIdeal.nD Cert.KernelHgrnIdeal.τ).loc Cert.KernelHgrnIdeal.main_arg0)) (m ((c.tc : Thread Cert.KernelHgrnIdeal.nD Cert.KernelHgrnIdeal.τ).loc Cert.KernelHgrnIdeal.main_arg1)) (m ((c.tc : Thread Cert.KernelHgrnIdeal.nD Cert.KernelHgrnIdeal.τ).loc Cert.KernelHgrnIdeal.main_arg2))) = (fun _ => 1#1)

def Pre_ReferenceHgrnIdeal (m : (ℓ : Loc Cert.ReferenceHgrnIdeal.nD Cert.ReferenceHgrnIdeal.τ Cert.ReferenceHgrnIdeal.sig) → Buf (Elt Ideal) ℓ) : Prop :=
  True

def Pre_ReferenceHgrnIdeal_bound_finite [hPre_bound_finite : Cert.Pre_bound_finite.Facts] (m : (ℓ : Loc Cert.ReferenceHgrnIdeal.nD Cert.ReferenceHgrnIdeal.τ Cert.ReferenceHgrnIdeal.sig) → Buf (Elt Ideal) ℓ) : Prop :=
  ∀ c : Dev Cert.ReferenceHgrnIdeal.nD,
    (Cert.Pre_bound_finite.fn (F := Ideal) (m ((c.tc : Thread Cert.ReferenceHgrnIdeal.nD Cert.ReferenceHgrnIdeal.τ).loc Cert.ReferenceHgrnIdeal.main_arg0)) (m ((c.tc : Thread Cert.ReferenceHgrnIdeal.nD Cert.ReferenceHgrnIdeal.τ).loc Cert.ReferenceHgrnIdeal.main_arg1)) (m ((c.tc : Thread Cert.ReferenceHgrnIdeal.nD Cert.ReferenceHgrnIdeal.τ).loc Cert.ReferenceHgrnIdeal.main_arg2))) = (fun _ => 1#1)

def Pre_KernelWkv (m : (ℓ : Loc Cert.KernelWkv.nD Cert.KernelWkv.τ Cert.KernelWkv.sig) → Buf (Elt Bits) ℓ) : Prop :=
  True

def Pre_KernelWkvIdeal (m : (ℓ : Loc Cert.KernelWkvIdeal.nD Cert.KernelWkvIdeal.τ Cert.KernelWkvIdeal.sig) → Buf (Elt Ideal) ℓ) : Prop :=
  True

def Pre_KernelWkvIdeal_inputs_finite [hPre_inputs_finite : Cert.Pre_inputs_finite.Facts] (m : (ℓ : Loc Cert.KernelWkvIdeal.nD Cert.KernelWkvIdeal.τ Cert.KernelWkvIdeal.sig) → Buf (Elt Ideal) ℓ) : Prop :=
  ∀ c : Dev Cert.KernelWkvIdeal.nD,
    (Cert.Pre_inputs_finite.fn (F := Ideal) (m ((c.tc : Thread Cert.KernelWkvIdeal.nD Cert.KernelWkvIdeal.τ).loc Cert.KernelWkvIdeal.main_arg0)) (m ((c.tc : Thread Cert.KernelWkvIdeal.nD Cert.KernelWkvIdeal.τ).loc Cert.KernelWkvIdeal.main_arg1)) (m ((c.tc : Thread Cert.KernelWkvIdeal.nD Cert.KernelWkvIdeal.τ).loc Cert.KernelWkvIdeal.main_arg2)) (m ((c.tc : Thread Cert.KernelWkvIdeal.nD Cert.KernelWkvIdeal.τ).loc Cert.KernelWkvIdeal.main_arg3)) (m ((c.tc : Thread Cert.KernelWkvIdeal.nD Cert.KernelWkvIdeal.τ).loc Cert.KernelWkvIdeal.main_arg4)) (m ((c.tc : Thread Cert.KernelWkvIdeal.nD Cert.KernelWkvIdeal.τ).loc Cert.KernelWkvIdeal.main_arg5)) (m ((c.tc : Thread Cert.KernelWkvIdeal.nD Cert.KernelWkvIdeal.τ).loc Cert.KernelWkvIdeal.main_arg6)) (m ((c.tc : Thread Cert.KernelWkvIdeal.nD Cert.KernelWkvIdeal.τ).loc Cert.KernelWkvIdeal.main_arg7)) (m ((c.tc : Thread Cert.KernelWkvIdeal.nD Cert.KernelWkvIdeal.τ).loc Cert.KernelWkvIdeal.main_arg8)) (m ((c.tc : Thread Cert.KernelWkvIdeal.nD Cert.KernelWkvIdeal.τ).loc Cert.KernelWkvIdeal.main_arg9))).1 = (fun _ => 1#1)
    ∧ (Cert.Pre_inputs_finite.fn (F := Ideal) (m ((c.tc : Thread Cert.KernelWkvIdeal.nD Cert.KernelWkvIdeal.τ).loc Cert.KernelWkvIdeal.main_arg0)) (m ((c.tc : Thread Cert.KernelWkvIdeal.nD Cert.KernelWkvIdeal.τ).loc Cert.KernelWkvIdeal.main_arg1)) (m ((c.tc : Thread Cert.KernelWkvIdeal.nD Cert.KernelWkvIdeal.τ).loc Cert.KernelWkvIdeal.main_arg2)) (m ((c.tc : Thread Cert.KernelWkvIdeal.nD Cert.KernelWkvIdeal.τ).loc Cert.KernelWkvIdeal.main_arg3)) (m ((c.tc : Thread Cert.KernelWkvIdeal.nD Cert.KernelWkvIdeal.τ).loc Cert.KernelWkvIdeal.main_arg4)) (m ((c.tc : Thread Cert.KernelWkvIdeal.nD Cert.KernelWkvIdeal.τ).loc Cert.KernelWkvIdeal.main_arg5)) (m ((c.tc : Thread Cert.KernelWkvIdeal.nD Cert.KernelWkvIdeal.τ).loc Cert.KernelWkvIdeal.main_arg6)) (m ((c.tc : Thread Cert.KernelWkvIdeal.nD Cert.KernelWkvIdeal.τ).loc Cert.KernelWkvIdeal.main_arg7)) (m ((c.tc : Thread Cert.KernelWkvIdeal.nD Cert.KernelWkvIdeal.τ).loc Cert.KernelWkvIdeal.main_arg8)) (m ((c.tc : Thread Cert.KernelWkvIdeal.nD Cert.KernelWkvIdeal.τ).loc Cert.KernelWkvIdeal.main_arg9))).2.1 = (fun _ => 1#1)
    ∧ (Cert.Pre_inputs_finite.fn (F := Ideal) (m ((c.tc : Thread Cert.KernelWkvIdeal.nD Cert.KernelWkvIdeal.τ).loc Cert.KernelWkvIdeal.main_arg0)) (m ((c.tc : Thread Cert.KernelWkvIdeal.nD Cert.KernelWkvIdeal.τ).loc Cert.KernelWkvIdeal.main_arg1)) (m ((c.tc : Thread Cert.KernelWkvIdeal.nD Cert.KernelWkvIdeal.τ).loc Cert.KernelWkvIdeal.main_arg2)) (m ((c.tc : Thread Cert.KernelWkvIdeal.nD Cert.KernelWkvIdeal.τ).loc Cert.KernelWkvIdeal.main_arg3)) (m ((c.tc : Thread Cert.KernelWkvIdeal.nD Cert.KernelWkvIdeal.τ).loc Cert.KernelWkvIdeal.main_arg4)) (m ((c.tc : Thread Cert.KernelWkvIdeal.nD Cert.KernelWkvIdeal.τ).loc Cert.KernelWkvIdeal.main_arg5)) (m ((c.tc : Thread Cert.KernelWkvIdeal.nD Cert.KernelWkvIdeal.τ).loc Cert.KernelWkvIdeal.main_arg6)) (m ((c.tc : Thread Cert.KernelWkvIdeal.nD Cert.KernelWkvIdeal.τ).loc Cert.KernelWkvIdeal.main_arg7)) (m ((c.tc : Thread Cert.KernelWkvIdeal.nD Cert.KernelWkvIdeal.τ).loc Cert.KernelWkvIdeal.main_arg8)) (m ((c.tc : Thread Cert.KernelWkvIdeal.nD Cert.KernelWkvIdeal.τ).loc Cert.KernelWkvIdeal.main_arg9))).2.2.1 = (fun _ => 1#1)
    ∧ (Cert.Pre_inputs_finite.fn (F := Ideal) (m ((c.tc : Thread Cert.KernelWkvIdeal.nD Cert.KernelWkvIdeal.τ).loc Cert.KernelWkvIdeal.main_arg0)) (m ((c.tc : Thread Cert.KernelWkvIdeal.nD Cert.KernelWkvIdeal.τ).loc Cert.KernelWkvIdeal.main_arg1)) (m ((c.tc : Thread Cert.KernelWkvIdeal.nD Cert.KernelWkvIdeal.τ).loc Cert.KernelWkvIdeal.main_arg2)) (m ((c.tc : Thread Cert.KernelWkvIdeal.nD Cert.KernelWkvIdeal.τ).loc Cert.KernelWkvIdeal.main_arg3)) (m ((c.tc : Thread Cert.KernelWkvIdeal.nD Cert.KernelWkvIdeal.τ).loc Cert.KernelWkvIdeal.main_arg4)) (m ((c.tc : Thread Cert.KernelWkvIdeal.nD Cert.KernelWkvIdeal.τ).loc Cert.KernelWkvIdeal.main_arg5)) (m ((c.tc : Thread Cert.KernelWkvIdeal.nD Cert.KernelWkvIdeal.τ).loc Cert.KernelWkvIdeal.main_arg6)) (m ((c.tc : Thread Cert.KernelWkvIdeal.nD Cert.KernelWkvIdeal.τ).loc Cert.KernelWkvIdeal.main_arg7)) (m ((c.tc : Thread Cert.KernelWkvIdeal.nD Cert.KernelWkvIdeal.τ).loc Cert.KernelWkvIdeal.main_arg8)) (m ((c.tc : Thread Cert.KernelWkvIdeal.nD Cert.KernelWkvIdeal.τ).loc Cert.KernelWkvIdeal.main_arg9))).2.2.2.1 = (fun _ => 1#1)
    ∧ (Cert.Pre_inputs_finite.fn (F := Ideal) (m ((c.tc : Thread Cert.KernelWkvIdeal.nD Cert.KernelWkvIdeal.τ).loc Cert.KernelWkvIdeal.main_arg0)) (m ((c.tc : Thread Cert.KernelWkvIdeal.nD Cert.KernelWkvIdeal.τ).loc Cert.KernelWkvIdeal.main_arg1)) (m ((c.tc : Thread Cert.KernelWkvIdeal.nD Cert.KernelWkvIdeal.τ).loc Cert.KernelWkvIdeal.main_arg2)) (m ((c.tc : Thread Cert.KernelWkvIdeal.nD Cert.KernelWkvIdeal.τ).loc Cert.KernelWkvIdeal.main_arg3)) (m ((c.tc : Thread Cert.KernelWkvIdeal.nD Cert.KernelWkvIdeal.τ).loc Cert.KernelWkvIdeal.main_arg4)) (m ((c.tc : Thread Cert.KernelWkvIdeal.nD Cert.KernelWkvIdeal.τ).loc Cert.KernelWkvIdeal.main_arg5)) (m ((c.tc : Thread Cert.KernelWkvIdeal.nD Cert.KernelWkvIdeal.τ).loc Cert.KernelWkvIdeal.main_arg6)) (m ((c.tc : Thread Cert.KernelWkvIdeal.nD Cert.KernelWkvIdeal.τ).loc Cert.KernelWkvIdeal.main_arg7)) (m ((c.tc : Thread Cert.KernelWkvIdeal.nD Cert.KernelWkvIdeal.τ).loc Cert.KernelWkvIdeal.main_arg8)) (m ((c.tc : Thread Cert.KernelWkvIdeal.nD Cert.KernelWkvIdeal.τ).loc Cert.KernelWkvIdeal.main_arg9))).2.2.2.2.1 = (fun _ => 1#1)
    ∧ (Cert.Pre_inputs_finite.fn (F := Ideal) (m ((c.tc : Thread Cert.KernelWkvIdeal.nD Cert.KernelWkvIdeal.τ).loc Cert.KernelWkvIdeal.main_arg0)) (m ((c.tc : Thread Cert.KernelWkvIdeal.nD Cert.KernelWkvIdeal.τ).loc Cert.KernelWkvIdeal.main_arg1)) (m ((c.tc : Thread Cert.KernelWkvIdeal.nD Cert.KernelWkvIdeal.τ).loc Cert.KernelWkvIdeal.main_arg2)) (m ((c.tc : Thread Cert.KernelWkvIdeal.nD Cert.KernelWkvIdeal.τ).loc Cert.KernelWkvIdeal.main_arg3)) (m ((c.tc : Thread Cert.KernelWkvIdeal.nD Cert.KernelWkvIdeal.τ).loc Cert.KernelWkvIdeal.main_arg4)) (m ((c.tc : Thread Cert.KernelWkvIdeal.nD Cert.KernelWkvIdeal.τ).loc Cert.KernelWkvIdeal.main_arg5)) (m ((c.tc : Thread Cert.KernelWkvIdeal.nD Cert.KernelWkvIdeal.τ).loc Cert.KernelWkvIdeal.main_arg6)) (m ((c.tc : Thread Cert.KernelWkvIdeal.nD Cert.KernelWkvIdeal.τ).loc Cert.KernelWkvIdeal.main_arg7)) (m ((c.tc : Thread Cert.KernelWkvIdeal.nD Cert.KernelWkvIdeal.τ).loc Cert.KernelWkvIdeal.main_arg8)) (m ((c.tc : Thread Cert.KernelWkvIdeal.nD Cert.KernelWkvIdeal.τ).loc Cert.KernelWkvIdeal.main_arg9))).2.2.2.2.2.1 = (fun _ => 1#1)
    ∧ (Cert.Pre_inputs_finite.fn (F := Ideal) (m ((c.tc : Thread Cert.KernelWkvIdeal.nD Cert.KernelWkvIdeal.τ).loc Cert.KernelWkvIdeal.main_arg0)) (m ((c.tc : Thread Cert.KernelWkvIdeal.nD Cert.KernelWkvIdeal.τ).loc Cert.KernelWkvIdeal.main_arg1)) (m ((c.tc : Thread Cert.KernelWkvIdeal.nD Cert.KernelWkvIdeal.τ).loc Cert.KernelWkvIdeal.main_arg2)) (m ((c.tc : Thread Cert.KernelWkvIdeal.nD Cert.KernelWkvIdeal.τ).loc Cert.KernelWkvIdeal.main_arg3)) (m ((c.tc : Thread Cert.KernelWkvIdeal.nD Cert.KernelWkvIdeal.τ).loc Cert.KernelWkvIdeal.main_arg4)) (m ((c.tc : Thread Cert.KernelWkvIdeal.nD Cert.KernelWkvIdeal.τ).loc Cert.KernelWkvIdeal.main_arg5)) (m ((c.tc : Thread Cert.KernelWkvIdeal.nD Cert.KernelWkvIdeal.τ).loc Cert.KernelWkvIdeal.main_arg6)) (m ((c.tc : Thread Cert.KernelWkvIdeal.nD Cert.KernelWkvIdeal.τ).loc Cert.KernelWkvIdeal.main_arg7)) (m ((c.tc : Thread Cert.KernelWkvIdeal.nD Cert.KernelWkvIdeal.τ).loc Cert.KernelWkvIdeal.main_arg8)) (m ((c.tc : Thread Cert.KernelWkvIdeal.nD Cert.KernelWkvIdeal.τ).loc Cert.KernelWkvIdeal.main_arg9))).2.2.2.2.2.2 = (fun _ => 1#1)

def Pre_ReferenceWkvIdeal (m : (ℓ : Loc Cert.ReferenceWkvIdeal.nD Cert.ReferenceWkvIdeal.τ Cert.ReferenceWkvIdeal.sig) → Buf (Elt Ideal) ℓ) : Prop :=
  True

def Pre_ReferenceWkvIdeal_inputs_finite [hPre_inputs_finite : Cert.Pre_inputs_finite.Facts] (m : (ℓ : Loc Cert.ReferenceWkvIdeal.nD Cert.ReferenceWkvIdeal.τ Cert.ReferenceWkvIdeal.sig) → Buf (Elt Ideal) ℓ) : Prop :=
  ∀ c : Dev Cert.ReferenceWkvIdeal.nD,
    (Cert.Pre_inputs_finite.fn (F := Ideal) (m ((c.tc : Thread Cert.ReferenceWkvIdeal.nD Cert.ReferenceWkvIdeal.τ).loc Cert.ReferenceWkvIdeal.main_arg0)) (m ((c.tc : Thread Cert.ReferenceWkvIdeal.nD Cert.ReferenceWkvIdeal.τ).loc Cert.ReferenceWkvIdeal.main_arg1)) (m ((c.tc : Thread Cert.ReferenceWkvIdeal.nD Cert.ReferenceWkvIdeal.τ).loc Cert.ReferenceWkvIdeal.main_arg2)) (m ((c.tc : Thread Cert.ReferenceWkvIdeal.nD Cert.ReferenceWkvIdeal.τ).loc Cert.ReferenceWkvIdeal.main_arg3)) (m ((c.tc : Thread Cert.ReferenceWkvIdeal.nD Cert.ReferenceWkvIdeal.τ).loc Cert.ReferenceWkvIdeal.main_arg4)) (m ((c.tc : Thread Cert.ReferenceWkvIdeal.nD Cert.ReferenceWkvIdeal.τ).loc Cert.ReferenceWkvIdeal.main_arg5)) (m ((c.tc : Thread Cert.ReferenceWkvIdeal.nD Cert.ReferenceWkvIdeal.τ).loc Cert.ReferenceWkvIdeal.main_arg6)) (m ((c.tc : Thread Cert.ReferenceWkvIdeal.nD Cert.ReferenceWkvIdeal.τ).loc Cert.ReferenceWkvIdeal.main_arg7)) (m ((c.tc : Thread Cert.ReferenceWkvIdeal.nD Cert.ReferenceWkvIdeal.τ).loc Cert.ReferenceWkvIdeal.main_arg8)) (m ((c.tc : Thread Cert.ReferenceWkvIdeal.nD Cert.ReferenceWkvIdeal.τ).loc Cert.ReferenceWkvIdeal.main_arg9))).1 = (fun _ => 1#1)
    ∧ (Cert.Pre_inputs_finite.fn (F := Ideal) (m ((c.tc : Thread Cert.ReferenceWkvIdeal.nD Cert.ReferenceWkvIdeal.τ).loc Cert.ReferenceWkvIdeal.main_arg0)) (m ((c.tc : Thread Cert.ReferenceWkvIdeal.nD Cert.ReferenceWkvIdeal.τ).loc Cert.ReferenceWkvIdeal.main_arg1)) (m ((c.tc : Thread Cert.ReferenceWkvIdeal.nD Cert.ReferenceWkvIdeal.τ).loc Cert.ReferenceWkvIdeal.main_arg2)) (m ((c.tc : Thread Cert.ReferenceWkvIdeal.nD Cert.ReferenceWkvIdeal.τ).loc Cert.ReferenceWkvIdeal.main_arg3)) (m ((c.tc : Thread Cert.ReferenceWkvIdeal.nD Cert.ReferenceWkvIdeal.τ).loc Cert.ReferenceWkvIdeal.main_arg4)) (m ((c.tc : Thread Cert.ReferenceWkvIdeal.nD Cert.ReferenceWkvIdeal.τ).loc Cert.ReferenceWkvIdeal.main_arg5)) (m ((c.tc : Thread Cert.ReferenceWkvIdeal.nD Cert.ReferenceWkvIdeal.τ).loc Cert.ReferenceWkvIdeal.main_arg6)) (m ((c.tc : Thread Cert.ReferenceWkvIdeal.nD Cert.ReferenceWkvIdeal.τ).loc Cert.ReferenceWkvIdeal.main_arg7)) (m ((c.tc : Thread Cert.ReferenceWkvIdeal.nD Cert.ReferenceWkvIdeal.τ).loc Cert.ReferenceWkvIdeal.main_arg8)) (m ((c.tc : Thread Cert.ReferenceWkvIdeal.nD Cert.ReferenceWkvIdeal.τ).loc Cert.ReferenceWkvIdeal.main_arg9))).2.1 = (fun _ => 1#1)
    ∧ (Cert.Pre_inputs_finite.fn (F := Ideal) (m ((c.tc : Thread Cert.ReferenceWkvIdeal.nD Cert.ReferenceWkvIdeal.τ).loc Cert.ReferenceWkvIdeal.main_arg0)) (m ((c.tc : Thread Cert.ReferenceWkvIdeal.nD Cert.ReferenceWkvIdeal.τ).loc Cert.ReferenceWkvIdeal.main_arg1)) (m ((c.tc : Thread Cert.ReferenceWkvIdeal.nD Cert.ReferenceWkvIdeal.τ).loc Cert.ReferenceWkvIdeal.main_arg2)) (m ((c.tc : Thread Cert.ReferenceWkvIdeal.nD Cert.ReferenceWkvIdeal.τ).loc Cert.ReferenceWkvIdeal.main_arg3)) (m ((c.tc : Thread Cert.ReferenceWkvIdeal.nD Cert.ReferenceWkvIdeal.τ).loc Cert.ReferenceWkvIdeal.main_arg4)) (m ((c.tc : Thread Cert.ReferenceWkvIdeal.nD Cert.ReferenceWkvIdeal.τ).loc Cert.ReferenceWkvIdeal.main_arg5)) (m ((c.tc : Thread Cert.ReferenceWkvIdeal.nD Cert.ReferenceWkvIdeal.τ).loc Cert.ReferenceWkvIdeal.main_arg6)) (m ((c.tc : Thread Cert.ReferenceWkvIdeal.nD Cert.ReferenceWkvIdeal.τ).loc Cert.ReferenceWkvIdeal.main_arg7)) (m ((c.tc : Thread Cert.ReferenceWkvIdeal.nD Cert.ReferenceWkvIdeal.τ).loc Cert.ReferenceWkvIdeal.main_arg8)) (m ((c.tc : Thread Cert.ReferenceWkvIdeal.nD Cert.ReferenceWkvIdeal.τ).loc Cert.ReferenceWkvIdeal.main_arg9))).2.2.1 = (fun _ => 1#1)
    ∧ (Cert.Pre_inputs_finite.fn (F := Ideal) (m ((c.tc : Thread Cert.ReferenceWkvIdeal.nD Cert.ReferenceWkvIdeal.τ).loc Cert.ReferenceWkvIdeal.main_arg0)) (m ((c.tc : Thread Cert.ReferenceWkvIdeal.nD Cert.ReferenceWkvIdeal.τ).loc Cert.ReferenceWkvIdeal.main_arg1)) (m ((c.tc : Thread Cert.ReferenceWkvIdeal.nD Cert.ReferenceWkvIdeal.τ).loc Cert.ReferenceWkvIdeal.main_arg2)) (m ((c.tc : Thread Cert.ReferenceWkvIdeal.nD Cert.ReferenceWkvIdeal.τ).loc Cert.ReferenceWkvIdeal.main_arg3)) (m ((c.tc : Thread Cert.ReferenceWkvIdeal.nD Cert.ReferenceWkvIdeal.τ).loc Cert.ReferenceWkvIdeal.main_arg4)) (m ((c.tc : Thread Cert.ReferenceWkvIdeal.nD Cert.ReferenceWkvIdeal.τ).loc Cert.ReferenceWkvIdeal.main_arg5)) (m ((c.tc : Thread Cert.ReferenceWkvIdeal.nD Cert.ReferenceWkvIdeal.τ).loc Cert.ReferenceWkvIdeal.main_arg6)) (m ((c.tc : Thread Cert.ReferenceWkvIdeal.nD Cert.ReferenceWkvIdeal.τ).loc Cert.ReferenceWkvIdeal.main_arg7)) (m ((c.tc : Thread Cert.ReferenceWkvIdeal.nD Cert.ReferenceWkvIdeal.τ).loc Cert.ReferenceWkvIdeal.main_arg8)) (m ((c.tc : Thread Cert.ReferenceWkvIdeal.nD Cert.ReferenceWkvIdeal.τ).loc Cert.ReferenceWkvIdeal.main_arg9))).2.2.2.1 = (fun _ => 1#1)
    ∧ (Cert.Pre_inputs_finite.fn (F := Ideal) (m ((c.tc : Thread Cert.ReferenceWkvIdeal.nD Cert.ReferenceWkvIdeal.τ).loc Cert.ReferenceWkvIdeal.main_arg0)) (m ((c.tc : Thread Cert.ReferenceWkvIdeal.nD Cert.ReferenceWkvIdeal.τ).loc Cert.ReferenceWkvIdeal.main_arg1)) (m ((c.tc : Thread Cert.ReferenceWkvIdeal.nD Cert.ReferenceWkvIdeal.τ).loc Cert.ReferenceWkvIdeal.main_arg2)) (m ((c.tc : Thread Cert.ReferenceWkvIdeal.nD Cert.ReferenceWkvIdeal.τ).loc Cert.ReferenceWkvIdeal.main_arg3)) (m ((c.tc : Thread Cert.ReferenceWkvIdeal.nD Cert.ReferenceWkvIdeal.τ).loc Cert.ReferenceWkvIdeal.main_arg4)) (m ((c.tc : Thread Cert.ReferenceWkvIdeal.nD Cert.ReferenceWkvIdeal.τ).loc Cert.ReferenceWkvIdeal.main_arg5)) (m ((c.tc : Thread Cert.ReferenceWkvIdeal.nD Cert.ReferenceWkvIdeal.τ).loc Cert.ReferenceWkvIdeal.main_arg6)) (m ((c.tc : Thread Cert.ReferenceWkvIdeal.nD Cert.ReferenceWkvIdeal.τ).loc Cert.ReferenceWkvIdeal.main_arg7)) (m ((c.tc : Thread Cert.ReferenceWkvIdeal.nD Cert.ReferenceWkvIdeal.τ).loc Cert.ReferenceWkvIdeal.main_arg8)) (m ((c.tc : Thread Cert.ReferenceWkvIdeal.nD Cert.ReferenceWkvIdeal.τ).loc Cert.ReferenceWkvIdeal.main_arg9))).2.2.2.2.1 = (fun _ => 1#1)
    ∧ (Cert.Pre_inputs_finite.fn (F := Ideal) (m ((c.tc : Thread Cert.ReferenceWkvIdeal.nD Cert.ReferenceWkvIdeal.τ).loc Cert.ReferenceWkvIdeal.main_arg0)) (m ((c.tc : Thread Cert.ReferenceWkvIdeal.nD Cert.ReferenceWkvIdeal.τ).loc Cert.ReferenceWkvIdeal.main_arg1)) (m ((c.tc : Thread Cert.ReferenceWkvIdeal.nD Cert.ReferenceWkvIdeal.τ).loc Cert.ReferenceWkvIdeal.main_arg2)) (m ((c.tc : Thread Cert.ReferenceWkvIdeal.nD Cert.ReferenceWkvIdeal.τ).loc Cert.ReferenceWkvIdeal.main_arg3)) (m ((c.tc : Thread Cert.ReferenceWkvIdeal.nD Cert.ReferenceWkvIdeal.τ).loc Cert.ReferenceWkvIdeal.main_arg4)) (m ((c.tc : Thread Cert.ReferenceWkvIdeal.nD Cert.ReferenceWkvIdeal.τ).loc Cert.ReferenceWkvIdeal.main_arg5)) (m ((c.tc : Thread Cert.ReferenceWkvIdeal.nD Cert.ReferenceWkvIdeal.τ).loc Cert.ReferenceWkvIdeal.main_arg6)) (m ((c.tc : Thread Cert.ReferenceWkvIdeal.nD Cert.ReferenceWkvIdeal.τ).loc Cert.ReferenceWkvIdeal.main_arg7)) (m ((c.tc : Thread Cert.ReferenceWkvIdeal.nD Cert.ReferenceWkvIdeal.τ).loc Cert.ReferenceWkvIdeal.main_arg8)) (m ((c.tc : Thread Cert.ReferenceWkvIdeal.nD Cert.ReferenceWkvIdeal.τ).loc Cert.ReferenceWkvIdeal.main_arg9))).2.2.2.2.2.1 = (fun _ => 1#1)
    ∧ (Cert.Pre_inputs_finite.fn (F := Ideal) (m ((c.tc : Thread Cert.ReferenceWkvIdeal.nD Cert.ReferenceWkvIdeal.τ).loc Cert.ReferenceWkvIdeal.main_arg0)) (m ((c.tc : Thread Cert.ReferenceWkvIdeal.nD Cert.ReferenceWkvIdeal.τ).loc Cert.ReferenceWkvIdeal.main_arg1)) (m ((c.tc : Thread Cert.ReferenceWkvIdeal.nD Cert.ReferenceWkvIdeal.τ).loc Cert.ReferenceWkvIdeal.main_arg2)) (m ((c.tc : Thread Cert.ReferenceWkvIdeal.nD Cert.ReferenceWkvIdeal.τ).loc Cert.ReferenceWkvIdeal.main_arg3)) (m ((c.tc : Thread Cert.ReferenceWkvIdeal.nD Cert.ReferenceWkvIdeal.τ).loc Cert.ReferenceWkvIdeal.main_arg4)) (m ((c.tc : Thread Cert.ReferenceWkvIdeal.nD Cert.ReferenceWkvIdeal.τ).loc Cert.ReferenceWkvIdeal.main_arg5)) (m ((c.tc : Thread Cert.ReferenceWkvIdeal.nD Cert.ReferenceWkvIdeal.τ).loc Cert.ReferenceWkvIdeal.main_arg6)) (m ((c.tc : Thread Cert.ReferenceWkvIdeal.nD Cert.ReferenceWkvIdeal.τ).loc Cert.ReferenceWkvIdeal.main_arg7)) (m ((c.tc : Thread Cert.ReferenceWkvIdeal.nD Cert.ReferenceWkvIdeal.τ).loc Cert.ReferenceWkvIdeal.main_arg8)) (m ((c.tc : Thread Cert.ReferenceWkvIdeal.nD Cert.ReferenceWkvIdeal.τ).loc Cert.ReferenceWkvIdeal.main_arg9))).2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_scores_finite [hKernelIdeal : Cert.KernelIdeal.Facts] [hPre_scores_finite : Cert.Pre_scores_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_scores_finite [hReferenceIdeal : Cert.ReferenceIdeal.Facts] [hPre_scores_finite : Cert.Pre_scores_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_KernelCached [hKernelCached : Cert.KernelCached.Facts] : Prop :=
  ∀ (m : (ℓ : Loc Cert.KernelCached.nD Cert.KernelCached.τ Cert.KernelCached.sig) → Buf (Elt Bits) ℓ) (g : Dev Cert.KernelCached.nD → PrngReg), Pre_KernelCached m →
    θ_run (Cert.KernelCached.defs (F := Bits)) (onTc (τ := Cert.KernelCached.τ) (Cert.KernelCached.main (F := Bits))) ⟨m, fun _ => 0, g⟩ (fun r => (∀ c : Dev Cert.KernelCached.nD,
      r.2.mem ((c.tc : Thread Cert.KernelCached.nD Cert.KernelCached.τ).loc Cert.KernelCached.main_arg0) = m ((c.tc : Thread Cert.KernelCached.nD Cert.KernelCached.τ).loc Cert.KernelCached.main_arg0)
      ∧ r.2.mem ((c.tc : Thread Cert.KernelCached.nD Cert.KernelCached.τ).loc Cert.KernelCached.main_arg1) = m ((c.tc : Thread Cert.KernelCached.nD Cert.KernelCached.τ).loc Cert.KernelCached.main_arg1)
      ∧ r.2.mem ((c.tc : Thread Cert.KernelCached.nD Cert.KernelCached.τ).loc Cert.KernelCached.main_arg2) = m ((c.tc : Thread Cert.KernelCached.nD Cert.KernelCached.τ).loc Cert.KernelCached.main_arg2)
      ∧ r.2.mem ((c.tc : Thread Cert.KernelCached.nD Cert.KernelCached.τ).loc Cert.KernelCached.main_arg3) = m ((c.tc : Thread Cert.KernelCached.nD Cert.KernelCached.τ).loc Cert.KernelCached.main_arg3))
      ∧ r.2.sem = fun _ => 0)

def quiescent_KernelCachedIdeal [hKernelCachedIdeal : Cert.KernelCachedIdeal.Facts] : Prop :=
  ∀ (m : (ℓ : Loc Cert.KernelCachedIdeal.nD Cert.KernelCachedIdeal.τ Cert.KernelCachedIdeal.sig) → Buf (Elt Ideal) ℓ) (g : Dev Cert.KernelCachedIdeal.nD → PrngReg), Pre_KernelCachedIdeal m →
    θ_run (Cert.KernelCachedIdeal.defs (F := Ideal)) (onTc (τ := Cert.KernelCachedIdeal.τ) (Cert.KernelCachedIdeal.main (F := Ideal))) ⟨m, fun _ => 0, g⟩ (fun r => (∀ c : Dev Cert.KernelCachedIdeal.nD,
      r.2.mem ((c.tc : Thread Cert.KernelCachedIdeal.nD Cert.KernelCachedIdeal.τ).loc Cert.KernelCachedIdeal.main_arg0) = m ((c.tc : Thread Cert.KernelCachedIdeal.nD Cert.KernelCachedIdeal.τ).loc Cert.KernelCachedIdeal.main_arg0)
      ∧ r.2.mem ((c.tc : Thread Cert.KernelCachedIdeal.nD Cert.KernelCachedIdeal.τ).loc Cert.KernelCachedIdeal.main_arg1) = m ((c.tc : Thread Cert.KernelCachedIdeal.nD Cert.KernelCachedIdeal.τ).loc Cert.KernelCachedIdeal.main_arg1)
      ∧ r.2.mem ((c.tc : Thread Cert.KernelCachedIdeal.nD Cert.KernelCachedIdeal.τ).loc Cert.KernelCachedIdeal.main_arg2) = m ((c.tc : Thread Cert.KernelCachedIdeal.nD Cert.KernelCachedIdeal.τ).loc Cert.KernelCachedIdeal.main_arg2)
      ∧ r.2.mem ((c.tc : Thread Cert.KernelCachedIdeal.nD Cert.KernelCachedIdeal.τ).loc Cert.KernelCachedIdeal.main_arg3) = m ((c.tc : Thread Cert.KernelCachedIdeal.nD Cert.KernelCachedIdeal.τ).loc Cert.KernelCachedIdeal.main_arg3))
      ∧ r.2.sem = fun _ => 0)

def quiescent_ReferenceCachedIdeal [hReferenceCachedIdeal : Cert.ReferenceCachedIdeal.Facts] : Prop :=
  ∀ (m : (ℓ : Loc Cert.ReferenceCachedIdeal.nD Cert.ReferenceCachedIdeal.τ Cert.ReferenceCachedIdeal.sig) → Buf (Elt Ideal) ℓ) (g : Dev Cert.ReferenceCachedIdeal.nD → PrngReg), Pre_ReferenceCachedIdeal m →
    θ_run (Cert.ReferenceCachedIdeal.defs (F := Ideal)) (onTc (τ := Cert.ReferenceCachedIdeal.τ) (Cert.ReferenceCachedIdeal.main (F := Ideal))) ⟨m, fun _ => 0, g⟩ (fun r => (∀ c : Dev Cert.ReferenceCachedIdeal.nD,
      r.2.mem ((c.tc : Thread Cert.ReferenceCachedIdeal.nD Cert.ReferenceCachedIdeal.τ).loc Cert.ReferenceCachedIdeal.main_arg0) = m ((c.tc : Thread Cert.ReferenceCachedIdeal.nD Cert.ReferenceCachedIdeal.τ).loc Cert.ReferenceCachedIdeal.main_arg0)
      ∧ r.2.mem ((c.tc : Thread Cert.ReferenceCachedIdeal.nD Cert.ReferenceCachedIdeal.τ).loc Cert.ReferenceCachedIdeal.main_arg1) = m ((c.tc : Thread Cert.ReferenceCachedIdeal.nD Cert.ReferenceCachedIdeal.τ).loc Cert.ReferenceCachedIdeal.main_arg1)
      ∧ r.2.mem ((c.tc : Thread Cert.ReferenceCachedIdeal.nD Cert.ReferenceCachedIdeal.τ).loc Cert.ReferenceCachedIdeal.main_arg2) = m ((c.tc : Thread Cert.ReferenceCachedIdeal.nD Cert.ReferenceCachedIdeal.τ).loc Cert.ReferenceCachedIdeal.main_arg2)
      ∧ r.2.mem ((c.tc : Thread Cert.ReferenceCachedIdeal.nD Cert.ReferenceCachedIdeal.τ).loc Cert.ReferenceCachedIdeal.main_arg3) = m ((c.tc : Thread Cert.ReferenceCachedIdeal.nD Cert.ReferenceCachedIdeal.τ).loc Cert.ReferenceCachedIdeal.main_arg3))
      ∧ r.2.sem = fun _ => 0)

def quiescent_KernelFfn [hKernelFfn : Cert.KernelFfn.Facts] : Prop :=
  ∀ (m : (ℓ : Loc Cert.KernelFfn.nD Cert.KernelFfn.τ Cert.KernelFfn.sig) → Buf (Elt Bits) ℓ) (g : Dev Cert.KernelFfn.nD → PrngReg), Pre_KernelFfn m →
    θ_run (Cert.KernelFfn.defs (F := Bits)) (onTc (τ := Cert.KernelFfn.τ) (Cert.KernelFfn.main (F := Bits))) ⟨m, fun _ => 0, g⟩ (fun r => (∀ c : Dev Cert.KernelFfn.nD,
      r.2.mem ((c.tc : Thread Cert.KernelFfn.nD Cert.KernelFfn.τ).loc Cert.KernelFfn.main_arg0) = m ((c.tc : Thread Cert.KernelFfn.nD Cert.KernelFfn.τ).loc Cert.KernelFfn.main_arg0)
      ∧ r.2.mem ((c.tc : Thread Cert.KernelFfn.nD Cert.KernelFfn.τ).loc Cert.KernelFfn.main_arg1) = m ((c.tc : Thread Cert.KernelFfn.nD Cert.KernelFfn.τ).loc Cert.KernelFfn.main_arg1)
      ∧ r.2.mem ((c.tc : Thread Cert.KernelFfn.nD Cert.KernelFfn.τ).loc Cert.KernelFfn.main_arg2) = m ((c.tc : Thread Cert.KernelFfn.nD Cert.KernelFfn.τ).loc Cert.KernelFfn.main_arg2)
      ∧ r.2.mem ((c.tc : Thread Cert.KernelFfn.nD Cert.KernelFfn.τ).loc Cert.KernelFfn.main_arg3) = m ((c.tc : Thread Cert.KernelFfn.nD Cert.KernelFfn.τ).loc Cert.KernelFfn.main_arg3))
      ∧ r.2.sem = fun _ => 0)

def quiescent_KernelFfnIdeal [hKernelFfnIdeal : Cert.KernelFfnIdeal.Facts] : Prop :=
  ∀ (m : (ℓ : Loc Cert.KernelFfnIdeal.nD Cert.KernelFfnIdeal.τ Cert.KernelFfnIdeal.sig) → Buf (Elt Ideal) ℓ) (g : Dev Cert.KernelFfnIdeal.nD → PrngReg), Pre_KernelFfnIdeal m →
    θ_run (Cert.KernelFfnIdeal.defs (F := Ideal)) (onTc (τ := Cert.KernelFfnIdeal.τ) (Cert.KernelFfnIdeal.main (F := Ideal))) ⟨m, fun _ => 0, g⟩ (fun r => (∀ c : Dev Cert.KernelFfnIdeal.nD,
      r.2.mem ((c.tc : Thread Cert.KernelFfnIdeal.nD Cert.KernelFfnIdeal.τ).loc Cert.KernelFfnIdeal.main_arg0) = m ((c.tc : Thread Cert.KernelFfnIdeal.nD Cert.KernelFfnIdeal.τ).loc Cert.KernelFfnIdeal.main_arg0)
      ∧ r.2.mem ((c.tc : Thread Cert.KernelFfnIdeal.nD Cert.KernelFfnIdeal.τ).loc Cert.KernelFfnIdeal.main_arg1) = m ((c.tc : Thread Cert.KernelFfnIdeal.nD Cert.KernelFfnIdeal.τ).loc Cert.KernelFfnIdeal.main_arg1)
      ∧ r.2.mem ((c.tc : Thread Cert.KernelFfnIdeal.nD Cert.KernelFfnIdeal.τ).loc Cert.KernelFfnIdeal.main_arg2) = m ((c.tc : Thread Cert.KernelFfnIdeal.nD Cert.KernelFfnIdeal.τ).loc Cert.KernelFfnIdeal.main_arg2)
      ∧ r.2.mem ((c.tc : Thread Cert.KernelFfnIdeal.nD Cert.KernelFfnIdeal.τ).loc Cert.KernelFfnIdeal.main_arg3) = m ((c.tc : Thread Cert.KernelFfnIdeal.nD Cert.KernelFfnIdeal.τ).loc Cert.KernelFfnIdeal.main_arg3))
      ∧ r.2.sem = fun _ => 0)

def quiescent_ReferenceFfnIdeal [hReferenceFfnIdeal : Cert.ReferenceFfnIdeal.Facts] : Prop :=
  ∀ (m : (ℓ : Loc Cert.ReferenceFfnIdeal.nD Cert.ReferenceFfnIdeal.τ Cert.ReferenceFfnIdeal.sig) → Buf (Elt Ideal) ℓ) (g : Dev Cert.ReferenceFfnIdeal.nD → PrngReg), Pre_ReferenceFfnIdeal m →
    θ_run (Cert.ReferenceFfnIdeal.defs (F := Ideal)) (onTc (τ := Cert.ReferenceFfnIdeal.τ) (Cert.ReferenceFfnIdeal.main (F := Ideal))) ⟨m, fun _ => 0, g⟩ (fun r => (∀ c : Dev Cert.ReferenceFfnIdeal.nD,
      r.2.mem ((c.tc : Thread Cert.ReferenceFfnIdeal.nD Cert.ReferenceFfnIdeal.τ).loc Cert.ReferenceFfnIdeal.main_arg0) = m ((c.tc : Thread Cert.ReferenceFfnIdeal.nD Cert.ReferenceFfnIdeal.τ).loc Cert.ReferenceFfnIdeal.main_arg0)
      ∧ r.2.mem ((c.tc : Thread Cert.ReferenceFfnIdeal.nD Cert.ReferenceFfnIdeal.τ).loc Cert.ReferenceFfnIdeal.main_arg1) = m ((c.tc : Thread Cert.ReferenceFfnIdeal.nD Cert.ReferenceFfnIdeal.τ).loc Cert.ReferenceFfnIdeal.main_arg1)
      ∧ r.2.mem ((c.tc : Thread Cert.ReferenceFfnIdeal.nD Cert.ReferenceFfnIdeal.τ).loc Cert.ReferenceFfnIdeal.main_arg2) = m ((c.tc : Thread Cert.ReferenceFfnIdeal.nD Cert.ReferenceFfnIdeal.τ).loc Cert.ReferenceFfnIdeal.main_arg2)
      ∧ r.2.mem ((c.tc : Thread Cert.ReferenceFfnIdeal.nD Cert.ReferenceFfnIdeal.τ).loc Cert.ReferenceFfnIdeal.main_arg3) = m ((c.tc : Thread Cert.ReferenceFfnIdeal.nD Cert.ReferenceFfnIdeal.τ).loc Cert.ReferenceFfnIdeal.main_arg3))
      ∧ r.2.sem = fun _ => 0)

def quiescent_KernelNormMm [hKernelNormMm : Cert.KernelNormMm.Facts] : Prop :=
  ∀ (m : (ℓ : Loc Cert.KernelNormMm.nD Cert.KernelNormMm.τ Cert.KernelNormMm.sig) → Buf (Elt Bits) ℓ) (g : Dev Cert.KernelNormMm.nD → PrngReg), Pre_KernelNormMm m →
    θ_run (Cert.KernelNormMm.defs (F := Bits)) (onTc (τ := Cert.KernelNormMm.τ) (Cert.KernelNormMm.main (F := Bits))) ⟨m, fun _ => 0, g⟩ (fun r => (∀ c : Dev Cert.KernelNormMm.nD,
      r.2.mem ((c.tc : Thread Cert.KernelNormMm.nD Cert.KernelNormMm.τ).loc Cert.KernelNormMm.main_arg0) = m ((c.tc : Thread Cert.KernelNormMm.nD Cert.KernelNormMm.τ).loc Cert.KernelNormMm.main_arg0)
      ∧ r.2.mem ((c.tc : Thread Cert.KernelNormMm.nD Cert.KernelNormMm.τ).loc Cert.KernelNormMm.main_arg1) = m ((c.tc : Thread Cert.KernelNormMm.nD Cert.KernelNormMm.τ).loc Cert.KernelNormMm.main_arg1)
      ∧ r.2.mem ((c.tc : Thread Cert.KernelNormMm.nD Cert.KernelNormMm.τ).loc Cert.KernelNormMm.main_arg2) = m ((c.tc : Thread Cert.KernelNormMm.nD Cert.KernelNormMm.τ).loc Cert.KernelNormMm.main_arg2))
      ∧ r.2.sem = fun _ => 0)

def quiescent_KernelNormMmIdeal [hKernelNormMmIdeal : Cert.KernelNormMmIdeal.Facts] : Prop :=
  ∀ (m : (ℓ : Loc Cert.KernelNormMmIdeal.nD Cert.KernelNormMmIdeal.τ Cert.KernelNormMmIdeal.sig) → Buf (Elt Ideal) ℓ) (g : Dev Cert.KernelNormMmIdeal.nD → PrngReg), Pre_KernelNormMmIdeal m →
    θ_run (Cert.KernelNormMmIdeal.defs (F := Ideal)) (onTc (τ := Cert.KernelNormMmIdeal.τ) (Cert.KernelNormMmIdeal.main (F := Ideal))) ⟨m, fun _ => 0, g⟩ (fun r => (∀ c : Dev Cert.KernelNormMmIdeal.nD,
      r.2.mem ((c.tc : Thread Cert.KernelNormMmIdeal.nD Cert.KernelNormMmIdeal.τ).loc Cert.KernelNormMmIdeal.main_arg0) = m ((c.tc : Thread Cert.KernelNormMmIdeal.nD Cert.KernelNormMmIdeal.τ).loc Cert.KernelNormMmIdeal.main_arg0)
      ∧ r.2.mem ((c.tc : Thread Cert.KernelNormMmIdeal.nD Cert.KernelNormMmIdeal.τ).loc Cert.KernelNormMmIdeal.main_arg1) = m ((c.tc : Thread Cert.KernelNormMmIdeal.nD Cert.KernelNormMmIdeal.τ).loc Cert.KernelNormMmIdeal.main_arg1)
      ∧ r.2.mem ((c.tc : Thread Cert.KernelNormMmIdeal.nD Cert.KernelNormMmIdeal.τ).loc Cert.KernelNormMmIdeal.main_arg2) = m ((c.tc : Thread Cert.KernelNormMmIdeal.nD Cert.KernelNormMmIdeal.τ).loc Cert.KernelNormMmIdeal.main_arg2))
      ∧ r.2.sem = fun _ => 0)

def quiescent_ReferenceNormMmIdeal [hReferenceNormMmIdeal : Cert.ReferenceNormMmIdeal.Facts] : Prop :=
  ∀ (m : (ℓ : Loc Cert.ReferenceNormMmIdeal.nD Cert.ReferenceNormMmIdeal.τ Cert.ReferenceNormMmIdeal.sig) → Buf (Elt Ideal) ℓ) (g : Dev Cert.ReferenceNormMmIdeal.nD → PrngReg), Pre_ReferenceNormMmIdeal m →
    θ_run (Cert.ReferenceNormMmIdeal.defs (F := Ideal)) (onTc (τ := Cert.ReferenceNormMmIdeal.τ) (Cert.ReferenceNormMmIdeal.main (F := Ideal))) ⟨m, fun _ => 0, g⟩ (fun r => (∀ c : Dev Cert.ReferenceNormMmIdeal.nD,
      r.2.mem ((c.tc : Thread Cert.ReferenceNormMmIdeal.nD Cert.ReferenceNormMmIdeal.τ).loc Cert.ReferenceNormMmIdeal.main_arg0) = m ((c.tc : Thread Cert.ReferenceNormMmIdeal.nD Cert.ReferenceNormMmIdeal.τ).loc Cert.ReferenceNormMmIdeal.main_arg0)
      ∧ r.2.mem ((c.tc : Thread Cert.ReferenceNormMmIdeal.nD Cert.ReferenceNormMmIdeal.τ).loc Cert.ReferenceNormMmIdeal.main_arg1) = m ((c.tc : Thread Cert.ReferenceNormMmIdeal.nD Cert.ReferenceNormMmIdeal.τ).loc Cert.ReferenceNormMmIdeal.main_arg1)
      ∧ r.2.mem ((c.tc : Thread Cert.ReferenceNormMmIdeal.nD Cert.ReferenceNormMmIdeal.τ).loc Cert.ReferenceNormMmIdeal.main_arg2) = m ((c.tc : Thread Cert.ReferenceNormMmIdeal.nD Cert.ReferenceNormMmIdeal.τ).loc Cert.ReferenceNormMmIdeal.main_arg2))
      ∧ r.2.sem = fun _ => 0)

def quiescent_KernelProj [hKernelProj : Cert.KernelProj.Facts] : Prop :=
  ∀ (m : (ℓ : Loc Cert.KernelProj.nD Cert.KernelProj.τ Cert.KernelProj.sig) → Buf (Elt Bits) ℓ) (g : Dev Cert.KernelProj.nD → PrngReg), Pre_KernelProj m →
    θ_run (Cert.KernelProj.defs (F := Bits)) (onTc (τ := Cert.KernelProj.τ) (Cert.KernelProj.main (F := Bits))) ⟨m, fun _ => 0, g⟩ (fun r => (∀ c : Dev Cert.KernelProj.nD,
      r.2.mem ((c.tc : Thread Cert.KernelProj.nD Cert.KernelProj.τ).loc Cert.KernelProj.main_arg0) = m ((c.tc : Thread Cert.KernelProj.nD Cert.KernelProj.τ).loc Cert.KernelProj.main_arg0)
      ∧ r.2.mem ((c.tc : Thread Cert.KernelProj.nD Cert.KernelProj.τ).loc Cert.KernelProj.main_arg1) = m ((c.tc : Thread Cert.KernelProj.nD Cert.KernelProj.τ).loc Cert.KernelProj.main_arg1)
      ∧ r.2.mem ((c.tc : Thread Cert.KernelProj.nD Cert.KernelProj.τ).loc Cert.KernelProj.main_arg2) = m ((c.tc : Thread Cert.KernelProj.nD Cert.KernelProj.τ).loc Cert.KernelProj.main_arg2))
      ∧ r.2.sem = fun _ => 0)

def quiescent_KernelProjIdeal [hKernelProjIdeal : Cert.KernelProjIdeal.Facts] : Prop :=
  ∀ (m : (ℓ : Loc Cert.KernelProjIdeal.nD Cert.KernelProjIdeal.τ Cert.KernelProjIdeal.sig) → Buf (Elt Ideal) ℓ) (g : Dev Cert.KernelProjIdeal.nD → PrngReg), Pre_KernelProjIdeal m →
    θ_run (Cert.KernelProjIdeal.defs (F := Ideal)) (onTc (τ := Cert.KernelProjIdeal.τ) (Cert.KernelProjIdeal.main (F := Ideal))) ⟨m, fun _ => 0, g⟩ (fun r => (∀ c : Dev Cert.KernelProjIdeal.nD,
      r.2.mem ((c.tc : Thread Cert.KernelProjIdeal.nD Cert.KernelProjIdeal.τ).loc Cert.KernelProjIdeal.main_arg0) = m ((c.tc : Thread Cert.KernelProjIdeal.nD Cert.KernelProjIdeal.τ).loc Cert.KernelProjIdeal.main_arg0)
      ∧ r.2.mem ((c.tc : Thread Cert.KernelProjIdeal.nD Cert.KernelProjIdeal.τ).loc Cert.KernelProjIdeal.main_arg1) = m ((c.tc : Thread Cert.KernelProjIdeal.nD Cert.KernelProjIdeal.τ).loc Cert.KernelProjIdeal.main_arg1)
      ∧ r.2.mem ((c.tc : Thread Cert.KernelProjIdeal.nD Cert.KernelProjIdeal.τ).loc Cert.KernelProjIdeal.main_arg2) = m ((c.tc : Thread Cert.KernelProjIdeal.nD Cert.KernelProjIdeal.τ).loc Cert.KernelProjIdeal.main_arg2))
      ∧ r.2.sem = fun _ => 0)

def quiescent_ReferenceProjIdeal [hReferenceProjIdeal : Cert.ReferenceProjIdeal.Facts] : Prop :=
  ∀ (m : (ℓ : Loc Cert.ReferenceProjIdeal.nD Cert.ReferenceProjIdeal.τ Cert.ReferenceProjIdeal.sig) → Buf (Elt Ideal) ℓ) (g : Dev Cert.ReferenceProjIdeal.nD → PrngReg), Pre_ReferenceProjIdeal m →
    θ_run (Cert.ReferenceProjIdeal.defs (F := Ideal)) (onTc (τ := Cert.ReferenceProjIdeal.τ) (Cert.ReferenceProjIdeal.main (F := Ideal))) ⟨m, fun _ => 0, g⟩ (fun r => (∀ c : Dev Cert.ReferenceProjIdeal.nD,
      r.2.mem ((c.tc : Thread Cert.ReferenceProjIdeal.nD Cert.ReferenceProjIdeal.τ).loc Cert.ReferenceProjIdeal.main_arg0) = m ((c.tc : Thread Cert.ReferenceProjIdeal.nD Cert.ReferenceProjIdeal.τ).loc Cert.ReferenceProjIdeal.main_arg0)
      ∧ r.2.mem ((c.tc : Thread Cert.ReferenceProjIdeal.nD Cert.ReferenceProjIdeal.τ).loc Cert.ReferenceProjIdeal.main_arg1) = m ((c.tc : Thread Cert.ReferenceProjIdeal.nD Cert.ReferenceProjIdeal.τ).loc Cert.ReferenceProjIdeal.main_arg1)
      ∧ r.2.mem ((c.tc : Thread Cert.ReferenceProjIdeal.nD Cert.ReferenceProjIdeal.τ).loc Cert.ReferenceProjIdeal.main_arg2) = m ((c.tc : Thread Cert.ReferenceProjIdeal.nD Cert.ReferenceProjIdeal.τ).loc Cert.ReferenceProjIdeal.main_arg2))
      ∧ r.2.sem = fun _ => 0)

def quiescent_KernelGated [hKernelGated : Cert.KernelGated.Facts] : Prop :=
  ∀ (m : (ℓ : Loc Cert.KernelGated.nD Cert.KernelGated.τ Cert.KernelGated.sig) → Buf (Elt Bits) ℓ) (g : Dev Cert.KernelGated.nD → PrngReg), Pre_KernelGated m →
    θ_run (Cert.KernelGated.defs (F := Bits)) (onTc (τ := Cert.KernelGated.τ) (Cert.KernelGated.main (F := Bits))) ⟨m, fun _ => 0, g⟩ (fun r => (∀ c : Dev Cert.KernelGated.nD,
      r.2.mem ((c.tc : Thread Cert.KernelGated.nD Cert.KernelGated.τ).loc Cert.KernelGated.main_arg0) = m ((c.tc : Thread Cert.KernelGated.nD Cert.KernelGated.τ).loc Cert.KernelGated.main_arg0)
      ∧ r.2.mem ((c.tc : Thread Cert.KernelGated.nD Cert.KernelGated.τ).loc Cert.KernelGated.main_arg1) = m ((c.tc : Thread Cert.KernelGated.nD Cert.KernelGated.τ).loc Cert.KernelGated.main_arg1)
      ∧ r.2.mem ((c.tc : Thread Cert.KernelGated.nD Cert.KernelGated.τ).loc Cert.KernelGated.main_arg2) = m ((c.tc : Thread Cert.KernelGated.nD Cert.KernelGated.τ).loc Cert.KernelGated.main_arg2)
      ∧ r.2.mem ((c.tc : Thread Cert.KernelGated.nD Cert.KernelGated.τ).loc Cert.KernelGated.main_arg3) = m ((c.tc : Thread Cert.KernelGated.nD Cert.KernelGated.τ).loc Cert.KernelGated.main_arg3)
      ∧ r.2.mem ((c.tc : Thread Cert.KernelGated.nD Cert.KernelGated.τ).loc Cert.KernelGated.main_arg4) = m ((c.tc : Thread Cert.KernelGated.nD Cert.KernelGated.τ).loc Cert.KernelGated.main_arg4))
      ∧ r.2.sem = fun _ => 0)

def quiescent_KernelGatedIdeal [hKernelGatedIdeal : Cert.KernelGatedIdeal.Facts] : Prop :=
  ∀ (m : (ℓ : Loc Cert.KernelGatedIdeal.nD Cert.KernelGatedIdeal.τ Cert.KernelGatedIdeal.sig) → Buf (Elt Ideal) ℓ) (g : Dev Cert.KernelGatedIdeal.nD → PrngReg), Pre_KernelGatedIdeal m →
    θ_run (Cert.KernelGatedIdeal.defs (F := Ideal)) (onTc (τ := Cert.KernelGatedIdeal.τ) (Cert.KernelGatedIdeal.main (F := Ideal))) ⟨m, fun _ => 0, g⟩ (fun r => (∀ c : Dev Cert.KernelGatedIdeal.nD,
      r.2.mem ((c.tc : Thread Cert.KernelGatedIdeal.nD Cert.KernelGatedIdeal.τ).loc Cert.KernelGatedIdeal.main_arg0) = m ((c.tc : Thread Cert.KernelGatedIdeal.nD Cert.KernelGatedIdeal.τ).loc Cert.KernelGatedIdeal.main_arg0)
      ∧ r.2.mem ((c.tc : Thread Cert.KernelGatedIdeal.nD Cert.KernelGatedIdeal.τ).loc Cert.KernelGatedIdeal.main_arg1) = m ((c.tc : Thread Cert.KernelGatedIdeal.nD Cert.KernelGatedIdeal.τ).loc Cert.KernelGatedIdeal.main_arg1)
      ∧ r.2.mem ((c.tc : Thread Cert.KernelGatedIdeal.nD Cert.KernelGatedIdeal.τ).loc Cert.KernelGatedIdeal.main_arg2) = m ((c.tc : Thread Cert.KernelGatedIdeal.nD Cert.KernelGatedIdeal.τ).loc Cert.KernelGatedIdeal.main_arg2)
      ∧ r.2.mem ((c.tc : Thread Cert.KernelGatedIdeal.nD Cert.KernelGatedIdeal.τ).loc Cert.KernelGatedIdeal.main_arg3) = m ((c.tc : Thread Cert.KernelGatedIdeal.nD Cert.KernelGatedIdeal.τ).loc Cert.KernelGatedIdeal.main_arg3)
      ∧ r.2.mem ((c.tc : Thread Cert.KernelGatedIdeal.nD Cert.KernelGatedIdeal.τ).loc Cert.KernelGatedIdeal.main_arg4) = m ((c.tc : Thread Cert.KernelGatedIdeal.nD Cert.KernelGatedIdeal.τ).loc Cert.KernelGatedIdeal.main_arg4))
      ∧ r.2.sem = fun _ => 0)

def quiescent_ReferenceGatedIdeal [hReferenceGatedIdeal : Cert.ReferenceGatedIdeal.Facts] : Prop :=
  ∀ (m : (ℓ : Loc Cert.ReferenceGatedIdeal.nD Cert.ReferenceGatedIdeal.τ Cert.ReferenceGatedIdeal.sig) → Buf (Elt Ideal) ℓ) (g : Dev Cert.ReferenceGatedIdeal.nD → PrngReg), Pre_ReferenceGatedIdeal m →
    θ_run (Cert.ReferenceGatedIdeal.defs (F := Ideal)) (onTc (τ := Cert.ReferenceGatedIdeal.τ) (Cert.ReferenceGatedIdeal.main (F := Ideal))) ⟨m, fun _ => 0, g⟩ (fun r => (∀ c : Dev Cert.ReferenceGatedIdeal.nD,
      r.2.mem ((c.tc : Thread Cert.ReferenceGatedIdeal.nD Cert.ReferenceGatedIdeal.τ).loc Cert.ReferenceGatedIdeal.main_arg0) = m ((c.tc : Thread Cert.ReferenceGatedIdeal.nD Cert.ReferenceGatedIdeal.τ).loc Cert.ReferenceGatedIdeal.main_arg0)
      ∧ r.2.mem ((c.tc : Thread Cert.ReferenceGatedIdeal.nD Cert.ReferenceGatedIdeal.τ).loc Cert.ReferenceGatedIdeal.main_arg1) = m ((c.tc : Thread Cert.ReferenceGatedIdeal.nD Cert.ReferenceGatedIdeal.τ).loc Cert.ReferenceGatedIdeal.main_arg1)
      ∧ r.2.mem ((c.tc : Thread Cert.ReferenceGatedIdeal.nD Cert.ReferenceGatedIdeal.τ).loc Cert.ReferenceGatedIdeal.main_arg2) = m ((c.tc : Thread Cert.ReferenceGatedIdeal.nD Cert.ReferenceGatedIdeal.τ).loc Cert.ReferenceGatedIdeal.main_arg2)
      ∧ r.2.mem ((c.tc : Thread Cert.ReferenceGatedIdeal.nD Cert.ReferenceGatedIdeal.τ).loc Cert.ReferenceGatedIdeal.main_arg3) = m ((c.tc : Thread Cert.ReferenceGatedIdeal.nD Cert.ReferenceGatedIdeal.τ).loc Cert.ReferenceGatedIdeal.main_arg3)
      ∧ r.2.mem ((c.tc : Thread Cert.ReferenceGatedIdeal.nD Cert.ReferenceGatedIdeal.τ).loc Cert.ReferenceGatedIdeal.main_arg4) = m ((c.tc : Thread Cert.ReferenceGatedIdeal.nD Cert.ReferenceGatedIdeal.τ).loc Cert.ReferenceGatedIdeal.main_arg4))
      ∧ r.2.sem = fun _ => 0)

def quiescent_KernelNorm [hKernelNorm : Cert.KernelNorm.Facts] : Prop :=
  ∀ (m : (ℓ : Loc Cert.KernelNorm.nD Cert.KernelNorm.τ Cert.KernelNorm.sig) → Buf (Elt Bits) ℓ) (g : Dev Cert.KernelNorm.nD → PrngReg), Pre_KernelNorm m →
    θ_run (Cert.KernelNorm.defs (F := Bits)) (onTc (τ := Cert.KernelNorm.τ) (Cert.KernelNorm.main (F := Bits))) ⟨m, fun _ => 0, g⟩ (fun r => (∀ c : Dev Cert.KernelNorm.nD,
      r.2.mem ((c.tc : Thread Cert.KernelNorm.nD Cert.KernelNorm.τ).loc Cert.KernelNorm.main_arg0) = m ((c.tc : Thread Cert.KernelNorm.nD Cert.KernelNorm.τ).loc Cert.KernelNorm.main_arg0)
      ∧ r.2.mem ((c.tc : Thread Cert.KernelNorm.nD Cert.KernelNorm.τ).loc Cert.KernelNorm.main_arg1) = m ((c.tc : Thread Cert.KernelNorm.nD Cert.KernelNorm.τ).loc Cert.KernelNorm.main_arg1))
      ∧ r.2.sem = fun _ => 0)

def quiescent_KernelNormIdeal [hKernelNormIdeal : Cert.KernelNormIdeal.Facts] : Prop :=
  ∀ (m : (ℓ : Loc Cert.KernelNormIdeal.nD Cert.KernelNormIdeal.τ Cert.KernelNormIdeal.sig) → Buf (Elt Ideal) ℓ) (g : Dev Cert.KernelNormIdeal.nD → PrngReg), Pre_KernelNormIdeal m →
    θ_run (Cert.KernelNormIdeal.defs (F := Ideal)) (onTc (τ := Cert.KernelNormIdeal.τ) (Cert.KernelNormIdeal.main (F := Ideal))) ⟨m, fun _ => 0, g⟩ (fun r => (∀ c : Dev Cert.KernelNormIdeal.nD,
      r.2.mem ((c.tc : Thread Cert.KernelNormIdeal.nD Cert.KernelNormIdeal.τ).loc Cert.KernelNormIdeal.main_arg0) = m ((c.tc : Thread Cert.KernelNormIdeal.nD Cert.KernelNormIdeal.τ).loc Cert.KernelNormIdeal.main_arg0)
      ∧ r.2.mem ((c.tc : Thread Cert.KernelNormIdeal.nD Cert.KernelNormIdeal.τ).loc Cert.KernelNormIdeal.main_arg1) = m ((c.tc : Thread Cert.KernelNormIdeal.nD Cert.KernelNormIdeal.τ).loc Cert.KernelNormIdeal.main_arg1))
      ∧ r.2.sem = fun _ => 0)

def quiescent_ReferenceNormIdeal [hReferenceNormIdeal : Cert.ReferenceNormIdeal.Facts] : Prop :=
  ∀ (m : (ℓ : Loc Cert.ReferenceNormIdeal.nD Cert.ReferenceNormIdeal.τ Cert.ReferenceNormIdeal.sig) → Buf (Elt Ideal) ℓ) (g : Dev Cert.ReferenceNormIdeal.nD → PrngReg), Pre_ReferenceNormIdeal m →
    θ_run (Cert.ReferenceNormIdeal.defs (F := Ideal)) (onTc (τ := Cert.ReferenceNormIdeal.τ) (Cert.ReferenceNormIdeal.main (F := Ideal))) ⟨m, fun _ => 0, g⟩ (fun r => (∀ c : Dev Cert.ReferenceNormIdeal.nD,
      r.2.mem ((c.tc : Thread Cert.ReferenceNormIdeal.nD Cert.ReferenceNormIdeal.τ).loc Cert.ReferenceNormIdeal.main_arg0) = m ((c.tc : Thread Cert.ReferenceNormIdeal.nD Cert.ReferenceNormIdeal.τ).loc Cert.ReferenceNormIdeal.main_arg0)
      ∧ r.2.mem ((c.tc : Thread Cert.ReferenceNormIdeal.nD Cert.ReferenceNormIdeal.τ).loc Cert.ReferenceNormIdeal.main_arg1) = m ((c.tc : Thread Cert.ReferenceNormIdeal.nD Cert.ReferenceNormIdeal.τ).loc Cert.ReferenceNormIdeal.main_arg1))
      ∧ r.2.sem = fun _ => 0)

def quiescent_KernelRkv [hKernelRkv : Cert.KernelRkv.Facts] : Prop :=
  ∀ (m : (ℓ : Loc Cert.KernelRkv.nD Cert.KernelRkv.τ Cert.KernelRkv.sig) → Buf (Elt Bits) ℓ) (g : Dev Cert.KernelRkv.nD → PrngReg), Pre_KernelRkv m →
    θ_run (Cert.KernelRkv.defs (F := Bits)) (onTc (τ := Cert.KernelRkv.τ) (Cert.KernelRkv.main (F := Bits))) ⟨m, fun _ => 0, g⟩ (fun r => (∀ c : Dev Cert.KernelRkv.nD,
      r.2.mem ((c.tc : Thread Cert.KernelRkv.nD Cert.KernelRkv.τ).loc Cert.KernelRkv.main_arg0) = m ((c.tc : Thread Cert.KernelRkv.nD Cert.KernelRkv.τ).loc Cert.KernelRkv.main_arg0)
      ∧ r.2.mem ((c.tc : Thread Cert.KernelRkv.nD Cert.KernelRkv.τ).loc Cert.KernelRkv.main_arg1) = m ((c.tc : Thread Cert.KernelRkv.nD Cert.KernelRkv.τ).loc Cert.KernelRkv.main_arg1)
      ∧ r.2.mem ((c.tc : Thread Cert.KernelRkv.nD Cert.KernelRkv.τ).loc Cert.KernelRkv.main_arg2) = m ((c.tc : Thread Cert.KernelRkv.nD Cert.KernelRkv.τ).loc Cert.KernelRkv.main_arg2)
      ∧ r.2.mem ((c.tc : Thread Cert.KernelRkv.nD Cert.KernelRkv.τ).loc Cert.KernelRkv.main_arg3) = m ((c.tc : Thread Cert.KernelRkv.nD Cert.KernelRkv.τ).loc Cert.KernelRkv.main_arg3))
      ∧ r.2.sem = fun _ => 0)

def quiescent_KernelRkvIdeal [hKernelRkvIdeal : Cert.KernelRkvIdeal.Facts] : Prop :=
  ∀ (m : (ℓ : Loc Cert.KernelRkvIdeal.nD Cert.KernelRkvIdeal.τ Cert.KernelRkvIdeal.sig) → Buf (Elt Ideal) ℓ) (g : Dev Cert.KernelRkvIdeal.nD → PrngReg), Pre_KernelRkvIdeal m →
    θ_run (Cert.KernelRkvIdeal.defs (F := Ideal)) (onTc (τ := Cert.KernelRkvIdeal.τ) (Cert.KernelRkvIdeal.main (F := Ideal))) ⟨m, fun _ => 0, g⟩ (fun r => (∀ c : Dev Cert.KernelRkvIdeal.nD,
      r.2.mem ((c.tc : Thread Cert.KernelRkvIdeal.nD Cert.KernelRkvIdeal.τ).loc Cert.KernelRkvIdeal.main_arg0) = m ((c.tc : Thread Cert.KernelRkvIdeal.nD Cert.KernelRkvIdeal.τ).loc Cert.KernelRkvIdeal.main_arg0)
      ∧ r.2.mem ((c.tc : Thread Cert.KernelRkvIdeal.nD Cert.KernelRkvIdeal.τ).loc Cert.KernelRkvIdeal.main_arg1) = m ((c.tc : Thread Cert.KernelRkvIdeal.nD Cert.KernelRkvIdeal.τ).loc Cert.KernelRkvIdeal.main_arg1)
      ∧ r.2.mem ((c.tc : Thread Cert.KernelRkvIdeal.nD Cert.KernelRkvIdeal.τ).loc Cert.KernelRkvIdeal.main_arg2) = m ((c.tc : Thread Cert.KernelRkvIdeal.nD Cert.KernelRkvIdeal.τ).loc Cert.KernelRkvIdeal.main_arg2)
      ∧ r.2.mem ((c.tc : Thread Cert.KernelRkvIdeal.nD Cert.KernelRkvIdeal.τ).loc Cert.KernelRkvIdeal.main_arg3) = m ((c.tc : Thread Cert.KernelRkvIdeal.nD Cert.KernelRkvIdeal.τ).loc Cert.KernelRkvIdeal.main_arg3))
      ∧ r.2.sem = fun _ => 0)

def quiescent_ReferenceRkvIdeal [hReferenceRkvIdeal : Cert.ReferenceRkvIdeal.Facts] : Prop :=
  ∀ (m : (ℓ : Loc Cert.ReferenceRkvIdeal.nD Cert.ReferenceRkvIdeal.τ Cert.ReferenceRkvIdeal.sig) → Buf (Elt Ideal) ℓ) (g : Dev Cert.ReferenceRkvIdeal.nD → PrngReg), Pre_ReferenceRkvIdeal m →
    θ_run (Cert.ReferenceRkvIdeal.defs (F := Ideal)) (onTc (τ := Cert.ReferenceRkvIdeal.τ) (Cert.ReferenceRkvIdeal.main (F := Ideal))) ⟨m, fun _ => 0, g⟩ (fun r => (∀ c : Dev Cert.ReferenceRkvIdeal.nD,
      r.2.mem ((c.tc : Thread Cert.ReferenceRkvIdeal.nD Cert.ReferenceRkvIdeal.τ).loc Cert.ReferenceRkvIdeal.main_arg0) = m ((c.tc : Thread Cert.ReferenceRkvIdeal.nD Cert.ReferenceRkvIdeal.τ).loc Cert.ReferenceRkvIdeal.main_arg0)
      ∧ r.2.mem ((c.tc : Thread Cert.ReferenceRkvIdeal.nD Cert.ReferenceRkvIdeal.τ).loc Cert.ReferenceRkvIdeal.main_arg1) = m ((c.tc : Thread Cert.ReferenceRkvIdeal.nD Cert.ReferenceRkvIdeal.τ).loc Cert.ReferenceRkvIdeal.main_arg1)
      ∧ r.2.mem ((c.tc : Thread Cert.ReferenceRkvIdeal.nD Cert.ReferenceRkvIdeal.τ).loc Cert.ReferenceRkvIdeal.main_arg2) = m ((c.tc : Thread Cert.ReferenceRkvIdeal.nD Cert.ReferenceRkvIdeal.τ).loc Cert.ReferenceRkvIdeal.main_arg2)
      ∧ r.2.mem ((c.tc : Thread Cert.ReferenceRkvIdeal.nD Cert.ReferenceRkvIdeal.τ).loc Cert.ReferenceRkvIdeal.main_arg3) = m ((c.tc : Thread Cert.ReferenceRkvIdeal.nD Cert.ReferenceRkvIdeal.τ).loc Cert.ReferenceRkvIdeal.main_arg3))
      ∧ r.2.sem = fun _ => 0)

def quiescent_KernelLora [hKernelLora : Cert.KernelLora.Facts] : Prop :=
  ∀ (m : (ℓ : Loc Cert.KernelLora.nD Cert.KernelLora.τ Cert.KernelLora.sig) → Buf (Elt Bits) ℓ) (g : Dev Cert.KernelLora.nD → PrngReg), Pre_KernelLora m →
    θ_run (Cert.KernelLora.defs (F := Bits)) (onTc (τ := Cert.KernelLora.τ) (Cert.KernelLora.main (F := Bits))) ⟨m, fun _ => 0, g⟩ (fun r => (∀ c : Dev Cert.KernelLora.nD,
      r.2.mem ((c.tc : Thread Cert.KernelLora.nD Cert.KernelLora.τ).loc Cert.KernelLora.main_arg0) = m ((c.tc : Thread Cert.KernelLora.nD Cert.KernelLora.τ).loc Cert.KernelLora.main_arg0)
      ∧ r.2.mem ((c.tc : Thread Cert.KernelLora.nD Cert.KernelLora.τ).loc Cert.KernelLora.main_arg1) = m ((c.tc : Thread Cert.KernelLora.nD Cert.KernelLora.τ).loc Cert.KernelLora.main_arg1)
      ∧ r.2.mem ((c.tc : Thread Cert.KernelLora.nD Cert.KernelLora.τ).loc Cert.KernelLora.main_arg2) = m ((c.tc : Thread Cert.KernelLora.nD Cert.KernelLora.τ).loc Cert.KernelLora.main_arg2)
      ∧ r.2.mem ((c.tc : Thread Cert.KernelLora.nD Cert.KernelLora.τ).loc Cert.KernelLora.main_arg3) = m ((c.tc : Thread Cert.KernelLora.nD Cert.KernelLora.τ).loc Cert.KernelLora.main_arg3)
      ∧ r.2.mem ((c.tc : Thread Cert.KernelLora.nD Cert.KernelLora.τ).loc Cert.KernelLora.main_arg4) = m ((c.tc : Thread Cert.KernelLora.nD Cert.KernelLora.τ).loc Cert.KernelLora.main_arg4)
      ∧ r.2.mem ((c.tc : Thread Cert.KernelLora.nD Cert.KernelLora.τ).loc Cert.KernelLora.main_arg5) = m ((c.tc : Thread Cert.KernelLora.nD Cert.KernelLora.τ).loc Cert.KernelLora.main_arg5)
      ∧ r.2.mem ((c.tc : Thread Cert.KernelLora.nD Cert.KernelLora.τ).loc Cert.KernelLora.main_arg6) = m ((c.tc : Thread Cert.KernelLora.nD Cert.KernelLora.τ).loc Cert.KernelLora.main_arg6)
      ∧ r.2.mem ((c.tc : Thread Cert.KernelLora.nD Cert.KernelLora.τ).loc Cert.KernelLora.main_arg7) = m ((c.tc : Thread Cert.KernelLora.nD Cert.KernelLora.τ).loc Cert.KernelLora.main_arg7)
      ∧ r.2.mem ((c.tc : Thread Cert.KernelLora.nD Cert.KernelLora.τ).loc Cert.KernelLora.main_arg8) = m ((c.tc : Thread Cert.KernelLora.nD Cert.KernelLora.τ).loc Cert.KernelLora.main_arg8)
      ∧ r.2.mem ((c.tc : Thread Cert.KernelLora.nD Cert.KernelLora.τ).loc Cert.KernelLora.main_arg9) = m ((c.tc : Thread Cert.KernelLora.nD Cert.KernelLora.τ).loc Cert.KernelLora.main_arg9)
      ∧ r.2.mem ((c.tc : Thread Cert.KernelLora.nD Cert.KernelLora.τ).loc Cert.KernelLora.main_arg10) = m ((c.tc : Thread Cert.KernelLora.nD Cert.KernelLora.τ).loc Cert.KernelLora.main_arg10))
      ∧ r.2.sem = fun _ => 0)

def quiescent_KernelLoraIdeal [hKernelLoraIdeal : Cert.KernelLoraIdeal.Facts] : Prop :=
  ∀ (m : (ℓ : Loc Cert.KernelLoraIdeal.nD Cert.KernelLoraIdeal.τ Cert.KernelLoraIdeal.sig) → Buf (Elt Ideal) ℓ) (g : Dev Cert.KernelLoraIdeal.nD → PrngReg), Pre_KernelLoraIdeal m →
    θ_run (Cert.KernelLoraIdeal.defs (F := Ideal)) (onTc (τ := Cert.KernelLoraIdeal.τ) (Cert.KernelLoraIdeal.main (F := Ideal))) ⟨m, fun _ => 0, g⟩ (fun r => (∀ c : Dev Cert.KernelLoraIdeal.nD,
      r.2.mem ((c.tc : Thread Cert.KernelLoraIdeal.nD Cert.KernelLoraIdeal.τ).loc Cert.KernelLoraIdeal.main_arg0) = m ((c.tc : Thread Cert.KernelLoraIdeal.nD Cert.KernelLoraIdeal.τ).loc Cert.KernelLoraIdeal.main_arg0)
      ∧ r.2.mem ((c.tc : Thread Cert.KernelLoraIdeal.nD Cert.KernelLoraIdeal.τ).loc Cert.KernelLoraIdeal.main_arg1) = m ((c.tc : Thread Cert.KernelLoraIdeal.nD Cert.KernelLoraIdeal.τ).loc Cert.KernelLoraIdeal.main_arg1)
      ∧ r.2.mem ((c.tc : Thread Cert.KernelLoraIdeal.nD Cert.KernelLoraIdeal.τ).loc Cert.KernelLoraIdeal.main_arg2) = m ((c.tc : Thread Cert.KernelLoraIdeal.nD Cert.KernelLoraIdeal.τ).loc Cert.KernelLoraIdeal.main_arg2)
      ∧ r.2.mem ((c.tc : Thread Cert.KernelLoraIdeal.nD Cert.KernelLoraIdeal.τ).loc Cert.KernelLoraIdeal.main_arg3) = m ((c.tc : Thread Cert.KernelLoraIdeal.nD Cert.KernelLoraIdeal.τ).loc Cert.KernelLoraIdeal.main_arg3)
      ∧ r.2.mem ((c.tc : Thread Cert.KernelLoraIdeal.nD Cert.KernelLoraIdeal.τ).loc Cert.KernelLoraIdeal.main_arg4) = m ((c.tc : Thread Cert.KernelLoraIdeal.nD Cert.KernelLoraIdeal.τ).loc Cert.KernelLoraIdeal.main_arg4)
      ∧ r.2.mem ((c.tc : Thread Cert.KernelLoraIdeal.nD Cert.KernelLoraIdeal.τ).loc Cert.KernelLoraIdeal.main_arg5) = m ((c.tc : Thread Cert.KernelLoraIdeal.nD Cert.KernelLoraIdeal.τ).loc Cert.KernelLoraIdeal.main_arg5)
      ∧ r.2.mem ((c.tc : Thread Cert.KernelLoraIdeal.nD Cert.KernelLoraIdeal.τ).loc Cert.KernelLoraIdeal.main_arg6) = m ((c.tc : Thread Cert.KernelLoraIdeal.nD Cert.KernelLoraIdeal.τ).loc Cert.KernelLoraIdeal.main_arg6)
      ∧ r.2.mem ((c.tc : Thread Cert.KernelLoraIdeal.nD Cert.KernelLoraIdeal.τ).loc Cert.KernelLoraIdeal.main_arg7) = m ((c.tc : Thread Cert.KernelLoraIdeal.nD Cert.KernelLoraIdeal.τ).loc Cert.KernelLoraIdeal.main_arg7)
      ∧ r.2.mem ((c.tc : Thread Cert.KernelLoraIdeal.nD Cert.KernelLoraIdeal.τ).loc Cert.KernelLoraIdeal.main_arg8) = m ((c.tc : Thread Cert.KernelLoraIdeal.nD Cert.KernelLoraIdeal.τ).loc Cert.KernelLoraIdeal.main_arg8)
      ∧ r.2.mem ((c.tc : Thread Cert.KernelLoraIdeal.nD Cert.KernelLoraIdeal.τ).loc Cert.KernelLoraIdeal.main_arg9) = m ((c.tc : Thread Cert.KernelLoraIdeal.nD Cert.KernelLoraIdeal.τ).loc Cert.KernelLoraIdeal.main_arg9)
      ∧ r.2.mem ((c.tc : Thread Cert.KernelLoraIdeal.nD Cert.KernelLoraIdeal.τ).loc Cert.KernelLoraIdeal.main_arg10) = m ((c.tc : Thread Cert.KernelLoraIdeal.nD Cert.KernelLoraIdeal.τ).loc Cert.KernelLoraIdeal.main_arg10))
      ∧ r.2.sem = fun _ => 0)

def quiescent_ReferenceLoraIdeal [hReferenceLoraIdeal : Cert.ReferenceLoraIdeal.Facts] : Prop :=
  ∀ (m : (ℓ : Loc Cert.ReferenceLoraIdeal.nD Cert.ReferenceLoraIdeal.τ Cert.ReferenceLoraIdeal.sig) → Buf (Elt Ideal) ℓ) (g : Dev Cert.ReferenceLoraIdeal.nD → PrngReg), Pre_ReferenceLoraIdeal m →
    θ_run (Cert.ReferenceLoraIdeal.defs (F := Ideal)) (onTc (τ := Cert.ReferenceLoraIdeal.τ) (Cert.ReferenceLoraIdeal.main (F := Ideal))) ⟨m, fun _ => 0, g⟩ (fun r => (∀ c : Dev Cert.ReferenceLoraIdeal.nD,
      r.2.mem ((c.tc : Thread Cert.ReferenceLoraIdeal.nD Cert.ReferenceLoraIdeal.τ).loc Cert.ReferenceLoraIdeal.main_arg0) = m ((c.tc : Thread Cert.ReferenceLoraIdeal.nD Cert.ReferenceLoraIdeal.τ).loc Cert.ReferenceLoraIdeal.main_arg0)
      ∧ r.2.mem ((c.tc : Thread Cert.ReferenceLoraIdeal.nD Cert.ReferenceLoraIdeal.τ).loc Cert.ReferenceLoraIdeal.main_arg1) = m ((c.tc : Thread Cert.ReferenceLoraIdeal.nD Cert.ReferenceLoraIdeal.τ).loc Cert.ReferenceLoraIdeal.main_arg1)
      ∧ r.2.mem ((c.tc : Thread Cert.ReferenceLoraIdeal.nD Cert.ReferenceLoraIdeal.τ).loc Cert.ReferenceLoraIdeal.main_arg2) = m ((c.tc : Thread Cert.ReferenceLoraIdeal.nD Cert.ReferenceLoraIdeal.τ).loc Cert.ReferenceLoraIdeal.main_arg2)
      ∧ r.2.mem ((c.tc : Thread Cert.ReferenceLoraIdeal.nD Cert.ReferenceLoraIdeal.τ).loc Cert.ReferenceLoraIdeal.main_arg3) = m ((c.tc : Thread Cert.ReferenceLoraIdeal.nD Cert.ReferenceLoraIdeal.τ).loc Cert.ReferenceLoraIdeal.main_arg3)
      ∧ r.2.mem ((c.tc : Thread Cert.ReferenceLoraIdeal.nD Cert.ReferenceLoraIdeal.τ).loc Cert.ReferenceLoraIdeal.main_arg4) = m ((c.tc : Thread Cert.ReferenceLoraIdeal.nD Cert.ReferenceLoraIdeal.τ).loc Cert.ReferenceLoraIdeal.main_arg4)
      ∧ r.2.mem ((c.tc : Thread Cert.ReferenceLoraIdeal.nD Cert.ReferenceLoraIdeal.τ).loc Cert.ReferenceLoraIdeal.main_arg5) = m ((c.tc : Thread Cert.ReferenceLoraIdeal.nD Cert.ReferenceLoraIdeal.τ).loc Cert.ReferenceLoraIdeal.main_arg5)
      ∧ r.2.mem ((c.tc : Thread Cert.ReferenceLoraIdeal.nD Cert.ReferenceLoraIdeal.τ).loc Cert.ReferenceLoraIdeal.main_arg6) = m ((c.tc : Thread Cert.ReferenceLoraIdeal.nD Cert.ReferenceLoraIdeal.τ).loc Cert.ReferenceLoraIdeal.main_arg6)
      ∧ r.2.mem ((c.tc : Thread Cert.ReferenceLoraIdeal.nD Cert.ReferenceLoraIdeal.τ).loc Cert.ReferenceLoraIdeal.main_arg7) = m ((c.tc : Thread Cert.ReferenceLoraIdeal.nD Cert.ReferenceLoraIdeal.τ).loc Cert.ReferenceLoraIdeal.main_arg7)
      ∧ r.2.mem ((c.tc : Thread Cert.ReferenceLoraIdeal.nD Cert.ReferenceLoraIdeal.τ).loc Cert.ReferenceLoraIdeal.main_arg8) = m ((c.tc : Thread Cert.ReferenceLoraIdeal.nD Cert.ReferenceLoraIdeal.τ).loc Cert.ReferenceLoraIdeal.main_arg8)
      ∧ r.2.mem ((c.tc : Thread Cert.ReferenceLoraIdeal.nD Cert.ReferenceLoraIdeal.τ).loc Cert.ReferenceLoraIdeal.main_arg9) = m ((c.tc : Thread Cert.ReferenceLoraIdeal.nD Cert.ReferenceLoraIdeal.τ).loc Cert.ReferenceLoraIdeal.main_arg9)
      ∧ r.2.mem ((c.tc : Thread Cert.ReferenceLoraIdeal.nD Cert.ReferenceLoraIdeal.τ).loc Cert.ReferenceLoraIdeal.main_arg10) = m ((c.tc : Thread Cert.ReferenceLoraIdeal.nD Cert.ReferenceLoraIdeal.τ).loc Cert.ReferenceLoraIdeal.main_arg10))
      ∧ r.2.sem = fun _ => 0)

def quiescent_KernelHgrn [hKernelHgrn : Cert.KernelHgrn.Facts] : Prop :=
  ∀ (m : (ℓ : Loc Cert.KernelHgrn.nD Cert.KernelHgrn.τ Cert.KernelHgrn.sig) → Buf (Elt Bits) ℓ) (g : Dev Cert.KernelHgrn.nD → PrngReg), Pre_KernelHgrn m →
    θ_run (Cert.KernelHgrn.defs (F := Bits)) (onTc (τ := Cert.KernelHgrn.τ) (Cert.KernelHgrn.main (F := Bits))) ⟨m, fun _ => 0, g⟩ (fun r => (∀ c : Dev Cert.KernelHgrn.nD,
      r.2.mem ((c.tc : Thread Cert.KernelHgrn.nD Cert.KernelHgrn.τ).loc Cert.KernelHgrn.main_arg0) = m ((c.tc : Thread Cert.KernelHgrn.nD Cert.KernelHgrn.τ).loc Cert.KernelHgrn.main_arg0)
      ∧ r.2.mem ((c.tc : Thread Cert.KernelHgrn.nD Cert.KernelHgrn.τ).loc Cert.KernelHgrn.main_arg1) = m ((c.tc : Thread Cert.KernelHgrn.nD Cert.KernelHgrn.τ).loc Cert.KernelHgrn.main_arg1)
      ∧ r.2.mem ((c.tc : Thread Cert.KernelHgrn.nD Cert.KernelHgrn.τ).loc Cert.KernelHgrn.main_arg2) = m ((c.tc : Thread Cert.KernelHgrn.nD Cert.KernelHgrn.τ).loc Cert.KernelHgrn.main_arg2))
      ∧ r.2.sem = fun _ => 0)

def quiescent_KernelHgrnIdeal [hKernelHgrnIdeal : Cert.KernelHgrnIdeal.Facts] : Prop :=
  ∀ (m : (ℓ : Loc Cert.KernelHgrnIdeal.nD Cert.KernelHgrnIdeal.τ Cert.KernelHgrnIdeal.sig) → Buf (Elt Ideal) ℓ) (g : Dev Cert.KernelHgrnIdeal.nD → PrngReg), Pre_KernelHgrnIdeal m →
    θ_run (Cert.KernelHgrnIdeal.defs (F := Ideal)) (onTc (τ := Cert.KernelHgrnIdeal.τ) (Cert.KernelHgrnIdeal.main (F := Ideal))) ⟨m, fun _ => 0, g⟩ (fun r => (∀ c : Dev Cert.KernelHgrnIdeal.nD,
      r.2.mem ((c.tc : Thread Cert.KernelHgrnIdeal.nD Cert.KernelHgrnIdeal.τ).loc Cert.KernelHgrnIdeal.main_arg0) = m ((c.tc : Thread Cert.KernelHgrnIdeal.nD Cert.KernelHgrnIdeal.τ).loc Cert.KernelHgrnIdeal.main_arg0)
      ∧ r.2.mem ((c.tc : Thread Cert.KernelHgrnIdeal.nD Cert.KernelHgrnIdeal.τ).loc Cert.KernelHgrnIdeal.main_arg1) = m ((c.tc : Thread Cert.KernelHgrnIdeal.nD Cert.KernelHgrnIdeal.τ).loc Cert.KernelHgrnIdeal.main_arg1)
      ∧ r.2.mem ((c.tc : Thread Cert.KernelHgrnIdeal.nD Cert.KernelHgrnIdeal.τ).loc Cert.KernelHgrnIdeal.main_arg2) = m ((c.tc : Thread Cert.KernelHgrnIdeal.nD Cert.KernelHgrnIdeal.τ).loc Cert.KernelHgrnIdeal.main_arg2))
      ∧ r.2.sem = fun _ => 0)

def quiescent_KernelHgrnIdeal_pre_bound_finite [hKernelHgrnIdeal : Cert.KernelHgrnIdeal.Facts] [hPre_bound_finite : Cert.Pre_bound_finite.Facts] : Prop :=
  ∀ (m : (ℓ : Loc Cert.KernelHgrnIdeal.nD Cert.KernelHgrnIdeal.τ Cert.KernelHgrnIdeal.sig) → Buf (Elt Ideal) ℓ) (g : Dev Cert.KernelHgrnIdeal.nD → PrngReg), Pre_KernelHgrnIdeal_bound_finite m →
    θ_run (Cert.KernelHgrnIdeal.defs (F := Ideal)) (onTc (τ := Cert.KernelHgrnIdeal.τ) (Cert.KernelHgrnIdeal.main (F := Ideal))) ⟨m, fun _ => 0, g⟩ (fun r => (∀ c : Dev Cert.KernelHgrnIdeal.nD,
      r.2.mem ((c.tc : Thread Cert.KernelHgrnIdeal.nD Cert.KernelHgrnIdeal.τ).loc Cert.KernelHgrnIdeal.main_arg0) = m ((c.tc : Thread Cert.KernelHgrnIdeal.nD Cert.KernelHgrnIdeal.τ).loc Cert.KernelHgrnIdeal.main_arg0)
      ∧ r.2.mem ((c.tc : Thread Cert.KernelHgrnIdeal.nD Cert.KernelHgrnIdeal.τ).loc Cert.KernelHgrnIdeal.main_arg1) = m ((c.tc : Thread Cert.KernelHgrnIdeal.nD Cert.KernelHgrnIdeal.τ).loc Cert.KernelHgrnIdeal.main_arg1)
      ∧ r.2.mem ((c.tc : Thread Cert.KernelHgrnIdeal.nD Cert.KernelHgrnIdeal.τ).loc Cert.KernelHgrnIdeal.main_arg2) = m ((c.tc : Thread Cert.KernelHgrnIdeal.nD Cert.KernelHgrnIdeal.τ).loc Cert.KernelHgrnIdeal.main_arg2))
      ∧ r.2.sem = fun _ => 0)

def quiescent_ReferenceHgrnIdeal [hReferenceHgrnIdeal : Cert.ReferenceHgrnIdeal.Facts] : Prop :=
  ∀ (m : (ℓ : Loc Cert.ReferenceHgrnIdeal.nD Cert.ReferenceHgrnIdeal.τ Cert.ReferenceHgrnIdeal.sig) → Buf (Elt Ideal) ℓ) (g : Dev Cert.ReferenceHgrnIdeal.nD → PrngReg), Pre_ReferenceHgrnIdeal m →
    θ_run (Cert.ReferenceHgrnIdeal.defs (F := Ideal)) (onTc (τ := Cert.ReferenceHgrnIdeal.τ) (Cert.ReferenceHgrnIdeal.main (F := Ideal))) ⟨m, fun _ => 0, g⟩ (fun r => (∀ c : Dev Cert.ReferenceHgrnIdeal.nD,
      r.2.mem ((c.tc : Thread Cert.ReferenceHgrnIdeal.nD Cert.ReferenceHgrnIdeal.τ).loc Cert.ReferenceHgrnIdeal.main_arg0) = m ((c.tc : Thread Cert.ReferenceHgrnIdeal.nD Cert.ReferenceHgrnIdeal.τ).loc Cert.ReferenceHgrnIdeal.main_arg0)
      ∧ r.2.mem ((c.tc : Thread Cert.ReferenceHgrnIdeal.nD Cert.ReferenceHgrnIdeal.τ).loc Cert.ReferenceHgrnIdeal.main_arg1) = m ((c.tc : Thread Cert.ReferenceHgrnIdeal.nD Cert.ReferenceHgrnIdeal.τ).loc Cert.ReferenceHgrnIdeal.main_arg1)
      ∧ r.2.mem ((c.tc : Thread Cert.ReferenceHgrnIdeal.nD Cert.ReferenceHgrnIdeal.τ).loc Cert.ReferenceHgrnIdeal.main_arg2) = m ((c.tc : Thread Cert.ReferenceHgrnIdeal.nD Cert.ReferenceHgrnIdeal.τ).loc Cert.ReferenceHgrnIdeal.main_arg2))
      ∧ r.2.sem = fun _ => 0)

def quiescent_ReferenceHgrnIdeal_pre_bound_finite [hReferenceHgrnIdeal : Cert.ReferenceHgrnIdeal.Facts] [hPre_bound_finite : Cert.Pre_bound_finite.Facts] : Prop :=
  ∀ (m : (ℓ : Loc Cert.ReferenceHgrnIdeal.nD Cert.ReferenceHgrnIdeal.τ Cert.ReferenceHgrnIdeal.sig) → Buf (Elt Ideal) ℓ) (g : Dev Cert.ReferenceHgrnIdeal.nD → PrngReg), Pre_ReferenceHgrnIdeal_bound_finite m →
    θ_run (Cert.ReferenceHgrnIdeal.defs (F := Ideal)) (onTc (τ := Cert.ReferenceHgrnIdeal.τ) (Cert.ReferenceHgrnIdeal.main (F := Ideal))) ⟨m, fun _ => 0, g⟩ (fun r => (∀ c : Dev Cert.ReferenceHgrnIdeal.nD,
      r.2.mem ((c.tc : Thread Cert.ReferenceHgrnIdeal.nD Cert.ReferenceHgrnIdeal.τ).loc Cert.ReferenceHgrnIdeal.main_arg0) = m ((c.tc : Thread Cert.ReferenceHgrnIdeal.nD Cert.ReferenceHgrnIdeal.τ).loc Cert.ReferenceHgrnIdeal.main_arg0)
      ∧ r.2.mem ((c.tc : Thread Cert.ReferenceHgrnIdeal.nD Cert.ReferenceHgrnIdeal.τ).loc Cert.ReferenceHgrnIdeal.main_arg1) = m ((c.tc : Thread Cert.ReferenceHgrnIdeal.nD Cert.ReferenceHgrnIdeal.τ).loc Cert.ReferenceHgrnIdeal.main_arg1)
      ∧ r.2.mem ((c.tc : Thread Cert.ReferenceHgrnIdeal.nD Cert.ReferenceHgrnIdeal.τ).loc Cert.ReferenceHgrnIdeal.main_arg2) = m ((c.tc : Thread Cert.ReferenceHgrnIdeal.nD Cert.ReferenceHgrnIdeal.τ).loc Cert.ReferenceHgrnIdeal.main_arg2))
      ∧ r.2.sem = fun _ => 0)

def quiescent_KernelWkv [hKernelWkv : Cert.KernelWkv.Facts] : Prop :=
  ∀ (m : (ℓ : Loc Cert.KernelWkv.nD Cert.KernelWkv.τ Cert.KernelWkv.sig) → Buf (Elt Bits) ℓ) (g : Dev Cert.KernelWkv.nD → PrngReg), Pre_KernelWkv m →
    θ_run (Cert.KernelWkv.defs (F := Bits)) (onTc (τ := Cert.KernelWkv.τ) (Cert.KernelWkv.main (F := Bits))) ⟨m, fun _ => 0, g⟩ (fun r => (∀ c : Dev Cert.KernelWkv.nD,
      r.2.mem ((c.tc : Thread Cert.KernelWkv.nD Cert.KernelWkv.τ).loc Cert.KernelWkv.main_arg0) = m ((c.tc : Thread Cert.KernelWkv.nD Cert.KernelWkv.τ).loc Cert.KernelWkv.main_arg0)
      ∧ r.2.mem ((c.tc : Thread Cert.KernelWkv.nD Cert.KernelWkv.τ).loc Cert.KernelWkv.main_arg1) = m ((c.tc : Thread Cert.KernelWkv.nD Cert.KernelWkv.τ).loc Cert.KernelWkv.main_arg1)
      ∧ r.2.mem ((c.tc : Thread Cert.KernelWkv.nD Cert.KernelWkv.τ).loc Cert.KernelWkv.main_arg2) = m ((c.tc : Thread Cert.KernelWkv.nD Cert.KernelWkv.τ).loc Cert.KernelWkv.main_arg2)
      ∧ r.2.mem ((c.tc : Thread Cert.KernelWkv.nD Cert.KernelWkv.τ).loc Cert.KernelWkv.main_arg3) = m ((c.tc : Thread Cert.KernelWkv.nD Cert.KernelWkv.τ).loc Cert.KernelWkv.main_arg3)
      ∧ r.2.mem ((c.tc : Thread Cert.KernelWkv.nD Cert.KernelWkv.τ).loc Cert.KernelWkv.main_arg4) = m ((c.tc : Thread Cert.KernelWkv.nD Cert.KernelWkv.τ).loc Cert.KernelWkv.main_arg4)
      ∧ r.2.mem ((c.tc : Thread Cert.KernelWkv.nD Cert.KernelWkv.τ).loc Cert.KernelWkv.main_arg5) = m ((c.tc : Thread Cert.KernelWkv.nD Cert.KernelWkv.τ).loc Cert.KernelWkv.main_arg5)
      ∧ r.2.mem ((c.tc : Thread Cert.KernelWkv.nD Cert.KernelWkv.τ).loc Cert.KernelWkv.main_arg6) = m ((c.tc : Thread Cert.KernelWkv.nD Cert.KernelWkv.τ).loc Cert.KernelWkv.main_arg6)
      ∧ r.2.mem ((c.tc : Thread Cert.KernelWkv.nD Cert.KernelWkv.τ).loc Cert.KernelWkv.main_arg7) = m ((c.tc : Thread Cert.KernelWkv.nD Cert.KernelWkv.τ).loc Cert.KernelWkv.main_arg7)
      ∧ r.2.mem ((c.tc : Thread Cert.KernelWkv.nD Cert.KernelWkv.τ).loc Cert.KernelWkv.main_arg8) = m ((c.tc : Thread Cert.KernelWkv.nD Cert.KernelWkv.τ).loc Cert.KernelWkv.main_arg8)
      ∧ r.2.mem ((c.tc : Thread Cert.KernelWkv.nD Cert.KernelWkv.τ).loc Cert.KernelWkv.main_arg9) = m ((c.tc : Thread Cert.KernelWkv.nD Cert.KernelWkv.τ).loc Cert.KernelWkv.main_arg9))
      ∧ r.2.sem = fun _ => 0)

def quiescent_KernelWkvIdeal [hKernelWkvIdeal : Cert.KernelWkvIdeal.Facts] : Prop :=
  ∀ (m : (ℓ : Loc Cert.KernelWkvIdeal.nD Cert.KernelWkvIdeal.τ Cert.KernelWkvIdeal.sig) → Buf (Elt Ideal) ℓ) (g : Dev Cert.KernelWkvIdeal.nD → PrngReg), Pre_KernelWkvIdeal m →
    θ_run (Cert.KernelWkvIdeal.defs (F := Ideal)) (onTc (τ := Cert.KernelWkvIdeal.τ) (Cert.KernelWkvIdeal.main (F := Ideal))) ⟨m, fun _ => 0, g⟩ (fun r => (∀ c : Dev Cert.KernelWkvIdeal.nD,
      r.2.mem ((c.tc : Thread Cert.KernelWkvIdeal.nD Cert.KernelWkvIdeal.τ).loc Cert.KernelWkvIdeal.main_arg0) = m ((c.tc : Thread Cert.KernelWkvIdeal.nD Cert.KernelWkvIdeal.τ).loc Cert.KernelWkvIdeal.main_arg0)
      ∧ r.2.mem ((c.tc : Thread Cert.KernelWkvIdeal.nD Cert.KernelWkvIdeal.τ).loc Cert.KernelWkvIdeal.main_arg1) = m ((c.tc : Thread Cert.KernelWkvIdeal.nD Cert.KernelWkvIdeal.τ).loc Cert.KernelWkvIdeal.main_arg1)
      ∧ r.2.mem ((c.tc : Thread Cert.KernelWkvIdeal.nD Cert.KernelWkvIdeal.τ).loc Cert.KernelWkvIdeal.main_arg2) = m ((c.tc : Thread Cert.KernelWkvIdeal.nD Cert.KernelWkvIdeal.τ).loc Cert.KernelWkvIdeal.main_arg2)
      ∧ r.2.mem ((c.tc : Thread Cert.KernelWkvIdeal.nD Cert.KernelWkvIdeal.τ).loc Cert.KernelWkvIdeal.main_arg3) = m ((c.tc : Thread Cert.KernelWkvIdeal.nD Cert.KernelWkvIdeal.τ).loc Cert.KernelWkvIdeal.main_arg3)
      ∧ r.2.mem ((c.tc : Thread Cert.KernelWkvIdeal.nD Cert.KernelWkvIdeal.τ).loc Cert.KernelWkvIdeal.main_arg4) = m ((c.tc : Thread Cert.KernelWkvIdeal.nD Cert.KernelWkvIdeal.τ).loc Cert.KernelWkvIdeal.main_arg4)
      ∧ r.2.mem ((c.tc : Thread Cert.KernelWkvIdeal.nD Cert.KernelWkvIdeal.τ).loc Cert.KernelWkvIdeal.main_arg5) = m ((c.tc : Thread Cert.KernelWkvIdeal.nD Cert.KernelWkvIdeal.τ).loc Cert.KernelWkvIdeal.main_arg5)
      ∧ r.2.mem ((c.tc : Thread Cert.KernelWkvIdeal.nD Cert.KernelWkvIdeal.τ).loc Cert.KernelWkvIdeal.main_arg6) = m ((c.tc : Thread Cert.KernelWkvIdeal.nD Cert.KernelWkvIdeal.τ).loc Cert.KernelWkvIdeal.main_arg6)
      ∧ r.2.mem ((c.tc : Thread Cert.KernelWkvIdeal.nD Cert.KernelWkvIdeal.τ).loc Cert.KernelWkvIdeal.main_arg7) = m ((c.tc : Thread Cert.KernelWkvIdeal.nD Cert.KernelWkvIdeal.τ).loc Cert.KernelWkvIdeal.main_arg7)
      ∧ r.2.mem ((c.tc : Thread Cert.KernelWkvIdeal.nD Cert.KernelWkvIdeal.τ).loc Cert.KernelWkvIdeal.main_arg8) = m ((c.tc : Thread Cert.KernelWkvIdeal.nD Cert.KernelWkvIdeal.τ).loc Cert.KernelWkvIdeal.main_arg8)
      ∧ r.2.mem ((c.tc : Thread Cert.KernelWkvIdeal.nD Cert.KernelWkvIdeal.τ).loc Cert.KernelWkvIdeal.main_arg9) = m ((c.tc : Thread Cert.KernelWkvIdeal.nD Cert.KernelWkvIdeal.τ).loc Cert.KernelWkvIdeal.main_arg9))
      ∧ r.2.sem = fun _ => 0)

def quiescent_KernelWkvIdeal_pre_inputs_finite [hKernelWkvIdeal : Cert.KernelWkvIdeal.Facts] [hPre_inputs_finite : Cert.Pre_inputs_finite.Facts] : Prop :=
  ∀ (m : (ℓ : Loc Cert.KernelWkvIdeal.nD Cert.KernelWkvIdeal.τ Cert.KernelWkvIdeal.sig) → Buf (Elt Ideal) ℓ) (g : Dev Cert.KernelWkvIdeal.nD → PrngReg), Pre_KernelWkvIdeal_inputs_finite m →
    θ_run (Cert.KernelWkvIdeal.defs (F := Ideal)) (onTc (τ := Cert.KernelWkvIdeal.τ) (Cert.KernelWkvIdeal.main (F := Ideal))) ⟨m, fun _ => 0, g⟩ (fun r => (∀ c : Dev Cert.KernelWkvIdeal.nD,
      r.2.mem ((c.tc : Thread Cert.KernelWkvIdeal.nD Cert.KernelWkvIdeal.τ).loc Cert.KernelWkvIdeal.main_arg0) = m ((c.tc : Thread Cert.KernelWkvIdeal.nD Cert.KernelWkvIdeal.τ).loc Cert.KernelWkvIdeal.main_arg0)
      ∧ r.2.mem ((c.tc : Thread Cert.KernelWkvIdeal.nD Cert.KernelWkvIdeal.τ).loc Cert.KernelWkvIdeal.main_arg1) = m ((c.tc : Thread Cert.KernelWkvIdeal.nD Cert.KernelWkvIdeal.τ).loc Cert.KernelWkvIdeal.main_arg1)
      ∧ r.2.mem ((c.tc : Thread Cert.KernelWkvIdeal.nD Cert.KernelWkvIdeal.τ).loc Cert.KernelWkvIdeal.main_arg2) = m ((c.tc : Thread Cert.KernelWkvIdeal.nD Cert.KernelWkvIdeal.τ).loc Cert.KernelWkvIdeal.main_arg2)
      ∧ r.2.mem ((c.tc : Thread Cert.KernelWkvIdeal.nD Cert.KernelWkvIdeal.τ).loc Cert.KernelWkvIdeal.main_arg3) = m ((c.tc : Thread Cert.KernelWkvIdeal.nD Cert.KernelWkvIdeal.τ).loc Cert.KernelWkvIdeal.main_arg3)
      ∧ r.2.mem ((c.tc : Thread Cert.KernelWkvIdeal.nD Cert.KernelWkvIdeal.τ).loc Cert.KernelWkvIdeal.main_arg4) = m ((c.tc : Thread Cert.KernelWkvIdeal.nD Cert.KernelWkvIdeal.τ).loc Cert.KernelWkvIdeal.main_arg4)
      ∧ r.2.mem ((c.tc : Thread Cert.KernelWkvIdeal.nD Cert.KernelWkvIdeal.τ).loc Cert.KernelWkvIdeal.main_arg5) = m ((c.tc : Thread Cert.KernelWkvIdeal.nD Cert.KernelWkvIdeal.τ).loc Cert.KernelWkvIdeal.main_arg5)
      ∧ r.2.mem ((c.tc : Thread Cert.KernelWkvIdeal.nD Cert.KernelWkvIdeal.τ).loc Cert.KernelWkvIdeal.main_arg6) = m ((c.tc : Thread Cert.KernelWkvIdeal.nD Cert.KernelWkvIdeal.τ).loc Cert.KernelWkvIdeal.main_arg6)
      ∧ r.2.mem ((c.tc : Thread Cert.KernelWkvIdeal.nD Cert.KernelWkvIdeal.τ).loc Cert.KernelWkvIdeal.main_arg7) = m ((c.tc : Thread Cert.KernelWkvIdeal.nD Cert.KernelWkvIdeal.τ).loc Cert.KernelWkvIdeal.main_arg7)
      ∧ r.2.mem ((c.tc : Thread Cert.KernelWkvIdeal.nD Cert.KernelWkvIdeal.τ).loc Cert.KernelWkvIdeal.main_arg8) = m ((c.tc : Thread Cert.KernelWkvIdeal.nD Cert.KernelWkvIdeal.τ).loc Cert.KernelWkvIdeal.main_arg8)
      ∧ r.2.mem ((c.tc : Thread Cert.KernelWkvIdeal.nD Cert.KernelWkvIdeal.τ).loc Cert.KernelWkvIdeal.main_arg9) = m ((c.tc : Thread Cert.KernelWkvIdeal.nD Cert.KernelWkvIdeal.τ).loc Cert.KernelWkvIdeal.main_arg9))
      ∧ r.2.sem = fun _ => 0)

def quiescent_ReferenceWkvIdeal [hReferenceWkvIdeal : Cert.ReferenceWkvIdeal.Facts] : Prop :=
  ∀ (m : (ℓ : Loc Cert.ReferenceWkvIdeal.nD Cert.ReferenceWkvIdeal.τ Cert.ReferenceWkvIdeal.sig) → Buf (Elt Ideal) ℓ) (g : Dev Cert.ReferenceWkvIdeal.nD → PrngReg), Pre_ReferenceWkvIdeal m →
    θ_run (Cert.ReferenceWkvIdeal.defs (F := Ideal)) (onTc (τ := Cert.ReferenceWkvIdeal.τ) (Cert.ReferenceWkvIdeal.main (F := Ideal))) ⟨m, fun _ => 0, g⟩ (fun r => (∀ c : Dev Cert.ReferenceWkvIdeal.nD,
      r.2.mem ((c.tc : Thread Cert.ReferenceWkvIdeal.nD Cert.ReferenceWkvIdeal.τ).loc Cert.ReferenceWkvIdeal.main_arg0) = m ((c.tc : Thread Cert.ReferenceWkvIdeal.nD Cert.ReferenceWkvIdeal.τ).loc Cert.ReferenceWkvIdeal.main_arg0)
      ∧ r.2.mem ((c.tc : Thread Cert.ReferenceWkvIdeal.nD Cert.ReferenceWkvIdeal.τ).loc Cert.ReferenceWkvIdeal.main_arg1) = m ((c.tc : Thread Cert.ReferenceWkvIdeal.nD Cert.ReferenceWkvIdeal.τ).loc Cert.ReferenceWkvIdeal.main_arg1)
      ∧ r.2.mem ((c.tc : Thread Cert.ReferenceWkvIdeal.nD Cert.ReferenceWkvIdeal.τ).loc Cert.ReferenceWkvIdeal.main_arg2) = m ((c.tc : Thread Cert.ReferenceWkvIdeal.nD Cert.ReferenceWkvIdeal.τ).loc Cert.ReferenceWkvIdeal.main_arg2)
      ∧ r.2.mem ((c.tc : Thread Cert.ReferenceWkvIdeal.nD Cert.ReferenceWkvIdeal.τ).loc Cert.ReferenceWkvIdeal.main_arg3) = m ((c.tc : Thread Cert.ReferenceWkvIdeal.nD Cert.ReferenceWkvIdeal.τ).loc Cert.ReferenceWkvIdeal.main_arg3)
      ∧ r.2.mem ((c.tc : Thread Cert.ReferenceWkvIdeal.nD Cert.ReferenceWkvIdeal.τ).loc Cert.ReferenceWkvIdeal.main_arg4) = m ((c.tc : Thread Cert.ReferenceWkvIdeal.nD Cert.ReferenceWkvIdeal.τ).loc Cert.ReferenceWkvIdeal.main_arg4)
      ∧ r.2.mem ((c.tc : Thread Cert.ReferenceWkvIdeal.nD Cert.ReferenceWkvIdeal.τ).loc Cert.ReferenceWkvIdeal.main_arg5) = m ((c.tc : Thread Cert.ReferenceWkvIdeal.nD Cert.ReferenceWkvIdeal.τ).loc Cert.ReferenceWkvIdeal.main_arg5)
      ∧ r.2.mem ((c.tc : Thread Cert.ReferenceWkvIdeal.nD Cert.ReferenceWkvIdeal.τ).loc Cert.ReferenceWkvIdeal.main_arg6) = m ((c.tc : Thread Cert.ReferenceWkvIdeal.nD Cert.ReferenceWkvIdeal.τ).loc Cert.ReferenceWkvIdeal.main_arg6)
      ∧ r.2.mem ((c.tc : Thread Cert.ReferenceWkvIdeal.nD Cert.ReferenceWkvIdeal.τ).loc Cert.ReferenceWkvIdeal.main_arg7) = m ((c.tc : Thread Cert.ReferenceWkvIdeal.nD Cert.ReferenceWkvIdeal.τ).loc Cert.ReferenceWkvIdeal.main_arg7)
      ∧ r.2.mem ((c.tc : Thread Cert.ReferenceWkvIdeal.nD Cert.ReferenceWkvIdeal.τ).loc Cert.ReferenceWkvIdeal.main_arg8) = m ((c.tc : Thread Cert.ReferenceWkvIdeal.nD Cert.ReferenceWkvIdeal.τ).loc Cert.ReferenceWkvIdeal.main_arg8)
      ∧ r.2.mem ((c.tc : Thread Cert.ReferenceWkvIdeal.nD Cert.ReferenceWkvIdeal.τ).loc Cert.ReferenceWkvIdeal.main_arg9) = m ((c.tc : Thread Cert.ReferenceWkvIdeal.nD Cert.ReferenceWkvIdeal.τ).loc Cert.ReferenceWkvIdeal.main_arg9))
      ∧ r.2.sem = fun _ => 0)

def quiescent_ReferenceWkvIdeal_pre_inputs_finite [hReferenceWkvIdeal : Cert.ReferenceWkvIdeal.Facts] [hPre_inputs_finite : Cert.Pre_inputs_finite.Facts] : Prop :=
  ∀ (m : (ℓ : Loc Cert.ReferenceWkvIdeal.nD Cert.ReferenceWkvIdeal.τ Cert.ReferenceWkvIdeal.sig) → Buf (Elt Ideal) ℓ) (g : Dev Cert.ReferenceWkvIdeal.nD → PrngReg), Pre_ReferenceWkvIdeal_inputs_finite m →
    θ_run (Cert.ReferenceWkvIdeal.defs (F := Ideal)) (onTc (τ := Cert.ReferenceWkvIdeal.τ) (Cert.ReferenceWkvIdeal.main (F := Ideal))) ⟨m, fun _ => 0, g⟩ (fun r => (∀ c : Dev Cert.ReferenceWkvIdeal.nD,
      r.2.mem ((c.tc : Thread Cert.ReferenceWkvIdeal.nD Cert.ReferenceWkvIdeal.τ).loc Cert.ReferenceWkvIdeal.main_arg0) = m ((c.tc : Thread Cert.ReferenceWkvIdeal.nD Cert.ReferenceWkvIdeal.τ).loc Cert.ReferenceWkvIdeal.main_arg0)
      ∧ r.2.mem ((c.tc : Thread Cert.ReferenceWkvIdeal.nD Cert.ReferenceWkvIdeal.τ).loc Cert.ReferenceWkvIdeal.main_arg1) = m ((c.tc : Thread Cert.ReferenceWkvIdeal.nD Cert.ReferenceWkvIdeal.τ).loc Cert.ReferenceWkvIdeal.main_arg1)
      ∧ r.2.mem ((c.tc : Thread Cert.ReferenceWkvIdeal.nD Cert.ReferenceWkvIdeal.τ).loc Cert.ReferenceWkvIdeal.main_arg2) = m ((c.tc : Thread Cert.ReferenceWkvIdeal.nD Cert.ReferenceWkvIdeal.τ).loc Cert.ReferenceWkvIdeal.main_arg2)
      ∧ r.2.mem ((c.tc : Thread Cert.ReferenceWkvIdeal.nD Cert.ReferenceWkvIdeal.τ).loc Cert.ReferenceWkvIdeal.main_arg3) = m ((c.tc : Thread Cert.ReferenceWkvIdeal.nD Cert.ReferenceWkvIdeal.τ).loc Cert.ReferenceWkvIdeal.main_arg3)
      ∧ r.2.mem ((c.tc : Thread Cert.ReferenceWkvIdeal.nD Cert.ReferenceWkvIdeal.τ).loc Cert.ReferenceWkvIdeal.main_arg4) = m ((c.tc : Thread Cert.ReferenceWkvIdeal.nD Cert.ReferenceWkvIdeal.τ).loc Cert.ReferenceWkvIdeal.main_arg4)
      ∧ r.2.mem ((c.tc : Thread Cert.ReferenceWkvIdeal.nD Cert.ReferenceWkvIdeal.τ).loc Cert.ReferenceWkvIdeal.main_arg5) = m ((c.tc : Thread Cert.ReferenceWkvIdeal.nD Cert.ReferenceWkvIdeal.τ).loc Cert.ReferenceWkvIdeal.main_arg5)
      ∧ r.2.mem ((c.tc : Thread Cert.ReferenceWkvIdeal.nD Cert.ReferenceWkvIdeal.τ).loc Cert.ReferenceWkvIdeal.main_arg6) = m ((c.tc : Thread Cert.ReferenceWkvIdeal.nD Cert.ReferenceWkvIdeal.τ).loc Cert.ReferenceWkvIdeal.main_arg6)
      ∧ r.2.mem ((c.tc : Thread Cert.ReferenceWkvIdeal.nD Cert.ReferenceWkvIdeal.τ).loc Cert.ReferenceWkvIdeal.main_arg7) = m ((c.tc : Thread Cert.ReferenceWkvIdeal.nD Cert.ReferenceWkvIdeal.τ).loc Cert.ReferenceWkvIdeal.main_arg7)
      ∧ r.2.mem ((c.tc : Thread Cert.ReferenceWkvIdeal.nD Cert.ReferenceWkvIdeal.τ).loc Cert.ReferenceWkvIdeal.main_arg8) = m ((c.tc : Thread Cert.ReferenceWkvIdeal.nD Cert.ReferenceWkvIdeal.τ).loc Cert.ReferenceWkvIdeal.main_arg8)
      ∧ r.2.mem ((c.tc : Thread Cert.ReferenceWkvIdeal.nD Cert.ReferenceWkvIdeal.τ).loc Cert.ReferenceWkvIdeal.main_arg9) = m ((c.tc : Thread Cert.ReferenceWkvIdeal.nD Cert.ReferenceWkvIdeal.τ).loc Cert.ReferenceWkvIdeal.main_arg9))
      ∧ r.2.sem = fun _ => 0)

def preserves_Kernel_KernelIdeal : Prop :=
  True

def algebraic_KernelIdeal_ReferenceIdeal_pre_scores_finite [hKernelIdeal : Cert.KernelIdeal.Facts] [hReferenceIdeal : Cert.ReferenceIdeal.Facts] [hPre_scores_finite : Cert.Pre_scores_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_KernelCached_KernelCachedIdeal : Prop :=
  True

def algebraic_KernelCachedIdeal_ReferenceCachedIdeal [hKernelCachedIdeal : Cert.KernelCachedIdeal.Facts] [hReferenceCachedIdeal : Cert.ReferenceCachedIdeal.Facts] : Prop :=
  ∀ (m : (ℓ : Loc Cert.KernelCachedIdeal.nD Cert.KernelCachedIdeal.τ Cert.KernelCachedIdeal.sig) → Buf (Elt Ideal) ℓ) (g : Dev Cert.KernelCachedIdeal.nD → PrngReg)
    (m' : (ℓ : Loc Cert.ReferenceCachedIdeal.nD Cert.ReferenceCachedIdeal.τ Cert.ReferenceCachedIdeal.sig) → Buf (Elt Ideal) ℓ) (g' : Dev Cert.ReferenceCachedIdeal.nD → PrngReg), Pre_KernelCachedIdeal m →
    (∀ c : Dev Cert.KernelCachedIdeal.nD,
      m' ((c.tc : Thread Cert.ReferenceCachedIdeal.nD Cert.ReferenceCachedIdeal.τ).loc Cert.ReferenceCachedIdeal.main_arg0) = m ((c.tc : Thread Cert.KernelCachedIdeal.nD Cert.KernelCachedIdeal.τ).loc Cert.KernelCachedIdeal.main_arg0)
      ∧ m' ((c.tc : Thread Cert.ReferenceCachedIdeal.nD Cert.ReferenceCachedIdeal.τ).loc Cert.ReferenceCachedIdeal.main_arg1) = m ((c.tc : Thread Cert.KernelCachedIdeal.nD Cert.KernelCachedIdeal.τ).loc Cert.KernelCachedIdeal.main_arg1)
      ∧ m' ((c.tc : Thread Cert.ReferenceCachedIdeal.nD Cert.ReferenceCachedIdeal.τ).loc Cert.ReferenceCachedIdeal.main_arg2) = m ((c.tc : Thread Cert.KernelCachedIdeal.nD Cert.KernelCachedIdeal.τ).loc Cert.KernelCachedIdeal.main_arg2)
      ∧ m' ((c.tc : Thread Cert.ReferenceCachedIdeal.nD Cert.ReferenceCachedIdeal.τ).loc Cert.ReferenceCachedIdeal.main_arg3) = m ((c.tc : Thread Cert.KernelCachedIdeal.nD Cert.KernelCachedIdeal.τ).loc Cert.KernelCachedIdeal.main_arg3)) →
    ∃ (v0 : (c : Dev Cert.KernelCachedIdeal.nD) → Buf (Elt Ideal) ((c.tc : Thread Cert.KernelCachedIdeal.nD Cert.KernelCachedIdeal.τ).loc Cert.KernelCachedIdeal.main_v23)),
      θ_run (Cert.KernelCachedIdeal.defs (F := Ideal)) (onTc (τ := Cert.KernelCachedIdeal.τ) (Cert.KernelCachedIdeal.main (F := Ideal))) ⟨m, fun _ => 0, g⟩ (fun r => ∀ c : Dev Cert.KernelCachedIdeal.nD,
          r.2.mem ((c.tc : Thread Cert.KernelCachedIdeal.nD Cert.KernelCachedIdeal.τ).loc Cert.KernelCachedIdeal.main_v23) = v0 c
          ∧ r.2.mem ((c.tc : Thread Cert.KernelCachedIdeal.nD Cert.KernelCachedIdeal.τ).loc Cert.KernelCachedIdeal.main_arg0) = m ((c.tc : Thread Cert.KernelCachedIdeal.nD Cert.KernelCachedIdeal.τ).loc Cert.KernelCachedIdeal.main_arg0)
          ∧ r.2.mem ((c.tc : Thread Cert.KernelCachedIdeal.nD Cert.KernelCachedIdeal.τ).loc Cert.KernelCachedIdeal.main_arg1) = m ((c.tc : Thread Cert.KernelCachedIdeal.nD Cert.KernelCachedIdeal.τ).loc Cert.KernelCachedIdeal.main_arg1)
          ∧ r.2.mem ((c.tc : Thread Cert.KernelCachedIdeal.nD Cert.KernelCachedIdeal.τ).loc Cert.KernelCachedIdeal.main_arg2) = m ((c.tc : Thread Cert.KernelCachedIdeal.nD Cert.KernelCachedIdeal.τ).loc Cert.KernelCachedIdeal.main_arg2)
          ∧ r.2.mem ((c.tc : Thread Cert.KernelCachedIdeal.nD Cert.KernelCachedIdeal.τ).loc Cert.KernelCachedIdeal.main_arg3) = m ((c.tc : Thread Cert.KernelCachedIdeal.nD Cert.KernelCachedIdeal.τ).loc Cert.KernelCachedIdeal.main_arg3))
      ∧ θ_run (Cert.ReferenceCachedIdeal.defs (F := Ideal)) (onTc (τ := Cert.ReferenceCachedIdeal.τ) (Cert.ReferenceCachedIdeal.main (F := Ideal))) ⟨m', fun _ => 0, g'⟩ (fun r => ∀ c : Dev Cert.ReferenceCachedIdeal.nD,
          r.2.mem ((c.tc : Thread Cert.ReferenceCachedIdeal.nD Cert.ReferenceCachedIdeal.τ).loc Cert.ReferenceCachedIdeal.main_v47) = v0 c
          ∧ r.2.mem ((c.tc : Thread Cert.ReferenceCachedIdeal.nD Cert.ReferenceCachedIdeal.τ).loc Cert.ReferenceCachedIdeal.main_arg0) = m' ((c.tc : Thread Cert.ReferenceCachedIdeal.nD Cert.ReferenceCachedIdeal.τ).loc Cert.ReferenceCachedIdeal.main_arg0)
          ∧ r.2.mem ((c.tc : Thread Cert.ReferenceCachedIdeal.nD Cert.ReferenceCachedIdeal.τ).loc Cert.ReferenceCachedIdeal.main_arg1) = m' ((c.tc : Thread Cert.ReferenceCachedIdeal.nD Cert.ReferenceCachedIdeal.τ).loc Cert.ReferenceCachedIdeal.main_arg1)
          ∧ r.2.mem ((c.tc : Thread Cert.ReferenceCachedIdeal.nD Cert.ReferenceCachedIdeal.τ).loc Cert.ReferenceCachedIdeal.main_arg2) = m' ((c.tc : Thread Cert.ReferenceCachedIdeal.nD Cert.ReferenceCachedIdeal.τ).loc Cert.ReferenceCachedIdeal.main_arg2)
          ∧ r.2.mem ((c.tc : Thread Cert.ReferenceCachedIdeal.nD Cert.ReferenceCachedIdeal.τ).loc Cert.ReferenceCachedIdeal.main_arg3) = m' ((c.tc : Thread Cert.ReferenceCachedIdeal.nD Cert.ReferenceCachedIdeal.τ).loc Cert.ReferenceCachedIdeal.main_arg3))

def preserves_KernelFfn_KernelFfnIdeal : Prop :=
  True

def algebraic_KernelFfnIdeal_ReferenceFfnIdeal [hKernelFfnIdeal : Cert.KernelFfnIdeal.Facts] [hReferenceFfnIdeal : Cert.ReferenceFfnIdeal.Facts] : Prop :=
  ∀ (m : (ℓ : Loc Cert.KernelFfnIdeal.nD Cert.KernelFfnIdeal.τ Cert.KernelFfnIdeal.sig) → Buf (Elt Ideal) ℓ) (g : Dev Cert.KernelFfnIdeal.nD → PrngReg)
    (m' : (ℓ : Loc Cert.ReferenceFfnIdeal.nD Cert.ReferenceFfnIdeal.τ Cert.ReferenceFfnIdeal.sig) → Buf (Elt Ideal) ℓ) (g' : Dev Cert.ReferenceFfnIdeal.nD → PrngReg), Pre_KernelFfnIdeal m →
    (∀ c : Dev Cert.KernelFfnIdeal.nD,
      m' ((c.tc : Thread Cert.ReferenceFfnIdeal.nD Cert.ReferenceFfnIdeal.τ).loc Cert.ReferenceFfnIdeal.main_arg0) = m ((c.tc : Thread Cert.KernelFfnIdeal.nD Cert.KernelFfnIdeal.τ).loc Cert.KernelFfnIdeal.main_arg0)
      ∧ m' ((c.tc : Thread Cert.ReferenceFfnIdeal.nD Cert.ReferenceFfnIdeal.τ).loc Cert.ReferenceFfnIdeal.main_arg1) = m ((c.tc : Thread Cert.KernelFfnIdeal.nD Cert.KernelFfnIdeal.τ).loc Cert.KernelFfnIdeal.main_arg1)
      ∧ m' ((c.tc : Thread Cert.ReferenceFfnIdeal.nD Cert.ReferenceFfnIdeal.τ).loc Cert.ReferenceFfnIdeal.main_arg2) = m ((c.tc : Thread Cert.KernelFfnIdeal.nD Cert.KernelFfnIdeal.τ).loc Cert.KernelFfnIdeal.main_arg2)
      ∧ m' ((c.tc : Thread Cert.ReferenceFfnIdeal.nD Cert.ReferenceFfnIdeal.τ).loc Cert.ReferenceFfnIdeal.main_arg3) = m ((c.tc : Thread Cert.KernelFfnIdeal.nD Cert.KernelFfnIdeal.τ).loc Cert.KernelFfnIdeal.main_arg3)) →
    ∃ (v0 : (c : Dev Cert.KernelFfnIdeal.nD) → Buf (Elt Ideal) ((c.tc : Thread Cert.KernelFfnIdeal.nD Cert.KernelFfnIdeal.τ).loc Cert.KernelFfnIdeal.main_v9)),
      θ_run (Cert.KernelFfnIdeal.defs (F := Ideal)) (onTc (τ := Cert.KernelFfnIdeal.τ) (Cert.KernelFfnIdeal.main (F := Ideal))) ⟨m, fun _ => 0, g⟩ (fun r => ∀ c : Dev Cert.KernelFfnIdeal.nD,
          r.2.mem ((c.tc : Thread Cert.KernelFfnIdeal.nD Cert.KernelFfnIdeal.τ).loc Cert.KernelFfnIdeal.main_v9) = v0 c
          ∧ r.2.mem ((c.tc : Thread Cert.KernelFfnIdeal.nD Cert.KernelFfnIdeal.τ).loc Cert.KernelFfnIdeal.main_arg0) = m ((c.tc : Thread Cert.KernelFfnIdeal.nD Cert.KernelFfnIdeal.τ).loc Cert.KernelFfnIdeal.main_arg0)
          ∧ r.2.mem ((c.tc : Thread Cert.KernelFfnIdeal.nD Cert.KernelFfnIdeal.τ).loc Cert.KernelFfnIdeal.main_arg1) = m ((c.tc : Thread Cert.KernelFfnIdeal.nD Cert.KernelFfnIdeal.τ).loc Cert.KernelFfnIdeal.main_arg1)
          ∧ r.2.mem ((c.tc : Thread Cert.KernelFfnIdeal.nD Cert.KernelFfnIdeal.τ).loc Cert.KernelFfnIdeal.main_arg2) = m ((c.tc : Thread Cert.KernelFfnIdeal.nD Cert.KernelFfnIdeal.τ).loc Cert.KernelFfnIdeal.main_arg2)
          ∧ r.2.mem ((c.tc : Thread Cert.KernelFfnIdeal.nD Cert.KernelFfnIdeal.τ).loc Cert.KernelFfnIdeal.main_arg3) = m ((c.tc : Thread Cert.KernelFfnIdeal.nD Cert.KernelFfnIdeal.τ).loc Cert.KernelFfnIdeal.main_arg3))
      ∧ θ_run (Cert.ReferenceFfnIdeal.defs (F := Ideal)) (onTc (τ := Cert.ReferenceFfnIdeal.τ) (Cert.ReferenceFfnIdeal.main (F := Ideal))) ⟨m', fun _ => 0, g'⟩ (fun r => ∀ c : Dev Cert.ReferenceFfnIdeal.nD,
          r.2.mem ((c.tc : Thread Cert.ReferenceFfnIdeal.nD Cert.ReferenceFfnIdeal.τ).loc Cert.ReferenceFfnIdeal.main_v21) = v0 c
          ∧ r.2.mem ((c.tc : Thread Cert.ReferenceFfnIdeal.nD Cert.ReferenceFfnIdeal.τ).loc Cert.ReferenceFfnIdeal.main_arg0) = m' ((c.tc : Thread Cert.ReferenceFfnIdeal.nD Cert.ReferenceFfnIdeal.τ).loc Cert.ReferenceFfnIdeal.main_arg0)
          ∧ r.2.mem ((c.tc : Thread Cert.ReferenceFfnIdeal.nD Cert.ReferenceFfnIdeal.τ).loc Cert.ReferenceFfnIdeal.main_arg1) = m' ((c.tc : Thread Cert.ReferenceFfnIdeal.nD Cert.ReferenceFfnIdeal.τ).loc Cert.ReferenceFfnIdeal.main_arg1)
          ∧ r.2.mem ((c.tc : Thread Cert.ReferenceFfnIdeal.nD Cert.ReferenceFfnIdeal.τ).loc Cert.ReferenceFfnIdeal.main_arg2) = m' ((c.tc : Thread Cert.ReferenceFfnIdeal.nD Cert.ReferenceFfnIdeal.τ).loc Cert.ReferenceFfnIdeal.main_arg2)
          ∧ r.2.mem ((c.tc : Thread Cert.ReferenceFfnIdeal.nD Cert.ReferenceFfnIdeal.τ).loc Cert.ReferenceFfnIdeal.main_arg3) = m' ((c.tc : Thread Cert.ReferenceFfnIdeal.nD Cert.ReferenceFfnIdeal.τ).loc Cert.ReferenceFfnIdeal.main_arg3))

def preserves_KernelNormMm_KernelNormMmIdeal : Prop :=
  True

def algebraic_KernelNormMmIdeal_ReferenceNormMmIdeal [hKernelNormMmIdeal : Cert.KernelNormMmIdeal.Facts] [hReferenceNormMmIdeal : Cert.ReferenceNormMmIdeal.Facts] : Prop :=
  ∀ (m : (ℓ : Loc Cert.KernelNormMmIdeal.nD Cert.KernelNormMmIdeal.τ Cert.KernelNormMmIdeal.sig) → Buf (Elt Ideal) ℓ) (g : Dev Cert.KernelNormMmIdeal.nD → PrngReg)
    (m' : (ℓ : Loc Cert.ReferenceNormMmIdeal.nD Cert.ReferenceNormMmIdeal.τ Cert.ReferenceNormMmIdeal.sig) → Buf (Elt Ideal) ℓ) (g' : Dev Cert.ReferenceNormMmIdeal.nD → PrngReg), Pre_KernelNormMmIdeal m →
    (∀ c : Dev Cert.KernelNormMmIdeal.nD,
      m' ((c.tc : Thread Cert.ReferenceNormMmIdeal.nD Cert.ReferenceNormMmIdeal.τ).loc Cert.ReferenceNormMmIdeal.main_arg0) = m ((c.tc : Thread Cert.KernelNormMmIdeal.nD Cert.KernelNormMmIdeal.τ).loc Cert.KernelNormMmIdeal.main_arg0)
      ∧ m' ((c.tc : Thread Cert.ReferenceNormMmIdeal.nD Cert.ReferenceNormMmIdeal.τ).loc Cert.ReferenceNormMmIdeal.main_arg1) = m ((c.tc : Thread Cert.KernelNormMmIdeal.nD Cert.KernelNormMmIdeal.τ).loc Cert.KernelNormMmIdeal.main_arg1)
      ∧ m' ((c.tc : Thread Cert.ReferenceNormMmIdeal.nD Cert.ReferenceNormMmIdeal.τ).loc Cert.ReferenceNormMmIdeal.main_arg2) = m ((c.tc : Thread Cert.KernelNormMmIdeal.nD Cert.KernelNormMmIdeal.τ).loc Cert.KernelNormMmIdeal.main_arg2)) →
    ∃ (v0 : (c : Dev Cert.KernelNormMmIdeal.nD) → Buf (Elt Ideal) ((c.tc : Thread Cert.KernelNormMmIdeal.nD Cert.KernelNormMmIdeal.τ).loc Cert.KernelNormMmIdeal.main_v2)),
      θ_run (Cert.KernelNormMmIdeal.defs (F := Ideal)) (onTc (τ := Cert.KernelNormMmIdeal.τ) (Cert.KernelNormMmIdeal.main (F := Ideal))) ⟨m, fun _ => 0, g⟩ (fun r => ∀ c : Dev Cert.KernelNormMmIdeal.nD,
          r.2.mem ((c.tc : Thread Cert.KernelNormMmIdeal.nD Cert.KernelNormMmIdeal.τ).loc Cert.KernelNormMmIdeal.main_v2) = v0 c
          ∧ r.2.mem ((c.tc : Thread Cert.KernelNormMmIdeal.nD Cert.KernelNormMmIdeal.τ).loc Cert.KernelNormMmIdeal.main_arg0) = m ((c.tc : Thread Cert.KernelNormMmIdeal.nD Cert.KernelNormMmIdeal.τ).loc Cert.KernelNormMmIdeal.main_arg0)
          ∧ r.2.mem ((c.tc : Thread Cert.KernelNormMmIdeal.nD Cert.KernelNormMmIdeal.τ).loc Cert.KernelNormMmIdeal.main_arg1) = m ((c.tc : Thread Cert.KernelNormMmIdeal.nD Cert.KernelNormMmIdeal.τ).loc Cert.KernelNormMmIdeal.main_arg1)
          ∧ r.2.mem ((c.tc : Thread Cert.KernelNormMmIdeal.nD Cert.KernelNormMmIdeal.τ).loc Cert.KernelNormMmIdeal.main_arg2) = m ((c.tc : Thread Cert.KernelNormMmIdeal.nD Cert.KernelNormMmIdeal.τ).loc Cert.KernelNormMmIdeal.main_arg2))
      ∧ θ_run (Cert.ReferenceNormMmIdeal.defs (F := Ideal)) (onTc (τ := Cert.ReferenceNormMmIdeal.τ) (Cert.ReferenceNormMmIdeal.main (F := Ideal))) ⟨m', fun _ => 0, g'⟩ (fun r => ∀ c : Dev Cert.ReferenceNormMmIdeal.nD,
          r.2.mem ((c.tc : Thread Cert.ReferenceNormMmIdeal.nD Cert.ReferenceNormMmIdeal.τ).loc Cert.ReferenceNormMmIdeal.main_v13) = v0 c
          ∧ r.2.mem ((c.tc : Thread Cert.ReferenceNormMmIdeal.nD Cert.ReferenceNormMmIdeal.τ).loc Cert.ReferenceNormMmIdeal.main_arg0) = m' ((c.tc : Thread Cert.ReferenceNormMmIdeal.nD Cert.ReferenceNormMmIdeal.τ).loc Cert.ReferenceNormMmIdeal.main_arg0)
          ∧ r.2.mem ((c.tc : Thread Cert.ReferenceNormMmIdeal.nD Cert.ReferenceNormMmIdeal.τ).loc Cert.ReferenceNormMmIdeal.main_arg1) = m' ((c.tc : Thread Cert.ReferenceNormMmIdeal.nD Cert.ReferenceNormMmIdeal.τ).loc Cert.ReferenceNormMmIdeal.main_arg1)
          ∧ r.2.mem ((c.tc : Thread Cert.ReferenceNormMmIdeal.nD Cert.ReferenceNormMmIdeal.τ).loc Cert.ReferenceNormMmIdeal.main_arg2) = m' ((c.tc : Thread Cert.ReferenceNormMmIdeal.nD Cert.ReferenceNormMmIdeal.τ).loc Cert.ReferenceNormMmIdeal.main_arg2))

def preserves_KernelProj_KernelProjIdeal : Prop :=
  True

def algebraic_KernelProjIdeal_ReferenceProjIdeal [hKernelProjIdeal : Cert.KernelProjIdeal.Facts] [hReferenceProjIdeal : Cert.ReferenceProjIdeal.Facts] : Prop :=
  ∀ (m : (ℓ : Loc Cert.KernelProjIdeal.nD Cert.KernelProjIdeal.τ Cert.KernelProjIdeal.sig) → Buf (Elt Ideal) ℓ) (g : Dev Cert.KernelProjIdeal.nD → PrngReg)
    (m' : (ℓ : Loc Cert.ReferenceProjIdeal.nD Cert.ReferenceProjIdeal.τ Cert.ReferenceProjIdeal.sig) → Buf (Elt Ideal) ℓ) (g' : Dev Cert.ReferenceProjIdeal.nD → PrngReg), Pre_KernelProjIdeal m →
    (∀ c : Dev Cert.KernelProjIdeal.nD,
      m' ((c.tc : Thread Cert.ReferenceProjIdeal.nD Cert.ReferenceProjIdeal.τ).loc Cert.ReferenceProjIdeal.main_arg0) = m ((c.tc : Thread Cert.KernelProjIdeal.nD Cert.KernelProjIdeal.τ).loc Cert.KernelProjIdeal.main_arg0)
      ∧ m' ((c.tc : Thread Cert.ReferenceProjIdeal.nD Cert.ReferenceProjIdeal.τ).loc Cert.ReferenceProjIdeal.main_arg1) = m ((c.tc : Thread Cert.KernelProjIdeal.nD Cert.KernelProjIdeal.τ).loc Cert.KernelProjIdeal.main_arg1)
      ∧ m' ((c.tc : Thread Cert.ReferenceProjIdeal.nD Cert.ReferenceProjIdeal.τ).loc Cert.ReferenceProjIdeal.main_arg2) = m ((c.tc : Thread Cert.KernelProjIdeal.nD Cert.KernelProjIdeal.τ).loc Cert.KernelProjIdeal.main_arg2)) →
    ∃ (v0 : (c : Dev Cert.KernelProjIdeal.nD) → Buf (Elt Ideal) ((c.tc : Thread Cert.KernelProjIdeal.nD Cert.KernelProjIdeal.τ).loc Cert.KernelProjIdeal.main_v1)),
      θ_run (Cert.KernelProjIdeal.defs (F := Ideal)) (onTc (τ := Cert.KernelProjIdeal.τ) (Cert.KernelProjIdeal.main (F := Ideal))) ⟨m, fun _ => 0, g⟩ (fun r => ∀ c : Dev Cert.KernelProjIdeal.nD,
          r.2.mem ((c.tc : Thread Cert.KernelProjIdeal.nD Cert.KernelProjIdeal.τ).loc Cert.KernelProjIdeal.main_v1) = v0 c
          ∧ r.2.mem ((c.tc : Thread Cert.KernelProjIdeal.nD Cert.KernelProjIdeal.τ).loc Cert.KernelProjIdeal.main_arg0) = m ((c.tc : Thread Cert.KernelProjIdeal.nD Cert.KernelProjIdeal.τ).loc Cert.KernelProjIdeal.main_arg0)
          ∧ r.2.mem ((c.tc : Thread Cert.KernelProjIdeal.nD Cert.KernelProjIdeal.τ).loc Cert.KernelProjIdeal.main_arg1) = m ((c.tc : Thread Cert.KernelProjIdeal.nD Cert.KernelProjIdeal.τ).loc Cert.KernelProjIdeal.main_arg1)
          ∧ r.2.mem ((c.tc : Thread Cert.KernelProjIdeal.nD Cert.KernelProjIdeal.τ).loc Cert.KernelProjIdeal.main_arg2) = m ((c.tc : Thread Cert.KernelProjIdeal.nD Cert.KernelProjIdeal.τ).loc Cert.KernelProjIdeal.main_arg2))
      ∧ θ_run (Cert.ReferenceProjIdeal.defs (F := Ideal)) (onTc (τ := Cert.ReferenceProjIdeal.τ) (Cert.ReferenceProjIdeal.main (F := Ideal))) ⟨m', fun _ => 0, g'⟩ (fun r => ∀ c : Dev Cert.ReferenceProjIdeal.nD,
          r.2.mem ((c.tc : Thread Cert.ReferenceProjIdeal.nD Cert.ReferenceProjIdeal.τ).loc Cert.ReferenceProjIdeal.main_v1) = v0 c
          ∧ r.2.mem ((c.tc : Thread Cert.ReferenceProjIdeal.nD Cert.ReferenceProjIdeal.τ).loc Cert.ReferenceProjIdeal.main_arg0) = m' ((c.tc : Thread Cert.ReferenceProjIdeal.nD Cert.ReferenceProjIdeal.τ).loc Cert.ReferenceProjIdeal.main_arg0)
          ∧ r.2.mem ((c.tc : Thread Cert.ReferenceProjIdeal.nD Cert.ReferenceProjIdeal.τ).loc Cert.ReferenceProjIdeal.main_arg1) = m' ((c.tc : Thread Cert.ReferenceProjIdeal.nD Cert.ReferenceProjIdeal.τ).loc Cert.ReferenceProjIdeal.main_arg1)
          ∧ r.2.mem ((c.tc : Thread Cert.ReferenceProjIdeal.nD Cert.ReferenceProjIdeal.τ).loc Cert.ReferenceProjIdeal.main_arg2) = m' ((c.tc : Thread Cert.ReferenceProjIdeal.nD Cert.ReferenceProjIdeal.τ).loc Cert.ReferenceProjIdeal.main_arg2))

def preserves_KernelGated_KernelGatedIdeal : Prop :=
  True

def algebraic_KernelGatedIdeal_ReferenceGatedIdeal [hKernelGatedIdeal : Cert.KernelGatedIdeal.Facts] [hReferenceGatedIdeal : Cert.ReferenceGatedIdeal.Facts] : Prop :=
  ∀ (m : (ℓ : Loc Cert.KernelGatedIdeal.nD Cert.KernelGatedIdeal.τ Cert.KernelGatedIdeal.sig) → Buf (Elt Ideal) ℓ) (g : Dev Cert.KernelGatedIdeal.nD → PrngReg)
    (m' : (ℓ : Loc Cert.ReferenceGatedIdeal.nD Cert.ReferenceGatedIdeal.τ Cert.ReferenceGatedIdeal.sig) → Buf (Elt Ideal) ℓ) (g' : Dev Cert.ReferenceGatedIdeal.nD → PrngReg), Pre_KernelGatedIdeal m →
    (∀ c : Dev Cert.KernelGatedIdeal.nD,
      m' ((c.tc : Thread Cert.ReferenceGatedIdeal.nD Cert.ReferenceGatedIdeal.τ).loc Cert.ReferenceGatedIdeal.main_arg0) = m ((c.tc : Thread Cert.KernelGatedIdeal.nD Cert.KernelGatedIdeal.τ).loc Cert.KernelGatedIdeal.main_arg0)
      ∧ m' ((c.tc : Thread Cert.ReferenceGatedIdeal.nD Cert.ReferenceGatedIdeal.τ).loc Cert.ReferenceGatedIdeal.main_arg1) = m ((c.tc : Thread Cert.KernelGatedIdeal.nD Cert.KernelGatedIdeal.τ).loc Cert.KernelGatedIdeal.main_arg1)
      ∧ m' ((c.tc : Thread Cert.ReferenceGatedIdeal.nD Cert.ReferenceGatedIdeal.τ).loc Cert.ReferenceGatedIdeal.main_arg2) = m ((c.tc : Thread Cert.KernelGatedIdeal.nD Cert.KernelGatedIdeal.τ).loc Cert.KernelGatedIdeal.main_arg2)
      ∧ m' ((c.tc : Thread Cert.ReferenceGatedIdeal.nD Cert.ReferenceGatedIdeal.τ).loc Cert.ReferenceGatedIdeal.main_arg3) = m ((c.tc : Thread Cert.KernelGatedIdeal.nD Cert.KernelGatedIdeal.τ).loc Cert.KernelGatedIdeal.main_arg3)
      ∧ m' ((c.tc : Thread Cert.ReferenceGatedIdeal.nD Cert.ReferenceGatedIdeal.τ).loc Cert.ReferenceGatedIdeal.main_arg4) = m ((c.tc : Thread Cert.KernelGatedIdeal.nD Cert.KernelGatedIdeal.τ).loc Cert.KernelGatedIdeal.main_arg4)) →
    ∃ (v0 : (c : Dev Cert.KernelGatedIdeal.nD) → Buf (Elt Ideal) ((c.tc : Thread Cert.KernelGatedIdeal.nD Cert.KernelGatedIdeal.τ).loc Cert.KernelGatedIdeal.main_v2)),
      θ_run (Cert.KernelGatedIdeal.defs (F := Ideal)) (onTc (τ := Cert.KernelGatedIdeal.τ) (Cert.KernelGatedIdeal.main (F := Ideal))) ⟨m, fun _ => 0, g⟩ (fun r => ∀ c : Dev Cert.KernelGatedIdeal.nD,
          r.2.mem ((c.tc : Thread Cert.KernelGatedIdeal.nD Cert.KernelGatedIdeal.τ).loc Cert.KernelGatedIdeal.main_v2) = v0 c
          ∧ r.2.mem ((c.tc : Thread Cert.KernelGatedIdeal.nD Cert.KernelGatedIdeal.τ).loc Cert.KernelGatedIdeal.main_arg0) = m ((c.tc : Thread Cert.KernelGatedIdeal.nD Cert.KernelGatedIdeal.τ).loc Cert.KernelGatedIdeal.main_arg0)
          ∧ r.2.mem ((c.tc : Thread Cert.KernelGatedIdeal.nD Cert.KernelGatedIdeal.τ).loc Cert.KernelGatedIdeal.main_arg1) = m ((c.tc : Thread Cert.KernelGatedIdeal.nD Cert.KernelGatedIdeal.τ).loc Cert.KernelGatedIdeal.main_arg1)
          ∧ r.2.mem ((c.tc : Thread Cert.KernelGatedIdeal.nD Cert.KernelGatedIdeal.τ).loc Cert.KernelGatedIdeal.main_arg2) = m ((c.tc : Thread Cert.KernelGatedIdeal.nD Cert.KernelGatedIdeal.τ).loc Cert.KernelGatedIdeal.main_arg2)
          ∧ r.2.mem ((c.tc : Thread Cert.KernelGatedIdeal.nD Cert.KernelGatedIdeal.τ).loc Cert.KernelGatedIdeal.main_arg3) = m ((c.tc : Thread Cert.KernelGatedIdeal.nD Cert.KernelGatedIdeal.τ).loc Cert.KernelGatedIdeal.main_arg3)
          ∧ r.2.mem ((c.tc : Thread Cert.KernelGatedIdeal.nD Cert.KernelGatedIdeal.τ).loc Cert.KernelGatedIdeal.main_arg4) = m ((c.tc : Thread Cert.KernelGatedIdeal.nD Cert.KernelGatedIdeal.τ).loc Cert.KernelGatedIdeal.main_arg4))
      ∧ θ_run (Cert.ReferenceGatedIdeal.defs (F := Ideal)) (onTc (τ := Cert.ReferenceGatedIdeal.τ) (Cert.ReferenceGatedIdeal.main (F := Ideal))) ⟨m', fun _ => 0, g'⟩ (fun r => ∀ c : Dev Cert.ReferenceGatedIdeal.nD,
          r.2.mem ((c.tc : Thread Cert.ReferenceGatedIdeal.nD Cert.ReferenceGatedIdeal.τ).loc Cert.ReferenceGatedIdeal.main_v20) = v0 c
          ∧ r.2.mem ((c.tc : Thread Cert.ReferenceGatedIdeal.nD Cert.ReferenceGatedIdeal.τ).loc Cert.ReferenceGatedIdeal.main_arg0) = m' ((c.tc : Thread Cert.ReferenceGatedIdeal.nD Cert.ReferenceGatedIdeal.τ).loc Cert.ReferenceGatedIdeal.main_arg0)
          ∧ r.2.mem ((c.tc : Thread Cert.ReferenceGatedIdeal.nD Cert.ReferenceGatedIdeal.τ).loc Cert.ReferenceGatedIdeal.main_arg1) = m' ((c.tc : Thread Cert.ReferenceGatedIdeal.nD Cert.ReferenceGatedIdeal.τ).loc Cert.ReferenceGatedIdeal.main_arg1)
          ∧ r.2.mem ((c.tc : Thread Cert.ReferenceGatedIdeal.nD Cert.ReferenceGatedIdeal.τ).loc Cert.ReferenceGatedIdeal.main_arg2) = m' ((c.tc : Thread Cert.ReferenceGatedIdeal.nD Cert.ReferenceGatedIdeal.τ).loc Cert.ReferenceGatedIdeal.main_arg2)
          ∧ r.2.mem ((c.tc : Thread Cert.ReferenceGatedIdeal.nD Cert.ReferenceGatedIdeal.τ).loc Cert.ReferenceGatedIdeal.main_arg3) = m' ((c.tc : Thread Cert.ReferenceGatedIdeal.nD Cert.ReferenceGatedIdeal.τ).loc Cert.ReferenceGatedIdeal.main_arg3)
          ∧ r.2.mem ((c.tc : Thread Cert.ReferenceGatedIdeal.nD Cert.ReferenceGatedIdeal.τ).loc Cert.ReferenceGatedIdeal.main_arg4) = m' ((c.tc : Thread Cert.ReferenceGatedIdeal.nD Cert.ReferenceGatedIdeal.τ).loc Cert.ReferenceGatedIdeal.main_arg4))

def preserves_KernelNorm_KernelNormIdeal : Prop :=
  True

def algebraic_KernelNormIdeal_ReferenceNormIdeal [hKernelNormIdeal : Cert.KernelNormIdeal.Facts] [hReferenceNormIdeal : Cert.ReferenceNormIdeal.Facts] : Prop :=
  ∀ (m : (ℓ : Loc Cert.KernelNormIdeal.nD Cert.KernelNormIdeal.τ Cert.KernelNormIdeal.sig) → Buf (Elt Ideal) ℓ) (g : Dev Cert.KernelNormIdeal.nD → PrngReg)
    (m' : (ℓ : Loc Cert.ReferenceNormIdeal.nD Cert.ReferenceNormIdeal.τ Cert.ReferenceNormIdeal.sig) → Buf (Elt Ideal) ℓ) (g' : Dev Cert.ReferenceNormIdeal.nD → PrngReg), Pre_KernelNormIdeal m →
    (∀ c : Dev Cert.KernelNormIdeal.nD,
      m' ((c.tc : Thread Cert.ReferenceNormIdeal.nD Cert.ReferenceNormIdeal.τ).loc Cert.ReferenceNormIdeal.main_arg0) = m ((c.tc : Thread Cert.KernelNormIdeal.nD Cert.KernelNormIdeal.τ).loc Cert.KernelNormIdeal.main_arg0)
      ∧ m' ((c.tc : Thread Cert.ReferenceNormIdeal.nD Cert.ReferenceNormIdeal.τ).loc Cert.ReferenceNormIdeal.main_arg1) = m ((c.tc : Thread Cert.KernelNormIdeal.nD Cert.KernelNormIdeal.τ).loc Cert.KernelNormIdeal.main_arg1)) →
    ∃ (v0 : (c : Dev Cert.KernelNormIdeal.nD) → Buf (Elt Ideal) ((c.tc : Thread Cert.KernelNormIdeal.nD Cert.KernelNormIdeal.τ).loc Cert.KernelNormIdeal.main_v1)),
      θ_run (Cert.KernelNormIdeal.defs (F := Ideal)) (onTc (τ := Cert.KernelNormIdeal.τ) (Cert.KernelNormIdeal.main (F := Ideal))) ⟨m, fun _ => 0, g⟩ (fun r => ∀ c : Dev Cert.KernelNormIdeal.nD,
          r.2.mem ((c.tc : Thread Cert.KernelNormIdeal.nD Cert.KernelNormIdeal.τ).loc Cert.KernelNormIdeal.main_v1) = v0 c
          ∧ r.2.mem ((c.tc : Thread Cert.KernelNormIdeal.nD Cert.KernelNormIdeal.τ).loc Cert.KernelNormIdeal.main_arg0) = m ((c.tc : Thread Cert.KernelNormIdeal.nD Cert.KernelNormIdeal.τ).loc Cert.KernelNormIdeal.main_arg0)
          ∧ r.2.mem ((c.tc : Thread Cert.KernelNormIdeal.nD Cert.KernelNormIdeal.τ).loc Cert.KernelNormIdeal.main_arg1) = m ((c.tc : Thread Cert.KernelNormIdeal.nD Cert.KernelNormIdeal.τ).loc Cert.KernelNormIdeal.main_arg1))
      ∧ θ_run (Cert.ReferenceNormIdeal.defs (F := Ideal)) (onTc (τ := Cert.ReferenceNormIdeal.τ) (Cert.ReferenceNormIdeal.main (F := Ideal))) ⟨m', fun _ => 0, g'⟩ (fun r => ∀ c : Dev Cert.ReferenceNormIdeal.nD,
          r.2.mem ((c.tc : Thread Cert.ReferenceNormIdeal.nD Cert.ReferenceNormIdeal.τ).loc Cert.ReferenceNormIdeal.main_v12) = v0 c
          ∧ r.2.mem ((c.tc : Thread Cert.ReferenceNormIdeal.nD Cert.ReferenceNormIdeal.τ).loc Cert.ReferenceNormIdeal.main_arg0) = m' ((c.tc : Thread Cert.ReferenceNormIdeal.nD Cert.ReferenceNormIdeal.τ).loc Cert.ReferenceNormIdeal.main_arg0)
          ∧ r.2.mem ((c.tc : Thread Cert.ReferenceNormIdeal.nD Cert.ReferenceNormIdeal.τ).loc Cert.ReferenceNormIdeal.main_arg1) = m' ((c.tc : Thread Cert.ReferenceNormIdeal.nD Cert.ReferenceNormIdeal.τ).loc Cert.ReferenceNormIdeal.main_arg1))

def preserves_KernelRkv_KernelRkvIdeal : Prop :=
  True

def algebraic_KernelRkvIdeal_ReferenceRkvIdeal [hKernelRkvIdeal : Cert.KernelRkvIdeal.Facts] [hReferenceRkvIdeal : Cert.ReferenceRkvIdeal.Facts] : Prop :=
  ∀ (m : (ℓ : Loc Cert.KernelRkvIdeal.nD Cert.KernelRkvIdeal.τ Cert.KernelRkvIdeal.sig) → Buf (Elt Ideal) ℓ) (g : Dev Cert.KernelRkvIdeal.nD → PrngReg)
    (m' : (ℓ : Loc Cert.ReferenceRkvIdeal.nD Cert.ReferenceRkvIdeal.τ Cert.ReferenceRkvIdeal.sig) → Buf (Elt Ideal) ℓ) (g' : Dev Cert.ReferenceRkvIdeal.nD → PrngReg), Pre_KernelRkvIdeal m →
    (∀ c : Dev Cert.KernelRkvIdeal.nD,
      m' ((c.tc : Thread Cert.ReferenceRkvIdeal.nD Cert.ReferenceRkvIdeal.τ).loc Cert.ReferenceRkvIdeal.main_arg0) = m ((c.tc : Thread Cert.KernelRkvIdeal.nD Cert.KernelRkvIdeal.τ).loc Cert.KernelRkvIdeal.main_arg0)
      ∧ m' ((c.tc : Thread Cert.ReferenceRkvIdeal.nD Cert.ReferenceRkvIdeal.τ).loc Cert.ReferenceRkvIdeal.main_arg1) = m ((c.tc : Thread Cert.KernelRkvIdeal.nD Cert.KernelRkvIdeal.τ).loc Cert.KernelRkvIdeal.main_arg1)
      ∧ m' ((c.tc : Thread Cert.ReferenceRkvIdeal.nD Cert.ReferenceRkvIdeal.τ).loc Cert.ReferenceRkvIdeal.main_arg2) = m ((c.tc : Thread Cert.KernelRkvIdeal.nD Cert.KernelRkvIdeal.τ).loc Cert.KernelRkvIdeal.main_arg2)
      ∧ m' ((c.tc : Thread Cert.ReferenceRkvIdeal.nD Cert.ReferenceRkvIdeal.τ).loc Cert.ReferenceRkvIdeal.main_arg3) = m ((c.tc : Thread Cert.KernelRkvIdeal.nD Cert.KernelRkvIdeal.τ).loc Cert.KernelRkvIdeal.main_arg3)) →
    ∃ (v0 : (c : Dev Cert.KernelRkvIdeal.nD) → Buf (Elt Ideal) ((c.tc : Thread Cert.KernelRkvIdeal.nD Cert.KernelRkvIdeal.τ).loc Cert.KernelRkvIdeal.main_v7)),
      θ_run (Cert.KernelRkvIdeal.defs (F := Ideal)) (onTc (τ := Cert.KernelRkvIdeal.τ) (Cert.KernelRkvIdeal.main (F := Ideal))) ⟨m, fun _ => 0, g⟩ (fun r => ∀ c : Dev Cert.KernelRkvIdeal.nD,
          r.2.mem ((c.tc : Thread Cert.KernelRkvIdeal.nD Cert.KernelRkvIdeal.τ).loc Cert.KernelRkvIdeal.main_v7) = v0 c
          ∧ r.2.mem ((c.tc : Thread Cert.KernelRkvIdeal.nD Cert.KernelRkvIdeal.τ).loc Cert.KernelRkvIdeal.main_arg0) = m ((c.tc : Thread Cert.KernelRkvIdeal.nD Cert.KernelRkvIdeal.τ).loc Cert.KernelRkvIdeal.main_arg0)
          ∧ r.2.mem ((c.tc : Thread Cert.KernelRkvIdeal.nD Cert.KernelRkvIdeal.τ).loc Cert.KernelRkvIdeal.main_arg1) = m ((c.tc : Thread Cert.KernelRkvIdeal.nD Cert.KernelRkvIdeal.τ).loc Cert.KernelRkvIdeal.main_arg1)
          ∧ r.2.mem ((c.tc : Thread Cert.KernelRkvIdeal.nD Cert.KernelRkvIdeal.τ).loc Cert.KernelRkvIdeal.main_arg2) = m ((c.tc : Thread Cert.KernelRkvIdeal.nD Cert.KernelRkvIdeal.τ).loc Cert.KernelRkvIdeal.main_arg2)
          ∧ r.2.mem ((c.tc : Thread Cert.KernelRkvIdeal.nD Cert.KernelRkvIdeal.τ).loc Cert.KernelRkvIdeal.main_arg3) = m ((c.tc : Thread Cert.KernelRkvIdeal.nD Cert.KernelRkvIdeal.τ).loc Cert.KernelRkvIdeal.main_arg3))
      ∧ θ_run (Cert.ReferenceRkvIdeal.defs (F := Ideal)) (onTc (τ := Cert.ReferenceRkvIdeal.τ) (Cert.ReferenceRkvIdeal.main (F := Ideal))) ⟨m', fun _ => 0, g'⟩ (fun r => ∀ c : Dev Cert.ReferenceRkvIdeal.nD,
          r.2.mem ((c.tc : Thread Cert.ReferenceRkvIdeal.nD Cert.ReferenceRkvIdeal.τ).loc Cert.ReferenceRkvIdeal.main_v34) = v0 c
          ∧ r.2.mem ((c.tc : Thread Cert.ReferenceRkvIdeal.nD Cert.ReferenceRkvIdeal.τ).loc Cert.ReferenceRkvIdeal.main_arg0) = m' ((c.tc : Thread Cert.ReferenceRkvIdeal.nD Cert.ReferenceRkvIdeal.τ).loc Cert.ReferenceRkvIdeal.main_arg0)
          ∧ r.2.mem ((c.tc : Thread Cert.ReferenceRkvIdeal.nD Cert.ReferenceRkvIdeal.τ).loc Cert.ReferenceRkvIdeal.main_arg1) = m' ((c.tc : Thread Cert.ReferenceRkvIdeal.nD Cert.ReferenceRkvIdeal.τ).loc Cert.ReferenceRkvIdeal.main_arg1)
          ∧ r.2.mem ((c.tc : Thread Cert.ReferenceRkvIdeal.nD Cert.ReferenceRkvIdeal.τ).loc Cert.ReferenceRkvIdeal.main_arg2) = m' ((c.tc : Thread Cert.ReferenceRkvIdeal.nD Cert.ReferenceRkvIdeal.τ).loc Cert.ReferenceRkvIdeal.main_arg2)
          ∧ r.2.mem ((c.tc : Thread Cert.ReferenceRkvIdeal.nD Cert.ReferenceRkvIdeal.τ).loc Cert.ReferenceRkvIdeal.main_arg3) = m' ((c.tc : Thread Cert.ReferenceRkvIdeal.nD Cert.ReferenceRkvIdeal.τ).loc Cert.ReferenceRkvIdeal.main_arg3))

def preserves_KernelLora_KernelLoraIdeal : Prop :=
  True

def algebraic_KernelLoraIdeal_ReferenceLoraIdeal [hKernelLoraIdeal : Cert.KernelLoraIdeal.Facts] [hReferenceLoraIdeal : Cert.ReferenceLoraIdeal.Facts] : Prop :=
  ∀ (m : (ℓ : Loc Cert.KernelLoraIdeal.nD Cert.KernelLoraIdeal.τ Cert.KernelLoraIdeal.sig) → Buf (Elt Ideal) ℓ) (g : Dev Cert.KernelLoraIdeal.nD → PrngReg)
    (m' : (ℓ : Loc Cert.ReferenceLoraIdeal.nD Cert.ReferenceLoraIdeal.τ Cert.ReferenceLoraIdeal.sig) → Buf (Elt Ideal) ℓ) (g' : Dev Cert.ReferenceLoraIdeal.nD → PrngReg), Pre_KernelLoraIdeal m →
    (∀ c : Dev Cert.KernelLoraIdeal.nD,
      m' ((c.tc : Thread Cert.ReferenceLoraIdeal.nD Cert.ReferenceLoraIdeal.τ).loc Cert.ReferenceLoraIdeal.main_arg0) = m ((c.tc : Thread Cert.KernelLoraIdeal.nD Cert.KernelLoraIdeal.τ).loc Cert.KernelLoraIdeal.main_arg0)
      ∧ m' ((c.tc : Thread Cert.ReferenceLoraIdeal.nD Cert.ReferenceLoraIdeal.τ).loc Cert.ReferenceLoraIdeal.main_arg1) = m ((c.tc : Thread Cert.KernelLoraIdeal.nD Cert.KernelLoraIdeal.τ).loc Cert.KernelLoraIdeal.main_arg1)
      ∧ m' ((c.tc : Thread Cert.ReferenceLoraIdeal.nD Cert.ReferenceLoraIdeal.τ).loc Cert.ReferenceLoraIdeal.main_arg2) = m ((c.tc : Thread Cert.KernelLoraIdeal.nD Cert.KernelLoraIdeal.τ).loc Cert.KernelLoraIdeal.main_arg2)
      ∧ m' ((c.tc : Thread Cert.ReferenceLoraIdeal.nD Cert.ReferenceLoraIdeal.τ).loc Cert.ReferenceLoraIdeal.main_arg3) = m ((c.tc : Thread Cert.KernelLoraIdeal.nD Cert.KernelLoraIdeal.τ).loc Cert.KernelLoraIdeal.main_arg3)
      ∧ m' ((c.tc : Thread Cert.ReferenceLoraIdeal.nD Cert.ReferenceLoraIdeal.τ).loc Cert.ReferenceLoraIdeal.main_arg4) = m ((c.tc : Thread Cert.KernelLoraIdeal.nD Cert.KernelLoraIdeal.τ).loc Cert.KernelLoraIdeal.main_arg4)
      ∧ m' ((c.tc : Thread Cert.ReferenceLoraIdeal.nD Cert.ReferenceLoraIdeal.τ).loc Cert.ReferenceLoraIdeal.main_arg5) = m ((c.tc : Thread Cert.KernelLoraIdeal.nD Cert.KernelLoraIdeal.τ).loc Cert.KernelLoraIdeal.main_arg5)
      ∧ m' ((c.tc : Thread Cert.ReferenceLoraIdeal.nD Cert.ReferenceLoraIdeal.τ).loc Cert.ReferenceLoraIdeal.main_arg6) = m ((c.tc : Thread Cert.KernelLoraIdeal.nD Cert.KernelLoraIdeal.τ).loc Cert.KernelLoraIdeal.main_arg6)
      ∧ m' ((c.tc : Thread Cert.ReferenceLoraIdeal.nD Cert.ReferenceLoraIdeal.τ).loc Cert.ReferenceLoraIdeal.main_arg7) = m ((c.tc : Thread Cert.KernelLoraIdeal.nD Cert.KernelLoraIdeal.τ).loc Cert.KernelLoraIdeal.main_arg7)
      ∧ m' ((c.tc : Thread Cert.ReferenceLoraIdeal.nD Cert.ReferenceLoraIdeal.τ).loc Cert.ReferenceLoraIdeal.main_arg8) = m ((c.tc : Thread Cert.KernelLoraIdeal.nD Cert.KernelLoraIdeal.τ).loc Cert.KernelLoraIdeal.main_arg8)
      ∧ m' ((c.tc : Thread Cert.ReferenceLoraIdeal.nD Cert.ReferenceLoraIdeal.τ).loc Cert.ReferenceLoraIdeal.main_arg9) = m ((c.tc : Thread Cert.KernelLoraIdeal.nD Cert.KernelLoraIdeal.τ).loc Cert.KernelLoraIdeal.main_arg9)
      ∧ m' ((c.tc : Thread Cert.ReferenceLoraIdeal.nD Cert.ReferenceLoraIdeal.τ).loc Cert.ReferenceLoraIdeal.main_arg10) = m ((c.tc : Thread Cert.KernelLoraIdeal.nD Cert.KernelLoraIdeal.τ).loc Cert.KernelLoraIdeal.main_arg10)) →
    ∃ (v0 : (c : Dev Cert.KernelLoraIdeal.nD) → Buf (Elt Ideal) ((c.tc : Thread Cert.KernelLoraIdeal.nD Cert.KernelLoraIdeal.τ).loc Cert.KernelLoraIdeal.main_v14_0)) (v1 : (c : Dev Cert.KernelLoraIdeal.nD) → Buf (Elt Ideal) ((c.tc : Thread Cert.KernelLoraIdeal.nD Cert.KernelLoraIdeal.τ).loc Cert.KernelLoraIdeal.main_v14_1)) (v2 : (c : Dev Cert.KernelLoraIdeal.nD) → Buf (Elt Ideal) ((c.tc : Thread Cert.KernelLoraIdeal.nD Cert.KernelLoraIdeal.τ).loc Cert.KernelLoraIdeal.main_v14_2)),
      θ_run (Cert.KernelLoraIdeal.defs (F := Ideal)) (onTc (τ := Cert.KernelLoraIdeal.τ) (Cert.KernelLoraIdeal.main (F := Ideal))) ⟨m, fun _ => 0, g⟩ (fun r => ∀ c : Dev Cert.KernelLoraIdeal.nD,
          r.2.mem ((c.tc : Thread Cert.KernelLoraIdeal.nD Cert.KernelLoraIdeal.τ).loc Cert.KernelLoraIdeal.main_v14_0) = v0 c
          ∧ r.2.mem ((c.tc : Thread Cert.KernelLoraIdeal.nD Cert.KernelLoraIdeal.τ).loc Cert.KernelLoraIdeal.main_v14_1) = v1 c
          ∧ r.2.mem ((c.tc : Thread Cert.KernelLoraIdeal.nD Cert.KernelLoraIdeal.τ).loc Cert.KernelLoraIdeal.main_v14_2) = v2 c
          ∧ r.2.mem ((c.tc : Thread Cert.KernelLoraIdeal.nD Cert.KernelLoraIdeal.τ).loc Cert.KernelLoraIdeal.main_arg0) = m ((c.tc : Thread Cert.KernelLoraIdeal.nD Cert.KernelLoraIdeal.τ).loc Cert.KernelLoraIdeal.main_arg0)
          ∧ r.2.mem ((c.tc : Thread Cert.KernelLoraIdeal.nD Cert.KernelLoraIdeal.τ).loc Cert.KernelLoraIdeal.main_arg1) = m ((c.tc : Thread Cert.KernelLoraIdeal.nD Cert.KernelLoraIdeal.τ).loc Cert.KernelLoraIdeal.main_arg1)
          ∧ r.2.mem ((c.tc : Thread Cert.KernelLoraIdeal.nD Cert.KernelLoraIdeal.τ).loc Cert.KernelLoraIdeal.main_arg2) = m ((c.tc : Thread Cert.KernelLoraIdeal.nD Cert.KernelLoraIdeal.τ).loc Cert.KernelLoraIdeal.main_arg2)
          ∧ r.2.mem ((c.tc : Thread Cert.KernelLoraIdeal.nD Cert.KernelLoraIdeal.τ).loc Cert.KernelLoraIdeal.main_arg3) = m ((c.tc : Thread Cert.KernelLoraIdeal.nD Cert.KernelLoraIdeal.τ).loc Cert.KernelLoraIdeal.main_arg3)
          ∧ r.2.mem ((c.tc : Thread Cert.KernelLoraIdeal.nD Cert.KernelLoraIdeal.τ).loc Cert.KernelLoraIdeal.main_arg4) = m ((c.tc : Thread Cert.KernelLoraIdeal.nD Cert.KernelLoraIdeal.τ).loc Cert.KernelLoraIdeal.main_arg4)
          ∧ r.2.mem ((c.tc : Thread Cert.KernelLoraIdeal.nD Cert.KernelLoraIdeal.τ).loc Cert.KernelLoraIdeal.main_arg5) = m ((c.tc : Thread Cert.KernelLoraIdeal.nD Cert.KernelLoraIdeal.τ).loc Cert.KernelLoraIdeal.main_arg5)
          ∧ r.2.mem ((c.tc : Thread Cert.KernelLoraIdeal.nD Cert.KernelLoraIdeal.τ).loc Cert.KernelLoraIdeal.main_arg6) = m ((c.tc : Thread Cert.KernelLoraIdeal.nD Cert.KernelLoraIdeal.τ).loc Cert.KernelLoraIdeal.main_arg6)
          ∧ r.2.mem ((c.tc : Thread Cert.KernelLoraIdeal.nD Cert.KernelLoraIdeal.τ).loc Cert.KernelLoraIdeal.main_arg7) = m ((c.tc : Thread Cert.KernelLoraIdeal.nD Cert.KernelLoraIdeal.τ).loc Cert.KernelLoraIdeal.main_arg7)
          ∧ r.2.mem ((c.tc : Thread Cert.KernelLoraIdeal.nD Cert.KernelLoraIdeal.τ).loc Cert.KernelLoraIdeal.main_arg8) = m ((c.tc : Thread Cert.KernelLoraIdeal.nD Cert.KernelLoraIdeal.τ).loc Cert.KernelLoraIdeal.main_arg8)
          ∧ r.2.mem ((c.tc : Thread Cert.KernelLoraIdeal.nD Cert.KernelLoraIdeal.τ).loc Cert.KernelLoraIdeal.main_arg9) = m ((c.tc : Thread Cert.KernelLoraIdeal.nD Cert.KernelLoraIdeal.τ).loc Cert.KernelLoraIdeal.main_arg9)
          ∧ r.2.mem ((c.tc : Thread Cert.KernelLoraIdeal.nD Cert.KernelLoraIdeal.τ).loc Cert.KernelLoraIdeal.main_arg10) = m ((c.tc : Thread Cert.KernelLoraIdeal.nD Cert.KernelLoraIdeal.τ).loc Cert.KernelLoraIdeal.main_arg10))
      ∧ θ_run (Cert.ReferenceLoraIdeal.defs (F := Ideal)) (onTc (τ := Cert.ReferenceLoraIdeal.τ) (Cert.ReferenceLoraIdeal.main (F := Ideal))) ⟨m', fun _ => 0, g'⟩ (fun r => ∀ c : Dev Cert.ReferenceLoraIdeal.nD,
          r.2.mem ((c.tc : Thread Cert.ReferenceLoraIdeal.nD Cert.ReferenceLoraIdeal.τ).loc Cert.ReferenceLoraIdeal.main_v53) = v0 c
          ∧ r.2.mem ((c.tc : Thread Cert.ReferenceLoraIdeal.nD Cert.ReferenceLoraIdeal.τ).loc Cert.ReferenceLoraIdeal.main_v37) = v1 c
          ∧ r.2.mem ((c.tc : Thread Cert.ReferenceLoraIdeal.nD Cert.ReferenceLoraIdeal.τ).loc Cert.ReferenceLoraIdeal.main_v51) = v2 c
          ∧ r.2.mem ((c.tc : Thread Cert.ReferenceLoraIdeal.nD Cert.ReferenceLoraIdeal.τ).loc Cert.ReferenceLoraIdeal.main_arg0) = m' ((c.tc : Thread Cert.ReferenceLoraIdeal.nD Cert.ReferenceLoraIdeal.τ).loc Cert.ReferenceLoraIdeal.main_arg0)
          ∧ r.2.mem ((c.tc : Thread Cert.ReferenceLoraIdeal.nD Cert.ReferenceLoraIdeal.τ).loc Cert.ReferenceLoraIdeal.main_arg1) = m' ((c.tc : Thread Cert.ReferenceLoraIdeal.nD Cert.ReferenceLoraIdeal.τ).loc Cert.ReferenceLoraIdeal.main_arg1)
          ∧ r.2.mem ((c.tc : Thread Cert.ReferenceLoraIdeal.nD Cert.ReferenceLoraIdeal.τ).loc Cert.ReferenceLoraIdeal.main_arg2) = m' ((c.tc : Thread Cert.ReferenceLoraIdeal.nD Cert.ReferenceLoraIdeal.τ).loc Cert.ReferenceLoraIdeal.main_arg2)
          ∧ r.2.mem ((c.tc : Thread Cert.ReferenceLoraIdeal.nD Cert.ReferenceLoraIdeal.τ).loc Cert.ReferenceLoraIdeal.main_arg3) = m' ((c.tc : Thread Cert.ReferenceLoraIdeal.nD Cert.ReferenceLoraIdeal.τ).loc Cert.ReferenceLoraIdeal.main_arg3)
          ∧ r.2.mem ((c.tc : Thread Cert.ReferenceLoraIdeal.nD Cert.ReferenceLoraIdeal.τ).loc Cert.ReferenceLoraIdeal.main_arg4) = m' ((c.tc : Thread Cert.ReferenceLoraIdeal.nD Cert.ReferenceLoraIdeal.τ).loc Cert.ReferenceLoraIdeal.main_arg4)
          ∧ r.2.mem ((c.tc : Thread Cert.ReferenceLoraIdeal.nD Cert.ReferenceLoraIdeal.τ).loc Cert.ReferenceLoraIdeal.main_arg5) = m' ((c.tc : Thread Cert.ReferenceLoraIdeal.nD Cert.ReferenceLoraIdeal.τ).loc Cert.ReferenceLoraIdeal.main_arg5)
          ∧ r.2.mem ((c.tc : Thread Cert.ReferenceLoraIdeal.nD Cert.ReferenceLoraIdeal.τ).loc Cert.ReferenceLoraIdeal.main_arg6) = m' ((c.tc : Thread Cert.ReferenceLoraIdeal.nD Cert.ReferenceLoraIdeal.τ).loc Cert.ReferenceLoraIdeal.main_arg6)
          ∧ r.2.mem ((c.tc : Thread Cert.ReferenceLoraIdeal.nD Cert.ReferenceLoraIdeal.τ).loc Cert.ReferenceLoraIdeal.main_arg7) = m' ((c.tc : Thread Cert.ReferenceLoraIdeal.nD Cert.ReferenceLoraIdeal.τ).loc Cert.ReferenceLoraIdeal.main_arg7)
          ∧ r.2.mem ((c.tc : Thread Cert.ReferenceLoraIdeal.nD Cert.ReferenceLoraIdeal.τ).loc Cert.ReferenceLoraIdeal.main_arg8) = m' ((c.tc : Thread Cert.ReferenceLoraIdeal.nD Cert.ReferenceLoraIdeal.τ).loc Cert.ReferenceLoraIdeal.main_arg8)
          ∧ r.2.mem ((c.tc : Thread Cert.ReferenceLoraIdeal.nD Cert.ReferenceLoraIdeal.τ).loc Cert.ReferenceLoraIdeal.main_arg9) = m' ((c.tc : Thread Cert.ReferenceLoraIdeal.nD Cert.ReferenceLoraIdeal.τ).loc Cert.ReferenceLoraIdeal.main_arg9)
          ∧ r.2.mem ((c.tc : Thread Cert.ReferenceLoraIdeal.nD Cert.ReferenceLoraIdeal.τ).loc Cert.ReferenceLoraIdeal.main_arg10) = m' ((c.tc : Thread Cert.ReferenceLoraIdeal.nD Cert.ReferenceLoraIdeal.τ).loc Cert.ReferenceLoraIdeal.main_arg10))

def preserves_KernelHgrn_KernelHgrnIdeal : Prop :=
  True

def algebraic_KernelHgrnIdeal_ReferenceHgrnIdeal_pre_bound_finite [hKernelHgrnIdeal : Cert.KernelHgrnIdeal.Facts] [hReferenceHgrnIdeal : Cert.ReferenceHgrnIdeal.Facts] [hPre_bound_finite : Cert.Pre_bound_finite.Facts] : Prop :=
  ∀ (m : (ℓ : Loc Cert.KernelHgrnIdeal.nD Cert.KernelHgrnIdeal.τ Cert.KernelHgrnIdeal.sig) → Buf (Elt Ideal) ℓ) (g : Dev Cert.KernelHgrnIdeal.nD → PrngReg)
    (m' : (ℓ : Loc Cert.ReferenceHgrnIdeal.nD Cert.ReferenceHgrnIdeal.τ Cert.ReferenceHgrnIdeal.sig) → Buf (Elt Ideal) ℓ) (g' : Dev Cert.ReferenceHgrnIdeal.nD → PrngReg), Pre_KernelHgrnIdeal_bound_finite m →
    (∀ c : Dev Cert.KernelHgrnIdeal.nD,
      m' ((c.tc : Thread Cert.ReferenceHgrnIdeal.nD Cert.ReferenceHgrnIdeal.τ).loc Cert.ReferenceHgrnIdeal.main_arg0) = m ((c.tc : Thread Cert.KernelHgrnIdeal.nD Cert.KernelHgrnIdeal.τ).loc Cert.KernelHgrnIdeal.main_arg0)
      ∧ m' ((c.tc : Thread Cert.ReferenceHgrnIdeal.nD Cert.ReferenceHgrnIdeal.τ).loc Cert.ReferenceHgrnIdeal.main_arg1) = m ((c.tc : Thread Cert.KernelHgrnIdeal.nD Cert.KernelHgrnIdeal.τ).loc Cert.KernelHgrnIdeal.main_arg1)
      ∧ m' ((c.tc : Thread Cert.ReferenceHgrnIdeal.nD Cert.ReferenceHgrnIdeal.τ).loc Cert.ReferenceHgrnIdeal.main_arg2) = m ((c.tc : Thread Cert.KernelHgrnIdeal.nD Cert.KernelHgrnIdeal.τ).loc Cert.KernelHgrnIdeal.main_arg2)) →
    ∃ (v0 : (c : Dev Cert.KernelHgrnIdeal.nD) → Buf (Elt Ideal) ((c.tc : Thread Cert.KernelHgrnIdeal.nD Cert.KernelHgrnIdeal.τ).loc Cert.KernelHgrnIdeal.main_v2_0)) (v1 : (c : Dev Cert.KernelHgrnIdeal.nD) → Buf (Elt Ideal) ((c.tc : Thread Cert.KernelHgrnIdeal.nD Cert.KernelHgrnIdeal.τ).loc Cert.KernelHgrnIdeal.main_v2_1)),
      θ_run (Cert.KernelHgrnIdeal.defs (F := Ideal)) (onTc (τ := Cert.KernelHgrnIdeal.τ) (Cert.KernelHgrnIdeal.main (F := Ideal))) ⟨m, fun _ => 0, g⟩ (fun r => ∀ c : Dev Cert.KernelHgrnIdeal.nD,
          r.2.mem ((c.tc : Thread Cert.KernelHgrnIdeal.nD Cert.KernelHgrnIdeal.τ).loc Cert.KernelHgrnIdeal.main_v2_0) = v0 c
          ∧ r.2.mem ((c.tc : Thread Cert.KernelHgrnIdeal.nD Cert.KernelHgrnIdeal.τ).loc Cert.KernelHgrnIdeal.main_v2_1) = v1 c
          ∧ r.2.mem ((c.tc : Thread Cert.KernelHgrnIdeal.nD Cert.KernelHgrnIdeal.τ).loc Cert.KernelHgrnIdeal.main_arg0) = m ((c.tc : Thread Cert.KernelHgrnIdeal.nD Cert.KernelHgrnIdeal.τ).loc Cert.KernelHgrnIdeal.main_arg0)
          ∧ r.2.mem ((c.tc : Thread Cert.KernelHgrnIdeal.nD Cert.KernelHgrnIdeal.τ).loc Cert.KernelHgrnIdeal.main_arg1) = m ((c.tc : Thread Cert.KernelHgrnIdeal.nD Cert.KernelHgrnIdeal.τ).loc Cert.KernelHgrnIdeal.main_arg1)
          ∧ r.2.mem ((c.tc : Thread Cert.KernelHgrnIdeal.nD Cert.KernelHgrnIdeal.τ).loc Cert.KernelHgrnIdeal.main_arg2) = m ((c.tc : Thread Cert.KernelHgrnIdeal.nD Cert.KernelHgrnIdeal.τ).loc Cert.KernelHgrnIdeal.main_arg2))
      ∧ θ_run (Cert.ReferenceHgrnIdeal.defs (F := Ideal)) (onTc (τ := Cert.ReferenceHgrnIdeal.τ) (Cert.ReferenceHgrnIdeal.main (F := Ideal))) ⟨m', fun _ => 0, g'⟩ (fun r => ∀ c : Dev Cert.ReferenceHgrnIdeal.nD,
          r.2.mem ((c.tc : Thread Cert.ReferenceHgrnIdeal.nD Cert.ReferenceHgrnIdeal.τ).loc Cert.ReferenceHgrnIdeal.main_v78) = v0 c
          ∧ r.2.mem ((c.tc : Thread Cert.ReferenceHgrnIdeal.nD Cert.ReferenceHgrnIdeal.τ).loc Cert.ReferenceHgrnIdeal.main_v79) = v1 c
          ∧ r.2.mem ((c.tc : Thread Cert.ReferenceHgrnIdeal.nD Cert.ReferenceHgrnIdeal.τ).loc Cert.ReferenceHgrnIdeal.main_arg0) = m' ((c.tc : Thread Cert.ReferenceHgrnIdeal.nD Cert.ReferenceHgrnIdeal.τ).loc Cert.ReferenceHgrnIdeal.main_arg0)
          ∧ r.2.mem ((c.tc : Thread Cert.ReferenceHgrnIdeal.nD Cert.ReferenceHgrnIdeal.τ).loc Cert.ReferenceHgrnIdeal.main_arg1) = m' ((c.tc : Thread Cert.ReferenceHgrnIdeal.nD Cert.ReferenceHgrnIdeal.τ).loc Cert.ReferenceHgrnIdeal.main_arg1)
          ∧ r.2.mem ((c.tc : Thread Cert.ReferenceHgrnIdeal.nD Cert.ReferenceHgrnIdeal.τ).loc Cert.ReferenceHgrnIdeal.main_arg2) = m' ((c.tc : Thread Cert.ReferenceHgrnIdeal.nD Cert.ReferenceHgrnIdeal.τ).loc Cert.ReferenceHgrnIdeal.main_arg2))

def preserves_KernelWkv_KernelWkvIdeal : Prop :=
  True

def algebraic_KernelWkvIdeal_ReferenceWkvIdeal_pre_inputs_finite [hKernelWkvIdeal : Cert.KernelWkvIdeal.Facts] [hReferenceWkvIdeal : Cert.ReferenceWkvIdeal.Facts] [hPre_inputs_finite : Cert.Pre_inputs_finite.Facts] : Prop :=
  ∀ (m : (ℓ : Loc Cert.KernelWkvIdeal.nD Cert.KernelWkvIdeal.τ Cert.KernelWkvIdeal.sig) → Buf (Elt Ideal) ℓ) (g : Dev Cert.KernelWkvIdeal.nD → PrngReg)
    (m' : (ℓ : Loc Cert.ReferenceWkvIdeal.nD Cert.ReferenceWkvIdeal.τ Cert.ReferenceWkvIdeal.sig) → Buf (Elt Ideal) ℓ) (g' : Dev Cert.ReferenceWkvIdeal.nD → PrngReg), Pre_KernelWkvIdeal_inputs_finite m →
    (∀ c : Dev Cert.KernelWkvIdeal.nD,
      m' ((c.tc : Thread Cert.ReferenceWkvIdeal.nD Cert.ReferenceWkvIdeal.τ).loc Cert.ReferenceWkvIdeal.main_arg0) = m ((c.tc : Thread Cert.KernelWkvIdeal.nD Cert.KernelWkvIdeal.τ).loc Cert.KernelWkvIdeal.main_arg0)
      ∧ m' ((c.tc : Thread Cert.ReferenceWkvIdeal.nD Cert.ReferenceWkvIdeal.τ).loc Cert.ReferenceWkvIdeal.main_arg1) = m ((c.tc : Thread Cert.KernelWkvIdeal.nD Cert.KernelWkvIdeal.τ).loc Cert.KernelWkvIdeal.main_arg1)
      ∧ m' ((c.tc : Thread Cert.ReferenceWkvIdeal.nD Cert.ReferenceWkvIdeal.τ).loc Cert.ReferenceWkvIdeal.main_arg2) = m ((c.tc : Thread Cert.KernelWkvIdeal.nD Cert.KernelWkvIdeal.τ).loc Cert.KernelWkvIdeal.main_arg2)
      ∧ m' ((c.tc : Thread Cert.ReferenceWkvIdeal.nD Cert.ReferenceWkvIdeal.τ).loc Cert.ReferenceWkvIdeal.main_arg3) = m ((c.tc : Thread Cert.KernelWkvIdeal.nD Cert.KernelWkvIdeal.τ).loc Cert.KernelWkvIdeal.main_arg3)
      ∧ m' ((c.tc : Thread Cert.ReferenceWkvIdeal.nD Cert.ReferenceWkvIdeal.τ).loc Cert.ReferenceWkvIdeal.main_arg4) = m ((c.tc : Thread Cert.KernelWkvIdeal.nD Cert.KernelWkvIdeal.τ).loc Cert.KernelWkvIdeal.main_arg4)
      ∧ m' ((c.tc : Thread Cert.ReferenceWkvIdeal.nD Cert.ReferenceWkvIdeal.τ).loc Cert.ReferenceWkvIdeal.main_arg5) = m ((c.tc : Thread Cert.KernelWkvIdeal.nD Cert.KernelWkvIdeal.τ).loc Cert.KernelWkvIdeal.main_arg5)
      ∧ m' ((c.tc : Thread Cert.ReferenceWkvIdeal.nD Cert.ReferenceWkvIdeal.τ).loc Cert.ReferenceWkvIdeal.main_arg6) = m ((c.tc : Thread Cert.KernelWkvIdeal.nD Cert.KernelWkvIdeal.τ).loc Cert.KernelWkvIdeal.main_arg6)
      ∧ m' ((c.tc : Thread Cert.ReferenceWkvIdeal.nD Cert.ReferenceWkvIdeal.τ).loc Cert.ReferenceWkvIdeal.main_arg7) = m ((c.tc : Thread Cert.KernelWkvIdeal.nD Cert.KernelWkvIdeal.τ).loc Cert.KernelWkvIdeal.main_arg7)
      ∧ m' ((c.tc : Thread Cert.ReferenceWkvIdeal.nD Cert.ReferenceWkvIdeal.τ).loc Cert.ReferenceWkvIdeal.main_arg8) = m ((c.tc : Thread Cert.KernelWkvIdeal.nD Cert.KernelWkvIdeal.τ).loc Cert.KernelWkvIdeal.main_arg8)
      ∧ m' ((c.tc : Thread Cert.ReferenceWkvIdeal.nD Cert.ReferenceWkvIdeal.τ).loc Cert.ReferenceWkvIdeal.main_arg9) = m ((c.tc : Thread Cert.KernelWkvIdeal.nD Cert.KernelWkvIdeal.τ).loc Cert.KernelWkvIdeal.main_arg9)) →
    ∃ (v0 : (c : Dev Cert.KernelWkvIdeal.nD) → Buf (Elt Ideal) ((c.tc : Thread Cert.KernelWkvIdeal.nD Cert.KernelWkvIdeal.τ).loc Cert.KernelWkvIdeal.main_v17_0)) (v1 : (c : Dev Cert.KernelWkvIdeal.nD) → Buf (Elt Ideal) ((c.tc : Thread Cert.KernelWkvIdeal.nD Cert.KernelWkvIdeal.τ).loc Cert.KernelWkvIdeal.main_v17_1)),
      θ_run (Cert.KernelWkvIdeal.defs (F := Ideal)) (onTc (τ := Cert.KernelWkvIdeal.τ) (Cert.KernelWkvIdeal.main (F := Ideal))) ⟨m, fun _ => 0, g⟩ (fun r => ∀ c : Dev Cert.KernelWkvIdeal.nD,
          r.2.mem ((c.tc : Thread Cert.KernelWkvIdeal.nD Cert.KernelWkvIdeal.τ).loc Cert.KernelWkvIdeal.main_v17_0) = v0 c
          ∧ r.2.mem ((c.tc : Thread Cert.KernelWkvIdeal.nD Cert.KernelWkvIdeal.τ).loc Cert.KernelWkvIdeal.main_v17_1) = v1 c
          ∧ r.2.mem ((c.tc : Thread Cert.KernelWkvIdeal.nD Cert.KernelWkvIdeal.τ).loc Cert.KernelWkvIdeal.main_arg0) = m ((c.tc : Thread Cert.KernelWkvIdeal.nD Cert.KernelWkvIdeal.τ).loc Cert.KernelWkvIdeal.main_arg0)
          ∧ r.2.mem ((c.tc : Thread Cert.KernelWkvIdeal.nD Cert.KernelWkvIdeal.τ).loc Cert.KernelWkvIdeal.main_arg1) = m ((c.tc : Thread Cert.KernelWkvIdeal.nD Cert.KernelWkvIdeal.τ).loc Cert.KernelWkvIdeal.main_arg1)
          ∧ r.2.mem ((c.tc : Thread Cert.KernelWkvIdeal.nD Cert.KernelWkvIdeal.τ).loc Cert.KernelWkvIdeal.main_arg2) = m ((c.tc : Thread Cert.KernelWkvIdeal.nD Cert.KernelWkvIdeal.τ).loc Cert.KernelWkvIdeal.main_arg2)
          ∧ r.2.mem ((c.tc : Thread Cert.KernelWkvIdeal.nD Cert.KernelWkvIdeal.τ).loc Cert.KernelWkvIdeal.main_arg3) = m ((c.tc : Thread Cert.KernelWkvIdeal.nD Cert.KernelWkvIdeal.τ).loc Cert.KernelWkvIdeal.main_arg3)
          ∧ r.2.mem ((c.tc : Thread Cert.KernelWkvIdeal.nD Cert.KernelWkvIdeal.τ).loc Cert.KernelWkvIdeal.main_arg4) = m ((c.tc : Thread Cert.KernelWkvIdeal.nD Cert.KernelWkvIdeal.τ).loc Cert.KernelWkvIdeal.main_arg4)
          ∧ r.2.mem ((c.tc : Thread Cert.KernelWkvIdeal.nD Cert.KernelWkvIdeal.τ).loc Cert.KernelWkvIdeal.main_arg5) = m ((c.tc : Thread Cert.KernelWkvIdeal.nD Cert.KernelWkvIdeal.τ).loc Cert.KernelWkvIdeal.main_arg5)
          ∧ r.2.mem ((c.tc : Thread Cert.KernelWkvIdeal.nD Cert.KernelWkvIdeal.τ).loc Cert.KernelWkvIdeal.main_arg6) = m ((c.tc : Thread Cert.KernelWkvIdeal.nD Cert.KernelWkvIdeal.τ).loc Cert.KernelWkvIdeal.main_arg6)
          ∧ r.2.mem ((c.tc : Thread Cert.KernelWkvIdeal.nD Cert.KernelWkvIdeal.τ).loc Cert.KernelWkvIdeal.main_arg7) = m ((c.tc : Thread Cert.KernelWkvIdeal.nD Cert.KernelWkvIdeal.τ).loc Cert.KernelWkvIdeal.main_arg7)
          ∧ r.2.mem ((c.tc : Thread Cert.KernelWkvIdeal.nD Cert.KernelWkvIdeal.τ).loc Cert.KernelWkvIdeal.main_arg8) = m ((c.tc : Thread Cert.KernelWkvIdeal.nD Cert.KernelWkvIdeal.τ).loc Cert.KernelWkvIdeal.main_arg8)
          ∧ r.2.mem ((c.tc : Thread Cert.KernelWkvIdeal.nD Cert.KernelWkvIdeal.τ).loc Cert.KernelWkvIdeal.main_arg9) = m ((c.tc : Thread Cert.KernelWkvIdeal.nD Cert.KernelWkvIdeal.τ).loc Cert.KernelWkvIdeal.main_arg9))
      ∧ θ_run (Cert.ReferenceWkvIdeal.defs (F := Ideal)) (onTc (τ := Cert.ReferenceWkvIdeal.τ) (Cert.ReferenceWkvIdeal.main (F := Ideal))) ⟨m', fun _ => 0, g'⟩ (fun r => ∀ c : Dev Cert.ReferenceWkvIdeal.nD,
          r.2.mem ((c.tc : Thread Cert.ReferenceWkvIdeal.nD Cert.ReferenceWkvIdeal.τ).loc Cert.ReferenceWkvIdeal.main_v561) = v0 c
          ∧ r.2.mem ((c.tc : Thread Cert.ReferenceWkvIdeal.nD Cert.ReferenceWkvIdeal.τ).loc Cert.ReferenceWkvIdeal.main_v562) = v1 c
          ∧ r.2.mem ((c.tc : Thread Cert.ReferenceWkvIdeal.nD Cert.ReferenceWkvIdeal.τ).loc Cert.ReferenceWkvIdeal.main_arg0) = m' ((c.tc : Thread Cert.ReferenceWkvIdeal.nD Cert.ReferenceWkvIdeal.τ).loc Cert.ReferenceWkvIdeal.main_arg0)
          ∧ r.2.mem ((c.tc : Thread Cert.ReferenceWkvIdeal.nD Cert.ReferenceWkvIdeal.τ).loc Cert.ReferenceWkvIdeal.main_arg1) = m' ((c.tc : Thread Cert.ReferenceWkvIdeal.nD Cert.ReferenceWkvIdeal.τ).loc Cert.ReferenceWkvIdeal.main_arg1)
          ∧ r.2.mem ((c.tc : Thread Cert.ReferenceWkvIdeal.nD Cert.ReferenceWkvIdeal.τ).loc Cert.ReferenceWkvIdeal.main_arg2) = m' ((c.tc : Thread Cert.ReferenceWkvIdeal.nD Cert.ReferenceWkvIdeal.τ).loc Cert.ReferenceWkvIdeal.main_arg2)
          ∧ r.2.mem ((c.tc : Thread Cert.ReferenceWkvIdeal.nD Cert.ReferenceWkvIdeal.τ).loc Cert.ReferenceWkvIdeal.main_arg3) = m' ((c.tc : Thread Cert.ReferenceWkvIdeal.nD Cert.ReferenceWkvIdeal.τ).loc Cert.ReferenceWkvIdeal.main_arg3)
          ∧ r.2.mem ((c.tc : Thread Cert.ReferenceWkvIdeal.nD Cert.ReferenceWkvIdeal.τ).loc Cert.ReferenceWkvIdeal.main_arg4) = m' ((c.tc : Thread Cert.ReferenceWkvIdeal.nD Cert.ReferenceWkvIdeal.τ).loc Cert.ReferenceWkvIdeal.main_arg4)
          ∧ r.2.mem ((c.tc : Thread Cert.ReferenceWkvIdeal.nD Cert.ReferenceWkvIdeal.τ).loc Cert.ReferenceWkvIdeal.main_arg5) = m' ((c.tc : Thread Cert.ReferenceWkvIdeal.nD Cert.ReferenceWkvIdeal.τ).loc Cert.ReferenceWkvIdeal.main_arg5)
          ∧ r.2.mem ((c.tc : Thread Cert.ReferenceWkvIdeal.nD Cert.ReferenceWkvIdeal.τ).loc Cert.ReferenceWkvIdeal.main_arg6) = m' ((c.tc : Thread Cert.ReferenceWkvIdeal.nD Cert.ReferenceWkvIdeal.τ).loc Cert.ReferenceWkvIdeal.main_arg6)
          ∧ r.2.mem ((c.tc : Thread Cert.ReferenceWkvIdeal.nD Cert.ReferenceWkvIdeal.τ).loc Cert.ReferenceWkvIdeal.main_arg7) = m' ((c.tc : Thread Cert.ReferenceWkvIdeal.nD Cert.ReferenceWkvIdeal.τ).loc Cert.ReferenceWkvIdeal.main_arg7)
          ∧ r.2.mem ((c.tc : Thread Cert.ReferenceWkvIdeal.nD Cert.ReferenceWkvIdeal.τ).loc Cert.ReferenceWkvIdeal.main_arg8) = m' ((c.tc : Thread Cert.ReferenceWkvIdeal.nD Cert.ReferenceWkvIdeal.τ).loc Cert.ReferenceWkvIdeal.main_arg8)
          ∧ r.2.mem ((c.tc : Thread Cert.ReferenceWkvIdeal.nD Cert.ReferenceWkvIdeal.τ).loc Cert.ReferenceWkvIdeal.main_arg9) = m' ((c.tc : Thread Cert.ReferenceWkvIdeal.nD Cert.ReferenceWkvIdeal.τ).loc Cert.ReferenceWkvIdeal.main_arg9))

def Claim : Prop :=
  ∃ (hKernel : Cert.Kernel.Facts) (hKernelIdeal : Cert.KernelIdeal.Facts) (hReferenceIdeal : Cert.ReferenceIdeal.Facts) (hKernelCached : Cert.KernelCached.Facts) (hKernelCachedIdeal : Cert.KernelCachedIdeal.Facts) (hReferenceCachedIdeal : Cert.ReferenceCachedIdeal.Facts) (hKernelFfn : Cert.KernelFfn.Facts) (hKernelFfnIdeal : Cert.KernelFfnIdeal.Facts) (hReferenceFfnIdeal : Cert.ReferenceFfnIdeal.Facts) (hKernelNormMm : Cert.KernelNormMm.Facts) (hKernelNormMmIdeal : Cert.KernelNormMmIdeal.Facts) (hReferenceNormMmIdeal : Cert.ReferenceNormMmIdeal.Facts) (hKernelProj : Cert.KernelProj.Facts) (hKernelProjIdeal : Cert.KernelProjIdeal.Facts) (hReferenceProjIdeal : Cert.ReferenceProjIdeal.Facts) (hKernelGated : Cert.KernelGated.Facts) (hKernelGatedIdeal : Cert.KernelGatedIdeal.Facts) (hReferenceGatedIdeal : Cert.ReferenceGatedIdeal.Facts) (hKernelNorm : Cert.KernelNorm.Facts) (hKernelNormIdeal : Cert.KernelNormIdeal.Facts) (hReferenceNormIdeal : Cert.ReferenceNormIdeal.Facts) (hKernelRkv : Cert.KernelRkv.Facts) (hKernelRkvIdeal : Cert.KernelRkvIdeal.Facts) (hReferenceRkvIdeal : Cert.ReferenceRkvIdeal.Facts) (hKernelLora : Cert.KernelLora.Facts) (hKernelLoraIdeal : Cert.KernelLoraIdeal.Facts) (hReferenceLoraIdeal : Cert.ReferenceLoraIdeal.Facts) (hKernelHgrn : Cert.KernelHgrn.Facts) (hKernelHgrnIdeal : Cert.KernelHgrnIdeal.Facts) (hReferenceHgrnIdeal : Cert.ReferenceHgrnIdeal.Facts) (hKernelWkv : Cert.KernelWkv.Facts) (hKernelWkvIdeal : Cert.KernelWkvIdeal.Facts) (hReferenceWkvIdeal : Cert.ReferenceWkvIdeal.Facts) (hPre_scores_finite : Cert.Pre_scores_finite.Facts) (hPre_bound_finite : Cert.Pre_bound_finite.Facts) (hPre_inputs_finite : Cert.Pre_inputs_finite.Facts),
    quiescent_Kernel (hKernel := hKernel)
    ∧ quiescent_KernelIdeal (hKernelIdeal := hKernelIdeal)
    ∧ quiescent_KernelIdeal_pre_scores_finite (hKernelIdeal := hKernelIdeal) (hPre_scores_finite := hPre_scores_finite)
    ∧ quiescent_ReferenceIdeal (hReferenceIdeal := hReferenceIdeal)
    ∧ quiescent_ReferenceIdeal_pre_scores_finite (hReferenceIdeal := hReferenceIdeal) (hPre_scores_finite := hPre_scores_finite)
    ∧ quiescent_KernelCached (hKernelCached := hKernelCached)
    ∧ quiescent_KernelCachedIdeal (hKernelCachedIdeal := hKernelCachedIdeal)
    ∧ quiescent_ReferenceCachedIdeal (hReferenceCachedIdeal := hReferenceCachedIdeal)
    ∧ quiescent_KernelFfn (hKernelFfn := hKernelFfn)
    ∧ quiescent_KernelFfnIdeal (hKernelFfnIdeal := hKernelFfnIdeal)
    ∧ quiescent_ReferenceFfnIdeal (hReferenceFfnIdeal := hReferenceFfnIdeal)
    ∧ quiescent_KernelNormMm (hKernelNormMm := hKernelNormMm)
    ∧ quiescent_KernelNormMmIdeal (hKernelNormMmIdeal := hKernelNormMmIdeal)
    ∧ quiescent_ReferenceNormMmIdeal (hReferenceNormMmIdeal := hReferenceNormMmIdeal)
    ∧ quiescent_KernelProj (hKernelProj := hKernelProj)
    ∧ quiescent_KernelProjIdeal (hKernelProjIdeal := hKernelProjIdeal)
    ∧ quiescent_ReferenceProjIdeal (hReferenceProjIdeal := hReferenceProjIdeal)
    ∧ quiescent_KernelGated (hKernelGated := hKernelGated)
    ∧ quiescent_KernelGatedIdeal (hKernelGatedIdeal := hKernelGatedIdeal)
    ∧ quiescent_ReferenceGatedIdeal (hReferenceGatedIdeal := hReferenceGatedIdeal)
    ∧ quiescent_KernelNorm (hKernelNorm := hKernelNorm)
    ∧ quiescent_KernelNormIdeal (hKernelNormIdeal := hKernelNormIdeal)
    ∧ quiescent_ReferenceNormIdeal (hReferenceNormIdeal := hReferenceNormIdeal)
    ∧ quiescent_KernelRkv (hKernelRkv := hKernelRkv)
    ∧ quiescent_KernelRkvIdeal (hKernelRkvIdeal := hKernelRkvIdeal)
    ∧ quiescent_ReferenceRkvIdeal (hReferenceRkvIdeal := hReferenceRkvIdeal)
    ∧ quiescent_KernelLora (hKernelLora := hKernelLora)
    ∧ quiescent_KernelLoraIdeal (hKernelLoraIdeal := hKernelLoraIdeal)
    ∧ quiescent_ReferenceLoraIdeal (hReferenceLoraIdeal := hReferenceLoraIdeal)
    ∧ quiescent_KernelHgrn (hKernelHgrn := hKernelHgrn)
    ∧ quiescent_KernelHgrnIdeal (hKernelHgrnIdeal := hKernelHgrnIdeal)
    ∧ quiescent_KernelHgrnIdeal_pre_bound_finite (hKernelHgrnIdeal := hKernelHgrnIdeal) (hPre_bound_finite := hPre_bound_finite)
    ∧ quiescent_ReferenceHgrnIdeal (hReferenceHgrnIdeal := hReferenceHgrnIdeal)
    ∧ quiescent_ReferenceHgrnIdeal_pre_bound_finite (hReferenceHgrnIdeal := hReferenceHgrnIdeal) (hPre_bound_finite := hPre_bound_finite)
    ∧ quiescent_KernelWkv (hKernelWkv := hKernelWkv)
    ∧ quiescent_KernelWkvIdeal (hKernelWkvIdeal := hKernelWkvIdeal)
    ∧ quiescent_KernelWkvIdeal_pre_inputs_finite (hKernelWkvIdeal := hKernelWkvIdeal) (hPre_inputs_finite := hPre_inputs_finite)
    ∧ quiescent_ReferenceWkvIdeal (hReferenceWkvIdeal := hReferenceWkvIdeal)
    ∧ quiescent_ReferenceWkvIdeal_pre_inputs_finite (hReferenceWkvIdeal := hReferenceWkvIdeal) (hPre_inputs_finite := hPre_inputs_finite)
    ∧ preserves_Kernel_KernelIdeal
    ∧ algebraic_KernelIdeal_ReferenceIdeal_pre_scores_finite (hKernelIdeal := hKernelIdeal) (hReferenceIdeal := hReferenceIdeal) (hPre_scores_finite := hPre_scores_finite)
    ∧ preserves_KernelCached_KernelCachedIdeal
    ∧ algebraic_KernelCachedIdeal_ReferenceCachedIdeal (hKernelCachedIdeal := hKernelCachedIdeal) (hReferenceCachedIdeal := hReferenceCachedIdeal)
    ∧ preserves_KernelFfn_KernelFfnIdeal
    ∧ algebraic_KernelFfnIdeal_ReferenceFfnIdeal (hKernelFfnIdeal := hKernelFfnIdeal) (hReferenceFfnIdeal := hReferenceFfnIdeal)
    ∧ preserves_KernelNormMm_KernelNormMmIdeal
    ∧ algebraic_KernelNormMmIdeal_ReferenceNormMmIdeal (hKernelNormMmIdeal := hKernelNormMmIdeal) (hReferenceNormMmIdeal := hReferenceNormMmIdeal)
    ∧ preserves_KernelProj_KernelProjIdeal
    ∧ algebraic_KernelProjIdeal_ReferenceProjIdeal (hKernelProjIdeal := hKernelProjIdeal) (hReferenceProjIdeal := hReferenceProjIdeal)
    ∧ preserves_KernelGated_KernelGatedIdeal
    ∧ algebraic_KernelGatedIdeal_ReferenceGatedIdeal (hKernelGatedIdeal := hKernelGatedIdeal) (hReferenceGatedIdeal := hReferenceGatedIdeal)
    ∧ preserves_KernelNorm_KernelNormIdeal
    ∧ algebraic_KernelNormIdeal_ReferenceNormIdeal (hKernelNormIdeal := hKernelNormIdeal) (hReferenceNormIdeal := hReferenceNormIdeal)
    ∧ preserves_KernelRkv_KernelRkvIdeal
    ∧ algebraic_KernelRkvIdeal_ReferenceRkvIdeal (hKernelRkvIdeal := hKernelRkvIdeal) (hReferenceRkvIdeal := hReferenceRkvIdeal)
    ∧ preserves_KernelLora_KernelLoraIdeal
    ∧ algebraic_KernelLoraIdeal_ReferenceLoraIdeal (hKernelLoraIdeal := hKernelLoraIdeal) (hReferenceLoraIdeal := hReferenceLoraIdeal)
    ∧ preserves_KernelHgrn_KernelHgrnIdeal
    ∧ algebraic_KernelHgrnIdeal_ReferenceHgrnIdeal_pre_bound_finite (hKernelHgrnIdeal := hKernelHgrnIdeal) (hReferenceHgrnIdeal := hReferenceHgrnIdeal) (hPre_bound_finite := hPre_bound_finite)
    ∧ preserves_KernelWkv_KernelWkvIdeal
    ∧ algebraic_KernelWkvIdeal_ReferenceWkvIdeal_pre_inputs_finite (hKernelWkvIdeal := hKernelWkvIdeal) (hReferenceWkvIdeal := hReferenceWkvIdeal) (hPre_inputs_finite := hPre_inputs_finite)
-- ==== Pre_bound_finite.lean ====
abbrev S128x8192 : Shape := ⟨2, ![128, 8192]⟩
abbrev S2048 : Shape := ⟨1, ![2048]⟩
abbrev S8x16x128x128 : Shape := ⟨4, ![8, 16, 128, 128]⟩
abbrev S_ : Shape := ⟨0, ![]⟩

class Facts : Prop where
  bcast_S_S2048 : S_.BroadcastsInDim S2048 (![] : Fin 0 → Fin S2048.rank)

variable [Facts]

def fn {F : FTy → Type} [FloatOps F] (main_arg0 : FVec F S128x8192 .f32) (main_arg1 : FVec F S2048 .f32) (main_arg2 : FVec F S8x16x128x128 .f32) : IVec S2048 1 :=
  let main_cst : FVec F S_ .f32 := constant S_ .f32 0x7F800000#32
  let main_v0 : FVec F S2048 .f32 := broadcastInDim S2048 ![] bcast_S_S2048 main_cst
  let main_v1 : IVec S2048 1 := cmpf .olt main_arg1 main_v0
  main_v1
-- ==== Pre_inputs_finite.lean ====
abbrev S3x128x2048 : Shape := ⟨3, ![3, 128, 2048]⟩
abbrev S128x2048 : Shape := ⟨2, ![128, 2048]⟩
abbrev S2048 : Shape := ⟨1, ![2048]⟩
abbrev S32x64 : Shape := ⟨2, ![32, 64]⟩
abbrev S8x32x64x64 : Shape := ⟨4, ![8, 32, 64, 64]⟩
abbrev S_ : Shape := ⟨0, ![]⟩

class Facts : Prop where
  bcast_S_S3x128x2048 : S_.BroadcastsInDim S3x128x2048 (![] : Fin 0 → Fin S3x128x2048.rank)
  bcast_S_S128x2048 : S_.BroadcastsInDim S128x2048 (![] : Fin 0 → Fin S128x2048.rank)
  bcast_S_S2048 : S_.BroadcastsInDim S2048 (![] : Fin 0 → Fin S2048.rank)
  bcast_S_S32x64 : S_.BroadcastsInDim S32x64 (![] : Fin 0 → Fin S32x64.rank)
  bcast_S_S8x32x64x64 : S_.BroadcastsInDim S8x32x64x64 (![] : Fin 0 → Fin S8x32x64x64.rank)

variable [Facts]

def fn_part2 {F : FTy → Type} [FloatOps F] (main_v4 : IVec S3x128x2048 1) (main_v9 : IVec S128x2048 1) (main_v14 : IVec S128x2048 1) (main_v19 : IVec S2048 1) (main_v24 : IVec S2048 1) (main_v29 : IVec S32x64 1) (main_v31 : IVec S8x32x64x64 1) (main_v33 : IVec S8x32x64x64 1) : IVec S3x128x2048 1 × IVec S128x2048 1 × IVec S128x2048 1 × IVec S2048 1 × IVec S2048 1 × IVec S32x64 1 × IVec S8x32x64x64 1 :=
  let main_v34 : IVec S8x32x64x64 1 := andi main_v31 main_v33
  (main_v4, main_v9, main_v14, main_v19, main_v24, main_v29, main_v34)

def fn_part1 {F : FTy → Type} [FloatOps F] (main_arg4 : FVec F S2048 .f32) (main_arg5 : FVec F S2048 .f32) (main_arg6 : FVec F S32x64 .f32) (main_arg9 : FVec F S8x32x64x64 .f32) (main_v4 : IVec S3x128x2048 1) (main_v9 : IVec S128x2048 1) (main_v14 : IVec S128x2048 1) (main_v16 : IVec S2048 1) : IVec S3x128x2048 1 × IVec S128x2048 1 × IVec S128x2048 1 × IVec S2048 1 × IVec S2048 1 × IVec S32x64 1 × IVec S8x32x64x64 1 :=
  let main_cst_6 : FVec F S_ .f32 := constant S_ .f32 0x7F800000#32
  let main_v17 : FVec F S2048 .f32 := broadcastInDim S2048 ![] bcast_S_S2048 main_cst_6
  let main_v18 : IVec S2048 1 := cmpf .olt main_arg4 main_v17
  let main_v19 : IVec S2048 1 := andi main_v16 main_v18
  let main_cst_7 : FVec F S_ .f32 := constant S_ .f32 0xFF800000#32
  let main_v20 : FVec F S2048 .f32 := broadcastInDim S2048 ![] bcast_S_S2048 main_cst_7
  let main_v21 : IVec S2048 1 := cmpf .ogt main_arg5 main_v20
  let main_cst_8 : FVec F S_ .f32 := constant S_ .f32 0x7F800000#32
  let main_v22 : FVec F S2048 .f32 := broadcastInDim S2048 ![] bcast_S_S2048 main_cst_8
  let main_v23 : IVec S2048 1 := cmpf .olt main_arg5 main_v22
  let main_v24 : IVec S2048 1 := andi main_v21 main_v23
  let main_cst_9 : FVec F S_ .f32 := constant S_ .f32 0xFF800000#32
  let main_v25 : FVec F S32x64 .f32 := broadcastInDim S32x64 ![] bcast_S_S32x64 main_cst_9
  let main_v26 : IVec S32x64 1 := cmpf .ogt main_arg6 main_v25
  let main_cst_10 : FVec F S_ .f32 := constant S_ .f32 0x7F800000#32
  let main_v27 : FVec F S32x64 .f32 := broadcastInDim S32x64 ![] bcast_S_S32x64 main_cst_10
  let main_v28 : IVec S32x64 1 := cmpf .olt main_arg6 main_v27
  let main_v29 : IVec S32x64 1 := andi main_v26 main_v28
  let main_cst_11 : FVec F S_ .f32 := constant S_ .f32 0xFF800000#32
  let main_v30 : FVec F S8x32x64x64 .f32 := broadcastInDim S8x32x64x64 ![] bcast_S_S8x32x64x64 main_cst_11
  let main_v31 : IVec S8x32x64x64 1 := cmpf .ogt main_arg9 main_v30
  let main_cst_12 : FVec F S_ .f32 := constant S_ .f32 0x7F800000#32
  let main_v32 : FVec F S8x32x64x64 .f32 := broadcastInDim S8x32x64x64 ![] bcast_S_S8x32x64x64 main_cst_12
  let main_v33 : IVec S8x32x64x64 1 := cmpf .olt main_arg9 main_v32
  fn_part2 (F := F) main_v4 main_v9 main_v14 main_v19 main_v24 main_v29 main_v31 main_v33

def fn {F : FTy → Type} [FloatOps F] (main_arg0 : FVec F S3x128x2048 .f32) (main_arg1 : FVec F S128x2048 .f32) (main_arg2 : FVec F S128x2048 .f32) (main_arg3 : FVec F S128x2048 .f32) (main_arg4 : FVec F S2048 .f32) (main_arg5 : FVec F S2048 .f32) (main_arg6 : FVec F S32x64 .f32) (main_arg7 : FVec F S2048 .f32) (main_arg8 : FVec F S2048 .f32) (main_arg9 : FVec F S8x32x64x64 .f32) : IVec S3x128x2048 1 × IVec S128x2048 1 × IVec S128x2048 1 × IVec S2048 1 × IVec S2048 1 × IVec S32x64 1 × IVec S8x32x64x64 1 :=
  let main_cst : FVec F S_ .f32 := constant S_ .f32 0xFF800000#32
  let main_v0 : FVec F S3x128x2048 .f32 := broadcastInDim S3x128x2048 ![] bcast_S_S3x128x2048 main_cst
  let main_v1 : IVec S3x128x2048 1 := cmpf .ogt main_arg0 main_v0
  let main_cst_0 : FVec F S_ .f32 := constant S_ .f32 0x7F800000#32
  let main_v2 : FVec F S3x128x2048 .f32 := broadcastInDim S3x128x2048 ![] bcast_S_S3x128x2048 main_cst_0
  let main_v3 : IVec S3x128x2048 1 := cmpf .olt main_arg0 main_v2
  let main_v4 : IVec S3x128x2048 1 := andi main_v1 main_v3
  let main_cst_1 : FVec F S_ .f32 := constant S_ .f32 0xFF800000#32
  let main_v5 : FVec F S128x2048 .f32 := broadcastInDim S128x2048 ![] bcast_S_S128x2048 main_cst_1
  let main_v6 : IVec S128x2048 1 := cmpf .ogt main_arg1 main_v5
  let main_cst_2 : FVec F S_ .f32 := constant S_ .f32 0x7F800000#32
  let main_v7 : FVec F S128x2048 .f32 := broadcastInDim S128x2048 ![] bcast_S_S128x2048 main_cst_2
  let main_v8 : IVec S128x2048 1 := cmpf .olt main_arg1 main_v7
  let main_v9 : IVec S128x2048 1 := andi main_v6 main_v8
  let main_cst_3 : FVec F S_ .f32 := constant S_ .f32 0xFF800000#32
  let main_v10 : FVec F S128x2048 .f32 := broadcastInDim S128x2048 ![] bcast_S_S128x2048 main_cst_3
  let main_v11 : IVec S128x2048 1 := cmpf .ogt main_arg2 main_v10
  let main_cst_4 : FVec F S_ .f32 := constant S_ .f32 0x7F800000#32
  let main_v12 : FVec F S128x2048 .f32 := broadcastInDim S128x2048 ![] bcast_S_S128x2048 main_cst_4
  let main_v13 : IVec S128x2048 1 := cmpf .olt main_arg2 main_v12
  let main_v14 : IVec S128x2048 1 := andi main_v11 main_v13
  let main_cst_5 : FVec F S_ .f32 := constant S_ .f32 0xFF800000#32
  let main_v15 : FVec F S2048 .f32 := broadcastInDim S2048 ![] bcast_S_S2048 main_cst_5
  let main_v16 : IVec S2048 1 := cmpf .ogt main_arg4 main_v15
  fn_part1 (F := F) main_arg4 main_arg5 main_arg6 main_arg9 main_v4 main_v9 main_v14 main_v16
-- ==== Pre_scores_finite.lean ====
abbrev S16384x6144 : Shape := ⟨2, ![16384, 6144]⟩
abbrev S32x257 : Shape := ⟨2, ![32, 257]⟩
abbrev S16384x4096 : Shape := ⟨2, ![16384, 4096]⟩
abbrev S_ : Shape := ⟨0, ![]⟩

class Facts : Prop where
  slices_S16384x6144_S16384x4096_0_0 : S16384x6144.Slices ![0, 0] S16384x4096
  bcast_S_S16384x4096 : S_.BroadcastsInDim S16384x4096 (![] : Fin 0 → Fin S16384x4096.rank)
  bcast_S_S32x257 : S_.BroadcastsInDim S32x257 (![] : Fin 0 → Fin S32x257.rank)

variable [Facts]

def fn {F : FTy → Type} [FloatOps F] (main_arg0 : FVec F S16384x6144 .f32) (main_arg1 : FVec F S32x257 .f32) : IVec S16384x4096 1 × IVec S32x257 1 :=
  let main_v0 : FVec F S16384x4096 .f32 := (extractStridedSlice S16384x4096 ![0, 0] · slices_S16384x6144_S16384x4096_0_0) main_arg0
  let main_cst : FVec F S_ .f32 := constant S_ .f32 0xFF800000#32
  let main_v1 : FVec F S16384x4096 .f32 := broadcastInDim S16384x4096 ![] bcast_S_S16384x4096 main_cst
  let main_v2 : IVec S16384x4096 1 := cmpf .ogt main_v0 main_v1
  let main_cst_0 : FVec F S_ .f32 := constant S_ .f32 0x7F800000#32
  let main_v3 : FVec F S16384x4096 .f32 := broadcastInDim S16384x4096 ![] bcast_S_S16384x4096 main_cst_0
  let main_v4 : IVec S16384x4096 1 := cmpf .olt main_v0 main_v3
  let main_v5 : IVec S16384x4096 1 := andi main_v2 main_v4
  let main_cst_1 : FVec F S_ .f32 := constant S_ .f32 0xFF800000#32
  let main_v6 : FVec F S32x257 .f32 := broadcastInDim S32x257 ![] bcast_S_S32x257 main_cst_1
  let main_v7 : IVec S32x257 1 := cmpf .ogt main_arg1 main_v6
  let main_cst_2 : FVec F S_ .f32 := constant S_ .f32 0x7F800000#32
  let main_v8 : FVec F S32x257 .f32 := broadcastInDim S32x257 ![] bcast_S_S32x257 main_cst_2
  let main_v9 : IVec S32x257 1 := cmpf .olt main_arg1 main_v8
  let main_v10 : IVec S32x257 1 := andi main_v7 main_v9
  (main_v5, main_v10)
-- ==== Kernel.lean ====
abbrev S16384x6144 : Shape := ⟨2, ![16384, 6144]⟩
abbrev S32x257 : Shape := ⟨2, ![32, 257]⟩
abbrev S64 : Shape := ⟨1, ![64]⟩
abbrev S64x1 : Shape := ⟨2, ![64, 1]⟩
abbrev S576 : Shape := ⟨1, ![576]⟩
abbrev S1x576 : Shape := ⟨2, ![1, 576]⟩
abbrev S64x576 : Shape := ⟨2, ![64, 576]⟩
abbrev S_ : Shape := ⟨0, ![]⟩
abbrev S64x576x1 : Shape := ⟨3, ![64, 576, 1]⟩
abbrev S32x64x576 : Shape := ⟨3, ![32, 64, 576]⟩
abbrev S16384x2048 : Shape := ⟨2, ![16384, 2048]⟩
abbrev S512x128 : Shape := ⟨2, ![512, 128]⟩
abbrev S2x64x576 : Shape := ⟨3, ![2, 64, 576]⟩
abbrev S1024x128 : Shape := ⟨2, ![1024, 128]⟩
abbrev S64x128 : Shape := ⟨2, ![64, 128]⟩
abbrev S576x128 : Shape := ⟨2, ![576, 128]⟩
abbrev S1x64x576 : Shape := ⟨3, ![1, 64, 576]⟩

abbrev nBuf : Space → Nat
  | .hbm => 33
  | .vmem => 16
  | .smem => 0
  | _ => 0

abbrev bufTy : (tb : Table) → Fin (tcTables nBuf tb) → BufTy
  | .hbm, ⟨0, _⟩ => ⟨S16384x6144, .f32⟩
  | .hbm, ⟨1, _⟩ => ⟨S32x257, .f32⟩
  | .hbm, ⟨2, _⟩ => ⟨S64, .i32⟩
  | .hbm, ⟨3, _⟩ => ⟨S64x1, .i32⟩
  | .hbm, ⟨4, _⟩ => ⟨S576, .i32⟩
  | .hbm, ⟨5, _⟩ => ⟨S1x576, .i32⟩
  | .hbm, ⟨6, _⟩ => ⟨S64x576, .i32⟩
  | .hbm, ⟨7, _⟩ => ⟨S64x576, .i32⟩
  | .hbm, ⟨8, _⟩ => ⟨S64x576, .i32⟩
  | .hbm, ⟨9, _⟩ => ⟨S_, .i32⟩
  | .hbm, ⟨10, _⟩ => ⟨S64x576, .i32⟩
  | .hbm, ⟨11, _⟩ => ⟨S64x576, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S64x576, .i32⟩
  | .hbm, ⟨16, _⟩ => ⟨S64x576, .i32⟩
  | .hbm, ⟨17, _⟩ => ⟨S_, .i32⟩
  | .hbm, ⟨18, _⟩ => ⟨S64x576, .i32⟩
  | .hbm, ⟨19, _⟩ => ⟨S64x576, .i32⟩
  | .hbm, ⟨20, _⟩ => ⟨S_, .i32⟩
  | .hbm, ⟨21, _⟩ => ⟨S64x576, .i32⟩
  | .hbm, ⟨22, _⟩ => ⟨S64x576, .i32⟩
  | .hbm, ⟨23, _⟩ => ⟨S_, .i32⟩
  | .hbm, ⟨24, _⟩ => ⟨S64x576, .i32⟩
  | .hbm, ⟨25, _⟩ => ⟨S64x576, .i1⟩
  | .hbm, ⟨26, _⟩ => ⟨S_, .i32⟩
  | .hbm, ⟨27, _⟩ => ⟨S64x576, .i32⟩
  | .hbm, ⟨28, _⟩ => ⟨S64x576, .i32⟩
  | .hbm, ⟨29, _⟩ => ⟨S64x576, .i32⟩
  | .hbm, ⟨30, _⟩ => ⟨S64x576x1, .i32⟩
  | .hbm, ⟨31, _⟩ => ⟨S32x64x576, .f32⟩
  | .hbm, ⟨32, _⟩ => ⟨S16384x2048, .f32⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S2x64x576, .f32⟩
  | .local _ .vmem, ⟨11, _⟩ => ⟨S2x64x576, .f32⟩
  | .local _ .vmem, ⟨12, _⟩ => ⟨S512x128, .f32⟩
  | .local _ .vmem, ⟨13, _⟩ => ⟨S512x128, .f32⟩
  | .local _ .vmem, ⟨14, _⟩ => ⟨S1024x128, .bf16⟩
  | .local _ .vmem, ⟨15, _⟩ => ⟨S1024x128, .bf16⟩
  | _, _ => ⟨S16384x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_c : Ref sig .tc := ⟨.hbm, 9, rfl⟩
abbrev main_v7 : Ref sig .tc := ⟨.hbm, 10, rfl⟩
abbrev main_v8 : Ref sig .tc := ⟨.hbm, 11, rfl⟩
abbrev main_c_0 : Ref sig .tc := ⟨.hbm, 12, rfl⟩
abbrev main_c_1 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_v9 : Ref sig .tc := ⟨.hbm, 19, rfl⟩
abbrev main_c_2 : Ref sig .tc := ⟨.hbm, 20, rfl⟩
abbrev main_v10 : Ref sig .tc := ⟨.hbm, 21, rfl⟩
abbrev main_v11 : Ref sig .tc := ⟨.hbm, 22, rfl⟩
abbrev main_c_3 : Ref sig .tc := ⟨.hbm, 23, rfl⟩
abbrev main_v12 : Ref sig .tc := ⟨.hbm, 24, rfl⟩
abbrev main_v13 : Ref sig .tc := ⟨.hbm, 25, rfl⟩
abbrev main_c_4 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![16, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c16_i32 : BitVec 32 := 16#32
  let v2 : BitVec 32 := Scalar.addi c16_i32 arg0
  let c0_i32_0 : BitVec 32 := 0#32
  ![v1.toNat, v2.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c32_i32 : BitVec 32 := 32#32
  let v2 : BitVec 32 := Scalar.addi c32_i32 arg0
  let c0_i32_0 : BitVec 32 := 0#32
  ![v1.toNat, v2.toNat]

def cc0_transform_4 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg0
  let c0_i32 : BitVec 32 := 0#32
  ![arg1.toNat, v0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2x64x576 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S16384x6144 : Shape := ⟨2, ![16384, 6144]⟩
abbrev S32x257 : Shape := ⟨2, ![32, 257]⟩
abbrev S1x16384x3x32x64 : Shape := ⟨5, ![1, 16384, 3, 32, 64]⟩
abbrev S1x16384x1x32x64 : Shape := ⟨5, ![1, 16384, 1, 32, 64]⟩
abbrev S1x16384x32x64 : Shape := ⟨4, ![1, 16384, 32, 64]⟩
abbrev S_ : Shape := ⟨0, ![]⟩
abbrev S1x16896x32x64 : Shape := ⟨4, ![1, 16896, 32, 64]⟩
abbrev S576 : Shape := ⟨1, ![576]⟩
abbrev S64 : Shape := ⟨1, ![64]⟩
abbrev S64x1 : Shape := ⟨2, ![64, 1]⟩
abbrev S1x576 : Shape := ⟨2, ![1, 576]⟩
abbrev S64x576 : Shape := ⟨2, ![64, 576]⟩
abbrev S64x576x1 : Shape := ⟨3, ![64, 576, 1]⟩
abbrev S32x64x576 : Shape := ⟨3, ![32, 64, 576]⟩
abbrev S1x256x64x32x64 : Shape := ⟨5, ![1, 256, 64, 32, 64]⟩
abbrev S256x1x64x32x64 : Shape := ⟨5, ![256, 1, 64, 32, 64]⟩
abbrev S256 : Shape := ⟨1, ![256]⟩
abbrev S256x1 : Shape := ⟨2, ![256, 1]⟩
abbrev S256x4 : Shape := ⟨2, ![256, 4]⟩
abbrev S256x1x576x32x64 : Shape := ⟨5, ![256, 1, 576, 32, 64]⟩
abbrev S256x1x32x64x576 : Shape := ⟨5, ![256, 1, 32, 64, 576]⟩
abbrev S1x32x64x576 : Shape := ⟨4, ![1, 32, 64, 576]⟩
abbrev S1x1x32x64x576 : Shape := ⟨5, ![1, 1, 32, 64, 576]⟩
abbrev S256x576 : Shape := ⟨2, ![256, 576]⟩
abbrev S256x1x1x1x576 : Shape := ⟨5, ![256, 1, 1, 1, 576]⟩
abbrev S256x1x32x64 : Shape := ⟨4, ![256, 1, 32, 64]⟩
abbrev S256x1x32x64x1 : Shape := ⟨5, ![256, 1, 32, 64, 1]⟩
abbrev S256x1x32x64x64 : Shape := ⟨5, ![256, 1, 32, 64, 64]⟩
abbrev S16384x2048 : Shape := ⟨2, ![16384, 2048]⟩

abbrev nBuf : Space → Nat
  | .hbm => 130
  | .vmem => 0
  | .smem => 0
  | _ => 0

abbrev hbmTy0_0 (i : Nat) : BufTy := match i % 128 with
  | 0 => ⟨S16384x6144, .f32⟩
  | 1 => ⟨S32x257, .f32⟩
  | 2 => ⟨S1x16384x3x32x64, .f32⟩
  | 3 => ⟨S1x16384x1x32x64, .f32⟩
  | 4 => ⟨S1x16384x32x64, .f32⟩
  | 5 => ⟨S1x16384x1x32x64, .f32⟩
  | 6 => ⟨S1x16384x32x64, .f32⟩
  | 7 => ⟨S1x16384x1x32x64, .f32⟩
  | 8 => ⟨S1x16384x32x64, .f32⟩
  | 9 => ⟨S_, .i32⟩
  | 10 => ⟨S_, .f32⟩
  | 11 => ⟨S1x16896x32x64, .f32⟩
  | 12 => ⟨S_, .i32⟩
  | 13 => ⟨S_, .f32⟩
  | 14 => ⟨S1x16896x32x64, .f32⟩
  | 15 => ⟨S576, .i32⟩
  | 16 => ⟨S64, .i32⟩
  | 17 => ⟨S64x1, .i32⟩
  | 18 => ⟨S1x576, .i32⟩
  | 19 => ⟨S64x576, .i32⟩
  | 20 => ⟨S64x576, .i32⟩
  | 21 => ⟨S64x576, .i32⟩
  | 22 => ⟨S_, .i32⟩
  | 23 => ⟨S64x576, .i32⟩
  | 24 => ⟨S64x576, .i32⟩
  | 25 => ⟨S_, .i32⟩
  | 26 => ⟨S_, .i32⟩
  | 27 => ⟨S_, .i32⟩
  | 28 => ⟨S64x576, .i32⟩
  | 29 => ⟨S64x576, .i32⟩
  | 30 => ⟨S_, .i32⟩
  | 31 => ⟨S64x576, .i32⟩
  | 32 => ⟨S64x576, .i32⟩
  | 33 => ⟨S_, .i32⟩
  | 34 => ⟨S64x576, .i32⟩
  | 35 => ⟨S64x576, .i32⟩
  | 36 => ⟨S_, .i32⟩
  | 37 => ⟨S64x576, .i32⟩
  | 38 => ⟨S64x576, .i1⟩
  | 39 => ⟨S_, .i32⟩
  | 40 => ⟨S64x576, .i32⟩
  | 41 => ⟨S64x576, .i32⟩
  | 42 => ⟨S64x576, .i32⟩
  | 43 => ⟨S64x576x1, .i32⟩
  | 44 => ⟨S32x64x576, .f32⟩
  | 45 => ⟨S1x256x64x32x64, .f32⟩
  | 46 => ⟨S256x1x64x32x64, .f32⟩
  | 47 => ⟨S256, .i32⟩
  | 48 => ⟨S_, .i32⟩
  | 49 => ⟨S256, .i32⟩
  | 50 => ⟨S256, .i32⟩
  | 51 => ⟨S_, .i32⟩
  | 52 => ⟨S256, .i32⟩
  | 53 => ⟨S256, .i1⟩
  | 54 => ⟨S_, .i32⟩
  | 55 => ⟨S256, .i32⟩
  | 56 => ⟨S256, .i32⟩
  | 57 => ⟨S256, .i32⟩
  | 58 => ⟨S_, .i32⟩
  | 59 => ⟨S256x1, .i32⟩
  | 60 => ⟨S256x1, .i32⟩
  | 61 => ⟨S_, .i32⟩
  | 62 => ⟨S256x1, .i32⟩
  | 63 => ⟨S_, .i32⟩
  | 64 => ⟨S256x1, .i32⟩
  | 65 => ⟨S256x4, .i32⟩
  | 66 => ⟨S256x1x576x32x64, .f32⟩
  | 67 => ⟨S_, .i32⟩
  | 68 => ⟨S256, .i32⟩
  | 69 => ⟨S256, .i32⟩
  | 70 => ⟨S_, .i32⟩
  | 71 => ⟨S256, .i32⟩
  | 72 => ⟨S256, .i1⟩
  | 73 => ⟨S_, .i32⟩
  | 74 => ⟨S256, .i32⟩
  | 75 => ⟨S256, .i32⟩
  | 76 => ⟨S256, .i32⟩
  | 77 => ⟨S_, .i32⟩
  | 78 => ⟨S256x1, .i32⟩
  | 79 => ⟨S256x1, .i32⟩
  | 80 => ⟨S_, .i32⟩
  | 81 => ⟨S256x1, .i32⟩
  | 82 => ⟨S_, .i32⟩
  | 83 => ⟨S256x1, .i32⟩
  | 84 => ⟨S256x4, .i32⟩
  | 85 => ⟨S256x1x576x32x64, .f32⟩
  | 86 => ⟨S256x1x32x64x576, .f32⟩
  | 87 => ⟨S_, .f32⟩
  | 88 => ⟨S256x1x32x64x576, .f32⟩
  | 89 => ⟨S256x1x32x64x576, .f32⟩
  | 90 => ⟨S1x32x64x576, .f32⟩
  | 91 => ⟨S1x1x32x64x576, .f32⟩
  | 92 => ⟨S256x1x32x64x576, .f32⟩
  | 93 => ⟨S256x1x32x64x576, .f32⟩
  | 94 => ⟨S_, .i32⟩
  | 95 => ⟨S256, .i32⟩
  | 96 => ⟨S256, .i32⟩
  | 97 => ⟨S_, .i32⟩
  | 98 => ⟨S256, .i32⟩
  | 99 => ⟨S256, .i32⟩
  | 100 => ⟨S1x576, .i32⟩
  | 101 => ⟨S256x1, .i32⟩
  | 102 => ⟨S256x576, .i32⟩
  | 103 => ⟨S256x576, .i32⟩
  | 104 => ⟨S256x576, .i1⟩
  | 105 => ⟨S256x1x1x1x576, .i1⟩
  | 106 => ⟨S_, .f32⟩
  | 107 => ⟨S_, .f32⟩
  | 108 => ⟨S256x1x32x64x576, .i1⟩
  | 109 => ⟨S1x32x64x576, .f32⟩
  | 110 => ⟨S256x1x32x64x576, .f32⟩
  | 111 => ⟨S256x1x32x64x576, .f32⟩
  | 112 => ⟨S_, .f32⟩
  | 113 => ⟨S256x1x32x64, .f32⟩
  | 114 => ⟨S_, .f32⟩
  | 115 => ⟨S256x1x32x64, .f32⟩
  | 116 => ⟨S256x1x32x64, .f32⟩
  | 117 => ⟨S256x1x32x64x1, .f32⟩
  | 118 => ⟨S256x1x32x64x576, .f32⟩
  | 119 => ⟨S256x1x32x64x576, .f32⟩
  | 120 => ⟨S256x1x32x64x576, .f32⟩
  | 121 => ⟨S_, .f32⟩
  | 122 => ⟨S256x1x32x64, .f32⟩
  | 123 => ⟨S256x1x32x64x1, .f32⟩
  | 124 => ⟨S256x1x32x64x576, .f32⟩
  | 125 => ⟨S256x1x32x64x576, .f32⟩
  | 126 => ⟨S256x1x32x64x64, .f32⟩
  | 127 => ⟨S256x1x64x32x64, .f32⟩
  | _ => ⟨S16384x6144, .f32⟩

abbrev hbmTy0_1 (i : Nat) : BufTy := match i % 128 with
  | 0 => ⟨S1x256x64x32x64, .f32⟩
  | 1 => ⟨S16384x2048, .f32⟩
  | _ => ⟨S16384x6144, .f32⟩

abbrev hbmTy (i : Nat) : BufTy := match i / 128 with
  | 0 => hbmTy0_0 i
  | 1 => hbmTy0_1 i
  | _ => ⟨S16384x6144, .f32⟩

abbrev bufTy : (tb : Table) → Fin (tcTables nBuf tb) → BufTy
  | .hbm, ⟨i, _⟩ => hbmTy i
  | _, _ => ⟨S16384x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_c : Ref sig .tc := ⟨.hbm, 9, rfl⟩
abbrev main_call0_v0 : Ref sig .tc := ⟨.hbm, 10, rfl⟩
abbrev main_v7 : Ref sig .tc := ⟨.hbm, 11, rfl⟩
abbrev main_c_0 : Ref sig .tc := ⟨.hbm, 12, rfl⟩
abbrev main_call1_v0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_c_1 : Ref sig .tc := ⟨.hbm, 22, rfl⟩
abbrev main_v16 : Ref sig .tc := ⟨.hbm, 23, rfl⟩
abbrev main_v17 : Ref sig .tc := ⟨.hbm, 24, rfl⟩
abbrev main_c_2 : Ref sig .tc := ⟨.hbm, 25, rfl⟩
abbrev main_c_3 : Ref sig .tc := ⟨.hbm, 26, rfl⟩
abbrev main_call2_v0 : Ref sig .tc := ⟨.hbm, 27, rfl⟩
abbrev main_call2_v1 : Ref sig .tc := ⟨.hbm, 28, rfl⟩
abbrev main_call2_v2 : Ref sig .tc := ⟨.hbm, 29, rfl⟩
abbrev main_call2_v3 : Ref sig .tc := ⟨.hbm, 30, rfl⟩
abbrev main_call2_v4 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_c_5 : Ref sig .tc := ⟨.hbm, 36, rfl⟩
abbrev main_v21 : Ref sig .tc := ⟨.hbm, 37, rfl⟩
abbrev main_v22 : Ref sig .tc := ⟨.hbm, 38, rfl⟩
abbrev main_c_6 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_7 : Ref sig .tc := ⟨.hbm, 48, rfl⟩
abbrev main_v31 : Ref sig .tc := ⟨.hbm, 49, rfl⟩
abbrev main_v32 : Ref sig .tc := ⟨.hbm, 50, rfl⟩
abbrev main_c_8 : Ref sig .tc := ⟨.hbm, 51, rfl⟩
abbrev main_v33 : Ref sig .tc := ⟨.hbm, 52, rfl⟩
abbrev main_v34 : Ref sig .tc := ⟨.hbm, 53, rfl⟩
abbrev main_c_9 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_c_10 : Ref sig .tc := ⟨.hbm, 58, rfl⟩
abbrev main_v38 : Ref sig .tc := ⟨.hbm, 59, rfl⟩
abbrev main_v39 : Ref sig .tc := ⟨.hbm, 60, rfl⟩
abbrev main_c_11 : Ref sig .tc := ⟨.hbm, 61, rfl⟩
abbrev main_v40 : Ref sig .tc := ⟨.hbm, 62, rfl⟩
abbrev main_c_12 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_c_13 : Ref sig .tc := ⟨.hbm, 67, rfl⟩
abbrev main_v44 : Ref sig .tc := ⟨.hbm, 68, rfl⟩
abbrev main_v45 : Ref sig .tc := ⟨.hbm, 69, rfl⟩
abbrev main_c_14 : Ref sig .tc := ⟨.hbm, 70, rfl⟩
abbrev main_v46 : Ref sig .tc := ⟨.hbm, 71, rfl⟩
abbrev main_v47 : Ref sig .tc := ⟨.hbm, 72, rfl⟩
abbrev main_c_15 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_c_16 : Ref sig .tc := ⟨.hbm, 77, rfl⟩
abbrev main_v51 : Ref sig .tc := ⟨.hbm, 78, rfl⟩
abbrev main_v52 : Ref sig .tc := ⟨.hbm, 79, rfl⟩
abbrev main_c_17 : Ref sig .tc := ⟨.hbm, 80, rfl⟩
abbrev main_v53 : Ref sig .tc := ⟨.hbm, 81, rfl⟩
abbrev main_c_18 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_cst : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_c_19 : Ref sig .tc := ⟨.hbm, 94, rfl⟩
abbrev main_v64 : Ref sig .tc := ⟨.hbm, 95, rfl⟩
abbrev main_v65 : Ref sig .tc := ⟨.hbm, 96, rfl⟩
abbrev main_c_20 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_cst_21 : Ref sig .tc := ⟨.hbm, 106, rfl⟩
abbrev main_call3_v0 : Ref sig .tc := ⟨.hbm, 107, rfl⟩
abbrev main_call3_v1 : Ref sig .tc := ⟨.hbm, 108, rfl⟩
abbrev main_call3_v2 : Ref sig .tc := ⟨.hbm, 109, rfl⟩
abbrev main_call3_v3 : Ref sig .tc := ⟨.hbm, 110, rfl⟩
abbrev main_v74 : Ref sig .tc := ⟨.hbm, 111, rfl⟩
abbrev main_cst_22 : Ref sig .tc := ⟨.hbm, 112, rfl⟩
abbrev main_v75 : Ref sig .tc := ⟨.hbm, 113, rfl⟩
abbrev main_cst_23 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_cst_24 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩

abbrev nD : Nat := 1
abbrev τ : Topo := Topo.v7x

variable {F : FTy → Type} [FloatOps F]
-- ==== KernelCached.lean ====
abbrev S128x6144 : Shape := ⟨2, ![128, 6144]⟩
abbrev S8x512x32x64 : Shape := ⟨4, ![8, 512, 32, 64]⟩
abbrev S32x257 : Shape := ⟨2, ![32, 257]⟩
abbrev S16 : Shape := ⟨1, ![16]⟩
abbrev S16x1 : Shape := ⟨2, ![16, 1]⟩
abbrev S_ : Shape := ⟨0, ![]⟩
abbrev S528 : Shape := ⟨1, ![528]⟩
abbrev S1x528 : Shape := ⟨2, ![1, 528]⟩
abbrev S16x528 : Shape := ⟨2, ![16, 528]⟩
abbrev S16x528x1 : Shape := ⟨3, ![16, 528, 1]⟩
abbrev S32x16x528 : Shape := ⟨3, ![32, 16, 528]⟩
abbrev S8x512x2048 : Shape := ⟨3, ![8, 512, 2048]⟩
abbrev S32x16x512 : Shape := ⟨3, ![32, 16, 512]⟩
abbrev S32x16x16 : Shape := ⟨3, ![32, 16, 16]⟩
abbrev S128x2048 : Shape := ⟨2, ![128, 2048]⟩
abbrev S16x128 : Shape := ⟨2, ![16, 128]⟩
abbrev S1x512x128 : Shape := ⟨3, ![1, 512, 128]⟩
abbrev S2x16x512 : Shape := ⟨3, ![2, 16, 512]⟩
abbrev S2x16x16 : Shape := ⟨3, ![2, 16, 16]⟩
abbrev S512x128 : Shape := ⟨2, ![512, 128]⟩
abbrev S16x512 : Shape := ⟨2, ![16, 512]⟩
abbrev S1x16x512 : Shape := ⟨3, ![1, 16, 512]⟩
abbrev S16x16 : Shape := ⟨2, ![16, 16]⟩
abbrev S1x16x16 : Shape := ⟨3, ![1, 16, 16]⟩

abbrev nBuf : Space → Nat
  | .hbm => 39
  | .vmem => 16
  | .smem => 0
  | _ => 0

abbrev bufTy : (tb : Table) → Fin (tcTables nBuf tb) → BufTy
  | .hbm, ⟨0, _⟩ => ⟨S128x6144, .f32⟩
  | .hbm, ⟨1, _⟩ => ⟨S8x512x32x64, .f32⟩
  | .hbm, ⟨2, _⟩ => ⟨S8x512x32x64, .f32⟩
  | .hbm, ⟨3, _⟩ => ⟨S32x257, .f32⟩
  | .hbm, ⟨4, _⟩ => ⟨S16, .i32⟩
  | .hbm, ⟨5, _⟩ => ⟨S16x1, .i32⟩
  | .hbm, ⟨6, _⟩ => ⟨S_, .i32⟩
  | .hbm, ⟨7, _⟩ => ⟨S16x1, .i32⟩
  | .hbm, ⟨8, _⟩ => ⟨S16x1, .i32⟩
  | .hbm, ⟨9, _⟩ => ⟨S528, .i32⟩
  | .hbm, ⟨10, _⟩ => ⟨S1x528, .i32⟩
  | .hbm, ⟨11, _⟩ => ⟨S16x528, .i32⟩
  | .hbm, ⟨12, _⟩ => ⟨S16x528, .i32⟩
  | .hbm, ⟨13, _⟩ => ⟨S16x528, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S16x528, .i32⟩
  | .hbm, ⟨18, _⟩ => ⟨S16x528, .i32⟩
  | .hbm, ⟨19, _⟩ => ⟨S_, .i32⟩
  | .hbm, ⟨20, _⟩ => ⟨S16x528, .i32⟩
  | .hbm, ⟨21, _⟩ => ⟨S16x528, .i32⟩
  | .hbm, ⟨22, _⟩ => ⟨S_, .i32⟩
  | .hbm, ⟨23, _⟩ => ⟨S16x528, .i32⟩
  | .hbm, ⟨24, _⟩ => ⟨S16x528, .i32⟩
  | .hbm, ⟨25, _⟩ => ⟨S_, .i32⟩
  | .hbm, ⟨26, _⟩ => ⟨S16x528, .i32⟩
  | .hbm, ⟨27, _⟩ => ⟨S16x528, .i1⟩
  | .hbm, ⟨28, _⟩ => ⟨S_, .i32⟩
  | .hbm, ⟨29, _⟩ => ⟨S16x528, .i32⟩
  | .hbm, ⟨30, _⟩ => ⟨S16x528, .i32⟩
  | .hbm, ⟨31, _⟩ => ⟨S16x528, .i32⟩
  | .hbm, ⟨32, _⟩ => ⟨S16x528x1, .i32⟩
  | .hbm, ⟨33, _⟩ => ⟨S32x16x528, .f32⟩
  | .hbm, ⟨34, _⟩ => ⟨S8x512x2048, .f32⟩
  | .hbm, ⟨35, _⟩ => ⟨S8x512x2048, .f32⟩
  | .hbm, ⟨36, _⟩ => ⟨S32x16x512, .f32⟩
  | .hbm, ⟨37, _⟩ => ⟨S32x16x16, .f32⟩
  | .hbm, ⟨38, _⟩ => ⟨S128x2048, .f32⟩
  | .local _ .vmem, ⟨0, _⟩ => ⟨S16x128, .f32⟩
  | .local _ .vmem, ⟨1, _⟩ => ⟨S16x128, .f32⟩
  | .local _ .vmem, ⟨2, _⟩ => ⟨S16x128, .f32⟩
  | .local _ .vmem, ⟨3, _⟩ => ⟨S16x128, .f32⟩
  | .local _ .vmem, ⟨4, _⟩ => ⟨S16x128, .f32⟩
  | .local _ .vmem, ⟨5, _⟩ => ⟨S16x128, .f32⟩
  | .local _ .vmem, ⟨6, _⟩ => ⟨S1x512x128, .f32⟩
  | .local _ .vmem, ⟨7, _⟩ => ⟨S1x512x128, .f32⟩
  | .local _ .vmem, ⟨8, _⟩ => ⟨S1x512x128, .f32⟩
  | .local _ .vmem, ⟨9, _⟩ => ⟨S1x512x128, .f32⟩
  | .local _ .vmem, ⟨10, _⟩ => ⟨S2x16x512, .f32⟩
  | .local _ .vmem, ⟨11, _⟩ => ⟨S2x16x512, .f32⟩
  | .local _ .vmem, ⟨12, _⟩ => ⟨S2x16x16, .f32⟩
  | .local _ .vmem, ⟨13, _⟩ => ⟨S2x16x16, .f32⟩
  | .local _ .vmem, ⟨14, _⟩ => ⟨S16x128, .f32⟩
  | .local _ .vmem, ⟨15, _⟩ => ⟨S16x128, .f32⟩
  | _, _ => ⟨S128x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c_0 : Ref sig .tc := ⟨.hbm, 14, rfl⟩
abbrev main_c_1 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_v9 : Ref sig .tc := ⟨.hbm, 21, rfl⟩
abbrev main_c_2 : Ref sig .tc := ⟨.hbm, 22, rfl⟩
abbrev main_v10 : Ref sig .tc := ⟨.hbm, 23, rfl⟩
abbrev main_v11 : Ref sig .tc := ⟨.hbm, 24, rfl⟩
abbrev main_c_3 : Ref sig .tc := ⟨.hbm, 25, rfl⟩
abbrev main_v12 : Ref sig .tc := ⟨.hbm, 26, rfl⟩
abbrev main_v13 : Ref sig .tc := ⟨.hbm, 27, rfl⟩
abbrev main_c_4 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c0_i32 : BitVec 32 := 0#32
  ![arg0.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S16x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2x16x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S2x16x16 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S16x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ReferenceCachedIdeal.lean ====
abbrev S128x6144 : Shape := ⟨2, ![128, 6144]⟩
abbrev S8x512x32x64 : Shape := ⟨4, ![8, 512, 32, 64]⟩
abbrev S32x257 : Shape := ⟨2, ![32, 257]⟩
abbrev S8x16x3x32x64 : Shape := ⟨5, ![8, 16, 3, 32, 64]⟩
abbrev S8x16x1x32x64 : Shape := ⟨5, ![8, 16, 1, 32, 64]⟩
abbrev S8x16x32x64 : Shape := ⟨4, ![8, 16, 32, 64]⟩
abbrev S8x528x32x64 : Shape := ⟨4, ![8, 528, 32, 64]⟩
abbrev S16 : Shape := ⟨1, ![16]⟩
abbrev S16x1 : Shape := ⟨2, ![16, 1]⟩
abbrev S_ : Shape := ⟨0, ![]⟩
abbrev S528 : Shape := ⟨1, ![528]⟩
abbrev S1x528 : Shape := ⟨2, ![1, 528]⟩
abbrev S16x528 : Shape := ⟨2, ![16, 528]⟩
abbrev S16x528x1 : Shape := ⟨3, ![16, 528, 1]⟩
abbrev S32x16x528 : Shape := ⟨3, ![32, 16, 528]⟩
abbrev S8x32x16x528 : Shape := ⟨4, ![8, 32, 16, 528]⟩
abbrev S1x32x16x528 : Shape := ⟨4, ![1, 32, 16, 528]⟩
abbrev S8x32x16 : Shape := ⟨3, ![8, 32, 16]⟩
abbrev S8x32x16x1 : Shape := ⟨4, ![8, 32, 16, 1]⟩
abbrev S8x32x64x16 : Shape := ⟨4, ![8, 32, 64, 16]⟩
abbrev S128x2048 : Shape := ⟨2, ![128, 2048]⟩

abbrev nBuf : Space → Nat
  | .hbm => 67
  | .vmem => 0
  | .smem => 0
  | _ => 0

abbrev bufTy : (tb : Table) → Fin (tcTables nBuf tb) → BufTy
  | .hbm, ⟨0, _⟩ => ⟨S128x6144, .f32⟩
  | .hbm, ⟨1, _⟩ => ⟨S8x512x32x64, .f32⟩
  | .hbm, ⟨2, _⟩ => ⟨S8x512x32x64, .f32⟩
  | .hbm, ⟨3, _⟩ => ⟨S32x257, .f32⟩
  | .hbm, ⟨4, _⟩ => ⟨S8x16x3x32x64, .f32⟩
  | .hbm, ⟨5, _⟩ => ⟨S8x16x1x32x64, .f32⟩
  | .hbm, ⟨6, _⟩ => ⟨S8x16x32x64, .f32⟩
  | .hbm, ⟨7, _⟩ => ⟨S8x16x1x32x64, .f32⟩
  | .hbm, ⟨8, _⟩ => ⟨S8x16x32x64, .f32⟩
  | .hbm, ⟨9, _⟩ => ⟨S8x16x1x32x64, .f32⟩
  | .hbm, ⟨10, _⟩ => ⟨S8x16x32x64, .f32⟩
  | .hbm, ⟨11, _⟩ => ⟨S8x528x32x64, .f32⟩
  | .hbm, ⟨12, _⟩ => ⟨S8x528x32x64, .f32⟩
  | .hbm, ⟨13, _⟩ => ⟨S16, .i32⟩
  | .hbm, ⟨14, _⟩ => ⟨S16x1, .i32⟩
  | .hbm, ⟨15, _⟩ => ⟨S_, .i32⟩
  | .hbm, ⟨16, _⟩ => ⟨S16x1, .i32⟩
  | .hbm, ⟨17, _⟩ => ⟨S16x1, .i32⟩
  | .hbm, ⟨18, _⟩ => ⟨S528, .i32⟩
  | .hbm, ⟨19, _⟩ => ⟨S1x528, .i32⟩
  | .hbm, ⟨20, _⟩ => ⟨S16x528, .i32⟩
  | .hbm, ⟨21, _⟩ => ⟨S16x528, .i32⟩
  | .hbm, ⟨22, _⟩ => ⟨S16x528, .i32⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S16x528, .i32⟩
  | .hbm, ⟨27, _⟩ => ⟨S16x528, .i32⟩
  | .hbm, ⟨28, _⟩ => ⟨S_, .i32⟩
  | .hbm, ⟨29, _⟩ => ⟨S16x528, .i32⟩
  | .hbm, ⟨30, _⟩ => ⟨S16x528, .i32⟩
  | .hbm, ⟨31, _⟩ => ⟨S_, .i32⟩
  | .hbm, ⟨32, _⟩ => ⟨S16x528, .i32⟩
  | .hbm, ⟨33, _⟩ => ⟨S16x528, .i32⟩
  | .hbm, ⟨34, _⟩ => ⟨S_, .i32⟩
  | .hbm, ⟨35, _⟩ => ⟨S16x528, .i32⟩
  | .hbm, ⟨36, _⟩ => ⟨S16x528, .i1⟩
  | .hbm, ⟨37, _⟩ => ⟨S_, .i32⟩
  | .hbm, ⟨38, _⟩ => ⟨S16x528, .i32⟩
  | .hbm, ⟨39, _⟩ => ⟨S16x528, .i32⟩
  | .hbm, ⟨40, _⟩ => ⟨S16x528, .i32⟩
  | .hbm, ⟨41, _⟩ => ⟨S16x528x1, .i32⟩
  | .hbm, ⟨42, _⟩ => ⟨S32x16x528, .f32⟩
  | .hbm, ⟨43, _⟩ => ⟨S8x32x16x528, .f32⟩
  | .hbm, ⟨44, _⟩ => ⟨S_, .f32⟩
  | .hbm, ⟨45, _⟩ => ⟨S8x32x16x528, .f32⟩
  | .hbm, ⟨46, _⟩ => ⟨S8x32x16x528, .f32⟩
  | .hbm, ⟨47, _⟩ => ⟨S1x32x16x528, .f32⟩
  | .hbm, ⟨48, _⟩ => ⟨S8x32x16x528, .f32⟩
  | .hbm, ⟨49, _⟩ => ⟨S8x32x16x528, .f32⟩
  | .hbm, ⟨50, _⟩ => ⟨S_, .f32⟩
  | .hbm, ⟨51, _⟩ => ⟨S8x32x16, .f32⟩
  | .hbm, ⟨52, _⟩ => ⟨S_, .f32⟩
  | .hbm, ⟨53, _⟩ => ⟨S8x32x16, .f32⟩
  | .hbm, ⟨54, _⟩ => ⟨S8x32x16, .f32⟩
  | .hbm, ⟨55, _⟩ => ⟨S8x32x16x1, .f32⟩
  | .hbm, ⟨56, _⟩ => ⟨S8x32x16x528, .f32⟩
  | .hbm, ⟨57, _⟩ => ⟨S8x32x16x528, .f32⟩
  | .hbm, ⟨58, _⟩ => ⟨S8x32x16x528, .f32⟩
  | .hbm, ⟨59, _⟩ => ⟨S_, .f32⟩
  | .hbm, ⟨60, _⟩ => ⟨S8x32x16, .f32⟩
  | .hbm, ⟨61, _⟩ => ⟨S8x32x16x1, .f32⟩
  | .hbm, ⟨62, _⟩ => ⟨S8x32x16x528, .f32⟩
  | .hbm, ⟨63, _⟩ => ⟨S8x32x16x528, .f32⟩
  | .hbm, ⟨64, _⟩ => ⟨S8x32x64x16, .f32⟩
  | .hbm, ⟨65, _⟩ => ⟨S8x16x32x64, .f32⟩
  | .hbm, ⟨66, _⟩ => ⟨S128x2048, .f32⟩
  | _, _ => ⟨S128x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_c : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_c_0 : Ref sig .tc := ⟨.hbm, 23, rfl⟩
abbrev main_c_1 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_v18 : Ref sig .tc := ⟨.hbm, 30, rfl⟩
abbrev main_c_2 : Ref sig .tc := ⟨.hbm, 31, rfl⟩
abbrev main_v19 : Ref sig .tc := ⟨.hbm, 32, rfl⟩
abbrev main_v20 : Ref sig .tc := ⟨.hbm, 33, rfl⟩
abbrev main_c_3 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_5 : Ref sig .tc := ⟨.hbm, 50, rfl⟩
abbrev main_v34 : Ref sig .tc := ⟨.hbm, 51, rfl⟩
abbrev main_cst_6 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_7 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩

abbrev nD : Nat := 1
abbrev τ : Topo := Topo.v7x

variable {F : FTy → Type} [FloatOps F]
-- ==== KernelFfn.lean ====
abbrev S16384x2048 : Shape := ⟨2, ![16384, 2048]⟩
abbrev S2048 : Shape := ⟨1, ![2048]⟩
abbrev S2048x11008 : Shape := ⟨2, ![2048, 11008]⟩
abbrev S5504x2048 : Shape := ⟨2, ![5504, 2048]⟩
abbrev S2048x5504 : Shape := ⟨2, ![2048, 5504]⟩
abbrev S_ : Shape := ⟨0, ![]⟩
abbrev S2048x5632 : Shape := ⟨2, ![2048, 5632]⟩
abbrev S2048x11264 : Shape := ⟨2, ![2048, 11264]⟩
abbrev S5632x2048 : Shape := ⟨2, ![5632, 2048]⟩
abbrev S1x2048 : Shape := ⟨2, ![1, 2048]⟩
abbrev S512x2048 : Shape := ⟨2, ![512, 2048]⟩
abbrev S2048x512 : Shape := ⟨2, ![2048, 512]⟩
abbrev S512 : Shape := ⟨1, ![512]⟩
abbrev S512x1 : Shape := ⟨2, ![512, 1]⟩
abbrev S512x512 : Shape := ⟨2, ![512, 512]⟩

abbrev nBuf : Space → Nat
  | .hbm => 20
  | .vmem => 13
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x11008, .f32⟩
  | .hbm, ⟨3, _⟩ => ⟨S5504x2048, .f32⟩
  | .hbm, ⟨4, _⟩ => ⟨S2048x5504, .f32⟩
  | .hbm, ⟨5, _⟩ => ⟨S_, .i32⟩
  | .hbm, ⟨6, _⟩ => ⟨S_, .f32⟩
  | .hbm, ⟨7, _⟩ => ⟨S2048x5632, .f32⟩
  | .hbm, ⟨8, _⟩ => ⟨S2048x5504, .f32⟩
  | .hbm, ⟨9, _⟩ => ⟨S_, .i32⟩
  | .hbm, ⟨10, _⟩ => ⟨S_, .f32⟩
  | .hbm, ⟨11, _⟩ => ⟨S2048x5632, .f32⟩
  | .hbm, ⟨12, _⟩ => ⟨S2048x11264, .f32⟩
  | .hbm, ⟨13, _⟩ => ⟨S2048x11264, .bf16⟩
  | .hbm, ⟨14, _⟩ => ⟨S_, .i32⟩
  | .hbm, ⟨15, _⟩ => ⟨S_, .f32⟩
  | .hbm, ⟨16, _⟩ => ⟨S5632x2048, .f32⟩
  | .hbm, ⟨17, _⟩ => ⟨S5632x2048, .bf16⟩
  | .hbm, ⟨18, _⟩ => ⟨S1x2048, .f32⟩
  | .hbm, ⟨19, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S512x2048, .bf16⟩
  | .local _ .vmem, ⟨8, _⟩ => ⟨S512x2048, .bf16⟩
  | .local _ .vmem, ⟨9, _⟩ => ⟨S512x2048, .f32⟩
  | .local _ .vmem, ⟨10, _⟩ => ⟨S512x2048, .f32⟩
  | .local _ .vmem, ⟨11, _⟩ => ⟨S512x2048, .bf16⟩
  | .local _ .vmem, ⟨12, _⟩ => ⟨S512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_call1_v0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c_1 : Ref sig .tc := ⟨.hbm, 14, rfl⟩
abbrev main_call2_v0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![32, 11], ![false, false]⟩

def k0_cond2 (i : grid0.Coords) : BitVec 1 :=
  let arg1 : BitVec 32 := BitVec.ofNat 32 (i 1).val
  let c10_i32 : BitVec 32 := 10#32
  let v28 : BitVec 1 := Scalar.cmpi .eq arg1 c10_i32
  let v29 : BitVec 32 := Scalar.extui v28
  let c0_i32_17 : BitVec 32 := 0#32
  let v30 : BitVec 1 := Scalar.cmpi .ne v29 c0_i32_17
  v30

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== ReferenceFfnIdeal.lean ====
abbrev S16384x2048 : Shape := ⟨2, ![16384, 2048]⟩
abbrev S2048 : Shape := ⟨1, ![2048]⟩
abbrev S2048x11008 : Shape := ⟨2, ![2048, 11008]⟩
abbrev S5504x2048 : Shape := ⟨2, ![5504, 2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S16384x11008 : Shape := ⟨2, ![16384, 11008]⟩
abbrev S16384x5504 : Shape := ⟨2, ![16384, 5504]⟩

abbrev nBuf : Space → Nat
  | .hbm => 38
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x11008, .f32⟩
  | .hbm, ⟨3, _⟩ => ⟨S5504x2048, .f32⟩
  | .hbm, ⟨4, _⟩ => ⟨S16384x2048, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x2048, .f32⟩
  | .hbm, ⟨16, _⟩ => ⟨S16384x2048, .f32⟩
  | .hbm, ⟨17, _⟩ => ⟨S1x2048, .f32⟩
  | .hbm, ⟨18, _⟩ => ⟨S16384x2048, .f32⟩
  | .hbm, ⟨19, _⟩ => ⟨S16384x2048, .f32⟩
  | .hbm, ⟨20, _⟩ => ⟨S16384x11008, .f32⟩
  | .hbm, ⟨21, _⟩ => ⟨S16384x5504, .f32⟩
  | .hbm, ⟨22, _⟩ => ⟨S16384x5504, .f32⟩
  | .hbm, ⟨23, _⟩ => ⟨S16384x5504, .f32⟩
  | .hbm, ⟨24, _⟩ => ⟨S16384x5504, .f32⟩
  | .hbm, ⟨25, _⟩ => ⟨S_, .f32⟩
  | .hbm, ⟨26, _⟩ => ⟨S16384x5504, .f32⟩
  | .hbm, ⟨27, _⟩ => ⟨S16384x5504, .f32⟩
  | .hbm, ⟨28, _⟩ => ⟨S_, .f32⟩
  | .hbm, ⟨29, _⟩ => ⟨S16384x5504, .f32⟩
  | .hbm, ⟨30, _⟩ => ⟨S16384x5504, .f32⟩
  | .hbm, ⟨31, _⟩ => ⟨S16384x5504, .f32⟩
  | .hbm, ⟨32, _⟩ => ⟨S16384x5504, .f32⟩
  | .hbm, ⟨33, _⟩ => ⟨S16384x2048, .f32⟩
  | .hbm, ⟨34, _⟩ => ⟨S_, .f32⟩
  | .hbm, ⟨35, _⟩ => ⟨S16384x2048, .f32⟩
  | .hbm, ⟨36, _⟩ => ⟨S16384x2048, .f32⟩
  | .hbm, ⟨37, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_2 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩

abbrev nD : Nat := 1
abbrev τ : Topo := Topo.v7x

variable {F : FTy → Type} [FloatOps F]
-- ==== KernelNormMm.lean ====
abbrev S16384x2048 : Shape := ⟨2, ![16384, 2048]⟩
abbrev S2048 : Shape := ⟨1, ![2048]⟩
abbrev S2048x6144 : Shape := ⟨2, ![2048, 6144]⟩
abbrev S1x2048 : Shape := ⟨2, ![1, 2048]⟩
abbrev S16384x6144 : Shape := ⟨2, ![16384, 6144]⟩
abbrev S512x2048 : Shape := ⟨2, ![512, 2048]⟩
abbrev S2048x1024 : Shape := ⟨2, ![2048, 1024]⟩
abbrev S512x1024 : Shape := ⟨2, ![512, 1024]⟩
abbrev S512 : Shape := ⟨1, ![512]⟩
abbrev S512x1 : Shape := ⟨2, ![512, 1]⟩

abbrev nBuf : Space → Nat
  | .hbm => 6
  | .vmem => 8
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x6144, .f32⟩
  | .hbm, ⟨3, _⟩ => ⟨S2048x6144, .bf16⟩
  | .hbm, ⟨4, _⟩ => ⟨S1x2048, .f32⟩
  | .hbm, ⟨5, _⟩ => ⟨S16384x6144, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S512x1024, .f32⟩
  | .local _ .vmem, ⟨6, _⟩ => ⟨S512x1024, .f32⟩
  | .local _ .vmem, ⟨7, _⟩ => ⟨S512x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![32, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceNormMmIdeal.lean ====
abbrev S16384x2048 : Shape := ⟨2, ![16384, 2048]⟩
abbrev S2048 : Shape := ⟨1, ![2048]⟩
abbrev S2048x6144 : Shape := ⟨2, ![2048, 6144]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S16384x6144 : Shape := ⟨2, ![16384, 6144]⟩

abbrev nBuf : Space → Nat
  | .hbm => 20
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x6144, .f32⟩
  | .hbm, ⟨3, _⟩ => ⟨S16384x2048, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x2048, .f32⟩
  | .hbm, ⟨15, _⟩ => ⟨S16384x2048, .f32⟩
  | .hbm, ⟨16, _⟩ => ⟨S1x2048, .f32⟩
  | .hbm, ⟨17, _⟩ => ⟨S16384x2048, .f32⟩
  | .hbm, ⟨18, _⟩ => ⟨S16384x2048, .f32⟩
  | .hbm, ⟨19, _⟩ => ⟨S16384x6144, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== KernelProj.lean ====
abbrev S16384x2048 : Shape := ⟨2, ![16384, 2048]⟩
abbrev S2048x2048 : Shape := ⟨2, ![2048, 2048]⟩
abbrev S512x1024 : Shape := ⟨2, ![512, 1024]⟩
abbrev S512x2048 : Shape := ⟨2, ![512, 2048]⟩
abbrev S2048x1024 : Shape := ⟨2, ![2048, 1024]⟩

abbrev nBuf : Space → Nat
  | .hbm => 5
  | .vmem => 8
  | .smem => 0
  | _ => 0

abbrev bufTy : (tb : Table) → Fin (tcTables nBuf tb) → BufTy
  | .hbm, ⟨0, _⟩ => ⟨S16384x2048, .f32⟩
  | .hbm, ⟨1, _⟩ => ⟨S16384x2048, .f32⟩
  | .hbm, ⟨2, _⟩ => ⟨S2048x2048, .f32⟩
  | .hbm, ⟨3, _⟩ => ⟨S2048x2048, .bf16⟩
  | .hbm, ⟨4, _⟩ => ⟨S16384x2048, .f32⟩
  | .local _ .vmem, ⟨0, _⟩ => ⟨S512x1024, .f32⟩
  | .local _ .vmem, ⟨1, _⟩ => ⟨S512x1024, .f32⟩
  | .local _ .vmem, ⟨2, _⟩ => ⟨S512x2048, .f32⟩
  | .local _ .vmem, ⟨3, _⟩ => ⟨S512x2048, .f32⟩
  | .local _ .vmem, ⟨4, _⟩ => ⟨S2048x1024, .bf16⟩
  | .local _ .vmem, ⟨5, _⟩ => ⟨S2048x1024, .bf16⟩
  | .local _ .vmem, ⟨6, _⟩ => ⟨S512x1024, .f32⟩
  | .local _ .vmem, ⟨7, _⟩ => ⟨S512x1024, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceProjIdeal.lean ====
abbrev S16384x2048 : Shape := ⟨2, ![16384, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x2048, .f32⟩
  | .hbm, ⟨2, _⟩ => ⟨S2048x2048, .f32⟩
  | .hbm, ⟨3, _⟩ => ⟨S16384x2048, .f32⟩
  | .hbm, ⟨4, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== KernelGated.lean ====
abbrev S16384x2048 : Shape := ⟨2, ![16384, 2048]⟩
abbrev S16384x8192 : Shape := ⟨2, ![16384, 8192]⟩
abbrev S2048 : Shape := ⟨1, ![2048]⟩
abbrev S2048x2048 : Shape := ⟨2, ![2048, 2048]⟩
abbrev S1x2048 : Shape := ⟨2, ![1, 2048]⟩
abbrev S512x1024 : Shape := ⟨2, ![512, 1024]⟩
abbrev S512x2048 : Shape := ⟨2, ![512, 2048]⟩
abbrev S2048x1024 : Shape := ⟨2, ![2048, 1024]⟩
abbrev S512 : Shape := ⟨1, ![512]⟩
abbrev S512x1 : Shape := ⟨2, ![512, 1]⟩

abbrev nBuf : Space → Nat
  | .hbm => 8
  | .vmem => 12
  | .smem => 0
  | _ => 0

abbrev bufTy : (tb : Table) → Fin (tcTables nBuf tb) → BufTy
  | .hbm, ⟨0, _⟩ => ⟨S16384x2048, .f32⟩
  | .hbm, ⟨1, _⟩ => ⟨S16384x2048, .f32⟩
  | .hbm, ⟨2, _⟩ => ⟨S16384x8192, .f32⟩
  | .hbm, ⟨3, _⟩ => ⟨S2048, .f32⟩
  | .hbm, ⟨4, _⟩ => ⟨S2048x2048, .f32⟩
  | .hbm, ⟨5, _⟩ => ⟨S2048x2048, .bf16⟩
  | .hbm, ⟨6, _⟩ => ⟨S1x2048, .f32⟩
  | .hbm, ⟨7, _⟩ => ⟨S16384x2048, .f32⟩
  | .local _ .vmem, ⟨0, _⟩ => ⟨S512x1024, .f32⟩
  | .local _ .vmem, ⟨1, _⟩ => ⟨S512x1024, .f32⟩
  | .local _ .vmem, ⟨2, _⟩ => ⟨S512x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S1x2048, .f32⟩
  | .local _ .vmem, ⟨7, _⟩ => ⟨S2048x1024, .bf16⟩
  | .local _ .vmem, ⟨8, _⟩ => ⟨S2048x1024, .bf16⟩
  | .local _ .vmem, ⟨9, _⟩ => ⟨S512x1024, .f32⟩
  | .local _ .vmem, ⟨10, _⟩ => ⟨S512x1024, .f32⟩
  | .local _ .vmem, ⟨11, _⟩ => ⟨S512x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![32, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, c3_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceGatedIdeal.lean ====
abbrev S16384x2048 : Shape := ⟨2, ![16384, 2048]⟩
abbrev S16384x8192 : Shape := ⟨2, ![16384, 8192]⟩
abbrev S2048 : Shape := ⟨1, ![2048]⟩
abbrev S2048x2048 : Shape := ⟨2, ![2048, 2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩

abbrev nBuf : Space → Nat
  | .hbm => 37
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x2048, .f32⟩
  | .hbm, ⟨2, _⟩ => ⟨S16384x8192, .f32⟩
  | .hbm, ⟨3, _⟩ => ⟨S2048, .f32⟩
  | .hbm, ⟨4, _⟩ => ⟨S2048x2048, .f32⟩
  | .hbm, ⟨5, _⟩ => ⟨S16384x2048, .f32⟩
  | .hbm, ⟨6, _⟩ => ⟨S16384x2048, .f32⟩
  | .hbm, ⟨7, _⟩ => ⟨S16384x2048, .f32⟩
  | .hbm, ⟨8, _⟩ => ⟨S16384x2048, .f32⟩
  | .hbm, ⟨9, _⟩ => ⟨S16384x2048, .f32⟩
  | .hbm, ⟨10, _⟩ => ⟨S_, .f32⟩
  | .hbm, ⟨11, _⟩ => ⟨S16384, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S16384x1, .f32⟩
  | .hbm, ⟨20, _⟩ => ⟨S16384x2048, .f32⟩
  | .hbm, ⟨21, _⟩ => ⟨S16384x2048, .f32⟩
  | .hbm, ⟨22, _⟩ => ⟨S1x2048, .f32⟩
  | .hbm, ⟨23, _⟩ => ⟨S16384x2048, .f32⟩
  | .hbm, ⟨24, _⟩ => ⟨S16384x2048, .f32⟩
  | .hbm, ⟨25, _⟩ => ⟨S16384x2048, .f32⟩
  | .hbm, ⟨26, _⟩ => ⟨S16384x2048, .f32⟩
  | .hbm, ⟨27, _⟩ => ⟨S_, .f32⟩
  | .hbm, ⟨28, _⟩ => ⟨S16384x2048, .f32⟩
  | .hbm, ⟨29, _⟩ => ⟨S16384x2048, .f32⟩
  | .hbm, ⟨30, _⟩ => ⟨S_, .f32⟩
  | .hbm, ⟨31, _⟩ => ⟨S16384x2048, .f32⟩
  | .hbm, ⟨32, _⟩ => ⟨S16384x2048, .f32⟩
  | .hbm, ⟨33, _⟩ => ⟨S16384x2048, .f32⟩
  | .hbm, ⟨34, _⟩ => ⟨S16384x2048, .f32⟩
  | .hbm, ⟨35, _⟩ => ⟨S16384x2048, .f32⟩
  | .hbm, ⟨36, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩

abbrev nD : Nat := 1
abbrev τ : Topo := Topo.v7x

variable {F : FTy → Type} [FloatOps F]
-- ==== KernelNorm.lean ====
abbrev S16384x2048 : Shape := ⟨2, ![16384, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S1x2048, .f32⟩
  | .hbm, ⟨3, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .f32⟩
  | .local _ .vmem, ⟨4, _⟩ => ⟨S512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceNormIdeal.lean ====
abbrev S16384x2048 : Shape := ⟨2, ![16384, 2048]⟩
abbrev S2048 : Shape := ⟨1, ![2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩

abbrev nBuf : Space → Nat
  | .hbm => 18
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S16384x2048, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S_, .f32⟩
  | .hbm, ⟨7, _⟩ => ⟨S16384x1, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S16384x1, .f32⟩
  | .hbm, ⟨13, _⟩ => ⟨S16384x2048, .f32⟩
  | .hbm, ⟨14, _⟩ => ⟨S16384x2048, .f32⟩
  | .hbm, ⟨15, _⟩ => ⟨S1x2048, .f32⟩
  | .hbm, ⟨16, _⟩ => ⟨S16384x2048, .f32⟩
  | .hbm, ⟨17, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== KernelRkv.lean ====
abbrev S16384x2048 : Shape := ⟨2, ![16384, 2048]⟩
abbrev S1x1x2048 : Shape := ⟨3, ![1, 1, 2048]⟩
abbrev S6x2048 : Shape := ⟨2, ![6, 2048]⟩
abbrev S3x2048x2048 : Shape := ⟨3, ![3, 2048, 2048]⟩
abbrev S1x16384x2048 : Shape := ⟨3, ![1, 16384, 2048]⟩
abbrev S1x16383x2048 : Shape := ⟨3, ![1, 16383, 2048]⟩
abbrev S3x2048 : Shape := ⟨2, ![3, 2048]⟩
abbrev S3x1x2048 : Shape := ⟨3, ![3, 1, 2048]⟩
abbrev S3x16384x2048 : Shape := ⟨3, ![3, 16384, 2048]⟩
abbrev S512x2048 : Shape := ⟨2, ![512, 2048]⟩
abbrev S1x2048x1024 : Shape := ⟨3, ![1, 2048, 1024]⟩
abbrev S1x512x1024 : Shape := ⟨3, ![1, 512, 1024]⟩
abbrev S1x2048 : Shape := ⟨2, ![1, 2048]⟩
abbrev S2048x1024 : Shape := ⟨2, ![2048, 1024]⟩
abbrev S512x1024 : Shape := ⟨2, ![512, 1024]⟩

abbrev nBuf : Space → Nat
  | .hbm => 12
  | .vmem => 11
  | .smem => 0
  | _ => 0

abbrev bufTy : (tb : Table) → Fin (tcTables nBuf tb) → BufTy
  | .hbm, ⟨0, _⟩ => ⟨S16384x2048, .f32⟩
  | .hbm, ⟨1, _⟩ => ⟨S1x1x2048, .f32⟩
  | .hbm, ⟨2, _⟩ => ⟨S6x2048, .f32⟩
  | .hbm, ⟨3, _⟩ => ⟨S3x2048x2048, .f32⟩
  | .hbm, ⟨4, _⟩ => ⟨S1x16384x2048, .f32⟩
  | .hbm, ⟨5, _⟩ => ⟨S1x16383x2048, .f32⟩
  | .hbm, ⟨6, _⟩ => ⟨S1x16384x2048, .f32⟩
  | .hbm, ⟨7, _⟩ => ⟨S16384x2048, .f32⟩
  | .hbm, ⟨8, _⟩ => ⟨S3x2048, .f32⟩
  | .hbm, ⟨9, _⟩ => ⟨S3x2048x2048, .bf16⟩
  | .hbm, ⟨10, _⟩ => ⟨S3x1x2048, .f32⟩
  | .hbm, ⟨11, _⟩ => ⟨S3x16384x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x2048x1024, .bf16⟩
  | .local _ .vmem, ⟨7, _⟩ => ⟨S1x2048x1024, .bf16⟩
  | .local _ .vmem, ⟨8, _⟩ => ⟨S1x512x1024, .f32⟩
  | .local _ .vmem, ⟨9, _⟩ => ⟨S1x512x1024, .f32⟩
  | .local _ .vmem, ⟨10, _⟩ => ⟨S512x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![3, 32, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== ReferenceRkvIdeal.lean ====
abbrev S16384x2048 : Shape := ⟨2, ![16384, 2048]⟩
abbrev S1x1x2048 : Shape := ⟨3, ![1, 1, 2048]⟩
abbrev S6x2048 : Shape := ⟨2, ![6, 2048]⟩
abbrev S3x2048x2048 : Shape := ⟨3, ![3, 2048, 2048]⟩
abbrev S1x2048 : Shape := ⟨2, ![1, 2048]⟩
abbrev S16383x2048 : Shape := ⟨2, ![16383, 2048]⟩
abbrev S2048 : Shape := ⟨1, ![2048]⟩
abbrev S1x2048x2048 : Shape := ⟨3, ![1, 2048, 2048]⟩
abbrev S2048x2048 : Shape := ⟨2, ![2048, 2048]⟩
abbrev S1x16384x2048 : Shape := ⟨3, ![1, 16384, 2048]⟩
abbrev S3x16384x2048 : Shape := ⟨3, ![3, 16384, 2048]⟩

abbrev nBuf : Space → Nat
  | .hbm => 39
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S1x1x2048, .f32⟩
  | .hbm, ⟨2, _⟩ => ⟨S6x2048, .f32⟩
  | .hbm, ⟨3, _⟩ => ⟨S3x2048x2048, .f32⟩
  | .hbm, ⟨4, _⟩ => ⟨S1x2048, .f32⟩
  | .hbm, ⟨5, _⟩ => ⟨S16383x2048, .f32⟩
  | .hbm, ⟨6, _⟩ => ⟨S16384x2048, .f32⟩
  | .hbm, ⟨7, _⟩ => ⟨S16384x2048, .f32⟩
  | .hbm, ⟨8, _⟩ => ⟨S1x2048, .f32⟩
  | .hbm, ⟨9, _⟩ => ⟨S2048, .f32⟩
  | .hbm, ⟨10, _⟩ => ⟨S1x2048, .f32⟩
  | .hbm, ⟨11, _⟩ => ⟨S16384x2048, .f32⟩
  | .hbm, ⟨12, _⟩ => ⟨S16384x2048, .f32⟩
  | .hbm, ⟨13, _⟩ => ⟨S16384x2048, .f32⟩
  | .hbm, ⟨14, _⟩ => ⟨S1x2048x2048, .f32⟩
  | .hbm, ⟨15, _⟩ => ⟨S2048x2048, .f32⟩
  | .hbm, ⟨16, _⟩ => ⟨S16384x2048, .f32⟩
  | .hbm, ⟨17, _⟩ => ⟨S1x2048, .f32⟩
  | .hbm, ⟨18, _⟩ => ⟨S2048, .f32⟩
  | .hbm, ⟨19, _⟩ => ⟨S1x2048, .f32⟩
  | .hbm, ⟨20, _⟩ => ⟨S16384x2048, .f32⟩
  | .hbm, ⟨21, _⟩ => ⟨S16384x2048, .f32⟩
  | .hbm, ⟨22, _⟩ => ⟨S16384x2048, .f32⟩
  | .hbm, ⟨23, _⟩ => ⟨S1x2048x2048, .f32⟩
  | .hbm, ⟨24, _⟩ => ⟨S2048x2048, .f32⟩
  | .hbm, ⟨25, _⟩ => ⟨S16384x2048, .f32⟩
  | .hbm, ⟨26, _⟩ => ⟨S1x2048, .f32⟩
  | .hbm, ⟨27, _⟩ => ⟨S2048, .f32⟩
  | .hbm, ⟨28, _⟩ => ⟨S1x2048, .f32⟩
  | .hbm, ⟨29, _⟩ => ⟨S16384x2048, .f32⟩
  | .hbm, ⟨30, _⟩ => ⟨S16384x2048, .f32⟩
  | .hbm, ⟨31, _⟩ => ⟨S16384x2048, .f32⟩
  | .hbm, ⟨32, _⟩ => ⟨S1x2048x2048, .f32⟩
  | .hbm, ⟨33, _⟩ => ⟨S2048x2048, .f32⟩
  | .hbm, ⟨34, _⟩ => ⟨S16384x2048, .f32⟩
  | .hbm, ⟨35, _⟩ => ⟨S1x16384x2048, .f32⟩
  | .hbm, ⟨36, _⟩ => ⟨S1x16384x2048, .f32⟩
  | .hbm, ⟨37, _⟩ => ⟨S1x16384x2048, .f32⟩
  | .hbm, ⟨38, _⟩ => ⟨S3x16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩

abbrev nD : Nat := 1
abbrev τ : Topo := Topo.v7x

variable {F : FTy → Type} [FloatOps F]
-- ==== KernelLora.lean ====
abbrev S16384x2048 : Shape := ⟨2, ![16384, 2048]⟩
abbrev S1x1x2048 : Shape := ⟨3, ![1, 1, 2048]⟩
abbrev S6x2048 : Shape := ⟨2, ![6, 2048]⟩
abbrev S2048 : Shape := ⟨1, ![2048]⟩
abbrev S2048x96 : Shape := ⟨2, ![2048, 96]⟩
abbrev S96x2048 : Shape := ⟨2, ![96, 2048]⟩
abbrev S2048x256 : Shape := ⟨2, ![2048, 256]⟩
abbrev S256x2048 : Shape := ⟨2, ![256, 2048]⟩
abbrev S1x16384x2048 : Shape := ⟨3, ![1, 16384, 2048]⟩
abbrev S1x16383x2048 : Shape := ⟨3, ![1, 16383, 2048]⟩
abbrev S3x2048 : Shape := ⟨2, ![3, 2048]⟩
abbrev S3x1x2048 : Shape := ⟨3, ![3, 1, 2048]⟩
abbrev S1x2048 : Shape := ⟨2, ![1, 2048]⟩
abbrev S256x96 : Shape := ⟨2, ![256, 96]⟩
abbrev S256x256 : Shape := ⟨2, ![256, 256]⟩

abbrev nBuf : Space → Nat
  | .hbm => 28
  | .vmem => 19
  | .smem => 0
  | _ => 0

abbrev bufTy : (tb : Table) → Fin (tcTables nBuf tb) → BufTy
  | .hbm, ⟨0, _⟩ => ⟨S16384x2048, .f32⟩
  | .hbm, ⟨1, _⟩ => ⟨S1x1x2048, .f32⟩
  | .hbm, ⟨2, _⟩ => ⟨S6x2048, .f32⟩
  | .hbm, ⟨3, _⟩ => ⟨S2048, .f32⟩
  | .hbm, ⟨4, _⟩ => ⟨S2048x96, .f32⟩
  | .hbm, ⟨5, _⟩ => ⟨S96x2048, .f32⟩
  | .hbm, ⟨6, _⟩ => ⟨S2048, .f32⟩
  | .hbm, ⟨7, _⟩ => ⟨S2048x96, .f32⟩
  | .hbm, ⟨8, _⟩ => ⟨S96x2048, .f32⟩
  | .hbm, ⟨9, _⟩ => ⟨S2048x256, .f32⟩
  | .hbm, ⟨10, _⟩ => ⟨S256x2048, .f32⟩
  | .hbm, ⟨11, _⟩ => ⟨S1x16384x2048, .f32⟩
  | .hbm, ⟨12, _⟩ => ⟨S1x16383x2048, .f32⟩
  | .hbm, ⟨13, _⟩ => ⟨S1x16384x2048, .f32⟩
  | .hbm, ⟨14, _⟩ => ⟨S16384x2048, .f32⟩
  | .hbm, ⟨15, _⟩ => ⟨S3x2048, .f32⟩
  | .hbm, ⟨16, _⟩ => ⟨S2048x96, .bf16⟩
  | .hbm, ⟨17, _⟩ => ⟨S96x2048, .bf16⟩
  | .hbm, ⟨18, _⟩ => ⟨S2048x96, .bf16⟩
  | .hbm, ⟨19, _⟩ => ⟨S96x2048, .bf16⟩
  | .hbm, ⟨20, _⟩ => ⟨S2048x256, .bf16⟩
  | .hbm, ⟨21, _⟩ => ⟨S256x2048, .bf16⟩
  | .hbm, ⟨22, _⟩ => ⟨S3x1x2048, .f32⟩
  | .hbm, ⟨23, _⟩ => ⟨S1x2048, .f32⟩
  | .hbm, ⟨24, _⟩ => ⟨S1x2048, .f32⟩
  | .hbm, ⟨25, _⟩ => ⟨S16384x2048, .f32⟩
  | .hbm, ⟨26, _⟩ => ⟨S16384x2048, .f32⟩
  | .hbm, ⟨27, _⟩ => ⟨S16384x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S3x1x2048, .f32⟩
  | .local _ .vmem, ⟨5, _⟩ => ⟨S1x2048, .f32⟩
  | .local _ .vmem, ⟨6, _⟩ => ⟨S2048x96, .bf16⟩
  | .local _ .vmem, ⟨7, _⟩ => ⟨S96x2048, .bf16⟩
  | .local _ .vmem, ⟨8, _⟩ => ⟨S1x2048, .f32⟩
  | .local _ .vmem, ⟨9, _⟩ => ⟨S2048x96, .bf16⟩
  | .local _ .vmem, ⟨10, _⟩ => ⟨S96x2048, .bf16⟩
  | .local _ .vmem, ⟨11, _⟩ => ⟨S2048x256, .bf16⟩
  | .local _ .vmem, ⟨12, _⟩ => ⟨S256x2048, .bf16⟩
  | .local _ .vmem, ⟨13, _⟩ => ⟨S256x2048, .f32⟩
  | .local _ .vmem, ⟨14, _⟩ => ⟨S256x2048, .f32⟩
  | .local _ .vmem, ⟨15, _⟩ => ⟨S256x2048, .f32⟩
  | .local _ .vmem, ⟨16, _⟩ => ⟨S256x2048, .f32⟩
  | .local _ .vmem, ⟨17, _⟩ => ⟨S256x2048, .f32⟩
  | .local _ .vmem, ⟨18, _⟩ => ⟨S256x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14_0 : Ref sig .tc := ⟨.hbm, 25, rfl⟩
abbrev main_v14_1 : Ref sig .tc := ⟨.hbm, 26, rfl⟩
abbrev main_v14_2 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem11_1 : DmaSem sig := 14
abbrev cc0_sem12_0 : DmaSem sig := 15
abbrev cc0_sem12_1 : DmaSem sig := 16
abbrev cc0_sem13_0 : DmaSem sig := 17
abbrev cc0_sem13_1 : DmaSem sig := 18

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3x1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x96 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S96x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x96 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S96x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2048x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x2048 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== ReferenceLoraIdeal.lean ====
abbrev S16384x2048 : Shape := ⟨2, ![16384, 2048]⟩
abbrev S1x1x2048 : Shape := ⟨3, ![1, 1, 2048]⟩
abbrev S6x2048 : Shape := ⟨2, ![6, 2048]⟩
abbrev S2048 : Shape := ⟨1, ![2048]⟩
abbrev S2048x96 : Shape := ⟨2, ![2048, 96]⟩
abbrev S96x2048 : Shape := ⟨2, ![96, 2048]⟩
abbrev S2048x256 : Shape := ⟨2, ![2048, 256]⟩
abbrev S256x2048 : Shape := ⟨2, ![256, 2048]⟩
abbrev S1x2048 : Shape := ⟨2, ![1, 2048]⟩
abbrev S16383x2048 : Shape := ⟨2, ![16383, 2048]⟩
abbrev S16384x96 : Shape := ⟨2, ![16384, 96]⟩
abbrev S_ : Shape := ⟨0, ![]⟩
abbrev S16384x256 : Shape := ⟨2, ![16384, 256]⟩

abbrev nBuf : Space → Nat
  | .hbm => 83
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S1x1x2048, .f32⟩
  | .hbm, ⟨2, _⟩ => ⟨S6x2048, .f32⟩
  | .hbm, ⟨3, _⟩ => ⟨S2048, .f32⟩
  | .hbm, ⟨4, _⟩ => ⟨S2048x96, .f32⟩
  | .hbm, ⟨5, _⟩ => ⟨S96x2048, .f32⟩
  | .hbm, ⟨6, _⟩ => ⟨S2048, .f32⟩
  | .hbm, ⟨7, _⟩ => ⟨S2048x96, .f32⟩
  | .hbm, ⟨8, _⟩ => ⟨S96x2048, .f32⟩
  | .hbm, ⟨9, _⟩ => ⟨S2048x256, .f32⟩
  | .hbm, ⟨10, _⟩ => ⟨S256x2048, .f32⟩
  | .hbm, ⟨11, _⟩ => ⟨S1x2048, .f32⟩
  | .hbm, ⟨12, _⟩ => ⟨S16383x2048, .f32⟩
  | .hbm, ⟨13, _⟩ => ⟨S16384x2048, .f32⟩
  | .hbm, ⟨14, _⟩ => ⟨S16384x2048, .f32⟩
  | .hbm, ⟨15, _⟩ => ⟨S1x2048, .f32⟩
  | .hbm, ⟨16, _⟩ => ⟨S2048, .f32⟩
  | .hbm, ⟨17, _⟩ => ⟨S1x2048, .f32⟩
  | .hbm, ⟨18, _⟩ => ⟨S16384x2048, .f32⟩
  | .hbm, ⟨19, _⟩ => ⟨S16384x2048, .f32⟩
  | .hbm, ⟨20, _⟩ => ⟨S16384x2048, .f32⟩
  | .hbm, ⟨21, _⟩ => ⟨S16384x96, .f32⟩
  | .hbm, ⟨22, _⟩ => ⟨S16384x96, .f32⟩
  | .hbm, ⟨23, _⟩ => ⟨S16384x2048, .f32⟩
  | .hbm, ⟨24, _⟩ => ⟨S1x2048, .f32⟩
  | .hbm, ⟨25, _⟩ => ⟨S16384x2048, .f32⟩
  | .hbm, ⟨26, _⟩ => ⟨S16384x2048, .f32⟩
  | .hbm, ⟨27, _⟩ => ⟨S16384x2048, .f32⟩
  | .hbm, ⟨28, _⟩ => ⟨S_, .f32⟩
  | .hbm, ⟨29, _⟩ => ⟨S16384x2048, .f32⟩
  | .hbm, ⟨30, _⟩ => ⟨S16384x2048, .f32⟩
  | .hbm, ⟨31, _⟩ => ⟨S16384x2048, .f32⟩
  | .hbm, ⟨32, _⟩ => ⟨S16384x2048, .f32⟩
  | .hbm, ⟨33, _⟩ => ⟨S16384x2048, .i1⟩
  | .hbm, ⟨34, _⟩ => ⟨S16384x2048, .f32⟩
  | .hbm, ⟨35, _⟩ => ⟨S16384x2048, .f32⟩
  | .hbm, ⟨36, _⟩ => ⟨S16384x2048, .f32⟩
  | .hbm, ⟨37, _⟩ => ⟨S16384x2048, .f32⟩
  | .hbm, ⟨38, _⟩ => ⟨S16384x2048, .f32⟩
  | .hbm, ⟨39, _⟩ => ⟨S16384x2048, .f32⟩
  | .hbm, ⟨40, _⟩ => ⟨S16384x2048, .f32⟩
  | .hbm, ⟨41, _⟩ => ⟨S16384x2048, .f32⟩
  | .hbm, ⟨42, _⟩ => ⟨S16384x2048, .f32⟩
  | .hbm, ⟨43, _⟩ => ⟨S_, .f32⟩
  | .hbm, ⟨44, _⟩ => ⟨S16384x2048, .f32⟩
  | .hbm, ⟨45, _⟩ => ⟨S16384x2048, .f32⟩
  | .hbm, ⟨46, _⟩ => ⟨S1x2048, .f32⟩
  | .hbm, ⟨47, _⟩ => ⟨S2048, .f32⟩
  | .hbm, ⟨48, _⟩ => ⟨S1x2048, .f32⟩
  | .hbm, ⟨49, _⟩ => ⟨S16384x2048, .f32⟩
  | .hbm, ⟨50, _⟩ => ⟨S16384x2048, .f32⟩
  | .hbm, ⟨51, _⟩ => ⟨S16384x2048, .f32⟩
  | .hbm, ⟨52, _⟩ => ⟨S16384x96, .f32⟩
  | .hbm, ⟨53, _⟩ => ⟨S16384x2048, .f32⟩
  | .hbm, ⟨54, _⟩ => ⟨S1x2048, .f32⟩
  | .hbm, ⟨55, _⟩ => ⟨S16384x2048, .f32⟩
  | .hbm, ⟨56, _⟩ => ⟨S16384x2048, .f32⟩
  | .hbm, ⟨57, _⟩ => ⟨S16384x2048, .f32⟩
  | .hbm, ⟨58, _⟩ => ⟨S16384x2048, .f32⟩
  | .hbm, ⟨59, _⟩ => ⟨S_, .f32⟩
  | .hbm, ⟨60, _⟩ => ⟨S16384x2048, .f32⟩
  | .hbm, ⟨61, _⟩ => ⟨S16384x2048, .f32⟩
  | .hbm, ⟨62, _⟩ => ⟨S_, .f32⟩
  | .hbm, ⟨63, _⟩ => ⟨S16384x2048, .f32⟩
  | .hbm, ⟨64, _⟩ => ⟨S16384x2048, .f32⟩
  | .hbm, ⟨65, _⟩ => ⟨S1x2048, .f32⟩
  | .hbm, ⟨66, _⟩ => ⟨S2048, .f32⟩
  | .hbm, ⟨67, _⟩ => ⟨S1x2048, .f32⟩
  | .hbm, ⟨68, _⟩ => ⟨S16384x2048, .f32⟩
  | .hbm, ⟨69, _⟩ => ⟨S16384x2048, .f32⟩
  | .hbm, ⟨70, _⟩ => ⟨S16384x2048, .f32⟩
  | .hbm, ⟨71, _⟩ => ⟨S16384x256, .f32⟩
  | .hbm, ⟨72, _⟩ => ⟨S16384x256, .f32⟩
  | .hbm, ⟨73, _⟩ => ⟨S16384x256, .f32⟩
  | .hbm, ⟨74, _⟩ => ⟨S_, .f32⟩
  | .hbm, ⟨75, _⟩ => ⟨S16384x256, .f32⟩
  | .hbm, ⟨76, _⟩ => ⟨S16384x256, .f32⟩
  | .hbm, ⟨77, _⟩ => ⟨S_, .f32⟩
  | .hbm, ⟨78, _⟩ => ⟨S16384x256, .f32⟩
  | .hbm, ⟨79, _⟩ => ⟨S16384x256, .f32⟩
  | .hbm, ⟨80, _⟩ => ⟨S16384x2048, .f32⟩
  | .hbm, ⟨81, _⟩ => ⟨S16384x2048, .f32⟩
  | .hbm, ⟨82, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_call0_cst : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_call0_v5 : Ref sig .tc := ⟨.hbm, 34, rfl⟩
abbrev main_call0_v6 : Ref sig .tc := ⟨.hbm, 35, rfl⟩
abbrev main_call0_v7 : Ref sig .tc := ⟨.hbm, 36, rfl⟩
abbrev main_call0_v8 : Ref sig .tc := ⟨.hbm, 37, rfl⟩
abbrev main_call0_v9 : Ref sig .tc := ⟨.hbm, 38, rfl⟩
abbrev main_call0_v10 : Ref sig .tc := ⟨.hbm, 39, rfl⟩
abbrev main_call0_v11 : Ref sig .tc := ⟨.hbm, 40, rfl⟩
abbrev main_v17 : Ref sig .tc := ⟨.hbm, 41, rfl⟩
abbrev main_v18 : Ref sig .tc := ⟨.hbm, 42, rfl⟩
abbrev main_cst : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_cst_0 : Ref sig .tc := ⟨.hbm, 59, rfl⟩
abbrev main_v34 : Ref sig .tc := ⟨.hbm, 60, rfl⟩
abbrev main_v35 : Ref sig .tc := ⟨.hbm, 61, rfl⟩
abbrev main_cst_1 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_cst_2 : Ref sig .tc := ⟨.hbm, 74, rfl⟩
abbrev main_v47 : Ref sig .tc := ⟨.hbm, 75, rfl⟩
abbrev main_v48 : Ref sig .tc := ⟨.hbm, 76, rfl⟩
abbrev main_cst_3 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩

abbrev nD : Nat := 1
abbrev τ : Topo := Topo.v7x

variable {F : FTy → Type} [FloatOps F]
-- ==== KernelHgrn.lean ====
abbrev S128x8192 : Shape := ⟨2, ![128, 8192]⟩
abbrev S2048 : Shape := ⟨1, ![2048]⟩
abbrev S8x16x128x128 : Shape := ⟨4, ![8, 16, 128, 128]⟩
abbrev S1x2048 : Shape := ⟨2, ![1, 2048]⟩
abbrev S128x2048 : Shape := ⟨2, ![128, 2048]⟩
abbrev S16x128 : Shape := ⟨2, ![16, 128]⟩
abbrev S1x128 : Shape := ⟨2, ![1, 128]⟩
abbrev S1x1x128x128 : Shape := ⟨4, ![1, 1, 128, 128]⟩
abbrev S128x128 : Shape := ⟨2, ![128, 128]⟩
abbrev S16x16 : Shape := ⟨2, ![16, 16]⟩
abbrev S16 : Shape := ⟨1, ![16]⟩
abbrev S16x1 : Shape := ⟨2, ![16, 1]⟩

abbrev nBuf : Space → Nat
  | .hbm => 7
  | .vmem => 15
  | .smem => 0
  | _ => 0

abbrev bufTy : (tb : Table) → Fin (tcTables nBuf tb) → BufTy
  | .hbm, ⟨0, _⟩ => ⟨S128x8192, .f32⟩
  | .hbm, ⟨1, _⟩ => ⟨S2048, .f32⟩
  | .hbm, ⟨2, _⟩ => ⟨S8x16x128x128, .f32⟩
  | .hbm, ⟨3, _⟩ => ⟨S8x16x128x128, .f32⟩
  | .hbm, ⟨4, _⟩ => ⟨S1x2048, .f32⟩
  | .hbm, ⟨5, _⟩ => ⟨S128x2048, .f32⟩
  | .hbm, ⟨6, _⟩ => ⟨S8x16x128x128, .f32⟩
  | .local _ .vmem, ⟨0, _⟩ => ⟨S16x128, .f32⟩
  | .local _ .vmem, ⟨1, _⟩ => ⟨S16x128, .f32⟩
  | .local _ .vmem, ⟨2, _⟩ => ⟨S16x128, .f32⟩
  | .local _ .vmem, ⟨3, _⟩ => ⟨S16x128, .f32⟩
  | .local _ .vmem, ⟨4, _⟩ => ⟨S16x128, .f32⟩
  | .local _ .vmem, ⟨5, _⟩ => ⟨S16x128, .f32⟩
  | .local _ .vmem, ⟨6, _⟩ => ⟨S1x128, .f32⟩
  | .local _ .vmem, ⟨7, _⟩ => ⟨S1x128, .f32⟩
  | .local _ .vmem, ⟨8, _⟩ => ⟨S1x1x128x128, .f32⟩
  | .local _ .vmem, ⟨9, _⟩ => ⟨S1x1x128x128, .f32⟩
  | .local _ .vmem, ⟨10, _⟩ => ⟨S16x128, .f32⟩
  | .local _ .vmem, ⟨11, _⟩ => ⟨S16x128, .f32⟩
  | .local _ .vmem, ⟨12, _⟩ => ⟨S1x1x128x128, .f32⟩
  | .local _ .vmem, ⟨13, _⟩ => ⟨S1x1x128x128, .f32⟩
  | .local _ .vmem, ⟨14, _⟩ => ⟨S128x128, .f32⟩
  | _, _ => ⟨S128x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![8, 16, 1], ![false, false, false]⟩

def k0_mult1 : BitVec 32 :=
  let c0_i32_2 : BitVec 32 := 0#32
  let c16_i32 : BitVec 32 := 16#32
  let v11 : BitVec 32 := Scalar.muli c0_i32_2 c16_i32
  v11
def k0_off1 : Fin 2 → Nat :=
  let c0_i32_2 : BitVec 32 := 0#32
  let c16_i32 : BitVec 32 := 16#32
  let v11 : BitVec 32 := Scalar.muli c0_i32_2 c16_i32
  let v12 : BitVec 32 := v11
  let v13 : Index := Scalar.indexCast v12
  let c0_3 : Index := 0#32
  ![v13.toNat, 0]
def k0_cond2 (i : grid0.Coords) : BitVec 1 :=
  let arg2 : BitVec 32 := BitVec.ofNat 32 (i 2).val
  let c0_i32_63 : BitVec 32 := 0#32
  let v398 : BitVec 1 := Scalar.cmpi .eq arg2 c0_i32_63
  let v399 : BitVec 32 := Scalar.extui v398
  let c0_i32_64 : BitVec 32 := 0#32
  let v400 : BitVec 1 := Scalar.cmpi .ne v399 c0_i32_64
  v400

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c16_i32 : BitVec 32 := 16#32
  let v2 : BitVec 32 := Scalar.addi c16_i32 arg1
  let c0_i32 : BitVec 32 := 0#32
  ![v1.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c32_i32 : BitVec 32 := 32#32
  let v2 : BitVec 32 := Scalar.addi c32_i32 arg1
  let c0_i32 : BitVec 32 := 0#32
  ![v1.toNat, v2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  ![v1.toNat, arg1.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S16x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S16x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S16x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1x1x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S16x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x1x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== ReferenceHgrnIdeal.lean ====
abbrev S128x8192 : Shape := ⟨2, ![128, 8192]⟩
abbrev S2048 : Shape := ⟨1, ![2048]⟩
abbrev S8x16x128x128 : Shape := ⟨4, ![8, 16, 128, 128]⟩
abbrev S128x2048 : Shape := ⟨2, ![128, 2048]⟩
abbrev S_ : Shape := ⟨0, ![]⟩
abbrev S1x2048 : Shape := ⟨2, ![1, 2048]⟩
abbrev S8x16x16x128 : Shape := ⟨4, ![8, 16, 16, 128]⟩
abbrev S8x16x16x1x128 : Shape := ⟨5, ![8, 16, 16, 1, 128]⟩
abbrev S8x16x1x16x128 : Shape := ⟨5, ![8, 16, 1, 16, 128]⟩
abbrev S8x16x16x16x128 : Shape := ⟨5, ![8, 16, 16, 16, 128]⟩
abbrev S16x16 : Shape := ⟨2, ![16, 16]⟩
abbrev S16x16x1 : Shape := ⟨3, ![16, 16, 1]⟩
abbrev S8x16x16x16 : Shape := ⟨4, ![8, 16, 16, 16]⟩
abbrev S8x16x1x128 : Shape := ⟨4, ![8, 16, 1, 128]⟩
abbrev S8x16x128 : Shape := ⟨3, ![8, 16, 128]⟩
abbrev S8x16x128x1 : Shape := ⟨4, ![8, 16, 128, 1]⟩

abbrev nBuf : Space → Nat
  | .hbm => 114
  | .vmem => 0
  | .smem => 0
  | _ => 0

abbrev bufTy : (tb : Table) → Fin (tcTables nBuf tb) → BufTy
  | .hbm, ⟨0, _⟩ => ⟨S128x8192, .f32⟩
  | .hbm, ⟨1, _⟩ => ⟨S2048, .f32⟩
  | .hbm, ⟨2, _⟩ => ⟨S8x16x128x128, .f32⟩
  | .hbm, ⟨3, _⟩ => ⟨S128x2048, .f32⟩
  | .hbm, ⟨4, _⟩ => ⟨S128x2048, .f32⟩
  | .hbm, ⟨5, _⟩ => ⟨S128x2048, .f32⟩
  | .hbm, ⟨6, _⟩ => ⟨S128x2048, .f32⟩
  | .hbm, ⟨7, _⟩ => ⟨S128x2048, .f32⟩
  | .hbm, ⟨8, _⟩ => ⟨S128x2048, .f32⟩
  | .hbm, ⟨9, _⟩ => ⟨S_, .f32⟩
  | .hbm, ⟨10, _⟩ => ⟨S128x2048, .f32⟩
  | .hbm, ⟨11, _⟩ => ⟨S128x2048, .f32⟩
  | .hbm, ⟨12, _⟩ => ⟨S_, .f32⟩
  | .hbm, ⟨13, _⟩ => ⟨S128x2048, .f32⟩
  | .hbm, ⟨14, _⟩ => ⟨S128x2048, .f32⟩
  | .hbm, ⟨15, _⟩ => ⟨S128x2048, .f32⟩
  | .hbm, ⟨16, _⟩ => ⟨S_, .f32⟩
  | .hbm, ⟨17, _⟩ => ⟨S128x2048, .f32⟩
  | .hbm, ⟨18, _⟩ => ⟨S128x2048, .f32⟩
  | .hbm, ⟨19, _⟩ => ⟨S_, .f32⟩
  | .hbm, ⟨20, _⟩ => ⟨S2048, .f32⟩
  | .hbm, ⟨21, _⟩ => ⟨S2048, .f32⟩
  | .hbm, ⟨22, _⟩ => ⟨S128x2048, .f32⟩
  | .hbm, ⟨23, _⟩ => ⟨S128x2048, .f32⟩
  | .hbm, ⟨24, _⟩ => ⟨S_, .f32⟩
  | .hbm, ⟨25, _⟩ => ⟨S128x2048, .f32⟩
  | .hbm, ⟨26, _⟩ => ⟨S128x2048, .f32⟩
  | .hbm, ⟨27, _⟩ => ⟨S_, .f32⟩
  | .hbm, ⟨28, _⟩ => ⟨S128x2048, .f32⟩
  | .hbm, ⟨29, _⟩ => ⟨S128x2048, .f32⟩
  | .hbm, ⟨30, _⟩ => ⟨S1x2048, .f32⟩
  | .hbm, ⟨31, _⟩ => ⟨S128x2048, .f32⟩
  | .hbm, ⟨32, _⟩ => ⟨S128x2048, .f32⟩
  | .hbm, ⟨33, _⟩ => ⟨S1x2048, .f32⟩
  | .hbm, ⟨34, _⟩ => ⟨S128x2048, .f32⟩
  | .hbm, ⟨35, _⟩ => ⟨S128x2048, .f32⟩
  | .hbm, ⟨36, _⟩ => ⟨S128x2048, .f32⟩
  | .hbm, ⟨37, _⟩ => ⟨S_, .f32⟩
  | .hbm, ⟨38, _⟩ => ⟨S2048, .f32⟩
  | .hbm, ⟨39, _⟩ => ⟨S2048, .f32⟩
  | .hbm, ⟨40, _⟩ => ⟨S128x2048, .f32⟩
  | .hbm, ⟨41, _⟩ => ⟨S128x2048, .f32⟩
  | .hbm, ⟨42, _⟩ => ⟨S128x2048, .f32⟩
  | .hbm, ⟨43, _⟩ => ⟨S_, .f32⟩
  | .hbm, ⟨44, _⟩ => ⟨S128x2048, .f32⟩
  | .hbm, ⟨45, _⟩ => ⟨S128x2048, .f32⟩
  | .hbm, ⟨46, _⟩ => ⟨S_, .f32⟩
  | .hbm, ⟨47, _⟩ => ⟨S128x2048, .f32⟩
  | .hbm, ⟨48, _⟩ => ⟨S128x2048, .f32⟩
  | .hbm, ⟨49, _⟩ => ⟨S1x2048, .f32⟩
  | .hbm, ⟨50, _⟩ => ⟨S128x2048, .f32⟩
  | .hbm, ⟨51, _⟩ => ⟨S128x2048, .f32⟩
  | .hbm, ⟨52, _⟩ => ⟨S8x16x16x128, .f32⟩
  | .hbm, ⟨53, _⟩ => ⟨S8x16x16x128, .f32⟩
  | .hbm, ⟨54, _⟩ => ⟨S8x16x16x128, .f32⟩
  | .hbm, ⟨55, _⟩ => ⟨S8x16x16x128, .f32⟩
  | .hbm, ⟨56, _⟩ => ⟨S8x16x16x128, .f32⟩
  | .hbm, ⟨57, _⟩ => ⟨S8x16x16x128, .f32⟩
  | .hbm, ⟨58, _⟩ => ⟨S8x16x16x128, .f32⟩
  | .hbm, ⟨59, _⟩ => ⟨S8x16x16x128, .f32⟩
  | .hbm, ⟨60, _⟩ => ⟨S_, .f32⟩
  | .hbm, ⟨61, _⟩ => ⟨S_, .f32⟩
  | .hbm, ⟨62, _⟩ => ⟨S8x16x16x128, .f32⟩
  | .hbm, ⟨63, _⟩ => ⟨S8x16x16x1x128, .f32⟩
  | .hbm, ⟨64, _⟩ => ⟨S8x16x1x16x128, .f32⟩
  | .hbm, ⟨65, _⟩ => ⟨S8x16x16x16x128, .f32⟩
  | .hbm, ⟨66, _⟩ => ⟨S8x16x16x16x128, .f32⟩
  | .hbm, ⟨67, _⟩ => ⟨S8x16x16x16x128, .f32⟩
  | .hbm, ⟨68, _⟩ => ⟨S_, .i1⟩
  | .hbm, ⟨69, _⟩ => ⟨S16x16, .i1⟩
  | .hbm, ⟨70, _⟩ => ⟨S16x16, .i32⟩
  | .hbm, ⟨71, _⟩ => ⟨S_, .i32⟩
  | .hbm, ⟨72, _⟩ => ⟨S16x16, .i32⟩
  | .hbm, ⟨73, _⟩ => ⟨S16x16, .i32⟩
  | .hbm, ⟨74, _⟩ => ⟨S16x16, .i32⟩
  | .hbm, ⟨75, _⟩ => ⟨S16x16, .i1⟩
  | .hbm, ⟨76, _⟩ => ⟨S_, .i1⟩
  | .hbm, ⟨77, _⟩ => ⟨S16x16, .i1⟩
  | .hbm, ⟨78, _⟩ => ⟨S16x16, .i1⟩
  | .hbm, ⟨79, _⟩ => ⟨S16x16x1, .i1⟩
  | .hbm, ⟨80, _⟩ => ⟨S_, .f32⟩
  | .hbm, ⟨81, _⟩ => ⟨S_, .f32⟩
  | .hbm, ⟨82, _⟩ => ⟨S8x16x16x16x128, .i1⟩
  | .hbm, ⟨83, _⟩ => ⟨S8x16x16x16x128, .f32⟩
  | .hbm, ⟨84, _⟩ => ⟨S8x16x16x16x128, .f32⟩
  | .hbm, ⟨85, _⟩ => ⟨S8x16x16x16x128, .f32⟩
  | .hbm, ⟨86, _⟩ => ⟨S8x16x16x1x128, .f32⟩
  | .hbm, ⟨87, _⟩ => ⟨S8x16x1x16x128, .f32⟩
  | .hbm, ⟨88, _⟩ => ⟨S8x16x16x16x128, .f32⟩
  | .hbm, ⟨89, _⟩ => ⟨S8x16x16x16x128, .f32⟩
  | .hbm, ⟨90, _⟩ => ⟨S8x16x16x16x128, .f32⟩
  | .hbm, ⟨91, _⟩ => ⟨S8x16x16x16x128, .f32⟩
  | .hbm, ⟨92, _⟩ => ⟨S_, .f32⟩
  | .hbm, ⟨93, _⟩ => ⟨S8x16x16x16, .f32⟩
  | .hbm, ⟨94, _⟩ => ⟨S8x16x16x128, .f32⟩
  | .hbm, ⟨95, _⟩ => ⟨S8x16x16x128, .f32⟩
  | .hbm, ⟨96, _⟩ => ⟨S8x16x16x128, .f32⟩
  | .hbm, ⟨97, _⟩ => ⟨S8x16x16x128, .f32⟩
  | .hbm, ⟨98, _⟩ => ⟨S8x16x16x128, .f32⟩
  | .hbm, ⟨99, _⟩ => ⟨S8x16x1x128, .f32⟩
  | .hbm, ⟨100, _⟩ => ⟨S8x16x128, .f32⟩
  | .hbm, ⟨101, _⟩ => ⟨S8x16x128x1, .f32⟩
  | .hbm, ⟨102, _⟩ => ⟨S8x16x128x1, .f32⟩
  | .hbm, ⟨103, _⟩ => ⟨S8x16x128x128, .f32⟩
  | .hbm, ⟨104, _⟩ => ⟨S8x16x128x128, .f32⟩
  | .hbm, ⟨105, _⟩ => ⟨S8x16x16x128, .f32⟩
  | .hbm, ⟨106, _⟩ => ⟨S8x16x16x128, .f32⟩
  | .hbm, ⟨107, _⟩ => ⟨S8x16x16x128, .f32⟩
  | .hbm, ⟨108, _⟩ => ⟨S8x16x16x128, .f32⟩
  | .hbm, ⟨109, _⟩ => ⟨S8x16x128x128, .f32⟩
  | .hbm, ⟨110, _⟩ => ⟨S8x16x128x128, .f32⟩
  | .hbm, ⟨111, _⟩ => ⟨S8x16x16x128, .f32⟩
  | .hbm, ⟨112, _⟩ => ⟨S128x2048, .f32⟩
  | .hbm, ⟨113, _⟩ => ⟨S8x16x128x128, .f32⟩
  | _, _ => ⟨S128x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v4 : Ref sig .tc := ⟨.hbm, 15, rfl⟩
abbrev main_cst : Ref sig .tc := ⟨.hbm, 16, rfl⟩
abbrev main_v5 : Ref sig .tc := ⟨.hbm, 17, rfl⟩
abbrev main_v6 : Ref sig .tc := ⟨.hbm, 18, rfl⟩
abbrev main_cst_0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_3 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_4 : Ref sig .tc := ⟨.hbm, 43, rfl⟩
abbrev main_v27 : Ref sig .tc := ⟨.hbm, 44, rfl⟩
abbrev main_v28 : Ref sig .tc := ⟨.hbm, 45, rfl⟩
abbrev main_cst_5 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_call1_call0_cst : Ref sig .tc := ⟨.hbm, 60, rfl⟩
abbrev main_call1_call0_v0 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_c : Ref sig .tc := ⟨.hbm, 68, rfl⟩
abbrev main_v48 : Ref sig .tc := ⟨.hbm, 69, rfl⟩
abbrev main_call2_v0 : Ref sig .tc := ⟨.hbm, 70, rfl⟩
abbrev main_call2_c : Ref sig .tc := ⟨.hbm, 71, rfl⟩
abbrev main_call2_v1 : Ref sig .tc := ⟨.hbm, 72, rfl⟩
abbrev main_call2_v2 : Ref sig .tc := ⟨.hbm, 73, rfl⟩
abbrev main_call2_v3 : Ref sig .tc := ⟨.hbm, 74, rfl⟩
abbrev main_call2_v4 : Ref sig .tc := ⟨.hbm, 75, rfl⟩
abbrev main_call2_c_0 : Ref sig .tc := ⟨.hbm, 76, rfl⟩
abbrev main_call2_v5 : Ref sig .tc := ⟨.hbm, 77, rfl⟩
abbrev main_v49 : Ref sig .tc := ⟨.hbm, 78, rfl⟩
abbrev main_v50 : Ref sig .tc := ⟨.hbm, 79, rfl⟩
abbrev main_cst_6 : Ref sig .tc := ⟨.hbm, 80, rfl⟩
abbrev main_call3_v0 : Ref sig .tc := ⟨.hbm, 81, rfl⟩
abbrev main_call3_v1 : Ref sig .tc := ⟨.hbm, 82, rfl⟩
abbrev main_call3_v2 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_cst_7 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩

abbrev nD : Nat := 1
abbrev τ : Topo := Topo.v7x

variable {F : FTy → Type} [FloatOps F]
-- ==== KernelWkv.lean ====
abbrev S3x128x2048 : Shape := ⟨3, ![3, 128, 2048]⟩
abbrev S128x2048 : Shape := ⟨2, ![128, 2048]⟩
abbrev S2048 : Shape := ⟨1, ![2048]⟩
abbrev S32x64 : Shape := ⟨2, ![32, 64]⟩
abbrev S8x32x64x64 : Shape := ⟨4, ![8, 32, 64, 64]⟩
abbrev S8x16x2x64x64 : Shape := ⟨5, ![8, 16, 2, 64, 64]⟩
abbrev S8x16x1x64x64 : Shape := ⟨5, ![8, 16, 1, 64, 64]⟩
abbrev S8x16x64x64 : Shape := ⟨4, ![8, 16, 64, 64]⟩
abbrev S_ : Shape := ⟨0, ![]⟩
abbrev S8x16x64x128 : Shape := ⟨4, ![8, 16, 64, 128]⟩
abbrev S8x16x128x128 : Shape := ⟨4, ![8, 16, 128, 128]⟩
abbrev S1x2048 : Shape := ⟨2, ![1, 2048]⟩
abbrev S1x16x128 : Shape := ⟨3, ![1, 16, 128]⟩
abbrev S16x128 : Shape := ⟨2, ![16, 128]⟩
abbrev S1x128 : Shape := ⟨2, ![1, 128]⟩
abbrev S1x1x128x128 : Shape := ⟨4, ![1, 1, 128, 128]⟩
abbrev S128x128 : Shape := ⟨2, ![128, 128]⟩
abbrev S16x16 : Shape := ⟨2, ![16, 16]⟩
abbrev S32x32 : Shape := ⟨2, ![32, 32]⟩
abbrev S32x128 : Shape := ⟨2, ![32, 128]⟩
abbrev S64x128 : Shape := ⟨2, ![64, 128]⟩
abbrev S64x64 : Shape := ⟨2, ![64, 64]⟩

abbrev nBuf : Space → Nat
  | .hbm => 30
  | .vmem => 29
  | .smem => 0
  | _ => 0

abbrev bufTy : (tb : Table) → Fin (tcTables nBuf tb) → BufTy
  | .hbm, ⟨0, _⟩ => ⟨S3x128x2048, .f32⟩
  | .hbm, ⟨1, _⟩ => ⟨S128x2048, .f32⟩
  | .hbm, ⟨2, _⟩ => ⟨S128x2048, .f32⟩
  | .hbm, ⟨3, _⟩ => ⟨S128x2048, .f32⟩
  | .hbm, ⟨4, _⟩ => ⟨S2048, .f32⟩
  | .hbm, ⟨5, _⟩ => ⟨S2048, .f32⟩
  | .hbm, ⟨6, _⟩ => ⟨S32x64, .f32⟩
  | .hbm, ⟨7, _⟩ => ⟨S2048, .f32⟩
  | .hbm, ⟨8, _⟩ => ⟨S2048, .f32⟩
  | .hbm, ⟨9, _⟩ => ⟨S8x32x64x64, .f32⟩
  | .hbm, ⟨10, _⟩ => ⟨S2048, .f32⟩
  | .hbm, ⟨11, _⟩ => ⟨S8x16x2x64x64, .f32⟩
  | .hbm, ⟨12, _⟩ => ⟨S8x16x1x64x64, .f32⟩
  | .hbm, ⟨13, _⟩ => ⟨S8x16x64x64, .f32⟩
  | .hbm, ⟨14, _⟩ => ⟨S_, .f32⟩
  | .hbm, ⟨15, _⟩ => ⟨S8x16x64x64, .f32⟩
  | .hbm, ⟨16, _⟩ => ⟨S8x16x1x64x64, .f32⟩
  | .hbm, ⟨17, _⟩ => ⟨S8x16x64x64, .f32⟩
  | .hbm, ⟨18, _⟩ => ⟨S8x16x64x128, .f32⟩
  | .hbm, ⟨19, _⟩ => ⟨S8x16x1x64x64, .f32⟩
  | .hbm, ⟨20, _⟩ => ⟨S8x16x64x64, .f32⟩
  | .hbm, ⟨21, _⟩ => ⟨S8x16x64x128, .f32⟩
  | .hbm, ⟨22, _⟩ => ⟨S8x16x128x128, .f32⟩
  | .hbm, ⟨23, _⟩ => ⟨S1x2048, .f32⟩
  | .hbm, ⟨24, _⟩ => ⟨S1x2048, .f32⟩
  | .hbm, ⟨25, _⟩ => ⟨S1x2048, .f32⟩
  | .hbm, ⟨26, _⟩ => ⟨S1x2048, .f32⟩
  | .hbm, ⟨27, _⟩ => ⟨S1x2048, .f32⟩
  | .hbm, ⟨28, _⟩ => ⟨S128x2048, .f32⟩
  | .hbm, ⟨29, _⟩ => ⟨S8x16x128x128, .f32⟩
  | .local _ .vmem, ⟨0, _⟩ => ⟨S1x16x128, .f32⟩
  | .local _ .vmem, ⟨1, _⟩ => ⟨S1x16x128, .f32⟩
  | .local _ .vmem, ⟨2, _⟩ => ⟨S1x16x128, .f32⟩
  | .local _ .vmem, ⟨3, _⟩ => ⟨S1x16x128, .f32⟩
  | .local _ .vmem, ⟨4, _⟩ => ⟨S1x16x128, .f32⟩
  | .local _ .vmem, ⟨5, _⟩ => ⟨S1x16x128, .f32⟩
  | .local _ .vmem, ⟨6, _⟩ => ⟨S16x128, .f32⟩
  | .local _ .vmem, ⟨7, _⟩ => ⟨S16x128, .f32⟩
  | .local _ .vmem, ⟨8, _⟩ => ⟨S16x128, .f32⟩
  | .local _ .vmem, ⟨9, _⟩ => ⟨S16x128, .f32⟩
  | .local _ .vmem, ⟨10, _⟩ => ⟨S16x128, .f32⟩
  | .local _ .vmem, ⟨11, _⟩ => ⟨S16x128, .f32⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S1x128, .f32⟩
  | .local _ .vmem, ⟨19, _⟩ => ⟨S1x128, .f32⟩
  | .local _ .vmem, ⟨20, _⟩ => ⟨S1x128, .f32⟩
  | .local _ .vmem, ⟨21, _⟩ => ⟨S1x128, .f32⟩
  | .local _ .vmem, ⟨22, _⟩ => ⟨S1x1x128x128, .f32⟩
  | .local _ .vmem, ⟨23, _⟩ => ⟨S1x1x128x128, .f32⟩
  | .local _ .vmem, ⟨24, _⟩ => ⟨S16x128, .f32⟩
  | .local _ .vmem, ⟨25, _⟩ => ⟨S16x128, .f32⟩
  | .local _ .vmem, ⟨26, _⟩ => ⟨S1x1x128x128, .f32⟩
  | .local _ .vmem, ⟨27, _⟩ => ⟨S1x1x128x128, .f32⟩
  | .local _ .vmem, ⟨28, _⟩ => ⟨S128x128, .f32⟩
  | _, _ => ⟨S3x128x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17_0 : Ref sig .tc := ⟨.hbm, 28, rfl⟩
abbrev main_v17_1 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_scratch0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨3, ![8, 16, 1], ![false, false, false]⟩

def k0_mult1 : BitVec 32 :=
  let c0_i32_60 : BitVec 32 := 0#32
  let c16_i32_61 : BitVec 32 := 16#32
  let v196 : BitVec 32 := Scalar.muli c0_i32_60 c16_i32_61
  v196
def k0_off1 : Fin 3 → Nat :=
  let c0_62 : Index := 0#32
  let c0_i32_60 : BitVec 32 := 0#32
  let c16_i32_61 : BitVec 32 := 16#32
  let v196 : BitVec 32 := Scalar.muli c0_i32_60 c16_i32_61
  let v197 : BitVec 32 := v196
  let v198 : Index := Scalar.indexCast v197
  let c0_63 : Index := 0#32
  ![0, v198.toNat, 0]
def k0_off2 : Fin 2 → Nat :=
  let c0_i32_60 : BitVec 32 := 0#32
  let c16_i32_61 : BitVec 32 := 16#32
  let v196 : BitVec 32 := Scalar.muli c0_i32_60 c16_i32_61
  let v197 : BitVec 32 := v196
  let v207 : Index := Scalar.indexCast v197
  let c0_68 : Index := 0#32
  ![v207.toNat, 0]
def k0_cond2 (i : grid0.Coords) : BitVec 1 :=
  let arg2 : BitVec 32 := BitVec.ofNat 32 (i 2).val
  let c0_i32_126 : BitVec 32 := 0#32
  let v427 : BitVec 1 := Scalar.cmpi .eq arg2 c0_i32_126
  let v428 : BitVec 32 := Scalar.extui v427
  let c0_i32_127 : BitVec 32 := 0#32
  let v429 : BitVec 1 := Scalar.cmpi .ne v428 c0_i32_127
  v429

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  let c0_i32_0 : BitVec 32 := 0#32
  ![c0_i32.toNat, v1.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c1_i32_0 : BitVec 32 := 1#32
  let c0_i32 : BitVec 32 := 0#32
  ![c1_i32_0.toNat, v1.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c2_i32 : BitVec 32 := 2#32
  let c0_i32 : BitVec 32 := 0#32
  ![c2_i32.toNat, v1.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  ![v1.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  ![v1.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  ![v1.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_11 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  ![v1.toNat, arg1.toNat]

def cc0_transform_13 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x16x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x16x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x16x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S16x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S16x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S16x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, false]

abbrev stage0_7 : Fin 2 → Memref sig .tc .vmem S1x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true, false]

abbrev stage0_8 : Fin 2 → Memref sig .tc .vmem S1x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true, false]

abbrev stage0_9 : Fin 2 → Memref sig .tc .vmem S1x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true, false]

abbrev stage0_10 : Fin 2 → Memref sig .tc .vmem S1x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true, false]

abbrev stage0_11 : Fin 2 → Memref sig .tc .vmem S1x1x128x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, false]

abbrev stage0_12 : Fin 2 → Memref sig .tc .vmem S16x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, true]

abbrev stage0_13 : Fin 2 → Memref sig .tc .vmem S1x1x128x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true, false]
-- ==== ReferenceWkvIdeal.lean ====
abbrev S3x128x2048 : Shape := ⟨3, ![3, 128, 2048]⟩
abbrev S128x2048 : Shape := ⟨2, ![128, 2048]⟩
abbrev S2048 : Shape := ⟨1, ![2048]⟩
abbrev S32x64 : Shape := ⟨2, ![32, 64]⟩
abbrev S8x32x64x64 : Shape := ⟨4, ![8, 32, 64, 64]⟩
abbrev S1x128x2048 : Shape := ⟨3, ![1, 128, 2048]⟩
abbrev S1x2048 : Shape := ⟨2, ![1, 2048]⟩
abbrev S8x16x32x64 : Shape := ⟨4, ![8, 16, 32, 64]⟩
abbrev S_ : Shape := ⟨0, ![]⟩
abbrev S8x16x32 : Shape := ⟨3, ![8, 16, 32]⟩
abbrev S8x16x32x1 : Shape := ⟨4, ![8, 16, 32, 1]⟩
abbrev S8x1x32x64 : Shape := ⟨4, ![8, 1, 32, 64]⟩
abbrev S8x32x64 : Shape := ⟨3, ![8, 32, 64]⟩
abbrev S8x32x1x64 : Shape := ⟨4, ![8, 32, 1, 64]⟩
abbrev S8x32x64x1 : Shape := ⟨4, ![8, 32, 64, 1]⟩
abbrev S1x1x32x64 : Shape := ⟨4, ![1, 1, 32, 64]⟩
abbrev S8x16x2x64x1x64 : Shape := ⟨6, ![8, 16, 2, 64, 1, 64]⟩
abbrev S2x2 : Shape := ⟨2, ![2, 2]⟩
abbrev S2x1x2x1 : Shape := ⟨4, ![2, 1, 2, 1]⟩
abbrev S1x1x2x1x2x1 : Shape := ⟨6, ![1, 1, 2, 1, 2, 1]⟩
abbrev S8x16x2x64x2x64 : Shape := ⟨6, ![8, 16, 2, 64, 2, 64]⟩
abbrev S8x16x128x128 : Shape := ⟨4, ![8, 16, 128, 128]⟩

abbrev nBuf : Space → Nat
  | .hbm => 584
  | .vmem => 0
  | .smem => 0
  | _ => 0

abbrev hbmTy0_0 (i : Nat) : BufTy := match i % 128 with
  | 0 => ⟨S3x128x2048, .f32⟩
  | 1 => ⟨S128x2048, .f32⟩
  | 2 => ⟨S128x2048, .f32⟩
  | 3 => ⟨S128x2048, .f32⟩
  | 4 => ⟨S2048, .f32⟩
  | 5 => ⟨S2048, .f32⟩
  | 6 => ⟨S32x64, .f32⟩
  | 7 => ⟨S2048, .f32⟩
  | 8 => ⟨S2048, .f32⟩
  | 9 => ⟨S8x32x64x64, .f32⟩
  | 10 => ⟨S1x128x2048, .f32⟩
  | 11 => ⟨S128x2048, .f32⟩
  | 12 => ⟨S1x128x2048, .f32⟩
  | 13 => ⟨S128x2048, .f32⟩
  | 14 => ⟨S1x128x2048, .f32⟩
  | 15 => ⟨S128x2048, .f32⟩
  | 16 => ⟨S128x2048, .f32⟩
  | 17 => ⟨S1x2048, .f32⟩
  | 18 => ⟨S128x2048, .f32⟩
  | 19 => ⟨S128x2048, .f32⟩
  | 20 => ⟨S8x16x32x64, .f32⟩
  | 21 => ⟨S8x16x32x64, .f32⟩
  | 22 => ⟨S_, .f32⟩
  | 23 => ⟨S8x16x32, .f32⟩
  | 24 => ⟨S8x16x32x1, .f32⟩
  | 25 => ⟨S_, .f32⟩
  | 26 => ⟨S8x16x32x1, .f32⟩
  | 27 => ⟨S8x16x32x1, .f32⟩
  | 28 => ⟨S8x16x32x1, .f32⟩
  | 29 => ⟨S8x16x32x64, .f32⟩
  | 30 => ⟨S8x16x32x64, .f32⟩
  | 31 => ⟨S_, .f32⟩
  | 32 => ⟨S128x2048, .f32⟩
  | 33 => ⟨S128x2048, .f32⟩
  | 34 => ⟨S1x2048, .f32⟩
  | 35 => ⟨S128x2048, .f32⟩
  | 36 => ⟨S128x2048, .f32⟩
  | 37 => ⟨S_, .f32⟩
  | 38 => ⟨S128x2048, .f32⟩
  | 39 => ⟨S128x2048, .f32⟩
  | 40 => ⟨S128x2048, .f32⟩
  | 41 => ⟨S8x16x32x64, .f32⟩
  | 42 => ⟨S8x16x32x64, .f32⟩
  | 43 => ⟨S8x16x32x64, .f32⟩
  | 44 => ⟨S8x16x32x64, .f32⟩
  | 45 => ⟨S8x16x32x64, .f32⟩
  | 46 => ⟨S8x16x32x64, .f32⟩
  | 47 => ⟨S8x1x32x64, .f32⟩
  | 48 => ⟨S8x32x64, .f32⟩
  | 49 => ⟨S8x32x1x64, .f32⟩
  | 50 => ⟨S8x32x64x64, .f32⟩
  | 51 => ⟨S8x32x64x64, .f32⟩
  | 52 => ⟨S8x1x32x64, .f32⟩
  | 53 => ⟨S8x32x64, .f32⟩
  | 54 => ⟨S8x32x64, .f32⟩
  | 55 => ⟨S8x32x64x1, .f32⟩
  | 56 => ⟨S8x1x32x64, .f32⟩
  | 57 => ⟨S8x32x64, .f32⟩
  | 58 => ⟨S8x32x1x64, .f32⟩
  | 59 => ⟨S8x32x64x64, .f32⟩
  | 60 => ⟨S8x32x64x64, .f32⟩
  | 61 => ⟨S8x32x64x64, .f32⟩
  | 62 => ⟨S8x32x64x64, .f32⟩
  | 63 => ⟨S8x1x32x64, .f32⟩
  | 64 => ⟨S8x32x64, .f32⟩
  | 65 => ⟨S8x32x64x1, .f32⟩
  | 66 => ⟨S8x1x32x64, .f32⟩
  | 67 => ⟨S8x32x64, .f32⟩
  | 68 => ⟨S8x32x1x64, .f32⟩
  | 69 => ⟨S8x32x64x64, .f32⟩
  | 70 => ⟨S8x32x64x64, .f32⟩
  | 71 => ⟨S8x32x64x64, .f32⟩
  | 72 => ⟨S8x32x64x64, .f32⟩
  | 73 => ⟨S8x1x32x64, .f32⟩
  | 74 => ⟨S8x32x64, .f32⟩
  | 75 => ⟨S8x32x64, .f32⟩
  | 76 => ⟨S8x1x32x64, .f32⟩
  | 77 => ⟨S8x32x64, .f32⟩
  | 78 => ⟨S8x32x1x64, .f32⟩
  | 79 => ⟨S8x32x64x64, .f32⟩
  | 80 => ⟨S8x32x64x64, .f32⟩
  | 81 => ⟨S8x1x32x64, .f32⟩
  | 82 => ⟨S8x32x64, .f32⟩
  | 83 => ⟨S8x32x64, .f32⟩
  | 84 => ⟨S8x32x64x1, .f32⟩
  | 85 => ⟨S8x1x32x64, .f32⟩
  | 86 => ⟨S8x32x64, .f32⟩
  | 87 => ⟨S8x32x1x64, .f32⟩
  | 88 => ⟨S8x32x64x64, .f32⟩
  | 89 => ⟨S8x32x64x64, .f32⟩
  | 90 => ⟨S8x32x64x64, .f32⟩
  | 91 => ⟨S8x32x64x64, .f32⟩
  | 92 => ⟨S8x1x32x64, .f32⟩
  | 93 => ⟨S8x32x64, .f32⟩
  | 94 => ⟨S8x32x64x1, .f32⟩
  | 95 => ⟨S8x1x32x64, .f32⟩
  | 96 => ⟨S8x32x64, .f32⟩
  | 97 => ⟨S8x32x1x64, .f32⟩
  | 98 => ⟨S8x32x64x64, .f32⟩
  | 99 => ⟨S8x32x64x64, .f32⟩
  | 100 => ⟨S8x32x64x64, .f32⟩
  | 101 => ⟨S8x32x64x64, .f32⟩
  | 102 => ⟨S8x1x32x64, .f32⟩
  | 103 => ⟨S8x32x64, .f32⟩
  | 104 => ⟨S8x32x64, .f32⟩
  | 105 => ⟨S8x1x32x64, .f32⟩
  | 106 => ⟨S8x32x64, .f32⟩
  | 107 => ⟨S8x32x1x64, .f32⟩
  | 108 => ⟨S8x32x64x64, .f32⟩
  | 109 => ⟨S8x32x64x64, .f32⟩
  | 110 => ⟨S8x1x32x64, .f32⟩
  | 111 => ⟨S8x32x64, .f32⟩
  | 112 => ⟨S8x32x64, .f32⟩
  | 113 => ⟨S8x32x64x1, .f32⟩
  | 114 => ⟨S8x1x32x64, .f32⟩
  | 115 => ⟨S8x32x64, .f32⟩
  | 116 => ⟨S8x32x1x64, .f32⟩
  | 117 => ⟨S8x32x64x64, .f32⟩
  | 118 => ⟨S8x32x64x64, .f32⟩
  | 119 => ⟨S8x32x64x64, .f32⟩
  | 120 => ⟨S8x32x64x64, .f32⟩
  | 121 => ⟨S8x1x32x64, .f32⟩
  | 122 => ⟨S8x32x64, .f32⟩
  | 123 => ⟨S8x32x64x1, .f32⟩
  | 124 => ⟨S8x1x32x64, .f32⟩
  | 125 => ⟨S8x32x64, .f32⟩
  | 126 => ⟨S8x32x1x64, .f32⟩
  | 127 => ⟨S8x32x64x64, .f32⟩
  | _ => ⟨S3x128x2048, .f32⟩

abbrev hbmTy0_1 (i : Nat) : BufTy := match i % 128 with
  | 0 => ⟨S8x32x64x64, .f32⟩
  | 1 => ⟨S8x32x64x64, .f32⟩
  | 2 => ⟨S8x32x64x64, .f32⟩
  | 3 => ⟨S8x1x32x64, .f32⟩
  | 4 => ⟨S8x32x64, .f32⟩
  | 5 => ⟨S8x32x64, .f32⟩
  | 6 => ⟨S8x1x32x64, .f32⟩
  | 7 => ⟨S8x32x64, .f32⟩
  | 8 => ⟨S8x32x1x64, .f32⟩
  | 9 => ⟨S8x32x64x64, .f32⟩
  | 10 => ⟨S8x32x64x64, .f32⟩
  | 11 => ⟨S8x1x32x64, .f32⟩
  | 12 => ⟨S8x32x64, .f32⟩
  | 13 => ⟨S8x32x64, .f32⟩
  | 14 => ⟨S8x32x64x1, .f32⟩
  | 15 => ⟨S8x1x32x64, .f32⟩
  | 16 => ⟨S8x32x64, .f32⟩
  | 17 => ⟨S8x32x1x64, .f32⟩
  | 18 => ⟨S8x32x64x64, .f32⟩
  | 19 => ⟨S8x32x64x64, .f32⟩
  | 20 => ⟨S8x32x64x64, .f32⟩
  | 21 => ⟨S8x32x64x64, .f32⟩
  | 22 => ⟨S8x1x32x64, .f32⟩
  | 23 => ⟨S8x32x64, .f32⟩
  | 24 => ⟨S8x32x64x1, .f32⟩
  | 25 => ⟨S8x1x32x64, .f32⟩
  | 26 => ⟨S8x32x64, .f32⟩
  | 27 => ⟨S8x32x1x64, .f32⟩
  | 28 => ⟨S8x32x64x64, .f32⟩
  | 29 => ⟨S8x32x64x64, .f32⟩
  | 30 => ⟨S8x32x64x64, .f32⟩
  | 31 => ⟨S8x32x64x64, .f32⟩
  | 32 => ⟨S8x1x32x64, .f32⟩
  | 33 => ⟨S8x32x64, .f32⟩
  | 34 => ⟨S8x32x64, .f32⟩
  | 35 => ⟨S8x1x32x64, .f32⟩
  | 36 => ⟨S8x32x64, .f32⟩
  | 37 => ⟨S8x32x1x64, .f32⟩
  | 38 => ⟨S8x32x64x64, .f32⟩
  | 39 => ⟨S8x32x64x64, .f32⟩
  | 40 => ⟨S8x1x32x64, .f32⟩
  | 41 => ⟨S8x32x64, .f32⟩
  | 42 => ⟨S8x32x64, .f32⟩
  | 43 => ⟨S8x32x64x1, .f32⟩
  | 44 => ⟨S8x1x32x64, .f32⟩
  | 45 => ⟨S8x32x64, .f32⟩
  | 46 => ⟨S8x32x1x64, .f32⟩
  | 47 => ⟨S8x32x64x64, .f32⟩
  | 48 => ⟨S8x32x64x64, .f32⟩
  | 49 => ⟨S8x32x64x64, .f32⟩
  | 50 => ⟨S8x32x64x64, .f32⟩
  | 51 => ⟨S8x1x32x64, .f32⟩
  | 52 => ⟨S8x32x64, .f32⟩
  | 53 => ⟨S8x32x64x1, .f32⟩
  | 54 => ⟨S8x1x32x64, .f32⟩
  | 55 => ⟨S8x32x64, .f32⟩
  | 56 => ⟨S8x32x1x64, .f32⟩
  | 57 => ⟨S8x32x64x64, .f32⟩
  | 58 => ⟨S8x32x64x64, .f32⟩
  | 59 => ⟨S8x32x64x64, .f32⟩
  | 60 => ⟨S8x32x64x64, .f32⟩
  | 61 => ⟨S8x1x32x64, .f32⟩
  | 62 => ⟨S8x32x64, .f32⟩
  | 63 => ⟨S8x32x64, .f32⟩
  | 64 => ⟨S8x1x32x64, .f32⟩
  | 65 => ⟨S8x32x64, .f32⟩
  | 66 => ⟨S8x32x1x64, .f32⟩
  | 67 => ⟨S8x32x64x64, .f32⟩
  | 68 => ⟨S8x32x64x64, .f32⟩
  | 69 => ⟨S8x1x32x64, .f32⟩
  | 70 => ⟨S8x32x64, .f32⟩
  | 71 => ⟨S8x32x64, .f32⟩
  | 72 => ⟨S8x32x64x1, .f32⟩
  | 73 => ⟨S8x1x32x64, .f32⟩
  | 74 => ⟨S8x32x64, .f32⟩
  | 75 => ⟨S8x32x1x64, .f32⟩
  | 76 => ⟨S8x32x64x64, .f32⟩
  | 77 => ⟨S8x32x64x64, .f32⟩
  | 78 => ⟨S8x32x64x64, .f32⟩
  | 79 => ⟨S8x32x64x64, .f32⟩
  | 80 => ⟨S8x1x32x64, .f32⟩
  | 81 => ⟨S8x32x64, .f32⟩
  | 82 => ⟨S8x32x64x1, .f32⟩
  | 83 => ⟨S8x1x32x64, .f32⟩
  | 84 => ⟨S8x32x64, .f32⟩
  | 85 => ⟨S8x32x1x64, .f32⟩
  | 86 => ⟨S8x32x64x64, .f32⟩
  | 87 => ⟨S8x32x64x64, .f32⟩
  | 88 => ⟨S8x32x64x64, .f32⟩
  | 89 => ⟨S8x32x64x64, .f32⟩
  | 90 => ⟨S8x1x32x64, .f32⟩
  | 91 => ⟨S8x32x64, .f32⟩
  | 92 => ⟨S8x32x64, .f32⟩
  | 93 => ⟨S8x1x32x64, .f32⟩
  | 94 => ⟨S8x32x64, .f32⟩
  | 95 => ⟨S8x32x1x64, .f32⟩
  | 96 => ⟨S8x32x64x64, .f32⟩
  | 97 => ⟨S8x32x64x64, .f32⟩
  | 98 => ⟨S8x1x32x64, .f32⟩
  | 99 => ⟨S8x32x64, .f32⟩
  | 100 => ⟨S8x32x64, .f32⟩
  | 101 => ⟨S8x32x64x1, .f32⟩
  | 102 => ⟨S8x1x32x64, .f32⟩
  | 103 => ⟨S8x32x64, .f32⟩
  | 104 => ⟨S8x32x1x64, .f32⟩
  | 105 => ⟨S8x32x64x64, .f32⟩
  | 106 => ⟨S8x32x64x64, .f32⟩
  | 107 => ⟨S8x32x64x64, .f32⟩
  | 108 => ⟨S8x32x64x64, .f32⟩
  | 109 => ⟨S8x1x32x64, .f32⟩
  | 110 => ⟨S8x32x64, .f32⟩
  | 111 => ⟨S8x32x64x1, .f32⟩
  | 112 => ⟨S8x1x32x64, .f32⟩
  | 113 => ⟨S8x32x64, .f32⟩
  | 114 => ⟨S8x32x1x64, .f32⟩
  | 115 => ⟨S8x32x64x64, .f32⟩
  | 116 => ⟨S8x32x64x64, .f32⟩
  | 117 => ⟨S8x32x64x64, .f32⟩
  | 118 => ⟨S8x32x64x64, .f32⟩
  | 119 => ⟨S8x1x32x64, .f32⟩
  | 120 => ⟨S8x32x64, .f32⟩
  | 121 => ⟨S8x32x64, .f32⟩
  | 122 => ⟨S8x1x32x64, .f32⟩
  | 123 => ⟨S8x32x64, .f32⟩
  | 124 => ⟨S8x32x1x64, .f32⟩
  | 125 => ⟨S8x32x64x64, .f32⟩
  | 126 => ⟨S8x32x64x64, .f32⟩
  | 127 => ⟨S8x1x32x64, .f32⟩
  | _ => ⟨S3x128x2048, .f32⟩

abbrev hbmTy0_2 (i : Nat) : BufTy := match i % 128 with
  | 0 => ⟨S8x32x64, .f32⟩
  | 1 => ⟨S8x32x64, .f32⟩
  | 2 => ⟨S8x32x64x1, .f32⟩
  | 3 => ⟨S8x1x32x64, .f32⟩
  | 4 => ⟨S8x32x64, .f32⟩
  | 5 => ⟨S8x32x1x64, .f32⟩
  | 6 => ⟨S8x32x64x64, .f32⟩
  | 7 => ⟨S8x32x64x64, .f32⟩
  | 8 => ⟨S8x32x64x64, .f32⟩
  | 9 => ⟨S8x32x64x64, .f32⟩
  | 10 => ⟨S8x1x32x64, .f32⟩
  | 11 => ⟨S8x32x64, .f32⟩
  | 12 => ⟨S8x32x64x1, .f32⟩
  | 13 => ⟨S8x1x32x64, .f32⟩
  | 14 => ⟨S8x32x64, .f32⟩
  | 15 => ⟨S8x32x1x64, .f32⟩
  | 16 => ⟨S8x32x64x64, .f32⟩
  | 17 => ⟨S8x32x64x64, .f32⟩
  | 18 => ⟨S8x32x64x64, .f32⟩
  | 19 => ⟨S8x32x64x64, .f32⟩
  | 20 => ⟨S8x1x32x64, .f32⟩
  | 21 => ⟨S8x32x64, .f32⟩
  | 22 => ⟨S8x32x64, .f32⟩
  | 23 => ⟨S8x1x32x64, .f32⟩
  | 24 => ⟨S8x32x64, .f32⟩
  | 25 => ⟨S8x32x1x64, .f32⟩
  | 26 => ⟨S8x32x64x64, .f32⟩
  | 27 => ⟨S8x32x64x64, .f32⟩
  | 28 => ⟨S8x1x32x64, .f32⟩
  | 29 => ⟨S8x32x64, .f32⟩
  | 30 => ⟨S8x32x64, .f32⟩
  | 31 => ⟨S8x32x64x1, .f32⟩
  | 32 => ⟨S8x1x32x64, .f32⟩
  | 33 => ⟨S8x32x64, .f32⟩
  | 34 => ⟨S8x32x1x64, .f32⟩
  | 35 => ⟨S8x32x64x64, .f32⟩
  | 36 => ⟨S8x32x64x64, .f32⟩
  | 37 => ⟨S8x32x64x64, .f32⟩
  | 38 => ⟨S8x32x64x64, .f32⟩
  | 39 => ⟨S8x1x32x64, .f32⟩
  | 40 => ⟨S8x32x64, .f32⟩
  | 41 => ⟨S8x32x64x1, .f32⟩
  | 42 => ⟨S8x1x32x64, .f32⟩
  | 43 => ⟨S8x32x64, .f32⟩
  | 44 => ⟨S8x32x1x64, .f32⟩
  | 45 => ⟨S8x32x64x64, .f32⟩
  | 46 => ⟨S8x32x64x64, .f32⟩
  | 47 => ⟨S8x32x64x64, .f32⟩
  | 48 => ⟨S8x32x64x64, .f32⟩
  | 49 => ⟨S8x1x32x64, .f32⟩
  | 50 => ⟨S8x32x64, .f32⟩
  | 51 => ⟨S8x32x64, .f32⟩
  | 52 => ⟨S8x1x32x64, .f32⟩
  | 53 => ⟨S8x32x64, .f32⟩
  | 54 => ⟨S8x32x1x64, .f32⟩
  | 55 => ⟨S8x32x64x64, .f32⟩
  | 56 => ⟨S8x32x64x64, .f32⟩
  | 57 => ⟨S8x1x32x64, .f32⟩
  | 58 => ⟨S8x32x64, .f32⟩
  | 59 => ⟨S8x32x64, .f32⟩
  | 60 => ⟨S8x32x64x1, .f32⟩
  | 61 => ⟨S8x1x32x64, .f32⟩
  | 62 => ⟨S8x32x64, .f32⟩
  | 63 => ⟨S8x32x1x64, .f32⟩
  | 64 => ⟨S8x32x64x64, .f32⟩
  | 65 => ⟨S8x32x64x64, .f32⟩
  | 66 => ⟨S8x32x64x64, .f32⟩
  | 67 => ⟨S8x32x64x64, .f32⟩
  | 68 => ⟨S8x1x32x64, .f32⟩
  | 69 => ⟨S8x32x64, .f32⟩
  | 70 => ⟨S8x32x64x1, .f32⟩
  | 71 => ⟨S8x1x32x64, .f32⟩
  | 72 => ⟨S8x32x64, .f32⟩
  | 73 => ⟨S8x32x1x64, .f32⟩
  | 74 => ⟨S8x32x64x64, .f32⟩
  | 75 => ⟨S8x32x64x64, .f32⟩
  | 76 => ⟨S8x32x64x64, .f32⟩
  | 77 => ⟨S8x32x64x64, .f32⟩
  | 78 => ⟨S8x1x32x64, .f32⟩
  | 79 => ⟨S8x32x64, .f32⟩
  | 80 => ⟨S8x32x64, .f32⟩
  | 81 => ⟨S8x1x32x64, .f32⟩
  | 82 => ⟨S8x32x64, .f32⟩
  | 83 => ⟨S8x32x1x64, .f32⟩
  | 84 => ⟨S8x32x64x64, .f32⟩
  | 85 => ⟨S8x32x64x64, .f32⟩
  | 86 => ⟨S8x1x32x64, .f32⟩
  | 87 => ⟨S8x32x64, .f32⟩
  | 88 => ⟨S8x32x64, .f32⟩
  | 89 => ⟨S8x32x64x1, .f32⟩
  | 90 => ⟨S8x1x32x64, .f32⟩
  | 91 => ⟨S8x32x64, .f32⟩
  | 92 => ⟨S8x32x1x64, .f32⟩
  | 93 => ⟨S8x32x64x64, .f32⟩
  | 94 => ⟨S8x32x64x64, .f32⟩
  | 95 => ⟨S8x32x64x64, .f32⟩
  | 96 => ⟨S8x32x64x64, .f32⟩
  | 97 => ⟨S8x1x32x64, .f32⟩
  | 98 => ⟨S8x32x64, .f32⟩
  | 99 => ⟨S8x32x64x1, .f32⟩
  | 100 => ⟨S8x1x32x64, .f32⟩
  | 101 => ⟨S8x32x64, .f32⟩
  | 102 => ⟨S8x32x1x64, .f32⟩
  | 103 => ⟨S8x32x64x64, .f32⟩
  | 104 => ⟨S8x32x64x64, .f32⟩
  | 105 => ⟨S8x32x64x64, .f32⟩
  | 106 => ⟨S8x32x64x64, .f32⟩
  | 107 => ⟨S8x1x32x64, .f32⟩
  | 108 => ⟨S8x32x64, .f32⟩
  | 109 => ⟨S8x32x64, .f32⟩
  | 110 => ⟨S8x1x32x64, .f32⟩
  | 111 => ⟨S8x32x64, .f32⟩
  | 112 => ⟨S8x32x1x64, .f32⟩
  | 113 => ⟨S8x32x64x64, .f32⟩
  | 114 => ⟨S8x32x64x64, .f32⟩
  | 115 => ⟨S8x1x32x64, .f32⟩
  | 116 => ⟨S8x32x64, .f32⟩
  | 117 => ⟨S8x32x64, .f32⟩
  | 118 => ⟨S8x32x64x1, .f32⟩
  | 119 => ⟨S8x1x32x64, .f32⟩
  | 120 => ⟨S8x32x64, .f32⟩
  | 121 => ⟨S8x32x1x64, .f32⟩
  | 122 => ⟨S8x32x64x64, .f32⟩
  | 123 => ⟨S8x32x64x64, .f32⟩
  | 124 => ⟨S8x32x64x64, .f32⟩
  | 125 => ⟨S8x32x64x64, .f32⟩
  | 126 => ⟨S8x1x32x64, .f32⟩
  | 127 => ⟨S8x32x64, .f32⟩
  | _ => ⟨S3x128x2048, .f32⟩

abbrev hbmTy0_3 (i : Nat) : BufTy := match i % 128 with
  | 0 => ⟨S8x32x64x1, .f32⟩
  | 1 => ⟨S8x1x32x64, .f32⟩
  | 2 => ⟨S8x32x64, .f32⟩
  | 3 => ⟨S8x32x1x64, .f32⟩
  | 4 => ⟨S8x32x64x64, .f32⟩
  | 5 => ⟨S8x32x64x64, .f32⟩
  | 6 => ⟨S8x32x64x64, .f32⟩
  | 7 => ⟨S8x32x64x64, .f32⟩
  | 8 => ⟨S8x1x32x64, .f32⟩
  | 9 => ⟨S8x32x64, .f32⟩
  | 10 => ⟨S8x32x64, .f32⟩
  | 11 => ⟨S8x1x32x64, .f32⟩
  | 12 => ⟨S8x32x64, .f32⟩
  | 13 => ⟨S8x32x1x64, .f32⟩
  | 14 => ⟨S8x32x64x64, .f32⟩
  | 15 => ⟨S8x32x64x64, .f32⟩
  | 16 => ⟨S8x1x32x64, .f32⟩
  | 17 => ⟨S8x32x64, .f32⟩
  | 18 => ⟨S8x32x64, .f32⟩
  | 19 => ⟨S8x32x64x1, .f32⟩
  | 20 => ⟨S8x1x32x64, .f32⟩
  | 21 => ⟨S8x32x64, .f32⟩
  | 22 => ⟨S8x32x1x64, .f32⟩
  | 23 => ⟨S8x32x64x64, .f32⟩
  | 24 => ⟨S8x32x64x64, .f32⟩
  | 25 => ⟨S8x32x64x64, .f32⟩
  | 26 => ⟨S8x32x64x64, .f32⟩
  | 27 => ⟨S8x1x32x64, .f32⟩
  | 28 => ⟨S8x32x64, .f32⟩
  | 29 => ⟨S8x32x64x1, .f32⟩
  | 30 => ⟨S8x1x32x64, .f32⟩
  | 31 => ⟨S8x32x64, .f32⟩
  | 32 => ⟨S8x32x1x64, .f32⟩
  | 33 => ⟨S8x32x64x64, .f32⟩
  | 34 => ⟨S8x32x64x64, .f32⟩
  | 35 => ⟨S8x32x64x64, .f32⟩
  | 36 => ⟨S8x32x64x64, .f32⟩
  | 37 => ⟨S8x1x32x64, .f32⟩
  | 38 => ⟨S8x32x64, .f32⟩
  | 39 => ⟨S8x32x64, .f32⟩
  | 40 => ⟨S8x1x32x64, .f32⟩
  | 41 => ⟨S8x32x64, .f32⟩
  | 42 => ⟨S8x32x1x64, .f32⟩
  | 43 => ⟨S8x32x64x64, .f32⟩
  | 44 => ⟨S8x32x64x64, .f32⟩
  | 45 => ⟨S8x1x32x64, .f32⟩
  | 46 => ⟨S8x32x64, .f32⟩
  | 47 => ⟨S8x32x64, .f32⟩
  | 48 => ⟨S8x32x64x1, .f32⟩
  | 49 => ⟨S8x1x32x64, .f32⟩
  | 50 => ⟨S8x32x64, .f32⟩
  | 51 => ⟨S8x32x1x64, .f32⟩
  | 52 => ⟨S8x32x64x64, .f32⟩
  | 53 => ⟨S8x32x64x64, .f32⟩
  | 54 => ⟨S8x32x64x64, .f32⟩
  | 55 => ⟨S8x32x64x64, .f32⟩
  | 56 => ⟨S8x1x32x64, .f32⟩
  | 57 => ⟨S8x32x64, .f32⟩
  | 58 => ⟨S8x32x64x1, .f32⟩
  | 59 => ⟨S8x1x32x64, .f32⟩
  | 60 => ⟨S8x32x64, .f32⟩
  | 61 => ⟨S8x32x1x64, .f32⟩
  | 62 => ⟨S8x32x64x64, .f32⟩
  | 63 => ⟨S8x32x64x64, .f32⟩
  | 64 => ⟨S8x32x64x64, .f32⟩
  | 65 => ⟨S8x32x64x64, .f32⟩
  | 66 => ⟨S8x1x32x64, .f32⟩
  | 67 => ⟨S8x32x64, .f32⟩
  | 68 => ⟨S8x32x64, .f32⟩
  | 69 => ⟨S8x1x32x64, .f32⟩
  | 70 => ⟨S8x32x64, .f32⟩
  | 71 => ⟨S8x32x1x64, .f32⟩
  | 72 => ⟨S8x32x64x64, .f32⟩
  | 73 => ⟨S8x32x64x64, .f32⟩
  | 74 => ⟨S8x1x32x64, .f32⟩
  | 75 => ⟨S8x32x64, .f32⟩
  | 76 => ⟨S8x32x64, .f32⟩
  | 77 => ⟨S8x32x64x1, .f32⟩
  | 78 => ⟨S8x1x32x64, .f32⟩
  | 79 => ⟨S8x32x64, .f32⟩
  | 80 => ⟨S8x32x1x64, .f32⟩
  | 81 => ⟨S8x32x64x64, .f32⟩
  | 82 => ⟨S8x32x64x64, .f32⟩
  | 83 => ⟨S8x32x64x64, .f32⟩
  | 84 => ⟨S8x32x64x64, .f32⟩
  | 85 => ⟨S8x1x32x64, .f32⟩
  | 86 => ⟨S8x32x64, .f32⟩
  | 87 => ⟨S8x32x64x1, .f32⟩
  | 88 => ⟨S8x1x32x64, .f32⟩
  | 89 => ⟨S8x32x64, .f32⟩
  | 90 => ⟨S8x32x1x64, .f32⟩
  | 91 => ⟨S8x32x64x64, .f32⟩
  | 92 => ⟨S8x32x64x64, .f32⟩
  | 93 => ⟨S8x32x64x64, .f32⟩
  | 94 => ⟨S8x32x64x64, .f32⟩
  | 95 => ⟨S8x1x32x64, .f32⟩
  | 96 => ⟨S8x32x64, .f32⟩
  | 97 => ⟨S8x32x64, .f32⟩
  | 98 => ⟨S8x1x32x64, .f32⟩
  | 99 => ⟨S8x32x64, .f32⟩
  | 100 => ⟨S8x32x1x64, .f32⟩
  | 101 => ⟨S8x32x64x64, .f32⟩
  | 102 => ⟨S8x32x64x64, .f32⟩
  | 103 => ⟨S8x1x32x64, .f32⟩
  | 104 => ⟨S8x32x64, .f32⟩
  | 105 => ⟨S8x32x64, .f32⟩
  | 106 => ⟨S8x32x64x1, .f32⟩
  | 107 => ⟨S8x1x32x64, .f32⟩
  | 108 => ⟨S8x32x64, .f32⟩
  | 109 => ⟨S8x32x1x64, .f32⟩
  | 110 => ⟨S8x32x64x64, .f32⟩
  | 111 => ⟨S8x32x64x64, .f32⟩
  | 112 => ⟨S8x32x64x64, .f32⟩
  | 113 => ⟨S8x32x64x64, .f32⟩
  | 114 => ⟨S8x1x32x64, .f32⟩
  | 115 => ⟨S8x32x64, .f32⟩
  | 116 => ⟨S8x32x64x1, .f32⟩
  | 117 => ⟨S8x1x32x64, .f32⟩
  | 118 => ⟨S8x32x64, .f32⟩
  | 119 => ⟨S8x32x1x64, .f32⟩
  | 120 => ⟨S8x32x64x64, .f32⟩
  | 121 => ⟨S8x32x64x64, .f32⟩
  | 122 => ⟨S8x32x64x64, .f32⟩
  | 123 => ⟨S8x32x64x64, .f32⟩
  | 124 => ⟨S8x1x32x64, .f32⟩
  | 125 => ⟨S8x32x64, .f32⟩
  | 126 => ⟨S8x32x64, .f32⟩
  | 127 => ⟨S8x1x32x64, .f32⟩
  | _ => ⟨S3x128x2048, .f32⟩

abbrev hbmTy0_4 (i : Nat) : BufTy := match i % 128 with
  | 0 => ⟨S8x1x32x64, .f32⟩
  | 1 => ⟨S8x1x32x64, .f32⟩
  | 2 => ⟨S8x1x32x64, .f32⟩
  | 3 => ⟨S8x1x32x64, .f32⟩
  | 4 => ⟨S8x1x32x64, .f32⟩
  | 5 => ⟨S8x1x32x64, .f32⟩
  | 6 => ⟨S8x1x32x64, .f32⟩
  | 7 => ⟨S8x1x32x64, .f32⟩
  | 8 => ⟨S8x1x32x64, .f32⟩
  | 9 => ⟨S8x1x32x64, .f32⟩
  | 10 => ⟨S8x1x32x64, .f32⟩
  | 11 => ⟨S8x1x32x64, .f32⟩
  | 12 => ⟨S8x1x32x64, .f32⟩
  | 13 => ⟨S8x1x32x64, .f32⟩
  | 14 => ⟨S8x1x32x64, .f32⟩
  | 15 => ⟨S8x16x32x64, .f32⟩
  | 16 => ⟨S_, .f32⟩
  | 17 => ⟨S8x16x32, .f32⟩
  | 18 => ⟨S8x16x32x1, .f32⟩
  | 19 => ⟨S_, .f32⟩
  | 20 => ⟨S8x16x32x1, .f32⟩
  | 21 => ⟨S8x16x32x1, .f32⟩
  | 22 => ⟨S8x16x32x64, .f32⟩
  | 23 => ⟨S8x16x32x64, .f32⟩
  | 24 => ⟨S8x16x32x64, .f32⟩
  | 25 => ⟨S_, .f32⟩
  | 26 => ⟨S8x16x32, .f32⟩
  | 27 => ⟨S8x16x32x1, .f32⟩
  | 28 => ⟨S_, .f32⟩
  | 29 => ⟨S8x16x32x1, .f32⟩
  | 30 => ⟨S8x16x32x1, .f32⟩
  | 31 => ⟨S8x16x32x64, .f32⟩
  | 32 => ⟨S8x16x32x64, .f32⟩
  | 33 => ⟨S_, .f32⟩
  | 34 => ⟨S8x16x32x1, .f32⟩
  | 35 => ⟨S8x16x32x1, .f32⟩
  | 36 => ⟨S8x16x32x1, .f32⟩
  | 37 => ⟨S8x16x32x64, .f32⟩
  | 38 => ⟨S8x16x32x64, .f32⟩
  | 39 => ⟨S128x2048, .f32⟩
  | 40 => ⟨S1x2048, .f32⟩
  | 41 => ⟨S128x2048, .f32⟩
  | 42 => ⟨S128x2048, .f32⟩
  | 43 => ⟨S1x2048, .f32⟩
  | 44 => ⟨S128x2048, .f32⟩
  | 45 => ⟨S128x2048, .f32⟩
  | 46 => ⟨S8x16x32x64, .f32⟩
  | 47 => ⟨S1x1x32x64, .f32⟩
  | 48 => ⟨S8x16x32x64, .f32⟩
  | 49 => ⟨S8x16x32x64, .f32⟩
  | 50 => ⟨S_, .f32⟩
  | 51 => ⟨S8x16x32, .f32⟩
  | 52 => ⟨S8x16x32x1, .f32⟩
  | 53 => ⟨S8x16x32x64, .f32⟩
  | 54 => ⟨S8x16x32x64, .f32⟩
  | 55 => ⟨S8x16x2x64x1x64, .f32⟩
  | 56 => ⟨S2x2, .i32⟩
  | 57 => ⟨S2x2, .i32⟩
  | 58 => ⟨S_, .i32⟩
  | 59 => ⟨S2x2, .i32⟩
  | 60 => ⟨S2x2, .i32⟩
  | 61 => ⟨S2x2, .i1⟩
  | 62 => ⟨S2x2, .f32⟩
  | 63 => ⟨S2x1x2x1, .f32⟩
  | 64 => ⟨S1x1x2x1x2x1, .f32⟩
  | 65 => ⟨S8x16x2x64x2x64, .f32⟩
  | 66 => ⟨S8x16x2x64x2x64, .f32⟩
  | 67 => ⟨S8x16x2x64x2x64, .f32⟩
  | 68 => ⟨S128x2048, .f32⟩
  | 69 => ⟨S128x2048, .f32⟩
  | 70 => ⟨S128x2048, .f32⟩
  | 71 => ⟨S8x16x128x128, .f32⟩
  | _ => ⟨S3x128x2048, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S3x128x2048, .f32⟩

abbrev bufTy : (tb : Table) → Fin (tcTables nBuf tb) → BufTy
  | .hbm, ⟨i, _⟩ => hbmTy i
  | _, _ => ⟨S3x128x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst : Ref sig .tc := ⟨.hbm, 22, rfl⟩
abbrev main_v12 : Ref sig .tc := ⟨.hbm, 23, rfl⟩
abbrev main_v13 : Ref sig .tc := ⟨.hbm, 24, rfl⟩
abbrev main_cst_0 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_1 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_2 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_v94 : Ref sig .tc := ⟨.hbm, 108, rfl⟩
abbrev main_v95 : Ref sig .tc := ⟨.hbm, 109, rfl⟩
abbrev main_v96 : Ref sig .tc := ⟨.hbm, 110, rfl⟩
abbrev main_v97 : Ref sig .tc := ⟨.hbm, 111, rfl⟩
abbrev main_v98 : Ref sig .tc := ⟨.hbm, 112, rfl⟩
abbrev main_v99 : Ref sig .tc := ⟨.hbm, 113, rfl⟩
abbrev main_v100 : Ref sig .tc := ⟨.hbm, 114, rfl⟩
abbrev main_v101 : Ref sig .tc := ⟨.hbm, 115, rfl⟩
abbrev main_v102 : Ref sig .tc := ⟨.hbm, 116, rfl⟩
abbrev main_v103 : Ref sig .tc := ⟨.hbm, 117, rfl⟩
abbrev main_v104 : Ref sig .tc := ⟨.hbm, 118, rfl⟩
abbrev main_v105 : Ref sig .tc := ⟨.hbm, 119, rfl⟩
abbrev main_v106 : Ref sig .tc := ⟨.hbm, 120, rfl⟩
abbrev main_v107 : Ref sig .tc := ⟨.hbm, 121, rfl⟩
abbrev main_v108 : Ref sig .tc := ⟨.hbm, 122, rfl⟩
abbrev main_v109 : Ref sig .tc := ⟨.hbm, 123, rfl⟩
abbrev main_v110 : Ref sig .tc := ⟨.hbm, 124, rfl⟩
abbrev main_v111 : Ref sig .tc := ⟨.hbm, 125, rfl⟩
abbrev main_v112 : Ref sig .tc := ⟨.hbm, 126, rfl⟩
abbrev main_v113 : Ref sig .tc := ⟨.hbm, 127, rfl⟩
abbrev main_v114 : Ref sig .tc := ⟨.hbm, 128, rfl⟩
abbrev main_v115 : Ref sig .tc := ⟨.hbm, 129, rfl⟩
abbrev main_v116 : Ref sig .tc := ⟨.hbm, 130, rfl⟩
abbrev main_v117 : Ref sig .tc := ⟨.hbm, 131, rfl⟩
abbrev main_v118 : Ref sig .tc := ⟨.hbm, 132, rfl⟩
abbrev main_v119 : Ref sig .tc := ⟨.hbm, 133, rfl⟩
abbrev main_v120 : Ref sig .tc := ⟨.hbm, 134, rfl⟩
abbrev main_v121 : Ref sig .tc := ⟨.hbm, 135, rfl⟩
abbrev main_v122 : Ref sig .tc := ⟨.hbm, 136, rfl⟩
abbrev main_v123 : Ref sig .tc := ⟨.hbm, 137, rfl⟩
abbrev main_v124 : Ref sig .tc := ⟨.hbm, 138, rfl⟩
abbrev main_v125 : Ref sig .tc := ⟨.hbm, 139, rfl⟩
abbrev main_v126 : Ref sig .tc := ⟨.hbm, 140, rfl⟩
abbrev main_v127 : Ref sig .tc := ⟨.hbm, 141, rfl⟩
abbrev main_v128 : Ref sig .tc := ⟨.hbm, 142, rfl⟩
abbrev main_v129 : Ref sig .tc := ⟨.hbm, 143, rfl⟩
abbrev main_v130 : Ref sig .tc := ⟨.hbm, 144, rfl⟩
abbrev main_v131 : Ref sig .tc := ⟨.hbm, 145, rfl⟩
abbrev main_v132 : Ref sig .tc := ⟨.hbm, 146, rfl⟩
abbrev main_v133 : Ref sig .tc := ⟨.hbm, 147, rfl⟩
abbrev main_v134 : Ref sig .tc := ⟨.hbm, 148, rfl⟩
abbrev main_v135 : Ref sig .tc := ⟨.hbm, 149, rfl⟩
abbrev main_v136 : Ref sig .tc := ⟨.hbm, 150, rfl⟩
abbrev main_v137 : Ref sig .tc := ⟨.hbm, 151, rfl⟩
abbrev main_v138 : Ref sig .tc := ⟨.hbm, 152, rfl⟩
abbrev main_v139 : Ref sig .tc := ⟨.hbm, 153, rfl⟩
abbrev main_v140 : Ref sig .tc := ⟨.hbm, 154, rfl⟩
abbrev main_v141 : Ref sig .tc := ⟨.hbm, 155, rfl⟩
abbrev main_v142 : Ref sig .tc := ⟨.hbm, 156, rfl⟩
abbrev main_v143 : Ref sig .tc := ⟨.hbm, 157, rfl⟩
abbrev main_v144 : Ref sig .tc := ⟨.hbm, 158, rfl⟩
abbrev main_v145 : Ref sig .tc := ⟨.hbm, 159, rfl⟩
abbrev main_v146 : Ref sig .tc := ⟨.hbm, 160, rfl⟩
abbrev main_v147 : Ref sig .tc := ⟨.hbm, 161, rfl⟩
abbrev main_v148 : Ref sig .tc := ⟨.hbm, 162, rfl⟩
abbrev main_v149 : Ref sig .tc := ⟨.hbm, 163, rfl⟩
abbrev main_v150 : Ref sig .tc := ⟨.hbm, 164, rfl⟩
abbrev main_v151 : Ref sig .tc := ⟨.hbm, 165, rfl⟩
abbrev main_v152 : Ref sig .tc := ⟨.hbm, 166, rfl⟩
abbrev main_v153 : Ref sig .tc := ⟨.hbm, 167, rfl⟩
abbrev main_v154 : Ref sig .tc := ⟨.hbm, 168, rfl⟩
abbrev main_v155 : Ref sig .tc := ⟨.hbm, 169, rfl⟩
abbrev main_v156 : Ref sig .tc := ⟨.hbm, 170, rfl⟩
abbrev main_v157 : Ref sig .tc := ⟨.hbm, 171, rfl⟩
abbrev main_v158 : Ref sig .tc := ⟨.hbm, 172, rfl⟩
abbrev main_v159 : Ref sig .tc := ⟨.hbm, 173, rfl⟩
abbrev main_v160 : Ref sig .tc := ⟨.hbm, 174, rfl⟩
abbrev main_v161 : Ref sig .tc := ⟨.hbm, 175, rfl⟩
abbrev main_v162 : Ref sig .tc := ⟨.hbm, 176, rfl⟩
abbrev main_v163 : Ref sig .tc := ⟨.hbm, 177, rfl⟩
abbrev main_v164 : Ref sig .tc := ⟨.hbm, 178, rfl⟩
abbrev main_v165 : Ref sig .tc := ⟨.hbm, 179, rfl⟩
abbrev main_v166 : Ref sig .tc := ⟨.hbm, 180, rfl⟩
abbrev main_v167 : Ref sig .tc := ⟨.hbm, 181, rfl⟩
abbrev main_v168 : Ref sig .tc := ⟨.hbm, 182, rfl⟩
abbrev main_v169 : Ref sig .tc := ⟨.hbm, 183, rfl⟩
abbrev main_v170 : Ref sig .tc := ⟨.hbm, 184, rfl⟩
abbrev main_v171 : Ref sig .tc := ⟨.hbm, 185, rfl⟩
abbrev main_v172 : Ref sig .tc := ⟨.hbm, 186, rfl⟩
abbrev main_v173 : Ref sig .tc := ⟨.hbm, 187, rfl⟩
abbrev main_v174 : Ref sig .tc := ⟨.hbm, 188, rfl⟩
abbrev main_v175 : Ref sig .tc := ⟨.hbm, 189, rfl⟩
abbrev main_v176 : Ref sig .tc := ⟨.hbm, 190, rfl⟩
abbrev main_v177 : Ref sig .tc := ⟨.hbm, 191, rfl⟩
abbrev main_v178 : Ref sig .tc := ⟨.hbm, 192, rfl⟩
abbrev main_v179 : Ref sig .tc := ⟨.hbm, 193, rfl⟩
abbrev main_v180 : Ref sig .tc := ⟨.hbm, 194, rfl⟩
abbrev main_v181 : Ref sig .tc := ⟨.hbm, 195, rfl⟩
abbrev main_v182 : Ref sig .tc := ⟨.hbm, 196, rfl⟩
abbrev main_v183 : Ref sig .tc := ⟨.hbm, 197, rfl⟩
abbrev main_v184 : Ref sig .tc := ⟨.hbm, 198, rfl⟩
abbrev main_v185 : Ref sig .tc := ⟨.hbm, 199, rfl⟩
abbrev main_v186 : Ref sig .tc := ⟨.hbm, 200, rfl⟩
abbrev main_v187 : Ref sig .tc := ⟨.hbm, 201, rfl⟩
abbrev main_v188 : Ref sig .tc := ⟨.hbm, 202, rfl⟩
abbrev main_v189 : Ref sig .tc := ⟨.hbm, 203, rfl⟩
abbrev main_v190 : Ref sig .tc := ⟨.hbm, 204, rfl⟩
abbrev main_v191 : Ref sig .tc := ⟨.hbm, 205, rfl⟩
abbrev main_v192 : Ref sig .tc := ⟨.hbm, 206, rfl⟩
abbrev main_v193 : Ref sig .tc := ⟨.hbm, 207, rfl⟩
abbrev main_v194 : Ref sig .tc := ⟨.hbm, 208, rfl⟩
abbrev main_v195 : Ref sig .tc := ⟨.hbm, 209, rfl⟩
abbrev main_v196 : Ref sig .tc := ⟨.hbm, 210, rfl⟩
abbrev main_v197 : Ref sig .tc := ⟨.hbm, 211, rfl⟩
abbrev main_v198 : Ref sig .tc := ⟨.hbm, 212, rfl⟩
abbrev main_v199 : Ref sig .tc := ⟨.hbm, 213, rfl⟩
abbrev main_v200 : Ref sig .tc := ⟨.hbm, 214, rfl⟩
abbrev main_v201 : Ref sig .tc := ⟨.hbm, 215, rfl⟩
abbrev main_v202 : Ref sig .tc := ⟨.hbm, 216, rfl⟩
abbrev main_v203 : Ref sig .tc := ⟨.hbm, 217, rfl⟩
abbrev main_v204 : Ref sig .tc := ⟨.hbm, 218, rfl⟩
abbrev main_v205 : Ref sig .tc := ⟨.hbm, 219, rfl⟩
abbrev main_v206 : Ref sig .tc := ⟨.hbm, 220, rfl⟩
abbrev main_v207 : Ref sig .tc := ⟨.hbm, 221, rfl⟩
abbrev main_v208 : Ref sig .tc := ⟨.hbm, 222, rfl⟩
abbrev main_v209 : Ref sig .tc := ⟨.hbm, 223, rfl⟩
abbrev main_v210 : Ref sig .tc := ⟨.hbm, 224, rfl⟩
abbrev main_v211 : Ref sig .tc := ⟨.hbm, 225, rfl⟩
abbrev main_v212 : Ref sig .tc := ⟨.hbm, 226, rfl⟩
abbrev main_v213 : Ref sig .tc := ⟨.hbm, 227, rfl⟩
abbrev main_v214 : Ref sig .tc := ⟨.hbm, 228, rfl⟩
abbrev main_v215 : Ref sig .tc := ⟨.hbm, 229, rfl⟩
abbrev main_v216 : Ref sig .tc := ⟨.hbm, 230, rfl⟩
abbrev main_v217 : Ref sig .tc := ⟨.hbm, 231, rfl⟩
abbrev main_v218 : Ref sig .tc := ⟨.hbm, 232, rfl⟩
abbrev main_v219 : Ref sig .tc := ⟨.hbm, 233, rfl⟩
abbrev main_v220 : Ref sig .tc := ⟨.hbm, 234, rfl⟩
abbrev main_v221 : Ref sig .tc := ⟨.hbm, 235, rfl⟩
abbrev main_v222 : Ref sig .tc := ⟨.hbm, 236, rfl⟩
abbrev main_v223 : Ref sig .tc := ⟨.hbm, 237, rfl⟩
abbrev main_v224 : Ref sig .tc := ⟨.hbm, 238, rfl⟩
abbrev main_v225 : Ref sig .tc := ⟨.hbm, 239, rfl⟩
abbrev main_v226 : Ref sig .tc := ⟨.hbm, 240, rfl⟩
abbrev main_v227 : Ref sig .tc := ⟨.hbm, 241, rfl⟩
abbrev main_v228 : Ref sig .tc := ⟨.hbm, 242, rfl⟩
abbrev main_v229 : Ref sig .tc := ⟨.hbm, 243, rfl⟩
abbrev main_v230 : Ref sig .tc := ⟨.hbm, 244, rfl⟩
abbrev main_v231 : Ref sig .tc := ⟨.hbm, 245, rfl⟩
abbrev main_v232 : Ref sig .tc := ⟨.hbm, 246, rfl⟩
abbrev main_v233 : Ref sig .tc := ⟨.hbm, 247, rfl⟩
abbrev main_v234 : Ref sig .tc := ⟨.hbm, 248, rfl⟩
abbrev main_v235 : Ref sig .tc := ⟨.hbm, 249, rfl⟩
abbrev main_v236 : Ref sig .tc := ⟨.hbm, 250, rfl⟩
abbrev main_v237 : Ref sig .tc := ⟨.hbm, 251, rfl⟩
abbrev main_v238 : Ref sig .tc := ⟨.hbm, 252, rfl⟩
abbrev main_v239 : Ref sig .tc := ⟨.hbm, 253, rfl⟩
abbrev main_v240 : Ref sig .tc := ⟨.hbm, 254, rfl⟩
abbrev main_v241 : Ref sig .tc := ⟨.hbm, 255, rfl⟩
abbrev main_v242 : Ref sig .tc := ⟨.hbm, 256, rfl⟩
abbrev main_v243 : Ref sig .tc := ⟨.hbm, 257, rfl⟩
abbrev main_v244 : Ref sig .tc := ⟨.hbm, 258, rfl⟩
abbrev main_v245 : Ref sig .tc := ⟨.hbm, 259, rfl⟩
abbrev main_v246 : Ref sig .tc := ⟨.hbm, 260, rfl⟩
abbrev main_v247 : Ref sig .tc := ⟨.hbm, 261, rfl⟩
abbrev main_v248 : Ref sig .tc := ⟨.hbm, 262, rfl⟩
abbrev main_v249 : Ref sig .tc := ⟨.hbm, 263, rfl⟩
abbrev main_v250 : Ref sig .tc := ⟨.hbm, 264, rfl⟩
abbrev main_v251 : Ref sig .tc := ⟨.hbm, 265, rfl⟩
abbrev main_v252 : Ref sig .tc := ⟨.hbm, 266, rfl⟩
abbrev main_v253 : Ref sig .tc := ⟨.hbm, 267, rfl⟩
abbrev main_v254 : Ref sig .tc := ⟨.hbm, 268, rfl⟩
abbrev main_v255 : Ref sig .tc := ⟨.hbm, 269, rfl⟩
abbrev main_v256 : Ref sig .tc := ⟨.hbm, 270, rfl⟩
abbrev main_v257 : Ref sig .tc := ⟨.hbm, 271, rfl⟩
abbrev main_v258 : Ref sig .tc := ⟨.hbm, 272, rfl⟩
abbrev main_v259 : Ref sig .tc := ⟨.hbm, 273, rfl⟩
abbrev main_v260 : Ref sig .tc := ⟨.hbm, 274, rfl⟩
abbrev main_v261 : Ref sig .tc := ⟨.hbm, 275, rfl⟩
abbrev main_v262 : Ref sig .tc := ⟨.hbm, 276, rfl⟩
abbrev main_v263 : Ref sig .tc := ⟨.hbm, 277, rfl⟩
abbrev main_v264 : Ref sig .tc := ⟨.hbm, 278, rfl⟩
abbrev main_v265 : Ref sig .tc := ⟨.hbm, 279, rfl⟩
abbrev main_v266 : Ref sig .tc := ⟨.hbm, 280, rfl⟩
abbrev main_v267 : Ref sig .tc := ⟨.hbm, 281, rfl⟩
abbrev main_v268 : Ref sig .tc := ⟨.hbm, 282, rfl⟩
abbrev main_v269 : Ref sig .tc := ⟨.hbm, 283, rfl⟩
abbrev main_v270 : Ref sig .tc := ⟨.hbm, 284, rfl⟩
abbrev main_v271 : Ref sig .tc := ⟨.hbm, 285, rfl⟩
abbrev main_v272 : Ref sig .tc := ⟨.hbm, 286, rfl⟩
abbrev main_v273 : Ref sig .tc := ⟨.hbm, 287, rfl⟩
abbrev main_v274 : Ref sig .tc := ⟨.hbm, 288, rfl⟩
abbrev main_v275 : Ref sig .tc := ⟨.hbm, 289, rfl⟩
abbrev main_v276 : Ref sig .tc := ⟨.hbm, 290, rfl⟩
abbrev main_v277 : Ref sig .tc := ⟨.hbm, 291, rfl⟩
abbrev main_v278 : Ref sig .tc := ⟨.hbm, 292, rfl⟩
abbrev main_v279 : Ref sig .tc := ⟨.hbm, 293, rfl⟩
abbrev main_v280 : Ref sig .tc := ⟨.hbm, 294, rfl⟩
abbrev main_v281 : Ref sig .tc := ⟨.hbm, 295, rfl⟩
abbrev main_v282 : Ref sig .tc := ⟨.hbm, 296, rfl⟩
abbrev main_v283 : Ref sig .tc := ⟨.hbm, 297, rfl⟩
abbrev main_v284 : Ref sig .tc := ⟨.hbm, 298, rfl⟩
abbrev main_v285 : Ref sig .tc := ⟨.hbm, 299, rfl⟩
abbrev main_v286 : Ref sig .tc := ⟨.hbm, 300, rfl⟩
abbrev main_v287 : Ref sig .tc := ⟨.hbm, 301, rfl⟩
abbrev main_v288 : Ref sig .tc := ⟨.hbm, 302, rfl⟩
abbrev main_v289 : Ref sig .tc := ⟨.hbm, 303, rfl⟩
abbrev main_v290 : Ref sig .tc := ⟨.hbm, 304, rfl⟩
abbrev main_v291 : Ref sig .tc := ⟨.hbm, 305, rfl⟩
abbrev main_v292 : Ref sig .tc := ⟨.hbm, 306, rfl⟩
abbrev main_v293 : Ref sig .tc := ⟨.hbm, 307, rfl⟩
abbrev main_v294 : Ref sig .tc := ⟨.hbm, 308, rfl⟩
abbrev main_v295 : Ref sig .tc := ⟨.hbm, 309, rfl⟩
abbrev main_v296 : Ref sig .tc := ⟨.hbm, 310, rfl⟩
abbrev main_v297 : Ref sig .tc := ⟨.hbm, 311, rfl⟩
abbrev main_v298 : Ref sig .tc := ⟨.hbm, 312, rfl⟩
abbrev main_v299 : Ref sig .tc := ⟨.hbm, 313, rfl⟩
abbrev main_v300 : Ref sig .tc := ⟨.hbm, 314, rfl⟩
abbrev main_v301 : Ref sig .tc := ⟨.hbm, 315, rfl⟩
abbrev main_v302 : Ref sig .tc := ⟨.hbm, 316, rfl⟩
abbrev main_v303 : Ref sig .tc := ⟨.hbm, 317, rfl⟩
abbrev main_v304 : Ref sig .tc := ⟨.hbm, 318, rfl⟩
abbrev main_v305 : Ref sig .tc := ⟨.hbm, 319, rfl⟩
abbrev main_v306 : Ref sig .tc := ⟨.hbm, 320, rfl⟩
abbrev main_v307 : Ref sig .tc := ⟨.hbm, 321, rfl⟩
abbrev main_v308 : Ref sig .tc := ⟨.hbm, 322, rfl⟩
abbrev main_v309 : Ref sig .tc := ⟨.hbm, 323, rfl⟩
abbrev main_v310 : Ref sig .tc := ⟨.hbm, 324, rfl⟩
abbrev main_v311 : Ref sig .tc := ⟨.hbm, 325, rfl⟩
abbrev main_v312 : Ref sig .tc := ⟨.hbm, 326, rfl⟩
abbrev main_v313 : Ref sig .tc := ⟨.hbm, 327, rfl⟩
abbrev main_v314 : Ref sig .tc := ⟨.hbm, 328, rfl⟩
abbrev main_v315 : Ref sig .tc := ⟨.hbm, 329, rfl⟩
abbrev main_v316 : Ref sig .tc := ⟨.hbm, 330, rfl⟩
abbrev main_v317 : Ref sig .tc := ⟨.hbm, 331, rfl⟩
abbrev main_v318 : Ref sig .tc := ⟨.hbm, 332, rfl⟩
abbrev main_v319 : Ref sig .tc := ⟨.hbm, 333, rfl⟩
abbrev main_v320 : Ref sig .tc := ⟨.hbm, 334, rfl⟩
abbrev main_v321 : Ref sig .tc := ⟨.hbm, 335, rfl⟩
abbrev main_v322 : Ref sig .tc := ⟨.hbm, 336, rfl⟩
abbrev main_v323 : Ref sig .tc := ⟨.hbm, 337, rfl⟩
abbrev main_v324 : Ref sig .tc := ⟨.hbm, 338, rfl⟩
abbrev main_v325 : Ref sig .tc := ⟨.hbm, 339, rfl⟩
abbrev main_v326 : Ref sig .tc := ⟨.hbm, 340, rfl⟩
abbrev main_v327 : Ref sig .tc := ⟨.hbm, 341, rfl⟩
abbrev main_v328 : Ref sig .tc := ⟨.hbm, 342, rfl⟩
abbrev main_v329 : Ref sig .tc := ⟨.hbm, 343, rfl⟩
abbrev main_v330 : Ref sig .tc := ⟨.hbm, 344, rfl⟩
abbrev main_v331 : Ref sig .tc := ⟨.hbm, 345, rfl⟩
abbrev main_v332 : Ref sig .tc := ⟨.hbm, 346, rfl⟩
abbrev main_v333 : Ref sig .tc := ⟨.hbm, 347, rfl⟩
abbrev main_v334 : Ref sig .tc := ⟨.hbm, 348, rfl⟩
abbrev main_v335 : Ref sig .tc := ⟨.hbm, 349, rfl⟩
abbrev main_v336 : Ref sig .tc := ⟨.hbm, 350, rfl⟩
abbrev main_v337 : Ref sig .tc := ⟨.hbm, 351, rfl⟩
abbrev main_v338 : Ref sig .tc := ⟨.hbm, 352, rfl⟩
abbrev main_v339 : Ref sig .tc := ⟨.hbm, 353, rfl⟩
abbrev main_v340 : Ref sig .tc := ⟨.hbm, 354, rfl⟩
abbrev main_v341 : Ref sig .tc := ⟨.hbm, 355, rfl⟩
abbrev main_v342 : Ref sig .tc := ⟨.hbm, 356, rfl⟩
abbrev main_v343 : Ref sig .tc := ⟨.hbm, 357, rfl⟩
abbrev main_v344 : Ref sig .tc := ⟨.hbm, 358, rfl⟩
abbrev main_v345 : Ref sig .tc := ⟨.hbm, 359, rfl⟩
abbrev main_v346 : Ref sig .tc := ⟨.hbm, 360, rfl⟩
abbrev main_v347 : Ref sig .tc := ⟨.hbm, 361, rfl⟩
abbrev main_v348 : Ref sig .tc := ⟨.hbm, 362, rfl⟩
abbrev main_v349 : Ref sig .tc := ⟨.hbm, 363, rfl⟩
abbrev main_v350 : Ref sig .tc := ⟨.hbm, 364, rfl⟩
abbrev main_v351 : Ref sig .tc := ⟨.hbm, 365, rfl⟩
abbrev main_v352 : Ref sig .tc := ⟨.hbm, 366, rfl⟩
abbrev main_v353 : Ref sig .tc := ⟨.hbm, 367, rfl⟩
abbrev main_v354 : Ref sig .tc := ⟨.hbm, 368, rfl⟩
abbrev main_v355 : Ref sig .tc := ⟨.hbm, 369, rfl⟩
abbrev main_v356 : Ref sig .tc := ⟨.hbm, 370, rfl⟩
abbrev main_v357 : Ref sig .tc := ⟨.hbm, 371, rfl⟩
abbrev main_v358 : Ref sig .tc := ⟨.hbm, 372, rfl⟩
abbrev main_v359 : Ref sig .tc := ⟨.hbm, 373, rfl⟩
abbrev main_v360 : Ref sig .tc := ⟨.hbm, 374, rfl⟩
abbrev main_v361 : Ref sig .tc := ⟨.hbm, 375, rfl⟩
abbrev main_v362 : Ref sig .tc := ⟨.hbm, 376, rfl⟩
abbrev main_v363 : Ref sig .tc := ⟨.hbm, 377, rfl⟩
abbrev main_v364 : Ref sig .tc := ⟨.hbm, 378, rfl⟩
abbrev main_v365 : Ref sig .tc := ⟨.hbm, 379, rfl⟩
abbrev main_v366 : Ref sig .tc := ⟨.hbm, 380, rfl⟩
abbrev main_v367 : Ref sig .tc := ⟨.hbm, 381, rfl⟩
abbrev main_v368 : Ref sig .tc := ⟨.hbm, 382, rfl⟩
abbrev main_v369 : Ref sig .tc := ⟨.hbm, 383, rfl⟩
abbrev main_v370 : Ref sig .tc := ⟨.hbm, 384, rfl⟩
abbrev main_v371 : Ref sig .tc := ⟨.hbm, 385, rfl⟩
abbrev main_v372 : Ref sig .tc := ⟨.hbm, 386, rfl⟩
abbrev main_v373 : Ref sig .tc := ⟨.hbm, 387, rfl⟩
abbrev main_v374 : Ref sig .tc := ⟨.hbm, 388, rfl⟩
abbrev main_v375 : Ref sig .tc := ⟨.hbm, 389, rfl⟩
abbrev main_v376 : Ref sig .tc := ⟨.hbm, 390, rfl⟩
abbrev main_v377 : Ref sig .tc := ⟨.hbm, 391, rfl⟩
abbrev main_v378 : Ref sig .tc := ⟨.hbm, 392, rfl⟩
abbrev main_v379 : Ref sig .tc := ⟨.hbm, 393, rfl⟩
abbrev main_v380 : Ref sig .tc := ⟨.hbm, 394, rfl⟩
abbrev main_v381 : Ref sig .tc := ⟨.hbm, 395, rfl⟩
abbrev main_v382 : Ref sig .tc := ⟨.hbm, 396, rfl⟩
abbrev main_v383 : Ref sig .tc := ⟨.hbm, 397, rfl⟩
abbrev main_v384 : Ref sig .tc := ⟨.hbm, 398, rfl⟩
abbrev main_v385 : Ref sig .tc := ⟨.hbm, 399, rfl⟩
abbrev main_v386 : Ref sig .tc := ⟨.hbm, 400, rfl⟩
abbrev main_v387 : Ref sig .tc := ⟨.hbm, 401, rfl⟩
abbrev main_v388 : Ref sig .tc := ⟨.hbm, 402, rfl⟩
abbrev main_v389 : Ref sig .tc := ⟨.hbm, 403, rfl⟩
abbrev main_v390 : Ref sig .tc := ⟨.hbm, 404, rfl⟩
abbrev main_v391 : Ref sig .tc := ⟨.hbm, 405, rfl⟩
abbrev main_v392 : Ref sig .tc := ⟨.hbm, 406, rfl⟩
abbrev main_v393 : Ref sig .tc := ⟨.hbm, 407, rfl⟩
abbrev main_v394 : Ref sig .tc := ⟨.hbm, 408, rfl⟩
abbrev main_v395 : Ref sig .tc := ⟨.hbm, 409, rfl⟩
abbrev main_v396 : Ref sig .tc := ⟨.hbm, 410, rfl⟩
abbrev main_v397 : Ref sig .tc := ⟨.hbm, 411, rfl⟩
abbrev main_v398 : Ref sig .tc := ⟨.hbm, 412, rfl⟩
abbrev main_v399 : Ref sig .tc := ⟨.hbm, 413, rfl⟩
abbrev main_v400 : Ref sig .tc := ⟨.hbm, 414, rfl⟩
abbrev main_v401 : Ref sig .tc := ⟨.hbm, 415, rfl⟩
abbrev main_v402 : Ref sig .tc := ⟨.hbm, 416, rfl⟩
abbrev main_v403 : Ref sig .tc := ⟨.hbm, 417, rfl⟩
abbrev main_v404 : Ref sig .tc := ⟨.hbm, 418, rfl⟩
abbrev main_v405 : Ref sig .tc := ⟨.hbm, 419, rfl⟩
abbrev main_v406 : Ref sig .tc := ⟨.hbm, 420, rfl⟩
abbrev main_v407 : Ref sig .tc := ⟨.hbm, 421, rfl⟩
abbrev main_v408 : Ref sig .tc := ⟨.hbm, 422, rfl⟩
abbrev main_v409 : Ref sig .tc := ⟨.hbm, 423, rfl⟩
abbrev main_v410 : Ref sig .tc := ⟨.hbm, 424, rfl⟩
abbrev main_v411 : Ref sig .tc := ⟨.hbm, 425, rfl⟩
abbrev main_v412 : Ref sig .tc := ⟨.hbm, 426, rfl⟩
abbrev main_v413 : Ref sig .tc := ⟨.hbm, 427, rfl⟩
abbrev main_v414 : Ref sig .tc := ⟨.hbm, 428, rfl⟩
abbrev main_v415 : Ref sig .tc := ⟨.hbm, 429, rfl⟩
abbrev main_v416 : Ref sig .tc := ⟨.hbm, 430, rfl⟩
abbrev main_v417 : Ref sig .tc := ⟨.hbm, 431, rfl⟩
abbrev main_v418 : Ref sig .tc := ⟨.hbm, 432, rfl⟩
abbrev main_v419 : Ref sig .tc := ⟨.hbm, 433, rfl⟩
abbrev main_v420 : Ref sig .tc := ⟨.hbm, 434, rfl⟩
abbrev main_v421 : Ref sig .tc := ⟨.hbm, 435, rfl⟩
abbrev main_v422 : Ref sig .tc := ⟨.hbm, 436, rfl⟩
abbrev main_v423 : Ref sig .tc := ⟨.hbm, 437, rfl⟩
abbrev main_v424 : Ref sig .tc := ⟨.hbm, 438, rfl⟩
abbrev main_v425 : Ref sig .tc := ⟨.hbm, 439, rfl⟩
abbrev main_v426 : Ref sig .tc := ⟨.hbm, 440, rfl⟩
abbrev main_v427 : Ref sig .tc := ⟨.hbm, 441, rfl⟩
abbrev main_v428 : Ref sig .tc := ⟨.hbm, 442, rfl⟩
abbrev main_v429 : Ref sig .tc := ⟨.hbm, 443, rfl⟩
abbrev main_v430 : Ref sig .tc := ⟨.hbm, 444, rfl⟩
abbrev main_v431 : Ref sig .tc := ⟨.hbm, 445, rfl⟩
abbrev main_v432 : Ref sig .tc := ⟨.hbm, 446, rfl⟩
abbrev main_v433 : Ref sig .tc := ⟨.hbm, 447, rfl⟩
abbrev main_v434 : Ref sig .tc := ⟨.hbm, 448, rfl⟩
abbrev main_v435 : Ref sig .tc := ⟨.hbm, 449, rfl⟩
abbrev main_v436 : Ref sig .tc := ⟨.hbm, 450, rfl⟩
abbrev main_v437 : Ref sig .tc := ⟨.hbm, 451, rfl⟩
abbrev main_v438 : Ref sig .tc := ⟨.hbm, 452, rfl⟩
abbrev main_v439 : Ref sig .tc := ⟨.hbm, 453, rfl⟩
abbrev main_v440 : Ref sig .tc := ⟨.hbm, 454, rfl⟩
abbrev main_v441 : Ref sig .tc := ⟨.hbm, 455, rfl⟩
abbrev main_v442 : Ref sig .tc := ⟨.hbm, 456, rfl⟩
abbrev main_v443 : Ref sig .tc := ⟨.hbm, 457, rfl⟩
abbrev main_v444 : Ref sig .tc := ⟨.hbm, 458, rfl⟩
abbrev main_v445 : Ref sig .tc := ⟨.hbm, 459, rfl⟩
abbrev main_v446 : Ref sig .tc := ⟨.hbm, 460, rfl⟩
abbrev main_v447 : Ref sig .tc := ⟨.hbm, 461, rfl⟩
abbrev main_v448 : Ref sig .tc := ⟨.hbm, 462, rfl⟩
abbrev main_v449 : Ref sig .tc := ⟨.hbm, 463, rfl⟩
abbrev main_v450 : Ref sig .tc := ⟨.hbm, 464, rfl⟩
abbrev main_v451 : Ref sig .tc := ⟨.hbm, 465, rfl⟩
abbrev main_v452 : Ref sig .tc := ⟨.hbm, 466, rfl⟩
abbrev main_v453 : Ref sig .tc := ⟨.hbm, 467, rfl⟩
abbrev main_v454 : Ref sig .tc := ⟨.hbm, 468, rfl⟩
abbrev main_v455 : Ref sig .tc := ⟨.hbm, 469, rfl⟩
abbrev main_v456 : Ref sig .tc := ⟨.hbm, 470, rfl⟩
abbrev main_v457 : Ref sig .tc := ⟨.hbm, 471, rfl⟩
abbrev main_v458 : Ref sig .tc := ⟨.hbm, 472, rfl⟩
abbrev main_v459 : Ref sig .tc := ⟨.hbm, 473, rfl⟩
abbrev main_v460 : Ref sig .tc := ⟨.hbm, 474, rfl⟩
abbrev main_v461 : Ref sig .tc := ⟨.hbm, 475, rfl⟩
abbrev main_v462 : Ref sig .tc := ⟨.hbm, 476, rfl⟩
abbrev main_v463 : Ref sig .tc := ⟨.hbm, 477, rfl⟩
abbrev main_v464 : Ref sig .tc := ⟨.hbm, 478, rfl⟩
abbrev main_v465 : Ref sig .tc := ⟨.hbm, 479, rfl⟩
abbrev main_v466 : Ref sig .tc := ⟨.hbm, 480, rfl⟩
abbrev main_v467 : Ref sig .tc := ⟨.hbm, 481, rfl⟩
abbrev main_v468 : Ref sig .tc := ⟨.hbm, 482, rfl⟩
abbrev main_v469 : Ref sig .tc := ⟨.hbm, 483, rfl⟩
abbrev main_v470 : Ref sig .tc := ⟨.hbm, 484, rfl⟩
abbrev main_v471 : Ref sig .tc := ⟨.hbm, 485, rfl⟩
abbrev main_v472 : Ref sig .tc := ⟨.hbm, 486, rfl⟩
abbrev main_v473 : Ref sig .tc := ⟨.hbm, 487, rfl⟩
abbrev main_v474 : Ref sig .tc := ⟨.hbm, 488, rfl⟩
abbrev main_v475 : Ref sig .tc := ⟨.hbm, 489, rfl⟩
abbrev main_v476 : Ref sig .tc := ⟨.hbm, 490, rfl⟩
abbrev main_v477 : Ref sig .tc := ⟨.hbm, 491, rfl⟩
abbrev main_v478 : Ref sig .tc := ⟨.hbm, 492, rfl⟩
abbrev main_v479 : Ref sig .tc := ⟨.hbm, 493, rfl⟩
abbrev main_v480 : Ref sig .tc := ⟨.hbm, 494, rfl⟩
abbrev main_v481 : Ref sig .tc := ⟨.hbm, 495, rfl⟩
abbrev main_v482 : Ref sig .tc := ⟨.hbm, 496, rfl⟩
abbrev main_v483 : Ref sig .tc := ⟨.hbm, 497, rfl⟩
abbrev main_v484 : Ref sig .tc := ⟨.hbm, 498, rfl⟩
abbrev main_v485 : Ref sig .tc := ⟨.hbm, 499, rfl⟩
abbrev main_v486 : Ref sig .tc := ⟨.hbm, 500, rfl⟩
abbrev main_v487 : Ref sig .tc := ⟨.hbm, 501, rfl⟩
abbrev main_v488 : Ref sig .tc := ⟨.hbm, 502, rfl⟩
abbrev main_v489 : Ref sig .tc := ⟨.hbm, 503, rfl⟩
abbrev main_v490 : Ref sig .tc := ⟨.hbm, 504, rfl⟩
abbrev main_v491 : Ref sig .tc := ⟨.hbm, 505, rfl⟩
abbrev main_v492 : Ref sig .tc := ⟨.hbm, 506, rfl⟩
abbrev main_v493 : Ref sig .tc := ⟨.hbm, 507, rfl⟩
abbrev main_v494 : Ref sig .tc := ⟨.hbm, 508, rfl⟩
abbrev main_v495 : Ref sig .tc := ⟨.hbm, 509, rfl⟩
abbrev main_v496 : Ref sig .tc := ⟨.hbm, 510, rfl⟩
abbrev main_v497 : Ref sig .tc := ⟨.hbm, 511, rfl⟩
abbrev main_v498 : Ref sig .tc := ⟨.hbm, 512, rfl⟩
abbrev main_v499 : Ref sig .tc := ⟨.hbm, 513, rfl⟩
abbrev main_v500 : Ref sig .tc := ⟨.hbm, 514, rfl⟩
abbrev main_v501 : Ref sig .tc := ⟨.hbm, 515, rfl⟩
abbrev main_v502 : Ref sig .tc := ⟨.hbm, 516, rfl⟩
abbrev main_v503 : Ref sig .tc := ⟨.hbm, 517, rfl⟩
abbrev main_v504 : Ref sig .tc := ⟨.hbm, 518, rfl⟩
abbrev main_v505 : Ref sig .tc := ⟨.hbm, 519, rfl⟩
abbrev main_v506 : Ref sig .tc := ⟨.hbm, 520, rfl⟩
abbrev main_v507 : Ref sig .tc := ⟨.hbm, 521, rfl⟩
abbrev main_v508 : Ref sig .tc := ⟨.hbm, 522, rfl⟩
abbrev main_v509 : Ref sig .tc := ⟨.hbm, 523, rfl⟩
abbrev main_v510 : Ref sig .tc := ⟨.hbm, 524, rfl⟩
abbrev main_v511 : Ref sig .tc := ⟨.hbm, 525, rfl⟩
abbrev main_v512 : Ref sig .tc := ⟨.hbm, 526, rfl⟩
abbrev main_v513 : Ref sig .tc := ⟨.hbm, 527, rfl⟩
abbrev main_cst_3 : Ref sig .tc := ⟨.hbm, 528, rfl⟩
abbrev main_v514 : Ref sig .tc := ⟨.hbm, 529, rfl⟩
abbrev main_v515 : Ref sig .tc := ⟨.hbm, 530, rfl⟩
abbrev main_cst_4 : Ref sig .tc := ⟨.hbm, 531, rfl⟩
abbrev main_v516 : Ref sig .tc := ⟨.hbm, 532, rfl⟩
abbrev main_v517 : Ref sig .tc := ⟨.hbm, 533, rfl⟩
abbrev main_v518 : Ref sig .tc := ⟨.hbm, 534, rfl⟩
abbrev main_v519 : Ref sig .tc := ⟨.hbm, 535, rfl⟩
abbrev main_v520 : Ref sig .tc := ⟨.hbm, 536, rfl⟩
abbrev main_cst_5 : Ref sig .tc := ⟨.hbm, 537, rfl⟩
abbrev main_v521 : Ref sig .tc := ⟨.hbm, 538, rfl⟩
abbrev main_v522 : Ref sig .tc := ⟨.hbm, 539, rfl⟩
abbrev main_cst_6 : Ref sig .tc := ⟨.hbm, 540, rfl⟩
abbrev main_v523 : Ref sig .tc := ⟨.hbm, 541, rfl⟩
abbrev main_v524 : Ref sig .tc := ⟨.hbm, 542, rfl⟩
abbrev main_v525 : Ref sig .tc := ⟨.hbm, 543, rfl⟩
abbrev main_v526 : Ref sig .tc := ⟨.hbm, 544, rfl⟩
abbrev main_cst_7 : Ref sig .tc := ⟨.hbm, 545, rfl⟩
abbrev main_v527 : Ref sig .tc := ⟨.hbm, 546, rfl⟩
abbrev main_v528 : Ref sig .tc := ⟨.hbm, 547, rfl⟩
abbrev main_v529 : Ref sig .tc := ⟨.hbm, 548, rfl⟩
abbrev main_v530 : Ref sig .tc := ⟨.hbm, 549, rfl⟩
abbrev main_v531 : Ref sig .tc := ⟨.hbm, 550, rfl⟩
abbrev main_v532 : Ref sig .tc := ⟨.hbm, 551, rfl⟩
abbrev main_v533 : Ref sig .tc := ⟨.hbm, 552, rfl⟩
abbrev main_v534 : Ref sig .tc := ⟨.hbm, 553, rfl⟩
abbrev main_v535 : Ref sig .tc := ⟨.hbm, 554, rfl⟩
abbrev main_v536 : Ref sig .tc := ⟨.hbm, 555, rfl⟩
abbrev main_v537 : Ref sig .tc := ⟨.hbm, 556, rfl⟩
abbrev main_v538 : Ref sig .tc := ⟨.hbm, 557, rfl⟩
abbrev main_v539 : Ref sig .tc := ⟨.hbm, 558, rfl⟩
abbrev main_v540 : Ref sig .tc := ⟨.hbm, 559, rfl⟩
abbrev main_v541 : Ref sig .tc := ⟨.hbm, 560, rfl⟩
abbrev main_v542 : Ref sig .tc := ⟨.hbm, 561, rfl⟩
abbrev main_cst_8 : Ref sig .tc := ⟨.hbm, 562, rfl⟩
abbrev main_v543 : Ref sig .tc := ⟨.hbm, 563, rfl⟩
abbrev main_v544 : Ref sig .tc := ⟨.hbm, 564, rfl⟩
abbrev main_v545 : Ref sig .tc := ⟨.hbm, 565, rfl⟩
abbrev main_v546 : Ref sig .tc := ⟨.hbm, 566, rfl⟩
abbrev main_v547 : Ref sig .tc := ⟨.hbm, 567, rfl⟩
abbrev main_v548 : Ref sig .tc := ⟨.hbm, 568, rfl⟩
abbrev main_v549 : Ref sig .tc := ⟨.hbm, 569, rfl⟩
abbrev main_c : Ref sig .tc := ⟨.hbm, 570, rfl⟩
abbrev main_v550 : Ref sig .tc := ⟨.hbm, 571, rfl⟩
abbrev main_v551 : Ref sig .tc := ⟨.hbm, 572, rfl⟩
abbrev main_v552 : Ref sig .tc := ⟨.hbm, 573, rfl⟩
abbrev main_v553 : Ref sig .tc := ⟨.hbm, 574, rfl⟩
abbrev main_v554 : Ref sig .tc := ⟨.hbm, 575, rfl⟩
abbrev main_v555 : Ref sig .tc := ⟨.hbm, 576, rfl⟩
abbrev main_v556 : Ref sig .tc := ⟨.hbm, 577, rfl⟩
abbrev main_v557 : Ref sig .tc := ⟨.hbm, 578, rfl⟩
abbrev main_v558 : Ref sig .tc := ⟨.hbm, 579, rfl⟩
abbrev main_v559 : Ref sig .tc := ⟨.hbm, 580, rfl⟩
abbrev main_v560 : Ref sig .tc := ⟨.hbm, 581, rfl⟩
abbrev main_v561 : Ref sig .tc := ⟨.hbm, 582, rfl⟩
abbrev main_v562 : Ref sig .tc := ⟨.hbm, 583, rfl⟩

abbrev nD : Nat := 1
abbrev τ : Topo := Topo.v7x

variable {F : FTy → Type} [FloatOps F]
-- ==== Proof.Common.lean ====
/- What several of the calls share: a whole buffer read through zero offsets, and a plain matrix product read at one index. -/
module

public import Idealize.ShloMosaic.Lib.Pipeline.Value
public import Idealize.ShloMosaic.Lib.MatmulPlain

@[expose] public section

noncomputable section

namespace Cert.Common

open Idealize.ShloMosaic Idealize.ShloMosaic.ValueIdx
open scoped BigOperators

/-- The offsets of a whole two-axis block are zero on both axes. -/
theorem off2 : (![0, 0] : Fin 2 → Nat) = fun _ => 0 := funext fun a => by match a with | ⟨0, _⟩ => rfl | ⟨1, _⟩ => rfl

/-- The offsets of a whole three-axis block are zero on every axis. -/
theorem off3 : (![0, 0, 0] : Fin 3 → Nat) = fun _ => 0 :=
  funext fun a => by match a with | ⟨0, _⟩ => rfl | ⟨1, _⟩ => rfl | ⟨2, _⟩ => rfl

/-- A two-axis index is a row and a column. -/
theorem exists_ix2 {M N : ℕ} (j : Shape.Idx ⟨2, ![M, N]⟩) : ∃ (r : Fin M) (c : Fin N), j = ix2 r c :=
  ⟨j 0, j 1, funext fun a => by match a with | ⟨0, _⟩ => rfl | ⟨1, _⟩ => rfl⟩

/-- A three-axis index is its three coordinates. -/
theorem exists_ix3 {L M N : ℕ} (j : Shape.Idx ⟨3, ![L, M, N]⟩) : ∃ (l : Fin L) (r : Fin M) (c : Fin N), j = ix3 l r c :=
  ⟨j 0, j 1, j 2, funext fun a => by match a with | ⟨0, _⟩ => rfl | ⟨1, _⟩ => rfl | ⟨2, _⟩ => rfl⟩

/-- `[M,K] × [K,N]` onto a zero accumulator, at row `r` and column `c`: the sum of the row's products with the column. -/
theorem mm_zero {M K N : ℕ} {φ₁ φ₂ : FTy} (prec : Option ContractPrecision) (A : FVec Ideal ⟨2, ![M, K]⟩ φ₁)
    (B : FVec Ideal ⟨2, ![K, N]⟩ φ₂) (r : Fin M) (c : Fin N) :
    FloatOps.matmul (DotDims.plain M K N) prec A B (constant ⟨2, ![M, N]⟩ .f32 0x00000000#32) (ix2 r c)
      = ∑ k : Fin K, A (ix2 r k) * B (ix2 k c) := by
  rw [Ideal.matmul_plain_apply]
  show Ideal.ofBits .f32 0x00000000#32 + _ = _
  rw [Ideal.ofBits_zero_f32, zero_add]

end Cert.Common

end
-- ==== Proof.Soft.lean ====
/- What the two attention calls share: a softmax-weighted sum of values, the head a masked product picks out of a pair of
   heads, and the vector operations of a row's softmax read at one entry. -/
module

public import Idealize.ShloMosaic.Lib.Pipeline.Value
public import Idealize.ShloMosaic.Lib.MatmulPlain
public import Idealize.ShloMosaic.PureOps.Ideal.Laws
public import Idealize.ShloMosaic.Lib.ValueIdx
public import Idealize.ShloMosaic.Lib.KernelVsHost
public import proofs.«01_k».proof.Proof.Common

@[expose] public section

set_option maxRecDepth 16384

noncomputable section

namespace Cert.Soft

open Idealize.ShloMosaic Idealize.ShloMosaic.ValueIdx
open scoped BigOperators

/-- The largest of finitely many scores, from minus infinity. -/
def top {n : ℕ} (s : Fin n → EReal) : EReal := (Finset.univ : Finset (Fin n)).fold max (Ideal.ofBits .f32 0xFF800000#32) s

/-- The weights of a row of scores: exponentials of the scores less the largest, over their sum. -/
def weight {n : ℕ} (s : Fin n → EReal) (k : Fin n) : EReal :=
  Ideal.div (Ideal.exp (s k - top s)) (∑ j, Ideal.exp (s j - top s))

/-- The values weighted by a row of scores. -/
def soft {n : ℕ} (s v : Fin n → EReal) : EReal := ∑ k, weight s k * v k

/-- The largest score is at least the starting value. -/
theorem max_top {n : ℕ} (s : Fin n → EReal) : max (Ideal.ofBits .f32 0xFF800000#32) (top s) = top s :=
  max_eq_right (((Finset.fold_max_le (top s)).mp le_rfl).1)

/-- The largest of two rows of scores laid end to end. -/
theorem top_add {a b : ℕ} (s : Fin (a + b) → EReal) :
    top s = max (top fun k : Fin a => s (Fin.castAdd b k)) (top fun k : Fin b => s (Fin.natAdd a k)) := by
  refine eq_of_forall_ge_iff fun c => ?_
  unfold top
  rw [Finset.fold_max_le, max_le_iff, Finset.fold_max_le, Finset.fold_max_le]
  constructor
  · rintro ⟨h0, h⟩
    exact ⟨⟨h0, fun k _ => h _ (Finset.mem_univ _)⟩, ⟨h0, fun k _ => h _ (Finset.mem_univ _)⟩⟩
  · rintro ⟨⟨h0, h1⟩, ⟨-, h2⟩⟩
    refine ⟨h0, fun k _ => ?_⟩
    induction k using Fin.addCases with
    | left k => exact h1 k (Finset.mem_univ _)
    | right k => exact h2 k (Finset.mem_univ _)

/-- Two rows of scores taken together: one largest, one sum, the two weighted sums added. -/
def soft2 {a b : ℕ} (s v : Fin a → EReal) (s' v' : Fin b → EReal) : EReal :=
  (∑ k, Ideal.div (Ideal.exp (s k - max (top s) (top s')))
      ((∑ j, Ideal.exp (s j - max (top s) (top s'))) + ∑ j, Ideal.exp (s' j - max (top s) (top s'))) * v k)
  + ∑ k, Ideal.div (Ideal.exp (s' k - max (top s) (top s')))
      ((∑ j, Ideal.exp (s j - max (top s) (top s'))) + ∑ j, Ideal.exp (s' j - max (top s) (top s'))) * v' k

/-- They are one row laid end to end. -/
theorem soft_add {a b : ℕ} (s v : Fin (a + b) → EReal) :
    soft s v = soft2 (fun k : Fin a => s (Fin.castAdd b k)) (fun k => v (Fin.castAdd b k))
      (fun k : Fin b => s (Fin.natAdd a k)) (fun k => v (Fin.natAdd a k)) := by
  unfold soft soft2 weight
  rw [Fin.sum_univ_add, Fin.sum_univ_add, top_add s]

/-- A product over a pair of heads, the second head's lanes zero: the first head's product. -/
theorem dot_lo (f g : Fin 128 → EReal) (h : ∀ d : Fin 64, f ⟨64 + d.val, by omega⟩ = 0) :
    ∑ d, f d * g d = ∑ d : Fin 64, f ⟨d.val, by omega⟩ * g ⟨d.val, by omega⟩ := by
  have e := Fin.sum_univ_add (a := 64) (b := 64) fun d => f d * g d
  refine e.trans ((congrArg₂ (· + · : EReal → EReal → EReal) rfl (Finset.sum_eq_zero fun d _ => ?_)).trans (add_zero _))
  exact (congrArg (· * g _ : EReal → EReal) (h d)).trans (zero_mul _)

/-- A product over a pair of heads, the first head's lanes zero: the second head's product. -/
theorem dot_hi (f g : Fin 128 → EReal) (h : ∀ d : Fin 64, f ⟨d.val, by omega⟩ = 0) :
    ∑ d, f d * g d = ∑ d : Fin 64, f ⟨64 + d.val, by omega⟩ * g ⟨64 + d.val, by omega⟩ := by
  have e := Fin.sum_univ_add (a := 64) (b := 64) fun d => f d * g d
  refine e.trans ((congrArg₂ (· + · : EReal → EReal → EReal) (Finset.sum_eq_zero fun d _ => ?_) rfl).trans (zero_add _))
  exact (congrArg (· * g _ : EReal → EReal) (h d)).trans (zero_mul _)

/-- The lanes of the first head: those below 64. -/
theorem lane_lt : ∀ d : Fin 128, IntOp.cmpi .slt (BitVec.ofNat 32 d.val) 64#32 = if d.val < 64 then 1#1 else 0#1 := by
  decide +kernel

/-- The row of an operand transposed on the right, onto zero. -/
theorem mt_zero {M K N : ℕ} {φ₁ φ₂ : FTy} (prec : Option ContractPrecision) (A : FVec Ideal ⟨2, ![M, K]⟩ φ₁)
    (B : FVec Ideal ⟨2, ![N, K]⟩ φ₂) (r : Fin M) (c : Fin N) :
    FloatOps.matmul (DotDims.transposedRhs M K N) prec A B (constant ⟨2, ![M, N]⟩ .f32 0x00000000#32) (ix2 r c)
      = ∑ k : Fin K, A (ix2 r k) * B (ix2 c k) := by
  rw [Ideal.matmul_transposedRhs_apply]
  show Ideal.ofBits .f32 0x00000000#32 + _ = _
  rw [Ideal.ofBits_zero_f32, zero_add]

/-- The largest entry of a row. -/
theorem rowmax {M K : ℕ} (s : FVec Ideal ⟨2, ![M, K]⟩ .f32) (hr : Shape.Reduces ⟨2, ![M, K]⟩ [1] ⟨1, ![M]⟩)
    (hφ : FKind.Formats .f32) (hacc : 0xFF800000#32 = FKind.maximumf.neutral .f32 hφ) (r : Fin M) :
    multiReduction .maximumf [1] ⟨1, ![M]⟩ s 0xFF800000#32 hr hφ hacc (ix1 r) = top fun k => s (ix2 r k) := by
  have e : ∀ l : Fin K, hr.lift (ix1 r) l = ix2 r l := fun l => by
    funext a; match a with | ⟨0, _⟩ => rfl | ⟨1, _⟩ => rfl
  refine (Ideal.multiReduction_maximumf_single s _ hr hφ hacc (ix1 r)).trans ?_
  exact congrArg (Finset.fold max _ · Finset.univ) (funext fun l => congrArg s (e l))

/-- The sum of a row. -/
theorem rowsum {M K : ℕ} (s : FVec Ideal ⟨2, ![M, K]⟩ .f32) (hr : Shape.Reduces ⟨2, ![M, K]⟩ [1] ⟨1, ![M]⟩)
    (hφ : FKind.Formats .f32) (hacc : 0x00000000#32 = FKind.add.neutral .f32 hφ) (r : Fin M) :
    multiReduction .add [1] ⟨1, ![M]⟩ s 0x00000000#32 hr hφ hacc (ix1 r) = ∑ k, s (ix2 r k) := by
  have e : ∀ l : Fin K, hr.lift (ix1 r) l = ix2 r l := fun l => by
    funext a; match a with | ⟨0, _⟩ => rfl | ⟨1, _⟩ => rfl
  refine (Ideal.multiReduction_add_single s _ hr hφ hacc (ix1 r)).trans ?_
  exact Finset.sum_congr rfl fun l _ => congrArg s (e l)

/-- A column spread over its row's entries. -/
theorem spread {M K : ℕ} (hM : M ≠ 1) (x : FVec Ideal ⟨2, ![M, 1]⟩ .f32) (hb : Shape.Broadcasts ⟨2, ![M, 1]⟩ ⟨2, ![M, K]⟩)
    (r : Fin M) (k : Fin K) : broadcastTo ⟨2, ![M, K]⟩ x hb (ix2 r k) = x (ix2 r 0) :=
  broadcastTo_apply _ hb (ix2 r k) (ix2 r 0) (fun a => match a with
    | ⟨0, _⟩ => by show r.val = if M = 1 then 0 else r.val; rw [if_neg hM]
    | ⟨1, _⟩ => by show 0 = if (1 : Nat) = 1 then 0 else k.val; rw [if_pos rfl])

/-- A row of numbers stood up as a column. -/
theorem stand {M : ℕ} (x : FVec Ideal ⟨1, ![M]⟩ .f32) (hc : Shape.ShapeCasts ⟨1, ![M]⟩ ⟨2, ![M, 1]⟩) (r : Fin M) :
    shapeCast ⟨2, ![M, 1]⟩ x hc (ix2 r 0) = x (ix1 r) :=
  shapeCast_apply _ hc (ix2 r 0) (ix1 r) (by
    rw [Shape.rowMajor_val_one, Shape.rowMajor_val_two]; show r.val = r.val * 1 + 0; omega)

/-- The first axis of one row block dropped. -/
theorem flat {M K : ℕ} (x : FVec Ideal ⟨3, ![1, M, K]⟩ .f32) (hc : Shape.ShapeCasts ⟨3, ![1, M, K]⟩ ⟨2, ![M, K]⟩)
    (r : Fin M) (k : Fin K) : shapeCast ⟨2, ![M, K]⟩ x hc (ix2 r k) = x (ix3 0 r k) :=
  shapeCast_apply _ hc (ix2 r k) (ix3 0 r k) (by
    rw [Shape.rowMajor_val_two, Shape.rowMajor_val_three]; show (0 * M + r.val) * K + k.val = r.val * K + k.val; rw [Nat.zero_mul, Nat.zero_add])

end Cert.Soft

end
-- ==== Proof.Masked.lean ====
/- A softmax over scores some of which are masked by minus infinity: where a score that is not masked is a number and none of
   them is infinite, what the masked keys and values hold does not matter. -/
module

public import proofs.«01_k».proof.Proof.Soft

@[expose] public section

noncomputable section

namespace Cert.Masked

open Idealize.ShloMosaic Cert.Soft
open scoped BigOperators

/-- The mask's score. -/
theorem masked : Ideal.ofBits .f32 0xFF800000#32 = ⊥ := by simp [Ideal.ofBits, Ideal.ieee]

/-- An exponential is not negative. -/
theorem exp_nonneg (x : EReal) : 0 ≤ Ideal.exp x := by
  induction x with
  | bot => rw [Ideal.exp_bot]
  | coe r => rw [Ideal.exp_coe]; exact EReal.coe_nonneg.mpr (Real.exp_pos r).le
  | top => rw [Ideal.exp_top]; exact le_top

/-- It is zero only of minus infinity. -/
theorem exp_pos (x : EReal) (h : x ≠ ⊥) : 0 < Ideal.exp x := by
  induction x with
  | bot => exact absurd rfl h
  | coe r => rw [Ideal.exp_coe]; exact EReal.coe_pos.mpr (Real.exp_pos r)
  | top => rw [Ideal.exp_top]; exact EReal.zero_lt_top

/-- Scores none of which is plus infinity have no infinite largest. -/
theorem top_ne_top {n : ℕ} (s : Fin n → EReal) (h : ∀ j, s j ≠ ⊤) : top s ≠ ⊤ := by
  refine ne_of_lt ?_
  unfold top
  rw [Finset.fold_max_lt, masked]
  exact ⟨bot_lt_top, fun j _ => lt_top_iff_ne_top.mpr (h j)⟩

/-- A row with a score that is a number, and none plus infinity, has a sum of exponentials that is not zero. -/
theorem den_ne_zero {n : ℕ} (s : Fin n → EReal) (h : ∀ j, s j ≠ ⊤) (j₀ : Fin n) (h0 : s j₀ ≠ ⊥) :
    ∑ j, Ideal.exp (s j - top s) ≠ 0 := by
  refine ne_of_gt (lt_of_lt_of_le (exp_pos (s j₀ - top s) ?_)
    (Finset.single_le_sum (f := fun j => Ideal.exp (s j - top s)) (fun j _ => exp_nonneg _) (Finset.mem_univ j₀)))
  have ht := top_ne_top s h
  generalize top s = t at ht
  generalize s j₀ = a at h0
  rw [sub_eq_add_neg]
  intro e
  rcases EReal.add_eq_bot_iff.mp e with e | e
  · exact h0 e
  · exact ht (EReal.neg_eq_bot_iff.mp e)

/-- Its minus infinities weigh nothing. -/
theorem weight_zero {n : ℕ} (s : Fin n → EReal) (h : ∀ j, s j ≠ ⊤) (j₀ : Fin n) (h0 : s j₀ ≠ ⊥) (k : Fin n) (hk : s k = ⊥) :
    weight s k = 0 := by
  unfold weight
  have hd := den_ne_zero s h j₀ h0
  rw [hk, EReal.bot_sub, Ideal.exp_bot]
  unfold Ideal.div
  rw [if_neg hd, zero_mul]

/-- Two masked rows, and their values, that agree where they are not masked. -/
theorem soft_eq {n : ℕ} (ok' ok : Fin n → Prop) [DecidablePred ok'] [DecidablePred ok] (hok : ∀ j, ok' j ↔ ok j) (s s' v v' : Fin n → EReal)
    (hs : ∀ j, ok j → s j = s' j)
    (hv : ∀ j, ok j → v j = v' j) (hf : ∀ j, ok j → s' j ≠ ⊥ ∧ s' j ≠ ⊤) (j₀ : Fin n) (h0 : ok j₀) :
    soft (fun j => if ok' j then s j else Ideal.ofBits .f32 0xFF800000#32) v
      = soft (fun j => if ok j then s' j else Ideal.ofBits .f32 0xFF800000#32) v' := by
  have e : (fun j => if ok' j then s j else Ideal.ofBits .f32 0xFF800000#32) = fun j => if ok j then s' j else Ideal.ofBits .f32 0xFF800000#32 := by
    funext j
    by_cases h : ok j
    · rw [if_pos ((hok j).mpr h), if_pos h, hs j h]
    · rw [if_neg fun h' => h ((hok j).mp h'), if_neg h]
  rw [e]
  unfold soft
  refine Finset.sum_congr rfl fun j _ => ?_
  by_cases h : ok j
  · rw [hv j h]
  · have ht : ∀ k, (fun j => if ok j then s' j else Ideal.ofBits .f32 0xFF800000#32) k ≠ ⊤ := fun k => by
      by_cases hk : ok k
      · exact (if_pos hk).trans_ne (hf k hk).2
      · exact (if_neg hk).trans_ne (masked.trans_ne bot_ne_top)
    rw [weight_zero _ ht j₀ ?_ j (by rw [if_neg h, masked]), zero_mul, zero_mul]
    · show (if ok j₀ then s' j₀ else _) ≠ ⊥
      rw [if_pos h0]; exact (hf j₀ h0).1

/-- A sum of products of numbers, scaled and shifted by numbers, is a number. -/
theorem score_finite (f g : Fin 64 → EReal) (c b : EReal) (hf : ∀ d, f d ≠ ⊥ ∧ f d ≠ ⊤) (hg : ∀ d, g d ≠ ⊥ ∧ g d ≠ ⊤)
    (hc : c ≠ ⊥ ∧ c ≠ ⊤) (hb : b ≠ ⊥ ∧ b ≠ ⊤) : (∑ d, f d * g d) * c + b ≠ ⊥ ∧ (∑ d, f d * g d) * c + b ≠ ⊤ := by
  have lift (x : EReal) (h : x ≠ ⊥ ∧ x ≠ ⊤) : ((x.toReal : ℝ) : EReal) = x := EReal.coe_toReal h.2 h.1
  have e : (∑ d, f d * g d) * c + b = (((∑ d, (f d).toReal * (g d).toReal) * c.toReal + b.toReal : ℝ) : EReal) := by
    rw [EReal.coe_add, EReal.coe_mul, lift c hc, lift b hb]
    congr 2
    have h2 : ∀ d, f d * g d = (((f d).toReal * (g d).toReal : ℝ) : EReal) := fun d => by
      rw [EReal.coe_mul, lift _ (hf d), lift _ (hg d)]
    rw [Finset.sum_congr rfl fun d _ => h2 d]
    exact (map_sum (⟨⟨Real.toEReal, EReal.coe_zero⟩, EReal.coe_add⟩ : ℝ →+ EReal) (fun d => (f d).toReal * (g d).toReal) Finset.univ).symm
  rw [e]
  exact ⟨EReal.coe_ne_bot _, EReal.coe_ne_top _⟩

end Cert.Masked

end
-- ==== Proof.CachedBlock.lean ====
/- The block a grid point of the cached attention computes, entry by entry: two heads side by side, each the softmax of its
   scores against the cached and the new keys together. -/
module

public import proofs.«01_k».proof.Defs
public import proofs.«01_k».proof.Proof.Soft
public import proofs.«01_k».proof.Proof.Gen.KernelCachedIdeal.Value

@[expose] public section

set_option maxRecDepth 16384

noncomputable section

namespace Cert.CachedBlock

open Cert.KernelCachedIdeal Cert.KernelCachedIdeal.Gen Idealize.ShloMosaic Idealize.ShloMosaic.ValueIdx
open scoped BigOperators

/-- The lanes of the first head. -/
theorem mask_apply (r : Fin 16) (d : Fin 128) : k0_pay2 (ix2 r d) = if d.val < 64 then 1#1 else 0#1 := by
  refine Eq.trans ?_ (Soft.lane_lt d)
  show IntOp.cmpi .slt (BitVec.ofNat 32 (0 * 128 + d.val)) 64#32 = _
  rw [Nat.zero_mul, Nat.zero_add]

/-- The lanes of the second head. -/
theorem nmask_apply (r : Fin 16) (d : Fin 128) : k0_pay5 (ix2 r d) = if d.val < 64 then 0#1 else 1#1 := by
  show IntOp.xori (k0_pay2 (ix2 r d)) 1#1 = _
  rw [mask_apply]
  by_cases h : d.val < 64
  · rw [if_pos h, if_pos h]; rfl
  · rw [if_neg h, if_neg h]; rfl

/-- The queries with the second head's lanes zero. -/
theorem qlo (q : Vec Ideal S16x128 .f32) (r : Fin 16) (d : Fin 128) :
    k0_pay6 (F := Ideal) q (ix2 r d) = if d.val < 64 then q (ix2 r d) else 0 := by
  show Scalar.select (k0_pay2 (ix2 r d)) (q (ix2 r d)) (Ideal.ofBits .f32 0x00000000#32) = _
  rw [mask_apply, Ideal.ofBits_zero_f32]
  by_cases h : d.val < 64
  · rw [if_pos h, if_pos h]; rfl
  · rw [if_neg h, if_neg h]; rfl

/-- The queries with the first head's lanes zero. -/
theorem qhi (q : Vec Ideal S16x128 .f32) (r : Fin 16) (d : Fin 128) :
    k0_pay11 (F := Ideal) q k0_pay5 (ix2 r d) = if d.val < 64 then 0 else q (ix2 r d) := by
  show Scalar.select (k0_pay5 (ix2 r d)) (q (ix2 r d)) (Ideal.ofBits .f32 0x00000000#32) = _
  rw [nmask_apply, Ideal.ofBits_zero_f32]
  by_cases h : d.val < 64
  · rw [if_pos h, if_pos h]; rfl
  · rw [if_neg h, if_neg h]; rfl

/-- A head's product of a query row with a key row, scaled, with its bias added. -/
def score (o : ℕ) (ho : o ≤ 64) (q k : Fin 128 → EReal) (b : EReal) : EReal :=
  (∑ d : Fin 64, q ⟨o + d.val, by omega⟩ * k ⟨o + d.val, by omega⟩) * Ideal.ofBits .f32 0x3E000000#32 + b

/-- The first head's masked product. -/
theorem lo_dot (q : Vec Ideal S16x128 .f32) (g : Fin 128 → EReal) (r : Fin 16) :
    ∑ d, k0_pay6 (F := Ideal) q (ix2 r d) * g d = ∑ d : Fin 64, q (ix2 r ⟨0 + d.val, by omega⟩) * g ⟨0 + d.val, by omega⟩ := by
  refine (Soft.dot_lo (fun d => k0_pay6 (F := Ideal) q (ix2 r d)) g (fun d => ?_)).trans (Finset.sum_congr rfl fun d _ => ?_)
  · refine (qlo q r _).trans (if_neg ?_); show ¬(64 + d.val < 64); omega
  · have e : (⟨0 + d.val, by omega⟩ : Fin 128) = ⟨d.val, by omega⟩ := Fin.ext (Nat.zero_add _)
    rw [e]
    exact congrArg (· * g _ : EReal → EReal) ((qlo q r _).trans (if_pos d.isLt))

/-- The second head's masked product. -/
theorem hi_dot (q : Vec Ideal S16x128 .f32) (g : Fin 128 → EReal) (r : Fin 16) :
    ∑ d, k0_pay11 (F := Ideal) q k0_pay5 (ix2 r d) * g d
      = ∑ d : Fin 64, q (ix2 r ⟨64 + d.val, by omega⟩) * g ⟨64 + d.val, by omega⟩ := by
  refine (Soft.dot_hi (fun d => k0_pay11 (F := Ideal) q k0_pay5 (ix2 r d)) g (fun d => ?_)).trans (Finset.sum_congr rfl fun d _ => ?_)
  · exact (qhi q r _).trans (if_pos d.isLt)
  · refine congrArg (· * g _ : EReal → EReal) ((qhi q r _).trans (if_neg ?_)); show ¬(64 + d.val < 64); omega

/-- The first head's scores against the cached keys. -/
theorem pay7_apply (q : Vec Ideal S16x128 .f32) (k : Vec Ideal S1x512x128 .f32) (b : Vec Ideal S1x16x512 .f32) (r : Fin 16) (j : Fin 512) :
    k0_pay7 (F := Ideal) q k b (ix2 r j)
      = score 0 (by omega) (fun d => q (ix2 r d)) (fun d => k (ix3 0 j d)) (b (ix3 0 r j)) := by
  unfold k0_pay7 score
  refine congrArg₂ (· + · : EReal → EReal → EReal) (congrArg (· * _ : EReal → EReal) ?_) (Soft.flat b _ r j)
  refine (Soft.mt_zero (φ₁ := .bf16) (φ₂ := .bf16) none _ _ r j).trans ?_
  refine Eq.trans (Finset.sum_congr rfl fun d _ => congrArg₂ (· * · : EReal → EReal → EReal) rfl (Soft.flat k _ j d)) ?_
  exact lo_dot q (fun d => k (ix3 0 j d)) r

/-- The first head's scores against the new keys. -/
theorem pay8_apply (q k : Vec Ideal S16x128 .f32) (b : Vec Ideal S1x16x16 .f32) (r : Fin 16) (j : Fin 16) :
    k0_pay8 (F := Ideal) q k b (ix2 r j)
      = score 0 (by omega) (fun d => q (ix2 r d)) (fun d => k (ix2 j d)) (b (ix3 0 r j)) := by
  unfold k0_pay8 score
  refine congrArg₂ (· + · : EReal → EReal → EReal) (congrArg (· * _ : EReal → EReal) ?_) (Soft.flat b _ r j)
  refine (Soft.mt_zero (φ₁ := .bf16) (φ₂ := .bf16) none _ _ r j).trans ?_
  exact lo_dot q (fun d => k (ix2 j d)) r

/-- The second head's scores against the cached keys. -/
theorem pay12_apply (q : Vec Ideal S16x128 .f32) (k : Vec Ideal S1x512x128 .f32) (b : Vec Ideal S1x16x512 .f32) (r : Fin 16) (j : Fin 512) :
    k0_pay12 (F := Ideal) q (k0_pay3 k) k0_pay5 b (ix2 r j)
      = score 64 (by omega) (fun d => q (ix2 r d)) (fun d => k (ix3 0 j d)) (b (ix3 0 r j)) := by
  unfold k0_pay12 score
  refine congrArg₂ (· + · : EReal → EReal → EReal) (congrArg (· * _ : EReal → EReal) ?_) (Soft.flat b _ r j)
  refine (Soft.mt_zero (φ₁ := .bf16) (φ₂ := .bf16) none _ _ r j).trans ?_
  refine Eq.trans (Finset.sum_congr rfl fun d _ => congrArg₂ (· * · : EReal → EReal → EReal) rfl (Soft.flat k _ j d)) ?_
  exact hi_dot q (fun d => k (ix3 0 j d)) r

/-- The second head's scores against the new keys. -/
theorem pay13_apply (q k : Vec Ideal S16x128 .f32) (b : Vec Ideal S1x16x16 .f32) (r : Fin 16) (j : Fin 16) :
    k0_pay13 (F := Ideal) q k k0_pay5 b (ix2 r j)
      = score 64 (by omega) (fun d => q (ix2 r d)) (fun d => k (ix2 j d)) (b (ix3 0 r j)) := by
  unfold k0_pay13 score
  refine congrArg₂ (· + · : EReal → EReal → EReal) (congrArg (· * _ : EReal → EReal) ?_) (Soft.flat b _ r j)
  refine (Soft.mt_zero (φ₁ := .bf16) (φ₂ := .bf16) none _ _ r j).trans ?_
  exact hi_dot q (fun d => k (ix2 j d)) r

/-- The vector operations of the two-part softmax give the softmax of the two rows of scores taken together. -/
theorem pay10_apply (v : FVec Ideal S512x128 .f32) (v' : Vec Ideal S16x128 .f32) (s : FVec Ideal S16x512 .f32)
    (s' : FVec Ideal S16x16 .f32) (mx : FVec Ideal S16x1 .f32) (r : Fin 16) (l : Fin 128)
    (hm : mx (ix2 r 0) = Soft.top fun k => s (ix2 r k)) :
    k0_pay10 (F := Ideal) v v' s s' mx (ix2 r l)
      = Soft.soft2 (fun k => s (ix2 r k)) (fun k => v (ix2 k l)) (fun k => s' (ix2 r k)) (fun k => v' (ix2 k l)) := by
  have h33 : maximumf (F := Ideal) (φ := .f32) mx (shapeCast S16x1 (multiReduction .maximumf [1] S16 s' 0xFF800000#32 reduces_S16x16_S16 (.inl rfl) rfl)
      shapeCasts_S16_S16x1) (ix2 r 0) = max (Soft.top fun k => s (ix2 r k)) (Soft.top fun k => s' (ix2 r k)) :=
    congrArg₂ (max : EReal → EReal → EReal) hm ((Soft.stand _ _ r).trans (Soft.rowmax s' _ _ _ r))
  unfold k0_pay10 Soft.soft2
  have e36 : ∀ k : Fin 512, exp (F := Ideal) (φ := .f32) (subf s (broadcastTo S16x512 (maximumf mx (shapeCast S16x1 (multiReduction .maximumf [1] S16 s' 0xFF800000#32 reduces_S16x16_S16 (.inl rfl) rfl)
      shapeCasts_S16_S16x1)) broadcasts_S16x1_S16x512)) (ix2 r k)
      = Ideal.exp (s (ix2 r k) - max (Soft.top fun k => s (ix2 r k)) (Soft.top fun k => s' (ix2 r k))) := fun k =>
    congrArg (fun z : EReal => Ideal.exp (s (ix2 r k) - z)) ((Soft.spread (by decide) _ _ r k).trans h33)
  have e39 : ∀ k : Fin 16, exp (F := Ideal) (φ := .f32) (subf s' (broadcastTo S16x16 (maximumf mx (shapeCast S16x1 (multiReduction .maximumf [1] S16 s' 0xFF800000#32 reduces_S16x16_S16 (.inl rfl) rfl)
      shapeCasts_S16_S16x1)) broadcasts_S16x1_S16x16)) (ix2 r k)
      = Ideal.exp (s' (ix2 r k) - max (Soft.top fun k => s (ix2 r k)) (Soft.top fun k => s' (ix2 r k))) := fun k =>
    congrArg (fun z : EReal => Ideal.exp (s' (ix2 r k) - z)) ((Soft.spread (by decide) _ _ r k).trans h33)
  have e44 := congrArg₂ (· + · : EReal → EReal → EReal)
    ((Soft.stand _ shapeCasts_S16_S16x1 r).trans ((Soft.rowsum _ reduces_S16x512_S16 (.inl rfl) rfl r).trans (Finset.sum_congr rfl fun k _ => e36 k)))
    ((Soft.stand _ shapeCasts_S16_S16x1 r).trans ((Soft.rowsum _ reduces_S16x16_S16 (.inl rfl) rfl r).trans (Finset.sum_congr rfl fun k _ => e39 k)))
  refine congrArg₂ (· + · : EReal → EReal → EReal) ?_ ?_
  · refine (Common.mm_zero (φ₁ := .bf16) (φ₂ := .bf16) none _ _ r l).trans (Finset.sum_congr rfl fun k _ => ?_)
    refine congrArg (· * _ : EReal → EReal) (congrArg₂ Ideal.div (e36 k) ?_)
    exact (Soft.spread (by decide) _ _ r k).trans e44
  · refine (Common.mm_zero (φ₁ := .bf16) (φ₂ := .bf16) none _ _ r l).trans (Finset.sum_congr rfl fun k _ => ?_)
    refine congrArg (· * _ : EReal → EReal) (congrArg₂ Ideal.div (e39 k) ?_)
    exact (Soft.spread (by decide) _ _ r k).trans e44

/-- The whole block: the first head's lanes from the first head, the others from the second. -/
theorem pay1_eq (mk : IVec S16x128 1) (v : FVec Ideal S512x128 .f32) (v' o : Vec Ideal S16x128 .f32) (s : FVec Ideal S16x512 .f32)
    (s' : FVec Ideal S16x16 .f32) (mx : FVec Ideal S16 .f32) :
    k0_pay1 (F := Ideal) mk v v' o s s' mx = select mk o (k0_pay10 (F := Ideal) v v' s s' (shapeCast S16x1 mx shapeCasts_S16_S16x1)) := rfl

end Cert.CachedBlock

end
-- ==== Proof.AttnBlock.lean ====
/- The block a grid point of the prompt's attention computes: eight chunks of queries, each the softmax of its scores against
   the 576 keys that end with the chunk's own, two heads side by side. -/
module

public import Idealize.ShloMosaic.Lib.Pipeline.ValueKit.Tiles
public import proofs.«01_k».proof.Defs
public import proofs.«01_k».proof.Proof.Soft
public import proofs.«01_k».proof.Proof.CachedBlock
public import proofs.«01_k».proof.Proof.Gen.KernelIdeal.Value

@[expose] public section

set_option maxRecDepth 16384

noncomputable section

namespace Cert.AttnBlock

open Cert.KernelIdeal Cert.KernelIdeal.Gen Idealize.ShloMosaic Idealize.ShloMosaic.ValueIdx
open scoped BigOperators

/-- Two blocks of rows, one below the other. -/
def two (a b : S512x128.Idx → EReal) (y : S1024x128.Idx) : EReal :=
  if h : (y 0).val < 512 then a (ix2 ⟨(y 0).val, h⟩ (y 1)) else b (ix2 ⟨(y 0).val - 512, by have : (y 0).val < 1024 := (y 0).isLt; omega⟩ (y 1))

/-- A row of the first block. -/
theorem two_lo (a b : S512x128.Idx → EReal) (k : Fin 1024) (l : Fin 128) (h : k.val < 512) :
    two a b (ix2 k l) = a (ix2 ⟨k.val, h⟩ l) := dif_pos h

/-- A row of the second block. -/
theorem two_hi (a b : S512x128.Idx → EReal) (k : Fin 1024) (l : Fin 128) (h : ¬k.val < 512) :
    two a b (ix2 k l) = b (ix2 ⟨k.val - 512, by omega⟩ l) := dif_neg h

/-- What two stores, one below the other, leave. -/
theorem stored (a b : S512x128.Idx → EReal) (h1 : ∀ x, (![512, 0] : Fin 2 → ℕ) x + S512x128.size x ≤ S1024x128.size x)
    (h0 : ∀ x, (![0, 0] : Fin 2 → ℕ) x + S512x128.size x ≤ S1024x128.size x) :
    View.canon (Val := Elt Ideal) (s := S1024x128) (e := .bf16) [⟨Rect.unit (s := S1024x128) ![512, 0] ![512, 128] h1, b⟩, ⟨Rect.unit (s := S1024x128) ![0, 0] ![512, 128] h0, a⟩]
      = two a b := by
  funext y
  obtain ⟨k, l, rfl⟩ := Common.exists_ix2 (M := 1024) (N := 128) y
  refine View.canon_eq_of_allAt _ _ _ ?_ ?_
  · by_cases h : k.val < 512
    · refine ⟨⟨Rect.unit (s := S1024x128) ![0, 0] S512x128.size h0, a⟩, List.mem_cons_of_mem _ List.mem_cons_self, (Rect.mem_set_unit (inb := h0)).mpr fun x => ?_⟩
      match x with
      | ⟨0, _⟩ => show 0 ≤ k.val ∧ k.val < 0 + 512; omega
      | ⟨1, _⟩ => show 0 ≤ l.val ∧ l.val < 0 + 128; omega
    · refine ⟨⟨Rect.unit (s := S1024x128) ![512, 0] S512x128.size h1, b⟩, List.mem_cons_self, (Rect.mem_set_unit (inb := h1)).mpr fun x => ?_⟩
      match x with
      | ⟨0, _⟩ => show 512 ≤ k.val ∧ k.val < 512 + 512; omega
      | ⟨1, _⟩ => show 0 ≤ l.val ∧ l.val < 0 + 128; omega
  · refine List.forall_mem_cons.mpr ⟨fun x hx => ?_, List.forall_mem_cons.mpr ⟨fun x hx => ?_, fun _ h => absurd h List.not_mem_nil⟩⟩
    · obtain ⟨k', l', rfl⟩ := Common.exists_ix2 (M := 512) (N := 128) x
      have e0 : 512 + 1 * k'.val = k.val := congrArg (fun y : S1024x128.Idx => (y 0).val) hx
      have e1 : 0 + 1 * l'.val = l.val := congrArg (fun y : S1024x128.Idx => (y 1).val) hx
      rw [two_hi a b k l (by omega)]
      show b _ = _
      refine congrArg b (funext fun a => Fin.ext ?_)
      match a with
      | ⟨0, _⟩ => show k'.val = k.val - 512; omega
      | ⟨1, _⟩ => show l'.val = l.val; omega
    · obtain ⟨k', l', rfl⟩ := Common.exists_ix2 (M := 512) (N := 128) x
      have e0 : 0 + 1 * k'.val = k.val := congrArg (fun y : S1024x128.Idx => (y 0).val) hx
      have e1 : 0 + 1 * l'.val = l.val := congrArg (fun y : S1024x128.Idx => (y 1).val) hx
      rw [two_lo a b k l (by omega)]
      show a _ = _
      refine congrArg a (funext fun a => Fin.ext ?_)
      match a with
      | ⟨0, _⟩ => show k'.val = k.val; omega
      | ⟨1, _⟩ => show l'.val = l.val; omega

/-- A block of keys or values rounded for the matrix unit: itself. -/
theorem kept2 (x : S512x128.Idx → EReal) : k0_pay2 (F := Ideal) x = x := shapeCast_self _ _
theorem kept3 (x : S512x128.Idx → EReal) : k0_pay3 (F := Ideal) x = x := shapeCast_self _ _
theorem kept4 (x : S512x128.Idx → EReal) : k0_pay4 (F := Ideal) x = x := shapeCast_self _ _
theorem kept5 (x : S512x128.Idx → EReal) : k0_pay5 (F := Ideal) x = x := shapeCast_self _ _

/-- Which keys a chunk sees, `w` the place of its first key: those not before the start of the sequence. -/
def seen (w : BitVec 32) : IVec S64x576 1 :=
  cmpi .sge (addi (iota .tc S64x576 32 [1] iota_S64x576_d1_w32) (broadcast S64x576 w)) (broadcast S64x576 0#32)

/-- The masked scores of one head: `mk` the head's lanes. -/
def scores (mk : IVec S64x128 1) (vd : IVec S64x576 1) (q : FVec Ideal S64x128 .f32) (k : FVec Ideal S576x128 .bf16)
    (b : FVec Ideal S1x64x576 .f32) : FVec Ideal S64x576 .f32 :=
  select vd
    (addf (mulf (matmul dot_S64x128_S576x128_S64x576_1_1_0_0_n_n none
        (truncf .bf16 (select mk q (broadcast S64x128 (Scalar.ofBits (F := Ideal) .f32 0x00000000#32))) bitsLt_bf16_f32 : FVec Ideal S64x128 .bf16) k
        (constant S64x576 .f32 0x00000000#32))
        (broadcast S64x576 (Scalar.ofBits (F := Ideal) .f32 0x3E000000#32)))
      (shapeCast S64x576 b shapeCasts_S1x64x576_S64x576))
    (broadcast S64x576 (Scalar.ofBits (F := Ideal) .f32 0xFF800000#32))

/-- The values weighted by the softmax of scores. -/
def mix (s : FVec Ideal S64x576 .f32) (v : FVec Ideal S576x128 .bf16) : FVec Ideal S64x128 .f32 :=
  matmul dot_S64x576_S576x128_S64x128_1_0_0_1_n_n none
    (truncf .bf16 (divf (exp (subf s (broadcastTo S64x576 (shapeCast S64x1
        (multiReduction .maximumf [1] S64 s 0xFF800000#32 reduces_S64x576_S64 (.inl rfl) rfl) shapeCasts_S64_S64x1) broadcasts_S64x1_S64x576)))
      (broadcastTo S64x576 (shapeCast S64x1 (multiReduction .add [1] S64
        (exp (subf s (broadcastTo S64x576 (shapeCast S64x1
          (multiReduction .maximumf [1] S64 s 0xFF800000#32 reduces_S64x576_S64 (.inl rfl) rfl) shapeCasts_S64_S64x1) broadcasts_S64x1_S64x576)))
        0x00000000#32 reduces_S64x576_S64 (.inl rfl) rfl) shapeCasts_S64_S64x1) broadcasts_S64x1_S64x576)) bitsLt_bf16_f32 : FVec Ideal S64x576 .bf16)
    v (constant S64x128 .f32 0x00000000#32)

/-- A chunk of queries: the two heads side by side. -/
def chunk (vd : IVec S64x576 1) (q : FVec Ideal S64x128 .f32) (k v : FVec Ideal S576x128 .bf16) (b0 b1 : FVec Ideal S1x64x576 .f32) :
    FVec Ideal S64x128 .f32 :=
  select k0_pay6 (mix (scores k0_pay6 vd q k b0) v) (mix (scores (xori k0_pay6 (constantI S64x128 1 1#1)) vd q k b1) v)

/-- The lanes of the first head. -/
theorem mask_apply (r : Fin 64) (d : Fin 128) : k0_pay6 (ix2 r d) = if d.val < 64 then 1#1 else 0#1 := by
  refine Eq.trans ?_ (Soft.lane_lt d)
  show IntOp.cmpi .slt (BitVec.ofNat 32 (0 * 128 + d.val)) 64#32 = _
  rw [Nat.zero_mul, Nat.zero_add]

/-- The lanes of the second head. -/
theorem nmask_apply (r : Fin 64) (d : Fin 128) :
    xori k0_pay6 (constantI S64x128 1 1#1) (ix2 r d) = if d.val < 64 then 0#1 else 1#1 := by
  show IntOp.xori (k0_pay6 (ix2 r d)) 1#1 = _
  rw [mask_apply]
  by_cases h : d.val < 64
  · rw [if_pos h, if_pos h]; rfl
  · rw [if_neg h, if_neg h]; rfl

/-- Scores of a head, entry by entry, given its product over the lanes. -/
theorem scores_of (mk : IVec S64x128 1) (vd : IVec S64x576 1) (q : FVec Ideal S64x128 .f32) (k : FVec Ideal S576x128 .bf16)
    (b : FVec Ideal S1x64x576 .f32) (r : Fin 64) (j : Fin 576) (x : EReal)
    (h : ∑ d, Scalar.select (mk (ix2 r d)) (q (ix2 r d)) (Ideal.ofBits .f32 0x00000000#32) * k (ix2 j d) = x) :
    scores mk vd q k b (ix2 r j)
      = Scalar.select (vd (ix2 r j)) (x * Ideal.ofBits .f32 0x3E000000#32 + b (ix3 0 r j)) (Ideal.ofBits .f32 0xFF800000#32) := by
  unfold scores
  refine congrArg (Scalar.select (vd (ix2 r j)) · (Ideal.ofBits .f32 0xFF800000#32)) ?_
  refine congrArg₂ (· + · : EReal → EReal → EReal) (congrArg (· * _ : EReal → EReal) ?_) (Soft.flat b _ r j)
  exact (Soft.mt_zero (φ₁ := .bf16) (φ₂ := .bf16) none _ _ r j).trans h

/-- The first head's scores. -/
theorem scores_lo (vd : IVec S64x576 1) (q : FVec Ideal S64x128 .f32) (k : FVec Ideal S576x128 .bf16)
    (b : FVec Ideal S1x64x576 .f32) (r : Fin 64) (j : Fin 576) :
    scores k0_pay6 vd q k b (ix2 r j) = Scalar.select (vd (ix2 r j))
      (CachedBlock.score 0 (by omega) (fun d => q (ix2 r d)) (fun d => k (ix2 j d)) (b (ix3 0 r j))) (Ideal.ofBits .f32 0xFF800000#32) := by
  refine scores_of _ _ _ _ _ r j _ ?_
  refine (Soft.dot_lo (fun d => Scalar.select (k0_pay6 (ix2 r d)) (q (ix2 r d)) (Ideal.ofBits .f32 0x00000000#32)) (fun d => k (ix2 j d))
    (fun d => ?_)).trans (Finset.sum_congr rfl fun d _ => ?_)
  · show Scalar.select (k0_pay6 (ix2 r ⟨64 + d.val, by omega⟩)) _ _ = _
    rw [mask_apply, if_neg (by show ¬(64 + d.val < 64); omega), ← Ideal.ofBits_zero_f32]; rfl
  · have e : (⟨0 + d.val, by omega⟩ : Fin 128) = ⟨d.val, by omega⟩ := Fin.ext (Nat.zero_add _)
    rw [e]
    refine congrArg (· * _ : EReal → EReal) ?_
    show Scalar.select (k0_pay6 (ix2 r ⟨d.val, by omega⟩)) _ _ = _
    rw [mask_apply, if_pos d.isLt]; rfl

/-- The second head's scores. -/
theorem scores_hi (vd : IVec S64x576 1) (q : FVec Ideal S64x128 .f32) (k : FVec Ideal S576x128 .bf16)
    (b : FVec Ideal S1x64x576 .f32) (r : Fin 64) (j : Fin 576) :
    scores (xori k0_pay6 (constantI S64x128 1 1#1)) vd q k b (ix2 r j) = Scalar.select (vd (ix2 r j))
      (CachedBlock.score 64 (by omega) (fun d => q (ix2 r d)) (fun d => k (ix2 j d)) (b (ix3 0 r j))) (Ideal.ofBits .f32 0xFF800000#32) := by
  refine scores_of _ _ _ _ _ r j _ ?_
  refine (Soft.dot_hi (fun d => Scalar.select (xori k0_pay6 (constantI S64x128 1 1#1) (ix2 r d)) (q (ix2 r d)) (Ideal.ofBits .f32 0x00000000#32))
    (fun d => k (ix2 j d)) (fun d => ?_)).trans (Finset.sum_congr rfl fun d _ => ?_)
  · show Scalar.select (xori k0_pay6 (constantI S64x128 1 1#1) (ix2 r ⟨d.val, by omega⟩)) _ _ = _
    rw [nmask_apply, if_pos d.isLt, ← Ideal.ofBits_zero_f32]; rfl
  · refine congrArg (· * _ : EReal → EReal) ?_
    show Scalar.select (xori k0_pay6 (constantI S64x128 1 1#1) (ix2 r ⟨64 + d.val, by omega⟩)) _ _ = _
    rw [nmask_apply, if_neg (by show ¬(64 + d.val < 64); omega)]; rfl

/-- The vector operations of the softmax give it. -/
theorem mix_apply (s : FVec Ideal S64x576 .f32) (v : FVec Ideal S576x128 .bf16) (r : Fin 64) (l : Fin 128) :
    mix s v (ix2 r l) = Soft.soft (fun j => s (ix2 r j)) (fun j => v (ix2 j l)) := by
  have hm := (Soft.stand _ shapeCasts_S64_S64x1 r).trans (Soft.rowmax s reduces_S64x576_S64 (.inl rfl) rfl r)
  have he : ∀ j : Fin 576, exp (F := Ideal) (φ := .f32) (subf s (broadcastTo S64x576 (shapeCast S64x1
      (multiReduction .maximumf [1] S64 s 0xFF800000#32 reduces_S64x576_S64 (.inl rfl) rfl) shapeCasts_S64_S64x1) broadcasts_S64x1_S64x576)) (ix2 r j)
      = Ideal.exp (s (ix2 r j) - Soft.top fun k => s (ix2 r k)) := fun j =>
    congrArg (fun z : EReal => Ideal.exp (s (ix2 r j) - z)) ((Soft.spread (by decide) _ _ r j).trans hm)
  unfold mix Soft.soft Soft.weight
  refine (Common.mm_zero (φ₁ := .bf16) (φ₂ := .bf16) none _ _ r l).trans (Finset.sum_congr rfl fun k _ => ?_)
  refine congrArg (· * _ : EReal → EReal) (congrArg₂ Ideal.div (he k) ?_)
  refine (Soft.spread (by decide) _ _ r k).trans ((Soft.stand _ shapeCasts_S64_S64x1 r).trans ?_)
  exact (Soft.rowsum _ reduces_S64x576_S64 (.inl rfl) rfl r).trans (Finset.sum_congr rfl fun j _ => he j)

/-- A first-head lane of a chunk. -/
theorem chunk_lo (vd : IVec S64x576 1) (q : FVec Ideal S64x128 .f32) (k v : FVec Ideal S576x128 .bf16) (b0 b1 : FVec Ideal S1x64x576 .f32)
    (r : Fin 64) (l : Fin 128) (hl : l.val < 64) :
    chunk vd q k v b0 b1 (ix2 r l) = Soft.soft (fun j => Scalar.select (vd (ix2 r j))
      (CachedBlock.score 0 (by omega) (fun d => q (ix2 r d)) (fun d => k (ix2 j d)) (b0 (ix3 0 r j))) (Ideal.ofBits .f32 0xFF800000#32))
      (fun j => v (ix2 j l)) := by
  show Scalar.select (k0_pay6 (ix2 r l)) _ _ = _
  rw [mask_apply, if_pos hl]
  refine (mix_apply _ _ r l).trans (congrArg (Soft.soft · _) (funext fun j => scores_lo _ _ _ _ r j))

/-- A second-head lane of a chunk. -/
theorem chunk_hi (vd : IVec S64x576 1) (q : FVec Ideal S64x128 .f32) (k v : FVec Ideal S576x128 .bf16) (b0 b1 : FVec Ideal S1x64x576 .f32)
    (r : Fin 64) (l : Fin 128) (hl : ¬l.val < 64) :
    chunk vd q k v b0 b1 (ix2 r l) = Soft.soft (fun j => Scalar.select (vd (ix2 r j))
      (CachedBlock.score 64 (by omega) (fun d => q (ix2 r d)) (fun d => k (ix2 j d)) (b1 (ix3 0 r j))) (Ideal.ofBits .f32 0xFF800000#32))
      (fun j => v (ix2 j l)) := by
  show Scalar.select (k0_pay6 (ix2 r l)) _ _ = _
  rw [mask_apply, if_neg hl]
  refine (mix_apply _ _ r l).trans (congrArg (Soft.soft · _) (funext fun j => scores_hi _ _ _ _ r j))

/-- A key's place compared with the start of the sequence. -/
theorem ge_zero (a : ℕ) (ha : a < 2 ^ 20) :
    IntOp.cmpi .sge (BitVec.ofNat 32 a - 512#32) 0#32 = if 512 ≤ a then 1#1 else 0#1 := by
  show BitVec.ofBool (BitVec.sle 0#32 (BitVec.ofNat 32 a - 512#32)) = _
  have h : BitVec.sle 0#32 (BitVec.ofNat 32 a - 512#32) = decide (512 ≤ a) := by
    rw [BitVec.sle_eq_decide, decide_eq_decide]
    simp only [BitVec.toInt_eq_toNat_bmod, BitVec.toNat_sub, BitVec.toNat_ofNat, Int.bmod_def]
    omega
  rw [h]
  by_cases h5 : 512 ≤ a
  · rw [if_pos h5, decide_eq_true h5]; rfl
  · rw [if_neg h5, decide_eq_false h5]; rfl

/-- The keys chunk `n` of row block `i` sees. -/
theorem seen_apply (i : ℕ) (hi : i < 32) (n : ℕ) (hn : n < 8) (w : BitVec 32)
    (hw : w = Scalar.addi (Scalar.muli (Scalar.subi (BitVec.ofNat 32 i) 1#32) 512#32) (BitVec.ofNat 32 (64 * n))) (r : Fin 64) (j : Fin 576) :
    seen w (ix2 r j) = if 512 ≤ 512 * i + 64 * n + j.val then 1#1 else 0#1 := by
  refine Eq.trans ?_ (ge_zero (512 * i + 64 * n + j.val) (by omega))
  show IntOp.cmpi .sge (BitVec.ofNat 32 (0 * 576 + j.val) + w) 0#32 = _
  congr 1
  subst hw
  show BitVec.ofNat 32 (0 * 576 + j.val) + ((BitVec.ofNat 32 i - 1#32) * 512#32 + BitVec.ofNat 32 (64 * n)) = _
  rw [Nat.zero_mul, Nat.zero_add]
  apply BitVec.eq_of_toNat_eq
  simp only [BitVec.toNat_add, BitVec.toNat_sub, BitVec.toNat_mul, BitVec.toNat_ofNat]
  omega

/-- Query `r` of chunk `n` of row block `i`, lane `l`: the softmax of its head's scores against the keys it sees, mixed with the
    values at that lane. -/
def row (i : ℕ) (x0 x1 x2 x3 x4 : S512x128.Idx → EReal) (x5 : S2x64x576.Idx → EReal) (n : Fin 8) (r : Fin 64) (l : Fin 128) : EReal :=
  Soft.soft (fun j : Fin 576 => if 512 ≤ 512 * i + 64 * n.val + j.val then
      CachedBlock.score (64 * (l.val / 64)) (by omega) (fun d => x0 (ix2 ⟨64 * n.val + r.val, by omega⟩ d))
        (fun d => two x1 x2 (ix2 ⟨64 * n.val + j.val, by omega⟩ d)) (x5 (ix3 ⟨l.val / 64, by omega⟩ r j))
      else Ideal.ofBits .f32 0xFF800000#32)
    (fun j => two x3 x4 (ix2 ⟨64 * n.val + j.val, by omega⟩ l))

/-- The whole block. -/
def whole (i : ℕ) (x0 x1 x2 x3 x4 : S512x128.Idx → EReal) (x5 : S2x64x576.Idx → EReal) (y : S512x128.Idx) : EReal :=
  row i x0 x1 x2 x3 x4 x5 ⟨(y 0).val / 64, by have : (y 0).val < 512 := (y 0).isLt; omega⟩ ⟨(y 0).val % 64, by omega⟩ (y 1)

/-- The block at a query of a chunk. -/
theorem whole_apply (i : ℕ) (x0 x1 x2 x3 x4 : S512x128.Idx → EReal) (x5 : S2x64x576.Idx → EReal) (n : Fin 8) (r : Fin 64) (l : Fin 128)
    (h : 64 * n.val + r.val < 512) : whole i x0 x1 x2 x3 x4 x5 (ix2 ⟨64 * n.val + r.val, h⟩ l) = row i x0 x1 x2 x3 x4 x5 n r l := by
  show row i x0 x1 x2 x3 x4 x5 ⟨(64 * n.val + r.val) / 64, _⟩ ⟨(64 * n.val + r.val) % 64, _⟩ l = _
  congr 1
  · exact Fin.ext (show (64 * n.val + r.val) / 64 = n.val by omega)
  · exact Fin.ext (show (64 * n.val + r.val) % 64 = r.val by omega)

/-- A chunk on its windows is its part of the block. -/
theorem chunk_eq (i : ℕ) (hi : i < 32) (n : ℕ) (hn : n < 8) (w : BitVec 32)
    (hw : w = Scalar.addi (Scalar.muli (Scalar.subi (BitVec.ofNat 32 i) 1#32) 512#32) (BitVec.ofNat 32 (64 * n)))
    (x0 x1 x2 x3 x4 : S512x128.Idx → EReal) (x5 : S2x64x576.Idx → EReal)
    (hq : ∀ x, (![64 * n, 0] : Fin 2 → ℕ) x + S64x128.size x ≤ S512x128.size x)
    (hk : ∀ x, (![64 * n, 0] : Fin 2 → ℕ) x + S576x128.size x ≤ S1024x128.size x)
    (h0 : ∀ x, (![0, 0, 0] : Fin 3 → ℕ) x + S1x64x576.size x ≤ S2x64x576.size x)
    (h1 : ∀ x, (![1, 0, 0] : Fin 3 → ℕ) x + S1x64x576.size x ≤ S2x64x576.size x)
    (x : S64x128.Idx) (y : S512x128.Idx) (hx : (Rect.unit (s := S512x128) ![64 * n, 0] S64x128.size hq).emb x = y) :
    chunk (seen w) (View.ld (Val := Elt Ideal) (e' := .f32) x0 (Rect.unit (s := S512x128) ![64 * n, 0] S64x128.size hq))
      (fun j => two x1 x2 ((Rect.unit (s := S1024x128) ![64 * n, 0] S576x128.size hk).idx j))
      (fun j => two x3 x4 ((Rect.unit (s := S1024x128) ![64 * n, 0] S576x128.size hk).idx j))
      (View.ld (Val := Elt Ideal) (e' := .f32) x5 (Rect.unit (s := S2x64x576) ![0, 0, 0] S1x64x576.size h0))
      (View.ld (Val := Elt Ideal) (e' := .f32) x5 (Rect.unit (s := S2x64x576) ![1, 0, 0] S1x64x576.size h1)) x
      = whole i x0 x1 x2 x3 x4 x5 y := by
  obtain ⟨r, l, rfl⟩ := Common.exists_ix2 (M := 64) (N := 128) x
  have ey : y = ix2 ⟨64 * n + r.val, by omega⟩ l := by
    subst hx
    refine funext fun a => Fin.ext ?_
    match a with
    | ⟨0, _⟩ => show 64 * n + 1 * r.val = 64 * n + r.val; omega
    | ⟨1, _⟩ => show 0 + 1 * l.val = l.val; omega
  have eq (d : Fin 128) : View.ld (Val := Elt Ideal) (e' := .f32) x0 (Rect.unit (s := S512x128) ![64 * n, 0] S64x128.size hq) (ix2 r d)
      = x0 (ix2 ⟨64 * n + r.val, by omega⟩ d) := by
    refine congrArg x0 (funext fun a => Fin.ext ?_)
    match a with
    | ⟨0, _⟩ => show 64 * n + 1 * r.val = 64 * n + r.val; omega
    | ⟨1, _⟩ => show 0 + 1 * d.val = d.val; omega
  have ek (j : Fin 576) (d : Fin 128) : (Rect.unit (s := S1024x128) ![64 * n, 0] S576x128.size hk).idx (ix2 j d)
      = ix2 ⟨64 * n + j.val, by omega⟩ d := by
    refine funext fun a => Fin.ext ?_
    match a with
    | ⟨0, _⟩ => show 64 * n + 1 * j.val = 64 * n + j.val; omega
    | ⟨1, _⟩ => show 0 + 1 * d.val = d.val; omega
  have e0 (j : Fin 576) : View.ld (Val := Elt Ideal) (e' := .f32) x5 (Rect.unit (s := S2x64x576) ![0, 0, 0] S1x64x576.size h0) (ix3 0 r j)
      = x5 (ix3 0 r j) := by
    refine congrArg x5 (funext fun a => Fin.ext ?_)
    match a with
    | ⟨0, _⟩ => rfl
    | ⟨1, _⟩ => show 0 + 1 * r.val = r.val; omega
    | ⟨2, _⟩ => show 0 + 1 * j.val = j.val; omega
  have e1 (j : Fin 576) : View.ld (Val := Elt Ideal) (e' := .f32) x5 (Rect.unit (s := S2x64x576) ![1, 0, 0] S1x64x576.size h1) (ix3 0 r j)
      = x5 (ix3 1 r j) := by
    refine congrArg x5 (funext fun a => Fin.ext ?_)
    match a with
    | ⟨0, _⟩ => rfl
    | ⟨1, _⟩ => show 0 + 1 * r.val = r.val; omega
    | ⟨2, _⟩ => show 0 + 1 * j.val = j.val; omega
  have es (j : Fin 576) (a : EReal) : Scalar.select (seen w (ix2 r j)) a (Ideal.ofBits .f32 0xFF800000#32)
      = if 512 ≤ 512 * i + 64 * n + j.val then a else Ideal.ofBits .f32 0xFF800000#32 := by
    rw [seen_apply i hi n hn w hw r j]
    by_cases h : 512 ≤ 512 * i + 64 * n + j.val
    · rw [if_pos h, if_pos h]; rfl
    · rw [if_neg h, if_neg h]; rfl
  rw [ey, whole_apply i x0 x1 x2 x3 x4 x5 ⟨n, hn⟩ r l]
  unfold row
  by_cases hl : l.val < 64
  · refine (chunk_lo _ _ _ _ _ _ r l hl).trans ?_
    have el : l.val / 64 = 0 := by omega
    refine congrArg₂ Soft.soft (funext fun j => ?_) (funext fun j => congrArg (two x3 x4) (ek j l))
    rw [es]
    refine congrArg (fun a => if 512 ≤ 512 * i + 64 * n + j.val then a else Ideal.ofBits .f32 0xFF800000#32) ?_
    simp only [eq, ek, e0]
    simp only [el]
    rfl
  · refine (chunk_hi _ _ _ _ _ _ r l hl).trans ?_
    have el : l.val / 64 = 1 := by omega
    refine congrArg₂ Soft.soft (funext fun j => ?_) (funext fun j => congrArg (two x3 x4) (ek j l))
    rw [es]
    refine congrArg (fun a => if 512 ≤ 512 * i + 64 * n + j.val then a else Ideal.ofBits .f32 0xFF800000#32) ?_
    simp only [eq, ek, e1]
    simp only [el]
    rfl

end Cert.AttnBlock

end
-- ==== Proof.AttnRef.lean ====
/- The prompt attention's reference read at one entry: a head's softmax over the 576 keys that end with the query's chunk, those
   before the start of the sequence masked. -/
module

public import proofs.«01_k».proof.Proof.Soft
public import Idealize.ShloMosaic.Lib.KernelVsHost
public import proofs.«01_k».proof.Proof.Gen.ReferenceIdeal.Read

@[expose] public section

set_option maxRecDepth 16384

noncomputable section

namespace Cert.AttnRef

open Cert.ReferenceIdeal Cert.ReferenceIdeal.Gen Cert.ReferenceIdeal.Read
open Idealize.ShloMosaic Idealize.ShloMosaic.ValueIdx
open scoped BigOperators

variable (x0 : S16384x6144.Idx → EReal) (x1 : S32x257.Idx → EReal)

/-- The row of the whole array that row `r` of chunk `c` is. -/
abbrev crow (c : Fin 256) (r : Fin 64) : Fin 16384 := ⟨64 * c.val + r.val, by omega⟩

/-- The column of part `p` (queries, keys, values) that entry `d` of head `h` is. -/
abbrev gcol (p : Fin 3) (h : Fin 32) (d : Fin 64) : Fin 6144 := ⟨2048 * p.val + 64 * h.val + d.val, by omega⟩

/-- The array of rows seen as parts and heads. -/
theorem v0_at (r : Fin 16384) (p : Fin 3) (h : Fin 32) (d : Fin 64) :
    val_main_v0 (F := Ideal) x0 (ix5 0 r p h d) = x0 (ix2 r (gcol p h d)) := by
  rw [val_main_v0_apply]
  refine congrArg x0 (funext fun a => Fin.ext ?_)
  match a with
  | ⟨0, _⟩ => show ((((0 * 16384 + r.val) * 3 + p.val) * 32 + h.val) * 64 + d.val) / 6144 = r.val; omega
  | ⟨1, _⟩ => show ((((0 * 16384 + r.val) * 3 + p.val) * 32 + h.val) * 64 + d.val) % 6144 = 2048 * p.val + 64 * h.val + d.val; omega

/-- A query entry. -/
theorem q_row (r : Fin 16384) (h : Fin 32) (d : Fin 64) :
    val_main_v2 (F := Ideal) x0 (ix4 0 r h d) = x0 (ix2 r (gcol 0 h d)) := by
  rw [val_main_v2_apply, val_main_v1_apply, ← v0_at x0 r 0 h d]
  refine congrArg _ (funext fun a => Fin.ext ?_)
  match a with
  | ⟨0, _⟩ => rfl
  | ⟨1, _⟩ => show (((0 * 16384 + r.val) * 32 + h.val) * 64 + d.val) / 2048 % 16384 = r.val; omega
  | ⟨2, _⟩ => rfl
  | ⟨3, _⟩ => show (((0 * 16384 + r.val) * 32 + h.val) * 64 + d.val) / 64 % 32 = h.val; omega
  | ⟨4, _⟩ => show (((0 * 16384 + r.val) * 32 + h.val) * 64 + d.val) % 64 = d.val; omega

/-- A query entry, by chunk. -/
theorem q_at (c : Fin 256) (r : Fin 64) (h : Fin 32) (d : Fin 64) :
    val_main_v29 (F := Ideal) x0 (ix5 c 0 r h d) = x0 (ix2 (crow c r) (gcol 0 h d)) := by
  rw [val_main_v29_apply, val_main_v28_apply, ← q_row x0 (crow c r) h d]
  refine congrArg _ (funext fun a => Fin.ext ?_)
  match a with
  | ⟨0, _⟩ => rfl
  | ⟨1, _⟩ => show ((((0 * 256 + c.val) * 64 + r.val) * 32 + h.val) * 64 + d.val) / 2048 % 16384 = 64 * c.val + r.val; omega
  | ⟨2, _⟩ => show ((((0 * 256 + c.val) * 64 + r.val) * 32 + h.val) * 64 + d.val) / 64 % 32 = h.val; omega
  | ⟨3, _⟩ => show ((((0 * 256 + c.val) * 64 + r.val) * 32 + h.val) * 64 + d.val) % 64 = d.val; omega

/-- A key's entry. -/
theorem k_row (r : Fin 16384) (h : Fin 32) (d : Fin 64) :
    val_main_v4 (F := Ideal) x0 (ix4 0 r h d) = x0 (ix2 r (gcol 1 h d)) := by
  rw [val_main_v4_apply, val_main_v3_apply, ← v0_at x0 r 1 h d]
  refine congrArg _ (funext fun a => Fin.ext ?_)
  match a with
  | ⟨0, _⟩ => rfl
  | ⟨1, _⟩ => show (((0 * 16384 + r.val) * 32 + h.val) * 64 + d.val) / 2048 % 16384 = r.val; omega
  | ⟨2, _⟩ => rfl
  | ⟨3, _⟩ => show (((0 * 16384 + r.val) * 32 + h.val) * 64 + d.val) / 64 % 32 = h.val; omega
  | ⟨4, _⟩ => show (((0 * 16384 + r.val) * 32 + h.val) * 64 + d.val) % 64 = d.val; omega

/-- A value's entry. -/
theorem v_row (r : Fin 16384) (h : Fin 32) (d : Fin 64) :
    val_main_v6 (F := Ideal) x0 (ix4 0 r h d) = x0 (ix2 r (gcol 2 h d)) := by
  rw [val_main_v6_apply, val_main_v5_apply, ← v0_at x0 r 2 h d]
  refine congrArg _ (funext fun a => Fin.ext ?_)
  match a with
  | ⟨0, _⟩ => rfl
  | ⟨1, _⟩ => show (((0 * 16384 + r.val) * 32 + h.val) * 64 + d.val) / 2048 % 16384 = r.val; omega
  | ⟨2, _⟩ => rfl
  | ⟨3, _⟩ => show (((0 * 16384 + r.val) * 32 + h.val) * 64 + d.val) / 64 % 32 = h.val; omega
  | ⟨4, _⟩ => show (((0 * 16384 + r.val) * 32 + h.val) * 64 + d.val) % 64 = d.val; omega

/-- The keys after 512 rows of padding. -/
theorem k_pad (p : Fin 16896) (r : Fin 16384) (hp : p.val = 512 + r.val) (h : Fin 32) (d : Fin 64) :
    val_main_v7 (F := Ideal) x0 (ix4 0 p h d) = x0 (ix2 r (gcol 1 h d)) := by
  rw [← k_row x0 r h d]
  unfold val_main_v7
  refine pad_apply_of_inside _ _ _ _ _ _ _ _ (ix4 0 r h d) fun a => ?_
  match a with
  | ⟨0, _⟩ => rfl
  | ⟨1, _⟩ => show p.val = 512 + r.val * 1; omega
  | ⟨2, _⟩ => show h.val = 0 + h.val * 1; omega
  | ⟨3, _⟩ => show d.val = 0 + d.val * 1; omega

/-- The values after 512 rows of padding. -/
theorem v_pad (p : Fin 16896) (r : Fin 16384) (hp : p.val = 512 + r.val) (h : Fin 32) (d : Fin 64) :
    val_main_v8 (F := Ideal) x0 (ix4 0 p h d) = x0 (ix2 r (gcol 2 h d)) := by
  rw [← v_row x0 r h d]
  unfold val_main_v8
  refine pad_apply_of_inside _ _ _ _ _ _ _ _ (ix4 0 r h d) fun a => ?_
  match a with
  | ⟨0, _⟩ => rfl
  | ⟨1, _⟩ => show p.val = 512 + r.val * 1; omega
  | ⟨2, _⟩ => show h.val = 0 + h.val * 1; omega
  | ⟨3, _⟩ => show d.val = 0 + d.val * 1; omega

/-- Chunk `c`'s window starts at row `64 · c`. -/
theorem start_word (c : Fin 256) :
    Scalar.select (IntOp.cmpi .slt (IntOp.muli (BitVec.ofNat 32 c.val) 64#32) 0#32)
      (IntOp.addi (IntOp.muli (BitVec.ofNat 32 c.val) 64#32) 16896#32) (IntOp.muli (BitVec.ofNat 32 c.val) 64#32)
      = BitVec.ofNat 32 (64 * c.val) := by
  revert c; decide +kernel

/-- The start of a window of keys. -/
theorem start_k (c : Fin 256) : val_main_v42 (F := Ideal) (ix2 c 1) = BitVec.ofNat 32 (64 * c.val) := by
  unfold val_main_v42
  refine Eq.trans (b := val_main_v39 (F := Ideal) (ix2 c 0)) ?_ ?_
  · refine concatenate_apply_piece (t := S256x4) (1 : Fin 2) [⟨S256x1, val_main_v38 (F := Ideal)⟩, ⟨S256x1, val_main_v39 (F := Ideal)⟩, ⟨S256x1, val_main_v40 (F := Ideal)⟩, ⟨S256x1, val_main_v41 (F := Ideal)⟩] _ (ix2 c 1) 1
      (show 1 < 4 by decide) S256x1 _ rfl rfl 1 rfl (ix2 c 0) (fun b hb => ?_) (show 1 + 0 = 1 from rfl)
    match b with
    | ⟨0, _⟩ => rfl
    | ⟨1, _⟩ => exact absurd rfl hb
  · rw [← start_word c, val_main_v39_apply, val_main_v37_apply, val_main_v34_apply, val_main_v36_apply, val_main_v32_apply,
      val_main_v30_apply, val_main_v31_apply, val_main_v33_apply, val_main_v35_apply]
    rfl

/-- The start of a window of values. -/
theorem start_v (c : Fin 256) : val_main_v55 (F := Ideal) (ix2 c 1) = BitVec.ofNat 32 (64 * c.val) := by
  unfold val_main_v55
  refine Eq.trans (b := val_main_v52 (F := Ideal) (ix2 c 0)) ?_ ?_
  · refine concatenate_apply_piece (t := S256x4) (1 : Fin 2) [⟨S256x1, val_main_v51 (F := Ideal)⟩, ⟨S256x1, val_main_v52 (F := Ideal)⟩, ⟨S256x1, val_main_v53 (F := Ideal)⟩, ⟨S256x1, val_main_v54 (F := Ideal)⟩] _ (ix2 c 1) 1
      (show 1 < 4 by decide) S256x1 _ rfl rfl 1 rfl (ix2 c 0) (fun b hb => ?_) (show 1 + 0 = 1 from rfl)
    match b with
    | ⟨0, _⟩ => rfl
    | ⟨1, _⟩ => exact absurd rfl hb
  · rw [← start_word c, val_main_v52_apply, val_main_v50_apply, val_main_v47_apply, val_main_v49_apply, val_main_v45_apply,
      val_main_v30_apply, val_main_v44_apply, val_main_v46_apply, val_main_v48_apply]
    rfl

/-- The windows' dimension numbers. -/
abbrev D : GatherDims S1x16896x32x64 S256x4 S256x1x576x32x64 := gather_S1x16896x32x64_S256x4_S256x1x576x32x64_1234_n_n_n_0123_1_15763264

/-- A window read at an entry. -/
theorem window_at (x : S1x16896x32x64.Idx → EReal) (idx : IVec S256x4 32) (c : Fin 256) (hc : idx (ix2 c 1) = BitVec.ofNat 32 (64 * c.val))
    (j : Fin 576) (h : Fin 32) (d : Fin 64) :
    Host.gather D x idx (ix5 c 0 j h d) = x (ix4 0 ⟨64 * c.val + j.val, by omega⟩ h d) := by
  unfold Host.gather
  congr 1
  funext a
  refine Fin.ext ?_
  show D.start (ix5 c 0 j h d) idx a + D.batchCoord (ix5 c 0 j h d) a + D.offCoord (ix5 c 0 j h d) a = _
  rw [GatherDims.batchCoord_eq_zero _ _ _ List.not_mem_nil, Nat.add_zero]
  match a with
  | ⟨0, _⟩ =>
    have h0 : D.start (ix5 c 0 j h d) idx ⟨0, by decide⟩ ≤ 0 := D.start_le _ _ _
    show D.start (ix5 c 0 j h d) idx ⟨0, by decide⟩ + 0 = 0
    omega
  | ⟨1, _⟩ =>
    have h1 : D.start (ix5 c 0 j h d) idx (1 : Fin 4) = 64 * c.val := by
      unfold GatherDims.start
      rw [dif_pos (show (1 : Fin 4) ∈ D.startIndexMap by decide)]
      have hsi : D.siIdx (ix5 c 0 j h d) ⟨List.idxOf (1 : Fin 4) D.startIndexMap, by decide⟩ = ix2 c 1 := by
        funext b; refine Fin.ext ?_
        match b with
        | ⟨0, _⟩ => rfl
        | ⟨1, _⟩ => rfl
      refine (congrArg (fun z => min (BitVec.toInt (idx z)).toNat (16896 - 576)) hsi).trans ?_
      rw [hc, BitVec.toInt_eq_toNat_of_lt (by rw [BitVec.toNat_ofNat]; omega), BitVec.toNat_ofNat]
      omega
    show D.start (ix5 c 0 j h d) idx (1 : Fin 4) + j.val = 64 * c.val + j.val
    rw [h1]
  | ⟨2, _⟩ =>
    have h0 : D.start (ix5 c 0 j h d) idx ⟨2, by decide⟩ ≤ 0 := D.start_le _ _ _
    show D.start (ix5 c 0 j h d) idx ⟨2, by decide⟩ + h.val = h.val
    omega
  | ⟨3, _⟩ =>
    have h0 : D.start (ix5 c 0 j h d) idx ⟨3, by decide⟩ ≤ 0 := D.start_le _ _ _
    show D.start (ix5 c 0 j h d) idx ⟨3, by decide⟩ + d.val = d.val
    omega

/-- The keys of chunk `c`'s window. -/
def key (c : Fin 256) (j : Fin 576) (h : Fin 32) (d : Fin 64) : EReal :=
  val_main_v7 (F := Ideal) x0 (ix4 0 ⟨64 * c.val + j.val, by omega⟩ h d)

/-- The values of chunk `c`'s window. -/
def val (c : Fin 256) (j : Fin 576) (h : Fin 32) (d : Fin 64) : EReal :=
  val_main_v8 (F := Ideal) x0 (ix4 0 ⟨64 * c.val + j.val, by omega⟩ h d)

theorem key_at (c : Fin 256) (j : Fin 576) (h : Fin 32) (d : Fin 64) : val_main_v43 (F := Ideal) x0 (ix5 c 0 j h d) = key x0 c j h d := by
  unfold val_main_v43
  exact window_at _ _ c (start_k c) j h d

theorem val_at (c : Fin 256) (j : Fin 576) (h : Fin 32) (d : Fin 64) : val_main_v56 (F := Ideal) x0 (ix5 c 0 j h d) = val x0 c j h d := by
  unfold val_main_v56
  exact window_at _ _ c (start_v c) j h d

/-- A key's place compared with the start of the sequence. -/
theorem mask_word (c j : ℕ) (hc : c < 256) (hj : j < 576) :
    IntOp.cmpi .sge (BitVec.ofNat 32 j) (IntOp.subi 512#32 (IntOp.muli (BitVec.ofNat 32 c) 64#32)) = if 512 ≤ 64 * c + j then 1#1 else 0#1 := by
  show BitVec.ofBool (BitVec.sle (512#32 - BitVec.ofNat 32 c * 64#32) (BitVec.ofNat 32 j)) = _
  have h : BitVec.sle (512#32 - BitVec.ofNat 32 c * 64#32) (BitVec.ofNat 32 j) = decide (512 ≤ 64 * c + j) := by
    rw [BitVec.sle_eq_decide, decide_eq_decide]
    simp only [BitVec.toInt_eq_toNat_bmod, BitVec.toNat_sub, BitVec.toNat_mul, BitVec.toNat_ofNat, Int.bmod_def]
    omega
  rw [h]
  by_cases h5 : 512 ≤ 64 * c + j
  · rw [if_pos h5, decide_eq_true h5]; rfl
  · rw [if_neg h5, decide_eq_false h5]; rfl

/-- The mask. -/
theorem mask_at (c : Fin 256) (h : Fin 32) (r : Fin 64) (j : Fin 576) :
    val_main_call3_v1 (F := Ideal) (ix5 c 0 h r j) = if 512 ≤ 64 * c.val + j.val then 1#1 else 0#1 := by
  rw [← mask_word c.val j.val c.isLt j.isLt, val_main_call3_v1_apply, val_main_v73_apply, val_main_v72_apply, val_main_v70_apply,
    val_main_v68_apply, val_main_v9_apply, val_main_v71_apply, val_main_v69_apply, val_main_v67_apply, val_main_v66_apply,
    val_main_v65_apply, val_main_v64_apply, val_main_v30_apply]
  rfl

/-- The masked scores of a query. -/
abbrev s (c : Fin 256) (h : Fin 32) (r : Fin 64) (j : Fin 576) : EReal := val_main_v74 (F := Ideal) x0 x1 (ix5 c 0 h r j)

/-- A score: the scaled product with the key, and the bias. -/
theorem s_eq (c : Fin 256) (h : Fin 32) (r : Fin 64) (j : Fin 576) :
    s x0 x1 c h r j = if 512 ≤ 64 * c.val + j.val then
      (∑ d : Fin 64, x0 (ix2 (crow c r) (gcol 0 h d)) * key x0 c j h d) * Ideal.ofBits .f32 0x3E000000#32
        + val_main_v27 (F := Ideal) x1 (ix3 h r j)
      else Ideal.ofBits .f32 0xFF800000#32 := by
  unfold s
  rw [val_main_v74_apply, mask_at]
  by_cases hv : 512 ≤ 64 * c.val + j.val
  · rw [if_pos hv, if_pos hv]
    show val_main_v63 (F := Ideal) x0 x1 (ix5 c 0 h r j) = _
    rw [val_main_v63_apply, val_main_v59_apply, val_main_v57_apply, val_main_v58_apply, val_main_v62_apply, val_main_v61_apply,
      val_main_v60_apply]
    refine congrArg₂ (· + · : EReal → EReal → EReal) (congrArg (· * _ : EReal → EReal) ?_) ?_
    · refine Finset.sum_congr rfl fun d _ => congrArg₂ (· * · : EReal → EReal → EReal) ?_ ?_
      · rw [← q_at x0 c r h d]
        exact congrArg _ (funext fun a => Fin.ext (match a with | ⟨0, _⟩ => rfl | ⟨1, _⟩ => rfl | ⟨2, _⟩ => rfl | ⟨3, _⟩ => rfl | ⟨4, _⟩ => rfl))
      · rw [← key_at x0 c j h d]
        exact congrArg _ (funext fun a => Fin.ext (match a with | ⟨0, _⟩ => rfl | ⟨1, _⟩ => rfl | ⟨2, _⟩ => rfl | ⟨3, _⟩ => rfl | ⟨4, _⟩ => rfl))
    · exact congrArg _ (funext fun a => Fin.ext (match a with | ⟨0, _⟩ => rfl | ⟨1, _⟩ => rfl | ⟨2, _⟩ => rfl))
  · rw [if_neg hv, if_neg hv]
    show val_main_call3_v3 (F := Ideal) (ix5 c 0 h r j) = _
    rw [val_main_call3_v3_apply, val_main_call3_v2_apply]
    rfl

/-- The largest score of a query. -/
theorem top_eq (c : Fin 256) (h : Fin 32) (r : Fin 64) :
    val_main_v77 (F := Ideal) x0 x1 (ix4 c 0 h r) = Soft.top (s x0 x1 c h r) := by
  rw [val_main_v77_apply, val_main_v76_apply, ← Soft.max_top (s x0 x1 c h r)]
  refine congrArg (max (Ideal.ofBits .f32 0xFF800000#32)) ?_
  have hr : S256x1x32x64x576.Reduces [4] S256x1x32x64 := by decide
  unfold val_main_v75
  refine (congrFun (hostReduce_maximumf_eq_multiReduction (F := Ideal) (φ := .f32) (val_main_v74 (F := Ideal) x0 x1) 0xFF800000#32
    reducesTo_S256x1x32x64x576_S256x1x32x64_d4 h_S_ hr (.inl rfl) rfl) (ix4 c 0 h r)).trans ?_
  refine (Ideal.multiReduction_maximumf_single _ _ hr (.inl rfl) rfl (ix4 c 0 h r)).trans ?_
  refine congrArg (Finset.fold max _ · Finset.univ) (funext fun l => congrArg (val_main_v74 (F := Ideal) x0 x1) (?_ : hr.lift (ix4 c 0 h r) l = ix5 c 0 h r l))
  funext a; match a with | ⟨0, _⟩ => rfl | ⟨1, _⟩ => rfl | ⟨2, _⟩ => rfl | ⟨3, _⟩ => rfl | ⟨4, _⟩ => rfl

/-- The exponential of a score less the largest. -/
theorem e_eq (c : Fin 256) (h : Fin 32) (r : Fin 64) (j : Fin 576) :
    val_main_v81 (F := Ideal) x0 x1 (ix5 c 0 h r j) = Ideal.exp (s x0 x1 c h r j - Soft.top (s x0 x1 c h r)) := by
  rw [val_main_v81_apply, val_main_v80_apply, val_main_v79_apply, val_main_v78_apply, ← top_eq]
  refine congrArg (fun z : EReal => Ideal.exp (s x0 x1 c h r j - z)) ?_
  exact congrArg _ (funext fun a => Fin.ext (match a with | ⟨0, _⟩ => rfl | ⟨1, _⟩ => rfl | ⟨2, _⟩ => rfl | ⟨3, _⟩ => rfl))

/-- A weight of a query. -/
theorem w_eq (c : Fin 256) (h : Fin 32) (r : Fin 64) (j : Fin 576) :
    val_main_v85 (F := Ideal) x0 x1 (ix5 c 0 h r j) = Soft.weight (s x0 x1 c h r) j := by
  rw [val_main_v85_apply, val_main_v84_apply, val_main_v83_apply, val_main_v82_apply]
  have hz : val_main_cst_24 (F := Ideal) (Shape.Idx.first h_S_) = 0 := Ideal.ofBits_zero_f32
  rw [hz, zero_add]
  refine congrArg₂ Ideal.div (e_eq x0 x1 c h r j) (Finset.sum_congr rfl fun k _ => ?_)
  refine Eq.trans (congrArg _ ?_) (e_eq x0 x1 c h r k)
  funext a; match a with | ⟨0, _⟩ => rfl | ⟨1, _⟩ => rfl | ⟨2, _⟩ => rfl | ⟨3, _⟩ => rfl | ⟨4, _⟩ => rfl

/-- The result at query `r` of chunk `c` and entry `d` of head `h`. -/
theorem out_eq (c : Fin 256) (h : Fin 32) (r : Fin 64) (d : Fin 64) (C : Fin 2048) (hC : C.val = 64 * h.val + d.val) :
    val_main_v89 (F := Ideal) x0 x1 (ix2 (crow c r) C) = Soft.soft (s x0 x1 c h r) fun j => val x0 c j h d := by
  rw [val_main_v89_apply, val_main_v88_apply, val_main_v87_apply, val_main_v86_apply]
  refine Finset.sum_congr rfl fun j _ => (mul_comm _ _).trans (congrArg₂ (· * · : EReal → EReal → EReal) ?_ ?_)
  · rw [← w_eq]
    refine congrArg _ (funext fun a => Fin.ext ?_)
    match a with
    | ⟨0, _⟩ => show ((64 * c.val + r.val) * 2048 + C.val) / 131072 % 256 = c.val; omega
    | ⟨1, _⟩ => rfl
    | ⟨2, _⟩ => show ((64 * c.val + r.val) * 2048 + C.val) / 64 % 32 = h.val; omega
    | ⟨3, _⟩ => show ((64 * c.val + r.val) * 2048 + C.val) / 2048 % 64 = r.val; omega
    | ⟨4, _⟩ => rfl
  · refine Eq.trans (congrArg _ (?_ : _ = ix5 c 0 j h d)) (val_at x0 c j h d)
    refine funext fun a => Fin.ext ?_
    match a with
    | ⟨0, _⟩ => show ((64 * c.val + r.val) * 2048 + C.val) / 131072 % 256 = c.val; omega
    | ⟨1, _⟩ => rfl
    | ⟨2, _⟩ => rfl
    | ⟨3, _⟩ => show ((64 * c.val + r.val) * 2048 + C.val) / 64 % 32 = h.val; omega
    | ⟨4, _⟩ => show ((64 * c.val + r.val) * 2048 + C.val) % 64 = d.val; omega

end Cert.AttnRef

end
-- ==== Proof.Attn.lean ====
/- The prompt's attention: the array after the run is the reference's, every head's softmax over the 576 keys that end with the
   query's chunk. Queries, keys and biases are numbers, so that a masked key weighs nothing. -/
module

public import proofs.«01_k».proof.Defs
public import proofs.«01_k».proof.Proof.Common
public import proofs.«01_k».proof.Proof.Masked
public import proofs.«01_k».proof.Proof.AttnBlock
public import proofs.«01_k».proof.Proof.AttnRef
public import proofs.«01_k».proof.Proof.Gen.Pre_scores_finite

@[expose] public section

set_option maxRecDepth 16384

noncomputable section

namespace Cert.AttnValue

open Cert.KernelIdeal Cert.KernelIdeal.Gen Idealize.ShloMosaic Idealize.ShloMosaic.TcCoe Idealize.SL.Sem
open Idealize.ShloMosaic.Pipeline (Dat)
open Idealize.ShloMosaic.ValueIdx
open Cert.AttnRef (crow gcol)
open scoped BigOperators

/-- What the body leaves of the result's block: its eight chunks. -/
theorem pieces (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S2x64x576 .f32) (harg7 : arg7.IsWhole) (arg8 : Memref sig .tc .vmem S512x128 .f32) (harg8 : arg8.IsWhole) (arg9 : Memref sig .tc .vmem S1024x128 .bf16) (harg9 : arg9.IsWhole) (arg10 : Memref sig .tc .vmem S1024x128 .bf16) (harg10 : arg10.IsWhole)
    (x0 x1 x2 x3 x4 : Vec Ideal S512x128 .f32) (x5 : Vec Ideal S2x64x576 .f32) :
    out0_A_6 c i arg2 harg2 arg3 harg3 arg4 harg4 arg5 harg5 arg6 harg6 arg7 harg7 arg8 harg8 arg9 harg9 arg10 harg10 x0 x1 x2 x3 x4 x5 = AttnBlock.whole (i 1).val x0 x1 x2 x3 x4 x5 := by
  unfold out0_A_6
  rw [View.read_writes_eq_canon _ _ _ (cover0_A_6 c i arg2 harg2 arg3 harg3 arg4 harg4 arg5 harg5 arg6 harg6 arg7 harg7 arg8 harg8 arg9 harg9 arg10 harg10 x0 x1 x2 x3 x4 x5)]
  funext y
  refine View.canon_eq_of_allAt _ y _ (cover0_A_6 c i arg2 harg2 arg3 harg3 arg4 harg4 arg5 harg5 arg6 harg6 arg7 harg7 arg8 harg8 arg9 harg9 arg10 harg10 x0 x1 x2 x3 x4 x5 y) ?_
  unfold kernelRun0_A
  dsimp only
  sl_unfold_words
  simp only [View.readAt_eq_ld, harg2.read_unread, harg3.read_unread, harg4.read_unread, harg5.read_unread, harg6.read_unread, harg7.read_unread, View.readCov_eq_canon']
  simp only [View.ld_unit_zero (S := S512x128) Common.off2, AttnBlock.kept2, AttnBlock.kept3, AttnBlock.kept4, AttnBlock.kept5, AttnBlock.stored]
  refine List.forall_mem_cons.mpr ⟨fun x hx => AttnBlock.chunk_eq (i 1).val (i 1).isLt 7 (by omega)
    (Scalar.addi (Scalar.muli (Scalar.subi (BitVec.ofNat 32 (i 1).val) 1#32) 512#32) (BitVec.ofNat 32 (64 * 7))) rfl x0 x1 x2 x3 x4 x5
    inb_S512x128_S64x128_448_0 inb_S1024x128_S576x128_448_0 inb_S2x64x576_S1x64x576_0_0_0 inb_S2x64x576_S1x64x576_1_0_0 x y hx, ?_⟩
  refine List.forall_mem_cons.mpr ⟨fun x hx => AttnBlock.chunk_eq (i 1).val (i 1).isLt 6 (by omega)
    (Scalar.addi (Scalar.muli (Scalar.subi (BitVec.ofNat 32 (i 1).val) 1#32) 512#32) (BitVec.ofNat 32 (64 * 6))) rfl x0 x1 x2 x3 x4 x5
    inb_S512x128_S64x128_384_0 inb_S1024x128_S576x128_384_0 inb_S2x64x576_S1x64x576_0_0_0 inb_S2x64x576_S1x64x576_1_0_0 x y hx, ?_⟩
  refine List.forall_mem_cons.mpr ⟨fun x hx => AttnBlock.chunk_eq (i 1).val (i 1).isLt 5 (by omega)
    (Scalar.addi (Scalar.muli (Scalar.subi (BitVec.ofNat 32 (i 1).val) 1#32) 512#32) (BitVec.ofNat 32 (64 * 5))) rfl x0 x1 x2 x3 x4 x5
    inb_S512x128_S64x128_320_0 inb_S1024x128_S576x128_320_0 inb_S2x64x576_S1x64x576_0_0_0 inb_S2x64x576_S1x64x576_1_0_0 x y hx, ?_⟩
  refine List.forall_mem_cons.mpr ⟨fun x hx => AttnBlock.chunk_eq (i 1).val (i 1).isLt 4 (by omega)
    (Scalar.addi (Scalar.muli (Scalar.subi (BitVec.ofNat 32 (i 1).val) 1#32) 512#32) (BitVec.ofNat 32 (64 * 4))) rfl x0 x1 x2 x3 x4 x5
    inb_S512x128_S64x128_256_0 inb_S1024x128_S576x128_256_0 inb_S2x64x576_S1x64x576_0_0_0 inb_S2x64x576_S1x64x576_1_0_0 x y hx, ?_⟩
  refine List.forall_mem_cons.mpr ⟨fun x hx => AttnBlock.chunk_eq (i 1).val (i 1).isLt 3 (by omega)
    (Scalar.addi (Scalar.muli (Scalar.subi (BitVec.ofNat 32 (i 1).val) 1#32) 512#32) (BitVec.ofNat 32 (64 * 3))) rfl x0 x1 x2 x3 x4 x5
    inb_S512x128_S64x128_192_0 inb_S1024x128_S576x128_192_0 inb_S2x64x576_S1x64x576_0_0_0 inb_S2x64x576_S1x64x576_1_0_0 x y hx, ?_⟩
  refine List.forall_mem_cons.mpr ⟨fun x hx => AttnBlock.chunk_eq (i 1).val (i 1).isLt 2 (by omega)
    (Scalar.addi (Scalar.muli (Scalar.subi (BitVec.ofNat 32 (i 1).val) 1#32) 512#32) (BitVec.ofNat 32 (64 * 2))) rfl x0 x1 x2 x3 x4 x5
    inb_S512x128_S64x128_128_0 inb_S1024x128_S576x128_128_0 inb_S2x64x576_S1x64x576_0_0_0 inb_S2x64x576_S1x64x576_1_0_0 x y hx, ?_⟩
  refine List.forall_mem_cons.mpr ⟨fun x hx => AttnBlock.chunk_eq (i 1).val (i 1).isLt 1 (by omega)
    (Scalar.addi (Scalar.muli (Scalar.subi (BitVec.ofNat 32 (i 1).val) 1#32) 512#32) (BitVec.ofNat 32 (64 * 1))) rfl x0 x1 x2 x3 x4 x5
    inb_S512x128_S64x128_64_0 inb_S1024x128_S576x128_64_0 inb_S2x64x576_S1x64x576_0_0_0 inb_S2x64x576_S1x64x576_1_0_0 x y hx, ?_⟩
  refine List.forall_mem_cons.mpr ⟨fun x hx => AttnBlock.chunk_eq (i 1).val (i 1).isLt 0 (by omega)
    (Scalar.addi (Scalar.muli (Scalar.subi (BitVec.ofNat 32 (i 1).val) 1#32) 512#32) (BitVec.ofNat 32 (64 * 0))) rfl x0 x1 x2 x3 x4 x5
    inb_S512x128_S64x128_0_0 inb_S1024x128_S576x128_0_0 inb_S2x64x576_S1x64x576_0_0_0 inb_S2x64x576_S1x64x576_1_0_0 x y hx, ?_⟩
  exact fun _ h => absurd h List.not_mem_nil

variable (m : (ℓ : Loc nD τ sig) → Buf (Elt Ideal) ℓ) (ρ : Dev nD → PrngReg)

/-- Point `t` works on head pair `t / 32` and row block `t % 32`; the block before the first is the first itself. -/
theorem idx_facts : ∀ t : Fin cfg0.N,
    win0_0.index t (0 : Fin 2) = t.val % 32 ∧ win0_0.index t (1 : Fin 2) = t.val / 32
    ∧ win0_1.index t (0 : Fin 2) = t.val % 32 - 1 ∧ win0_1.index t (1 : Fin 2) = 16 + t.val / 32
    ∧ win0_2.index t (0 : Fin 2) = t.val % 32 ∧ win0_2.index t (1 : Fin 2) = 16 + t.val / 32
    ∧ win0_3.index t (0 : Fin 2) = t.val % 32 - 1 ∧ win0_3.index t (1 : Fin 2) = 32 + t.val / 32
    ∧ win0_4.index t (0 : Fin 2) = t.val % 32 ∧ win0_4.index t (1 : Fin 2) = 32 + t.val / 32
    ∧ win0_5.index t (0 : Fin 3) = t.val / 32 ∧ win0_5.index t (1 : Fin 3) = 0 ∧ win0_5.index t (2 : Fin 3) = 0
    ∧ win0_6.index t (0 : Fin 2) = t.val % 32 ∧ win0_6.index t (1 : Fin 2) = t.val / 32
    ∧ (grid0.coords t 1).val = t.val % 32 :=
  (by decide +kernel : ∀ t : Fin grid0.N, _)

/-- There are sixteen head pairs. -/
theorem pair_lt (t : Fin cfg0.N) : t.val / 32 < 16 := by
  have := t.isLt; have : cfg0.N = 512 := N_0; omega

/-- The queries at point `t`. -/
theorem blk_q (c : Dev nD) (t : Fin cfg0.N) (R : Fin 512) (l : Fin 128) :
    iblk m c 0 t (ix2 R l) = m ((c : Thread nD τ).loc main_arg0)
      (ix2 (⟨512 * (t.val % 32) + R.val, by omega⟩ : Fin 16384) (⟨0 + 128 * (t.val / 32) + l.val, by have := pair_lt t; omega⟩ : Fin 6144)) := by
  unfold iblk
  rw [View.read_apply]
  show V m c main_arg0 _ = _
  rw [V_main_arg0]
  have e0 : win0_0.index t (0 : Fin 2) = t.val % 32 := by have := idx_facts t; tauto
  have e1 : win0_0.index t (1 : Fin 2) = t.val / 32 := by have := idx_facts t; tauto
  refine congrArg _ (funext fun a => Fin.ext ?_)
  match a with
  | ⟨0, _⟩ => show win0_0.index t (0 : Fin 2) * 512 + 1 * R.val = 512 * (t.val % 32) + R.val; rw [e0]; omega
  | ⟨1, _⟩ => show win0_0.index t (1 : Fin 2) * 128 + 1 * l.val = 0 + 128 * (t.val / 32) + l.val; rw [e1]; omega

/-- The keys of the row block before. -/
theorem blk_kp (c : Dev nD) (t : Fin cfg0.N) (hp : 0 < t.val % 32) (R : Fin 512) (l : Fin 128) :
    iblk m c 1 t (ix2 R l) = m ((c : Thread nD τ).loc main_arg0)
      (ix2 (⟨512 * (t.val % 32) - 512 + R.val, by omega⟩ : Fin 16384) (⟨2048 + 128 * (t.val / 32) + l.val, by have := pair_lt t; omega⟩ : Fin 6144)) := by
  unfold iblk
  rw [View.read_apply]
  show V m c main_arg0 _ = _
  rw [V_main_arg0]
  have e0 : win0_1.index t (0 : Fin 2) = t.val % 32 - 1 := by have := idx_facts t; tauto
  have e1 : win0_1.index t (1 : Fin 2) = 16 + t.val / 32 := by have := idx_facts t; tauto
  refine congrArg _ (funext fun a => Fin.ext ?_)
  match a with
  | ⟨0, _⟩ => show win0_1.index t (0 : Fin 2) * 512 + 1 * R.val = 512 * (t.val % 32) - 512 + R.val; rw [e0]; omega
  | ⟨1, _⟩ => show win0_1.index t (1 : Fin 2) * 128 + 1 * l.val = 2048 + 128 * (t.val / 32) + l.val; rw [e1]; omega

/-- The keys of the row block itself. -/
theorem blk_kc (c : Dev nD) (t : Fin cfg0.N) (R : Fin 512) (l : Fin 128) :
    iblk m c 2 t (ix2 R l) = m ((c : Thread nD τ).loc main_arg0)
      (ix2 (⟨512 * (t.val % 32) + R.val, by omega⟩ : Fin 16384) (⟨2048 + 128 * (t.val / 32) + l.val, by have := pair_lt t; omega⟩ : Fin 6144)) := by
  unfold iblk
  rw [View.read_apply]
  show V m c main_arg0 _ = _
  rw [V_main_arg0]
  have e0 : win0_2.index t (0 : Fin 2) = t.val % 32 := by have := idx_facts t; tauto
  have e1 : win0_2.index t (1 : Fin 2) = 16 + t.val / 32 := by have := idx_facts t; tauto
  refine congrArg _ (funext fun a => Fin.ext ?_)
  match a with
  | ⟨0, _⟩ => show win0_2.index t (0 : Fin 2) * 512 + 1 * R.val = 512 * (t.val % 32) + R.val; rw [e0]; omega
  | ⟨1, _⟩ => show win0_2.index t (1 : Fin 2) * 128 + 1 * l.val = 2048 + 128 * (t.val / 32) + l.val; rw [e1]; omega

/-- The values of the row block before. -/
theorem blk_vp (c : Dev nD) (t : Fin cfg0.N) (hp : 0 < t.val % 32) (R : Fin 512) (l : Fin 128) :
    iblk m c 3 t (ix2 R l) = m ((c : Thread nD τ).loc main_arg0)
      (ix2 (⟨512 * (t.val % 32) - 512 + R.val, by omega⟩ : Fin 16384) (⟨4096 + 128 * (t.val / 32) + l.val, by have := pair_lt t; omega⟩ : Fin 6144)) := by
  unfold iblk
  rw [View.read_apply]
  show V m c main_arg0 _ = _
  rw [V_main_arg0]
  have e0 : win0_3.index t (0 : Fin 2) = t.val % 32 - 1 := by have := idx_facts t; tauto
  have e1 : win0_3.index t (1 : Fin 2) = 32 + t.val / 32 := by have := idx_facts t; tauto
  refine congrArg _ (funext fun a => Fin.ext ?_)
  match a with
  | ⟨0, _⟩ => show win0_3.index t (0 : Fin 2) * 512 + 1 * R.val = 512 * (t.val % 32) - 512 + R.val; rw [e0]; omega
  | ⟨1, _⟩ => show win0_3.index t (1 : Fin 2) * 128 + 1 * l.val = 4096 + 128 * (t.val / 32) + l.val; rw [e1]; omega

/-- The values of the row block itself. -/
theorem blk_vc (c : Dev nD) (t : Fin cfg0.N) (R : Fin 512) (l : Fin 128) :
    iblk m c 4 t (ix2 R l) = m ((c : Thread nD τ).loc main_arg0)
      (ix2 (⟨512 * (t.val % 32) + R.val, by omega⟩ : Fin 16384) (⟨4096 + 128 * (t.val / 32) + l.val, by have := pair_lt t; omega⟩ : Fin 6144)) := by
  unfold iblk
  rw [View.read_apply]
  show V m c main_arg0 _ = _
  rw [V_main_arg0]
  have e0 : win0_4.index t (0 : Fin 2) = t.val % 32 := by have := idx_facts t; tauto
  have e1 : win0_4.index t (1 : Fin 2) = 32 + t.val / 32 := by have := idx_facts t; tauto
  refine congrArg _ (funext fun a => Fin.ext ?_)
  match a with
  | ⟨0, _⟩ => show win0_4.index t (0 : Fin 2) * 512 + 1 * R.val = 512 * (t.val % 32) + R.val; rw [e0]; omega
  | ⟨1, _⟩ => show win0_4.index t (1 : Fin 2) * 128 + 1 * l.val = 4096 + 128 * (t.val / 32) + l.val; rw [e1]; omega

/-- The two blocks of keys, row by row of the sequence. -/
theorem key_two (c : Dev nD) (t : Fin cfg0.N) (k : Fin 1024) (hk : 512 ≤ 512 * (t.val % 32) + k.val) (l : Fin 128) :
    AttnBlock.two (iblk m c 1 t) (iblk m c 2 t) (ix2 k l) = m ((c : Thread nD τ).loc main_arg0)
      (ix2 (⟨512 * (t.val % 32) + k.val - 512, by omega⟩ : Fin 16384) (⟨2048 + 128 * (t.val / 32) + l.val, by have := pair_lt t; omega⟩ : Fin 6144)) := by
  by_cases h : k.val < 512
  · rw [AttnBlock.two_lo _ _ k l h]
    refine (blk_kp m c t (by omega) _ l).trans (congrArg _ (congrArg (ix2 · _) (Fin.ext ?_)))
    show 512 * (t.val % 32) - 512 + k.val = 512 * (t.val % 32) + k.val - 512
    omega
  · rw [AttnBlock.two_hi _ _ k l h]
    refine (blk_kc m c t _ l).trans (congrArg _ (congrArg (ix2 · _) (Fin.ext ?_)))
    show 512 * (t.val % 32) + (k.val - 512) = 512 * (t.val % 32) + k.val - 512
    omega

/-- The two blocks of values, row by row of the sequence. -/
theorem val_two (c : Dev nD) (t : Fin cfg0.N) (k : Fin 1024) (hk : 512 ≤ 512 * (t.val % 32) + k.val) (l : Fin 128) :
    AttnBlock.two (iblk m c 3 t) (iblk m c 4 t) (ix2 k l) = m ((c : Thread nD τ).loc main_arg0)
      (ix2 (⟨512 * (t.val % 32) + k.val - 512, by omega⟩ : Fin 16384) (⟨4096 + 128 * (t.val / 32) + l.val, by have := pair_lt t; omega⟩ : Fin 6144)) := by
  by_cases h : k.val < 512
  · rw [AttnBlock.two_lo _ _ k l h]
    refine (blk_vp m c t (by omega) _ l).trans (congrArg _ (congrArg (ix2 · _) (Fin.ext ?_)))
    show 512 * (t.val % 32) - 512 + k.val = 512 * (t.val % 32) + k.val - 512
    omega
  · rw [AttnBlock.two_hi _ _ k l h]
    refine (blk_vc m c t _ l).trans (congrArg _ (congrArg (ix2 · _) (Fin.ext ?_)))
    show 512 * (t.val % 32) + (k.val - 512) = 512 * (t.val % 32) + k.val - 512
    omega

/-- The bias table as the region finds it: the reference's own. -/
theorem V_bias (c : Dev nD) : V m c main_v18
    = Cert.ReferenceIdeal.Read.val_main_v27 (F := Ideal) (m ((c : Thread nD τ).loc main_arg1)) := by
  show StableHlo.after (List.flatten [hostOps0, hostOps0_1, hostOps0_2]) (fun b => m (c, b)) main_v18 = _
  simp only [List.flatten_cons, List.flatten_nil, List.append_nil, List.cons_append, List.nil_append]
  after_results
  simp only [Cert.ReferenceIdeal.Read.val_main_v27, Cert.ReferenceIdeal.Read.val_main_v26, Cert.ReferenceIdeal.Read.val_main_v25, Cert.ReferenceIdeal.Read.val_main_v24, Cert.ReferenceIdeal.Read.val_main_v23, Cert.ReferenceIdeal.Read.val_main_v22, Cert.ReferenceIdeal.Read.val_main_v21, Cert.ReferenceIdeal.Read.val_main_v20, Cert.ReferenceIdeal.Read.val_main_v19, Cert.ReferenceIdeal.Read.val_main_v18, Cert.ReferenceIdeal.Read.val_main_v17, Cert.ReferenceIdeal.Read.val_main_v16, Cert.ReferenceIdeal.Read.val_main_v15, Cert.ReferenceIdeal.Read.val_main_v14, Cert.ReferenceIdeal.Read.val_main_v13, Cert.ReferenceIdeal.Read.val_main_v12, Cert.ReferenceIdeal.Read.val_main_v11, Cert.ReferenceIdeal.Read.val_main_v10, Cert.ReferenceIdeal.Read.val_main_v9, Cert.ReferenceIdeal.Read.val_main_call2_v4, Cert.ReferenceIdeal.Read.val_main_call2_v3, Cert.ReferenceIdeal.Read.val_main_call2_v2, Cert.ReferenceIdeal.Read.val_main_call2_v1, Cert.ReferenceIdeal.Read.val_main_call2_v0, Cert.ReferenceIdeal.Read.val_main_c_1, Cert.ReferenceIdeal.Read.val_main_c_2, Cert.ReferenceIdeal.Read.val_main_c_3, Cert.ReferenceIdeal.Read.val_main_c_4, Cert.ReferenceIdeal.Read.val_main_c_5, Cert.ReferenceIdeal.Read.val_main_c_6]
  simp only [StableHlo.TRef.ofBuf, StableHlo.TRef.toBuf, cast_eq]
  rfl

/-- The biases at point `t`. -/
theorem blk_b (c : Dev nD) (t : Fin cfg0.N) (h : Fin 2) (r : Fin 64) (j : Fin 576) :
    iblk m c 5 t (ix3 h r j) = Cert.ReferenceIdeal.Read.val_main_v27 (F := Ideal)
      (m ((c : Thread nD τ).loc main_arg1)) (ix3 (⟨2 * (t.val / 32) + h.val, by have := pair_lt t; omega⟩ : Fin 32) r j) := by
  unfold iblk
  rw [View.read_apply]
  show V m c main_v18 _ = _
  rw [V_bias]
  have e0 : win0_5.index t (0 : Fin 3) = t.val / 32 := by have := idx_facts t; tauto
  have e1 : win0_5.index t (1 : Fin 3) = 0 := by have := idx_facts t; tauto
  have e2 : win0_5.index t (2 : Fin 3) = 0 := by have := idx_facts t; tauto
  refine congrArg _ (funext fun a => Fin.ext ?_)
  match a with
  | ⟨0, _⟩ => show win0_5.index t (0 : Fin 3) * 2 + 1 * h.val = 2 * (t.val / 32) + h.val; rw [e0]; omega
  | ⟨1, _⟩ => show win0_5.index t (1 : Fin 3) * 64 + 1 * r.val = r.val; rw [e1]; omega
  | ⟨2, _⟩ => show win0_5.index t (2 : Fin 3) * 576 + 1 * j.val = j.val; rw [e2]; omega

/-- A number is neither infinity. -/
theorem number (a : EReal) (h : IntOp.andi (FloatOps.cmpf (F := Ideal) (φ := .f32) .ogt a (Ideal.ofBits .f32 0xFF800000#32))
    (FloatOps.cmpf (F := Ideal) (φ := .f32) .olt a (Ideal.ofBits .f32 0x7F800000#32)) = 1#1) : a ≠ ⊥ ∧ a ≠ ⊤ := by
  have hb : Ideal.ofBits .f32 0xFF800000#32 = ⊥ := Masked.masked
  have ht : Ideal.ofBits .f32 0x7F800000#32 = ⊤ := by simp [Ideal.ofBits, Ideal.ieee]
  rw [hb, ht] at h
  constructor
  · rintro rfl
    simp [FloatOps.cmpf, Ideal.cmp, IntOp.andi] at h
  · rintro rfl
    simp [FloatOps.cmpf, Ideal.cmp, IntOp.andi] at h

/-- Queries and keys are numbers. -/
theorem qk_number (hpre : Cert.Pre_KernelIdeal_scores_finite m) (c : Dev nD) (r : Fin 16384) (k : Fin 6144) (hk : k.val < 4096) :
    (m ((c : Thread nD τ).loc main_arg0) (ix2 r k) : EReal) ≠ (⊥ : EReal) ∧ (m ((c : Thread nD τ).loc main_arg0) (ix2 r k) : EReal) ≠ (⊤ : EReal) := by
  have h := congrFun (hpre c).1 (ix2 r (⟨k.val, hk⟩ : Fin 4096))
  have e : extractStridedSlice Cert.Pre_scores_finite.S16384x4096 ![0, 0] (m ((c : Thread nD τ).loc main_arg0))
      Cert.Pre_scores_finite.Facts.slices_S16384x6144_S16384x4096_0_0 (ix2 r (⟨k.val, hk⟩ : Fin 4096))
      = m ((c : Thread nD τ).loc main_arg0) (ix2 r k) := by
    refine extractStridedSlice_apply _ _ _ _ _ fun a => ?_
    match a with
    | ⟨0, _⟩ => show r.val = 0 + r.val; omega
    | ⟨1, _⟩ => show k.val = 0 + k.val; omega
  refine number _ (Eq.trans ?_ h)
  rw [← e]
  rfl

/-- Biases are numbers. -/
theorem bias_number (hpre : Cert.Pre_KernelIdeal_scores_finite m) (c : Dev nD) (i : Cert.ReferenceIdeal.S32x64x576.Idx) :
    Cert.ReferenceIdeal.Read.val_main_v27 (F := Ideal) (m ((c : Thread nD τ).loc main_arg1)) i ≠ ⊥
      ∧ Cert.ReferenceIdeal.Read.val_main_v27 (F := Ideal) (m ((c : Thread nD τ).loc main_arg1)) i ≠ ⊤ := by
  have h (y : S32x257.Idx) : (m ((c : Thread nD τ).loc main_arg1) y : EReal) ≠ (⊥ : EReal)
      ∧ (m ((c : Thread nD τ).loc main_arg1) y : EReal) ≠ (⊤ : EReal) :=
    number _ (congrFun (hpre c).2 y)
  unfold Cert.ReferenceIdeal.Read.val_main_v27 Host.gather
  exact h _

/-- The scale is a number. -/
theorem scale_number : Ideal.ofBits .f32 0x3E000000#32 ≠ ⊥ ∧ Ideal.ofBits .f32 0x3E000000#32 ≠ ⊤ := by
  have e : Ideal.ofBits .f32 0x3E000000#32 = (((8388608 : ℝ) * ((2 : ℝ) ^ 26)⁻¹ : ℝ) : EReal) := by
    rw [EReal.coe_mul]; simp [Ideal.ofBits, Ideal.ieee]
  rw [e]
  exact ⟨EReal.coe_ne_bot _, EReal.coe_ne_top _⟩

/-- What the array holds after the run: the reference's own value of the arguments. -/
abbrev G (c : Dev nD) : S16384x2048.Idx → EReal :=
  Cert.ReferenceIdeal.Read.val_main_v89 (F := Ideal) (m ((c : Thread nD τ).loc main_arg0)) (m ((c : Thread nD τ).loc main_arg1))

/-- Where lane `l` of row `R` of point `t`'s block lies in the whole array. -/
theorem emb_out (t : Fin cfg0.N) (R : Fin 512) (l : Fin 128) :
    ((cfg0.win 6).blk t).view.emb (ix2 R l) = ix2 (⟨512 * (t.val % 32) + R.val, by omega⟩ : Fin 16384)
      (⟨128 * (t.val / 32) + l.val, by have := pair_lt t; omega⟩ : Fin 2048) := by
  have e0 : win0_6.index t (0 : Fin 2) = t.val % 32 := by have := idx_facts t; tauto
  have e1 : win0_6.index t (1 : Fin 2) = t.val / 32 := by have := idx_facts t; tauto
  funext a
  refine Fin.ext ?_
  match a with
  | ⟨0, _⟩ => show win0_6.index t (0 : Fin 2) * 512 + 1 * R.val = 512 * (t.val % 32) + R.val; rw [e0]; omega
  | ⟨1, _⟩ => show win0_6.index t (1 : Fin 2) * 128 + 1 * l.val = 128 * (t.val / 32) + l.val; rw [e1]; omega

/-- The chunk of the sequence that chunk `n` of point `t`'s row block is. -/
def chunk (t : Fin cfg0.N) (n : Fin 8) : Fin 256 := ⟨8 * (t.val % 32) + n.val, by omega⟩

/-- The head that lane `l` of point `t`'s pair belongs to. -/
def head (t : Fin cfg0.N) (l : Fin 128) : Fin 32 := ⟨2 * (t.val / 32) + l.val / 64, by have := pair_lt t; omega⟩

/-- The block point `t` computes, query by query. -/
theorem row_eq (hpre : Cert.Pre_KernelIdeal_scores_finite m) (c : Dev nD) (t : Fin cfg0.N) (n : Fin 8) (r : Fin 64) (l : Fin 128) :
    AttnBlock.row (t.val % 32) (iblk m c 0 t) (iblk m c 1 t) (iblk m c 2 t) (iblk m c 3 t) (iblk m c 4 t) (iblk m c 5 t) n r l
      = Soft.soft (AttnRef.s (m ((c : Thread nD τ).loc main_arg0)) (m ((c : Thread nD τ).loc main_arg1)) (chunk t n) (head t l) r)
        fun j => AttnRef.val (m ((c : Thread nD τ).loc main_arg0)) (chunk t n) j (head t l) ⟨l.val % 64, by omega⟩ := by
  have hi : t.val % 32 < 32 := by omega
  have hp := pair_lt t
  -- the keys and the values of the window
  have hkey (j : Fin 576) (hj : 512 ≤ 64 * (chunk t n).val + j.val) (d : Fin 64) :
      AttnRef.key (m ((c : Thread nD τ).loc main_arg0)) (chunk t n) j (head t l) d = m ((c : Thread nD τ).loc main_arg0)
        (ix2 (⟨512 * (t.val % 32) + (64 * n.val + j.val) - 512, by omega⟩ : Fin 16384) (gcol 1 (head t l) d)) :=
    AttnRef.k_pad _ _ _ (by
      have hj' : 512 ≤ 64 * (8 * (t.val % 32) + n.val) + j.val := hj
      show 64 * (8 * (t.val % 32) + n.val) + j.val = 512 + (512 * (t.val % 32) + (64 * n.val + j.val) - 512); omega) _ _
  have hval (j : Fin 576) (hj : 512 ≤ 64 * (chunk t n).val + j.val) (d : Fin 64) :
      AttnRef.val (m ((c : Thread nD τ).loc main_arg0)) (chunk t n) j (head t l) d = m ((c : Thread nD τ).loc main_arg0)
        (ix2 (⟨512 * (t.val % 32) + (64 * n.val + j.val) - 512, by omega⟩ : Fin 16384) (gcol 2 (head t l) d)) :=
    AttnRef.v_pad _ _ _ (by
      have hj' : 512 ≤ 64 * (8 * (t.val % 32) + n.val) + j.val := hj
      show 64 * (8 * (t.val % 32) + n.val) + j.val = 512 + (512 * (t.val % 32) + (64 * n.val + j.val) - 512); omega) _ _
  unfold AttnBlock.row
  rw [funext (AttnRef.s_eq _ _ (chunk t n) (head t l) r)]
  refine Masked.soft_eq _ _ (fun j => ?_) _ _ _ _ (fun j hj => ?_) (fun j hj => ?_) (fun j hj => ?_) ⟨575, by omega⟩ ?_
  · show 512 ≤ 512 * (t.val % 32) + 64 * n.val + j.val ↔ 512 ≤ 64 * (8 * (t.val % 32) + n.val) + j.val
    omega
  · have hj' : 512 ≤ 64 * (8 * (t.val % 32) + n.val) + j.val := hj
    unfold CachedBlock.score
    refine congrArg₂ (· + · : EReal → EReal → EReal) (congrArg (· * _ : EReal → EReal) (Finset.sum_congr rfl fun d _ => ?_)) ?_
    · refine congrArg₂ (· * · : EReal → EReal → EReal) ?_ ?_
      · refine (blk_q m c t _ _).trans (congrArg _ (congrArg₂ ix2 (Fin.ext ?_) (Fin.ext ?_)))
        · show 512 * (t.val % 32) + (64 * n.val + r.val) = 64 * (8 * (t.val % 32) + n.val) + r.val; omega
        · show 0 + 128 * (t.val / 32) + (64 * (l.val / 64) + d.val) = 2048 * 0 + 64 * (2 * (t.val / 32) + l.val / 64) + d.val; omega
      · rw [hkey j hj d]
        refine (key_two m c t _ (by show 512 ≤ 512 * (t.val % 32) + (64 * n.val + j.val); omega) _).trans
          (congrArg _ (congrArg (ix2 _ ·) (Fin.ext ?_)))
        show 2048 + 128 * (t.val / 32) + (64 * (l.val / 64) + d.val) = 2048 * 1 + 64 * (2 * (t.val / 32) + l.val / 64) + d.val; omega
    · exact blk_b m c t ⟨l.val / 64, by omega⟩ r j
  · have hj' : 512 ≤ 64 * (8 * (t.val % 32) + n.val) + j.val := hj
    rw [hval j hj]
    refine (val_two m c t _ (by show 512 ≤ 512 * (t.val % 32) + (64 * n.val + j.val); omega) _).trans
      (congrArg _ (congrArg (ix2 _ ·) (Fin.ext ?_)))
    show 4096 + 128 * (t.val / 32) + l.val = 2048 * 2 + 64 * (2 * (t.val / 32) + l.val / 64) + l.val % 64; omega
  · refine Masked.score_finite _ _ _ _ (fun d => qk_number m hpre c _ _ ?_) (fun d => ?_) scale_number (bias_number m hpre c _)
    · show 2048 * 0 + 64 * (2 * (t.val / 32) + l.val / 64) + d.val < 4096; omega
    · rw [hkey j hj d]
      exact qk_number m hpre c _ _ (by show 2048 * 1 + 64 * (2 * (t.val / 32) + l.val / 64) + d.val < 4096; omega)
  · show 512 ≤ 64 * (8 * (t.val % 32) + n.val) + 575; omega

/-- What point `t` writes back is its block of that array. -/
theorem flushed_eq (hpre : Cert.Pre_KernelIdeal_scores_finite m) (c : Dev nD) (t : Fin cfg0.N) (_ : (cfg0.win 6).flush t = true) :
    (dats m 0 c).flushed 6 t = ((cfg0.win 6).blk t).view.read (Elt Ideal) (G m c) := by
  rw [Value.flushed6_A, pieces]
  funext y
  obtain ⟨R, l, rfl⟩ := Common.exists_ix2 (M := 512) (N := 128) y
  rw [View.read_apply, emb_out t R l]
  have hi : (grid0.coords t 1).val = t.val % 32 := by have := idx_facts t; tauto
  have hp := pair_lt t
  show AttnBlock.whole (grid0.coords t 1).val _ _ _ _ _ _ (ix2 R l) = _
  rw [hi]
  obtain ⟨n, r, hR⟩ : ∃ (n : Fin 8) (r : Fin 64), 64 * n.val + r.val = R.val := ⟨⟨R.val / 64, by omega⟩, ⟨R.val % 64, by omega⟩, by
    show 64 * (R.val / 64) + R.val % 64 = R.val; omega⟩
  have eR : R = ⟨64 * n.val + r.val, by omega⟩ := Fin.ext hR.symm
  rw [eR, AttnBlock.whole_apply, row_eq m hpre c t n r l]
  have e : ix2 (⟨512 * (t.val % 32) + (64 * n.val + r.val), by omega⟩ : Fin 16384) (⟨128 * (t.val / 32) + l.val, by omega⟩ : Fin 2048)
      = ix2 (crow (chunk t n) r) (⟨128 * (t.val / 32) + l.val, by omega⟩ : Fin 2048) := by
    refine congrArg (ix2 · _) (Fin.ext ?_)
    show 512 * (t.val % 32) + (64 * n.val + r.val) = 64 * (8 * (t.val % 32) + n.val) + r.val; omega
  refine ((congrArg (G m c) e).trans (AttnRef.out_eq _ _ (chunk t n) (head t l) r ⟨l.val % 64, by omega⟩ _ ?_)).symm
  show 128 * (t.val / 32) + l.val = 64 * (2 * (t.val / 32) + l.val / 64) + l.val % 64; omega

/-- Every index lies in the block some point writes back. -/
theorem covered (i : S16384x2048.Idx) : ∃ t : Fin cfg0.N, (cfg0.win 6).flush t = true ∧ i ∈ ((cfg0.win 6).blk t).view.set := by
  have h0 : (i 0).val < 16384 := (i 0).isLt
  have h1 : (i 1).val < 2048 := (i 1).isLt
  have hN : cfg0.N = 512 := N_0
  obtain ⟨t, ht⟩ : ∃ t : Fin cfg0.N, t.val = (i 1).val / 128 * 32 + (i 0).val / 512 := ⟨⟨_, by omega⟩, rfl⟩
  refine ⟨t, (by decide +kernel : ∀ t : Fin grid0.N, win0_6.flush t = true) t, ?_⟩
  show i ∈ ((View.whole main_v19).slice (win0_6.rect t)).set
  rw [View.set_slice_whole, Rect.mem_set_unit]
  have e0 : win0_6.index t (0 : Fin 2) = t.val % 32 := by have := idx_facts t; tauto
  have e1 : win0_6.index t (1 : Fin 2) = t.val / 32 := by have := idx_facts t; tauto
  intro a
  match a with
  | ⟨0, _⟩ =>
    show win0_6.index t (0 : Fin 2) * 512 ≤ (i 0).val ∧ (i 0).val < win0_6.index t (0 : Fin 2) * 512 + 512
    rw [e0]; omega
  | ⟨1, _⟩ =>
    show win0_6.index t (1 : Fin 2) * 128 ≤ (i 1).val ∧ (i 1).val < win0_6.index t (1 : Fin 2) * 128 + 128
    rw [e1]; omega

/-- The array after the run is the reference's value. -/
theorem final (hpre : Cert.Pre_KernelIdeal_scores_finite m) (c : Dev nD) : (dats m 0 c).arrAt 6 cfg0.N = G m c :=
  (dats m 0 c).arrAt_eq_of_cover 6 (G m c) (flushed_eq m hpre c) covered

/-- The kernel's run and the reference's end with the same array and leave the arguments unchanged. -/
theorem algebraic : Cert.algebraic_KernelIdeal_ReferenceIdeal_pre_scores_finite := fun m ρ m' ρ' hpre hag =>
  ⟨fun c => G m c,
    (θ_run _ _ _).mono (fun _ h c => ⟨(h c).1.trans (final m hpre c), (h c).2⟩) (Value.run_blocks m ρ),
    (θ_run _ _ _).mono (fun _ h c => ⟨(h c).1.trans (by
        rw [Cert.ReferenceIdeal.Read.val_main_v89_eq, (hag c).1, (hag c).2]), (h c).2⟩)
      (Cert.ReferenceIdeal.Value.run m' ρ')⟩

end Cert.AttnValue

end
-- ==== Proof.CachedRef.lean ====
/- The cached attention's reference read at one entry: a head's softmax over 512 cached and 16 new keys. -/
module

public import proofs.«01_k».proof.Proof.Soft
public import Idealize.ShloMosaic.Lib.KernelVsHost
public import proofs.«01_k».proof.Proof.Gen.ReferenceCachedIdeal.Read

@[expose] public section

set_option maxRecDepth 16384

noncomputable section

namespace Cert.CachedRef

open Cert.ReferenceCachedIdeal Cert.ReferenceCachedIdeal.Gen Cert.ReferenceCachedIdeal.Read
open Idealize.ShloMosaic Idealize.ShloMosaic.ValueIdx
open scoped BigOperators

variable (x0 : S128x6144.Idx → EReal) (x1 x2 : S8x512x32x64.Idx → EReal) (x3 : S32x257.Idx → EReal)

/-- The row of the whole array that row `r` of sequence `b` is. -/
abbrev grow (b : Fin 8) (r : Fin 16) : Fin 128 := ⟨16 * b.val + r.val, by omega⟩

/-- The column of part `p` (queries, keys, values) that entry `d` of head `h` is. -/
abbrev gcol (p : Fin 3) (h : Fin 32) (d : Fin 64) : Fin 6144 := ⟨2048 * p.val + 64 * h.val + d.val, by omega⟩

/-- The array of rows seen as sequences, parts and heads. -/
theorem v0_at (b : Fin 8) (r : Fin 16) (p : Fin 3) (h : Fin 32) (d : Fin 64) :
    val_main_v0 (F := Ideal) x0 (ix5 b r p h d) = x0 (ix2 (grow b r) (gcol p h d)) := by
  rw [val_main_v0_apply]
  refine congrArg x0 (funext fun a => Fin.ext ?_)
  match a with
  | ⟨0, _⟩ => show ((((b.val * 16 + r.val) * 3 + p.val) * 32 + h.val) * 64 + d.val) / 6144 = 16 * b.val + r.val; omega
  | ⟨1, _⟩ => show ((((b.val * 16 + r.val) * 3 + p.val) * 32 + h.val) * 64 + d.val) % 6144 = 2048 * p.val + 64 * h.val + d.val; omega

/-- A query entry. -/
theorem q_at (b : Fin 8) (r : Fin 16) (h : Fin 32) (d : Fin 64) :
    val_main_v2 (F := Ideal) x0 (ix4 b r h d) = x0 (ix2 (grow b r) (gcol 0 h d)) := by
  rw [val_main_v2_apply, val_main_v1_apply, ← v0_at x0 b r 0 h d]
  refine congrArg _ (funext fun a => Fin.ext ?_)
  match a with
  | ⟨0, _⟩ => show (((b.val * 16 + r.val) * 32 + h.val) * 64 + d.val) / 32768 = b.val; omega
  | ⟨1, _⟩ => show (((b.val * 16 + r.val) * 32 + h.val) * 64 + d.val) / 2048 % 16 = r.val; omega
  | ⟨2, _⟩ => rfl
  | ⟨3, _⟩ => show (((b.val * 16 + r.val) * 32 + h.val) * 64 + d.val) / 64 % 32 = h.val; omega
  | ⟨4, _⟩ => show (((b.val * 16 + r.val) * 32 + h.val) * 64 + d.val) % 64 = d.val; omega

/-- A new key's entry. -/
theorem k_at (b : Fin 8) (r : Fin 16) (h : Fin 32) (d : Fin 64) :
    val_main_v4 (F := Ideal) x0 (ix4 b r h d) = x0 (ix2 (grow b r) (gcol 1 h d)) := by
  rw [val_main_v4_apply, val_main_v3_apply, ← v0_at x0 b r 1 h d]
  refine congrArg _ (funext fun a => Fin.ext ?_)
  match a with
  | ⟨0, _⟩ => show (((b.val * 16 + r.val) * 32 + h.val) * 64 + d.val) / 32768 = b.val; omega
  | ⟨1, _⟩ => show (((b.val * 16 + r.val) * 32 + h.val) * 64 + d.val) / 2048 % 16 = r.val; omega
  | ⟨2, _⟩ => rfl
  | ⟨3, _⟩ => show (((b.val * 16 + r.val) * 32 + h.val) * 64 + d.val) / 64 % 32 = h.val; omega
  | ⟨4, _⟩ => show (((b.val * 16 + r.val) * 32 + h.val) * 64 + d.val) % 64 = d.val; omega

/-- A new value's entry. -/
theorem v_at (b : Fin 8) (r : Fin 16) (h : Fin 32) (d : Fin 64) :
    val_main_v6 (F := Ideal) x0 (ix4 b r h d) = x0 (ix2 (grow b r) (gcol 2 h d)) := by
  rw [val_main_v6_apply, val_main_v5_apply, ← v0_at x0 b r 2 h d]
  refine congrArg _ (funext fun a => Fin.ext ?_)
  match a with
  | ⟨0, _⟩ => show (((b.val * 16 + r.val) * 32 + h.val) * 64 + d.val) / 32768 = b.val; omega
  | ⟨1, _⟩ => show (((b.val * 16 + r.val) * 32 + h.val) * 64 + d.val) / 2048 % 16 = r.val; omega
  | ⟨2, _⟩ => rfl
  | ⟨3, _⟩ => show (((b.val * 16 + r.val) * 32 + h.val) * 64 + d.val) / 64 % 32 = h.val; omega
  | ⟨4, _⟩ => show (((b.val * 16 + r.val) * 32 + h.val) * 64 + d.val) % 64 = d.val; omega

/-- The first 512 of the rows laid end to end are the cached ones. -/
theorem cat_cached (x : S8x512x32x64.Idx → EReal) (y : S8x16x32x64.Idx → EReal) (b : Fin 8) (j : Fin 512) (h : Fin 32) (d : Fin 64) :
    concatenate S8x528x32x64 1 [⟨S8x512x32x64, x⟩, ⟨S8x16x32x64, y⟩] concatenates_S8x512x32x64_S8x16x32x64_S8x528x32x64_d1
      (ix4 b (Fin.castAdd 16 j : Fin (512 + 16)) h d) = x (ix4 b j h d) :=
  concatenate_pair_apply_left (t := S8x528x32x64) (s₁ := S8x512x32x64) (s₂ := S8x16x32x64) (1 : Fin 4) x y
    concatenates_S8x512x32x64_S8x16x32x64_S8x528x32x64_d1 (ix4 b (Fin.castAdd 16 j : Fin (512 + 16)) h d) rfl (ix4 b j h d)
    (fun a => match a with | ⟨0, _⟩ => rfl | ⟨1, _⟩ => rfl | ⟨2, _⟩ => rfl | ⟨3, _⟩ => rfl)

/-- The last 16 are the new ones. -/
theorem cat_new (x : S8x512x32x64.Idx → EReal) (y : S8x16x32x64.Idx → EReal) (b : Fin 8) (j : Fin 16) (h : Fin 32) (d : Fin 64) :
    concatenate S8x528x32x64 1 [⟨S8x512x32x64, x⟩, ⟨S8x16x32x64, y⟩] concatenates_S8x512x32x64_S8x16x32x64_S8x528x32x64_d1
      (ix4 b (Fin.natAdd 512 j : Fin (512 + 16)) h d) = y (ix4 b j h d) :=
  concatenate_pair_apply_right (t := S8x528x32x64) (s₁ := S8x512x32x64) (s₂ := S8x16x32x64) (1 : Fin 4) x y
    concatenates_S8x512x32x64_S8x16x32x64_S8x528x32x64_d1 (ix4 b (Fin.natAdd 512 j : Fin (512 + 16)) h d) rfl rfl (ix4 b j h d)
    (fun a ha => match a with | ⟨0, _⟩ => rfl | ⟨1, _⟩ => absurd rfl ha | ⟨2, _⟩ => rfl | ⟨3, _⟩ => rfl)
    (by show (j.val + 512 : ℕ) = 512 + j.val; omega)

/-- The scores of a row against all 528 keys. -/
abbrev s (b : Fin 8) (h : Fin 32) (r : Fin 16) (j : Fin (512 + 16)) : EReal := val_main_v33 (F := Ideal) x0 x1 x3 (ix4 b h r j)

/-- A score: the scaled product with the key, and the bias. -/
theorem s_eq (b : Fin 8) (h : Fin 32) (r : Fin 16) (j : Fin (512 + 16)) :
    s x0 x1 x3 b h r j = (∑ d : Fin 64, x0 (ix2 (grow b r) (gcol 0 h d)) * val_main_v7 (F := Ideal) x0 x1 (ix4 b j h d))
      * Ideal.ofBits .f32 0x3E000000#32 + val_main_v27 (F := Ideal) x3 (ix3 h r j) := by
  unfold s
  rw [val_main_v33_apply, val_main_v30_apply, val_main_v28_apply, val_main_v29_apply, val_main_v32_apply, val_main_v31_apply]
  refine congrArg₂ (· + · : EReal → EReal → EReal) (congrArg (· * _ : EReal → EReal) ?_) ?_
  · refine Finset.sum_congr rfl fun d _ => congrArg₂ (· * · : EReal → EReal → EReal) ?_ ?_
    · rw [← q_at x0 b r h d]
      exact congrArg _ (funext fun a => Fin.ext (match a with | ⟨0, _⟩ => rfl | ⟨1, _⟩ => rfl | ⟨2, _⟩ => rfl | ⟨3, _⟩ => rfl))
    · exact congrArg _ (funext fun a => Fin.ext (match a with | ⟨0, _⟩ => rfl | ⟨1, _⟩ => rfl | ⟨2, _⟩ => rfl | ⟨3, _⟩ => rfl))
  · exact congrArg _ (funext fun a => Fin.ext (match a with | ⟨0, _⟩ => rfl | ⟨1, _⟩ => rfl | ⟨2, _⟩ => rfl))

/-- The largest score of a row. -/
theorem top_eq (b : Fin 8) (h : Fin 32) (r : Fin 16) :
    val_main_v36 (F := Ideal) x0 x1 x3 (ix3 b h r) = Soft.top (s x0 x1 x3 b h r) := by
  rw [val_main_v36_apply, val_main_v35_apply, ← Soft.max_top (s x0 x1 x3 b h r)]
  refine congrArg (max (Ideal.ofBits .f32 0xFF800000#32)) ?_
  have hr : S8x32x16x528.Reduces [3] S8x32x16 := by decide
  unfold val_main_v34
  refine (congrFun (hostReduce_maximumf_eq_multiReduction (F := Ideal) (φ := .f32) (val_main_v33 (F := Ideal) x0 x1 x3) 0xFF800000#32
    reducesTo_S8x32x16x528_S8x32x16_d3 h_S_ hr (.inl rfl) rfl) (ix3 b h r)).trans ?_
  refine (Ideal.multiReduction_maximumf_single _ _ hr (.inl rfl) rfl (ix3 b h r)).trans ?_
  refine congrArg (Finset.fold max _ · Finset.univ) (funext fun l => congrArg (val_main_v33 (F := Ideal) x0 x1 x3) (?_ : hr.lift (ix3 b h r) l = ix4 b h r l))
  funext a; match a with | ⟨0, _⟩ => rfl | ⟨1, _⟩ => rfl | ⟨2, _⟩ => rfl | ⟨3, _⟩ => rfl

/-- The exponential of a score less the largest. -/
theorem e_eq (b : Fin 8) (h : Fin 32) (r : Fin 16) (j : Fin (512 + 16)) :
    val_main_v40 (F := Ideal) x0 x1 x3 (ix4 b h r j) = Ideal.exp (s x0 x1 x3 b h r j - Soft.top (s x0 x1 x3 b h r)) := by
  rw [val_main_v40_apply, val_main_v39_apply, val_main_v38_apply, val_main_v37_apply, ← top_eq]
  refine congrArg (fun z : EReal => Ideal.exp (s x0 x1 x3 b h r j - z)) ?_
  exact congrArg _ (funext fun a => Fin.ext (match a with | ⟨0, _⟩ => rfl | ⟨1, _⟩ => rfl | ⟨2, _⟩ => rfl))

/-- A weight of a row. -/
theorem w_eq (b : Fin 8) (h : Fin 32) (r : Fin 16) (j : Fin (512 + 16)) :
    val_main_v44 (F := Ideal) x0 x1 x3 (ix4 b h r j) = Soft.weight (s x0 x1 x3 b h r) j := by
  rw [val_main_v44_apply, val_main_v43_apply, val_main_v42_apply, val_main_v41_apply]
  have hz : val_main_cst_7 (F := Ideal) (Shape.Idx.first h_S_) = 0 := Ideal.ofBits_zero_f32
  rw [hz, zero_add]
  refine congrArg₂ Ideal.div (e_eq x0 x1 x3 b h r j) (Finset.sum_congr rfl fun k _ => ?_)
  refine Eq.trans (congrArg _ ?_) (e_eq x0 x1 x3 b h r k)
  funext a; match a with | ⟨0, _⟩ => rfl | ⟨1, _⟩ => rfl | ⟨2, _⟩ => rfl | ⟨3, _⟩ => rfl

/-- The result at row `r` of sequence `b` and entry `d` of head `h`. -/
theorem out_eq (b : Fin 8) (h : Fin 32) (r : Fin 16) (d : Fin 64) (C : Fin 2048) (hC : C.val = 64 * h.val + d.val) :
    val_main_v47 (F := Ideal) x0 x1 x2 x3 (ix2 (grow b r) C)
      = Soft.soft (s x0 x1 x3 b h r) fun j => val_main_v8 (F := Ideal) x0 x2 (ix4 b j h d) := by
  rw [val_main_v47_apply, val_main_v46_apply, val_main_v45_apply]
  refine Finset.sum_congr rfl fun j _ => (mul_comm _ _).trans (congrArg₂ (· * · : EReal → EReal → EReal) ?_ ?_)
  · rw [← w_eq]
    refine congrArg _ (funext fun a => Fin.ext ?_)
    match a with
    | ⟨0, _⟩ => show ((16 * b.val + r.val) * 2048 + C.val) / 32768 = b.val; omega
    | ⟨1, _⟩ => show ((16 * b.val + r.val) * 2048 + C.val) / 64 % 32 = h.val; omega
    | ⟨2, _⟩ => show ((16 * b.val + r.val) * 2048 + C.val) / 2048 % 16 = r.val; omega
    | ⟨3, _⟩ => rfl
  · refine congrArg _ (funext fun a => Fin.ext ?_)
    match a with
    | ⟨0, _⟩ => show ((16 * b.val + r.val) * 2048 + C.val) / 32768 = b.val; omega
    | ⟨1, _⟩ => rfl
    | ⟨2, _⟩ => show ((16 * b.val + r.val) * 2048 + C.val) / 64 % 32 = h.val; omega
    | ⟨3, _⟩ => show ((16 * b.val + r.val) * 2048 + C.val) % 64 = d.val; omega

/-- The same, the cached and the new keys apart. -/
theorem out_two (b : Fin 8) (h : Fin 32) (r : Fin 16) (d : Fin 64) (C : Fin 2048) (hC : C.val = 64 * h.val + d.val) :
    val_main_v47 (F := Ideal) x0 x1 x2 x3 (ix2 (grow b r) C) = Soft.soft2
      (fun j : Fin 512 => (∑ e : Fin 64, x0 (ix2 (grow b r) (gcol 0 h e)) * x1 (ix4 b j h e)) * Ideal.ofBits .f32 0x3E000000#32
        + val_main_v27 (F := Ideal) x3 (ix3 h r (⟨j.val, by omega⟩ : Fin 528)))
      (fun j => x2 (ix4 b j h d))
      (fun j : Fin 16 => (∑ e : Fin 64, x0 (ix2 (grow b r) (gcol 0 h e)) * x0 (ix2 (grow b j) (gcol 1 h e))) * Ideal.ofBits .f32 0x3E000000#32
        + val_main_v27 (F := Ideal) x3 (ix3 h r (⟨512 + j.val, by omega⟩ : Fin 528)))
      (fun j => x0 (ix2 (grow b j) (gcol 2 h d))) := by
  rw [out_eq x0 x1 x2 x3 b h r d C hC, Soft.soft_add]
  congr 1
  · funext j
    rw [s_eq]
    refine congrArg₂ (· + · : EReal → EReal → EReal) (congrArg (· * _ : EReal → EReal) (Finset.sum_congr rfl fun e _ =>
      congrArg (_ * · : EReal → EReal) (cat_cached x1 _ b j h e))) rfl
  · funext j
    exact cat_cached x2 _ b j h d
  · funext j
    rw [s_eq]
    refine congrArg₂ (· + · : EReal → EReal → EReal) (congrArg (· * _ : EReal → EReal) (Finset.sum_congr rfl fun e _ =>
      congrArg (_ * · : EReal → EReal) ((cat_new x1 _ b j h e).trans (k_at x0 b j h e)))) rfl
  · funext j
    exact (cat_new x2 _ b j h d).trans (v_at x0 b j h d)

end Cert.CachedRef

end
-- ==== Proof.Cached.lean ====
/- The cached attention: the array after the run is the reference's, every head's softmax over its cached and new keys. -/
module

public import proofs.«01_k».proof.Defs
public import proofs.«01_k».proof.Proof.Common
public import proofs.«01_k».proof.Proof.CachedBlock
public import proofs.«01_k».proof.Proof.CachedRef

@[expose] public section

set_option maxRecDepth 16384

noncomputable section

namespace Cert.CachedValue

open Cert.KernelCachedIdeal Cert.KernelCachedIdeal.Gen Idealize.ShloMosaic Idealize.ShloMosaic.TcCoe Idealize.SL.Sem
open Idealize.ShloMosaic.Pipeline (Dat)
open Idealize.ShloMosaic.ValueIdx
open Cert.CachedRef (grow gcol)
open Cert.CachedBlock (score)
open scoped BigOperators

variable (m : (ℓ : Loc nD τ sig) → Buf (Elt Ideal) ℓ) (ρ : Dev nD → PrngReg)

/-- Head `h`'s bias rows against the cached keys, loaded from the pair's block. -/
theorem ld_bc (u : Vec Ideal S2x16x512 .f32) (h : Fin 2) (o : ℕ) (ho : o = h.val)
    (hb : ∀ a, (![o, 0, 0] : Fin 3 → ℕ) a + S1x16x512.size a ≤ S2x16x512.size a) (r : Fin 16) (j : Fin 512) :
    View.ld u (Rect.unit (s := S2x16x512) ![o, 0, 0] S1x16x512.size hb) (ix3 0 r j) = u (ix3 h r j) := by
  subst ho
  show u _ = u _
  refine congrArg u (funext fun a => Fin.ext ?_)
  match a with
  | ⟨0, _⟩ => show h.val + 1 * 0 = h.val; omega
  | ⟨1, _⟩ => show 0 + 1 * r.val = r.val; omega
  | ⟨2, _⟩ => show 0 + 1 * j.val = j.val; omega

/-- Head `h`'s bias rows against the new keys, loaded from the pair's block. -/
theorem ld_bn (u : Vec Ideal S2x16x16 .f32) (h : Fin 2) (o : ℕ) (ho : o = h.val)
    (hb : ∀ a, (![o, 0, 0] : Fin 3 → ℕ) a + S1x16x16.size a ≤ S2x16x16.size a) (r : Fin 16) (j : Fin 16) :
    View.ld u (Rect.unit (s := S2x16x16) ![o, 0, 0] S1x16x16.size hb) (ix3 0 r j) = u (ix3 h r j) := by
  subst ho
  show u _ = u _
  refine congrArg u (funext fun a => Fin.ext ?_)
  match a with
  | ⟨0, _⟩ => show h.val + 1 * 0 = h.val; omega
  | ⟨1, _⟩ => show 0 + 1 * r.val = r.val; omega
  | ⟨2, _⟩ => show 0 + 1 * j.val = j.val; omega

/-- Half `h`'s value at row `r` and lane `l`, from the blocks. -/
def half (x0 x1 x2 : S16x128.Idx → EReal) (x3 x4 : S1x512x128.Idx → EReal) (x5 : S2x16x512.Idx → EReal) (x6 : S2x16x16.Idx → EReal)
    (h : Fin 2) (r : Fin 16) (l : Fin 128) : EReal :=
  Soft.soft2 (fun j => score (64 * h.val) (by omega) (fun d => x0 (ix2 r d)) (fun d => x3 (ix3 0 j d)) (x5 (ix3 h r j)))
    (fun j => x4 (ix3 0 j l))
    (fun j => score (64 * h.val) (by omega) (fun d => x0 (ix2 r d)) (fun d => x1 (ix2 j d)) (x6 (ix3 h r j)))
    (fun j => x2 (ix2 j l))

/-- The kernel's row maximum against the cached keys, first half. -/
theorem row_top0 (x0 : Vec Ideal S16x128 .f32) (x3 : Vec Ideal S1x512x128 .f32) (b : Vec Ideal S1x16x512 .f32) (r : Fin 16) :
    k0_pay9 x0 x3 b (ix2 r 0) = Soft.top fun j : Fin 512 => k0_pay7 x0 x3 b (ix2 r j) := by
  unfold k0_pay9
  exact (Soft.stand _ _ r).trans (Soft.rowmax _ _ _ _ r)

/-- The kernel's row maximum against the cached keys, second half. -/
theorem row_top1 (x0 : Vec Ideal S16x128 .f32) (k : FVec Ideal S512x128 .f32) (mk : IVec S16x128 1) (b : Vec Ideal S1x16x512 .f32)
    (r : Fin 16) : k0_pay14 x0 k mk b (ix1 r) = Soft.top fun j : Fin 512 => k0_pay12 x0 k mk b (ix2 r j) := by
  unfold k0_pay14
  exact Soft.rowmax _ _ _ _ r

/-- The block a grid point leaves, entry by entry. -/
theorem out_apply (x0 x1 x2 : Vec Ideal S16x128 .f32) (x3 x4 : Vec Ideal S1x512x128 .f32) (x5 : Vec Ideal S2x16x512 .f32)
    (x6 : Vec Ideal S2x16x16 .f32) (h : Fin 2) (r : Fin 16) (l : Fin 128) (hl : l.val / 64 = h.val) :
    out0_7 x0 x1 x2 x3 x4 x5 x6 (ix2 r l) = half x0 x1 x2 x3 x4 x5 x6 h r l := by
  unfold_out out0_7
  rw [View.canon_unit_zero Common.off2]
  simp only [View.ld_unit_zero (S := S16x128) Common.off2, View.ld_unit_zero (S := S1x512x128) Common.off3]
  rw [CachedBlock.pay1_eq]
  show Scalar.select (k0_pay2 (ix2 r l)) _ _ = _
  rw [CachedBlock.mask_apply]
  unfold half
  by_cases hl64 : l.val < 64
  · obtain rfl : h = 0 := Fin.ext (by show h.val = 0; omega)
    rw [if_pos hl64]
    refine (CachedBlock.pay10_apply _ _ _ _ _ r l (row_top0 x0 x3 _ r)).trans ?_
    congr 1
    · funext j
      exact (CachedBlock.pay7_apply _ _ _ r j).trans (congrArg (score 0 _ _ _) (ld_bc x5 0 0 rfl _ r j))
    · funext j
      exact Soft.flat x4 _ j l
    · funext j
      exact (CachedBlock.pay8_apply _ _ _ r j).trans (congrArg (score 0 _ _ _) (ld_bn x6 0 0 rfl _ r j))
  · obtain rfl : h = 1 := Fin.ext (by show h.val = 1; omega)
    rw [if_neg hl64]
    refine (CachedBlock.pay10_apply _ _ _ _ _ r l ((Soft.stand _ _ r).trans (row_top1 x0 _ _ _ r))).trans ?_
    congr 1
    · funext j
      exact (CachedBlock.pay12_apply _ _ _ r j).trans (congrArg (score 64 _ _ _) (ld_bc x5 1 1 rfl _ r j))
    · funext j
      exact Soft.flat x4 _ j l
    · funext j
      exact (CachedBlock.pay13_apply _ _ _ r j).trans (congrArg (score 64 _ _ _) (ld_bn x6 1 1 rfl _ r j))

/-- Point `t` works on sequence `t / 16` and head pair `t % 16`. -/
theorem idx_facts : ∀ t : Fin cfg0.N,
    win0_0.index t (0 : Fin 2) = t.val / 16 ∧ win0_0.index t (1 : Fin 2) = t.val % 16
    ∧ win0_1.index t (0 : Fin 2) = t.val / 16 ∧ win0_1.index t (1 : Fin 2) = 16 + t.val % 16
    ∧ win0_2.index t (0 : Fin 2) = t.val / 16 ∧ win0_2.index t (1 : Fin 2) = 32 + t.val % 16
    ∧ win0_3.index t (0 : Fin 3) = t.val / 16 ∧ win0_3.index t (1 : Fin 3) = 0 ∧ win0_3.index t (2 : Fin 3) = t.val % 16
    ∧ win0_4.index t (0 : Fin 3) = t.val / 16 ∧ win0_4.index t (1 : Fin 3) = 0 ∧ win0_4.index t (2 : Fin 3) = t.val % 16
    ∧ win0_5.index t (0 : Fin 3) = t.val % 16 ∧ win0_5.index t (1 : Fin 3) = 0 ∧ win0_5.index t (2 : Fin 3) = 0
    ∧ win0_6.index t (0 : Fin 3) = t.val % 16 ∧ win0_6.index t (1 : Fin 3) = 0 ∧ win0_6.index t (2 : Fin 3) = 0
    ∧ win0_7.index t (0 : Fin 2) = t.val / 16 ∧ win0_7.index t (1 : Fin 2) = t.val % 16 :=
  (by decide +kernel : ∀ t : Fin grid0.N, _)

/-- The sequence of point `t`. -/
def seq (t : Fin cfg0.N) : Fin 8 := ⟨t.val / 16, by have := t.isLt; have : cfg0.N = 128 := N_0; omega⟩

/-- The head that half `h` of point `t`'s pair is. -/
def head (t : Fin cfg0.N) (h : Fin 2) : Fin 32 := ⟨2 * (t.val % 16) + h.val, by omega⟩

/-- Lane `l` of the pair: entry `l % 64` of a head. -/
def ent (l : Fin 128) : Fin 64 := ⟨l.val % 64, by omega⟩

/-- The queries at point `t`. -/
theorem blk_q (c : Dev nD) (t : Fin cfg0.N) (h : Fin 2) (r : Fin 16) (l : Fin 128) (hl : l.val / 64 = h.val) :
    iblk m c 0 t (ix2 r l) = m ((c : Thread nD τ).loc main_arg0) (ix2 (grow (seq t) r) (gcol 0 (head t h) (ent l))) := by
  unfold iblk
  rw [View.read_apply]
  show V m c main_arg0 _ = _
  rw [V_main_arg0]
  have e0 : win0_0.index t (0 : Fin 2) = t.val / 16 := by have := idx_facts t; tauto
  have e1 : win0_0.index t (1 : Fin 2) = t.val % 16 := by have := idx_facts t; tauto
  refine congrArg _ (funext fun a => Fin.ext ?_)
  match a with
  | ⟨0, _⟩ => show win0_0.index t (0 : Fin 2) * 16 + 1 * r.val = 16 * (t.val / 16) + r.val; rw [e0]; omega
  | ⟨1, _⟩ => show win0_0.index t (1 : Fin 2) * 128 + 1 * l.val = 2048 * 0 + 64 * (2 * (t.val % 16) + h.val) + l.val % 64; rw [e1]; omega

/-- The new keys at point `t`. -/
theorem blk_kn (c : Dev nD) (t : Fin cfg0.N) (h : Fin 2) (r : Fin 16) (l : Fin 128) (hl : l.val / 64 = h.val) :
    iblk m c 1 t (ix2 r l) = m ((c : Thread nD τ).loc main_arg0) (ix2 (grow (seq t) r) (gcol 1 (head t h) (ent l))) := by
  unfold iblk
  rw [View.read_apply]
  show V m c main_arg0 _ = _
  rw [V_main_arg0]
  have e0 : win0_1.index t (0 : Fin 2) = t.val / 16 := by have := idx_facts t; tauto
  have e1 : win0_1.index t (1 : Fin 2) = 16 + t.val % 16 := by have := idx_facts t; tauto
  refine congrArg _ (funext fun a => Fin.ext ?_)
  match a with
  | ⟨0, _⟩ => show win0_1.index t (0 : Fin 2) * 16 + 1 * r.val = 16 * (t.val / 16) + r.val; rw [e0]; omega
  | ⟨1, _⟩ => show win0_1.index t (1 : Fin 2) * 128 + 1 * l.val = 2048 * 1 + 64 * (2 * (t.val % 16) + h.val) + l.val % 64; rw [e1]; omega

/-- The new values at point `t`. -/
theorem blk_vn (c : Dev nD) (t : Fin cfg0.N) (h : Fin 2) (r : Fin 16) (l : Fin 128) (hl : l.val / 64 = h.val) :
    iblk m c 2 t (ix2 r l) = m ((c : Thread nD τ).loc main_arg0) (ix2 (grow (seq t) r) (gcol 2 (head t h) (ent l))) := by
  unfold iblk
  rw [View.read_apply]
  show V m c main_arg0 _ = _
  rw [V_main_arg0]
  have e0 : win0_2.index t (0 : Fin 2) = t.val / 16 := by have := idx_facts t; tauto
  have e1 : win0_2.index t (1 : Fin 2) = 32 + t.val % 16 := by have := idx_facts t; tauto
  refine congrArg _ (funext fun a => Fin.ext ?_)
  match a with
  | ⟨0, _⟩ => show win0_2.index t (0 : Fin 2) * 16 + 1 * r.val = 16 * (t.val / 16) + r.val; rw [e0]; omega
  | ⟨1, _⟩ => show win0_2.index t (1 : Fin 2) * 128 + 1 * l.val = 2048 * 2 + 64 * (2 * (t.val % 16) + h.val) + l.val % 64; rw [e1]; omega

/-- The cached keys as the region finds them: heads side by side. -/
theorem V_kc (c : Dev nD) : V m c main_v19
    = shapeCast S8x512x2048 (m ((c : Thread nD τ).loc main_arg1)) shapeCasts_S8x512x32x64_S8x512x2048 := by
  show StableHlo.after (List.flatten [hostOps0, hostOps0_1, hostOps0_2]) (fun b => m (c, b)) main_v19 = _
  simp only [List.flatten_cons, List.flatten_nil, List.append_nil, List.cons_append, List.nil_append]
  after_results
  rfl

/-- The cached values as the region finds them. -/
theorem V_vc (c : Dev nD) : V m c main_v20
    = shapeCast S8x512x2048 (m ((c : Thread nD τ).loc main_arg2)) shapeCasts_S8x512x32x64_S8x512x2048 := by
  show StableHlo.after (List.flatten [hostOps0, hostOps0_1, hostOps0_2]) (fun b => m (c, b)) main_v20 = _
  simp only [List.flatten_cons, List.flatten_nil, List.append_nil, List.cons_append, List.nil_append]
  after_results
  rfl

/-- The bias table as the region finds it: the reference's own. -/
theorem V_bias (c : Dev nD) : V m c main_v18
    = Cert.ReferenceCachedIdeal.Read.val_main_v27 (F := Ideal) (m ((c : Thread nD τ).loc main_arg3)) := by
  show StableHlo.after (List.flatten [hostOps0, hostOps0_1, hostOps0_2]) (fun b => m (c, b)) main_v18 = _
  simp only [List.flatten_cons, List.flatten_nil, List.append_nil, List.cons_append, List.nil_append]
  after_results
  simp only [Cert.ReferenceCachedIdeal.Read.val_main_v27, Cert.ReferenceCachedIdeal.Read.val_main_v26, Cert.ReferenceCachedIdeal.Read.val_main_v25, Cert.ReferenceCachedIdeal.Read.val_main_v24, Cert.ReferenceCachedIdeal.Read.val_main_v23, Cert.ReferenceCachedIdeal.Read.val_main_v22, Cert.ReferenceCachedIdeal.Read.val_main_v21, Cert.ReferenceCachedIdeal.Read.val_main_v20, Cert.ReferenceCachedIdeal.Read.val_main_v19, Cert.ReferenceCachedIdeal.Read.val_main_v18, Cert.ReferenceCachedIdeal.Read.val_main_call0_v4, Cert.ReferenceCachedIdeal.Read.val_main_call0_v3, Cert.ReferenceCachedIdeal.Read.val_main_call0_v2, Cert.ReferenceCachedIdeal.Read.val_main_call0_v1, Cert.ReferenceCachedIdeal.Read.val_main_call0_v0, Cert.ReferenceCachedIdeal.Read.val_main_v17, Cert.ReferenceCachedIdeal.Read.val_main_v16, Cert.ReferenceCachedIdeal.Read.val_main_v15, Cert.ReferenceCachedIdeal.Read.val_main_v14, Cert.ReferenceCachedIdeal.Read.val_main_v13, Cert.ReferenceCachedIdeal.Read.val_main_v12, Cert.ReferenceCachedIdeal.Read.val_main_v11, Cert.ReferenceCachedIdeal.Read.val_main_v10, Cert.ReferenceCachedIdeal.Read.val_main_v9, Cert.ReferenceCachedIdeal.Read.val_main_c, Cert.ReferenceCachedIdeal.Read.val_main_c_0, Cert.ReferenceCachedIdeal.Read.val_main_c_1, Cert.ReferenceCachedIdeal.Read.val_main_c_2, Cert.ReferenceCachedIdeal.Read.val_main_c_3, Cert.ReferenceCachedIdeal.Read.val_main_c_4]
  simp only [StableHlo.TRef.ofBuf, StableHlo.TRef.toBuf, cast_eq]
  rfl

/-- The table of biases against the cached keys is the first columns of it. -/
theorem V_bc (c : Dev nD) : V m c main_v21
    = extractStridedSlice S32x16x512 ![0, 0, 0] (V m c main_v18) slices_S32x16x528_S32x16x512_0_0_0 := by
  show StableHlo.after (List.flatten [hostOps0, hostOps0_1, hostOps0_2]) (fun b => m (c, b)) main_v21
    = extractStridedSlice S32x16x512 ![0, 0, 0]
      (StableHlo.after (List.flatten [hostOps0, hostOps0_1, hostOps0_2]) (fun b => m (c, b)) main_v18) _
  simp only [List.flatten_cons, List.flatten_nil, List.append_nil, List.cons_append, List.nil_append]
  after_results

/-- The table of biases against the new keys is the last columns of it. -/
theorem V_bn (c : Dev nD) : V m c main_v22
    = extractStridedSlice S32x16x16 ![0, 0, 512] (V m c main_v18) slices_S32x16x528_S32x16x16_0_0_512 := by
  show StableHlo.after (List.flatten [hostOps0, hostOps0_1, hostOps0_2]) (fun b => m (c, b)) main_v22
    = extractStridedSlice S32x16x16 ![0, 0, 512]
      (StableHlo.after (List.flatten [hostOps0, hostOps0_1, hostOps0_2]) (fun b => m (c, b)) main_v18) _
  simp only [List.flatten_cons, List.flatten_nil, List.append_nil, List.cons_append, List.nil_append]
  after_results

/-- A cached row of heads laid side by side. -/
theorem side (x : S8x512x32x64.Idx → EReal) (b : Fin 8) (j : Fin 512) (h : Fin 32) (d : Fin 64) (C : Fin 2048)
    (hC : C.val = 64 * h.val + d.val) :
    shapeCast S8x512x2048 x shapeCasts_S8x512x32x64_S8x512x2048 (ix3 b j C) = x (ix4 b j h d) :=
  shapeCast_apply _ _ (ix3 b j C) (ix4 b j h d) (by
    rw [Shape.rowMajor_val_four, Shape.rowMajor_val_three]
    show ((b.val * 512 + j.val) * 32 + h.val) * 64 + d.val = (b.val * 512 + j.val) * 2048 + C.val; omega)

/-- The cached keys at point `t`. -/
theorem blk_kc (c : Dev nD) (t : Fin cfg0.N) (h : Fin 2) (j : Fin 512) (l : Fin 128) (hl : l.val / 64 = h.val) :
    iblk m c 3 t (ix3 0 j l) = m ((c : Thread nD τ).loc main_arg1) (ix4 (seq t) j (head t h) (ent l)) := by
  unfold iblk
  rw [View.read_apply]
  show V m c main_v19 _ = _
  rw [V_kc]
  have e0 : win0_3.index t (0 : Fin 3) = t.val / 16 := by have := idx_facts t; tauto
  have e1 : win0_3.index t (1 : Fin 3) = 0 := by have := idx_facts t; tauto
  have e2 : win0_3.index t (2 : Fin 3) = t.val % 16 := by have := idx_facts t; tauto
  rw [← side (m ((c : Thread nD τ).loc main_arg1)) (seq t) j (head t h) (ent l) ⟨128 * (t.val % 16) + l.val, by omega⟩
    (by show 128 * (t.val % 16) + l.val = 64 * (2 * (t.val % 16) + h.val) + l.val % 64; omega)]
  refine congrArg _ (funext fun a => Fin.ext ?_)
  match a with
  | ⟨0, _⟩ => show win0_3.index t (0 : Fin 3) * 1 + 1 * 0 = t.val / 16; rw [e0]; omega
  | ⟨1, _⟩ => show win0_3.index t (1 : Fin 3) * 512 + 1 * j.val = j.val; rw [e1]; omega
  | ⟨2, _⟩ => show win0_3.index t (2 : Fin 3) * 128 + 1 * l.val = 128 * (t.val % 16) + l.val; rw [e2]; omega

/-- The cached values at point `t`. -/
theorem blk_vc (c : Dev nD) (t : Fin cfg0.N) (h : Fin 2) (j : Fin 512) (l : Fin 128) (hl : l.val / 64 = h.val) :
    iblk m c 4 t (ix3 0 j l) = m ((c : Thread nD τ).loc main_arg2) (ix4 (seq t) j (head t h) (ent l)) := by
  unfold iblk
  rw [View.read_apply]
  show V m c main_v20 _ = _
  rw [V_vc]
  have e0 : win0_4.index t (0 : Fin 3) = t.val / 16 := by have := idx_facts t; tauto
  have e1 : win0_4.index t (1 : Fin 3) = 0 := by have := idx_facts t; tauto
  have e2 : win0_4.index t (2 : Fin 3) = t.val % 16 := by have := idx_facts t; tauto
  rw [← side (m ((c : Thread nD τ).loc main_arg2)) (seq t) j (head t h) (ent l) ⟨128 * (t.val % 16) + l.val, by omega⟩
    (by show 128 * (t.val % 16) + l.val = 64 * (2 * (t.val % 16) + h.val) + l.val % 64; omega)]
  refine congrArg _ (funext fun a => Fin.ext ?_)
  match a with
  | ⟨0, _⟩ => show win0_4.index t (0 : Fin 3) * 1 + 1 * 0 = t.val / 16; rw [e0]; omega
  | ⟨1, _⟩ => show win0_4.index t (1 : Fin 3) * 512 + 1 * j.val = j.val; rw [e1]; omega
  | ⟨2, _⟩ => show win0_4.index t (2 : Fin 3) * 128 + 1 * l.val = 128 * (t.val % 16) + l.val; rw [e2]; omega

/-- The biases against the cached keys at point `t`. -/
theorem blk_bc (c : Dev nD) (t : Fin cfg0.N) (h : Fin 2) (r : Fin 16) (j : Fin 512) :
    iblk m c 5 t (ix3 h r j) = Cert.ReferenceCachedIdeal.Read.val_main_v27 (F := Ideal)
      (m ((c : Thread nD τ).loc main_arg3)) (ix3 (head t h) r (⟨j.val, by omega⟩ : Fin 528)) := by
  unfold iblk
  rw [View.read_apply]
  show V m c main_v21 _ = _
  rw [V_bc, V_bias]
  have e0 : win0_5.index t (0 : Fin 3) = t.val % 16 := by have := idx_facts t; tauto
  have e1 : win0_5.index t (1 : Fin 3) = 0 := by have := idx_facts t; tauto
  have e2 : win0_5.index t (2 : Fin 3) = 0 := by have := idx_facts t; tauto
  refine extractStridedSlice_apply _ _ _ _ (ix3 (head t h) r (⟨j.val, by omega⟩ : Fin 528)) fun a => ?_
  match a with
  | ⟨0, _⟩ => show 2 * (t.val % 16) + h.val = 0 + (win0_5.index t (0 : Fin 3) * 2 + 1 * h.val); rw [e0]; omega
  | ⟨1, _⟩ => show r.val = 0 + (win0_5.index t (1 : Fin 3) * 16 + 1 * r.val); rw [e1]; omega
  | ⟨2, _⟩ => show j.val = 0 + (win0_5.index t (2 : Fin 3) * 512 + 1 * j.val); rw [e2]; omega

/-- The biases against the new keys at point `t`. -/
theorem blk_bn (c : Dev nD) (t : Fin cfg0.N) (h : Fin 2) (r : Fin 16) (j : Fin 16) :
    iblk m c 6 t (ix3 h r j) = Cert.ReferenceCachedIdeal.Read.val_main_v27 (F := Ideal)
      (m ((c : Thread nD τ).loc main_arg3)) (ix3 (head t h) r (⟨512 + j.val, by omega⟩ : Fin 528)) := by
  unfold iblk
  rw [View.read_apply]
  show V m c main_v22 _ = _
  rw [V_bn, V_bias]
  have e0 : win0_6.index t (0 : Fin 3) = t.val % 16 := by have := idx_facts t; tauto
  have e1 : win0_6.index t (1 : Fin 3) = 0 := by have := idx_facts t; tauto
  have e2 : win0_6.index t (2 : Fin 3) = 0 := by have := idx_facts t; tauto
  refine extractStridedSlice_apply _ _ _ _ (ix3 (head t h) r (⟨512 + j.val, by omega⟩ : Fin 528)) fun a => ?_
  match a with
  | ⟨0, _⟩ => show 2 * (t.val % 16) + h.val = 0 + (win0_6.index t (0 : Fin 3) * 2 + 1 * h.val); rw [e0]; omega
  | ⟨1, _⟩ => show r.val = 0 + (win0_6.index t (1 : Fin 3) * 16 + 1 * r.val); rw [e1]; omega
  | ⟨2, _⟩ => show 512 + j.val = 512 + (win0_6.index t (2 : Fin 3) * 16 + 1 * j.val); rw [e2]; omega

/-- What the array holds after the run: the reference's own value of the arguments. -/
abbrev G (c : Dev nD) : S128x2048.Idx → EReal :=
  Cert.ReferenceCachedIdeal.Read.val_main_v47 (F := Ideal) (m ((c : Thread nD τ).loc main_arg0))
    (m ((c : Thread nD τ).loc main_arg1)) (m ((c : Thread nD τ).loc main_arg2)) (m ((c : Thread nD τ).loc main_arg3))

/-- Where lane `l` of row `r` of point `t`'s block lies in the whole array. -/
theorem emb_out (t : Fin cfg0.N) (r : Fin 16) (l : Fin 128) :
    ((cfg0.win 7).blk t).view.emb (ix2 r l) = ix2 (grow (seq t) r) ⟨128 * (t.val % 16) + l.val, by omega⟩ := by
  have e0 : win0_7.index t (0 : Fin 2) = t.val / 16 := by have := idx_facts t; tauto
  have e1 : win0_7.index t (1 : Fin 2) = t.val % 16 := by have := idx_facts t; tauto
  funext a
  refine Fin.ext ?_
  match a with
  | ⟨0, _⟩ => show win0_7.index t (0 : Fin 2) * 16 + 1 * r.val = 16 * (t.val / 16) + r.val; rw [e0]; omega
  | ⟨1, _⟩ => show win0_7.index t (1 : Fin 2) * 128 + 1 * l.val = 128 * (t.val % 16) + l.val; rw [e1]; omega

/-- A score over a half's lanes, entry by entry. -/
theorem score_eq (h : Fin 2) (f g : Fin 128 → EReal) (f' g' : Fin 64 → EReal) (b b' : EReal)
    (hf : ∀ d : Fin 64, f ⟨64 * h.val + d.val, by omega⟩ = f' d) (hg : ∀ d : Fin 64, g ⟨64 * h.val + d.val, by omega⟩ = g' d)
    (hb : b = b') : score (64 * h.val) (by omega) f g b = (∑ d, f' d * g' d) * Ideal.ofBits .f32 0x3E000000#32 + b' := by
  unfold CachedBlock.score
  rw [hb]
  exact congrArg (· * Ideal.ofBits .f32 0x3E000000#32 + b' : EReal → EReal)
    (Finset.sum_congr rfl fun d _ => congrArg₂ (· * · : EReal → EReal → EReal) (hf d) (hg d))

/-- A lane of half `h` by its entry. -/
theorem ent_at (h : Fin 2) (d : Fin 64) : ent ⟨64 * h.val + d.val, by omega⟩ = d :=
  Fin.ext (by show (64 * h.val + d.val) % 64 = d.val; omega)

/-- Two sets of scores and values entry by entry. -/
theorem soft2_congr {n k : ℕ} {s s' : Fin n → EReal} {v v' : Fin n → EReal} {u u' : Fin k → EReal} {w w' : Fin k → EReal}
    (hs : ∀ j, s j = s' j) (hv : ∀ j, v j = v' j) (hu : ∀ j, u j = u' j) (hw : ∀ j, w j = w' j) :
    Soft.soft2 s v u w = Soft.soft2 s' v' u' w' := by
  rw [funext hs, funext hv, funext hu, funext hw]

/-- What point `t` writes back is its block of that array. -/
theorem flushed_eq (c : Dev nD) (t : Fin cfg0.N) (_ : (cfg0.win 7).flush t = true) :
    (dats m 0 c).flushed 7 t = ((cfg0.win 7).blk t).view.read (Elt Ideal) (G m c) := by
  rw [Value.flushed7]
  funext y
  obtain ⟨r, l, rfl⟩ := Common.exists_ix2 (M := 16) (N := 128) y
  rw [View.read_apply, emb_out t r l]
  obtain ⟨h, hl⟩ : ∃ h : Fin 2, l.val / 64 = h.val := ⟨⟨l.val / 64, by omega⟩, rfl⟩
  refine (out_apply _ _ _ _ _ _ _ h r l hl).trans ((?_ : _ = _).trans (CachedRef.out_two _ _ _ _ (seq t) (head t h) r (ent l) _ (by
    show 128 * (t.val % 16) + l.val = 64 * (2 * (t.val % 16) + h.val) + l.val % 64; omega)).symm)
  have hd : ∀ d : Fin 64, (64 * h.val + d.val) / 64 = h.val := fun d => by omega
  have eq : ∀ d : Fin 64, iblk m c 0 t (ix2 r ⟨64 * h.val + d.val, by omega⟩)
      = m ((c : Thread nD τ).loc main_arg0) (ix2 (grow (seq t) r) (gcol 0 (head t h) d)) := fun d =>
    (blk_q m c t h r _ (hd d)).trans (by rw [ent_at])
  unfold half
  refine soft2_congr (fun j => ?_) (fun j => ?_) (fun j => ?_) (fun j => ?_)
  · exact score_eq h _ _ _ _ _ _ eq (fun d => (blk_kc m c t h j _ (hd d)).trans (by rw [ent_at])) (blk_bc m c t h r j)
  · exact blk_vc m c t h j l hl
  · exact score_eq h _ _ _ _ _ _ eq (fun d => (blk_kn m c t h j _ (hd d)).trans (by rw [ent_at])) (blk_bn m c t h r j)
  · exact blk_vn m c t h j l hl

/-- Every index lies in the block some point writes back. -/
theorem covered (i : S128x2048.Idx) : ∃ t : Fin cfg0.N, (cfg0.win 7).flush t = true ∧ i ∈ ((cfg0.win 7).blk t).view.set := by
  have h0 : (i 0).val < 128 := (i 0).isLt
  have h1 : (i 1).val < 2048 := (i 1).isLt
  have hN : cfg0.N = 128 := N_0
  obtain ⟨t, ht⟩ : ∃ t : Fin cfg0.N, t.val = (i 0).val / 16 * 16 + (i 1).val / 128 := ⟨⟨_, by omega⟩, rfl⟩
  refine ⟨t, (by decide +kernel : ∀ t : Fin grid0.N, win0_7.flush t = true) t, ?_⟩
  show i ∈ ((View.whole main_v23).slice (win0_7.rect t)).set
  rw [View.set_slice_whole, Rect.mem_set_unit]
  have e0 : win0_7.index t (0 : Fin 2) = t.val / 16 := by have := idx_facts t; tauto
  have e1 : win0_7.index t (1 : Fin 2) = t.val % 16 := by have := idx_facts t; tauto
  intro a
  match a with
  | ⟨0, _⟩ =>
    show win0_7.index t (0 : Fin 2) * 16 ≤ (i 0).val ∧ (i 0).val < win0_7.index t (0 : Fin 2) * 16 + 16
    rw [e0]; omega
  | ⟨1, _⟩ =>
    show win0_7.index t (1 : Fin 2) * 128 ≤ (i 1).val ∧ (i 1).val < win0_7.index t (1 : Fin 2) * 128 + 128
    rw [e1]; omega

/-- The array after the run is the reference's value. -/
theorem final (c : Dev nD) : (dats m 0 c).arrAt 7 cfg0.N = G m c :=
  (dats m 0 c).arrAt_eq_of_cover 7 (G m c) (flushed_eq m c) covered

/-- The kernel's run and the reference's end with the same array and leave the arguments unchanged. -/
theorem algebraic : Cert.algebraic_KernelCachedIdeal_ReferenceCachedIdeal := fun m ρ m' ρ' _ hag =>
  ⟨fun c => G m c,
    (θ_run _ _ _).mono (fun _ h c => ⟨(h c).1.trans (final m c), (h c).2⟩) (Value.run_blocks m ρ),
    (θ_run _ _ _).mono (fun _ h c => ⟨(h c).1.trans (by
        rw [Cert.ReferenceCachedIdeal.Read.val_main_v47_eq, (hag c).1, (hag c).2.1, (hag c).2.2.1, (hag c).2.2.2]), (h c).2⟩)
      (Cert.ReferenceCachedIdeal.Value.run m' ρ')⟩

end Cert.CachedValue

end
-- ==== Proof.Rms.lean ====
/- The row normalisation that four of the calls begin with: a row over the root of its mean square, scaled by the gain. -/
module

public import Idealize.ShloMosaic.Lib.Pipeline.Value
public import Idealize.ShloMosaic.PureOps.Ideal.Laws
public import Idealize.ShloMosaic.Lib.ValueIdx
public import proofs.«01_k».proof.Proof.Common
public import proofs.«01_k».proof.Proof.Gen.ReferenceNormIdeal.Read

@[expose] public section

set_option maxRecDepth 16384

noncomputable section

namespace Cert.Rms

open Idealize.ShloMosaic Idealize.ShloMosaic.ValueIdx
open scoped BigOperators

/-- Entry `k` of the normalised row: `f k · rsqrt(mean f² + ε) · g k`, the mean over the row's 2048 entries. -/
def normed (f g : Fin 2048 → EReal) (k : Fin 2048) : EReal :=
  f k * Ideal.rsqrt (Ideal.div (∑ l, f l * f l) (Ideal.ofBits .f32 0x45000000#32) + Ideal.ofBits .f32 0x358637BD#32) * g k

/-- The vector operations a block of 512 rows is normalised with, read at one entry. -/
theorem block_apply (x : FVec Ideal ⟨2, ![512, 2048]⟩ .f32) (g : FVec Ideal ⟨2, ![1, 2048]⟩ .f32)
    (hr : Shape.Reduces ⟨2, ![512, 2048]⟩ [1] ⟨1, ![512]⟩) (hc : Shape.ShapeCasts ⟨1, ![512]⟩ ⟨2, ![512, 1]⟩)
    (hb : Shape.Broadcasts ⟨2, ![512, 1]⟩ ⟨2, ![512, 2048]⟩) (hg : Shape.Broadcasts ⟨2, ![1, 2048]⟩ ⟨2, ![512, 2048]⟩)
    (r : Fin 512) (k : Fin 2048) :
    mulf (mulf x (broadcastTo ⟨2, ![512, 2048]⟩ (rsqrt (addf (divf (shapeCast ⟨2, ![512, 1]⟩
        (multiReduction .add [1] ⟨1, ![512]⟩ (mulf x x) 0x00000000#32 hr (.inl rfl) rfl) hc)
        (broadcast ⟨2, ![512, 1]⟩ (Scalar.ofBits .f32 0x45000000#32)))
        (broadcast ⟨2, ![512, 1]⟩ (Scalar.ofBits .f32 0x358637BD#32)))) hb))
      (broadcastTo ⟨2, ![512, 2048]⟩ g hg) (ix2 r k)
      = normed (fun l => x (ix2 r l)) (fun l => g (ix2 0 l)) k := by
  rw [mulf_apply, mulf_apply]
  rw [broadcastTo_apply _ hb (ix2 r k) (ix2 r 0) (fun a => match a with
      | ⟨0, _⟩ => by show r.val = if (512 : Nat) = 1 then 0 else r.val; rw [if_neg (by decide)]
      | ⟨1, _⟩ => by show 0 = if (1 : Nat) = 1 then 0 else k.val; rw [if_pos rfl]),
    broadcastTo_apply _ hg (ix2 r k) (ix2 0 k) (fun a => match a with
      | ⟨0, _⟩ => by show 0 = if (1 : Nat) = 1 then 0 else r.val; rw [if_pos rfl]
      | ⟨1, _⟩ => by show k.val = if (2048 : Nat) = 1 then 0 else k.val; rw [if_neg (by decide)])]
  show x (ix2 r k) * Ideal.rsqrt (Ideal.div (shapeCast ⟨2, ![512, 1]⟩
        (multiReduction .add [1] ⟨1, ![512]⟩ (mulf x x) 0x00000000#32 hr (.inl rfl) rfl) hc (ix2 r 0)) _ + _) * _ = _
  rw [shapeCast_apply _ hc (ix2 r 0) (ix1 r) (by
    rw [Shape.rowMajor_val_one, Shape.rowMajor_val_two]; show r.val = r.val * 1 + 0; omega)]
  unfold normed
  have e : ∀ l : Fin 2048, hr.lift (ix1 r) l = ix2 r l := fun l => by
    funext a; match a with | ⟨0, _⟩ => rfl | ⟨1, _⟩ => rfl
  refine congrArg (fun s : EReal => x (ix2 r k) * Ideal.rsqrt (Ideal.div s (Ideal.ofBits .f32 0x45000000#32)
    + Ideal.ofBits .f32 0x358637BD#32) * g (ix2 0 k))
    ((Ideal.multiReduction_add_single (mulf x x) _ hr _ _ (ix1 r)).trans (Finset.sum_congr rfl fun l _ => ?_))
  exact congrArg (mulf x x) (e l)

open Cert.ReferenceNormIdeal.Read in
/-- The host's normalisation of the whole array, read at one entry. -/
theorem ref_apply (x : Shape.Idx ⟨2, ![16384, 2048]⟩ → EReal) (g : Shape.Idx ⟨1, ![2048]⟩ → EReal) (r : Fin 16384) (k : Fin 2048) :
    val_main_v12 (F := Ideal) x g (ix2 r k) = normed (fun l => x (ix2 r l)) (fun l => g (ix1 l)) k := by
  rw [val_main_v12_apply, val_main_v9_apply, val_main_v8_apply, val_main_v7_apply, val_main_v6_apply, val_main_v5_apply,
    val_main_v4_apply, val_main_v3_apply, val_main_v2_apply, val_main_v1_apply, val_main_v11_apply, val_main_v10_apply]
  have hz : val_main_cst (F := Ideal) (Shape.Idx.first Cert.ReferenceNormIdeal.Gen.h_S_) = 0 := Ideal.ofBits_zero_f32
  rw [hz, zero_add]
  unfold normed
  have e : ∀ l : Fin 2048, idx_main_v1 (idx_main_v2 (idx_main_v8 (ix2 r k))) l = ix2 r l := fun l => by
    funext a; match a with | ⟨0, _⟩ => rfl | ⟨1, _⟩ => rfl
  have eg : idx_main_v10 (idx_main_v11 (ix2 r k)) = ix1 k := by
    funext a; match a with | ⟨0, _⟩ => rfl
  rw [eg]
  refine congrArg (fun s : EReal => x (ix2 r k) * Ideal.rsqrt (Ideal.div s (Ideal.ofBits .f32 0x45000000#32)
    + Ideal.ofBits .f32 0x358637BD#32) * g (ix1 k)) (Finset.sum_congr rfl fun l _ => ?_)
  exact congrArg (mulf (F := Ideal) (φ := .f32) x x) (e l)

end Cert.Rms

end
-- ==== Proof.FfnHost.lean ====
/- The feed-forward call, before its grid starts: the weights the host pads with zeros, read at one index. -/
module

public import proofs.«01_k».proof.Defs
public import proofs.«01_k».proof.Proof.Common
public import proofs.«01_k».proof.Proof.Rms
public import proofs.«01_k».proof.Proof.Gen.KernelFfnIdeal.Value
public import proofs.«01_k».proof.Proof.Gen.ReferenceFfnIdeal.Read
public import Idealize.ShloMosaic.Lib.KernelVsHost

@[expose] public section

set_option maxRecDepth 16384

noncomputable section

namespace Cert.FfnValue

open Cert.KernelFfnIdeal Cert.KernelFfnIdeal.Gen Idealize.ShloMosaic Idealize.ShloMosaic.TcCoe Idealize.SL.Sem
open Idealize.ShloMosaic.Pipeline (Dat)
open Idealize.ShloMosaic.ValueIdx
open scoped BigOperators

variable (m : (ℓ : Loc nD τ sig) → Buf (Elt Ideal) ℓ) (ρ : Dev nD → PrngReg)

/-- The two projections' weights as the region finds them: the gate's columns and the up projection's, each padded
    with zero columns to a multiple of the block and laid side by side. -/
theorem V_gateUp (c : Dev nD) : V m c main_v5
    = concatenate S2048x11264 1
        [⟨S2048x5632, pad S2048x5632 ![0, 0] ![0, 128] ![0, 0]
            (extractStridedSlice S2048x5504 ![0, 0] (m ((c : Thread nD τ).loc main_arg2)) slices_S2048x11008_S2048x5504_0_0)
            (sitofp (F := Ideal) .f32 (constantI S_ 32 0#32)) pads_S2048x5504_S2048x5632_000_01280 h_S_⟩,
         ⟨S2048x5632, pad S2048x5632 ![0, 0] ![0, 128] ![0, 0]
            (extractStridedSlice S2048x5504 ![0, 5504] (m ((c : Thread nD τ).loc main_arg2)) slices_S2048x11008_S2048x5504_0_5504)
            (sitofp (F := Ideal) .f32 (constantI S_ 32 0#32)) pads_S2048x5504_S2048x5632_000_01280 h_S_⟩]
        concatenates_S2048x5632_S2048x5632_S2048x11264_d1 := by
  show StableHlo.after (List.flatten [hostOps0, hostOps0_1, hostOps0_2, hostOps0_3, hostOps0_4, hostOps0_5, hostOps0_6])
    (fun b => m (c, b)) main_v5 = _
  simp only [List.flatten_cons, List.flatten_nil, List.append_nil, List.cons_append, List.nil_append]
  after_results
  rfl

/-- The down projection's weights as the region finds them: padded with zero rows. -/
theorem V_down' (c : Dev nD) : V m c main_v7
    = pad S5632x2048 ![0, 0] ![128, 0] ![0, 0] (m ((c : Thread nD τ).loc main_arg3))
        (sitofp (F := Ideal) .f32 (constantI S_ 32 0#32)) pads_S5504x2048_S5632x2048_01280_000 h_S_ := by
  show StableHlo.after (List.flatten [hostOps0, hostOps0_1, hostOps0_2, hostOps0_3, hostOps0_4, hostOps0_5, hostOps0_6])
    (fun b => m (c, b)) main_v7 = _
  simp only [List.flatten_cons, List.flatten_nil, List.append_nil, List.cons_append, List.nil_append]
  after_results
  rfl

/-- The gain as the one-row array the region finds. -/
theorem V_gain (c : Dev nD) (k : Fin 2048) :
    V m c main_v8 (ix2 0 k) = m ((c : Thread nD τ).loc main_arg1) (ix1 k) := by
  have e : V m c main_v8 = shapeCast S1x2048 (m ((c : Thread nD τ).loc main_arg1)) shapeCasts_S2048_S1x2048 := by
    show StableHlo.after (List.flatten [hostOps0, hostOps0_1, hostOps0_2, hostOps0_3, hostOps0_4, hostOps0_5, hostOps0_6])
      (fun b => m (c, b)) main_v8 = _
    simp only [List.flatten_cons, List.flatten_nil, List.append_nil, List.cons_append, List.nil_append]
    after_results
    rfl
  rw [e]
  exact shapeCast_apply _ _ (ix2 0 k) (ix1 k) (by
    rw [Shape.rowMajor_val_one, Shape.rowMajor_val_two]; show k.val = 0 * 2048 + k.val; omega)

/-- The value the host pads with is zero. -/
theorem padding (i : S_.Idx) : sitofp (F := Ideal) .f32 (constantI S_ 32 0#32) i = 0 := by
  show (((0#32 : BitVec 32).toInt : ℝ) : EReal) = 0
  simp

/-- A matrix of 5504 columns padded to 5632, at a column of the matrix … -/
theorem padCols_inside (x : FVec Ideal S2048x5504 .f32) (k : Fin 2048) (u : Fin 5632) (h : u.val < 5504) :
    pad S2048x5632 ![0, 0] ![0, 128] ![0, 0] x (sitofp (F := Ideal) .f32 (constantI S_ 32 0#32))
      pads_S2048x5504_S2048x5632_000_01280 h_S_ (ix2 k u) = x (ix2 k ⟨u.val, h⟩) :=
  pad_apply_of_inside _ _ _ x _ _ _ (ix2 k u) (ix2 k ⟨u.val, h⟩) fun a => match a with
    | ⟨0, _⟩ => by show k.val = 0 + k.val * (0 + 1); omega
    | ⟨1, _⟩ => by show u.val = 0 + u.val * (0 + 1); omega

/-- … and at a padded column. -/
theorem padCols_outside (x : FVec Ideal S2048x5504 .f32) (k : Fin 2048) (u : Fin 5632) (h : ¬u.val < 5504) :
    pad S2048x5632 ![0, 0] ![0, 128] ![0, 0] x (sitofp (F := Ideal) .f32 (constantI S_ 32 0#32))
      pads_S2048x5504_S2048x5632_000_01280 h_S_ (ix2 k u) = 0 := by
  rw [pad_apply_of_not_inside _ _ _ x _ _ _ (ix2 k u) (1 : Fin 2)]
  · exact padding _
  · rintro ⟨-, -, h2⟩
    refine h ?_
    have h3 : (u.val - 0) / (0 + 1) < 5504 := h2
    omega

/-- The gate's weights, at an input and a hidden unit below 5632. -/
def wGate (w : S2048x11008.Idx → EReal) (k : Fin 2048) (u : ℕ) : EReal :=
  if h : u < 5504 then w (ix2 k ⟨u, by omega⟩) else 0

/-- The up projection's weights, at an input and a hidden unit below 5632. -/
def wUp (w : S2048x11008.Idx → EReal) (k : Fin 2048) (u : ℕ) : EReal :=
  if h : u < 5504 then w (ix2 k ⟨5504 + u, by omega⟩) else 0

/-- The down projection's weights, at a hidden unit below 5632 and an output. -/
def wDown (w : S5504x2048.Idx → EReal) (u : ℕ) (q : Fin 2048) : EReal :=
  if h : u < 5504 then w (ix2 ⟨u, h⟩ q) else 0

/-- The region's first 5632 columns are the gate's. -/
theorem V_gate (c : Dev nD) (k : Fin 2048) (u : Fin 5632) :
    V m c main_v5 (ix2 k ⟨u.val, by omega⟩) = wGate (m ((c : Thread nD τ).loc main_arg2)) k u.val := by
  rw [V_gateUp]
  refine (concatenate_pair_apply_left (t := S2048x11264) (s₁ := S2048x5632) (s₂ := S2048x5632) (1 : Fin 2) _ _
    concatenates_S2048x5632_S2048x5632_S2048x11264_d1 (ix2 k (⟨u.val, by omega⟩ : Fin 11264)) rfl (ix2 k u) fun b => match b with
    | ⟨0, _⟩ => rfl
    | ⟨1, _⟩ => rfl).trans ?_
  unfold wGate
  split
  · rename_i h
    rw [padCols_inside _ _ _ h]
    exact extractStridedSlice_apply _ _ _ (ix2 k ⟨u.val, h⟩) (ix2 k ⟨u.val, by omega⟩) fun a => match a with
      | ⟨0, _⟩ => by show k.val = 0 + k.val; omega
      | ⟨1, _⟩ => by show u.val = 0 + u.val; omega
  · rename_i h
    exact padCols_outside _ _ _ h

/-- The region's last 5632 columns are the up projection's. -/
theorem V_up (c : Dev nD) (k : Fin 2048) (u : Fin 5632) :
    V m c main_v5 (ix2 k ⟨5632 + u.val, by omega⟩) = wUp (m ((c : Thread nD τ).loc main_arg2)) k u.val := by
  rw [V_gateUp]
  refine (concatenate_pair_apply_right (t := S2048x11264) (s₁ := S2048x5632) (s₂ := S2048x5632) (1 : Fin 2) _ _
    concatenates_S2048x5632_S2048x5632_S2048x11264_d1 (ix2 k (⟨5632 + u.val, by omega⟩ : Fin 11264)) rfl rfl (ix2 k u) (fun b hb => match b, hb with
    | ⟨0, _⟩, _ => rfl
    | ⟨1, _⟩, hb => absurd rfl hb) (by show u.val + 5632 = 5632 + u.val; omega)).trans ?_
  unfold wUp
  split
  · rename_i h
    rw [padCols_inside _ _ _ h]
    exact extractStridedSlice_apply _ _ _ (ix2 k ⟨u.val, h⟩) (ix2 k ⟨5504 + u.val, by omega⟩) fun a => match a with
      | ⟨0, _⟩ => by show k.val = 0 + k.val; omega
      | ⟨1, _⟩ => by show 5504 + u.val = 5504 + u.val; rfl
  · rename_i h
    exact padCols_outside _ _ _ h

/-- The region's down weights. -/
theorem V_down (c : Dev nD) (u : Fin 5632) (q : Fin 2048) :
    V m c main_v7 (ix2 u q) = wDown (m ((c : Thread nD τ).loc main_arg3)) u.val q := by
  rw [V_down']
  unfold wDown
  split
  · rename_i h
    exact pad_apply_of_inside _ _ _ _ _ _ _ (ix2 u q) (ix2 ⟨u.val, h⟩ q) fun a => match a with
      | ⟨0, _⟩ => by show u.val = 0 + u.val * (0 + 1); omega
      | ⟨1, _⟩ => by show q.val = 0 + q.val * (0 + 1); omega
  · rename_i h
    rw [pad_apply_of_not_inside _ _ _ _ _ _ _ (ix2 u q) (0 : Fin 2)]
    · exact padding _
    · rintro ⟨-, -, h2⟩
      refine h ?_
      have h3 : (u.val - 0) / (0 + 1) < 5504 := h2
      omega

end Cert.FfnValue

end
-- ==== Proof.Ffn.lean ====
/- The feed-forward call: the array after the run is `x + 0.5 (silu (n·Wg) · (n·Wu))·Wd` for the normalised rows `n`, the
   hidden units summed a block at a time. -/
module

public import proofs.«01_k».proof.Defs
public import proofs.«01_k».proof.Proof.Common
public import proofs.«01_k».proof.Proof.Rms
public import proofs.«01_k».proof.Proof.Gen.KernelFfnIdeal.Value
public import proofs.«01_k».proof.Proof.Gen.ReferenceFfnIdeal.Read
public import proofs.«01_k».proof.Proof.FfnHost

@[expose] public section

set_option maxRecDepth 16384

noncomputable section

namespace Cert.FfnValue

open Cert.KernelFfnIdeal Cert.KernelFfnIdeal.Gen Idealize.ShloMosaic Idealize.ShloMosaic.TcCoe Idealize.SL.Sem
open Idealize.ShloMosaic.Pipeline (Dat)
open Idealize.ShloMosaic.ValueIdx
open scoped BigOperators

variable (m : (ℓ : Loc nD τ sig) → Buf (Elt Ideal) ℓ) (ρ : Dev nD → PrngReg)

/-- The gated activation of one hidden unit. -/
def act (gate up : EReal) : EReal :=
  gate * Ideal.div (Ideal.ofBits .f32 0x3F800000#32) (Ideal.ofBits .f32 0x3F800000#32 + Ideal.exp (-gate)) * up

/-- What hidden unit `u` adds to output `q` of a normalised row `n`; the padded units have zero weights. -/
def unit (n : Fin 2048 → EReal) (w : S2048x11008.Idx → EReal) (wd : S5504x2048.Idx → EReal) (q : Fin 2048) (u : ℕ) : EReal :=
  act (∑ k : Fin 2048, n k * wGate w k u) (∑ k : Fin 2048, n k * wUp w k u) * wDown wd u q

/-- A padded unit adds nothing: its gate is zero. -/
theorem unit_padded (n : Fin 2048 → EReal) (w : S2048x11008.Idx → EReal) (wd : S5504x2048.Idx → EReal) (q : Fin 2048)
    (u : ℕ) (h : ¬u < 5504) : unit n w wd q u = 0 := by
  unfold unit wDown
  rw [dif_neg h, mul_zero]

/-- The units of all eleven blocks add up to the units there are. -/
theorem sum_units (n : Fin 2048 → EReal) (w : S2048x11008.Idx → EReal) (wd : S5504x2048.Idx → EReal) (q : Fin 2048) :
    ∑ u ∈ Finset.range (11 * 512), unit n w wd q u = ∑ u : Fin 5504, unit n w wd q u.val := by
  rw [show 11 * 512 = 5504 + 128 from rfl, Finset.sum_range_add, Finset.sum_range,
    Finset.sum_eq_zero fun u _ => unit_padded n w wd q (5504 + u) (by omega), add_zero]

/-- The normalised rows as the scratch holds them, entry by entry. -/
theorem pay1_apply (x : Vec Ideal S512x2048 .f32) (g : Vec Ideal S1x2048 .f32) (r : Fin 512) (k : Fin 2048) :
    k0_pay1 x g (ix2 r k) = Rms.normed (fun l => x (ix2 r l)) (fun l => g (ix2 0 l)) k := by
  unfold k0_pay1
  rw [shapeCast_self, shapeCast_self]
  exact Rms.block_apply x g _ _ _ _ r k

/-- The accumulator starts at zero. -/
theorem pay2_apply (j : S512x2048.Idx) : (k0_pay2 : FVec Ideal S512x2048 .f32) j = 0 := by
  unfold k0_pay2
  rw [shapeCast_self]
  exact Ideal.ofBits_zero_f32

/-- One block of hidden units added to the accumulator, entry by entry. -/
theorem pay3_apply (n : Vec Ideal S512x2048 .bf16) (wg wu : Vec Ideal S2048x512 .bf16) (acc : Vec Ideal S512x2048 .f32)
    (wd : Vec Ideal S512x2048 .bf16) (r : Fin 512) (q : Fin 2048) :
    k0_pay3 n wg wu acc wd (ix2 r q)
      = acc (ix2 r q) + ∑ v : Fin 512, act (∑ k : Fin 2048, n (ix2 r k) * wg (ix2 k v))
          (∑ k : Fin 2048, n (ix2 r k) * wu (ix2 k v)) * wd (ix2 v q) := by
  unfold k0_pay3
  simp only [shapeCast_self]
  refine congrArg (fun s : EReal => acc (ix2 r q) + s) ((Common.mm_zero (φ₁ := .bf16) (φ₂ := .bf16) none _ wd r q).trans ?_)
  refine Finset.sum_congr rfl fun v _ => congrArg (fun s : EReal => s * wd (ix2 v q)) ?_
  have eg := Common.mm_zero (φ₁ := .bf16) (φ₂ := .bf16) none n wg r v
  have eu := Common.mm_zero (φ₁ := .bf16) (φ₂ := .bf16) none n wu r v
  rw [← eg, ← eu]
  show _ * Ideal.div _ (_ + Ideal.exp (Ideal.ofBits .f32 0x00000000#32 - _)) * _ = _
  rw [Ideal.ofBits_zero_f32, zero_sub]
  rfl

/-- The block written out, entry by entry. -/
theorem pay4_apply (x acc : Vec Ideal S512x2048 .f32) (j : S512x2048.Idx) :
    k0_pay4 x acc j = x j + Ideal.ofBits .f32 0x3F000000#32 * acc j := rfl

/-- Point `t` works on row block `t / 11` and block `t % 11` of the hidden units. -/
theorem idx_facts : ∀ t : Fin cfg0.N,
    win0_0.index t (0 : Fin 2) = t.val / 11 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = t.val % 11
    ∧ win0_3.index t (0 : Fin 2) = 0 ∧ win0_3.index t (1 : Fin 2) = 11 + t.val % 11
    ∧ win0_4.index t (0 : Fin 2) = t.val % 11 ∧ win0_4.index t (1 : Fin 2) = 0
    ∧ win0_5.index t (0 : Fin 2) = t.val / 11 ∧ win0_5.index t (1 : Fin 2) = 0 :=
  (by decide +kernel : ∀ t : Fin grid0.N, _)

/-- The output block is written back at the last block of hidden units. -/
theorem flush_facts : ∀ t : Fin cfg0.N, win0_5.flush t = decide (t.val % 11 = 10) :=
  (by decide +kernel : ∀ t : Fin grid0.N, _)

/-- The row of the whole array that row `r` of the block at position `n` is. -/
def row (n : ℕ) (h : n < cfg0.N) (r : Fin 512) : Fin 16384 :=
  ⟨n / 11 * 512 + r.val, by have : cfg0.N = 352 := N_0; omega⟩

/-- Where the output block's entries lie in the array. -/
theorem emb_out (t : Fin cfg0.N) (r : Fin 512) (q : Fin 2048) :
    ((cfg0.win 5).blk t).view.emb (ix2 r q) = ix2 (row t.val t.isLt r) q := by
  obtain ⟨-, -, -, -, -, -, -, -, -, -, e0, e1⟩ := idx_facts t
  funext a; apply Fin.ext
  match a with
  | ⟨0, _⟩ => show win0_5.index t (0 : Fin 2) * 512 + 1 * r.val = t.val / 11 * 512 + r.val; rw [e0]; omega
  | ⟨1, _⟩ => show win0_5.index t (1 : Fin 2) * 2048 + 1 * q.val = q.val; rw [e1]; omega

/-- The rows at point `t`. -/
theorem blk_x (c : Dev nD) (t : Fin cfg0.N) (r : Fin 512) (k : Fin 2048) :
    iblk m c 0 t (ix2 r k) = m ((c : Thread nD τ).loc main_arg0) (ix2 (row t.val t.isLt r) k) := by
  unfold iblk
  rw [View.read_apply]
  show V m c main_arg0 _ = _
  rw [V_main_arg0]
  obtain ⟨e0, e1, -⟩ := idx_facts t
  refine congrArg _ (funext fun a => Fin.ext ?_)
  match a with
  | ⟨0, _⟩ => show win0_0.index t (0 : Fin 2) * 512 + 1 * r.val = t.val / 11 * 512 + r.val; rw [e0]; omega
  | ⟨1, _⟩ => show win0_0.index t (1 : Fin 2) * 2048 + 1 * k.val = k.val; rw [e1]; omega

/-- The gain at point `t`. -/
theorem blk_g (c : Dev nD) (t : Fin cfg0.N) (k : Fin 2048) :
    iblk m c 1 t (ix2 0 k) = m ((c : Thread nD τ).loc main_arg1) (ix1 k) := by
  unfold iblk
  rw [View.read_apply]
  show V m c main_v8 _ = _
  rw [← V_gain m c k]
  obtain ⟨-, -, e0, e1, -⟩ := idx_facts t
  refine congrArg _ (funext fun a => Fin.ext ?_)
  match a with
  | ⟨0, _⟩ => show win0_1.index t (0 : Fin 2) * 1 + 1 * 0 = 0; rw [e0]
  | ⟨1, _⟩ => show win0_1.index t (1 : Fin 2) * 2048 + 1 * k.val = k.val; rw [e1]; omega

/-- The hidden unit that unit `v` of point `t`'s block is. -/
def hid (t : Fin cfg0.N) (v : Fin 512) : Fin 5632 := ⟨t.val % 11 * 512 + v.val, by omega⟩

/-- The gate's weights at point `t`. -/
theorem blk_gate (c : Dev nD) (t : Fin cfg0.N) (k : Fin 2048) (v : Fin 512) :
    iblk m c 2 t (ix2 k v) = wGate (m ((c : Thread nD τ).loc main_arg2)) k (hid t v).val := by
  unfold iblk
  rw [View.read_apply]
  show V m c main_v5 _ = _
  rw [← V_gate m c k (hid t v)]
  obtain ⟨-, -, -, -, e0, e1, -⟩ := idx_facts t
  refine congrArg _ (funext fun a => Fin.ext ?_)
  match a with
  | ⟨0, _⟩ => show win0_2.index t (0 : Fin 2) * 2048 + 1 * k.val = k.val; rw [e0]; omega
  | ⟨1, _⟩ => show win0_2.index t (1 : Fin 2) * 512 + 1 * v.val = t.val % 11 * 512 + v.val; rw [e1]; omega

/-- The up projection's weights at point `t`. -/
theorem blk_up (c : Dev nD) (t : Fin cfg0.N) (k : Fin 2048) (v : Fin 512) :
    iblk m c 3 t (ix2 k v) = wUp (m ((c : Thread nD τ).loc main_arg2)) k (hid t v).val := by
  unfold iblk
  rw [View.read_apply]
  show V m c main_v5 _ = _
  rw [← V_up m c k (hid t v)]
  obtain ⟨-, -, -, -, -, -, e0, e1, -⟩ := idx_facts t
  refine congrArg _ (funext fun a => Fin.ext ?_)
  match a with
  | ⟨0, _⟩ => show win0_3.index t (0 : Fin 2) * 2048 + 1 * k.val = k.val; rw [e0]; omega
  | ⟨1, _⟩ =>
    show win0_3.index t (1 : Fin 2) * 512 + 1 * v.val = 5632 + (t.val % 11 * 512 + v.val)
    rw [e1]; omega

/-- The down projection's weights at point `t`. -/
theorem blk_down (c : Dev nD) (t : Fin cfg0.N) (v : Fin 512) (q : Fin 2048) :
    iblk m c 4 t (ix2 v q) = wDown (m ((c : Thread nD τ).loc main_arg3)) (hid t v).val q := by
  unfold iblk
  rw [View.read_apply]
  show V m c main_v7 _ = _
  rw [← V_down m c (hid t v) q]
  obtain ⟨-, -, -, -, -, -, -, -, e0, e1, -⟩ := idx_facts t
  refine congrArg _ (funext fun a => Fin.ext ?_)
  match a with
  | ⟨0, _⟩ => show win0_4.index t (0 : Fin 2) * 512 + 1 * v.val = t.val % 11 * 512 + v.val; rw [e0]; omega
  | ⟨1, _⟩ => show win0_4.index t (1 : Fin 2) * 2048 + 1 * q.val = q.val; rw [e1]; omega

/-- A normalised row of the argument. -/
abbrev nrow (c : Dev nD) (i : Fin 16384) : Fin 2048 → EReal :=
  Rms.normed (fun l => m ((c : Thread nD τ).loc main_arg0) (ix2 i l)) (fun l => m ((c : Thread nD τ).loc main_arg1) (ix1 l))

/-- What hidden unit `u` adds to entry `(i, q)`. -/
abbrev adds (c : Dev nD) (i : Fin 16384) (q : Fin 2048) (u : ℕ) : EReal :=
  unit (nrow m c i) (m ((c : Thread nD τ).loc main_arg2)) (m ((c : Thread nD τ).loc main_arg3)) q u

/-- What the first point of a row block normalises, entry by entry. -/
theorem pay1_blk (c : Dev nD) (t : Fin cfg0.N) (r : Fin 512) (k : Fin 2048) :
    k0_pay1 (iblk m c 0 t) (iblk m c 1 t) (ix2 r k) = nrow m c (row t.val t.isLt r) k :=
  (pay1_apply _ _ r k).trans
    (congrArg₂ (fun f g => Rms.normed f g k) (funext fun l => blk_x m c t r l) (funext fun l => blk_g m c t l))

/-- What point `t` adds to the accumulator, given the normalised rows. -/
theorem pay3_blk (c : Dev nD) (t : Fin cfg0.N) (n : Vec Ideal S512x2048 .bf16) (acc : Vec Ideal S512x2048 .f32)
    (r : Fin 512) (q : Fin 2048) (hn : ∀ k, n (ix2 r k) = nrow m c (row t.val t.isLt r) k) :
    k0_pay3 n (iblk m c 2 t) (iblk m c 3 t) acc (iblk m c 4 t) (ix2 r q)
      = acc (ix2 r q) + ∑ v ∈ Finset.range 512, adds m c (row t.val t.isLt r) q (t.val % 11 * 512 + v) := by
  refine (pay3_apply _ _ _ _ _ r q).trans (congrArg (fun s : EReal => acc (ix2 r q) + s) ?_)
  rw [Finset.sum_range]
  refine Finset.sum_congr rfl fun v _ => ?_
  refine congrArg₂ (· * · : EReal → EReal → EReal) (congrArg₂ act ?_ ?_) (blk_down m c t v q)
  · exact Finset.sum_congr rfl fun k _ => congrArg₂ (· * · : EReal → EReal → EReal) (hn k) (blk_gate m c t k v)
  · exact Finset.sum_congr rfl fun k _ => congrArg₂ (· * · : EReal → EReal → EReal) (hn k) (blk_up m c t k v)

/-- The first point of a row block leaves the block's normalised rows in the first scratch … -/
theorem rows_first (c : Dev nD) (t : Fin cfg0.N) (h0 : t.val % 11 = 0) (r : Fin 512) (k : Fin 2048) :
    (outsAt0 m c t.val t.isLt).2.1 (ix2 r k) = nrow m c (row t.val t.isLt r) k := by
  rw [outsAt0_A m c t h0 (by omega)]
  dsimp only
  unfold sout0_A_0
  rw [View.read_writes_eq_canon _ _ _ (scover0_A_0 _ _ _ _ _ _ _ _ _ _ _ _ _ _ _ _ _ _ _ _ _ _ _ _ _)]
  unfold kernelRun0_A
  dsimp only
  sl_unfold_words
  rw [View.canon_unit_zero Common.off2]
  simp only [View.readAt_eq_ld, (hs0_0 t).read_unread, (hs0_1 t).read_unread,
    View.ld_unit_zero (S := S512x2048) Common.off2, View.ld_unit_zero (S := S1x2048) Common.off2]
  exact pay1_blk m c t r k

/-- … and the other points of the row block keep them. -/
theorem rows_eq (c : Dev nD) : ∀ (n : ℕ) (h : n < cfg0.N) (r : Fin 512) (k : Fin 2048),
    (outsAt0 m c n h).2.1 (ix2 r k) = nrow m c (row n h r) k
  | 0, h, r, k => rows_first m c ⟨0, h⟩ rfl r k
  | n + 1, h, r, k => by
    by_cases h0 : (n + 1) % 11 = 0
    · exact rows_first m c ⟨n + 1, h⟩ h0 r k
    · have ih := (rows_eq c n (by omega) r k).trans (congrArg (fun i => nrow m c i k) (Fin.ext (by
        show n / 11 * 512 + r.val = (n + 1) / 11 * 512 + r.val
        omega) : row n (by omega) r = row (n + 1) h r))
      by_cases h1 : (n + 1) % 11 = 10
      · rw [outsAt0_C m c ⟨n + 1, h⟩ h0 h1]
        dsimp only
        unfold sout0_C_0
        exact ih
      · rw [outsAt0_B m c ⟨n + 1, h⟩ h0 h1]
        dsimp only
        unfold sout0_B_0
        exact ih

/-- The accumulator after the first point of a row block. -/
theorem acc_first (c : Dev nD) (t : Fin cfg0.N) (h0 : t.val % 11 = 0) (r : Fin 512) (q : Fin 2048) :
    (outsAt0 m c t.val t.isLt).2.2 (ix2 r q)
      = ∑ u ∈ Finset.range ((t.val % 11 + 1) * 512), adds m c (row t.val t.isLt r) q u := by
  rw [outsAt0_A m c t h0 (by omega)]
  dsimp only
  unfold sout0_A_1
  rw [View.read_writes_eq_canon _ _ _ (scover0_A_1 _ _ _ _ _ _ _ _ _ _ _ _ _ _ _ _ _ _ _ _ _ _ _ _ _)]
  unfold kernelRun0_A
  dsimp only
  sl_unfold_words
  rw [View.canon_cons_unit_zero Common.off2]
  simp only [View.readCov_unit_zero (S := S512x2048) _ Common.off2, View.readAt_eq_ld, (hs0_0 t).read_unread, (hs0_1 t).read_unread, (hs0_2 t).read_unread,
    (hs0_3 t).read_unread, (hs0_4 t).read_unread,
    View.ld_unit_zero (S := S512x2048) Common.off2, View.ld_unit_zero (S := S1x2048) Common.off2,
    View.ld_unit_zero (S := S2048x512) Common.off2]
  refine (pay3_blk m c t _ _ r q (pay1_blk m c t r)).trans ?_
  rw [pay2_apply, zero_add, h0]
  simp only [zero_mul, zero_add, one_mul]

/-- What a later point adds to the accumulator it finds. -/
theorem acc_step (s : EReal) (c : Dev nD) (n : ℕ) (h : n + 1 < cfg0.N) (h0 : ¬(n + 1) % 11 = 0) (r : Fin 512) (q : Fin 2048)
    (hs : s = ∑ u ∈ Finset.range ((n % 11 + 1) * 512), adds m c (row n (by omega) r) q u) :
    s + ∑ v ∈ Finset.range 512, adds m c (row (n + 1) h r) q ((n + 1) % 11 * 512 + v)
      = ∑ u ∈ Finset.range (((n + 1) % 11 + 1) * 512), adds m c (row (n + 1) h r) q u := by
  have er : row n (by omega) r = row (n + 1) h r := Fin.ext (by
    show n / 11 * 512 + r.val = (n + 1) / 11 * 512 + r.val
    omega)
  rw [hs, er, show n % 11 + 1 = (n + 1) % 11 by omega, show ((n + 1) % 11 + 1) * 512 = (n + 1) % 11 * 512 + 512 by omega,
    Finset.sum_range_add]

/-- The accumulator after each point: the units of the blocks so far. -/
theorem acc_eq (c : Dev nD) : ∀ (n : ℕ) (h : n < cfg0.N) (r : Fin 512) (q : Fin 2048),
    (outsAt0 m c n h).2.2 (ix2 r q) = ∑ u ∈ Finset.range ((n % 11 + 1) * 512), adds m c (row n h r) q u
  | 0, h, r, q => acc_first m c ⟨0, h⟩ rfl r q
  | n + 1, h, r, q => by
    by_cases h0 : (n + 1) % 11 = 0
    · exact acc_first m c ⟨n + 1, h⟩ h0 r q
    · have ih := acc_eq c n (by omega) r q
      have hr : ∀ k, (outsAt0 m c n (by omega)).2.1 (ix2 r k) = nrow m c (row (n + 1) h r) k := fun k =>
        (rows_eq m c n (by omega) r k).trans (congrArg (fun i => nrow m c i k) (Fin.ext (by
          show n / 11 * 512 + r.val = (n + 1) / 11 * 512 + r.val
          omega) : row n (by omega) r = row (n + 1) h r))
      by_cases h1 : (n + 1) % 11 = 10
      · rw [outsAt0_C m c ⟨n + 1, h⟩ h0 h1]
        dsimp only
        unfold sout0_C_1
        rw [View.read_writes_eq_canon _ _ _ (scover0_C_1 _ _ _ _ _ _ _ _ _ _ _ _ _ _ _ _ _ _ _ _ _ _ _ _ _ _ _)]
        unfold kernelRun0_C
        dsimp only
        sl_unfold_words
        rw [View.canon_unit_zero Common.off2]
        simp only [View.readAt_eq_ld, (hs0_2 ⟨n + 1, h⟩).read_unread, (hs0_3 ⟨n + 1, h⟩).read_unread,
          (hs0_4 ⟨n + 1, h⟩).read_unread, (Memref.isWhole_whole _).read_unread,
          View.ld_unit_zero (S := S512x2048) Common.off2, View.ld_unit_zero (S := S2048x512) Common.off2]
        exact (pay3_blk m c ⟨n + 1, h⟩ _ _ r q hr).trans (acc_step m _ c n h h0 r q ih)
      · rw [outsAt0_B m c ⟨n + 1, h⟩ h0 h1]
        dsimp only
        unfold sout0_B_1
        rw [View.read_writes_eq_canon _ _ _ (scover0_B_1 _ _ _ _ _ _ _ _ _ _ _ _ _ _ _ _ _ _ _ _ _ _ _ _ _ _ _)]
        unfold kernelRun0_B
        dsimp only
        sl_unfold_words
        rw [View.canon_unit_zero Common.off2]
        simp only [View.readAt_eq_ld, (hs0_2 ⟨n + 1, h⟩).read_unread, (hs0_3 ⟨n + 1, h⟩).read_unread,
          (hs0_4 ⟨n + 1, h⟩).read_unread, (Memref.isWhole_whole _).read_unread,
          View.ld_unit_zero (S := S512x2048) Common.off2, View.ld_unit_zero (S := S2048x512) Common.off2]
        exact (pay3_blk m c ⟨n + 1, h⟩ _ _ r q hr).trans (acc_step m _ c n h h0 r q ih)

/-- An entry of the argument. -/
abbrev xat (c : Dev nD) (i : Fin 16384) (q : Fin 2048) : EReal := m ((c : Thread nD τ).loc main_arg0) (ix2 i q)

/-- The block the last point of a row block leaves in the output buffer, entry by entry. -/
theorem out_eq (c : Dev nD) (n : ℕ) (h : n + 1 < cfg0.N) (h1 : (n + 1) % 11 = 10) (r : Fin 512) (q : Fin 2048) :
    (outsAt0 m c (n + 1) h).1 (ix2 r q)
      = xat m c (row (n + 1) h r) q
        + Ideal.ofBits .f32 0x3F000000#32 * ∑ u : Fin 5504, adds m c (row (n + 1) h r) q u.val := by
  have h0 : ¬(n + 1) % 11 = 0 := by omega
  have hr : ∀ k, (outsAt0 m c n (by omega)).2.1 (ix2 r k) = nrow m c (row (n + 1) h r) k := fun k =>
    (rows_eq m c n (by omega) r k).trans (congrArg (fun i => nrow m c i k) (Fin.ext (by
      show n / 11 * 512 + r.val = (n + 1) / 11 * 512 + r.val
      omega) : row n (by omega) r = row (n + 1) h r))
  rw [outsAt0_C m c ⟨n + 1, h⟩ h0 h1]
  dsimp only
  unfold out0_C_5
  rw [View.read_writes_eq_canon _ _ _ (cover0_C_5 _ _ _ _ _ _ _ _ _ _ _ _ _ _ _ _ _ _ _ _ _ _ _ _ _ _ _)]
  unfold kernelRun0_C
  dsimp only
  sl_unfold_words
  rw [View.canon_unit_zero Common.off2]
  simp only [View.readCov_unit_zero (S := S512x2048) _ Common.off2, View.readAt_eq_ld, (hs0_0 ⟨n + 1, h⟩).read_unread,
    (hs0_2 ⟨n + 1, h⟩).read_unread, (hs0_3 ⟨n + 1, h⟩).read_unread,
    (hs0_4 ⟨n + 1, h⟩).read_unread, (Memref.isWhole_whole _).read_unread,
    View.ld_unit_zero (S := S512x2048) Common.off2, View.ld_unit_zero (S := S2048x512) Common.off2]
  refine (pay4_apply _ _ _).trans ?_
  refine congrArg₂ (fun a b : EReal => a + Ideal.ofBits .f32 0x3F000000#32 * b) (blk_x m c ⟨n + 1, h⟩ r q) ?_
  refine ((pay3_blk m c ⟨n + 1, h⟩ _ _ r q hr).trans (acc_step m _ c n h h0 r q (acc_eq m c n (by omega) r q))).trans ?_
  rw [h1]
  exact sum_units _ _ _ q

/-- The reference's hidden unit `u` of row `i`, up and gate together, is the row's product with column `u`. -/
theorem ref_hidden (x : S16384x2048.Idx → EReal) (g : S2048.Idx → EReal) (w : S2048x11008.Idx → EReal) (i : Fin 16384)
    (u : Fin 11008) :
    Cert.ReferenceFfnIdeal.Read.val_main_v13 (F := Ideal) x g w (ix2 i u)
      = ∑ k : Fin 2048, Rms.normed (fun l => x (ix2 i l)) (fun l => g (ix1 l)) k * w (ix2 k u) := by
  rw [Cert.ReferenceFfnIdeal.Read.val_main_v13_apply]
  refine Finset.sum_congr rfl fun k _ => congrArg₂ (· * ·) ?_ (congrArg w ?_)
  · refine (congrArg _ (?_ : _ = ix2 i k)).trans (Rms.ref_apply x g i k)
    funext a; match a with | ⟨0, _⟩ => rfl | ⟨1, _⟩ => rfl
  · funext a; match a with | ⟨0, _⟩ => rfl | ⟨1, _⟩ => rfl

/-- The reference's activations. -/
theorem ref_act (x : S16384x2048.Idx → EReal) (g : S2048.Idx → EReal) (w : S2048x11008.Idx → EReal) (i : Fin 16384)
    (u : Fin 5504) :
    Cert.ReferenceFfnIdeal.Read.val_main_v17 (F := Ideal) x g w (ix2 i u)
      = act (∑ k : Fin 2048, Rms.normed (fun l => x (ix2 i l)) (fun l => g (ix1 l)) k * wGate w k u.val)
          (∑ k : Fin 2048, Rms.normed (fun l => x (ix2 i l)) (fun l => g (ix1 l)) k * wUp w k u.val) := by
  have eg : Cert.ReferenceFfnIdeal.Read.val_main_v14 (F := Ideal) x g w (ix2 i u)
      = ∑ k : Fin 2048, Rms.normed (fun l => x (ix2 i l)) (fun l => g (ix1 l)) k * wGate w k u.val := by
    rw [Cert.ReferenceFfnIdeal.Read.val_main_v14_apply]
    refine (congrArg _ (?_ : _ = ix2 i (⟨u.val, by omega⟩ : Fin 11008))).trans ((ref_hidden x g w i _).trans ?_)
    · funext a; match a with | ⟨0, _⟩ => rfl | ⟨1, _⟩ => rfl
    · refine Finset.sum_congr rfl fun k _ => congrArg₂ (· * · : EReal → EReal → EReal) rfl ?_
      unfold wGate
      rw [dif_pos u.isLt]
  have eu : Cert.ReferenceFfnIdeal.Read.val_main_v15 (F := Ideal) x g w (ix2 i u)
      = ∑ k : Fin 2048, Rms.normed (fun l => x (ix2 i l)) (fun l => g (ix1 l)) k * wUp w k u.val := by
    rw [Cert.ReferenceFfnIdeal.Read.val_main_v15_apply]
    refine (congrArg _ (?_ : _ = ix2 i (⟨5504 + u.val, by omega⟩ : Fin 11008))).trans ((ref_hidden x g w i _).trans ?_)
    · funext a; match a with | ⟨0, _⟩ => rfl | ⟨1, _⟩ => rfl
    · refine Finset.sum_congr rfl fun k _ => congrArg₂ (· * · : EReal → EReal → EReal) rfl ?_
      unfold wUp
      rw [dif_pos u.isLt]
  rw [← eg, ← eu]
  rfl

/-- The reference at one row and column. -/
theorem ref_apply (x : S16384x2048.Idx → EReal) (g : S2048.Idx → EReal) (w : S2048x11008.Idx → EReal)
    (wd : S5504x2048.Idx → EReal) (i : Fin 16384) (q : Fin 2048) :
    Cert.ReferenceFfnIdeal.Read.val_main_v21 (F := Ideal) x g w wd (ix2 i q)
      = x (ix2 i q) + Ideal.ofBits .f32 0x3F000000#32
          * ∑ u : Fin 5504, unit (Rms.normed (fun l => x (ix2 i l)) (fun l => g (ix1 l))) w wd q u.val := by
  rw [Cert.ReferenceFfnIdeal.Read.val_main_v21_apply, Cert.ReferenceFfnIdeal.Read.val_main_v20_apply]
  refine congrArg (fun s : EReal => x (ix2 i q) + Ideal.ofBits .f32 0x3F000000#32 * s) ?_
  rw [Cert.ReferenceFfnIdeal.Read.val_main_v18_apply]
  refine Finset.sum_congr rfl fun u _ => congrArg₂ (· * · : EReal → EReal → EReal) ?_ ?_
  · refine (congrArg _ (?_ : _ = ix2 i u)).trans (ref_act x g w i u)
    funext a; match a with | ⟨0, _⟩ => rfl | ⟨1, _⟩ => rfl
  · unfold wDown
    rw [dif_pos u.isLt]
    refine congrArg wd ?_
    funext a; match a with | ⟨0, _⟩ => rfl | ⟨1, _⟩ => rfl

/-- What the array holds after the run: the reference's own value of the arguments. -/
abbrev G (c : Dev nD) : S16384x2048.Idx → EReal :=
  Cert.ReferenceFfnIdeal.Read.val_main_v21 (F := Ideal) (m ((c : Thread nD τ).loc main_arg0))
    (m ((c : Thread nD τ).loc main_arg1)) (m ((c : Thread nD τ).loc main_arg2)) (m ((c : Thread nD τ).loc main_arg3))

/-- What point `t` writes back is its block of that array. -/
theorem flushed_eq (c : Dev nD) (t : Fin cfg0.N) (hf : (cfg0.win 5).flush t = true) :
    (dats m 0 c).flushed 5 t = ((cfg0.win 5).blk t).view.read (Elt Ideal) (G m c) := by
  have h1 : t.val % 11 = 10 := of_decide_eq_true ((flush_facts t).symm.trans hf)
  rw [Value.flushed5]
  funext y
  obtain ⟨r, q, rfl⟩ := Common.exists_ix2 (M := 512) (N := 2048) y
  rw [View.read_apply, emb_out t r q]
  obtain ⟨n, hn⟩ := t
  cases n with
  | zero => exact absurd (show (0 : ℕ) % 11 = 10 from h1) (by decide)
  | succ n => exact (out_eq m c n hn h1 r q).trans (ref_apply _ _ _ _ _ _).symm

/-- Every index lies in the block some point writes back. -/
theorem covered (i : S16384x2048.Idx) : ∃ t : Fin cfg0.N, (cfg0.win 5).flush t = true ∧ i ∈ ((cfg0.win 5).blk t).view.set := by
  have h0 : (i 0).val < 16384 := (i 0).isLt
  have h1 : (i 1).val < 2048 := (i 1).isLt
  have hN : cfg0.N = 352 := N_0
  obtain ⟨t, ht⟩ : ∃ t : Fin cfg0.N, t.val = 11 * ((i 0).val / 512) + 10 := ⟨⟨_, by omega⟩, rfl⟩
  refine ⟨t, (flush_facts t).trans (decide_eq_true (by omega)), ?_⟩
  show i ∈ ((View.whole main_v9).slice (win0_5.rect t)).set
  rw [View.set_slice_whole, Rect.mem_set_unit]
  obtain ⟨-, -, -, -, -, -, -, -, -, -, e0, e1⟩ := idx_facts t
  intro a
  match a with
  | ⟨0, _⟩ =>
    show win0_5.index t (0 : Fin 2) * 512 ≤ (i 0).val ∧ (i 0).val < win0_5.index t (0 : Fin 2) * 512 + 512
    rw [e0]; omega
  | ⟨1, _⟩ =>
    show win0_5.index t (1 : Fin 2) * 2048 ≤ (i 1).val ∧ (i 1).val < win0_5.index t (1 : Fin 2) * 2048 + 2048
    rw [e1]; omega

/-- The array after the run is the reference's value. -/
theorem final (c : Dev nD) : (dats m 0 c).arrAt 5 cfg0.N = G m c :=
  (dats m 0 c).arrAt_eq_of_cover 5 (G m c) (flushed_eq m c) covered

/-- The kernel's run and the reference's end with the same array and leave the arguments unchanged. -/
theorem algebraic : Cert.algebraic_KernelFfnIdeal_ReferenceFfnIdeal := fun m ρ m' ρ' _ hag =>
  ⟨fun c => G m c,
    (θ_run _ _ _).mono (fun _ h c => ⟨(h c).1.trans (final m c), (h c).2⟩) (Value.run_blocks m ρ),
    (θ_run _ _ _).mono (fun _ h c => ⟨(h c).1.trans (by rw [(hag c).1, (hag c).2.1, (hag c).2.2.1, (hag c).2.2.2]; rfl), (h c).2⟩)
      (Cert.ReferenceFfnIdeal.Value.run m' ρ')⟩

end Cert.FfnValue

end
-- ==== Proof.NormMm.lean ====
/- A projection of normalised rows: the array after the run is `normed x · w`. -/
module

public import proofs.«01_k».proof.Defs
public import proofs.«01_k».proof.Proof.Common
public import proofs.«01_k».proof.Proof.Rms
public import proofs.«01_k».proof.Proof.Gen.KernelNormMmIdeal.Value
public import proofs.«01_k».proof.Proof.Gen.ReferenceNormMmIdeal.Read

@[expose] public section

set_option maxRecDepth 16384

noncomputable section

namespace Cert.NormMmValue

open Cert.KernelNormMmIdeal Cert.KernelNormMmIdeal.Gen Idealize.ShloMosaic Idealize.ShloMosaic.TcCoe Idealize.SL.Sem
open Idealize.ShloMosaic.Pipeline (Dat)
open Idealize.ShloMosaic.ValueIdx
open scoped BigOperators

variable (m : (ℓ : Loc nD τ sig) → Buf (Elt Ideal) ℓ) (ρ : Dev nD → PrngReg)

/-- The normalised rows as the scratch holds them, entry by entry. -/
theorem pay1_apply (x : Vec Ideal S512x2048 .f32) (g : Vec Ideal S1x2048 .f32) (r : Fin 512) (k : Fin 2048) :
    k0_pay1 x g (ix2 r k) = Rms.normed (fun l => x (ix2 r l)) (fun l => g (ix2 0 l)) k := by
  unfold k0_pay1
  rw [shapeCast_self, shapeCast_self]
  exact Rms.block_apply x g _ _ _ _ r k

/-- The product of the scratch's rows with the weight block, entry by entry. -/
theorem pay2_apply (a : Vec Ideal S512x2048 .bf16) (w : Vec Ideal S2048x1024 .bf16) (r : Fin 512) (q : Fin 1024) :
    k0_pay2 a w (ix2 r q) = ∑ k : Fin 2048, a (ix2 r k) * w (ix2 k q) := by
  unfold k0_pay2
  rw [shapeCast_self]
  exact Common.mm_zero none _ _ r q

/-- Point `t` works on row block `t / 6` and column block `t % 6`. -/
theorem idx_facts : ∀ t : Fin cfg0.N,
    win0_0.index t (0 : Fin 2) = t.val / 6 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = t.val % 6
    ∧ win0_3.index t (0 : Fin 2) = t.val / 6 ∧ win0_3.index t (1 : Fin 2) = t.val % 6 :=
  (by decide +kernel : ∀ t : Fin grid0.N, _)

/-- The weight array the region finds is the argument itself: the cast leaves extended reals alone. -/
theorem V_weight (c : Dev nD) : V m c main_v0 = m ((c : Thread nD τ).loc main_arg2) := by
  show StableHlo.after hostOps0 (fun b => m (c, b)) main_v0 = _
  after_results
  rfl

/-- The gain as the one-row array the region finds. -/
theorem V_gain (c : Dev nD) (k : Fin 2048) :
    V m c main_v1 (ix2 0 k) = m ((c : Thread nD τ).loc main_arg1) (ix1 k) := by
  have e : V m c main_v1 = shapeCast S1x2048 (m ((c : Thread nD τ).loc main_arg1)) shapeCasts_S2048_S1x2048 := by
    show StableHlo.after hostOps0 (fun b => m (c, b)) main_v1 = _
    after_results
    rfl
  rw [e]
  exact shapeCast_apply _ _ (ix2 0 k) (ix1 k) (by
    rw [Shape.rowMajor_val_one, Shape.rowMajor_val_two]; show k.val = 0 * 2048 + k.val; omega)

/-- The row of the whole array that row `r` of the block at position `n` is. -/
def row (n : ℕ) (h : n < cfg0.N) (r : Fin 512) : Fin 16384 :=
  ⟨n / 6 * 512 + r.val, by have : cfg0.N = 192 := N_0; omega⟩

/-- The column of the whole array that column `q` of point `t`'s block is. -/
def col (t : Fin cfg0.N) (q : Fin 1024) : Fin 6144 := ⟨t.val % 6 * 1024 + q.val, by omega⟩

/-- Where the output block's entries lie in the array. -/
theorem emb_out (t : Fin cfg0.N) (r : Fin 512) (q : Fin 1024) :
    ((cfg0.win 3).blk t).view.emb (ix2 r q) = ix2 (row t.val t.isLt r) (col t q) := by
  obtain ⟨-, -, -, -, -, -, e0, e1⟩ := idx_facts t
  funext a; apply Fin.ext
  match a with
  | ⟨0, _⟩ => show win0_3.index t (0 : Fin 2) * 512 + 1 * r.val = t.val / 6 * 512 + r.val; rw [e0]; omega
  | ⟨1, _⟩ => show win0_3.index t (1 : Fin 2) * 1024 + 1 * q.val = t.val % 6 * 1024 + q.val; rw [e1]; omega

/-- The rows at point `t`. -/
theorem blk_x (c : Dev nD) (t : Fin cfg0.N) (r : Fin 512) (k : Fin 2048) :
    iblk m c 0 t (ix2 r k) = m ((c : Thread nD τ).loc main_arg0) (ix2 (row t.val t.isLt r) k) := by
  unfold iblk
  rw [View.read_apply]
  show V m c main_arg0 _ = _
  rw [V_main_arg0]
  obtain ⟨e0, e1, -⟩ := idx_facts t
  refine congrArg _ (funext fun a => Fin.ext ?_)
  match a with
  | ⟨0, _⟩ => show win0_0.index t (0 : Fin 2) * 512 + 1 * r.val = t.val / 6 * 512 + r.val; rw [e0]; omega
  | ⟨1, _⟩ => show win0_0.index t (1 : Fin 2) * 2048 + 1 * k.val = k.val; rw [e1]; omega

/-- The gain at point `t`. -/
theorem blk_g (c : Dev nD) (t : Fin cfg0.N) (k : Fin 2048) :
    iblk m c 1 t (ix2 0 k) = m ((c : Thread nD τ).loc main_arg1) (ix1 k) := by
  unfold iblk
  rw [View.read_apply]
  show V m c main_v1 _ = _
  rw [← V_gain m c k]
  obtain ⟨-, -, e0, e1, -⟩ := idx_facts t
  refine congrArg _ (funext fun a => Fin.ext ?_)
  match a with
  | ⟨0, _⟩ => show win0_1.index t (0 : Fin 2) * 1 + 1 * 0 = 0; rw [e0]
  | ⟨1, _⟩ => show win0_1.index t (1 : Fin 2) * 2048 + 1 * k.val = k.val; rw [e1]; omega

/-- The weights' columns at point `t`. -/
theorem blk_w (c : Dev nD) (t : Fin cfg0.N) (k : Fin 2048) (q : Fin 1024) :
    iblk m c 2 t (ix2 k q) = m ((c : Thread nD τ).loc main_arg2) (ix2 k (col t q)) := by
  unfold iblk
  rw [View.read_apply]
  show V m c main_v0 _ = _
  rw [V_weight]
  obtain ⟨-, -, -, -, e0, e1, -⟩ := idx_facts t
  refine congrArg _ (funext fun a => Fin.ext ?_)
  match a with
  | ⟨0, _⟩ => show win0_2.index t (0 : Fin 2) * 2048 + 1 * k.val = k.val; rw [e0]; omega
  | ⟨1, _⟩ => show win0_2.index t (1 : Fin 2) * 1024 + 1 * q.val = t.val % 6 * 1024 + q.val; rw [e1]; omega

/-- A normalised row of the argument. -/
abbrev nrow (c : Dev nD) (i : Fin 16384) : Fin 2048 → EReal :=
  Rms.normed (fun l => m ((c : Thread nD τ).loc main_arg0) (ix2 i l)) (fun l => m ((c : Thread nD τ).loc main_arg1) (ix1 l))

/-- What the first point of a row block normalises, entry by entry. -/
theorem pay1_blk (c : Dev nD) (t : Fin cfg0.N) (r : Fin 512) (k : Fin 2048) :
    k0_pay1 (iblk m c 0 t) (iblk m c 1 t) (ix2 r k) = nrow m c (row t.val t.isLt r) k :=
  (pay1_apply _ _ r k).trans
    (congrArg₂ (fun f g => Rms.normed f g k) (funext fun l => blk_x m c t r l) (funext fun l => blk_g m c t l))

/-- The first point of a row block leaves the block's normalised rows in the scratch … -/
theorem scr_first (c : Dev nD) (t : Fin cfg0.N) (h0 : t.val % 6 = 0) (r : Fin 512) (k : Fin 2048) :
    (outsAt0 m c t.val t.isLt).2 (ix2 r k) = nrow m c (row t.val t.isLt r) k := by
  rw [outsAt0_A m c t h0]
  dsimp only
  unfold sout0_A_0
  rw [View.read_writes_eq_canon _ _ _ (scover0_A_0 _ _ _ _ _ _ _ _ _ _ _ _ _ _ _ _)]
  unfold kernelRun0_A
  dsimp only
  sl_unfold_words
  rw [View.canon_unit_zero Common.off2]
  simp only [View.readAt_eq_ld, (hs0_0 t).read_unread, (hs0_1 t).read_unread,
    View.ld_unit_zero (S := S512x2048) Common.off2, View.ld_unit_zero (S := S1x2048) Common.off2]
  exact pay1_blk m c t r k

/-- … and the other points of the row block keep them. -/
theorem scr_eq (c : Dev nD) : ∀ (n : ℕ) (h : n < cfg0.N) (r : Fin 512) (k : Fin 2048),
    (outsAt0 m c n h).2 (ix2 r k) = nrow m c (row n h r) k
  | 0, h, r, k => scr_first m c ⟨0, h⟩ rfl r k
  | n + 1, h, r, k => by
    by_cases h0 : (n + 1) % 6 = 0
    · exact scr_first m c ⟨n + 1, h⟩ h0 r k
    · rw [outsAt0_B m c ⟨n + 1, h⟩ h0]
      dsimp only
      unfold sout0_B_0
      refine (scr_eq c n (by omega) r k).trans (congrArg (fun i => nrow m c i k) (Fin.ext ?_))
      show n / 6 * 512 + r.val = (n + 1) / 6 * 512 + r.val
      omega

/-- The block every point leaves in the output buffer, entry by entry. -/
theorem out_eq (c : Dev nD) (t : Fin cfg0.N) (r : Fin 512) (q : Fin 1024) :
    (outsAt0 m c t.val t.isLt).1 (ix2 r q)
      = ∑ k : Fin 2048, nrow m c (row t.val t.isLt r) k * m ((c : Thread nD τ).loc main_arg2) (ix2 k (col t q)) := by
  by_cases h0 : t.val % 6 = 0
  · rw [outsAt0_A m c t h0]
    dsimp only
    unfold out0_A_3
    rw [View.read_writes_eq_canon _ _ _ (cover0_A_3 _ _ _ _ _ _ _ _ _ _ _ _ _ _ _ _)]
    unfold kernelRun0_A
    dsimp only
    sl_unfold_words
    rw [View.canon_unit_zero Common.off2, View.readCov_unit_zero (S := S512x2048) _ Common.off2]
    simp only [View.readAt_eq_ld, (hs0_0 t).read_unread, (hs0_1 t).read_unread, (hs0_2 t).read_unread,
      View.ld_unit_zero (S := S512x2048) Common.off2, View.ld_unit_zero (S := S1x2048) Common.off2,
      View.ld_unit_zero (S := S2048x1024) Common.off2]
    refine (pay2_apply _ _ r q).trans ?_
    exact Finset.sum_congr rfl fun k _ => congrArg₂ (· * · : EReal → EReal → EReal) (pay1_blk m c t r k) (blk_w m c t k q)
  · have hs := scr_eq m c t.val t.isLt
    rw [outsAt0_B m c t h0] at hs ⊢
    dsimp only at hs ⊢
    unfold sout0_B_0 at hs
    unfold out0_B_3
    rw [View.read_writes_eq_canon _ _ _ (cover0_B_3 _ _ _ _ _ _ _ _ _ _ _ _ _ _ _ _ _)]
    unfold kernelRun0_B
    dsimp only
    sl_unfold_words
    rw [View.canon_unit_zero Common.off2]
    simp only [View.readAt_eq_ld, (hs0_2 t).read_unread, (Memref.isWhole_whole _).read_unread,
      View.ld_unit_zero (S := S2048x1024) Common.off2, View.ld_unit_zero (S := S512x2048) Common.off2]
    refine (pay2_apply _ _ r q).trans ?_
    exact Finset.sum_congr rfl fun k _ => congrArg₂ (· * · : EReal → EReal → EReal) (hs r k) (blk_w m c t k q)

/-- What the array holds after the run: the reference's own value of the arguments. -/
abbrev G (c : Dev nD) : S16384x6144.Idx → EReal :=
  Cert.ReferenceNormMmIdeal.Read.val_main_v13 (F := Ideal) (m ((c : Thread nD τ).loc main_arg0))
    (m ((c : Thread nD τ).loc main_arg1)) (m ((c : Thread nD τ).loc main_arg2))

/-- The reference at one row and column. -/
theorem ref_apply (x : S16384x2048.Idx → EReal) (g : S2048.Idx → EReal) (w : S2048x6144.Idx → EReal) (i : Fin 16384) (q : Fin 6144) :
    Cert.ReferenceNormMmIdeal.Read.val_main_v13 (F := Ideal) x g w (ix2 i q)
      = ∑ k : Fin 2048, Rms.normed (fun l => x (ix2 i l)) (fun l => g (ix1 l)) k * w (ix2 k q) := by
  rw [Cert.ReferenceNormMmIdeal.Read.val_main_v13_apply]
  refine Finset.sum_congr rfl fun k _ => congrArg₂ (· * ·) ?_ (congrArg w ?_)
  · refine (congrArg _ (?_ : _ = ix2 i k)).trans (Rms.ref_apply x g i k)
    funext a; match a with | ⟨0, _⟩ => rfl | ⟨1, _⟩ => rfl
  · funext a; match a with | ⟨0, _⟩ => rfl | ⟨1, _⟩ => rfl

/-- What point `t` writes back is its block of that array. -/
theorem flushed_eq (c : Dev nD) (t : Fin cfg0.N) (_ : (cfg0.win 3).flush t = true) :
    (dats m 0 c).flushed 3 t = ((cfg0.win 3).blk t).view.read (Elt Ideal) (G m c) := by
  rw [Value.flushed3]
  funext y
  obtain ⟨r, q, rfl⟩ := Common.exists_ix2 (M := 512) (N := 1024) y
  rw [View.read_apply, emb_out t r q]
  exact (out_eq m c t r q).trans (ref_apply _ _ _ _ _).symm

/-- Every index lies in the block some point writes back. -/
theorem covered (i : S16384x6144.Idx) : ∃ t : Fin cfg0.N, (cfg0.win 3).flush t = true ∧ i ∈ ((cfg0.win 3).blk t).view.set := by
  have h0 : (i 0).val < 16384 := (i 0).isLt
  have h1 : (i 1).val < 6144 := (i 1).isLt
  have hN : cfg0.N = 192 := N_0
  obtain ⟨t, ht⟩ : ∃ t : Fin cfg0.N, t.val = 6 * ((i 0).val / 512) + (i 1).val / 1024 := ⟨⟨_, by omega⟩, rfl⟩
  refine ⟨t, (by decide +kernel : ∀ t : Fin grid0.N, win0_3.flush t = true) t, ?_⟩
  show i ∈ ((View.whole main_v2).slice (win0_3.rect t)).set
  rw [View.set_slice_whole, Rect.mem_set_unit]
  obtain ⟨-, -, -, -, -, -, e0, e1⟩ := idx_facts t
  intro a
  match a with
  | ⟨0, _⟩ =>
    show win0_3.index t (0 : Fin 2) * 512 ≤ (i 0).val ∧ (i 0).val < win0_3.index t (0 : Fin 2) * 512 + 512
    rw [e0]; omega
  | ⟨1, _⟩ =>
    show win0_3.index t (1 : Fin 2) * 1024 ≤ (i 1).val ∧ (i 1).val < win0_3.index t (1 : Fin 2) * 1024 + 1024
    rw [e1]; omega

/-- The array after the run is the reference's value. -/
theorem final (c : Dev nD) : (dats m 0 c).arrAt 3 cfg0.N = G m c :=
  (dats m 0 c).arrAt_eq_of_cover 3 (G m c) (flushed_eq m c) covered

/-- The kernel's run and the reference's end with the same product and leave the arguments unchanged. -/
theorem algebraic : Cert.algebraic_KernelNormMmIdeal_ReferenceNormMmIdeal := fun m ρ m' ρ' _ hag =>
  ⟨fun c => G m c,
    (θ_run _ _ _).mono (fun _ h c => ⟨(h c).1.trans (final m c), (h c).2⟩) (Value.run_blocks m ρ),
    (θ_run _ _ _).mono (fun _ h c => ⟨(h c).1.trans (by rw [(hag c).1, (hag c).2.1, (hag c).2.2]; rfl), (h c).2⟩)
      (Cert.ReferenceNormMmIdeal.Value.run m' ρ')⟩

end Cert.NormMmValue

end
-- ==== Proof.Proj.lean ====
/- The output projection with its residual: the array after the run is `x + o · w`. -/
module

public import proofs.«01_k».proof.Defs
public import proofs.«01_k».proof.Proof.Common
public import proofs.«01_k».proof.Proof.Gen.KernelProjIdeal.Value
public import proofs.«01_k».proof.Proof.Gen.ReferenceProjIdeal.Read

@[expose] public section

set_option maxRecDepth 16384

noncomputable section

namespace Cert.ProjValue

open Cert.KernelProjIdeal Cert.KernelProjIdeal.Gen Idealize.ShloMosaic Idealize.ShloMosaic.TcCoe Idealize.SL.Sem
open Idealize.ShloMosaic.Pipeline (Dat)
open Idealize.ShloMosaic.ValueIdx
open scoped BigOperators

variable (m : (ℓ : Loc nD τ sig) → Buf (Elt Ideal) ℓ) (ρ : Dev nD → PrngReg)

/-- One entry of the block a grid point computes: the residual's entry plus the row's product with the column. -/
theorem pay_apply (x : Vec Ideal S512x1024 .f32) (o : Vec Ideal S512x2048 .f32) (w : Vec Ideal S2048x1024 .bf16)
    (r : Fin 512) (c : Fin 1024) :
    k0_pay1 x o w (ix2 r c) = x (ix2 r c) + ∑ k : Fin 2048, o (ix2 r k) * w (ix2 k c) := by
  unfold k0_pay1
  rw [shapeCast_self]
  exact congrArg (x (ix2 r c) + ·) (Common.mm_zero none _ _ r c)

/-- The block a grid point leaves in its output buffer, entry by entry. -/
theorem out_apply (x : Vec Ideal S512x1024 .f32) (o : Vec Ideal S512x2048 .f32) (w : Vec Ideal S2048x1024 .bf16)
    (r : Fin 512) (c : Fin 1024) :
    out0_3 x o w (ix2 r c) = x (ix2 r c) + ∑ k : Fin 2048, o (ix2 r k) * w (ix2 k c) := by
  unfold out0_3
  rw [View.canon_unit_zero Common.off2]
  simp only [View.ld_unit_zero (S := S512x1024) Common.off2, View.ld_unit_zero (S := S512x2048) Common.off2,
    View.ld_unit_zero (S := S2048x1024) Common.off2]
  exact pay_apply x o w r c

/-- Point `t` works on row block `t / 2` and column block `t % 2`. -/
theorem idx_facts : ∀ t : Fin cfg0.N,
    win0_0.index t (0 : Fin 2) = t.val / 2 ∧ win0_0.index t (1 : Fin 2) = t.val % 2
    ∧ win0_1.index t (0 : Fin 2) = t.val / 2 ∧ win0_1.index t (1 : Fin 2) = 0
    ∧ win0_2.index t (0 : Fin 2) = 0 ∧ win0_2.index t (1 : Fin 2) = t.val % 2
    ∧ win0_3.index t (0 : Fin 2) = t.val / 2 ∧ win0_3.index t (1 : Fin 2) = t.val % 2 :=
  (by decide +kernel : ∀ t : Fin grid0.N, _)

/-- The weight array the region finds is the argument itself: the cast leaves extended reals alone. -/
theorem V_weight (c : Dev nD) : V m c main_v0 = m ((c : Thread nD τ).loc main_arg2) := by
  show StableHlo.after hostOps0 (fun b => m (c, b)) main_v0 = _
  after_results
  rfl

/-- The row of the whole array that row `r` of point `t`'s block is. -/
def row (t : Fin cfg0.N) (r : Fin 512) : Fin 16384 :=
  ⟨t.val / 2 * 512 + r.val, by have := t.isLt; have : cfg0.N = 64 := N_0; omega⟩

/-- The column of the whole array that column `q` of point `t`'s block is. -/
def col (t : Fin cfg0.N) (q : Fin 1024) : Fin 2048 := ⟨t.val % 2 * 1024 + q.val, by omega⟩

/-- Where the output block's entries lie in the array. -/
theorem emb_out (t : Fin cfg0.N) (r : Fin 512) (q : Fin 1024) :
    ((cfg0.win 3).blk t).view.emb (ix2 r q) = ix2 (row t r) (col t q) := by
  obtain ⟨-, -, -, -, -, -, e0, e1⟩ := idx_facts t
  funext a; apply Fin.ext
  match a with
  | ⟨0, _⟩ => show win0_3.index t (0 : Fin 2) * 512 + 1 * r.val = t.val / 2 * 512 + r.val; rw [e0]; omega
  | ⟨1, _⟩ => show win0_3.index t (1 : Fin 2) * 1024 + 1 * q.val = t.val % 2 * 1024 + q.val; rw [e1]; omega

/-- The residual block at point `t`. -/
theorem blk_x (c : Dev nD) (t : Fin cfg0.N) (r : Fin 512) (q : Fin 1024) :
    iblk m c 0 t (ix2 r q) = m ((c : Thread nD τ).loc main_arg0) (ix2 (row t r) (col t q)) := by
  unfold iblk
  rw [View.read_apply]
  show V m c main_arg0 _ = _
  rw [V_main_arg0]
  obtain ⟨e0, e1, -⟩ := idx_facts t
  refine congrArg _ (funext fun a => Fin.ext ?_)
  match a with
  | ⟨0, _⟩ => show win0_0.index t (0 : Fin 2) * 512 + 1 * r.val = t.val / 2 * 512 + r.val; rw [e0]; omega
  | ⟨1, _⟩ => show win0_0.index t (1 : Fin 2) * 1024 + 1 * q.val = t.val % 2 * 1024 + q.val; rw [e1]; omega

/-- The activations' rows at point `t`. -/
theorem blk_o (c : Dev nD) (t : Fin cfg0.N) (r : Fin 512) (k : Fin 2048) :
    iblk m c 1 t (ix2 r k) = m ((c : Thread nD τ).loc main_arg1) (ix2 (row t r) k) := by
  unfold iblk
  rw [View.read_apply]
  show V m c main_arg1 _ = _
  rw [V_main_arg1]
  obtain ⟨-, -, e0, e1, -⟩ := idx_facts t
  refine congrArg _ (funext fun a => Fin.ext ?_)
  match a with
  | ⟨0, _⟩ => show win0_1.index t (0 : Fin 2) * 512 + 1 * r.val = t.val / 2 * 512 + r.val; rw [e0]; omega
  | ⟨1, _⟩ => show win0_1.index t (1 : Fin 2) * 2048 + 1 * k.val = k.val; rw [e1]; omega

/-- The weights' columns at point `t`. -/
theorem blk_w (c : Dev nD) (t : Fin cfg0.N) (k : Fin 2048) (q : Fin 1024) :
    iblk m c 2 t (ix2 k q) = m ((c : Thread nD τ).loc main_arg2) (ix2 k (col t q)) := by
  unfold iblk
  rw [View.read_apply]
  show V m c main_v0 _ = _
  rw [V_weight]
  obtain ⟨-, -, -, -, e0, e1, -⟩ := idx_facts t
  refine congrArg _ (funext fun a => Fin.ext ?_)
  match a with
  | ⟨0, _⟩ => show win0_2.index t (0 : Fin 2) * 2048 + 1 * k.val = k.val; rw [e0]; omega
  | ⟨1, _⟩ => show win0_2.index t (1 : Fin 2) * 1024 + 1 * q.val = t.val % 2 * 1024 + q.val; rw [e1]; omega

/-- What the array holds after the run: the reference's own value of the arguments. -/
abbrev G (c : Dev nD) : S16384x2048.Idx → EReal :=
  Cert.ReferenceProjIdeal.Read.val_main_v1 (F := Ideal) (m ((c : Thread nD τ).loc main_arg0))
    (m ((c : Thread nD τ).loc main_arg1)) (m ((c : Thread nD τ).loc main_arg2))

/-- The reference at one row and column. -/
theorem ref_apply (x o : S16384x2048.Idx → EReal) (w : S2048x2048.Idx → EReal) (r : Fin 16384) (q : Fin 2048) :
    Cert.ReferenceProjIdeal.Read.val_main_v1 (F := Ideal) x o w (ix2 r q)
      = x (ix2 r q) + ∑ k : Fin 2048, o (ix2 r k) * w (ix2 k q) := by
  rw [Cert.ReferenceProjIdeal.Read.val_main_v1_apply, Cert.ReferenceProjIdeal.Read.val_main_v0_apply]
  refine congrArg (x (ix2 r q) + ·) (Finset.sum_congr rfl fun k _ => congrArg₂ (· * ·) (congrArg o ?_) (congrArg w ?_)) <;>
  · funext a; match a with | ⟨0, _⟩ => rfl | ⟨1, _⟩ => rfl

/-- What point `t` writes back is its block of that array. -/
theorem flushed_eq (c : Dev nD) (t : Fin cfg0.N) (_ : (cfg0.win 3).flush t = true) :
    (dats m 0 c).flushed 3 t = ((cfg0.win 3).blk t).view.read (Elt Ideal) (G m c) := by
  rw [Value.flushed3]
  funext y
  obtain ⟨r, q, rfl⟩ := Common.exists_ix2 (M := 512) (N := 1024) y
  rw [View.read_apply, emb_out t r q]
  refine (out_apply _ _ _ r q).trans ((?_ : _ = _).trans (ref_apply _ _ _ (row t r) (col t q)).symm)
  exact congrArg₂ (· + · : EReal → EReal → EReal) (blk_x m c t r q)
    (Finset.sum_congr rfl fun k _ => congrArg₂ (· * · : EReal → EReal → EReal) (blk_o m c t r k) (blk_w m c t k q))

/-- Every index lies in the block some point writes back. -/
theorem covered (i : S16384x2048.Idx) : ∃ t : Fin cfg0.N, (cfg0.win 3).flush t = true ∧ i ∈ ((cfg0.win 3).blk t).view.set := by
  have h0 : (i 0).val < 16384 := (i 0).isLt
  have h1 : (i 1).val < 2048 := (i 1).isLt
  have hN : cfg0.N = 64 := N_0
  obtain ⟨t, ht⟩ : ∃ t : Fin cfg0.N, t.val = 2 * ((i 0).val / 512) + (i 1).val / 1024 := ⟨⟨_, by omega⟩, rfl⟩
  refine ⟨t, (by decide +kernel : ∀ t : Fin grid0.N, win0_3.flush t = true) t, ?_⟩
  show i ∈ ((View.whole main_v1).slice (win0_3.rect t)).set
  rw [View.set_slice_whole, Rect.mem_set_unit]
  obtain ⟨-, -, -, -, -, -, e0, e1⟩ := idx_facts t
  intro a
  match a with
  | ⟨0, _⟩ =>
    show win0_3.index t (0 : Fin 2) * 512 ≤ (i 0).val ∧ (i 0).val < win0_3.index t (0 : Fin 2) * 512 + 512
    rw [e0]; omega
  | ⟨1, _⟩ =>
    show win0_3.index t (1 : Fin 2) * 1024 ≤ (i 1).val ∧ (i 1).val < win0_3.index t (1 : Fin 2) * 1024 + 1024
    rw [e1]; omega

/-- The array after the run is the reference's value. -/
theorem final (c : Dev nD) : (dats m 0 c).arrAt 3 cfg0.N = G m c :=
  (dats m 0 c).arrAt_eq_of_cover 3 (G m c) (flushed_eq m c) covered

/-- The kernel's run and the reference's end with the same array, `x + o · w`, and leave the arguments unchanged. -/
theorem algebraic : Cert.algebraic_KernelProjIdeal_ReferenceProjIdeal := fun m ρ m' ρ' _ hag =>
  ⟨fun c => G m c,
    (θ_run _ _ _).mono (fun _ h c => ⟨(h c).1.trans (final m c), (h c).2⟩) (Value.run_blocks m ρ),
    (θ_run _ _ _).mono (fun _ h c => ⟨(h c).1.trans (by rw [(hag c).1, (hag c).2.1, (hag c).2.2]; rfl), (h c).2⟩)
      (Cert.ReferenceProjIdeal.Value.run m' ρ')⟩

end Cert.ProjValue

end
-- ==== Proof.Gated.lean ====
/- The gated output projection: the array after the run is `x + (normed o · silu z)·w`, `z` the last quarter of the
   projection the call is given. -/
module

public import proofs.«01_k».proof.Defs
public import proofs.«01_k».proof.Proof.Common
public import proofs.«01_k».proof.Proof.Rms
public import proofs.«01_k».proof.Proof.Gen.KernelGatedIdeal.Value
public import proofs.«01_k».proof.Proof.Gen.ReferenceGatedIdeal.Read

@[expose] public section

set_option maxRecDepth 16384

noncomputable section

namespace Cert.GatedValue

open Cert.KernelGatedIdeal Cert.KernelGatedIdeal.Gen Idealize.ShloMosaic Idealize.ShloMosaic.TcCoe Idealize.SL.Sem
open Idealize.ShloMosaic.Pipeline (Dat)
open Idealize.ShloMosaic.ValueIdx
open scoped BigOperators

variable (m : (ℓ : Loc nD τ sig) → Buf (Elt Ideal) ℓ) (ρ : Dev nD → PrngReg)

/-- A value times its logistic gate. -/
def silu (z : EReal) : EReal :=
  z * Ideal.div (Ideal.ofBits .f32 0x3F800000#32) (Ideal.ofBits .f32 0x3F800000#32 + Ideal.exp (-z))

/-- The gated rows as the scratch holds them, entry by entry. -/
theorem pay1_apply (x : Vec Ideal S512x2048 .f32) (g : Vec Ideal S1x2048 .f32) (z : Vec Ideal S512x2048 .f32) (r : Fin 512) (k : Fin 2048) :
    k0_pay1 x g z (ix2 r k) = Rms.normed (fun l => x (ix2 r l)) (fun l => g (ix2 0 l)) k * silu (z (ix2 r k)) := by
  unfold k0_pay1
  rw [shapeCast_self, shapeCast_self]
  refine congrArg₂ (· * · : EReal → EReal → EReal) (Rms.block_apply x g _ _ _ _ r k) ?_
  show _ * Ideal.div _ (_ + Ideal.exp (Ideal.ofBits .f32 0x00000000#32 - _)) = _
  rw [Ideal.ofBits_zero_f32, zero_sub]
  rfl

/-- The residual plus the product of the scratch's rows with the weight block, entry by entry. -/
theorem pay2_apply (x : Vec Ideal S512x1024 .f32) (a : Vec Ideal S512x2048 .bf16) (w : Vec Ideal S2048x1024 .bf16) (r : Fin 512) (q : Fin 1024) :
    k0_pay2 x a w (ix2 r q) = x (ix2 r q) + ∑ k : Fin 2048, a (ix2 r k) * w (ix2 k q) := by
  unfold k0_pay2
  rw [shapeCast_self]
  exact congrArg (fun s : EReal => x (ix2 r q) + s) (Common.mm_zero none _ _ r q)

/-- Point `t` works on row block `t / 2` and column block `t % 2`. -/
theorem idx_facts : ∀ t : Fin cfg0.N,
    win0_0.index t (0 : Fin 2) = t.val / 2 ∧ win0_0.index t (1 : Fin 2) = t.val % 2
    ∧ win0_1.index t (0 : Fin 2) = t.val / 2 ∧ win0_1.index t (1 : Fin 2) = 0
    ∧ win0_2.index t (0 : Fin 2) = t.val / 2 ∧ win0_2.index t (1 : Fin 2) = 3
    ∧ win0_3.index t (0 : Fin 2) = 0 ∧ win0_3.index t (1 : Fin 2) = 0
    ∧ win0_4.index t (0 : Fin 2) = 0 ∧ win0_4.index t (1 : Fin 2) = t.val % 2
    ∧ win0_5.index t (0 : Fin 2) = t.val / 2 ∧ win0_5.index t (1 : Fin 2) = t.val % 2 :=
  (by decide +kernel : ∀ t : Fin grid0.N, _)

/-- The weight array the region finds is the argument itself: the cast leaves extended reals alone. -/
theorem V_weight (c : Dev nD) : V m c main_v0 = m ((c : Thread nD τ).loc main_arg4) := by
  show StableHlo.after hostOps0 (fun b => m (c, b)) main_v0 = _
  after_results
  rfl

/-- The gain as the one-row array the region finds. -/
theorem V_gain (c : Dev nD) (k : Fin 2048) :
    V m c main_v1 (ix2 0 k) = m ((c : Thread nD τ).loc main_arg3) (ix1 k) := by
  have e : V m c main_v1 = shapeCast S1x2048 (m ((c : Thread nD τ).loc main_arg3)) shapeCasts_S2048_S1x2048 := by
    show StableHlo.after hostOps0 (fun b => m (c, b)) main_v1 = _
    after_results
    rfl
  rw [e]
  exact shapeCast_apply _ _ (ix2 0 k) (ix1 k) (by
    rw [Shape.rowMajor_val_one, Shape.rowMajor_val_two]; show k.val = 0 * 2048 + k.val; omega)

/-- The row of the whole array that row `r` of the block at position `n` is. -/
def row (n : ℕ) (h : n < cfg0.N) (r : Fin 512) : Fin 16384 :=
  ⟨n / 2 * 512 + r.val, by have : cfg0.N = 64 := N_0; omega⟩

/-- The column of the whole array that column `q` of point `t`'s block is. -/
def col (t : Fin cfg0.N) (q : Fin 1024) : Fin 2048 := ⟨t.val % 2 * 1024 + q.val, by omega⟩

/-- The gate's column of the projection. -/
def gcol (k : Fin 2048) : Fin 8192 := ⟨6144 + k.val, by omega⟩

/-- Where the output block's entries lie in the array. -/
theorem emb_out (t : Fin cfg0.N) (r : Fin 512) (q : Fin 1024) :
    ((cfg0.win 5).blk t).view.emb (ix2 r q) = ix2 (row t.val t.isLt r) (col t q) := by
  obtain ⟨-, -, -, -, -, -, -, -, -, -, e0, e1⟩ := idx_facts t
  funext a; apply Fin.ext
  match a with
  | ⟨0, _⟩ => show win0_5.index t (0 : Fin 2) * 512 + 1 * r.val = t.val / 2 * 512 + r.val; rw [e0]; omega
  | ⟨1, _⟩ => show win0_5.index t (1 : Fin 2) * 1024 + 1 * q.val = t.val % 2 * 1024 + q.val; rw [e1]; omega

/-- The residual at point `t`. -/
theorem blk_x (c : Dev nD) (t : Fin cfg0.N) (r : Fin 512) (q : Fin 1024) :
    iblk m c 0 t (ix2 r q) = m ((c : Thread nD τ).loc main_arg0) (ix2 (row t.val t.isLt r) (col t q)) := by
  unfold iblk
  rw [View.read_apply]
  show V m c main_arg0 _ = _
  rw [V_main_arg0]
  obtain ⟨e0, e1, -⟩ := idx_facts t
  refine congrArg _ (funext fun a => Fin.ext ?_)
  match a with
  | ⟨0, _⟩ => show win0_0.index t (0 : Fin 2) * 512 + 1 * r.val = t.val / 2 * 512 + r.val; rw [e0]; omega
  | ⟨1, _⟩ => show win0_0.index t (1 : Fin 2) * 1024 + 1 * q.val = t.val % 2 * 1024 + q.val; rw [e1]; omega

/-- The rows at point `t`. -/
theorem blk_o (c : Dev nD) (t : Fin cfg0.N) (r : Fin 512) (k : Fin 2048) :
    iblk m c 1 t (ix2 r k) = m ((c : Thread nD τ).loc main_arg1) (ix2 (row t.val t.isLt r) k) := by
  unfold iblk
  rw [View.read_apply]
  show V m c main_arg1 _ = _
  rw [V_main_arg1]
  obtain ⟨-, -, e0, e1, -⟩ := idx_facts t
  refine congrArg _ (funext fun a => Fin.ext ?_)
  match a with
  | ⟨0, _⟩ => show win0_1.index t (0 : Fin 2) * 512 + 1 * r.val = t.val / 2 * 512 + r.val; rw [e0]; omega
  | ⟨1, _⟩ => show win0_1.index t (1 : Fin 2) * 2048 + 1 * k.val = k.val; rw [e1]; omega

/-- The gate at point `t`. -/
theorem blk_z (c : Dev nD) (t : Fin cfg0.N) (r : Fin 512) (k : Fin 2048) :
    iblk m c 2 t (ix2 r k) = m ((c : Thread nD τ).loc main_arg2) (ix2 (row t.val t.isLt r) (gcol k)) := by
  unfold iblk
  rw [View.read_apply]
  show V m c main_arg2 _ = _
  rw [V_main_arg2]
  obtain ⟨-, -, -, -, e0, e1, -⟩ := idx_facts t
  refine congrArg _ (funext fun a => Fin.ext ?_)
  match a with
  | ⟨0, _⟩ => show win0_2.index t (0 : Fin 2) * 512 + 1 * r.val = t.val / 2 * 512 + r.val; rw [e0]; omega
  | ⟨1, _⟩ => show win0_2.index t (1 : Fin 2) * 2048 + 1 * k.val = 6144 + k.val; rw [e1]; omega

/-- The gain at point `t`. -/
theorem blk_g (c : Dev nD) (t : Fin cfg0.N) (k : Fin 2048) :
    iblk m c 3 t (ix2 0 k) = m ((c : Thread nD τ).loc main_arg3) (ix1 k) := by
  unfold iblk
  rw [View.read_apply]
  show V m c main_v1 _ = _
  rw [← V_gain m c k]
  obtain ⟨-, -, -, -, -, -, e0, e1, -⟩ := idx_facts t
  refine congrArg _ (funext fun a => Fin.ext ?_)
  match a with
  | ⟨0, _⟩ => show win0_3.index t (0 : Fin 2) * 1 + 1 * 0 = 0; rw [e0]
  | ⟨1, _⟩ => show win0_3.index t (1 : Fin 2) * 2048 + 1 * k.val = k.val; rw [e1]; omega

/-- The weights' columns at point `t`. -/
theorem blk_w (c : Dev nD) (t : Fin cfg0.N) (k : Fin 2048) (q : Fin 1024) :
    iblk m c 4 t (ix2 k q) = m ((c : Thread nD τ).loc main_arg4) (ix2 k (col t q)) := by
  unfold iblk
  rw [View.read_apply]
  show V m c main_v0 _ = _
  rw [V_weight]
  obtain ⟨-, -, -, -, -, -, -, -, e0, e1, -⟩ := idx_facts t
  refine congrArg _ (funext fun a => Fin.ext ?_)
  match a with
  | ⟨0, _⟩ => show win0_4.index t (0 : Fin 2) * 2048 + 1 * k.val = k.val; rw [e0]; omega
  | ⟨1, _⟩ => show win0_4.index t (1 : Fin 2) * 1024 + 1 * q.val = t.val % 2 * 1024 + q.val; rw [e1]; omega

/-- A gated row of the arguments. -/
abbrev nrow (c : Dev nD) (i : Fin 16384) (k : Fin 2048) : EReal :=
  Rms.normed (fun l => m ((c : Thread nD τ).loc main_arg1) (ix2 i l)) (fun l => m ((c : Thread nD τ).loc main_arg3) (ix1 l)) k
    * silu (m ((c : Thread nD τ).loc main_arg2) (ix2 i (gcol k)))

/-- What the first point of a row block normalises and gates, entry by entry. -/
theorem pay1_blk (c : Dev nD) (t : Fin cfg0.N) (r : Fin 512) (k : Fin 2048) :
    k0_pay1 (iblk m c 1 t) (iblk m c 3 t) (iblk m c 2 t) (ix2 r k) = nrow m c (row t.val t.isLt r) k :=
  (pay1_apply _ _ _ r k).trans (congrArg₂ (· * · : EReal → EReal → EReal)
    (congrArg₂ (fun f g => Rms.normed f g k) (funext fun l => blk_o m c t r l) (funext fun l => blk_g m c t l))
    (congrArg silu (blk_z m c t r k)))

/-- The first point of a row block leaves the block's gated rows in the scratch … -/
theorem scr_first (c : Dev nD) (t : Fin cfg0.N) (h0 : t.val % 2 = 0) (r : Fin 512) (k : Fin 2048) :
    (outsAt0 m c t.val t.isLt).2 (ix2 r k) = nrow m c (row t.val t.isLt r) k := by
  rw [outsAt0_A m c t h0]
  dsimp only
  unfold sout0_A_0
  rw [View.read_writes_eq_canon _ _ _ (scover0_A_0 _ _ _ _ _ _ _ _ _ _ _ _ _ _ _ _ _ _ _ _ _ _)]
  unfold kernelRun0_A
  dsimp only
  sl_unfold_words
  rw [View.canon_unit_zero Common.off2]
  simp only [View.readAt_eq_ld, (hs0_1 t).read_unread, (hs0_2 t).read_unread, (hs0_3 t).read_unread,
    View.ld_unit_zero (S := S512x2048) Common.off2, View.ld_unit_zero (S := S1x2048) Common.off2]
  exact pay1_blk m c t r k

/-- … and the other points of the row block keep them. -/
theorem scr_eq (c : Dev nD) : ∀ (n : ℕ) (h : n < cfg0.N) (r : Fin 512) (k : Fin 2048),
    (outsAt0 m c n h).2 (ix2 r k) = nrow m c (row n h r) k
  | 0, h, r, k => scr_first m c ⟨0, h⟩ rfl r k
  | n + 1, h, r, k => by
    by_cases h0 : (n + 1) % 2 = 0
    · exact scr_first m c ⟨n + 1, h⟩ h0 r k
    · rw [outsAt0_B m c ⟨n + 1, h⟩ h0]
      dsimp only
      unfold sout0_B_0
      refine (scr_eq c n (by omega) r k).trans (congrArg (fun i => nrow m c i k) (Fin.ext ?_))
      show n / 2 * 512 + r.val = (n + 1) / 2 * 512 + r.val
      omega

/-- An entry of the residual. -/
abbrev xat (c : Dev nD) (i : Fin 16384) (q : Fin 2048) : EReal := m ((c : Thread nD τ).loc main_arg0) (ix2 i q)

/-- The block every point leaves in the output buffer, entry by entry. -/
theorem out_eq (c : Dev nD) (t : Fin cfg0.N) (r : Fin 512) (q : Fin 1024) :
    (outsAt0 m c t.val t.isLt).1 (ix2 r q)
      = xat m c (row t.val t.isLt r) (col t q)
        + ∑ k : Fin 2048, nrow m c (row t.val t.isLt r) k * m ((c : Thread nD τ).loc main_arg4) (ix2 k (col t q)) := by
  by_cases h0 : t.val % 2 = 0
  · rw [outsAt0_A m c t h0]
    dsimp only
    unfold out0_A_5
    rw [View.read_writes_eq_canon _ _ _ (cover0_A_5 _ _ _ _ _ _ _ _ _ _ _ _ _ _ _ _ _ _ _ _ _ _)]
    unfold kernelRun0_A
    dsimp only
    sl_unfold_words
    rw [View.canon_unit_zero Common.off2, View.readCov_unit_zero (S := S512x2048) _ Common.off2]
    simp only [View.readAt_eq_ld, (hs0_0 t).read_unread, (hs0_1 t).read_unread, (hs0_2 t).read_unread, (hs0_3 t).read_unread,
      (hs0_4 t).read_unread,
      View.ld_unit_zero (S := S512x2048) Common.off2, View.ld_unit_zero (S := S1x2048) Common.off2,
      View.ld_unit_zero (S := S512x1024) Common.off2, View.ld_unit_zero (S := S2048x1024) Common.off2]
    refine (pay2_apply _ _ _ r q).trans (congrArg₂ (· + · : EReal → EReal → EReal) (blk_x m c t r q) ?_)
    exact Finset.sum_congr rfl fun k _ => congrArg₂ (· * · : EReal → EReal → EReal) (pay1_blk m c t r k) (blk_w m c t k q)
  · have hs := scr_eq m c t.val t.isLt
    rw [outsAt0_B m c t h0] at hs ⊢
    dsimp only at hs ⊢
    unfold sout0_B_0 at hs
    unfold out0_B_5
    rw [View.read_writes_eq_canon _ _ _ (cover0_B_5 _ _ _ _ _ _ _ _ _ _ _ _ _ _ _ _ _ _ _ _ _ _ _)]
    unfold kernelRun0_B
    dsimp only
    sl_unfold_words
    rw [View.canon_unit_zero Common.off2]
    simp only [View.readAt_eq_ld, (hs0_0 t).read_unread, (hs0_4 t).read_unread, (Memref.isWhole_whole _).read_unread,
      View.ld_unit_zero (S := S512x1024) Common.off2, View.ld_unit_zero (S := S2048x1024) Common.off2, View.ld_unit_zero (S := S512x2048) Common.off2]
    refine (pay2_apply _ _ _ r q).trans (congrArg₂ (· + · : EReal → EReal → EReal) (blk_x m c t r q) ?_)
    exact Finset.sum_congr rfl fun k _ => congrArg₂ (· * · : EReal → EReal → EReal) (hs r k) (blk_w m c t k q)

/-- What the array holds after the run: the reference's own value of the arguments. -/
abbrev G (c : Dev nD) : S16384x2048.Idx → EReal :=
  Cert.ReferenceGatedIdeal.Read.val_main_v20 (F := Ideal) (m ((c : Thread nD τ).loc main_arg0)) (m ((c : Thread nD τ).loc main_arg1))
    (m ((c : Thread nD τ).loc main_arg2)) (m ((c : Thread nD τ).loc main_arg3)) (m ((c : Thread nD τ).loc main_arg4))

/-- The reference at one row and column. -/
theorem ref_apply (x o : S16384x2048.Idx → EReal) (p : S16384x8192.Idx → EReal) (g : S2048.Idx → EReal) (w : S2048x2048.Idx → EReal)
    (i : Fin 16384) (q : Fin 2048) :
    Cert.ReferenceGatedIdeal.Read.val_main_v20 (F := Ideal) x o p g w (ix2 i q)
      = x (ix2 i q) + ∑ k : Fin 2048, Rms.normed (fun l => o (ix2 i l)) (fun l => g (ix1 l)) k * silu (p (ix2 i (gcol k))) * w (ix2 k q) := by
  rw [Cert.ReferenceGatedIdeal.Read.val_main_v20_apply]
  refine congrArg (fun s : EReal => x (ix2 i q) + s) ?_
  rw [Cert.ReferenceGatedIdeal.Read.val_main_v19_apply]
  refine Finset.sum_congr rfl fun k _ => congrArg₂ (· * · : EReal → EReal → EReal) ?_ (congrArg w ?_)
  · refine (congrArg _ (?_ : _ = ix2 i k)).trans ?_
    · funext a; match a with | ⟨0, _⟩ => rfl | ⟨1, _⟩ => rfl
    · rw [Cert.ReferenceGatedIdeal.Read.val_main_v18_apply]
      refine congrArg₂ (· * · : EReal → EReal → EReal) (Rms.ref_apply o g i k) ?_
      have ez : Cert.ReferenceGatedIdeal.Read.val_main_v3 (F := Ideal) p (ix2 i k) = p (ix2 i (gcol k)) := by
        rw [Cert.ReferenceGatedIdeal.Read.val_main_v3_apply]
        refine congrArg p ?_
        funext a; match a with | ⟨0, _⟩ => rfl | ⟨1, _⟩ => rfl
      rw [← ez]
      rfl
  · funext a; match a with | ⟨0, _⟩ => rfl | ⟨1, _⟩ => rfl

/-- What point `t` writes back is its block of that array. -/
theorem flushed_eq (c : Dev nD) (t : Fin cfg0.N) (_ : (cfg0.win 5).flush t = true) :
    (dats m 0 c).flushed 5 t = ((cfg0.win 5).blk t).view.read (Elt Ideal) (G m c) := by
  rw [Value.flushed5]
  funext y
  obtain ⟨r, q, rfl⟩ := Common.exists_ix2 (M := 512) (N := 1024) y
  rw [View.read_apply, emb_out t r q]
  exact (out_eq m c t r q).trans (ref_apply _ _ _ _ _ _ _).symm

/-- Every index lies in the block some point writes back. -/
theorem covered (i : S16384x2048.Idx) : ∃ t : Fin cfg0.N, (cfg0.win 5).flush t = true ∧ i ∈ ((cfg0.win 5).blk t).view.set := by
  have h0 : (i 0).val < 16384 := (i 0).isLt
  have h1 : (i 1).val < 2048 := (i 1).isLt
  have hN : cfg0.N = 64 := N_0
  obtain ⟨t, ht⟩ : ∃ t : Fin cfg0.N, t.val = 2 * ((i 0).val / 512) + (i 1).val / 1024 := ⟨⟨_, by omega⟩, rfl⟩
  refine ⟨t, (by decide +kernel : ∀ t : Fin grid0.N, win0_5.flush t = true) t, ?_⟩
  show i ∈ ((View.whole main_v2).slice (win0_5.rect t)).set
  rw [View.set_slice_whole, Rect.mem_set_unit]
  obtain ⟨-, -, -, -, -, -, -, -, -, -, e0, e1⟩ := idx_facts t
  intro a
  match a with
  | ⟨0, _⟩ =>
    show win0_5.index t (0 : Fin 2) * 512 ≤ (i 0).val ∧ (i 0).val < win0_5.index t (0 : Fin 2) * 512 + 512
    rw [e0]; omega
  | ⟨1, _⟩ =>
    show win0_5.index t (1 : Fin 2) * 1024 ≤ (i 1).val ∧ (i 1).val < win0_5.index t (1 : Fin 2) * 1024 + 1024
    rw [e1]; omega

/-- The array after the run is the reference's value. -/
theorem final (c : Dev nD) : (dats m 0 c).arrAt 5 cfg0.N = G m c :=
  (dats m 0 c).arrAt_eq_of_cover 5 (G m c) (flushed_eq m c) covered

/-- The kernel's run and the reference's end with the same array and leave the arguments unchanged. -/
theorem algebraic : Cert.algebraic_KernelGatedIdeal_ReferenceGatedIdeal := fun m ρ m' ρ' _ hag =>
  ⟨fun c => G m c,
    (θ_run _ _ _).mono (fun _ h c => ⟨(h c).1.trans (final m c), (h c).2⟩) (Value.run_blocks m ρ),
    (θ_run _ _ _).mono (fun _ h c => ⟨(h c).1.trans (by rw [(hag c).1, (hag c).2.1, (hag c).2.2.1, (hag c).2.2.2.1, (hag c).2.2.2.2]; rfl), (h c).2⟩)
      (Cert.ReferenceGatedIdeal.Value.run m' ρ')⟩

end Cert.GatedValue

end
-- ==== Proof.Norm.lean ====
/- The final normalisation: the array after the run is every row over the root of its mean square, scaled by the gain. -/
module

public import proofs.«01_k».proof.Defs
public import proofs.«01_k».proof.Proof.Common
public import proofs.«01_k».proof.Proof.Rms
public import proofs.«01_k».proof.Proof.Gen.KernelNormIdeal.Value
public import proofs.«01_k».proof.Proof.Gen.ReferenceNormIdeal.Read

@[expose] public section

set_option maxRecDepth 16384

noncomputable section

namespace Cert.NormValue

open Cert.KernelNormIdeal Cert.KernelNormIdeal.Gen Idealize.ShloMosaic Idealize.ShloMosaic.TcCoe Idealize.SL.Sem
open Idealize.ShloMosaic.Pipeline (Dat)
open Idealize.ShloMosaic.ValueIdx
open scoped BigOperators

variable (m : (ℓ : Loc nD τ sig) → Buf (Elt Ideal) ℓ) (ρ : Dev nD → PrngReg)

/-- The block a grid point leaves in its output buffer, entry by entry. -/
theorem out_apply (x : Vec Ideal S512x2048 .f32) (g : Vec Ideal S1x2048 .f32) (r : Fin 512) (k : Fin 2048) :
    out0_2 x g (ix2 r k) = Rms.normed (fun l => x (ix2 r l)) (fun l => g (ix2 0 l)) k := by
  unfold out0_2
  rw [View.canon_unit_zero Common.off2]
  simp only [View.ld_unit_zero (S := S512x2048) Common.off2, View.ld_unit_zero (S := S1x2048) Common.off2]
  unfold k0_pay1
  rw [shapeCast_self]
  exact Rms.block_apply x g _ _ _ _ r k

/-- Point `t` works on row block `t`. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The gain as the one-row array the region finds. -/
theorem V_gain (c : Dev nD) (k : Fin 2048) :
    V m c main_v0 (ix2 0 k) = m ((c : Thread nD τ).loc main_arg1) (ix1 k) := by
  have e : V m c main_v0 = shapeCast S1x2048 (m ((c : Thread nD τ).loc main_arg1)) shapeCasts_S2048_S1x2048 := by
    show StableHlo.after hostOps0 (fun b => m (c, b)) main_v0 = _
    after_results
    rfl
  rw [e]
  exact shapeCast_apply _ _ (ix2 0 k) (ix1 k) (by
    rw [Shape.rowMajor_val_one, Shape.rowMajor_val_two]; show k.val = 0 * 2048 + k.val; omega)

/-- The row of the whole array that row `r` of point `t`'s block is. -/
def row (t : Fin cfg0.N) (r : Fin 512) : Fin 16384 :=
  ⟨t.val * 512 + r.val, by have := t.isLt; have : cfg0.N = 32 := N_0; omega⟩

/-- Where the output block's entries lie in the array. -/
theorem emb_out (t : Fin cfg0.N) (r : Fin 512) (q : Fin 2048) :
    ((cfg0.win 2).blk t).view.emb (ix2 r q) = ix2 (row t r) q := by
  obtain ⟨-, -, -, -, e0, e1⟩ := idx_facts t
  funext a; apply Fin.ext
  match a with
  | ⟨0, _⟩ => show win0_2.index t (0 : Fin 2) * 512 + 1 * r.val = t.val * 512 + r.val; rw [e0]; omega
  | ⟨1, _⟩ => show win0_2.index t (1 : Fin 2) * 2048 + 1 * q.val = q.val; rw [e1]; omega

/-- The rows at point `t`. -/
theorem blk_x (c : Dev nD) (t : Fin cfg0.N) (r : Fin 512) (q : Fin 2048) :
    iblk m c 0 t (ix2 r q) = m ((c : Thread nD τ).loc main_arg0) (ix2 (row t r) q) := by
  unfold iblk
  rw [View.read_apply]
  show V m c main_arg0 _ = _
  rw [V_main_arg0]
  obtain ⟨e0, e1, -⟩ := idx_facts t
  refine congrArg _ (funext fun a => Fin.ext ?_)
  match a with
  | ⟨0, _⟩ => show win0_0.index t (0 : Fin 2) * 512 + 1 * r.val = t.val * 512 + r.val; rw [e0]; omega
  | ⟨1, _⟩ => show win0_0.index t (1 : Fin 2) * 2048 + 1 * q.val = q.val; rw [e1]; omega

/-- The gain at point `t`. -/
theorem blk_g (c : Dev nD) (t : Fin cfg0.N) (k : Fin 2048) :
    iblk m c 1 t (ix2 0 k) = m ((c : Thread nD τ).loc main_arg1) (ix1 k) := by
  unfold iblk
  rw [View.read_apply]
  show V m c main_v0 _ = _
  rw [← V_gain m c k]
  obtain ⟨-, -, e0, e1, -⟩ := idx_facts t
  refine congrArg _ (funext fun a => Fin.ext ?_)
  match a with
  | ⟨0, _⟩ => show win0_1.index t (0 : Fin 2) * 1 + 1 * 0 = 0; rw [e0]
  | ⟨1, _⟩ => show win0_1.index t (1 : Fin 2) * 2048 + 1 * k.val = k.val; rw [e1]; omega

/-- What the array holds after the run: the reference's own value of the arguments. -/
abbrev G (c : Dev nD) : S16384x2048.Idx → EReal :=
  Cert.ReferenceNormIdeal.Read.val_main_v12 (F := Ideal) (m ((c : Thread nD τ).loc main_arg0))
    (m ((c : Thread nD τ).loc main_arg1))

/-- What point `t` writes back is its block of that array. -/
theorem flushed_eq (c : Dev nD) (t : Fin cfg0.N) (_ : (cfg0.win 2).flush t = true) :
    (dats m 0 c).flushed 2 t = ((cfg0.win 2).blk t).view.read (Elt Ideal) (G m c) := by
  rw [Value.flushed2]
  funext y
  obtain ⟨r, q, rfl⟩ := Common.exists_ix2 (M := 512) (N := 2048) y
  rw [View.read_apply, emb_out t r q]
  refine (out_apply _ _ r q).trans ((?_ : _ = _).trans (Rms.ref_apply _ _ (row t r) q).symm)
  exact congrArg₂ (fun f g => Rms.normed f g q) (funext fun l => blk_x m c t r l) (funext fun l => blk_g m c t l)

/-- Every index lies in the block some point writes back. -/
theorem covered (i : S16384x2048.Idx) : ∃ t : Fin cfg0.N, (cfg0.win 2).flush t = true ∧ i ∈ ((cfg0.win 2).blk t).view.set := by
  have h0 : (i 0).val < 16384 := (i 0).isLt
  have h1 : (i 1).val < 2048 := (i 1).isLt
  have hN : cfg0.N = 32 := N_0
  obtain ⟨t, ht⟩ : ∃ t : Fin cfg0.N, t.val = (i 0).val / 512 := ⟨⟨_, by omega⟩, rfl⟩
  refine ⟨t, (by decide +kernel : ∀ t : Fin grid0.N, win0_2.flush t = true) t, ?_⟩
  show i ∈ ((View.whole main_v1).slice (win0_2.rect t)).set
  rw [View.set_slice_whole, Rect.mem_set_unit]
  obtain ⟨-, -, -, -, e0, e1⟩ := idx_facts t
  intro a
  match a with
  | ⟨0, _⟩ =>
    show win0_2.index t (0 : Fin 2) * 512 ≤ (i 0).val ∧ (i 0).val < win0_2.index t (0 : Fin 2) * 512 + 512
    rw [e0]; omega
  | ⟨1, _⟩ =>
    show win0_2.index t (1 : Fin 2) * 2048 ≤ (i 1).val ∧ (i 1).val < win0_2.index t (1 : Fin 2) * 2048 + 2048
    rw [e1]; omega

/-- The array after the run is the reference's value. -/
theorem final (c : Dev nD) : (dats m 0 c).arrAt 2 cfg0.N = G m c :=
  (dats m 0 c).arrAt_eq_of_cover 2 (G m c) (flushed_eq m c) covered

/-- The kernel's run and the reference's end with the same normalised array and leave the arguments unchanged. -/
theorem algebraic : Cert.algebraic_KernelNormIdeal_ReferenceNormIdeal := fun m ρ m' ρ' _ hag =>
  ⟨fun c => G m c,
    (θ_run _ _ _).mono (fun _ h c => ⟨(h c).1.trans (final m c), (h c).2⟩) (Value.run_blocks m ρ),
    (θ_run _ _ _).mono (fun _ h c => ⟨(h c).1.trans (by rw [(hag c).1, (hag c).2]; rfl), (h c).2⟩)
      (Cert.ReferenceNormIdeal.Value.run m' ρ')⟩

end Cert.NormValue

end
-- ==== Proof.Shift.lean ====
/- The token shift: the sequence moved down by one row, a carried row in front, as the host lays it out before a launch
   and as the reference writes it. -/
module

public import proofs.«01_k».proof.Defs
public import proofs.«01_k».proof.Proof.Common
public import Idealize.ShloMosaic.Lib.ValueIdx
public import proofs.«01_k».proof.Proof.Gen.ReferenceRkvIdeal.Read

@[expose] public section

set_option maxRecDepth 16384

noncomputable section

namespace Cert.Shift

open Cert.ReferenceRkvIdeal Cert.ReferenceRkvIdeal.Gen Idealize.ShloMosaic Idealize.ShloMosaic.ValueIdx
open scoped BigOperators

/-- The row before row `i`: the sequence's own, or the carried one before the first. -/
def prev (h : S16384x2048.Idx → EReal) (s : S1x1x2048.Idx → EReal) (i : Fin 16384) (k : Fin 2048) : EReal :=
  if 0 < i.val then h (ix2 ⟨i.val - 1, by omega⟩ k) else s (ix3 0 0 k)

/-- A row moved towards the row before it by weights `u`. -/
def mix (h : S16384x2048.Idx → EReal) (s : S1x1x2048.Idx → EReal) (u : Fin 2048 → EReal) (i : Fin 16384) (k : Fin 2048) : EReal :=
  h (ix2 i k) + (prev h s i k - h (ix2 i k)) * u k

/-- The shifted sequence as the host builds it before a launch. -/
theorem host_apply
    (h : S16384x2048.Idx → EReal) (s : S1x1x2048.Idx → EReal)
    (h1 : S16384x2048.ShapeCasts ⟨3, ![1, 16384, 2048]⟩)
    (h2 : Shape.Slices ⟨3, ![1, 16384, 2048]⟩ ![0, 0, 0] ⟨3, ![1, 16383, 2048]⟩)
    (h3 : Shape.Concatenates [S1x1x2048, ⟨3, ![1, 16383, 2048]⟩] ⟨3, ![1, 16384, 2048]⟩ 1)
    (h4 : Shape.ShapeCasts ⟨3, ![1, 16384, 2048]⟩ S16384x2048) (i : Fin 16384) (k : Fin 2048) :
    shapeCast S16384x2048 (concatenate ⟨3, ![1, 16384, 2048]⟩ 1 [⟨S1x1x2048, s⟩, ⟨⟨3, ![1, 16383, 2048]⟩,
      extractStridedSlice ⟨3, ![1, 16383, 2048]⟩ ![0, 0, 0] (shapeCast ⟨3, ![1, 16384, 2048]⟩ h h1) h2⟩] h3) h4 (ix2 i k)
      = prev h s i k := by
  refine (shapeCast_apply _ _ (ix2 i k) (ix3 (0 : Fin 1) i k) (by
    rw [Shape.rowMajor_val_two, Shape.rowMajor_val_three]
    show (0 * 16384 + i.val) * 2048 + k.val = i.val * 2048 + k.val
    omega)).trans ?_
  unfold prev
  split
  · rename_i hi
    refine (concatenate_pair_apply_right (t := ⟨3, ![1, 16384, 2048]⟩) (s₁ := S1x1x2048) (s₂ := ⟨3, ![1, 16383, 2048]⟩)
      (1 : Fin 3) _ _ h3 (ix3 (0 : Fin 1) i k) rfl rfl (ix3 (0 : Fin 1) (⟨i.val - 1, by omega⟩ : Fin 16383) k)
      (fun b hb => match b, hb with
        | ⟨0, _⟩, _ => rfl
        | ⟨1, _⟩, hb => absurd rfl hb
        | ⟨2, _⟩, _ => rfl) (by show i.val - 1 + 1 = i.val; omega)).trans ?_
    refine (extractStridedSlice_apply _ _ _ _ (ix3 (0 : Fin 1) (⟨i.val - 1, by omega⟩ : Fin 16384) k) fun a => match a with
      | ⟨0, _⟩ => rfl
      | ⟨1, _⟩ => by show i.val - 1 = 0 + (i.val - 1); omega
      | ⟨2, _⟩ => by show k.val = 0 + k.val; omega).trans ?_
    exact shapeCast_apply _ _ _ (ix2 (⟨i.val - 1, by omega⟩ : Fin 16384) k) (by
      rw [Shape.rowMajor_val_two, Shape.rowMajor_val_three]
      show (i.val - 1) * 2048 + k.val = (0 * 16384 + (i.val - 1)) * 2048 + k.val
      omega)
  · rename_i hi
    exact concatenate_pair_apply_left (t := ⟨3, ![1, 16384, 2048]⟩) (s₁ := S1x1x2048) (s₂ := ⟨3, ![1, 16383, 2048]⟩)
      (1 : Fin 3) _ _ h3 (ix3 (0 : Fin 1) i k) rfl (ix3 (0 : Fin 1) (0 : Fin 1) k)
      (fun b => match b with
        | ⟨0, _⟩ => rfl
        | ⟨1, _⟩ => by show 0 = i.val; omega
        | ⟨2, _⟩ => rfl)

/-- The shifted sequence as the reference writes it. -/
theorem ref_apply (h : S16384x2048.Idx → EReal) (s : S1x1x2048.Idx → EReal) (i : Fin 16384) (k : Fin 2048) :
    Read.val_main_v2 (F := Ideal) h s (ix2 i k) = prev h s i k := by
  unfold Read.val_main_v2 prev
  split
  · rename_i hi
    refine (concatenate_pair_apply_right (t := S16384x2048) (s₁ := S1x2048) (s₂ := S16383x2048)
      (0 : Fin 2) _ _ concatenates_S1x2048_S16383x2048_S16384x2048_d0 (ix2 i k) rfl rfl
      (ix2 (⟨i.val - 1, by omega⟩ : Fin 16383) k)
      (fun b hb => match b, hb with
        | ⟨0, _⟩, hb => absurd rfl hb
        | ⟨1, _⟩, _ => rfl) (by show i.val - 1 + 1 = i.val; omega)).trans ?_
    rw [Read.val_main_v1_apply]
    refine congrArg h ?_
    funext a; match a with | ⟨0, _⟩ => rfl | ⟨1, _⟩ => rfl
  · rename_i hi
    refine (concatenate_pair_apply_left (t := S16384x2048) (s₁ := S1x2048) (s₂ := S16383x2048)
      (0 : Fin 2) _ _ concatenates_S1x2048_S16383x2048_S16384x2048_d0 (ix2 i k) rfl (ix2 (0 : Fin 1) k)
      (fun b => match b with
        | ⟨0, _⟩ => by show 0 = i.val; omega
        | ⟨1, _⟩ => rfl)).trans ?_
    rw [Read.val_main_v0_apply]
    refine congrArg s ?_
    funext a; apply Fin.ext
    match a with
    | ⟨0, _⟩ => rfl
    | ⟨1, _⟩ => rfl
    | ⟨2, _⟩ => show (0 * 2048 + k.val) % 2048 = k.val; omega

end Cert.Shift

end
-- ==== Proof.Rkv.lean ====
/- The three projections of shifted rows: slab `c` of the array after the run is `mix_c h · w_c`. -/
module

public import proofs.«01_k».proof.Defs
public import proofs.«01_k».proof.Proof.Common
public import proofs.«01_k».proof.Proof.Shift
public import Idealize.ShloMosaic.Lib.ValueIdx
public import proofs.«01_k».proof.Proof.Gen.KernelRkvIdeal.Value
public import proofs.«01_k».proof.Proof.Gen.ReferenceRkvIdeal.Read

@[expose] public section

set_option maxRecDepth 16384

noncomputable section

namespace Cert.RkvValue

open Cert.KernelRkvIdeal Cert.KernelRkvIdeal.Gen Idealize.ShloMosaic Idealize.ShloMosaic.TcCoe Idealize.SL.Sem
open Idealize.ShloMosaic.Pipeline (Dat)
open Idealize.ShloMosaic.ValueIdx
open scoped BigOperators

variable (m : (ℓ : Loc nD τ sig) → Buf (Elt Ideal) ℓ) (ρ : Dev nD → PrngReg)

/-- The mixed rows as the scratch holds them, entry by entry. -/
theorem pay1_apply (h p : Vec Ideal S512x2048 .f32) (u : Vec Ideal S1x1x2048 .f32) (r : Fin 512) (k : Fin 2048) :
    k0_pay1 h p u (ix2 r k) = h (ix2 r k) + (p (ix2 r k) - h (ix2 r k)) * u (ix3 0 0 k) := by
  unfold k0_pay1
  rw [shapeCast_self, shapeCast_self]
  refine congrArg (fun s : EReal => h (ix2 r k) + (p (ix2 r k) - h (ix2 r k)) * s) ?_
  refine (broadcastTo_apply _ _ (ix2 r k) (ix2 (0 : Fin 1) k) (fun a => match a with
    | ⟨0, _⟩ => rfl
    | ⟨1, _⟩ => rfl)).trans ?_
  exact shapeCast_apply _ _ (ix2 (0 : Fin 1) k) (ix3 (0 : Fin 1) (0 : Fin 1) k) (by
    rw [Shape.rowMajor_val_two, Shape.rowMajor_val_three]; show (0 * 1 + 0) * 2048 + k.val = 0 * 2048 + k.val; omega)

/-- The product of the scratch's rows with the weight block, entry by entry. -/
theorem pay2_apply (a : Vec Ideal S512x2048 .bf16) (w : Vec Ideal S1x2048x1024 .bf16) (r : Fin 512) (q : Fin 1024) :
    k0_pay2 a w (ix3 0 r q) = ∑ k : Fin 2048, a (ix2 r k) * w (ix3 0 k q) := by
  unfold k0_pay2
  refine (shapeCast_apply _ _ (ix3 (0 : Fin 1) r q) (ix2 r q) (by
    rw [Shape.rowMajor_val_two, Shape.rowMajor_val_three]
    show r.val * 1024 + q.val = (0 * 512 + r.val) * 1024 + q.val; omega)).trans ?_
  refine (Common.mm_zero (φ₁ := .bf16) (φ₂ := .bf16) none _ _ r q).trans ?_
  refine Finset.sum_congr rfl fun k _ => congrArg₂ (· * · : EReal → EReal → EReal) rfl ?_
  exact shapeCast_apply _ _ (ix2 k q) (ix3 (0 : Fin 1) k q) (by
    rw [Shape.rowMajor_val_two, Shape.rowMajor_val_three]
    show (0 * 2048 + k.val) * 1024 + q.val = k.val * 1024 + q.val; omega)

/-- Point `t` works on slab `t / 64`, row block `t / 2 % 32` and column block `t % 2`. -/
theorem idx_facts : ∀ t : Fin cfg0.N,
    win0_0.index t (0 : Fin 2) = t.val / 2 % 32 ∧ win0_0.index t (1 : Fin 2) = 0
    ∧ win0_1.index t (0 : Fin 2) = t.val / 2 % 32 ∧ win0_1.index t (1 : Fin 2) = 0
    ∧ win0_2.index t (0 : Fin 3) = t.val / 64 ∧ win0_2.index t (1 : Fin 3) = 0 ∧ win0_2.index t (2 : Fin 3) = 0
    ∧ win0_3.index t (0 : Fin 3) = t.val / 64 ∧ win0_3.index t (1 : Fin 3) = 0 ∧ win0_3.index t (2 : Fin 3) = t.val % 2
    ∧ win0_4.index t (0 : Fin 3) = t.val / 64 ∧ win0_4.index t (1 : Fin 3) = t.val / 2 % 32 ∧ win0_4.index t (2 : Fin 3) = t.val % 2 :=
  (by decide +kernel : ∀ t : Fin grid0.N, _)

/-- The weight array the region finds is the argument itself: the cast leaves extended reals alone. -/
theorem V_weight (c : Dev nD) : V m c main_v5 = m ((c : Thread nD τ).loc main_arg3) := by
  show StableHlo.after hostOps0 (fun b => m (c, b)) main_v5 = _
  after_results
  rfl

/-- The shifted rows as the region finds them. -/
theorem V_prev (c : Dev nD) (i : Fin 16384) (k : Fin 2048) :
    V m c main_v3 (ix2 i k) = Shift.prev (m ((c : Thread nD τ).loc main_arg0)) (m ((c : Thread nD τ).loc main_arg1)) i k := by
  have e : V m c main_v3 = shapeCast S16384x2048 (concatenate S1x16384x2048 1 [⟨S1x1x2048, m ((c : Thread nD τ).loc main_arg1)⟩,
      ⟨S1x16383x2048, extractStridedSlice S1x16383x2048 ![0, 0, 0]
        (shapeCast S1x16384x2048 (m ((c : Thread nD τ).loc main_arg0)) shapeCasts_S16384x2048_S1x16384x2048)
        slices_S1x16384x2048_S1x16383x2048_0_0_0⟩] concatenates_S1x1x2048_S1x16383x2048_S1x16384x2048_d1)
      shapeCasts_S1x16384x2048_S16384x2048 := by
    show StableHlo.after hostOps0 (fun b => m (c, b)) main_v3 = _
    after_results
    rfl
  rw [e]
  exact Shift.host_apply _ _ _ _ _ _ i k

/-- The mixing weights as the region finds them: the first three rows of six. -/
theorem V_mu (c : Dev nD) (s : Fin 3) (k : Fin 2048) :
    V m c main_v6 (ix3 s 0 k) = m ((c : Thread nD τ).loc main_arg2) (ix2 (⟨s.val, by omega⟩ : Fin 6) k) := by
  have e : V m c main_v6 = shapeCast S3x1x2048 (extractStridedSlice S3x2048 ![0, 0] (m ((c : Thread nD τ).loc main_arg2))
      slices_S6x2048_S3x2048_0_0) shapeCasts_S3x2048_S3x1x2048 := by
    show StableHlo.after hostOps0 (fun b => m (c, b)) main_v6 = _
    after_results
    rfl
  rw [e]
  refine (shapeCast_apply _ _ (ix3 s (0 : Fin 1) k) (ix2 s k) (by
    rw [Shape.rowMajor_val_two, Shape.rowMajor_val_three]
    show s.val * 2048 + k.val = (s.val * 1 + 0) * 2048 + k.val; omega)).trans ?_
  exact extractStridedSlice_apply _ _ _ (ix2 s k) (ix2 (⟨s.val, by omega⟩ : Fin 6) k) fun a => match a with
    | ⟨0, _⟩ => by show s.val = 0 + s.val; omega
    | ⟨1, _⟩ => by show k.val = 0 + k.val; omega

/-- The slab of the whole array that the block at position `n` is in. -/
def slab (n : ℕ) (h : n < cfg0.N) : Fin 3 := ⟨n / 64, by have : cfg0.N = 192 := N_0; omega⟩

/-- The row of the whole array that row `r` of the block at position `n` is. -/
def row (n : ℕ) (r : Fin 512) : Fin 16384 := ⟨n / 2 % 32 * 512 + r.val, by omega⟩

/-- The column of the whole array that column `q` of point `t`'s block is. -/
def col (t : Fin cfg0.N) (q : Fin 1024) : Fin 2048 := ⟨t.val % 2 * 1024 + q.val, by omega⟩

/-- Where the output block's entries lie in the array. -/
theorem emb_out (t : Fin cfg0.N) (r : Fin 512) (q : Fin 1024) :
    ((cfg0.win 4).blk t).view.emb (ix3 0 r q) = ix3 (slab t.val t.isLt) (row t.val r) (col t q) := by
  obtain ⟨-, -, -, -, -, -, -, -, -, -, e0, e1, e2⟩ := idx_facts t
  funext a; apply Fin.ext
  match a with
  | ⟨0, _⟩ => show win0_4.index t (0 : Fin 3) * 1 + 1 * 0 = t.val / 64; rw [e0]; omega
  | ⟨1, _⟩ => show win0_4.index t (1 : Fin 3) * 512 + 1 * r.val = t.val / 2 % 32 * 512 + r.val; rw [e1]; omega
  | ⟨2, _⟩ => show win0_4.index t (2 : Fin 3) * 1024 + 1 * q.val = t.val % 2 * 1024 + q.val; rw [e2]; omega

/-- The rows at point `t`. -/
theorem blk_h (c : Dev nD) (t : Fin cfg0.N) (r : Fin 512) (k : Fin 2048) :
    iblk m c 0 t (ix2 r k) = m ((c : Thread nD τ).loc main_arg0) (ix2 (row t.val r) k) := by
  unfold iblk
  rw [View.read_apply]
  show V m c main_arg0 _ = _
  rw [V_main_arg0]
  obtain ⟨e0, e1, -⟩ := idx_facts t
  refine congrArg _ (funext fun a => Fin.ext ?_)
  match a with
  | ⟨0, _⟩ => show win0_0.index t (0 : Fin 2) * 512 + 1 * r.val = t.val / 2 % 32 * 512 + r.val; rw [e0]; omega
  | ⟨1, _⟩ => show win0_0.index t (1 : Fin 2) * 2048 + 1 * k.val = k.val; rw [e1]; omega

/-- The rows before them. -/
theorem blk_p (c : Dev nD) (t : Fin cfg0.N) (r : Fin 512) (k : Fin 2048) :
    iblk m c 1 t (ix2 r k)
      = Shift.prev (m ((c : Thread nD τ).loc main_arg0)) (m ((c : Thread nD τ).loc main_arg1)) (row t.val r) k := by
  unfold iblk
  rw [View.read_apply]
  show V m c main_v3 _ = _
  rw [← V_prev m c (row t.val r) k]
  obtain ⟨-, -, e0, e1, -⟩ := idx_facts t
  refine congrArg _ (funext fun a => Fin.ext ?_)
  match a with
  | ⟨0, _⟩ => show win0_1.index t (0 : Fin 2) * 512 + 1 * r.val = t.val / 2 % 32 * 512 + r.val; rw [e0]; omega
  | ⟨1, _⟩ => show win0_1.index t (1 : Fin 2) * 2048 + 1 * k.val = k.val; rw [e1]; omega

/-- The mixing weights at point `t`. -/
theorem blk_u (c : Dev nD) (t : Fin cfg0.N) (k : Fin 2048) :
    iblk m c 2 t (ix3 0 0 k)
      = m ((c : Thread nD τ).loc main_arg2) (ix2 (⟨(slab t.val t.isLt).val, by omega⟩ : Fin 6) k) := by
  unfold iblk
  rw [View.read_apply]
  show V m c main_v6 _ = _
  rw [← V_mu m c (slab t.val t.isLt) k]
  obtain ⟨-, -, -, -, e0, e1, e2, -⟩ := idx_facts t
  refine congrArg _ (funext fun a => Fin.ext ?_)
  match a with
  | ⟨0, _⟩ => show win0_2.index t (0 : Fin 3) * 1 + 1 * 0 = t.val / 64; rw [e0]; omega
  | ⟨1, _⟩ => show win0_2.index t (1 : Fin 3) * 1 + 1 * 0 = 0; rw [e1]
  | ⟨2, _⟩ => show win0_2.index t (2 : Fin 3) * 2048 + 1 * k.val = k.val; rw [e2]; omega

/-- The weights' columns at point `t`. -/
theorem blk_w (c : Dev nD) (t : Fin cfg0.N) (k : Fin 2048) (q : Fin 1024) :
    iblk m c 3 t (ix3 0 k q) = m ((c : Thread nD τ).loc main_arg3) (ix3 (slab t.val t.isLt) k (col t q)) := by
  unfold iblk
  rw [View.read_apply]
  show V m c main_v5 _ = _
  rw [V_weight]
  obtain ⟨-, -, -, -, -, -, -, e0, e1, e2, -⟩ := idx_facts t
  refine congrArg _ (funext fun a => Fin.ext ?_)
  match a with
  | ⟨0, _⟩ => show win0_3.index t (0 : Fin 3) * 1 + 1 * 0 = t.val / 64; rw [e0]; omega
  | ⟨1, _⟩ => show win0_3.index t (1 : Fin 3) * 2048 + 1 * k.val = k.val; rw [e1]; omega
  | ⟨2, _⟩ => show win0_3.index t (2 : Fin 3) * 1024 + 1 * q.val = t.val % 2 * 1024 + q.val; rw [e2]; omega

/-- A mixed row of the arguments, for slab `s`. -/
abbrev nrow (c : Dev nD) (s : Fin 3) (i : Fin 16384) (k : Fin 2048) : EReal :=
  Shift.mix (m ((c : Thread nD τ).loc main_arg0)) (m ((c : Thread nD τ).loc main_arg1))
    (fun l => m ((c : Thread nD τ).loc main_arg2) (ix2 (⟨s.val, by omega⟩ : Fin 6) l)) i k

/-- What the first point of a row block mixes, entry by entry. -/
theorem pay1_blk (c : Dev nD) (t : Fin cfg0.N) (r : Fin 512) (k : Fin 2048) :
    k0_pay1 (iblk m c 0 t) (iblk m c 1 t) (iblk m c 2 t) (ix2 r k) = nrow m c (slab t.val t.isLt) (row t.val r) k := by
  refine (pay1_apply _ _ _ r k).trans ?_
  unfold nrow Shift.mix
  exact congrArg₂ (· + · : EReal → EReal → EReal) (blk_h m c t r k) (congrArg₂ (· * · : EReal → EReal → EReal)
    (congrArg₂ (· - · : EReal → EReal → EReal) (blk_p m c t r k) (blk_h m c t r k)) (blk_u m c t k))

/-- The first point of a row block leaves the block's mixed rows in the scratch … -/
theorem scr_first (c : Dev nD) (t : Fin cfg0.N) (h0 : t.val % 2 = 0) (r : Fin 512) (k : Fin 2048) :
    (outsAt0 m c t.val t.isLt).2 (ix2 r k) = nrow m c (slab t.val t.isLt) (row t.val r) k := by
  rw [outsAt0_A m c t h0]
  dsimp only
  unfold sout0_A_0
  rw [View.read_writes_eq_canon _ _ _ (scover0_A_0 _ _ _ _ _ _ _ _ _ _ _ _ _ _ _ _ _ _ _)]
  unfold kernelRun0_A
  dsimp only
  sl_unfold_words
  rw [View.canon_unit_zero Common.off2]
  simp only [View.readAt_eq_ld, (hs0_0 t).read_unread, (hs0_1 t).read_unread, (hs0_2 t).read_unread,
    View.ld_unit_zero (S := S512x2048) Common.off2, View.ld_unit_zero (S := S1x1x2048) Common.off3]
  exact pay1_blk m c t r k

/-- … and the other points of the row block keep them. -/
theorem scr_eq (c : Dev nD) : ∀ (n : ℕ) (h : n < cfg0.N) (r : Fin 512) (k : Fin 2048),
    (outsAt0 m c n h).2 (ix2 r k) = nrow m c (slab n h) (row n r) k
  | 0, h, r, k => scr_first m c ⟨0, h⟩ rfl r k
  | n + 1, h, r, k => by
    by_cases h0 : (n + 1) % 2 = 0
    · exact scr_first m c ⟨n + 1, h⟩ h0 r k
    · rw [outsAt0_B m c ⟨n + 1, h⟩ h0]
      dsimp only
      unfold sout0_B_0
      refine (scr_eq c n (by omega) r k).trans (congrArg₂ (fun s i => nrow m c s i k) (Fin.ext ?_) (Fin.ext ?_))
      · show n / 64 = (n + 1) / 64
        omega
      · show n / 2 % 32 * 512 + r.val = (n + 1) / 2 % 32 * 512 + r.val
        omega

/-- The block every point leaves in the output buffer, entry by entry. -/
theorem out_eq (c : Dev nD) (t : Fin cfg0.N) (r : Fin 512) (q : Fin 1024) :
    (outsAt0 m c t.val t.isLt).1 (ix3 0 r q)
      = ∑ k : Fin 2048, nrow m c (slab t.val t.isLt) (row t.val r) k * m ((c : Thread nD τ).loc main_arg3) (ix3 (slab t.val t.isLt) k (col t q)) := by
  by_cases h0 : t.val % 2 = 0
  · rw [outsAt0_A m c t h0]
    dsimp only
    unfold out0_A_4
    rw [View.read_writes_eq_canon _ _ _ (cover0_A_4 _ _ _ _ _ _ _ _ _ _ _ _ _ _ _ _ _ _ _)]
    unfold kernelRun0_A
    dsimp only
    sl_unfold_words
    rw [View.canon_unit_zero Common.off3, View.readCov_unit_zero (S := S512x2048) _ Common.off2]
    simp only [View.readAt_eq_ld, (hs0_0 t).read_unread, (hs0_1 t).read_unread, (hs0_2 t).read_unread, (hs0_3 t).read_unread,
      View.ld_unit_zero (S := S512x2048) Common.off2, View.ld_unit_zero (S := S1x1x2048) Common.off3,
      View.ld_unit_zero (S := S1x2048x1024) Common.off3]
    refine (pay2_apply _ _ r q).trans ?_
    exact Finset.sum_congr rfl fun k _ => congrArg₂ (· * · : EReal → EReal → EReal) (pay1_blk m c t r k) (blk_w m c t k q)
  · have hs := scr_eq m c t.val t.isLt
    rw [outsAt0_B m c t h0] at hs ⊢
    dsimp only at hs ⊢
    unfold sout0_B_0 at hs
    unfold out0_B_4
    rw [View.read_writes_eq_canon _ _ _ (cover0_B_4 _ _ _ _ _ _ _ _ _ _ _ _ _ _ _ _ _ _ _ _)]
    unfold kernelRun0_B
    dsimp only
    sl_unfold_words
    rw [View.canon_unit_zero Common.off3]
    simp only [View.readAt_eq_ld, (hs0_3 t).read_unread, (Memref.isWhole_whole _).read_unread,
      View.ld_unit_zero (S := S1x2048x1024) Common.off3, View.ld_unit_zero (S := S512x2048) Common.off2]
    refine (pay2_apply _ _ r q).trans ?_
    exact Finset.sum_congr rfl fun k _ => congrArg₂ (· * · : EReal → EReal → EReal) (hs r k) (blk_w m c t k q)

/-- What the array holds after the run: the reference's own value of the arguments. -/
abbrev G (c : Dev nD) : S3x16384x2048.Idx → EReal :=
  Cert.ReferenceRkvIdeal.Read.val_main_v34 (F := Ideal) (m ((c : Thread nD τ).loc main_arg0)) (m ((c : Thread nD τ).loc main_arg1))
    (m ((c : Thread nD τ).loc main_arg2)) (m ((c : Thread nD τ).loc main_arg3))

/-- Slab 0 of the reference at one row and column. -/
theorem ref_slab0 (h : S16384x2048.Idx → EReal) (s : S1x1x2048.Idx → EReal) (u : S6x2048.Idx → EReal) (w : S3x2048x2048.Idx → EReal)
    (i : Fin 16384) (q : Fin 2048) :
    Cert.ReferenceRkvIdeal.Read.val_main_v12 (F := Ideal) h s u w (ix2 i q)
      = ∑ k : Fin 2048, Shift.mix h s (fun l => u (ix2 (0 : Fin 6) l)) i k * w (ix3 (0 : Fin 3) k q) := by
  rw [Cert.ReferenceRkvIdeal.Read.val_main_v12_apply]
  refine Finset.sum_congr rfl fun k _ => congrArg₂ (· * · : EReal → EReal → EReal) ?_ ?_
  · refine (congrArg _ (?_ : _ = ix2 i k)).trans ?_
    · funext a; match a with | ⟨0, _⟩ => rfl | ⟨1, _⟩ => rfl
    · rw [Cert.ReferenceRkvIdeal.Read.val_main_v9_apply, Cert.ReferenceRkvIdeal.Read.val_main_v8_apply,
        Cert.ReferenceRkvIdeal.Read.val_main_v3_apply, Cert.ReferenceRkvIdeal.Read.val_main_v7_apply,
        Cert.ReferenceRkvIdeal.Read.val_main_v6_apply, Cert.ReferenceRkvIdeal.Read.val_main_v5_apply,
        Cert.ReferenceRkvIdeal.Read.val_main_v4_apply, Shift.ref_apply]
      refine congrArg (fun z : EReal => h (ix2 i k) + (Shift.prev h s i k - h (ix2 i k)) * z) (congrArg u ?_)
      funext a; apply Fin.ext
      match a with
      | ⟨0, _⟩ => rfl
      | ⟨1, _⟩ => show k.val % 2048 = k.val; omega
  · rw [Cert.ReferenceRkvIdeal.Read.val_main_v11_apply, Cert.ReferenceRkvIdeal.Read.val_main_v10_apply]
    refine congrArg w ?_
    funext a; apply Fin.ext
    match a with
    | ⟨0, _⟩ => rfl
    | ⟨1, _⟩ => show (k.val * 2048 + q.val) / 2048 % 2048 = k.val; omega
    | ⟨2, _⟩ => show (k.val * 2048 + q.val) % 2048 = q.val; omega

/-- Slab 1 of the reference at one row and column. -/
theorem ref_slab1 (h : S16384x2048.Idx → EReal) (s : S1x1x2048.Idx → EReal) (u : S6x2048.Idx → EReal) (w : S3x2048x2048.Idx → EReal)
    (i : Fin 16384) (q : Fin 2048) :
    Cert.ReferenceRkvIdeal.Read.val_main_v21 (F := Ideal) h s u w (ix2 i q)
      = ∑ k : Fin 2048, Shift.mix h s (fun l => u (ix2 (1 : Fin 6) l)) i k * w (ix3 (1 : Fin 3) k q) := by
  rw [Cert.ReferenceRkvIdeal.Read.val_main_v21_apply]
  refine Finset.sum_congr rfl fun k _ => congrArg₂ (· * · : EReal → EReal → EReal) ?_ ?_
  · refine (congrArg _ (?_ : _ = ix2 i k)).trans ?_
    · funext a; match a with | ⟨0, _⟩ => rfl | ⟨1, _⟩ => rfl
    · rw [Cert.ReferenceRkvIdeal.Read.val_main_v18_apply, Cert.ReferenceRkvIdeal.Read.val_main_v17_apply,
        Cert.ReferenceRkvIdeal.Read.val_main_v3_apply, Cert.ReferenceRkvIdeal.Read.val_main_v16_apply,
        Cert.ReferenceRkvIdeal.Read.val_main_v15_apply, Cert.ReferenceRkvIdeal.Read.val_main_v14_apply,
        Cert.ReferenceRkvIdeal.Read.val_main_v13_apply, Shift.ref_apply]
      refine congrArg (fun z : EReal => h (ix2 i k) + (Shift.prev h s i k - h (ix2 i k)) * z) (congrArg u ?_)
      funext a; apply Fin.ext
      match a with
      | ⟨0, _⟩ => rfl
      | ⟨1, _⟩ => show k.val % 2048 = k.val; omega
  · rw [Cert.ReferenceRkvIdeal.Read.val_main_v20_apply, Cert.ReferenceRkvIdeal.Read.val_main_v19_apply]
    refine congrArg w ?_
    funext a; apply Fin.ext
    match a with
    | ⟨0, _⟩ => rfl
    | ⟨1, _⟩ => show (k.val * 2048 + q.val) / 2048 % 2048 = k.val; omega
    | ⟨2, _⟩ => show (k.val * 2048 + q.val) % 2048 = q.val; omega

/-- Slab 2 of the reference at one row and column. -/
theorem ref_slab2 (h : S16384x2048.Idx → EReal) (s : S1x1x2048.Idx → EReal) (u : S6x2048.Idx → EReal) (w : S3x2048x2048.Idx → EReal)
    (i : Fin 16384) (q : Fin 2048) :
    Cert.ReferenceRkvIdeal.Read.val_main_v30 (F := Ideal) h s u w (ix2 i q)
      = ∑ k : Fin 2048, Shift.mix h s (fun l => u (ix2 (2 : Fin 6) l)) i k * w (ix3 (2 : Fin 3) k q) := by
  rw [Cert.ReferenceRkvIdeal.Read.val_main_v30_apply]
  refine Finset.sum_congr rfl fun k _ => congrArg₂ (· * · : EReal → EReal → EReal) ?_ ?_
  · refine (congrArg _ (?_ : _ = ix2 i k)).trans ?_
    · funext a; match a with | ⟨0, _⟩ => rfl | ⟨1, _⟩ => rfl
    · rw [Cert.ReferenceRkvIdeal.Read.val_main_v27_apply, Cert.ReferenceRkvIdeal.Read.val_main_v26_apply,
        Cert.ReferenceRkvIdeal.Read.val_main_v3_apply, Cert.ReferenceRkvIdeal.Read.val_main_v25_apply,
        Cert.ReferenceRkvIdeal.Read.val_main_v24_apply, Cert.ReferenceRkvIdeal.Read.val_main_v23_apply,
        Cert.ReferenceRkvIdeal.Read.val_main_v22_apply, Shift.ref_apply]
      refine congrArg (fun z : EReal => h (ix2 i k) + (Shift.prev h s i k - h (ix2 i k)) * z) (congrArg u ?_)
      funext a; apply Fin.ext
      match a with
      | ⟨0, _⟩ => rfl
      | ⟨1, _⟩ => show k.val % 2048 = k.val; omega
  · rw [Cert.ReferenceRkvIdeal.Read.val_main_v29_apply, Cert.ReferenceRkvIdeal.Read.val_main_v28_apply]
    refine congrArg w ?_
    funext a; apply Fin.ext
    match a with
    | ⟨0, _⟩ => rfl
    | ⟨1, _⟩ => show (k.val * 2048 + q.val) / 2048 % 2048 = k.val; omega
    | ⟨2, _⟩ => show (k.val * 2048 + q.val) % 2048 = q.val; omega

/-- The reference at one slab, row and column. -/
theorem ref_apply (h : S16384x2048.Idx → EReal) (s : S1x1x2048.Idx → EReal) (u : S6x2048.Idx → EReal) (w : S3x2048x2048.Idx → EReal)
    (d : Fin 3) (i : Fin 16384) (q : Fin 2048) :
    Cert.ReferenceRkvIdeal.Read.val_main_v34 (F := Ideal) h s u w (ix3 d i q)
      = ∑ k : Fin 2048, Shift.mix h s (fun l => u (ix2 (⟨d.val, by omega⟩ : Fin 6) l)) i k * w (ix3 d k q) := by
  unfold Cert.ReferenceRkvIdeal.Read.val_main_v34
  match d with
  | ⟨0, _⟩ =>
    refine (concatenate_apply_piece (t := S3x16384x2048) (0 : Fin 3) _ _ _ 0 (by show 0 < 3; omega) S1x16384x2048 _ rfl rfl 0 rfl
      (ix3 (0 : Fin 1) i q) (fun b hb => match b, hb with
        | ⟨0, _⟩, hb => absurd rfl hb
        | ⟨1, _⟩, _ => rfl
        | ⟨2, _⟩, _ => rfl) rfl).trans ?_
    rw [Cert.ReferenceRkvIdeal.Read.val_main_v31_apply]
    refine (congrArg _ (?_ : _ = ix2 i q)).trans (ref_slab0 h s u w i q)
    funext a; match a with | ⟨0, _⟩ => rfl | ⟨1, _⟩ => rfl
  | ⟨1, _⟩ =>
    refine (concatenate_apply_piece (t := S3x16384x2048) (0 : Fin 3) _ _ _ 1 (by show 1 < 3; omega) S1x16384x2048 _ rfl rfl 1 rfl
      (ix3 (0 : Fin 1) i q) (fun b hb => match b, hb with
        | ⟨0, _⟩, hb => absurd rfl hb
        | ⟨1, _⟩, _ => rfl
        | ⟨2, _⟩, _ => rfl) rfl).trans ?_
    rw [Cert.ReferenceRkvIdeal.Read.val_main_v32_apply]
    refine (congrArg _ (?_ : _ = ix2 i q)).trans (ref_slab1 h s u w i q)
    funext a; match a with | ⟨0, _⟩ => rfl | ⟨1, _⟩ => rfl
  | ⟨2, _⟩ =>
    refine (concatenate_apply_piece (t := S3x16384x2048) (0 : Fin 3) _ _ _ 2 (by show 2 < 3; omega) S1x16384x2048 _ rfl rfl 2 rfl
      (ix3 (0 : Fin 1) i q) (fun b hb => match b, hb with
        | ⟨0, _⟩, hb => absurd rfl hb
        | ⟨1, _⟩, _ => rfl
        | ⟨2, _⟩, _ => rfl) rfl).trans ?_
    rw [Cert.ReferenceRkvIdeal.Read.val_main_v33_apply]
    refine (congrArg _ (?_ : _ = ix2 i q)).trans (ref_slab2 h s u w i q)
    funext a; match a with | ⟨0, _⟩ => rfl | ⟨1, _⟩ => rfl

/-- What point `t` writes back is its block of that array. -/
theorem flushed_eq (c : Dev nD) (t : Fin cfg0.N) (_ : (cfg0.win 4).flush t = true) :
    (dats m 0 c).flushed 4 t = ((cfg0.win 4).blk t).view.read (Elt Ideal) (G m c) := by
  rw [Value.flushed4]
  funext y
  obtain ⟨z, r, q, rfl⟩ := Common.exists_ix3 (L := 1) (M := 512) (N := 1024) y
  obtain rfl : z = 0 := Subsingleton.elim _ _
  rw [View.read_apply, emb_out t r q]
  exact (out_eq m c t r q).trans (ref_apply _ _ _ _ _ _ _).symm

/-- Every index lies in the block some point writes back. -/
theorem covered (i : S3x16384x2048.Idx) : ∃ t : Fin cfg0.N, (cfg0.win 4).flush t = true ∧ i ∈ ((cfg0.win 4).blk t).view.set := by
  have h0 : (i 0).val < 3 := (i 0).isLt
  have h1 : (i 1).val < 16384 := (i 1).isLt
  have h2 : (i 2).val < 2048 := (i 2).isLt
  have hN : cfg0.N = 192 := N_0
  obtain ⟨t, ht⟩ : ∃ t : Fin cfg0.N, t.val = 64 * (i 0).val + 2 * ((i 1).val / 512) + (i 2).val / 1024 := ⟨⟨_, by omega⟩, rfl⟩
  refine ⟨t, (by decide +kernel : ∀ t : Fin grid0.N, win0_4.flush t = true) t, ?_⟩
  show i ∈ ((View.whole main_v7).slice (win0_4.rect t)).set
  rw [View.set_slice_whole, Rect.mem_set_unit]
  obtain ⟨-, -, -, -, -, -, -, -, -, -, e0, e1, e2⟩ := idx_facts t
  intro a
  match a with
  | ⟨0, _⟩ =>
    show win0_4.index t (0 : Fin 3) * 1 ≤ (i 0).val ∧ (i 0).val < win0_4.index t (0 : Fin 3) * 1 + 1
    rw [e0]; omega
  | ⟨1, _⟩ =>
    show win0_4.index t (1 : Fin 3) * 512 ≤ (i 1).val ∧ (i 1).val < win0_4.index t (1 : Fin 3) * 512 + 512
    rw [e1]; omega
  | ⟨2, _⟩ =>
    show win0_4.index t (2 : Fin 3) * 1024 ≤ (i 2).val ∧ (i 2).val < win0_4.index t (2 : Fin 3) * 1024 + 1024
    rw [e2]; omega

/-- The array after the run is the reference's value. -/
theorem final (c : Dev nD) : (dats m 0 c).arrAt 4 cfg0.N = G m c :=
  (dats m 0 c).arrAt_eq_of_cover 4 (G m c) (flushed_eq m c) covered

/-- The kernel's run and the reference's end with the same products and leave the arguments unchanged. -/
theorem algebraic : Cert.algebraic_KernelRkvIdeal_ReferenceRkvIdeal := fun m ρ m' ρ' _ hag =>
  ⟨fun c => G m c,
    (θ_run _ _ _).mono (fun _ h c => ⟨(h c).1.trans (final m c), (h c).2⟩) (Value.run_blocks m ρ),
    (θ_run _ _ _).mono (fun _ h c => ⟨(h c).1.trans (by rw [(hag c).1, (hag c).2.1, (hag c).2.2.1, (hag c).2.2.2]; rfl), (h c).2⟩)
      (Cert.ReferenceRkvIdeal.Value.run m' ρ')⟩

end Cert.RkvValue

end
-- ==== Proof.Lora.lean ====
/- The low-rank branch of the recurrent mixer: the decay, the write rate and the output gate of every row, each a product
   of the shifted row with two thin matrices. The three arrays after the run are the reference's. -/
module

public import proofs.«01_k».proof.Defs
public import proofs.«01_k».proof.Proof.Common
public import proofs.«01_k».proof.Proof.Shift
public import Idealize.ShloMosaic.Lib.ValueIdx
public import proofs.«01_k».proof.Proof.Gen.KernelLoraIdeal.Value
public import proofs.«01_k».proof.Proof.Gen.ReferenceLoraIdeal.Read

@[expose] public section

set_option maxRecDepth 16384

noncomputable section

namespace Cert.LoraValue

open Cert.KernelLoraIdeal Cert.KernelLoraIdeal.Gen Idealize.ShloMosaic Idealize.ShloMosaic.TcCoe Idealize.SL.Sem
open Idealize.ShloMosaic.Pipeline (Dat)
open Idealize.ShloMosaic.ValueIdx
open scoped BigOperators

variable (m : (ℓ : Loc nD τ sig) → Buf (Elt Ideal) ℓ) (ρ : Dev nD → PrngReg)

/-- The logistic function. -/
def logistic (y : EReal) : EReal :=
  Ideal.div (Ideal.ofBits .f32 0x3F800000#32) (Ideal.ofBits .f32 0x3F800000#32 + Ideal.exp (-y))

/-- The decay of a base: minus the exponential of `-softplus(-base) - 1/2`. -/
def decay (b : EReal) : EReal :=
  -Ideal.exp (-(max (-b) 0 + Ideal.log1p (Ideal.exp (-(max (-b) (- -b))))) - Ideal.ofBits .f32 0x3F000000#32)

/-- A row times a thin matrix. -/
def thin {R : ℕ} (f : Fin 2048 → EReal) (w : Shape.Idx ⟨2, ![2048, R]⟩ → EReal) (j : Fin R) : EReal :=
  ∑ k : Fin 2048, f k * w (ix2 k j)

/-- A short row times a column of the matrix that widens it again. -/
def wide {R : ℕ} (f : Fin R → EReal) (w : Shape.Idx ⟨2, ![R, 2048]⟩ → EReal) (q : Fin 2048) : EReal :=
  ∑ j : Fin R, f j * w (ix2 j q)

/-- A block's row moved towards the row before it. -/
def mixed (h p : S256x2048.Idx → EReal) (u : S1x1x2048.Idx → EReal) (r : Fin 256) (k : Fin 2048) : EReal :=
  h (ix2 r k) + (p (ix2 r k) - h (ix2 r k)) * u (ix3 0 0 k)

/-- One row of weights, spread over the block's rows. -/
theorem spread (u : Vec Ideal S1x1x2048 .f32) (h1 : S1x1x2048.ShapeCasts S1x2048) (h2 : S1x2048.Broadcasts S256x2048)
    (r : Fin 256) (k : Fin 2048) :
    broadcastTo S256x2048 (shapeCast S1x2048 u h1) h2 (ix2 r k) = u (ix3 0 0 k) := by
  refine (broadcastTo_apply _ _ (ix2 r k) (ix2 (0 : Fin 1) k) (fun a => match a with
    | ⟨0, _⟩ => rfl
    | ⟨1, _⟩ => rfl)).trans ?_
  exact shapeCast_apply _ _ (ix2 (0 : Fin 1) k) (ix3 (0 : Fin 1) (0 : Fin 1) k) (by
    rw [Shape.rowMajor_val_two, Shape.rowMajor_val_three]; show (0 * 1 + 0) * 2048 + k.val = 0 * 2048 + k.val; omega)

/-- A bias row, spread over the block's rows. -/
theorem spread1 (b : Vec Ideal S1x2048 .f32) (h2 : S1x2048.Broadcasts S256x2048) (r : Fin 256) (q : Fin 2048) :
    broadcastTo S256x2048 b h2 (ix2 r q) = b (ix2 0 q) :=
  broadcastTo_apply _ _ (ix2 r q) (ix2 (0 : Fin 1) q) (fun a => match a with
    | ⟨0, _⟩ => rfl
    | ⟨1, _⟩ => rfl)

/-- The block's mixed rows, entry by entry. -/
theorem mixed_apply (h p : Vec Ideal S256x2048 .f32) (u : Vec Ideal S1x1x2048 .f32) (h1 : S1x1x2048.ShapeCasts S1x2048)
    (h2 : S1x2048.Broadcasts S256x2048) (r : Fin 256) (k : Fin 2048) :
    addf (F := Ideal) (φ := .f32) h (mulf (k0_pay2 h p) (broadcastTo S256x2048 (shapeCast S1x2048 u h1) h2)) (ix2 r k) = mixed h p u r k := by
  unfold k0_pay2
  rw [shapeCast_self]
  exact congrArg (fun s : EReal => h (ix2 r k) + (p (ix2 r k) - h (ix2 r k)) * s) (spread u h1 h2 r k)

/-- The decay as the kernel spells it, zeros written out. -/
theorem decay_zeros (b : EReal) :
    Ideal.ofBits .f32 0x00000000#32 - Ideal.exp ((Ideal.ofBits .f32 0x00000000#32
      - (max (Ideal.ofBits .f32 0x00000000#32 - b) (Ideal.ofBits .f32 0x00000000#32)
        + Ideal.log1p (Ideal.exp (Ideal.ofBits .f32 0x00000000#32
          - max (Ideal.ofBits .f32 0x00000000#32 - b) (-(Ideal.ofBits .f32 0x00000000#32 - b))))))
      - Ideal.ofBits .f32 0x3F000000#32) = decay b := by
  unfold decay
  simp only [Ideal.ofBits_zero_f32, zero_sub]

/-- The logistic function as the kernel spells it. -/
theorem logistic_zero (y : EReal) :
    Ideal.div (Ideal.ofBits .f32 0x3F800000#32)
      (Ideal.ofBits .f32 0x3F800000#32 + Ideal.exp (Ideal.ofBits .f32 0x00000000#32 - y)) = logistic y := by
  unfold logistic
  rw [Ideal.ofBits_zero_f32, zero_sub]

/-- The decay block, entry by entry. -/
theorem pay_decay (h p : Vec Ideal S256x2048 .f32) (w0 : Vec Ideal S1x2048 .f32) (u : Vec Ideal S1x1x2048 .f32)
    (w1 : Vec Ideal S2048x96 .bf16) (w2 : Vec Ideal S96x2048 .bf16) (r : Fin 256) (q : Fin 2048) :
    k0_pay5 (k0_pay3 h p w0 u w1 w2) (k0_pay4 (F := Ideal)) (ix2 r q)
      = decay (w0 (ix2 0 q) + wide (fun j => Ideal.tanh (thin (mixed h p u r) w1 j)) w2 q) := by
  unfold k0_pay5 k0_pay3 k0_pay4
  rw [shapeCast_self, shapeCast_self, shapeCast_self]
  refine (decay_zeros _).trans (congrArg decay (congrArg₂ (· + · : EReal → EReal → EReal) (spread1 w0 _ r q) ?_))
  refine (Common.mm_zero (φ₁ := .bf16) (φ₂ := .bf16) none _ w2 r q).trans ?_
  refine Finset.sum_congr rfl fun j _ => congrArg₂ (· * · : EReal → EReal → EReal) (congrArg Ideal.tanh ?_) rfl
  refine (Common.mm_zero (φ₁ := .bf16) (φ₂ := .bf16) none _ w1 r j).trans ?_
  exact Finset.sum_congr rfl fun k _ => congrArg₂ (· * · : EReal → EReal → EReal) (mixed_apply h p u _ _ r k) rfl

/-- The write-rate block, entry by entry. -/
theorem pay_rate (h p : Vec Ideal S256x2048 .f32) (a0 : Vec Ideal S1x2048 .f32) (u : Vec Ideal S1x1x2048 .f32)
    (a1 : Vec Ideal S2048x96 .bf16) (a2 : Vec Ideal S96x2048 .bf16) (r : Fin 256) (q : Fin 2048) :
    k0_pay6 h (k0_pay2 h p) a0 u a1 a2 (ix2 r q)
      = logistic (a0 (ix2 0 q) + wide (thin (mixed h p u r) a1) a2 q) := by
  unfold k0_pay6
  rw [shapeCast_self, shapeCast_self, shapeCast_self]
  refine (logistic_zero _).trans (congrArg logistic (congrArg₂ (· + · : EReal → EReal → EReal) (spread1 a0 _ r q) ?_))
  refine (Common.mm_zero (φ₁ := .bf16) (φ₂ := .bf16) none _ a2 r q).trans ?_
  refine Finset.sum_congr rfl fun j _ => congrArg₂ (· * · : EReal → EReal → EReal) ?_ rfl
  refine (Common.mm_zero (φ₁ := .bf16) (φ₂ := .bf16) none _ a1 r j).trans ?_
  exact Finset.sum_congr rfl fun k _ => congrArg₂ (· * · : EReal → EReal → EReal) (mixed_apply h p u _ _ r k) rfl

/-- The gate block, entry by entry. -/
theorem pay_gate (h p : Vec Ideal S256x2048 .f32) (u : Vec Ideal S1x1x2048 .f32)
    (g1 : Vec Ideal S2048x256 .bf16) (g2 : Vec Ideal S256x2048 .bf16) (r : Fin 256) (q : Fin 2048) :
    k0_pay1 (k0_pay7 g1) (k0_pay8 h (k0_pay2 h p) u) g2 (ix2 r q)
      = wide (fun j => logistic (thin (mixed h p u r) g1 j)) g2 q := by
  unfold k0_pay1 k0_pay7 k0_pay8
  rw [shapeCast_self, shapeCast_self]
  refine (Common.mm_zero (φ₁ := .bf16) (φ₂ := .bf16) none _ g2 r q).trans ?_
  refine Finset.sum_congr rfl fun j _ => congrArg₂ (· * · : EReal → EReal → EReal) ?_ rfl
  refine (logistic_zero _).trans (congrArg logistic ?_)
  refine (Common.mm_zero (φ₁ := .bf16) (φ₂ := .bf16) none _ g1 r j).trans ?_
  exact Finset.sum_congr rfl fun k _ => congrArg₂ (· * · : EReal → EReal → EReal) (mixed_apply h p u _ _ r k) rfl

/-- A block's row moved towards the row before it by row `d` of the three rows of weights. -/
def mrow (x0 x1 : S256x2048.Idx → EReal) (x2 : S3x1x2048.Idx → EReal) (d : Fin 3) (r : Fin 256) (k : Fin 2048) : EReal :=
  x0 (ix2 r k) + (x1 (ix2 r k) - x0 (ix2 r k)) * x2 (ix3 d 0 k)

/-- Row `d` of the mixing weights, loaded from the block of three. -/
theorem ld_mu (u : Vec Ideal S3x1x2048 .f32) (d : Fin 3) (o : ℕ) (ho : o = d.val)
    (hb : ∀ a, (![o, 0, 0] : Fin 3 → ℕ) a + S1x1x2048.size a ≤ S3x1x2048.size a) (k : Fin 2048) :
    View.ld u (Rect.unit (s := S3x1x2048) ![o, 0, 0] S1x1x2048.size hb) (ix3 0 0 k) = u (ix3 d 0 k) := by
  subst ho
  show u _ = u _
  refine congrArg u (funext fun a => Fin.ext ?_)
  match a with
  | ⟨0, _⟩ => show d.val + 1 * 0 = d.val; omega
  | ⟨1, _⟩ => rfl
  | ⟨2, _⟩ => show 0 + 1 * k.val = k.val; omega

/-- The decay block a grid point leaves, entry by entry. -/
theorem out_11 (x0 x1 : Vec Ideal S256x2048 .f32) (x2 : Vec Ideal S3x1x2048 .f32) (x3 : Vec Ideal S1x2048 .f32) (x4 : Vec Ideal S2048x96 .bf16)
    (x5 : Vec Ideal S96x2048 .bf16) (x6 : Vec Ideal S1x2048 .f32) (x7 : Vec Ideal S2048x96 .bf16) (x8 : Vec Ideal S96x2048 .bf16)
    (x9 : Vec Ideal S2048x256 .bf16) (x10 : Vec Ideal S256x2048 .bf16) (r : Fin 256) (q : Fin 2048) :
    out0_11 x0 x1 x2 x3 x4 x5 x6 x7 x8 x9 x10 (ix2 r q)
      = decay (x3 (ix2 0 q) + wide (fun j => Ideal.tanh (thin (mrow x0 x1 x2 0 r) x4 j)) x5 q) := by
  unfold_out out0_11
  rw [View.canon_unit_zero Common.off2]
  simp only [View.ld_unit_zero (S := S256x2048) Common.off2, View.ld_unit_zero (S := S1x2048) Common.off2,
    View.ld_unit_zero (S := S2048x96) Common.off2, View.ld_unit_zero (S := S96x2048) Common.off2,
    View.ld_unit_zero (S := S2048x256) Common.off2]
  refine (pay_decay _ _ _ _ _ _ r q).trans ?_
  refine congrArg (fun f => decay (x3 (ix2 0 q) + wide (fun j => Ideal.tanh (thin f x4 j)) x5 q)) (funext fun k => ?_)
  exact congrArg (fun s : EReal => x0 (ix2 r k) + (x1 (ix2 r k) - x0 (ix2 r k)) * s) (ld_mu x2 0 0 rfl _ k)

/-- The write rate block a grid point leaves, entry by entry. -/
theorem out_12 (x0 x1 : Vec Ideal S256x2048 .f32) (x2 : Vec Ideal S3x1x2048 .f32) (x3 : Vec Ideal S1x2048 .f32) (x4 : Vec Ideal S2048x96 .bf16)
    (x5 : Vec Ideal S96x2048 .bf16) (x6 : Vec Ideal S1x2048 .f32) (x7 : Vec Ideal S2048x96 .bf16) (x8 : Vec Ideal S96x2048 .bf16)
    (x9 : Vec Ideal S2048x256 .bf16) (x10 : Vec Ideal S256x2048 .bf16) (r : Fin 256) (q : Fin 2048) :
    out0_12 x0 x1 x2 x3 x4 x5 x6 x7 x8 x9 x10 (ix2 r q)
      = logistic (x6 (ix2 0 q) + wide (thin (mrow x0 x1 x2 1 r) x7) x8 q) := by
  unfold_out out0_12
  rw [View.canon_unit_zero Common.off2]
  simp only [View.ld_unit_zero (S := S256x2048) Common.off2, View.ld_unit_zero (S := S1x2048) Common.off2,
    View.ld_unit_zero (S := S2048x96) Common.off2, View.ld_unit_zero (S := S96x2048) Common.off2,
    View.ld_unit_zero (S := S2048x256) Common.off2]
  refine (pay_rate _ _ _ _ _ _ r q).trans ?_
  refine congrArg (fun f => logistic (x6 (ix2 0 q) + wide (thin f x7) x8 q)) (funext fun k => ?_)
  exact congrArg (fun s : EReal => x0 (ix2 r k) + (x1 (ix2 r k) - x0 (ix2 r k)) * s) (ld_mu x2 1 1 rfl _ k)

/-- The gate block a grid point leaves, entry by entry. -/
theorem out_13 (x0 x1 : Vec Ideal S256x2048 .f32) (x2 : Vec Ideal S3x1x2048 .f32) (x3 : Vec Ideal S1x2048 .f32) (x4 : Vec Ideal S2048x96 .bf16)
    (x5 : Vec Ideal S96x2048 .bf16) (x6 : Vec Ideal S1x2048 .f32) (x7 : Vec Ideal S2048x96 .bf16) (x8 : Vec Ideal S96x2048 .bf16)
    (x9 : Vec Ideal S2048x256 .bf16) (x10 : Vec Ideal S256x2048 .bf16) (r : Fin 256) (q : Fin 2048) :
    out0_13 x0 x1 x2 x3 x4 x5 x6 x7 x8 x9 x10 (ix2 r q)
      = wide (fun j => logistic (thin (mrow x0 x1 x2 2 r) x9 j)) x10 q := by
  unfold_out out0_13
  rw [View.canon_unit_zero Common.off2]
  simp only [View.ld_unit_zero (S := S256x2048) Common.off2, View.ld_unit_zero (S := S1x2048) Common.off2,
    View.ld_unit_zero (S := S2048x96) Common.off2, View.ld_unit_zero (S := S96x2048) Common.off2,
    View.ld_unit_zero (S := S2048x256) Common.off2]
  refine (pay_gate _ _ _ _ _ r q).trans ?_
  refine congrArg (fun f => wide (fun j => logistic (thin f x9 j)) x10 q) (funext fun k => ?_)
  exact congrArg (fun s : EReal => x0 (ix2 r k) + (x1 (ix2 r k) - x0 (ix2 r k)) * s) (ld_mu x2 2 2 rfl _ k)

/-- Point `t` works on row block `t`; the weights stay where they are. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 3) = 0 ∧ win0_2.index t (1 : Fin 3) = 0 ∧ win0_2.index t (2 : Fin 3) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 2) = t.val ∧ win0_11.index t (1 : Fin 2) = 0
    ∧ win0_12.index t (0 : Fin 2) = t.val ∧ win0_12.index t (1 : Fin 2) = 0
    ∧ win0_13.index t (0 : Fin 2) = t.val ∧ win0_13.index t (1 : Fin 2) = 0 :=
  (by decide +kernel : ∀ t : Fin grid0.N, _)

/-- The row of the whole array that row `r` of point `t`'s block is. -/
def row (t : Fin cfg0.N) (r : Fin 256) : Fin 16384 :=
  ⟨t.val * 256 + r.val, by have := t.isLt; have : cfg0.N = 64 := N_0; omega⟩

/-- The shifted rows as the region finds them. -/
theorem V_prev (c : Dev nD) (i : Fin 16384) (k : Fin 2048) :
    V m c main_v3 (ix2 i k) = Shift.prev (m ((c : Thread nD τ).loc main_arg0)) (m ((c : Thread nD τ).loc main_arg1)) i k := by
  have e : V m c main_v3 = shapeCast S16384x2048 (concatenate S1x16384x2048 1 [⟨S1x1x2048, m ((c : Thread nD τ).loc main_arg1)⟩,
      ⟨S1x16383x2048, extractStridedSlice S1x16383x2048 ![0, 0, 0]
        (shapeCast S1x16384x2048 (m ((c : Thread nD τ).loc main_arg0)) shapeCasts_S16384x2048_S1x16384x2048)
        slices_S1x16384x2048_S1x16383x2048_0_0_0⟩] concatenates_S1x1x2048_S1x16383x2048_S1x16384x2048_d1)
      shapeCasts_S1x16384x2048_S16384x2048 := by
    show StableHlo.after hostOps0 (fun b => m (c, b)) main_v3 = _
    after_results
    rfl
  rw [e]
  exact Shift.host_apply _ _ _ _ _ _ i k

/-- The mixing weights as the region finds them: the last three rows of six. -/
theorem V_mu (c : Dev nD) (s : Fin 3) (k : Fin 2048) :
    V m c main_v11 (ix3 s 0 k) = m ((c : Thread nD τ).loc main_arg2) (ix2 (⟨3 + s.val, by omega⟩ : Fin 6) k) := by
  have e : V m c main_v11 = shapeCast S3x1x2048 (extractStridedSlice S3x2048 ![3, 0] (m ((c : Thread nD τ).loc main_arg2))
      slices_S6x2048_S3x2048_3_0) shapeCasts_S3x2048_S3x1x2048 := by
    show StableHlo.after hostOps0 (fun b => m (c, b)) main_v11 = _
    after_results
    rfl
  rw [e]
  refine (shapeCast_apply _ _ (ix3 s (0 : Fin 1) k) (ix2 s k) (by
    rw [Shape.rowMajor_val_two, Shape.rowMajor_val_three]
    show s.val * 2048 + k.val = (s.val * 1 + 0) * 2048 + k.val; omega)).trans ?_
  exact extractStridedSlice_apply _ _ _ (ix2 s k) (ix2 (⟨3 + s.val, by omega⟩ : Fin 6) k) fun a => match a with
    | ⟨0, _⟩ => rfl
    | ⟨1, _⟩ => by show k.val = 0 + k.val; omega

/-- The decay's bias as the one-row array the region finds. -/
theorem V_v12 (c : Dev nD) (k : Fin 2048) :
    V m c main_v12 (ix2 0 k) = m ((c : Thread nD τ).loc main_arg3) (ix1 k) := by
  have e : V m c main_v12 = shapeCast S1x2048 (m ((c : Thread nD τ).loc main_arg3)) shapeCasts_S2048_S1x2048 := by
    show StableHlo.after hostOps0 (fun b => m (c, b)) main_v12 = _
    after_results
    rfl
  rw [e]
  exact shapeCast_apply _ _ (ix2 0 k) (ix1 k) (by
    rw [Shape.rowMajor_val_one, Shape.rowMajor_val_two]; show k.val = 0 * 2048 + k.val; omega)

/-- The write rate's bias as the one-row array the region finds. -/
theorem V_v13 (c : Dev nD) (k : Fin 2048) :
    V m c main_v13 (ix2 0 k) = m ((c : Thread nD τ).loc main_arg6) (ix1 k) := by
  have e : V m c main_v13 = shapeCast S1x2048 (m ((c : Thread nD τ).loc main_arg6)) shapeCasts_S2048_S1x2048 := by
    show StableHlo.after hostOps0 (fun b => m (c, b)) main_v13 = _
    after_results
    rfl
  rw [e]
  exact shapeCast_apply _ _ (ix2 0 k) (ix1 k) (by
    rw [Shape.rowMajor_val_one, Shape.rowMajor_val_two]; show k.val = 0 * 2048 + k.val; omega)

/-- The matrix the region finds in window 4 is the argument itself: the cast leaves extended reals alone. -/
theorem V_v5 (c : Dev nD) : V m c main_v5 = m ((c : Thread nD τ).loc main_arg4) := by
  show StableHlo.after hostOps0 (fun b => m (c, b)) main_v5 = _
  after_results
  rfl

/-- Window 4 holds that matrix at every point. -/
theorem blk_4 (c : Dev nD) (t : Fin cfg0.N) (k : Fin 2048) (q : Fin 96) :
    iblk m c 4 t (ix2 k q) = m ((c : Thread nD τ).loc main_arg4) (ix2 k q) := by
  unfold iblk
  rw [View.read_apply]
  show V m c main_v5 _ = _
  rw [V_v5]
  have e0 : win0_4.index t (0 : Fin 2) = 0 := by have := idx_facts t; tauto
  have e1 : win0_4.index t (1 : Fin 2) = 0 := by have := idx_facts t; tauto
  refine congrArg _ (funext fun a => Fin.ext ?_)
  match a with
  | ⟨0, _⟩ => show win0_4.index t (0 : Fin 2) * 2048 + 1 * k.val = k.val; rw [e0]; omega
  | ⟨1, _⟩ => show win0_4.index t (1 : Fin 2) * 96 + 1 * q.val = q.val; rw [e1]; omega

/-- The matrix the region finds in window 5 is the argument itself: the cast leaves extended reals alone. -/
theorem V_v6 (c : Dev nD) : V m c main_v6 = m ((c : Thread nD τ).loc main_arg5) := by
  show StableHlo.after hostOps0 (fun b => m (c, b)) main_v6 = _
  after_results
  rfl

/-- Window 5 holds that matrix at every point. -/
theorem blk_5 (c : Dev nD) (t : Fin cfg0.N) (k : Fin 96) (q : Fin 2048) :
    iblk m c 5 t (ix2 k q) = m ((c : Thread nD τ).loc main_arg5) (ix2 k q) := by
  unfold iblk
  rw [View.read_apply]
  show V m c main_v6 _ = _
  rw [V_v6]
  have e0 : win0_5.index t (0 : Fin 2) = 0 := by have := idx_facts t; tauto
  have e1 : win0_5.index t (1 : Fin 2) = 0 := by have := idx_facts t; tauto
  refine congrArg _ (funext fun a => Fin.ext ?_)
  match a with
  | ⟨0, _⟩ => show win0_5.index t (0 : Fin 2) * 96 + 1 * k.val = k.val; rw [e0]; omega
  | ⟨1, _⟩ => show win0_5.index t (1 : Fin 2) * 2048 + 1 * q.val = q.val; rw [e1]; omega

/-- The matrix the region finds in window 7 is the argument itself: the cast leaves extended reals alone. -/
theorem V_v7 (c : Dev nD) : V m c main_v7 = m ((c : Thread nD τ).loc main_arg7) := by
  show StableHlo.after hostOps0 (fun b => m (c, b)) main_v7 = _
  after_results
  rfl

/-- Window 7 holds that matrix at every point. -/
theorem blk_7 (c : Dev nD) (t : Fin cfg0.N) (k : Fin 2048) (q : Fin 96) :
    iblk m c 7 t (ix2 k q) = m ((c : Thread nD τ).loc main_arg7) (ix2 k q) := by
  unfold iblk
  rw [View.read_apply]
  show V m c main_v7 _ = _
  rw [V_v7]
  have e0 : win0_7.index t (0 : Fin 2) = 0 := by have := idx_facts t; tauto
  have e1 : win0_7.index t (1 : Fin 2) = 0 := by have := idx_facts t; tauto
  refine congrArg _ (funext fun a => Fin.ext ?_)
  match a with
  | ⟨0, _⟩ => show win0_7.index t (0 : Fin 2) * 2048 + 1 * k.val = k.val; rw [e0]; omega
  | ⟨1, _⟩ => show win0_7.index t (1 : Fin 2) * 96 + 1 * q.val = q.val; rw [e1]; omega

/-- The matrix the region finds in window 8 is the argument itself: the cast leaves extended reals alone. -/
theorem V_v8 (c : Dev nD) : V m c main_v8 = m ((c : Thread nD τ).loc main_arg8) := by
  show StableHlo.after hostOps0 (fun b => m (c, b)) main_v8 = _
  after_results
  rfl

/-- Window 8 holds that matrix at every point. -/
theorem blk_8 (c : Dev nD) (t : Fin cfg0.N) (k : Fin 96) (q : Fin 2048) :
    iblk m c 8 t (ix2 k q) = m ((c : Thread nD τ).loc main_arg8) (ix2 k q) := by
  unfold iblk
  rw [View.read_apply]
  show V m c main_v8 _ = _
  rw [V_v8]
  have e0 : win0_8.index t (0 : Fin 2) = 0 := by have := idx_facts t; tauto
  have e1 : win0_8.index t (1 : Fin 2) = 0 := by have := idx_facts t; tauto
  refine congrArg _ (funext fun a => Fin.ext ?_)
  match a with
  | ⟨0, _⟩ => show win0_8.index t (0 : Fin 2) * 96 + 1 * k.val = k.val; rw [e0]; omega
  | ⟨1, _⟩ => show win0_8.index t (1 : Fin 2) * 2048 + 1 * q.val = q.val; rw [e1]; omega

/-- The matrix the region finds in window 9 is the argument itself: the cast leaves extended reals alone. -/
theorem V_v9 (c : Dev nD) : V m c main_v9 = m ((c : Thread nD τ).loc main_arg9) := by
  show StableHlo.after hostOps0 (fun b => m (c, b)) main_v9 = _
  after_results
  rfl

/-- Window 9 holds that matrix at every point. -/
theorem blk_9 (c : Dev nD) (t : Fin cfg0.N) (k : Fin 2048) (q : Fin 256) :
    iblk m c 9 t (ix2 k q) = m ((c : Thread nD τ).loc main_arg9) (ix2 k q) := by
  unfold iblk
  rw [View.read_apply]
  show V m c main_v9 _ = _
  rw [V_v9]
  have e0 : win0_9.index t (0 : Fin 2) = 0 := by have := idx_facts t; tauto
  have e1 : win0_9.index t (1 : Fin 2) = 0 := by have := idx_facts t; tauto
  refine congrArg _ (funext fun a => Fin.ext ?_)
  match a with
  | ⟨0, _⟩ => show win0_9.index t (0 : Fin 2) * 2048 + 1 * k.val = k.val; rw [e0]; omega
  | ⟨1, _⟩ => show win0_9.index t (1 : Fin 2) * 256 + 1 * q.val = q.val; rw [e1]; omega

/-- The matrix the region finds in window 10 is the argument itself: the cast leaves extended reals alone. -/
theorem V_v10 (c : Dev nD) : V m c main_v10 = m ((c : Thread nD τ).loc main_arg10) := by
  show StableHlo.after hostOps0 (fun b => m (c, b)) main_v10 = _
  after_results
  rfl

/-- Window 10 holds that matrix at every point. -/
theorem blk_10 (c : Dev nD) (t : Fin cfg0.N) (k : Fin 256) (q : Fin 2048) :
    iblk m c 10 t (ix2 k q) = m ((c : Thread nD τ).loc main_arg10) (ix2 k q) := by
  unfold iblk
  rw [View.read_apply]
  show V m c main_v10 _ = _
  rw [V_v10]
  have e0 : win0_10.index t (0 : Fin 2) = 0 := by have := idx_facts t; tauto
  have e1 : win0_10.index t (1 : Fin 2) = 0 := by have := idx_facts t; tauto
  refine congrArg _ (funext fun a => Fin.ext ?_)
  match a with
  | ⟨0, _⟩ => show win0_10.index t (0 : Fin 2) * 256 + 1 * k.val = k.val; rw [e0]; omega
  | ⟨1, _⟩ => show win0_10.index t (1 : Fin 2) * 2048 + 1 * q.val = q.val; rw [e1]; omega

/-- The bias row at point `t`. -/
theorem blk_3 (c : Dev nD) (t : Fin cfg0.N) (q : Fin 2048) :
    iblk m c 3 t (ix2 0 q) = m ((c : Thread nD τ).loc main_arg3) (ix1 q) := by
  unfold iblk
  rw [View.read_apply]
  show V m c main_v12 _ = _
  rw [← V_v12 m c q]
  have e0 : win0_3.index t (0 : Fin 2) = 0 := by have := idx_facts t; tauto
  have e1 : win0_3.index t (1 : Fin 2) = 0 := by have := idx_facts t; tauto
  refine congrArg _ (funext fun a => Fin.ext ?_)
  match a with
  | ⟨0, _⟩ => show win0_3.index t (0 : Fin 2) * 1 + 1 * 0 = 0; rw [e0]
  | ⟨1, _⟩ => show win0_3.index t (1 : Fin 2) * 2048 + 1 * q.val = q.val; rw [e1]; omega

/-- The bias row at point `t`. -/
theorem blk_6 (c : Dev nD) (t : Fin cfg0.N) (q : Fin 2048) :
    iblk m c 6 t (ix2 0 q) = m ((c : Thread nD τ).loc main_arg6) (ix1 q) := by
  unfold iblk
  rw [View.read_apply]
  show V m c main_v13 _ = _
  rw [← V_v13 m c q]
  have e0 : win0_6.index t (0 : Fin 2) = 0 := by have := idx_facts t; tauto
  have e1 : win0_6.index t (1 : Fin 2) = 0 := by have := idx_facts t; tauto
  refine congrArg _ (funext fun a => Fin.ext ?_)
  match a with
  | ⟨0, _⟩ => show win0_6.index t (0 : Fin 2) * 1 + 1 * 0 = 0; rw [e0]
  | ⟨1, _⟩ => show win0_6.index t (1 : Fin 2) * 2048 + 1 * q.val = q.val; rw [e1]; omega

/-- The rows at point `t`. -/
theorem blk_h (c : Dev nD) (t : Fin cfg0.N) (r : Fin 256) (k : Fin 2048) :
    iblk m c 0 t (ix2 r k) = m ((c : Thread nD τ).loc main_arg0) (ix2 (row t r) k) := by
  unfold iblk
  rw [View.read_apply]
  show V m c main_arg0 _ = _
  rw [V_main_arg0]
  obtain ⟨e0, e1, -⟩ := idx_facts t
  refine congrArg _ (funext fun a => Fin.ext ?_)
  match a with
  | ⟨0, _⟩ => show win0_0.index t (0 : Fin 2) * 256 + 1 * r.val = t.val * 256 + r.val; rw [e0]; omega
  | ⟨1, _⟩ => show win0_0.index t (1 : Fin 2) * 2048 + 1 * k.val = k.val; rw [e1]; omega

/-- The rows before them. -/
theorem blk_p (c : Dev nD) (t : Fin cfg0.N) (r : Fin 256) (k : Fin 2048) :
    iblk m c 1 t (ix2 r k)
      = Shift.prev (m ((c : Thread nD τ).loc main_arg0)) (m ((c : Thread nD τ).loc main_arg1)) (row t r) k := by
  unfold iblk
  rw [View.read_apply]
  show V m c main_v3 _ = _
  rw [← V_prev m c (row t r) k]
  obtain ⟨-, -, e0, e1, -⟩ := idx_facts t
  refine congrArg _ (funext fun a => Fin.ext ?_)
  match a with
  | ⟨0, _⟩ => show win0_1.index t (0 : Fin 2) * 256 + 1 * r.val = t.val * 256 + r.val; rw [e0]; omega
  | ⟨1, _⟩ => show win0_1.index t (1 : Fin 2) * 2048 + 1 * k.val = k.val; rw [e1]; omega

/-- The mixing weights at point `t`. -/
theorem blk_u (c : Dev nD) (t : Fin cfg0.N) (s : Fin 3) (k : Fin 2048) :
    iblk m c 2 t (ix3 s 0 k) = m ((c : Thread nD τ).loc main_arg2) (ix2 (⟨3 + s.val, by omega⟩ : Fin 6) k) := by
  unfold iblk
  rw [View.read_apply]
  show V m c main_v11 _ = _
  rw [← V_mu m c s k]
  obtain ⟨-, -, -, -, e0, e1, e2, -⟩ := idx_facts t
  refine congrArg _ (funext fun a => Fin.ext ?_)
  match a with
  | ⟨0, _⟩ => show win0_2.index t (0 : Fin 3) * 3 + 1 * s.val = s.val; rw [e0]; omega
  | ⟨1, _⟩ => show win0_2.index t (1 : Fin 3) * 1 + 1 * 0 = 0; rw [e1]
  | ⟨2, _⟩ => show win0_2.index t (2 : Fin 3) * 2048 + 1 * k.val = k.val; rw [e2]; omega

/-- A mixed row of the arguments, by row `s` of the mixing weights. -/
abbrev nrow (c : Dev nD) (s : Fin 6) (i : Fin 16384) : Fin 2048 → EReal :=
  Shift.mix (m ((c : Thread nD τ).loc main_arg0)) (m ((c : Thread nD τ).loc main_arg1))
    (fun l => m ((c : Thread nD τ).loc main_arg2) (ix2 s l)) i

/-- The mixed rows of the blocks are those of the arguments. -/
theorem mixed_blk (c : Dev nD) (t : Fin cfg0.N) (s : Fin 3) (r : Fin 256) :
    mrow (iblk m c 0 t) (iblk m c 1 t) (iblk m c 2 t) s r = nrow m c ⟨3 + s.val, by omega⟩ (row t r) := by
  funext k
  unfold nrow Shift.mix mrow
  exact congrArg₂ (· + · : EReal → EReal → EReal) (blk_h m c t r k) (congrArg₂ (· * · : EReal → EReal → EReal)
    (congrArg₂ (· - · : EReal → EReal → EReal) (blk_p m c t r k) (blk_h m c t r k)) (blk_u m c t s k))

/-- What the array of window 11 holds after the run: the reference's own value of the arguments. -/
abbrev G11 (c : Dev nD) : S16384x2048.Idx → EReal :=
  Cert.ReferenceLoraIdeal.Read.val_main_v53 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

/-- What the array of window 12 holds after the run: the reference's own value of the arguments. -/
abbrev G12 (c : Dev nD) : S16384x2048.Idx → EReal :=
  Cert.ReferenceLoraIdeal.Read.val_main_v37 (F := Ideal) (m ((c : Thread nD τ).loc main_arg0)) (m ((c : Thread nD τ).loc main_arg1)) (m ((c : Thread nD τ).loc main_arg2)) (m ((c : Thread nD τ).loc main_arg6)) (m ((c : Thread nD τ).loc main_arg7)) (m ((c : Thread nD τ).loc main_arg8))

/-- What the array of window 13 holds after the run: the reference's own value of the arguments. -/
abbrev G13 (c : Dev nD) : S16384x2048.Idx → EReal :=
  Cert.ReferenceLoraIdeal.Read.val_main_v51 (F := Ideal) (m ((c : Thread nD τ).loc main_arg0)) (m ((c : Thread nD τ).loc main_arg1)) (m ((c : Thread nD τ).loc main_arg2)) (m ((c : Thread nD τ).loc main_arg9)) (m ((c : Thread nD τ).loc main_arg10))

/-- The reference's rows mixed by row 3 of the weights. -/
theorem ref_mix3 (h : S16384x2048.Idx → EReal) (s : S1x1x2048.Idx → EReal) (u : S6x2048.Idx → EReal) (i : Fin 16384) (k : Fin 2048) :
    Cert.ReferenceLoraIdeal.Read.val_main_v9 (F := Ideal) h s u (ix2 i k) = Shift.mix h s (fun l => u (ix2 (3 : Fin 6) l)) i k := by
  rw [Cert.ReferenceLoraIdeal.Read.val_main_v9_apply, Cert.ReferenceLoraIdeal.Read.val_main_v8_apply, Cert.ReferenceLoraIdeal.Read.val_main_v3_apply, Cert.ReferenceLoraIdeal.Read.val_main_v7_apply,
    Cert.ReferenceLoraIdeal.Read.val_main_v6_apply, Cert.ReferenceLoraIdeal.Read.val_main_v5_apply, Cert.ReferenceLoraIdeal.Read.val_main_v4_apply]
  refine congrArg₂ (fun y z : EReal => h (ix2 i k) + (y - h (ix2 i k)) * z) (Shift.ref_apply h s i k) (congrArg u ?_)
  funext a; apply Fin.ext
  match a with
  | ⟨0, _⟩ => rfl
  | ⟨1, _⟩ => show k.val % 2048 = k.val; omega

/-- The reference's rows mixed by row 4 of the weights. -/
theorem ref_mix4 (h : S16384x2048.Idx → EReal) (s : S1x1x2048.Idx → EReal) (u : S6x2048.Idx → EReal) (i : Fin 16384) (k : Fin 2048) :
    Cert.ReferenceLoraIdeal.Read.val_main_v26 (F := Ideal) h s u (ix2 i k) = Shift.mix h s (fun l => u (ix2 (4 : Fin 6) l)) i k := by
  rw [Cert.ReferenceLoraIdeal.Read.val_main_v26_apply, Cert.ReferenceLoraIdeal.Read.val_main_v25_apply, Cert.ReferenceLoraIdeal.Read.val_main_v3_apply, Cert.ReferenceLoraIdeal.Read.val_main_v24_apply,
    Cert.ReferenceLoraIdeal.Read.val_main_v23_apply, Cert.ReferenceLoraIdeal.Read.val_main_v22_apply, Cert.ReferenceLoraIdeal.Read.val_main_v21_apply]
  refine congrArg₂ (fun y z : EReal => h (ix2 i k) + (y - h (ix2 i k)) * z) (Shift.ref_apply h s i k) (congrArg u ?_)
  funext a; apply Fin.ext
  match a with
  | ⟨0, _⟩ => rfl
  | ⟨1, _⟩ => show k.val % 2048 = k.val; omega

/-- The reference's rows mixed by row 5 of the weights. -/
theorem ref_mix5 (h : S16384x2048.Idx → EReal) (s : S1x1x2048.Idx → EReal) (u : S6x2048.Idx → EReal) (i : Fin 16384) (k : Fin 2048) :
    Cert.ReferenceLoraIdeal.Read.val_main_v43 (F := Ideal) h s u (ix2 i k) = Shift.mix h s (fun l => u (ix2 (5 : Fin 6) l)) i k := by
  rw [Cert.ReferenceLoraIdeal.Read.val_main_v43_apply, Cert.ReferenceLoraIdeal.Read.val_main_v42_apply, Cert.ReferenceLoraIdeal.Read.val_main_v3_apply, Cert.ReferenceLoraIdeal.Read.val_main_v41_apply,
    Cert.ReferenceLoraIdeal.Read.val_main_v40_apply, Cert.ReferenceLoraIdeal.Read.val_main_v39_apply, Cert.ReferenceLoraIdeal.Read.val_main_v38_apply]
  refine congrArg₂ (fun y z : EReal => h (ix2 i k) + (y - h (ix2 i k)) * z) (Shift.ref_apply h s i k) (congrArg u ?_)
  funext a; apply Fin.ext
  match a with
  | ⟨0, _⟩ => rfl
  | ⟨1, _⟩ => show k.val % 2048 = k.val; omega

/-- Two indices with the same two coordinates. -/
theorem two_eta {M N : ℕ} (j : Shape.Idx ⟨2, ![M, N]⟩) (r : Fin M) (q : Fin N) (h0 : j 0 = r) (h1 : j 1 = q) : j = ix2 r q := by
  funext a; match a with | ⟨0, _⟩ => exact h0 | ⟨1, _⟩ => exact h1

/-- A number is not unequal to itself. -/
theorem une_self (z : EReal) : Ideal.cmp .une z z = 0#1 := by simp [Ideal.cmp]

/-- The reference's decay at one row and column. -/
theorem ref_decay (h : S16384x2048.Idx → EReal) (s : S1x1x2048.Idx → EReal) (u : S6x2048.Idx → EReal) (w0 : S2048.Idx → EReal)
    (w1 : S2048x96.Idx → EReal) (w2 : S96x2048.Idx → EReal) (i : Fin 16384) (q : Fin 2048) :
    Cert.ReferenceLoraIdeal.Read.val_main_v53 (F := Ideal) h s u w0 w1 w2 (ix2 i q)
      = decay (w0 (ix1 q) + wide (fun j => Ideal.tanh (thin (Shift.mix h s (fun l => u (ix2 (3 : Fin 6) l)) i) w1 j)) w2 q) := by
  have base : Cert.ReferenceLoraIdeal.Read.val_main_v15 (F := Ideal) h s u w0 w1 w2 (ix2 i q)
      = w0 (ix1 q) + wide (fun j => Ideal.tanh (thin (Shift.mix h s (fun l => u (ix2 (3 : Fin 6) l)) i) w1 j)) w2 q := by
    rw [Cert.ReferenceLoraIdeal.Read.val_main_v15_apply, Cert.ReferenceLoraIdeal.Read.val_main_v14_apply, Cert.ReferenceLoraIdeal.Read.val_main_v13_apply, Cert.ReferenceLoraIdeal.Read.val_main_v12_apply]
    refine congrArg₂ (· + · : EReal → EReal → EReal) (congrArg w0 ?_) ?_
    · funext a; match a with | ⟨0, _⟩ => exact Fin.ext (by first | rfl | (show q.val % 2048 = q.val; omega))
    · refine Finset.sum_congr rfl fun j _ => congrArg₂ (· * · : EReal → EReal → EReal) ?_ (congrArg w2 (two_eta _ _ _ rfl rfl))
      refine (congrArg _ (two_eta (M := 16384) (N := 96) _ i j rfl rfl)).trans ?_
      rw [Cert.ReferenceLoraIdeal.Read.val_main_v11_apply, Cert.ReferenceLoraIdeal.Read.val_main_v10_apply]
      refine congrArg Ideal.tanh (Finset.sum_congr rfl fun k _ => congrArg₂ (· * · : EReal → EReal → EReal) ?_ (congrArg w1 (two_eta _ _ _ rfl rfl)))
      exact (congrArg _ (two_eta (M := 16384) (N := 2048) _ i k rfl rfl)).trans (ref_mix3 h s u i k)
  rw [← base]
  generalize hb : Cert.ReferenceLoraIdeal.Read.val_main_v15 (F := Ideal) h s u w0 w1 w2 (ix2 i q) = b
  have hz : ∀ (j : S16384x2048.Idx), Cert.ReferenceLoraIdeal.Read.val_main_call0_v2 (F := Ideal) j = 0 := fun j => by
    rw [Cert.ReferenceLoraIdeal.Read.val_main_call0_v2_apply]; exact Ideal.ofBits_zero_f32
  have hz0 : ∀ (j : S16384x2048.Idx), Cert.ReferenceLoraIdeal.Read.val_main_call0_v0 (F := Ideal) j = 0 := fun j => by
    rw [Cert.ReferenceLoraIdeal.Read.val_main_call0_v0_apply]; exact Ideal.ofBits_zero_f32
  have h16 : Cert.ReferenceLoraIdeal.Read.val_main_v16 (F := Ideal) h s u w0 w1 w2 (ix2 i q) = -b := by rw [Cert.ReferenceLoraIdeal.Read.val_main_v16_apply, hb]; rfl
  have h3 : Cert.ReferenceLoraIdeal.Read.val_main_call0_v3 (F := Ideal) h s u w0 w1 w2 (ix2 i q) = -b := by
    rw [Cert.ReferenceLoraIdeal.Read.val_main_call0_v3_apply, h16, hz]; exact sub_zero _
  have h4 : Cert.ReferenceLoraIdeal.Read.val_main_call0_v4 (F := Ideal) h s u w0 w1 w2 (ix2 i q) = 0#1 := by
    rw [Cert.ReferenceLoraIdeal.Read.val_main_call0_v4_apply]; exact une_self _
  have h17 : Cert.ReferenceLoraIdeal.Read.val_main_v17 (F := Ideal) h s u w0 w1 w2 (ix2 i q)
      = max (-b) 0 + Ideal.log1p (Ideal.exp (-(max (-b) (- -b)))) := by
    rw [Cert.ReferenceLoraIdeal.Read.val_main_v17_apply, h4, Cert.ReferenceLoraIdeal.Read.val_main_call0_v11_apply, Cert.ReferenceLoraIdeal.Read.val_main_call0_v1_apply, Cert.ReferenceLoraIdeal.Read.val_main_call0_v10_apply, Cert.ReferenceLoraIdeal.Read.val_main_call0_v9_apply,
      Cert.ReferenceLoraIdeal.Read.val_main_call0_v8_apply, Cert.ReferenceLoraIdeal.Read.val_main_call0_v7_apply, h3, h16, hz0]
    rfl
  rw [Cert.ReferenceLoraIdeal.Read.val_main_v53_apply, Cert.ReferenceLoraIdeal.Read.val_main_v52_apply, Cert.ReferenceLoraIdeal.Read.val_main_v20_apply, Cert.ReferenceLoraIdeal.Read.val_main_v18_apply, Cert.ReferenceLoraIdeal.Read.val_main_v19_apply, h17]
  rfl

/-- The reference's write rate at one row and column. -/
theorem ref_rate (h : S16384x2048.Idx → EReal) (s : S1x1x2048.Idx → EReal) (u : S6x2048.Idx → EReal) (a0 : S2048.Idx → EReal)
    (a1 : S2048x96.Idx → EReal) (a2 : S96x2048.Idx → EReal) (i : Fin 16384) (q : Fin 2048) :
    Cert.ReferenceLoraIdeal.Read.val_main_v37 (F := Ideal) h s u a0 a1 a2 (ix2 i q)
      = logistic (a0 (ix1 q) + wide (thin (Shift.mix h s (fun l => u (ix2 (4 : Fin 6) l)) i) a1) a2 q) := by
  rw [Cert.ReferenceLoraIdeal.Read.val_main_v37_apply, Cert.ReferenceLoraIdeal.Read.val_main_v36_apply, Cert.ReferenceLoraIdeal.Read.val_main_v35_apply, Cert.ReferenceLoraIdeal.Read.val_main_v34_apply, Cert.ReferenceLoraIdeal.Read.val_main_v33_apply, Cert.ReferenceLoraIdeal.Read.val_main_v32_apply, Cert.ReferenceLoraIdeal.Read.val_main_v31_apply]
  refine congrArg logistic ?_
  rw [Cert.ReferenceLoraIdeal.Read.val_main_v30_apply, Cert.ReferenceLoraIdeal.Read.val_main_v29_apply, Cert.ReferenceLoraIdeal.Read.val_main_v28_apply]
  refine congrArg₂ (· + · : EReal → EReal → EReal) (congrArg a0 ?_) ?_
  · funext a; match a with | ⟨0, _⟩ => exact Fin.ext (by first | rfl | (show q.val % 2048 = q.val; omega))
  · refine Finset.sum_congr rfl fun j _ => congrArg₂ (· * · : EReal → EReal → EReal) ?_ (congrArg a2 (two_eta _ _ _ rfl rfl))
    refine (congrArg _ (two_eta (M := 16384) (N := 96) _ i j rfl rfl)).trans ?_
    rw [Cert.ReferenceLoraIdeal.Read.val_main_v27_apply]
    refine Finset.sum_congr rfl fun k _ => congrArg₂ (· * · : EReal → EReal → EReal) ?_ (congrArg a1 (two_eta _ _ _ rfl rfl))
    exact (congrArg _ (two_eta (M := 16384) (N := 2048) _ i k rfl rfl)).trans (ref_mix4 h s u i k)

/-- The reference's gate at one row and column. -/
theorem ref_gate (h : S16384x2048.Idx → EReal) (s : S1x1x2048.Idx → EReal) (u : S6x2048.Idx → EReal)
    (g1 : S2048x256.Idx → EReal) (g2 : S256x2048.Idx → EReal) (i : Fin 16384) (q : Fin 2048) :
    Cert.ReferenceLoraIdeal.Read.val_main_v51 (F := Ideal) h s u g1 g2 (ix2 i q)
      = wide (fun j => logistic (thin (Shift.mix h s (fun l => u (ix2 (5 : Fin 6) l)) i) g1 j)) g2 q := by
  rw [Cert.ReferenceLoraIdeal.Read.val_main_v51_apply]
  refine Finset.sum_congr rfl fun j _ => congrArg₂ (· * · : EReal → EReal → EReal) ?_ (congrArg g2 (two_eta _ _ _ rfl rfl))
  refine (congrArg _ (two_eta (M := 16384) (N := 256) _ i j rfl rfl)).trans ?_
  rw [Cert.ReferenceLoraIdeal.Read.val_main_v50_apply, Cert.ReferenceLoraIdeal.Read.val_main_v49_apply, Cert.ReferenceLoraIdeal.Read.val_main_v48_apply, Cert.ReferenceLoraIdeal.Read.val_main_v47_apply, Cert.ReferenceLoraIdeal.Read.val_main_v46_apply, Cert.ReferenceLoraIdeal.Read.val_main_v45_apply]
  refine congrArg logistic ?_
  rw [Cert.ReferenceLoraIdeal.Read.val_main_v44_apply]
  refine Finset.sum_congr rfl fun k _ => congrArg₂ (· * · : EReal → EReal → EReal) ?_ (congrArg g1 (two_eta _ _ _ rfl rfl))
  exact (congrArg _ (two_eta (M := 16384) (N := 2048) _ i k rfl rfl)).trans (ref_mix5 h s u i k)

/-- Where the entries of output window 11's block lie in the array. -/
theorem emb_11 (t : Fin cfg0.N) (r : Fin 256) (q : Fin 2048) :
    ((cfg0.win 11).blk t).view.emb (ix2 r q) = ix2 (row t r) q := by
  have e0 : win0_11.index t (0 : Fin 2) = t.val := by have := idx_facts t; tauto
  have e1 : win0_11.index t (1 : Fin 2) = 0 := by have := idx_facts t; tauto
  funext a; apply Fin.ext
  match a with
  | ⟨0, _⟩ => show win0_11.index t (0 : Fin 2) * 256 + 1 * r.val = t.val * 256 + r.val; rw [e0]; omega
  | ⟨1, _⟩ => show win0_11.index t (1 : Fin 2) * 2048 + 1 * q.val = q.val; rw [e1]; omega

/-- What point `t` writes back is its block of that array. -/
theorem flushed_11 (c : Dev nD) (t : Fin cfg0.N) (_ : (cfg0.win 11).flush t = true) :
    (dats m 0 c).flushed 11 t = ((cfg0.win 11).blk t).view.read (Elt Ideal) (G11 m c) := by
  rw [Value.flushed11]
  funext y
  obtain ⟨r, q, rfl⟩ := Common.exists_ix2 (M := 256) (N := 2048) y
  rw [View.read_apply, emb_11 t r q]
  refine (out_11 _ _ _ _ _ _ _ _ _ _ _ r q).trans ((?_ : _ = _).trans (ref_decay _ _ _ _ _ _ (row t r) q).symm)
  rw [mixed_blk m c t 0 r]
  refine congrArg decay (congrArg₂ (· + · : EReal → EReal → EReal) (blk_3 m c t q) ?_)
  refine Finset.sum_congr rfl fun j _ => congrArg₂ (· * · : EReal → EReal → EReal) (congrArg Ideal.tanh ?_) (blk_5 m c t j q)
  exact Finset.sum_congr rfl fun k _ => congrArg₂ (· * · : EReal → EReal → EReal) rfl (blk_4 m c t k j)

/-- Every index lies in the block some point writes back. -/
theorem covered_11 (i : S16384x2048.Idx) : ∃ t : Fin cfg0.N, (cfg0.win 11).flush t = true ∧ i ∈ ((cfg0.win 11).blk t).view.set := by
  have h0 : (i 0).val < 16384 := (i 0).isLt
  have h1 : (i 1).val < 2048 := (i 1).isLt
  have hN : cfg0.N = 64 := N_0
  obtain ⟨t, ht⟩ : ∃ t : Fin cfg0.N, t.val = (i 0).val / 256 := ⟨⟨_, by omega⟩, rfl⟩
  refine ⟨t, (by decide +kernel : ∀ t : Fin grid0.N, win0_11.flush t = true) t, ?_⟩
  show i ∈ ((View.whole main_v14_0).slice (win0_11.rect t)).set
  rw [View.set_slice_whole, Rect.mem_set_unit]
  have e0 : win0_11.index t (0 : Fin 2) = t.val := by have := idx_facts t; tauto
  have e1 : win0_11.index t (1 : Fin 2) = 0 := by have := idx_facts t; tauto
  intro a
  match a with
  | ⟨0, _⟩ =>
    show win0_11.index t (0 : Fin 2) * 256 ≤ (i 0).val ∧ (i 0).val < win0_11.index t (0 : Fin 2) * 256 + 256
    rw [e0]; omega
  | ⟨1, _⟩ =>
    show win0_11.index t (1 : Fin 2) * 2048 ≤ (i 1).val ∧ (i 1).val < win0_11.index t (1 : Fin 2) * 2048 + 2048
    rw [e1]; omega

/-- The array after the run is the reference's value. -/
theorem final_11 (c : Dev nD) : (dats m 0 c).arrAt 11 cfg0.N = G11 m c :=
  (dats m 0 c).arrAt_eq_of_cover 11 (G11 m c) (flushed_11 m c) covered_11

/-- Where the entries of output window 12's block lie in the array. -/
theorem emb_12 (t : Fin cfg0.N) (r : Fin 256) (q : Fin 2048) :
    ((cfg0.win 12).blk t).view.emb (ix2 r q) = ix2 (row t r) q := by
  have e0 : win0_12.index t (0 : Fin 2) = t.val := by have := idx_facts t; tauto
  have e1 : win0_12.index t (1 : Fin 2) = 0 := by have := idx_facts t; tauto
  funext a; apply Fin.ext
  match a with
  | ⟨0, _⟩ => show win0_12.index t (0 : Fin 2) * 256 + 1 * r.val = t.val * 256 + r.val; rw [e0]; omega
  | ⟨1, _⟩ => show win0_12.index t (1 : Fin 2) * 2048 + 1 * q.val = q.val; rw [e1]; omega

/-- What point `t` writes back is its block of that array. -/
theorem flushed_12 (c : Dev nD) (t : Fin cfg0.N) (_ : (cfg0.win 12).flush t = true) :
    (dats m 0 c).flushed 12 t = ((cfg0.win 12).blk t).view.read (Elt Ideal) (G12 m c) := by
  rw [Value.flushed12]
  funext y
  obtain ⟨r, q, rfl⟩ := Common.exists_ix2 (M := 256) (N := 2048) y
  rw [View.read_apply, emb_12 t r q]
  refine (out_12 _ _ _ _ _ _ _ _ _ _ _ r q).trans ((?_ : _ = _).trans (ref_rate _ _ _ _ _ _ (row t r) q).symm)
  rw [mixed_blk m c t 1 r]
  refine congrArg logistic (congrArg₂ (· + · : EReal → EReal → EReal) (blk_6 m c t q) ?_)
  refine Finset.sum_congr rfl fun j _ => congrArg₂ (· * · : EReal → EReal → EReal) ?_ (blk_8 m c t j q)
  exact Finset.sum_congr rfl fun k _ => congrArg₂ (· * · : EReal → EReal → EReal) rfl (blk_7 m c t k j)

/-- Every index lies in the block some point writes back. -/
theorem covered_12 (i : S16384x2048.Idx) : ∃ t : Fin cfg0.N, (cfg0.win 12).flush t = true ∧ i ∈ ((cfg0.win 12).blk t).view.set := by
  have h0 : (i 0).val < 16384 := (i 0).isLt
  have h1 : (i 1).val < 2048 := (i 1).isLt
  have hN : cfg0.N = 64 := N_0
  obtain ⟨t, ht⟩ : ∃ t : Fin cfg0.N, t.val = (i 0).val / 256 := ⟨⟨_, by omega⟩, rfl⟩
  refine ⟨t, (by decide +kernel : ∀ t : Fin grid0.N, win0_12.flush t = true) t, ?_⟩
  show i ∈ ((View.whole main_v14_1).slice (win0_12.rect t)).set
  rw [View.set_slice_whole, Rect.mem_set_unit]
  have e0 : win0_12.index t (0 : Fin 2) = t.val := by have := idx_facts t; tauto
  have e1 : win0_12.index t (1 : Fin 2) = 0 := by have := idx_facts t; tauto
  intro a
  match a with
  | ⟨0, _⟩ =>
    show win0_12.index t (0 : Fin 2) * 256 ≤ (i 0).val ∧ (i 0).val < win0_12.index t (0 : Fin 2) * 256 + 256
    rw [e0]; omega
  | ⟨1, _⟩ =>
    show win0_12.index t (1 : Fin 2) * 2048 ≤ (i 1).val ∧ (i 1).val < win0_12.index t (1 : Fin 2) * 2048 + 2048
    rw [e1]; omega

/-- The array after the run is the reference's value. -/
theorem final_12 (c : Dev nD) : (dats m 0 c).arrAt 12 cfg0.N = G12 m c :=
  (dats m 0 c).arrAt_eq_of_cover 12 (G12 m c) (flushed_12 m c) covered_12

/-- Where the entries of output window 13's block lie in the array. -/
theorem emb_13 (t : Fin cfg0.N) (r : Fin 256) (q : Fin 2048) :
    ((cfg0.win 13).blk t).view.emb (ix2 r q) = ix2 (row t r) q := by
  have e0 : win0_13.index t (0 : Fin 2) = t.val := by have := idx_facts t; tauto
  have e1 : win0_13.index t (1 : Fin 2) = 0 := by have := idx_facts t; tauto
  funext a; apply Fin.ext
  match a with
  | ⟨0, _⟩ => show win0_13.index t (0 : Fin 2) * 256 + 1 * r.val = t.val * 256 + r.val; rw [e0]; omega
  | ⟨1, _⟩ => show win0_13.index t (1 : Fin 2) * 2048 + 1 * q.val = q.val; rw [e1]; omega

/-- What point `t` writes back is its block of that array. -/
theorem flushed_13 (c : Dev nD) (t : Fin cfg0.N) (_ : (cfg0.win 13).flush t = true) :
    (dats m 0 c).flushed 13 t = ((cfg0.win 13).blk t).view.read (Elt Ideal) (G13 m c) := by
  rw [Value.flushed13]
  funext y
  obtain ⟨r, q, rfl⟩ := Common.exists_ix2 (M := 256) (N := 2048) y
  rw [View.read_apply, emb_13 t r q]
  refine (out_13 _ _ _ _ _ _ _ _ _ _ _ r q).trans ((?_ : _ = _).trans (ref_gate _ _ _ _ _ (row t r) q).symm)
  rw [mixed_blk m c t 2 r]
  refine Finset.sum_congr rfl fun j _ => congrArg₂ (· * · : EReal → EReal → EReal) (congrArg logistic ?_) (blk_10 m c t j q)
  exact Finset.sum_congr rfl fun k _ => congrArg₂ (· * · : EReal → EReal → EReal) rfl (blk_9 m c t k j)

/-- Every index lies in the block some point writes back. -/
theorem covered_13 (i : S16384x2048.Idx) : ∃ t : Fin cfg0.N, (cfg0.win 13).flush t = true ∧ i ∈ ((cfg0.win 13).blk t).view.set := by
  have h0 : (i 0).val < 16384 := (i 0).isLt
  have h1 : (i 1).val < 2048 := (i 1).isLt
  have hN : cfg0.N = 64 := N_0
  obtain ⟨t, ht⟩ : ∃ t : Fin cfg0.N, t.val = (i 0).val / 256 := ⟨⟨_, by omega⟩, rfl⟩
  refine ⟨t, (by decide +kernel : ∀ t : Fin grid0.N, win0_13.flush t = true) t, ?_⟩
  show i ∈ ((View.whole main_v14_2).slice (win0_13.rect t)).set
  rw [View.set_slice_whole, Rect.mem_set_unit]
  have e0 : win0_13.index t (0 : Fin 2) = t.val := by have := idx_facts t; tauto
  have e1 : win0_13.index t (1 : Fin 2) = 0 := by have := idx_facts t; tauto
  intro a
  match a with
  | ⟨0, _⟩ =>
    show win0_13.index t (0 : Fin 2) * 256 ≤ (i 0).val ∧ (i 0).val < win0_13.index t (0 : Fin 2) * 256 + 256
    rw [e0]; omega
  | ⟨1, _⟩ =>
    show win0_13.index t (1 : Fin 2) * 2048 ≤ (i 1).val ∧ (i 1).val < win0_13.index t (1 : Fin 2) * 2048 + 2048
    rw [e1]; omega

/-- The array after the run is the reference's value. -/
theorem final_13 (c : Dev nD) : (dats m 0 c).arrAt 13 cfg0.N = G13 m c :=
  (dats m 0 c).arrAt_eq_of_cover 13 (G13 m c) (flushed_13 m c) covered_13

/-- The kernel's run and the reference's end with the same three arrays and leave the arguments unchanged. -/
theorem algebraic : Cert.algebraic_KernelLoraIdeal_ReferenceLoraIdeal := fun m ρ m' ρ' _ hag =>
  ⟨fun c => G11 m c, fun c => G12 m c, fun c => G13 m c,
    (θ_run _ _ _).mono (fun _ h c => ⟨(h c).1.trans (final_11 m c), (h c).2.1.trans (final_12 m c),
      (h c).2.2.1.trans (final_13 m c), (h c).2.2.2⟩) (Value.run_blocks m ρ),
    (θ_run _ _ _).mono (fun _ h c => by
      obtain ⟨a0, a1, a2, a3, a4, a5, a6, a7, a8, a9, a10⟩ := hag c
      refine ⟨(h c).1.trans ?_, (h c).2.1.trans ?_, (h c).2.2.1.trans ?_, (h c).2.2.2⟩
      · unfold Cert.ReferenceLoraIdeal.Value.res_main_v53
        rw [a0, a1, a2, a3, a4, a5]; rfl
      · rw [a0, a1, a2, a6, a7, a8]; rfl
      · rw [a0, a1, a2, a9, a10]; rfl)
      (Cert.ReferenceLoraIdeal.Value.run m' ρ')⟩

end Cert.LoraValue

end
-- ==== Proof.HgrnMath.lean ====
/- The HGRN recurrence over one chunk of sixteen rows and one head, entry by entry: the gates, the running sums of their
   logarithms, the output row and the state left at the end; and the two facts about running sums that the kernel and the
   reference each need. -/
module

public import Idealize.ShloMosaic.Lib.Pipeline.Value
public import Idealize.ShloMosaic.Lib.ValueIdx
public import Idealize.ShloMosaic.PureOps.Ideal.Laws
public import proofs.«01_k».proof.Proof.Common

@[expose] public section

set_option maxRecDepth 16384

noncomputable section

namespace Cert.HgrnMath

open Idealize.ShloMosaic Idealize.ShloMosaic.ValueIdx
open scoped BigOperators

/-- One, as both programs write it. -/
abbrev one : EReal := Ideal.ofBits .f32 0x3F800000#32

/-- The logistic function as a quotient. -/
def sig (x : EReal) : EReal := Ideal.div one (one + Ideal.exp (-x))

/-- A query entry: `silu`, scaled. -/
def qf (x : EReal) : EReal := x * sig x * Ideal.ofBits .f32 0x3DB504F3#32

/-- The logarithm of a forget gate with lower bound `b`. -/
def gf (b x : EReal) : EReal := Ideal.log (b + (one - b) * sig x)

/-- A key entry: what the gate lets in. -/
def kf (b x : EReal) : EReal := (one - b) * sig (-x)

/-- The running sums of the rows of `g`. -/
def cum (g : Fin 16 → Fin 128 → EReal) (t : Fin 16) (j : Fin 128) : EReal := ∑ s : Fin 16, if s ≤ t then g s j else 0

/-- What row `s` weighs in row `t`'s output. -/
def score (q k G : Fin 16 → Fin 128 → EReal) (t s : Fin 16) : EReal :=
  ∑ j, q t j * k s j * Ideal.exp (if s ≤ t then G t j - G s j else ⊥)

/-- The output row: the rows of the chunk weighted, and the state the chunk started from. -/
def outf (q k G v : Fin 16 → Fin 128 → EReal) (S : Fin 128 → Fin 128 → EReal) (t : Fin 16) (l : Fin 128) : EReal :=
  (∑ s, score q k G t s * v s l) + ∑ j, q t j * Ideal.exp (G t j) * S l j

/-- The state the chunk leaves. -/
def statef (k G v : Fin 16 → Fin 128 → EReal) (S : Fin 128 → Fin 128 → EReal) (l j : Fin 128) : EReal :=
  S l j * Ideal.exp (G 15 j) + ∑ t, v t l * (k t j * Ideal.exp (G 15 j - G t j))

/-- A number below plus infinity, plus what its two differences with itself leave, is that number. -/
theorem split3 {x : EReal} (hx : x ≠ ⊤) : x + ((x - x) + ((x - x) - (x - x))) = x := by
  induction x with
  | bot => rfl
  | coe r =>
    have e : ((r : EReal) - r) = 0 := by rw [← EReal.coe_sub, sub_self, EReal.coe_zero]
    rw [e]
    simp
  | top => exact absurd rfl hx

/-- The three sums over the rows up to `t`, of the entries and of their two differences, are the running sum. -/
theorem cum_split (g : Fin 16 → Fin 128 → EReal) (j : Fin 128) (hg : ∀ s, g s j ≠ ⊤) (w : Fin 16 → EReal) (t : Fin 16)
    (hw : ∀ s, w s = if s ≤ t then 1 else 0) :
    (∑ s, w s * g s j) + ((∑ s, w s * (g s j - g s j)) + ∑ s, w s * ((g s j - g s j) - (g s j - g s j))) = cum g t j := by
  rw [← Finset.sum_add_distrib, ← Finset.sum_add_distrib]
  refine Finset.sum_congr rfl fun s _ => ?_
  rw [hw s]
  by_cases h : s ≤ t
  · rw [if_pos h, if_pos h, one_mul, one_mul, one_mul]
    exact split3 (hg s)
  · rw [if_neg h, if_neg h]
    simp only [zero_mul, add_zero]

/-- Sums added on the right of a starting value. -/
theorem foldl_sum {n : ℕ} (f : Fin n → EReal) (l : List (Fin n)) (z : EReal) :
    l.foldl (fun r i => r + f i) z = z + (l.map f).sum := by
  induction l generalizing z with
  | nil => simp
  | cons a l ih => rw [List.foldl_cons, ih, List.map_cons, List.sum_cons, add_assoc]

/-- The running sums along the third of four axes, as windows padded low. -/
theorem cumsum {A B D : ℕ} (x : FVec Ideal ⟨4, ![A, B, 16, D]⟩ .f32) (init : (⟨0, ![]⟩ : Shape).Idx → EReal) (hi : ∀ i, init i = 0)
    (h : (⟨4, ![A, B, 16, D]⟩ : Shape).ReduceWindows (![1, 1, 16, 1] : Fin 4 → ℕ) ![1, 1, 1, 1] ![0, 0, 15, 0] ![0, 0, 0, 0] ⟨4, ![A, B, 16, D]⟩)
    (hu : 0 < (⟨0, ![]⟩ : Shape).numel) (a : Fin A) (b : Fin B) (t : Fin 16) (d : Fin D) :
    Host.reduceWindowAdd (F := Ideal) (φ := .f32) ![1, 1, 16, 1] ![1, 1, 1, 1] ![0, 0, 15, 0] ![0, 0, 0, 0] x init h hu (ix4 a b t d)
      = ∑ s : Fin 16, if s ≤ t then x (ix4 a b s d) else 0 := by
  have ha := a.isLt
  have hb := b.isLt
  have ht := t.isLt
  have hd := d.isLt
  show Ideal.hostReduceWindowAdd _ _ _ _ h x (init (Shape.Idx.first hu)) (ix4 a b t d) = _
  rw [hi]
  unfold Ideal.hostReduceWindowAdd Host.reduceWindow
  dsimp only
  rw [foldl_sum, zero_add]
  have key : ∀ n : Fin 16, ∀ m : Fin (⟨4, (![1, 1, 16, 1] : Fin 4 → ℕ)⟩ : Shape).numel, m.val = n.val →
      (if hin : ∀ c : Fin 4, (![0, 0, 15, 0] : Fin 4 → ℕ) c ≤ ((ix4 a b t d : (⟨4, ![A, B, 16, D]⟩ : Shape).Idx) c).val * (![1, 1, 1, 1] : Fin 4 → ℕ) c
            + ((⟨4, (![1, 1, 16, 1] : Fin 4 → ℕ)⟩ : Shape).rowMajor.symm m c).val
          ∧ ((ix4 a b t d : (⟨4, ![A, B, 16, D]⟩ : Shape).Idx) c).val * (![1, 1, 1, 1] : Fin 4 → ℕ) c
            + ((⟨4, (![1, 1, 16, 1] : Fin 4 → ℕ)⟩ : Shape).rowMajor.symm m c).val - (![0, 0, 15, 0] : Fin 4 → ℕ) c < (![A, B, 16, D] : Fin 4 → ℕ) c
        then x (fun c => ⟨_, (hin c).2⟩) else 0)
      = if hn : 15 ≤ t.val + n.val then x (ix4 a b ⟨t.val + n.val - 15, by omega⟩ d) else 0 := by
    intro n m hm
    have hs : (⟨4, (![1, 1, 16, 1] : Fin 4 → ℕ)⟩ : Shape).rowMajor.symm m = ix4 (0 : Fin 1) (0 : Fin 1) n (0 : Fin 1) := by
      rw [Equiv.symm_apply_eq]
      apply Fin.ext
      rw [hm, Shape.rowMajor_val_four]
      show n.val = ((0 * 1 + 0) * 16 + n.val) * 1 + 0
      omega
    have w0 : ((⟨4, (![1, 1, 16, 1] : Fin 4 → ℕ)⟩ : Shape).rowMajor.symm m 0).val = 0 := by rw [hs]; rfl
    have w1 : ((⟨4, (![1, 1, 16, 1] : Fin 4 → ℕ)⟩ : Shape).rowMajor.symm m 1).val = 0 := by rw [hs]; rfl
    have w2 : ((⟨4, (![1, 1, 16, 1] : Fin 4 → ℕ)⟩ : Shape).rowMajor.symm m 2).val = n.val := by rw [hs]
    have w3 : ((⟨4, (![1, 1, 16, 1] : Fin 4 → ℕ)⟩ : Shape).rowMajor.symm m 3).val = 0 := by rw [hs]; rfl
    by_cases hn : 15 ≤ t.val + n.val
    · rw [dif_pos hn, dif_pos (fun c => by
        match c with
        | ⟨0, _⟩ =>
          show 0 ≤ a.val * 1 + ((⟨4, (![1, 1, 16, 1] : Fin 4 → ℕ)⟩ : Shape).rowMajor.symm m 0).val ∧ a.val * 1 + ((⟨4, (![1, 1, 16, 1] : Fin 4 → ℕ)⟩ : Shape).rowMajor.symm m 0).val - 0 < A
          rw [w0]; omega
        | ⟨1, _⟩ =>
          show 0 ≤ b.val * 1 + ((⟨4, (![1, 1, 16, 1] : Fin 4 → ℕ)⟩ : Shape).rowMajor.symm m 1).val ∧ b.val * 1 + ((⟨4, (![1, 1, 16, 1] : Fin 4 → ℕ)⟩ : Shape).rowMajor.symm m 1).val - 0 < B
          rw [w1]; omega
        | ⟨2, _⟩ =>
          show 15 ≤ t.val * 1 + ((⟨4, (![1, 1, 16, 1] : Fin 4 → ℕ)⟩ : Shape).rowMajor.symm m 2).val ∧ t.val * 1 + ((⟨4, (![1, 1, 16, 1] : Fin 4 → ℕ)⟩ : Shape).rowMajor.symm m 2).val - 15 < 16
          rw [w2]; omega
        | ⟨3, _⟩ =>
          show 0 ≤ d.val * 1 + ((⟨4, (![1, 1, 16, 1] : Fin 4 → ℕ)⟩ : Shape).rowMajor.symm m 3).val ∧ d.val * 1 + ((⟨4, (![1, 1, 16, 1] : Fin 4 → ℕ)⟩ : Shape).rowMajor.symm m 3).val - 0 < D
          rw [w3]; omega)]
      refine congrArg x (funext fun c => Fin.ext ?_)
      match c with
      | ⟨0, _⟩ => show a.val * 1 + ((⟨4, (![1, 1, 16, 1] : Fin 4 → ℕ)⟩ : Shape).rowMajor.symm m 0).val - 0 = a.val; rw [w0]; omega
      | ⟨1, _⟩ => show b.val * 1 + ((⟨4, (![1, 1, 16, 1] : Fin 4 → ℕ)⟩ : Shape).rowMajor.symm m 1).val - 0 = b.val; rw [w1]; omega
      | ⟨2, _⟩ => show t.val * 1 + ((⟨4, (![1, 1, 16, 1] : Fin 4 → ℕ)⟩ : Shape).rowMajor.symm m 2).val - 15 = t.val + n.val - 15; rw [w2]; omega
      | ⟨3, _⟩ => show d.val * 1 + ((⟨4, (![1, 1, 16, 1] : Fin 4 → ℕ)⟩ : Shape).rowMajor.symm m 3).val - 0 = d.val; rw [w3]; omega
    · rw [dif_neg hn, dif_neg fun hin => hn (by
        have h2 := (hin 2).1
        change 15 ≤ t.val * 1 + ((⟨4, (![1, 1, 16, 1] : Fin 4 → ℕ)⟩ : Shape).rowMajor.symm m 2).val at h2
        rw [w2] at h2
        omega)]
  have hN : (⟨4, (![1, 1, 16, 1] : Fin 4 → ℕ)⟩ : Shape).numel = 16 := by decide
  have turn : ∀ t n : Fin 16, (n + (t + 1) ≤ t ↔ 15 ≤ t.val + n.val) ∧ (15 ≤ t.val + n.val → (n + (t + 1)).val = t.val + n.val - 15) := by
    decide +kernel
  refine (Fin.sum_univ_def _).symm.trans ?_
  refine (Fintype.sum_equiv (finCongr hN) _ (fun n : Fin 16 => if hn : 15 ≤ t.val + n.val then x (ix4 a b ⟨t.val + n.val - 15, by omega⟩ d) else 0)
    fun m => ?_).trans ?_
  · refine Eq.trans ?_ (key (finCongr hN m) m rfl)
    congr 1
  refine Fintype.sum_equiv (Equiv.addRight (t + 1)) _ _ fun n => ?_
  show _ = if n + (t + 1) ≤ t then x (ix4 a b (n + (t + 1)) d) else 0
  by_cases hn : 15 ≤ t.val + n.val
  · rw [dif_pos hn, if_pos ((turn t n).1.mpr hn)]
    exact congrArg (fun s => x (ix4 a b s d)) (Fin.ext ((turn t n).2 hn).symm)
  · rw [dif_neg hn, if_neg fun h => hn ((turn t n).1.mp h)]

/-- One is the number one. -/
theorem one_eq : one = ((1 : ℝ) : EReal) := by
  have e : one = (((8388608 : ℝ) * ((2 : ℝ) ^ 23)⁻¹ : ℝ) : EReal) := by
    rw [EReal.coe_mul]; simp [one, Ideal.ofBits, Ideal.ieee]
  rw [e]
  congr 1
  norm_num

/-- The logistic function takes real values. -/
theorem sig_real (x : EReal) : ∃ r : ℝ, sig x = (r : EReal) := by
  unfold sig
  rw [one_eq]
  generalize -x = y
  induction y with
  | bot =>
    refine ⟨1 * 1⁻¹, ?_⟩
    rw [Ideal.exp_bot, add_zero]
    unfold Ideal.div
    rw [if_neg (by simp), EReal.coe_mul, EReal.coe_inv]
  | coe r =>
    have hp := Real.exp_pos r
    refine ⟨1 * (1 + Real.exp r)⁻¹, ?_⟩
    rw [Ideal.exp_coe, ← EReal.coe_add]
    unfold Ideal.div
    rw [if_neg (fun e => by rw [EReal.coe_eq_zero] at e; linarith), EReal.coe_mul, EReal.coe_inv]
  | top =>
    refine ⟨0, ?_⟩
    rw [Ideal.exp_top, EReal.coe_add_top]
    unfold Ideal.div
    rw [if_neg (by simp), EReal.inv_top, mul_zero, EReal.coe_zero]

/-- Under a lower bound that is not plus infinity no gate's logarithm is. -/
theorem gf_ne_top (b x : EReal) (hb : b ≠ ⊤) : gf b x ≠ ⊤ := by
  obtain ⟨r, hr⟩ := sig_real x
  unfold gf
  rw [hr, one_eq]
  induction b with
  | bot => rw [EReal.bot_add]; exact bot_ne_top
  | coe a =>
    rw [← EReal.coe_sub, ← EReal.coe_mul, ← EReal.coe_add]
    show (if a + (1 - a) * r ≤ 0 then (⊥ : EReal) else ((Real.log (a + (1 - a) * r) : ℝ) : EReal)) ≠ ⊤
    split
    · exact bot_ne_top
    · exact EReal.coe_ne_top _
  | top => exact absurd rfl hb

end Cert.HgrnMath

end
-- ==== Proof.HgrnBlock.lean ====
/- What the body of the HGRN call computes of one block: one chunk of sixteen rows of one head, its sixteen unrolled steps
   each adding one row's contribution to the output. -/
module

public import proofs.«01_k».proof.Defs
public import proofs.«01_k».proof.Proof.Common
public import proofs.«01_k».proof.Proof.Soft
public import proofs.«01_k».proof.Proof.HgrnMath
public import proofs.«01_k».proof.Proof.Gen.KernelHgrnIdeal.Value
public import Idealize.ShloMosaic.Lib.VecWindow
public import Idealize.ShloMosaic.Lib.Pointwise.Contract

@[expose] public section

set_option maxRecDepth 16384

noncomputable section

namespace Cert.HgrnBlock

open Cert.KernelHgrnIdeal Cert.KernelHgrnIdeal.Gen
open Idealize.ShloMosaic hiding ix2 ix4
open Idealize.ShloMosaic.TcCoe Idealize.SL.Sem
open Idealize.ShloMosaic.Tactic
open Idealize.ShloMosaic.ValueIdx
open scoped BigOperators

/-- The offsets of a whole four-axis block are zero on every axis. -/
theorem off4 : (![0, 0, 0, 0] : Fin 4 → Nat) = fun _ => 0 :=
  funext fun a => by match a with | ⟨0, _⟩ => rfl | ⟨1, _⟩ => rfl | ⟨2, _⟩ => rfl | ⟨3, _⟩ => rfl

/-- The rows of the only chunk start at row zero. -/
theorem off_rows : k0_off1 = fun _ => 0 := k0_off1_eq.trans Common.off2

/-- The row numbers of a block. -/
abbrev rows : IVec S16x128 32 := iota .tc S16x128 32 [0] iota_S16x128_d0_w32

/-- Row `n` spread over a block's rows. -/
abbrev row (n : ℕ) (h : S16x128.Slices ![n, 0] S1x128) (x : FVec Ideal S16x128 .f32) : FVec Ideal S16x128 .f32 :=
  broadcastTo S16x128 (extractStridedSlice S1x128 ![n, 0] x h) broadcasts_S1x128_S16x128

/-- What row `n` of the chunk adds to the output. -/
def term (n : ℕ) (h : S16x128.Slices ![n, 0] S1x128) (q k g v : FVec Ideal S16x128 .f32) : FVec Ideal S16x128 .f32 :=
  mulf (broadcastTo S16x128 (shapeCast S16x1 (multiReduction .add [1] S16
      (mulf (mulf q (row n h k))
        (exp (select (cmpi .sge rows (broadcast S16x128 (BitVec.ofNat 32 n))) (subf g (row n h g)) (broadcast S16x128 (Scalar.ofBits .f32 0xFF800000#32)))))
      0x00000000#32 reduces_S16x128_S16 (.inl rfl) rfl) shapeCasts_S16_S16x1) broadcasts_S16x1_S16x128)
    (row n h v)

/-- The block's output from its queries, keys, running sums, values and starting state. -/
def out (q k g v : FVec Ideal S16x128 .f32) (S : FVec Ideal S128x128 .f32) : FVec Ideal S16x128 .f32 :=
  addf (addf (addf (addf (addf (addf (addf (addf (addf (addf (addf (addf (addf (addf (addf (addf (addf (k0_pay11 (F := Ideal)) (term 0 slices_S16x128_o0_0_S1x128 q k g v)) (term 1 slices_S16x128_o1_0_S1x128 q k g v)) (term 2 slices_S16x128_o2_0_S1x128 q k g v)) (term 3 slices_S16x128_o3_0_S1x128 q k g v)) (term 4 slices_S16x128_o4_0_S1x128 q k g v)) (term 5 slices_S16x128_o5_0_S1x128 q k g v)) (term 6 slices_S16x128_o6_0_S1x128 q k g v)) (term 7 slices_S16x128_o7_0_S1x128 q k g v)) (term 8 slices_S16x128_o8_0_S1x128 q k g v)) (term 9 slices_S16x128_o9_0_S1x128 q k g v)) (term 10 slices_S16x128_o10_0_S1x128 q k g v)) (term 11 slices_S16x128_o11_0_S1x128 q k g v)) (term 12 slices_S16x128_o12_0_S1x128 q k g v)) (term 13 slices_S16x128_o13_0_S1x128 q k g v)) (term 14 slices_S16x128_o14_0_S1x128 q k g v)) (term 15 slices_S16x128_o15_0_S1x128 q k g v))
    (matmul dot_S16x128_S128x128_S16x128_1_1_0_0_n_n none (truncf .bf16 (mulf q (exp g)) bitsLt_bf16_f32) (truncf .bf16 S bitsLt_bf16_f32)
      (constant S16x128 .f32 0x00000000#32))

/-- The running sums the body computes. -/
def gk (x1 : FVec Ideal S16x128 .f32) (x3 : FVec Ideal S1x128 .f32) : FVec Ideal S16x128 .f32 :=
  k0_pay10 (k0_pay4 x3) k0_pay5 (k0_pay7 x1) (k0_pay8 x3)

/-- The keys the body computes. -/
def kk (x1 : FVec Ideal S16x128 .f32) (x3 : FVec Ideal S1x128 .f32) : FVec Ideal S16x128 .f32 := k0_pay9 (k0_pay4 x3) x1

/-- The sixteen steps, put together. -/
theorem out_eq (x0 x1 x2 : FVec Ideal S16x128 .f32) (x3 : FVec Ideal S1x128 .f32) (S : FVec Ideal S128x128 .f32) :
    k0_pay28 rows (k0_pay6 x0) x2 (kk x1 x3) (gk x1 x3)
      (k0_pay25 rows (k0_pay6 x0) x2 (kk x1 x3) (gk x1 x3)
        (k0_pay22 rows (k0_pay6 x0) x2 (kk x1 x3) (gk x1 x3)
          (k0_pay20 rows (k0_pay6 x0) x2 (kk x1 x3) (gk x1 x3)
            (k0_pay16 rows (k0_pay6 x0) x2 (kk x1 x3) (gk x1 x3)
              (k0_pay14 rows (k0_pay6 x0) x2 (kk x1 x3) (gk x1 x3) k0_pay11
                (k0_pay12 (k0_pay4 x3) k0_pay5 rows (k0_pay6 x0) x1 (k0_pay7 x1) (k0_pay8 x3)) (k0_pay13 x2))
              (k0_pay15 rows (k0_pay6 x0) (kk x1 x3) (gk x1 x3)))
            (k0_pay17 rows) (k0_pay18 (gk x1 x3)) k0_pay19) k0_pay21)
        (k0_pay23 rows (k0_pay6 x0) (kk x1 x3) (gk x1 x3)) (k0_pay24 x2))
      (k0_pay26 rows (gk x1 x3)) (k0_pay27 (k0_pay6 x0) (kk x1 x3)) S
      = out (k0_pay6 x0) (kk x1 x3) (gk x1 x3) x2 S := rfl

/-- What the body leaves in the output's block. -/
theorem pieces5 (c : Dev nD) (i : grid0.Coords) (arg3 : Memref sig .tc .vmem S16x128 .f32) (harg3 : arg3.IsWhole) (arg4 : Memref sig .tc .vmem S16x128 .f32) (harg4 : arg4.IsWhole) (arg5 : Memref sig .tc .vmem S16x128 .f32) (harg5 : arg5.IsWhole) (arg6 : Memref sig .tc .vmem S1x128 .f32) (harg6 : arg6.IsWhole) (arg7 : Memref sig .tc .vmem S1x1x128x128 .f32) (harg7 : arg7.IsWhole) (arg8 : Memref sig .tc .vmem S16x128 .f32) (harg8 : arg8.IsWhole) (arg9 : Memref sig .tc .vmem S1x1x128x128 .f32) (harg9 : arg9.IsWhole) (arg10 : Memref sig .tc .vmem S128x128 .f32) (harg10 : arg10.IsWhole) (hc0 : cond0_0 i) (hc1 : cond0_1 i)
    (x0 x1 x2 : Vec Ideal S16x128 .f32) (x3 : Vec Ideal S1x128 .f32) (x4 : Vec Ideal S1x1x128x128 .f32) :
    out0_A_5 c i arg3 harg3 arg4 harg4 arg5 harg5 arg6 harg6 arg7 harg7 arg8 harg8 arg9 harg9 arg10 harg10 hc0 hc1 x0 x1 x2 x3 x4 = out (k0_pay6 x0) (kk x1 x3) (gk x1 x3) x2 (k0_pay3 x4) := by
  rw [← out_eq]
  unfold out0_A_5
  rw [View.read_writes_eq_canon _ _ _ (cover0_A_5 c i arg3 harg3 arg4 harg4 arg5 harg5 arg6 harg6 arg7 harg7 arg8 harg8 arg9 harg9 arg10 harg10 hc0 hc1 x0 x1 x2 x3 x4)]
  unfold kernelRun0_A
  dsimp only
  sl_unfold_words
  simp only [View.readAt_eq_ld, harg3.read_unread, harg4.read_unread, harg5.read_unread, harg6.read_unread, harg7.read_unread]
  simp only [View.ld_unit_zero (S := S1x128) Common.off2, View.ld_unit_zero (S := S1x1x128x128) off4, View.readCov_unit_zero (S := S128x128) _ Common.off2]
  refine (View.canon_unit_zero (S := S16x128) off_rows k0_off1_inb _).trans ?_
  have e : ∀ x : Vec Ideal S16x128 .f32, View.ld (Val := Elt Ideal) x (Rect.unit (s := S16x128) k0_off1 S16x128.size k0_off1_inb) = x :=
    fun x => View.ld_unit_zero (S := S16x128) off_rows k0_off1_inb x
  conv_rhs => rw [← e x0, ← e x1, ← e x2]
  rfl

/-- What the body leaves in the state's block. -/
theorem pieces6 (c : Dev nD) (i : grid0.Coords) (arg3 : Memref sig .tc .vmem S16x128 .f32) (harg3 : arg3.IsWhole) (arg4 : Memref sig .tc .vmem S16x128 .f32) (harg4 : arg4.IsWhole) (arg5 : Memref sig .tc .vmem S16x128 .f32) (harg5 : arg5.IsWhole) (arg6 : Memref sig .tc .vmem S1x128 .f32) (harg6 : arg6.IsWhole) (arg7 : Memref sig .tc .vmem S1x1x128x128 .f32) (harg7 : arg7.IsWhole) (arg8 : Memref sig .tc .vmem S16x128 .f32) (harg8 : arg8.IsWhole) (arg9 : Memref sig .tc .vmem S1x1x128x128 .f32) (harg9 : arg9.IsWhole) (arg10 : Memref sig .tc .vmem S128x128 .f32) (harg10 : arg10.IsWhole) (hc0 : cond0_0 i) (hc1 : cond0_1 i)
    (x0 x1 x2 : Vec Ideal S16x128 .f32) (x3 : Vec Ideal S1x128 .f32) (x4 : Vec Ideal S1x1x128x128 .f32) :
    out0_A_6 c i arg3 harg3 arg4 harg4 arg5 harg5 arg6 harg6 arg7 harg7 arg8 harg8 arg9 harg9 arg10 harg10 hc0 hc1 x0 x1 x2 x3 x4 = k0_pay2 (k0_pay1 (k0_pay29 x2 (kk x1 x3) (gk x1 x3) (k0_pay3 x4))) := by
  unfold out0_A_6
  rw [View.read_writes_eq_canon _ _ _ (cover0_A_6 c i arg3 harg3 arg4 harg4 arg5 harg5 arg6 harg6 arg7 harg7 arg8 harg8 arg9 harg9 arg10 harg10 hc0 hc1 x0 x1 x2 x3 x4)]
  unfold kernelRun0_A
  dsimp only
  sl_unfold_words
  simp only [View.readAt_eq_ld, harg3.read_unread, harg4.read_unread, harg5.read_unread, harg6.read_unread, harg7.read_unread]
  simp only [View.ld_unit_zero (S := S1x128) Common.off2, View.ld_unit_zero (S := S1x1x128x128) off4, View.readCov_unit_zero (S := S128x128) _ Common.off2]
  refine (View.canon_unit_zero (S := S1x1x128x128) off4 _ _).trans ?_
  have e : ∀ x : Vec Ideal S16x128 .f32, View.ld (Val := Elt Ideal) x (Rect.unit (s := S16x128) k0_off1 S16x128.size k0_off1_inb) = x :=
    fun x => View.ld_unit_zero (S := S16x128) off_rows k0_off1_inb x
  conv_rhs => rw [← e x1, ← e x2]
  exact congrArg k0_pay2 (View.readCov_full (s := S128x128) arg10.view _ _ _ _)

/-- Row `s` spread over a block's rows, at an entry. -/
theorem row_apply (s : Fin 16) (h : S16x128.Slices ![s.val, 0] S1x128) (x : FVec Ideal S16x128 .f32) (t : Fin 16) (j : Fin 128) :
    row s.val h x (ix2 t j) = x (ix2 s j) := by
  refine (broadcastTo_apply _ _ (ix2 t j) (ix2 (0 : Fin 1) j) (fun a => match a with
    | ⟨0, _⟩ => rfl
    | ⟨1, _⟩ => rfl)).trans ?_
  exact extractStridedSlice_apply _ x h (ix2 (0 : Fin 1) j) (ix2 s j) (fun a => match a with
    | ⟨0, _⟩ => rfl
    | ⟨1, _⟩ => (Nat.zero_add j.val).symm)

/-- The order of two row numbers, as words. -/
theorem row_le : ∀ t s : Fin 16, IntOp.cmpi .sge (BitVec.ofNat 32 t.val) (BitVec.ofNat 32 s.val) = if s ≤ t then 1#1 else 0#1 := by
  decide +kernel

/-- The rows from row `s` on. -/
theorem from_apply (s t : Fin 16) (j : Fin 128) :
    (cmpi .sge rows (broadcast S16x128 (BitVec.ofNat 32 s.val)) : IVec S16x128 1) (ix2 t j) = if s ≤ t then 1#1 else 0#1 := by
  refine Eq.trans ?_ (row_le t s)
  show IntOp.cmpi .sge (BitVec.ofNat 32 (0 * 16 + t.val)) (BitVec.ofNat 32 s.val) = _
  rw [Nat.zero_mul, Nat.zero_add]

/-- A choice by a condition's bit. -/
theorem pick (p : Prop) [Decidable p] (x y : EReal) : Scalar.select (if p then 1#1 else 0#1) x y = if p then x else y := by
  by_cases h : p
  · rw [if_pos h, if_pos h]; rfl
  · rw [if_neg h, if_neg h]; rfl

/-- The bit pattern of minus infinity. -/
theorem ninf : Ideal.ofBits .f32 0xFF800000#32 = (⊥ : EReal) := by simp [Ideal.ofBits, Ideal.ieee]

/-- What row `s` adds, at an entry. -/
theorem term_apply (s : Fin 16) (h : S16x128.Slices ![s.val, 0] S1x128) (q k g v : FVec Ideal S16x128 .f32) (t : Fin 16) (l : Fin 128) :
    term s.val h q k g v (ix2 t l)
      = HgrnMath.score (fun t j => q (ix2 t j)) (fun t j => k (ix2 t j)) (fun t j => g (ix2 t j)) t s * v (ix2 s l) := by
  refine congrArg₂ (· * · : EReal → EReal → EReal) ?_ (row_apply s h v t l)
  refine (Soft.spread (by decide) _ _ t l).trans ((Soft.stand _ _ t).trans ((Soft.rowsum _ _ _ _ t).trans ?_))
  refine Finset.sum_congr rfl fun j _ => congrArg₂ (· * · : EReal → EReal → EReal)
    (congrArg (q (ix2 t j) * · : EReal → EReal) (row_apply s h k t j)) (congrArg Ideal.exp ?_)
  show Scalar.select ((cmpi .sge rows (broadcast S16x128 (BitVec.ofNat 32 s.val)) : IVec S16x128 1) (ix2 t j))
    (g (ix2 t j) - row s.val h g (ix2 t j)) (Ideal.ofBits .f32 0xFF800000#32) = _
  rw [from_apply, pick, row_apply, ninf]

/-- The product with the state, at an entry. -/
theorem carry_apply (a : FVec Ideal S16x128 .bf16) (b : FVec Ideal S128x128 .bf16) (t : Fin 16) (l : Fin 128) :
    matmul dot_S16x128_S128x128_S16x128_1_1_0_0_n_n none a b (constant S16x128 .f32 0x00000000#32) (ix2 t l)
      = ∑ j : Fin 128, a (ix2 t j) * b (ix2 l j) := Soft.mt_zero none a b t l

/-- The product over the rows, at an entry. -/
theorem grown_apply (a b : FVec Ideal S16x128 .bf16) (l j : Fin 128) :
    matmul dot_S16x128_S16x128_S128x128_0_0_1_1_n_n none a b (constant S128x128 .f32 0x00000000#32) (ix2 l j)
      = ∑ t : Fin 16, a (ix2 t l) * b (ix2 t j) := by
  refine (Ideal.matmul_apply₁_of dot_S16x128_S16x128_S128x128_0_0_1_1_n_n (a := 0) rfl (K := 16) rfl a b _ (ix2 l j) (fun t => ix2 t l) (fun t => ix2 t j)
    (fun t => funext fun c => match c with | ⟨0, _⟩ => rfl | ⟨1, _⟩ => rfl)
    (fun t => funext fun c => match c with | ⟨0, _⟩ => rfl | ⟨1, _⟩ => rfl)).trans ?_
  show Ideal.ofBits .f32 0x00000000#32 + _ = _
  rw [Ideal.ofBits_zero_f32, zero_add]

/-- Sixteen numbers added one after the other to zero. -/
theorem sum16 (z : EReal) (hz : z = 0) (f : Fin 16 → EReal) : z + f 0 + f 1 + f 2 + f 3 + f 4 + f 5 + f 6 + f 7 + f 8 + f 9 + f 10 + f 11 + f 12 + f 13 + f 14 + f 15 = ∑ s, f s := by
  subst hz
  simp only [Fin.sum_univ_castSucc, Fin.sum_univ_zero]
  rfl

/-- Each of the sixteen rows is a row of the block. -/
theorem slices (s : Fin 16) : S16x128.Slices ![s.val, 0] S1x128 := by revert s; decide

/-- The block's output, entry by entry. -/
theorem out_apply (q k g v : FVec Ideal S16x128 .f32) (S : FVec Ideal S128x128 .f32) (t : Fin 16) (l : Fin 128) :
    out q k g v S (ix2 t l)
      = HgrnMath.outf (fun t j => q (ix2 t j)) (fun t j => k (ix2 t j)) (fun t j => g (ix2 t j)) (fun t j => v (ix2 t j)) (fun l j => S (ix2 l j)) t l := by
  refine congrArg₂ (· + · : EReal → EReal → EReal) ?_ (carry_apply _ _ t l)
  refine Eq.trans ?_ ((sum16 (k0_pay11 (F := Ideal) (ix2 t l)) Ideal.ofBits_zero_f32 fun s => term s.val (slices s) q k g v (ix2 t l)).trans
    (Finset.sum_congr rfl fun s _ => term_apply s (slices s) q k g v t l))
  rfl

/-- A query, entry by entry. -/
theorem q_apply (x : FVec Ideal S16x128 .f32) (t : Fin 16) (j : Fin 128) : k0_pay6 (F := Ideal) x (ix2 t j) = HgrnMath.qf (x (ix2 t j)) := by
  show x (ix2 t j) * Ideal.div HgrnMath.one (HgrnMath.one + Ideal.exp (Ideal.ofBits .f32 0x00000000#32 - x (ix2 t j))) * _ = _
  rw [Ideal.ofBits_zero_f32, zero_sub]
  rfl

/-- The bounds' row spread over the block. -/
theorem bound_apply (b : FVec Ideal S1x128 .f32) (t : Fin 16) (j : Fin 128) :
    broadcastTo S16x128 b broadcasts_S1x128_S16x128 (ix2 t j) = b (ix2 0 j) :=
  broadcastTo_apply _ _ (ix2 t j) (ix2 (0 : Fin 1) j) (fun a => match a with
    | ⟨0, _⟩ => rfl
    | ⟨1, _⟩ => rfl)

/-- A key, entry by entry. -/
theorem k_apply (x : FVec Ideal S16x128 .f32) (b : FVec Ideal S1x128 .f32) (t : Fin 16) (j : Fin 128) :
    kk x b (ix2 t j) = HgrnMath.kf (b (ix2 0 j)) (x (ix2 t j)) := by
  unfold kk k0_pay9 k0_pay4
  dsimp only
  rw [shapeCast_self]
  refine congrArg₂ (· * · : EReal → EReal → EReal) (bound_apply _ t j) ?_
  show Ideal.div HgrnMath.one (HgrnMath.one + Ideal.exp (Ideal.ofBits .f32 0x00000000#32 - (Ideal.ofBits .f32 0x00000000#32 - x (ix2 t j)))) = _
  rw [Ideal.ofBits_zero_f32, zero_sub, zero_sub]
  rfl

/-- The logarithms of the gates the body sums. -/
def lg (x : FVec Ideal S16x128 .f32) (b : FVec Ideal S1x128 .f32) : FVec Ideal S16x128 .f32 :=
  log (addf (broadcastTo S16x128 b broadcasts_S1x128_S16x128)
    (mulf (broadcastTo S16x128 (subf (broadcast S1x128 (Scalar.ofBits .f32 0x3F800000#32)) b) broadcasts_S1x128_S16x128) (k0_pay7 x)))

theorem lg_apply (x : FVec Ideal S16x128 .f32) (b : FVec Ideal S1x128 .f32) (t : Fin 16) (j : Fin 128) :
    lg x b (ix2 t j) = HgrnMath.gf (b (ix2 0 j)) (x (ix2 t j)) := by
  refine congrArg Ideal.log (congrArg₂ (· + · : EReal → EReal → EReal) (bound_apply b t j)
    (congrArg₂ (· * · : EReal → EReal → EReal) (bound_apply _ t j) ?_))
  show Ideal.div HgrnMath.one (HgrnMath.one + Ideal.exp (Ideal.ofBits .f32 0x00000000#32 - x (ix2 t j))) = _
  rw [Ideal.ofBits_zero_f32, zero_sub]
  rfl

/-- The triangle of ones. -/
theorem tri_apply (t s : Fin 16) : k0_pay5 (F := Ideal) (ix2 t s) = if s ≤ t then 1 else 0 := by
  have e : ∀ t s : Fin 16, IntOp.cmpi .sle (BitVec.ofNat 32 s.val) (BitVec.ofNat 32 t.val) = if s ≤ t then 1#1 else 0#1 := by decide +kernel
  show (((((IntOp.cmpi .sle (BitVec.ofNat 32 (0 * 16 + s.val)) (BitVec.ofNat 32 (0 * 16 + t.val))).setWidth 32).toInt : ℤ) : ℝ) : EReal) = _
  rw [Nat.zero_mul, Nat.zero_add, Nat.zero_add, e]
  by_cases h : s ≤ t
  · rw [if_pos h, if_pos h]
    norm_num
  · rw [if_neg h, if_neg h]
    norm_num

/-- A running sum, entry by entry, where no logarithm is plus infinity. -/
theorem g_apply (x : FVec Ideal S16x128 .f32) (b : FVec Ideal S1x128 .f32) (j : Fin 128)
    (h : ∀ s, HgrnMath.gf (b (ix2 0 j)) (x (ix2 s j)) ≠ ⊤) (t : Fin 16) :
    gk x b (ix2 t j) = HgrnMath.cum (fun s j => HgrnMath.gf (b (ix2 0 j)) (x (ix2 s j))) t j := by
  refine Eq.trans ?_ (HgrnMath.cum_split (fun s j => HgrnMath.gf (b (ix2 0 j)) (x (ix2 s j))) j h (fun s => k0_pay5 (F := Ideal) (ix2 t s)) t fun s => tri_apply t s)
  unfold gk k0_pay8 k0_pay4 k0_pay10
  dsimp only
  rw [shapeCast_self]
  refine congrArg₂ (· + · : EReal → EReal → EReal) ?_ (congrArg₂ (· + · : EReal → EReal → EReal) ?_ ?_)
  · refine (Common.mm_zero none _ _ t j).trans (Finset.sum_congr rfl fun s _ => congrArg₂ (· * · : EReal → EReal → EReal) rfl ?_)
    exact lg_apply x b s j
  · refine (Common.mm_zero none _ _ t j).trans (Finset.sum_congr rfl fun s _ => congrArg₂ (· * · : EReal → EReal → EReal) rfl ?_)
    exact congrArg (fun z : EReal => z - z) (lg_apply x b s j)
  · refine (Common.mm_zero none _ _ t j).trans (Finset.sum_congr rfl fun s _ => congrArg₂ (· * · : EReal → EReal → EReal) rfl ?_)
    exact congrArg (fun z : EReal => (z - z) - (z - z)) (lg_apply x b s j)

/-- The starting state's block, its two unit axes dropped. -/
theorem start_apply (x : FVec Ideal S1x1x128x128 .f32) (l j : Fin 128) : k0_pay3 (F := Ideal) x (ix2 l j) = x (ix4 0 0 l j) := by
  unfold k0_pay3
  rw [shapeCast_self]
  exact shapeCast_apply _ _ (ix2 l j) (ix4 (0 : Fin 1) (0 : Fin 1) l j) (by
    rw [Shape.rowMajor_val_two, Shape.rowMajor_val_four]
    show ((0 * 1 + 0) * 128 + l.val) * 128 + j.val = l.val * 128 + j.val
    omega)

/-- The final state's block, its two unit axes put back. -/
theorem end_apply (x : FVec Ideal S128x128 .f32) (l j : Fin 128) : k0_pay2 (F := Ideal) (k0_pay1 x) (ix4 0 0 l j) = x (ix2 l j) := by
  unfold k0_pay1 k0_pay2
  rw [shapeCast_self]
  exact shapeCast_apply _ _ (ix4 (0 : Fin 1) (0 : Fin 1) l j) (ix2 l j) (by
    rw [Shape.rowMajor_val_two, Shape.rowMajor_val_four]
    show l.val * 128 + j.val = ((0 * 1 + 0) * 128 + l.val) * 128 + j.val
    omega)

/-- The final state, entry by entry. -/
theorem state_apply (v k g : FVec Ideal S16x128 .f32) (S : FVec Ideal S128x128 .f32) (l j : Fin 128) :
    k0_pay29 v k g S (ix2 l j)
      = HgrnMath.statef (fun t j => k (ix2 t j)) (fun t j => g (ix2 t j)) (fun t j => v (ix2 t j)) (fun l j => S (ix2 l j)) l j := by
  have e : extractStridedSlice S1x128 ![15, 0] g slices_S16x128_o15_0_S1x128 (ix2 (0 : Fin 1) j) = g (ix2 15 j) :=
    extractStridedSlice_apply _ g _ (ix2 (0 : Fin 1) j) (ix2 (15 : Fin 16) j) (fun a => match a with
      | ⟨0, _⟩ => rfl
      | ⟨1, _⟩ => (Nat.zero_add j.val).symm)
  refine congrArg₂ (· + · : EReal → EReal → EReal) (congrArg (S (ix2 l j) * · : EReal → EReal) ?_)
    ((grown_apply _ _ l j).trans (Finset.sum_congr rfl fun t _ => congrArg (v (ix2 t l) * · : EReal → EReal)
      (congrArg (k (ix2 t j) * · : EReal → EReal) (congrArg Ideal.exp (congrArg (· - g (ix2 t j) : EReal → EReal) ?_)))))
  · refine (broadcastTo_apply _ _ (ix2 l j) (ix2 (0 : Fin 1) j) (fun a => match a with
      | ⟨0, _⟩ => rfl
      | ⟨1, _⟩ => rfl)).trans ?_
    exact congrArg Ideal.exp e
  · exact (bound_apply _ t j).trans e

end Cert.HgrnBlock

end
-- ==== Proof.HgrnRef.lean ====
/- The HGRN call's reference read at one entry: one chunk of sixteen rows for each sequence and head. -/
module

public import proofs.«01_k».proof.Proof.HgrnMath
public import proofs.«01_k».proof.Proof.Gen.ReferenceHgrnIdeal.Read

@[expose] public section

set_option maxRecDepth 16384

noncomputable section

namespace Cert.HgrnRef

open Cert.ReferenceHgrnIdeal Cert.ReferenceHgrnIdeal.Gen Cert.ReferenceHgrnIdeal.Read
open Idealize.ShloMosaic Idealize.ShloMosaic.ValueIdx
open scoped BigOperators

variable (x0 : S128x8192.Idx → EReal) (x1 : S2048.Idx → EReal) (x2 : S8x16x128x128.Idx → EReal)

/-- The row of the whole array that row `t` of sequence `b` is. -/
abbrev grow (b : Fin 8) (t : Fin 16) : Fin 128 := ⟨16 * b.val + t.val, by omega⟩

/-- The column of part `p` (queries, gates, values) that entry `j` of head `h` is. -/
abbrev gcol (p : Fin 4) (h : Fin 16) (j : Fin 128) : Fin 8192 := ⟨2048 * p.val + 128 * h.val + j.val, by omega⟩

/-- The column of a part that entry `j` of head `h` is. -/
abbrev hcol (h : Fin 16) (j : Fin 128) : Fin 2048 := ⟨128 * h.val + j.val, by omega⟩

/-- The queries, keys, gates' logarithms and values of sequence `b` and head `h`. -/
abbrev Q (b : Fin 8) (h : Fin 16) (t : Fin 16) (j : Fin 128) : EReal := HgrnMath.qf (x0 (ix2 (grow b t) (gcol 0 h j)))
abbrev K (b : Fin 8) (h : Fin 16) (t : Fin 16) (j : Fin 128) : EReal :=
  HgrnMath.kf (x1 (ix1 (hcol h j))) (x0 (ix2 (grow b t) (gcol 1 h j)))
abbrev L (b : Fin 8) (h : Fin 16) (t : Fin 16) (j : Fin 128) : EReal :=
  HgrnMath.gf (x1 (ix1 (hcol h j))) (x0 (ix2 (grow b t) (gcol 1 h j)))
abbrev V (b : Fin 8) (h : Fin 16) (t : Fin 16) (j : Fin 128) : EReal := x0 (ix2 (grow b t) (gcol 2 h j))

/-- The scaled queries before they are cut into heads. -/
theorem v6_at (r : Fin 128) (h : Fin 16) (j : Fin 128) : val_main_v6 (F := Ideal) x0 (ix2 r (hcol h j)) = HgrnMath.qf (x0 (ix2 r (gcol 0 h j))) := by
  have e : val_main_v0 (F := Ideal) x0 (ix2 r (hcol h j)) = x0 (ix2 r (gcol 0 h j)) := by
    rw [val_main_v0_apply]
    refine congrArg x0 (funext fun a => Fin.ext ?_)
    match a with
    | ⟨0, _⟩ => show _ = r.val; simp [idx_main_v0]
    | ⟨1, _⟩ => show _ = 2048 * 0 + 128 * h.val + j.val; simp [idx_main_v0]
  rw [val_main_v6_apply, val_main_v4_apply, val_main_call0_v5_apply, val_main_call0_v3_apply, val_main_call0_v1_apply, val_main_call0_v0_apply, e]
  rfl

/-- The gates' column. -/
theorem v1_at (r : Fin 128) (h : Fin 16) (j : Fin 128) : val_main_v1 (F := Ideal) x0 (ix2 r (hcol h j)) = x0 (ix2 r (gcol 1 h j)) := by
  rw [val_main_v1_apply]
  refine congrArg x0 (funext fun a => Fin.ext ?_)
  match a with
  | ⟨0, _⟩ => show _ = r.val; simp [idx_main_v1]
  | ⟨1, _⟩ => show _ = 2048 * 1 + 128 * h.val + j.val; simp [idx_main_v1]; omega

/-- The values' column. -/
theorem v2_at (r : Fin 128) (h : Fin 16) (j : Fin 128) : val_main_v2 (F := Ideal) x0 (ix2 r (hcol h j)) = x0 (ix2 r (gcol 2 h j)) := by
  rw [val_main_v2_apply]
  refine congrArg x0 (funext fun a => Fin.ext ?_)
  match a with
  | ⟨0, _⟩ => show _ = r.val; simp [idx_main_v2]
  | ⟨1, _⟩ => show _ = 2048 * 2 + 128 * h.val + j.val; simp [idx_main_v2]; omega

/-- The gates' logarithms before they are cut into heads. -/
theorem v21_at (r : Fin 128) (h : Fin 16) (j : Fin 128) :
    val_main_v21 (F := Ideal) x0 x1 (ix2 r (hcol h j)) = HgrnMath.gf (x1 (ix1 (hcol h j))) (x0 (ix2 r (gcol 1 h j))) := by
  rw [val_main_v21_apply, val_main_v20_apply, val_main_v19_apply, val_main_v18_apply, val_main_v17_apply, val_main_v16_apply, val_main_v15_apply,
    val_main_v8_apply, val_main_v14_apply, val_main_v12_apply, val_main_v10_apply, val_main_v9_apply, v1_at]
  have e : idx_main_v18 (idx_main_v19 (ix2 r (hcol h j))) = ix1 (hcol h j) := funext fun a => match a with | ⟨0, _⟩ => rfl
  have e' : idx_main_v15 (idx_main_v16 (ix2 r (hcol h j))) = ix1 (hcol h j) := funext fun a => match a with | ⟨0, _⟩ => rfl
  rw [e, e']
  rfl

/-- The keys before they are cut into heads. -/
theorem v33_at (r : Fin 128) (h : Fin 16) (j : Fin 128) :
    val_main_v33 (F := Ideal) x0 x1 (ix2 r (hcol h j)) = HgrnMath.kf (x1 (ix1 (hcol h j))) (x0 (ix2 r (gcol 1 h j))) := by
  rw [val_main_v33_apply, val_main_v32_apply, val_main_v31_apply, val_main_v23_apply, val_main_v30_apply, val_main_v28_apply, val_main_v26_apply,
    val_main_v25_apply, val_main_v24_apply, v1_at]
  have e : idx_main_v31 (idx_main_v32 (ix2 r (hcol h j))) = ix1 (hcol h j) := funext fun a => match a with | ⟨0, _⟩ => rfl
  rw [e]
  rfl

/-- An entry of sequence `b`, head `h`, of the array of rows. -/
theorem heads (b : Fin 8) (h t : Fin 16) (j : Fin 128) (i : S128x2048.Idx)
    (h0 : (i 0).val = (((b.val * 16 + t.val) * 16 + h.val) * 128 + j.val) / 2048)
    (h1 : (i 1).val = (((b.val * 16 + t.val) * 16 + h.val) * 128 + j.val) % 2048) : i = ix2 (grow b t) (hcol h j) := by
  refine funext fun a => Fin.ext ?_
  match a with
  | ⟨0, _⟩ => refine h0.trans ?_; show _ = 16 * b.val + t.val; omega
  | ⟨1, _⟩ => refine h1.trans ?_; show _ = 128 * h.val + j.val; omega

theorem v35_at (b : Fin 8) (h t : Fin 16) (j : Fin 128) : val_main_v35 (F := Ideal) x0 (ix4 b h t j) = Q x0 b h t j := by
  rw [val_main_v35_apply, val_main_v34_apply, heads b h t j (idx_main_v34 (idx_main_v35 (ix4 b h t j))) rfl rfl, v6_at]

theorem v37_at (b : Fin 8) (h t : Fin 16) (j : Fin 128) : val_main_v37 (F := Ideal) x0 x1 (ix4 b h t j) = K x0 x1 b h t j := by
  rw [val_main_v37_apply, val_main_v36_apply, heads b h t j (idx_main_v36 (idx_main_v37 (ix4 b h t j))) rfl rfl, v33_at]

theorem v39_at (b : Fin 8) (h t : Fin 16) (j : Fin 128) : val_main_v39 (F := Ideal) x0 (ix4 b h t j) = V x0 b h t j := by
  rw [val_main_v39_apply, val_main_v38_apply, heads b h t j (idx_main_v38 (idx_main_v39 (ix4 b h t j))) rfl rfl, v2_at]

theorem v41_at (b : Fin 8) (h t : Fin 16) (j : Fin 128) : val_main_v41 (F := Ideal) x0 x1 (ix4 b h t j) = L x0 x1 b h t j := by
  rw [val_main_v41_apply, val_main_v40_apply, heads b h t j (idx_main_v40 (idx_main_v41 (ix4 b h t j))) rfl rfl, v21_at]

/-- The running sums. -/
theorem v42_at (b : Fin 8) (h t : Fin 16) (j : Fin 128) :
    val_main_v42 (F := Ideal) x0 x1 (ix4 b h t j) = HgrnMath.cum (L x0 x1 b h) t j := by
  refine (HgrnMath.cumsum _ _ (fun i => Ideal.ofBits_zero_f32) _ h_S_ b h t j).trans ?_
  exact Finset.sum_congr rfl fun s _ => by rw [v41_at]

/-- The exponential of the decay from row `s` to row `t`. -/
theorem decay_at (b : Fin 8) (h t s : Fin 16) (j : Fin 128) :
    val_main_v52 (F := Ideal) x0 x1 (ix5 b h t s j)
      = Ideal.exp (if s ≤ t then HgrnMath.cum (L x0 x1 b h) t j - HgrnMath.cum (L x0 x1 b h) s j else ⊥) := by
  have en : Ideal.ofBits .f32 0xFF800000#32 = (⊥ : EReal) := by simp [Ideal.ofBits, Ideal.ieee]
  have em : ∀ t s : Fin 16, Scalar.select (IntOp.cmpi .sge (IntOp.addi (BitVec.ofNat 32 t.val) 0#32) (BitVec.ofNat 32 s.val)) 1#1 0#1
      = if s ≤ t then 1#1 else 0#1 := by decide +kernel
  have e50 : val_main_call3_v1 (F := Ideal) (ix5 b h t s j) = if s ≤ t then 1#1 else 0#1 := by
    rw [val_main_call3_v1_apply, val_main_v50_apply, ← em t s]
    rfl
  have et : idx_main_v43 (idx_main_v45 (ix5 b h t s j)) = ix4 b h t j :=
    funext fun a => match a with | ⟨0, _⟩ => rfl | ⟨1, _⟩ => rfl | ⟨2, _⟩ => rfl | ⟨3, _⟩ => rfl
  have es : idx_main_v44 (idx_main_v46 (ix5 b h t s j)) = ix4 b h s j :=
    funext fun a => match a with | ⟨0, _⟩ => rfl | ⟨1, _⟩ => rfl | ⟨2, _⟩ => rfl | ⟨3, _⟩ => rfl
  rw [val_main_v52_apply, val_main_v51_apply, e50, val_main_v47_apply, val_main_v45_apply, val_main_v43_apply, val_main_v46_apply, val_main_v44_apply,
    et, es, v42_at, v42_at]
  refine congrArg Ideal.exp ?_
  by_cases hst : s ≤ t
  · rw [if_pos hst, if_pos hst]; rfl
  · rw [if_neg hst, if_neg hst]; exact en

/-- What row `s` weighs in row `t`. -/
theorem score_at (b : Fin 8) (h t s : Fin 16) :
    val_main_v59 (F := Ideal) x0 x1 (ix4 b h t s)
      = HgrnMath.score (Q x0 b h) (K x0 x1 b h) (HgrnMath.cum (L x0 x1 b h)) t s := by
  rw [val_main_v59_apply]
  have hz : val_main_cst_7 (F := Ideal) (Shape.Idx.first h_S_) = 0 := Ideal.ofBits_zero_f32
  rw [hz, zero_add]
  refine Finset.sum_congr rfl fun j _ => ?_
  have ei : idx_main_v59 (ix4 b h t s) j = ix5 b h t s j :=
    funext fun a => match a with | ⟨0, _⟩ => rfl | ⟨1, _⟩ => rfl | ⟨2, _⟩ => rfl | ⟨3, _⟩ => rfl | ⟨4, _⟩ => rfl
  have et : idx_main_v53 (idx_main_v55 (ix5 b h t s j)) = ix4 b h t j :=
    funext fun a => match a with | ⟨0, _⟩ => rfl | ⟨1, _⟩ => rfl | ⟨2, _⟩ => rfl | ⟨3, _⟩ => rfl
  have es : idx_main_v54 (idx_main_v56 (ix5 b h t s j)) = ix4 b h s j :=
    funext fun a => match a with | ⟨0, _⟩ => rfl | ⟨1, _⟩ => rfl | ⟨2, _⟩ => rfl | ⟨3, _⟩ => rfl
  rw [ei, val_main_v58_apply, val_main_v57_apply, decay_at, val_main_v55_apply, val_main_v53_apply, val_main_v56_apply, val_main_v54_apply, et, es, v35_at, v37_at]
  rfl

/-- The output at row `t` of sequence `b` and entry `l` of head `h`. -/
theorem out_at (b : Fin 8) (h t : Fin 16) (l : Fin 128) :
    val_main_v78 (F := Ideal) x0 x1 x2 (ix2 (grow b t) (hcol h l))
      = HgrnMath.outf (Q x0 b h) (K x0 x1 b h) (HgrnMath.cum (L x0 x1 b h)) (V x0 b h) (fun l j => x2 (ix4 b h j l)) t l := by
  have ei : idx_main_v77 (idx_main_v78 (ix2 (grow b t) (hcol h l))) = ix4 b h t l := by
    refine funext fun a => Fin.ext ?_
    match a with
    | ⟨0, _⟩ => show ((16 * b.val + t.val) * 2048 + (128 * h.val + l.val)) / 32768 = b.val; omega
    | ⟨1, _⟩ => show ((16 * b.val + t.val) * 2048 + (128 * h.val + l.val)) / 128 % 16 = h.val; omega
    | ⟨2, _⟩ => show ((16 * b.val + t.val) * 2048 + (128 * h.val + l.val)) / 2048 % 16 = t.val; omega
    | ⟨3, _⟩ => show ((16 * b.val + t.val) * 2048 + (128 * h.val + l.val)) % 128 = l.val; omega
  rw [val_main_v78_apply, val_main_v77_apply, ei, val_main_v64_apply, val_main_v60_apply, val_main_v63_apply]
  refine congrArg₂ (· + · : EReal → EReal → EReal) (Finset.sum_congr rfl fun s _ => ?_) (Finset.sum_congr rfl fun j _ => ?_)
  · have e1 : lidx_main_v60 (ix4 b h t l) s = ix4 b h t s :=
      funext fun a => match a with | ⟨0, _⟩ => rfl | ⟨1, _⟩ => rfl | ⟨2, _⟩ => rfl | ⟨3, _⟩ => rfl
    have e2 : ridx_main_v60 (ix4 b h t l) s = ix4 b h s l :=
      funext fun a => match a with | ⟨0, _⟩ => rfl | ⟨1, _⟩ => rfl | ⟨2, _⟩ => rfl | ⟨3, _⟩ => rfl
    rw [e1, e2, score_at, v39_at]
  · have e1 : lidx_main_v63 (ix4 b h t l) j = ix4 b h t j :=
      funext fun a => match a with | ⟨0, _⟩ => rfl | ⟨1, _⟩ => rfl | ⟨2, _⟩ => rfl | ⟨3, _⟩ => rfl
    have e2 : ridx_main_v63 (ix4 b h t l) j = ix4 b h j l :=
      funext fun a => match a with | ⟨0, _⟩ => rfl | ⟨1, _⟩ => rfl | ⟨2, _⟩ => rfl | ⟨3, _⟩ => rfl
    rw [e1, e2, val_main_v62_apply, val_main_v61_apply, v35_at, v42_at]
    rfl

/-- The state sequence `b` leaves in head `h`. -/
theorem state_at (b : Fin 8) (h : Fin 16) (l j : Fin 128) :
    val_main_v79 (F := Ideal) x0 x1 x2 (ix4 b h l j)
      = HgrnMath.statef (K x0 x1 b h) (HgrnMath.cum (L x0 x1 b h)) (V x0 b h) (fun l j => x2 (ix4 b h j l)) l j := by
  have ei : idx_main_v79 (ix4 b h l j) = ix4 b h j l :=
    funext fun a => match a with | ⟨0, _⟩ => rfl | ⟨1, _⟩ => rfl | ⟨2, _⟩ => rfl | ⟨3, _⟩ => rfl
  have eg : idx_main_v65 (idx_main_v66 (idx_main_v67 (idx_main_v69 (ix4 b h j l)))) = ix4 b h 15 j := by
    refine funext fun a => Fin.ext ?_
    match a with
    | ⟨0, _⟩ => show ((b.val * 16 + h.val) * 128 + j.val) / 2048 = b.val; omega
    | ⟨1, _⟩ => show ((b.val * 16 + h.val) * 128 + j.val) / 128 % 16 = h.val; omega
    | ⟨2, _⟩ => rfl
    | ⟨3, _⟩ => show ((b.val * 16 + h.val) * 128 + j.val) % 128 = j.val; omega
  rw [val_main_v79_apply, ei, val_main_v76_apply, val_main_v70_apply, val_main_v69_apply, val_main_v68_apply, val_main_v67_apply, val_main_v66_apply,
    val_main_v65_apply, eg, v42_at, val_main_v75_apply]
  refine congrArg₂ (· + · : EReal → EReal → EReal) (mul_comm _ _) (Finset.sum_congr rfl fun t _ => ?_)
  have e1 : lidx_main_v75 (ix4 b h j l) t = ix4 b h t j :=
    funext fun a => match a with | ⟨0, _⟩ => rfl | ⟨1, _⟩ => rfl | ⟨2, _⟩ => rfl | ⟨3, _⟩ => rfl
  have e2 : ridx_main_v75 (ix4 b h j l) t = ix4 b h t l :=
    funext fun a => match a with | ⟨0, _⟩ => rfl | ⟨1, _⟩ => rfl | ⟨2, _⟩ => rfl | ⟨3, _⟩ => rfl
  have eh : idx_main_v65 (idx_main_v71 (ix4 b h t j)) = ix4 b h 15 j :=
    funext fun a => match a with | ⟨0, _⟩ => rfl | ⟨1, _⟩ => rfl | ⟨2, _⟩ => rfl | ⟨3, _⟩ => rfl
  rw [e1, e2, v39_at, val_main_v74_apply, v37_at, val_main_v73_apply, val_main_v72_apply, val_main_v71_apply, val_main_v65_apply, eh, v42_at, v42_at]
  exact mul_comm _ _

end Cert.HgrnRef

end
-- ==== Proof.Hgrn.lean ====
/- The HGRN call: the output and the state after the run are the reference's, one chunk of sixteen rows for each sequence and
   head. -/
module

public import proofs.«01_k».proof.Defs
public import proofs.«01_k».proof.Proof.Common
public import proofs.«01_k».proof.Proof.HgrnBlock
public import proofs.«01_k».proof.Proof.HgrnRef
public import proofs.«01_k».proof.Proof.Gen.Pre_bound_finite

@[expose] public section

set_option maxRecDepth 16384

noncomputable section

namespace Cert.HgrnValue

open Cert.KernelHgrnIdeal Cert.KernelHgrnIdeal.Gen
open Idealize.ShloMosaic hiding ix1 ix2 ix4
open Idealize.ShloMosaic.TcCoe Idealize.SL.Sem
open Idealize.ShloMosaic.Pipeline (Dat)
open Idealize.ShloMosaic.ValueIdx
open Cert.HgrnRef (grow gcol hcol Q K L V)
open scoped BigOperators

variable (m : (ℓ : Loc nD τ sig) → Buf (Elt Ideal) ℓ) (ρ : Dev nD → PrngReg)

/-- The projection, the lower bounds and the state the call is given. -/
abbrev A0 (c : Dev nD) : S128x8192.Idx → EReal := m ((c : Thread nD τ).loc main_arg0)
abbrev A1 (c : Dev nD) : S2048.Idx → EReal := m ((c : Thread nD τ).loc main_arg1)
abbrev A2 (c : Dev nD) : S8x16x128x128.Idx → EReal := m ((c : Thread nD τ).loc main_arg2)

/-- The state as the region finds it: each head's matrix transposed. -/
theorem V_state (c : Dev nD) : Gen.V m c main_v0
    = transpose S8x16x128x128 [0, 1, 3, 2] (A2 m c) transposes_S8x16x128x128_S8x16x128x128_0_1_3_2 := by
  show StableHlo.after (List.flatten [hostOps0]) (fun b => m (c, b)) main_v0 = _
  simp only [List.flatten_cons, List.flatten_nil, List.append_nil, List.cons_append, List.nil_append]
  after_results

/-- The lower bounds as the region finds them: one row. -/
theorem V_bound (c : Dev nD) : Gen.V m c main_v1 = shapeCast S1x2048 (A1 m c) shapeCasts_S2048_S1x2048 := by
  show StableHlo.after (List.flatten [hostOps0]) (fun b => m (c, b)) main_v1 = _
  simp only [List.flatten_cons, List.flatten_nil, List.append_nil, List.cons_append, List.nil_append]
  after_results
  rfl

/-- Point `t` works on sequence `t / 16` and head `t % 16`. -/
theorem idx_facts : ∀ t : Fin cfg0.N,
    win0_0.index t (0 : Fin 2) = t.val / 16 ∧ win0_0.index t (1 : Fin 2) = t.val % 16
    ∧ win0_1.index t (0 : Fin 2) = t.val / 16 ∧ win0_1.index t (1 : Fin 2) = 16 + t.val % 16
    ∧ win0_2.index t (0 : Fin 2) = t.val / 16 ∧ win0_2.index t (1 : Fin 2) = 32 + t.val % 16
    ∧ win0_3.index t (0 : Fin 2) = 0 ∧ win0_3.index t (1 : Fin 2) = t.val % 16
    ∧ win0_4.index t (0 : Fin 4) = t.val / 16 ∧ win0_4.index t (1 : Fin 4) = t.val % 16
    ∧ win0_4.index t (2 : Fin 4) = 0 ∧ win0_4.index t (3 : Fin 4) = 0
    ∧ win0_5.index t (0 : Fin 2) = t.val / 16 ∧ win0_5.index t (1 : Fin 2) = t.val % 16
    ∧ win0_6.index t (0 : Fin 4) = t.val / 16 ∧ win0_6.index t (1 : Fin 4) = t.val % 16
    ∧ win0_6.index t (2 : Fin 4) = 0 ∧ win0_6.index t (3 : Fin 4) = 0 :=
  (by decide +kernel : ∀ t : Fin grid0.N, _)

/-- The sequence of point `t`. -/
def seq (t : Fin cfg0.N) : Fin 8 := ⟨t.val / 16, by have := t.isLt; have : cfg0.N = 128 := N_0; omega⟩

/-- The head of point `t`. -/
def head (t : Fin cfg0.N) : Fin 16 := ⟨t.val % 16, by omega⟩

/-- The queries at point `t`. -/
theorem blk_q (c : Dev nD) (t : Fin cfg0.N) (r : Fin 16) (l : Fin 128) :
    iblk m c 0 t (ix2 r l) = A0 m c (ix2 (grow (seq t) r) (gcol 0 (head t) l)) := by
  unfold iblk
  rw [View.read_apply]
  show Gen.V m c main_arg0 _ = _
  rw [V_main_arg0]
  have e0 : win0_0.index t (0 : Fin 2) = t.val / 16 := by have := idx_facts t; tauto
  have e1 : win0_0.index t (1 : Fin 2) = t.val % 16 := by have := idx_facts t; tauto
  refine congrArg _ (funext fun a => Fin.ext ?_)
  match a with
  | ⟨0, _⟩ => show win0_0.index t (0 : Fin 2) * 16 + 1 * r.val = 16 * (t.val / 16) + r.val; rw [e0]; omega
  | ⟨1, _⟩ => show win0_0.index t (1 : Fin 2) * 128 + 1 * l.val = 2048 * 0 + 128 * (t.val % 16) + l.val; rw [e1]; omega

/-- The gates at point `t`. -/
theorem blk_f (c : Dev nD) (t : Fin cfg0.N) (r : Fin 16) (l : Fin 128) :
    iblk m c 1 t (ix2 r l) = A0 m c (ix2 (grow (seq t) r) (gcol 1 (head t) l)) := by
  unfold iblk
  rw [View.read_apply]
  show Gen.V m c main_arg0 _ = _
  rw [V_main_arg0]
  have e0 : win0_1.index t (0 : Fin 2) = t.val / 16 := by have := idx_facts t; tauto
  have e1 : win0_1.index t (1 : Fin 2) = 16 + t.val % 16 := by have := idx_facts t; tauto
  refine congrArg _ (funext fun a => Fin.ext ?_)
  match a with
  | ⟨0, _⟩ => show win0_1.index t (0 : Fin 2) * 16 + 1 * r.val = 16 * (t.val / 16) + r.val; rw [e0]; omega
  | ⟨1, _⟩ => show win0_1.index t (1 : Fin 2) * 128 + 1 * l.val = 2048 * 1 + 128 * (t.val % 16) + l.val; rw [e1]; omega

/-- The values at point `t`. -/
theorem blk_v (c : Dev nD) (t : Fin cfg0.N) (r : Fin 16) (l : Fin 128) :
    iblk m c 2 t (ix2 r l) = A0 m c (ix2 (grow (seq t) r) (gcol 2 (head t) l)) := by
  unfold iblk
  rw [View.read_apply]
  show Gen.V m c main_arg0 _ = _
  rw [V_main_arg0]
  have e0 : win0_2.index t (0 : Fin 2) = t.val / 16 := by have := idx_facts t; tauto
  have e1 : win0_2.index t (1 : Fin 2) = 32 + t.val % 16 := by have := idx_facts t; tauto
  refine congrArg _ (funext fun a => Fin.ext ?_)
  match a with
  | ⟨0, _⟩ => show win0_2.index t (0 : Fin 2) * 16 + 1 * r.val = 16 * (t.val / 16) + r.val; rw [e0]; omega
  | ⟨1, _⟩ => show win0_2.index t (1 : Fin 2) * 128 + 1 * l.val = 2048 * 2 + 128 * (t.val % 16) + l.val; rw [e1]; omega

/-- The lower bounds at point `t`. -/
theorem blk_b (c : Dev nD) (t : Fin cfg0.N) (l : Fin 128) :
    iblk m c 3 t (ix2 0 l) = A1 m c (ix1 (hcol (head t) l)) := by
  unfold iblk
  rw [View.read_apply]
  show Gen.V m c main_v1 _ = _
  rw [V_bound]
  have e0 : win0_3.index t (0 : Fin 2) = 0 := by have := idx_facts t; tauto
  have e1 : win0_3.index t (1 : Fin 2) = t.val % 16 := by have := idx_facts t; tauto
  refine (congrArg _ (?_ : _ = (ix2 0 (hcol (head t) l) : S1x2048.Idx))).trans
    (shapeCast_apply _ _ (ix2 0 (hcol (head t) l)) (ix1 (hcol (head t) l)) (by
      rw [Shape.rowMajor_val_one, Shape.rowMajor_val_two]
      show 128 * (t.val % 16) + l.val = 0 * 2048 + (128 * (t.val % 16) + l.val); omega))
  refine funext fun a => Fin.ext ?_
  match a with
  | ⟨0, _⟩ => show win0_3.index t (0 : Fin 2) * 1 + 1 * 0 = 0; rw [e0]
  | ⟨1, _⟩ => show win0_3.index t (1 : Fin 2) * 128 + 1 * l.val = 128 * (t.val % 16) + l.val; rw [e1]; omega

/-- The state at point `t`. -/
theorem blk_s (c : Dev nD) (t : Fin cfg0.N) (l j : Fin 128) :
    iblk m c 4 t (ix4 0 0 l j) = A2 m c (ix4 (seq t) (head t) j l) := by
  unfold iblk
  rw [View.read_apply]
  show Gen.V m c main_v0 _ = _
  rw [V_state]
  have e0 : win0_4.index t (0 : Fin 4) = t.val / 16 := by have := idx_facts t; tauto
  have e1 : win0_4.index t (1 : Fin 4) = t.val % 16 := by have := idx_facts t; tauto
  have e2 : win0_4.index t (2 : Fin 4) = 0 := by have := idx_facts t; tauto
  have e3 : win0_4.index t (3 : Fin 4) = 0 := by have := idx_facts t; tauto
  refine transpose_apply [0, 1, 3, 2] _ _ _ (ix4 (seq t) (head t) j l) fun a => ?_
  match a with
  | ⟨0, _⟩ => show t.val / 16 = win0_4.index t (0 : Fin 4) * 1 + 1 * 0; rw [e0]; omega
  | ⟨1, _⟩ => show t.val % 16 = win0_4.index t (1 : Fin 4) * 1 + 1 * 0; rw [e1]; omega
  | ⟨2, _⟩ => show l.val = win0_4.index t (2 : Fin 4) * 128 + 1 * l.val; rw [e2]; omega
  | ⟨3, _⟩ => show j.val = win0_4.index t (3 : Fin 4) * 128 + 1 * j.val; rw [e3]; omega

/-- No lower bound is plus infinity. -/
theorem bound_number (hpre : Cert.Pre_KernelHgrnIdeal_bound_finite m) (c : Dev nD) (i : S2048.Idx) :
    (A1 m c i : EReal) ≠ (⊤ : EReal) := by
  have h : FloatOps.cmpf (F := Ideal) (φ := .f32) .olt (A1 m c i) (Ideal.ofBits .f32 0x7F800000#32) = 1#1 := congrFun (hpre c) i
  have ht : Ideal.ofBits .f32 0x7F800000#32 = ⊤ := by simp [Ideal.ofBits, Ideal.ieee]
  rw [ht] at h
  intro e
  rw [e] at h
  simp [FloatOps.cmpf, Ideal.cmp] at h

/-- The block's queries, keys, running sums and values are the reference's. -/
theorem rows_q (c : Dev nD) (t : Fin cfg0.N) (r : Fin 16) (j : Fin 128) :
    k0_pay6 (F := Ideal) (iblk m c 0 t) (ix2 r j) = Q (A0 m c) (seq t) (head t) r j :=
  (HgrnBlock.q_apply _ r j).trans (congrArg HgrnMath.qf (blk_q m c t r j))

theorem rows_k (c : Dev nD) (t : Fin cfg0.N) (r : Fin 16) (j : Fin 128) :
    HgrnBlock.kk (iblk m c 1 t) (iblk m c 3 t) (ix2 r j) = K (A0 m c) (A1 m c) (seq t) (head t) r j :=
  (HgrnBlock.k_apply _ _ r j).trans (congrArg₂ HgrnMath.kf (blk_b m c t j) (blk_f m c t r j))

theorem rows_l (c : Dev nD) (t : Fin cfg0.N) (r : Fin 16) (j : Fin 128) :
    HgrnMath.gf (iblk m c 3 t (ix2 0 j)) (iblk m c 1 t (ix2 r j)) = L (A0 m c) (A1 m c) (seq t) (head t) r j :=
  congrArg₂ HgrnMath.gf (blk_b m c t j) (blk_f m c t r j)

theorem rows_g (hpre : Cert.Pre_KernelHgrnIdeal_bound_finite m) (c : Dev nD) (t : Fin cfg0.N) (r : Fin 16) (j : Fin 128) :
    HgrnBlock.gk (iblk m c 1 t) (iblk m c 3 t) (ix2 r j) = HgrnMath.cum (L (A0 m c) (A1 m c) (seq t) (head t)) r j := by
  refine (HgrnBlock.g_apply _ _ j (fun s => ?_) r).trans (Finset.sum_congr rfl fun s _ => ?_)
  · rw [rows_l]
    exact HgrnMath.gf_ne_top _ _ (bound_number m hpre c _)
  · by_cases h : s ≤ r
    · rw [if_pos h, if_pos h]; exact rows_l m c t s j
    · rw [if_neg h, if_neg h]

theorem rows_s (c : Dev nD) (t : Fin cfg0.N) (l j : Fin 128) :
    k0_pay3 (F := Ideal) (iblk m c 4 t) (ix2 l j) = A2 m c (ix4 (seq t) (head t) j l) :=
  (HgrnBlock.start_apply _ l j).trans (blk_s m c t l j)

/-- What the two arrays hold after the run: the reference's own values of the arguments. -/
abbrev G5 (c : Dev nD) : S128x2048.Idx → EReal :=
  Cert.ReferenceHgrnIdeal.Read.val_main_v78 (F := Ideal) (A0 m c) (A1 m c) (A2 m c)
abbrev G6 (c : Dev nD) : S8x16x128x128.Idx → EReal :=
  Cert.ReferenceHgrnIdeal.Read.val_main_v79 (F := Ideal) (A0 m c) (A1 m c) (A2 m c)

/-- Where an entry of point `t`'s block lies in the output. -/
theorem emb5 (t : Fin cfg0.N) (r : Fin 16) (l : Fin 128) :
    ((cfg0.win 5).blk t).view.emb (ix2 r l) = ix2 (grow (seq t) r) (hcol (head t) l) := by
  have e0 : win0_5.index t (0 : Fin 2) = t.val / 16 := by have := idx_facts t; tauto
  have e1 : win0_5.index t (1 : Fin 2) = t.val % 16 := by have := idx_facts t; tauto
  funext a
  refine Fin.ext ?_
  match a with
  | ⟨0, _⟩ => show win0_5.index t (0 : Fin 2) * 16 + 1 * r.val = 16 * (t.val / 16) + r.val; rw [e0]; omega
  | ⟨1, _⟩ => show win0_5.index t (1 : Fin 2) * 128 + 1 * l.val = 128 * (t.val % 16) + l.val; rw [e1]; omega

/-- Where an entry of point `t`'s block lies in the state. -/
theorem emb6 (t : Fin cfg0.N) (l j : Fin 128) :
    ((cfg0.win 6).blk t).view.emb (ix4 0 0 l j) = ix4 (seq t) (head t) l j := by
  have e0 : win0_6.index t (0 : Fin 4) = t.val / 16 := by have := idx_facts t; tauto
  have e1 : win0_6.index t (1 : Fin 4) = t.val % 16 := by have := idx_facts t; tauto
  have e2 : win0_6.index t (2 : Fin 4) = 0 := by have := idx_facts t; tauto
  have e3 : win0_6.index t (3 : Fin 4) = 0 := by have := idx_facts t; tauto
  funext a
  refine Fin.ext ?_
  match a with
  | ⟨0, _⟩ => show win0_6.index t (0 : Fin 4) * 1 + 1 * 0 = t.val / 16; rw [e0]; omega
  | ⟨1, _⟩ => show win0_6.index t (1 : Fin 4) * 1 + 1 * 0 = t.val % 16; rw [e1]; omega
  | ⟨2, _⟩ => show win0_6.index t (2 : Fin 4) * 128 + 1 * l.val = l.val; rw [e2]; omega
  | ⟨3, _⟩ => show win0_6.index t (3 : Fin 4) * 128 + 1 * j.val = j.val; rw [e3]; omega

/-- What point `t` writes back of the output is its block of that array. -/
theorem flushed5_eq (hpre : Cert.Pre_KernelHgrnIdeal_bound_finite m) (c : Dev nD) (t : Fin cfg0.N) (_ : (cfg0.win 5).flush t = true) :
    (dats m 0 c).flushed 5 t = ((cfg0.win 5).blk t).view.read (Elt Ideal) (G5 m c) := by
  rw [Value.flushed5_A, HgrnBlock.pieces5]
  funext y
  obtain ⟨r, l, rfl⟩ := Common.exists_ix2 (M := 16) (N := 128) y
  rw [View.read_apply, emb5 t r l]
  refine ((HgrnBlock.out_apply _ _ _ _ _ r l).trans ?_).trans (HgrnRef.out_at _ _ _ (seq t) (head t) r l).symm
  rw [funext fun r => funext fun j => rows_q m c t r j, funext fun r => funext fun j => rows_k m c t r j,
    funext fun r => funext fun j => rows_g m hpre c t r j, funext fun l => funext fun j => rows_s m c t l j,
    funext fun r => funext fun l => blk_v m c t r l]

/-- What point `t` writes back of the state is its block of that array. -/
theorem flushed6_eq (hpre : Cert.Pre_KernelHgrnIdeal_bound_finite m) (c : Dev nD) (t : Fin cfg0.N) (_ : (cfg0.win 6).flush t = true) :
    (dats m 0 c).flushed 6 t = ((cfg0.win 6).blk t).view.read (Elt Ideal) (G6 m c) := by
  rw [Value.flushed6_A, HgrnBlock.pieces6]
  funext y
  obtain ⟨l, j, rfl⟩ : ∃ (l j : Fin 128), y = (ix4 0 0 l j : S1x1x128x128.Idx) := by
    refine ⟨y 2, y 3, funext fun a => Fin.ext ?_⟩
    match a with
    | ⟨0, _⟩ => have h : (y 0).val < 1 := (y 0).isLt; show (y 0).val = 0; omega
    | ⟨1, _⟩ => have h : (y 1).val < 1 := (y 1).isLt; show (y 1).val = 0; omega
    | ⟨2, _⟩ => rfl
    | ⟨3, _⟩ => rfl
  rw [View.read_apply, emb6 t l j]
  refine (((HgrnBlock.end_apply _ l j).trans (HgrnBlock.state_apply _ _ _ _ l j)).trans ?_).trans
    (HgrnRef.state_at _ _ _ (seq t) (head t) l j).symm
  rw [funext fun r => funext fun j => rows_k m c t r j,
    funext fun r => funext fun j => rows_g m hpre c t r j, funext fun l => funext fun j => rows_s m c t l j,
    funext fun r => funext fun l => blk_v m c t r l]

/-- Every entry of the output lies in the block some point writes back. -/
theorem covered5 (i : S128x2048.Idx) : ∃ t : Fin cfg0.N, (cfg0.win 5).flush t = true ∧ i ∈ ((cfg0.win 5).blk t).view.set := by
  have h0 : (i 0).val < 128 := (i 0).isLt
  have h1 : (i 1).val < 2048 := (i 1).isLt
  have hN : cfg0.N = 128 := N_0
  obtain ⟨t, ht⟩ : ∃ t : Fin cfg0.N, t.val = (i 0).val / 16 * 16 + (i 1).val / 128 := ⟨⟨_, by omega⟩, rfl⟩
  refine ⟨t, (by decide +kernel : ∀ t : Fin grid0.N, win0_5.flush t = true) t, ?_⟩
  show i ∈ ((View.whole main_v2_0).slice (win0_5.rect t)).set
  rw [View.set_slice_whole, Rect.mem_set_unit]
  have e0 : win0_5.index t (0 : Fin 2) = t.val / 16 := by have := idx_facts t; tauto
  have e1 : win0_5.index t (1 : Fin 2) = t.val % 16 := by have := idx_facts t; tauto
  intro a
  match a with
  | ⟨0, _⟩ =>
    show win0_5.index t (0 : Fin 2) * 16 ≤ (i 0).val ∧ (i 0).val < win0_5.index t (0 : Fin 2) * 16 + 16
    rw [e0]; omega
  | ⟨1, _⟩ =>
    show win0_5.index t (1 : Fin 2) * 128 ≤ (i 1).val ∧ (i 1).val < win0_5.index t (1 : Fin 2) * 128 + 128
    rw [e1]; omega

/-- Every entry of the state lies in the block some point writes back. -/
theorem covered6 (i : S8x16x128x128.Idx) : ∃ t : Fin cfg0.N, (cfg0.win 6).flush t = true ∧ i ∈ ((cfg0.win 6).blk t).view.set := by
  have h0 : (i 0).val < 8 := (i 0).isLt
  have h1 : (i 1).val < 16 := (i 1).isLt
  have h2 : (i 2).val < 128 := (i 2).isLt
  have h3 : (i 3).val < 128 := (i 3).isLt
  have hN : cfg0.N = 128 := N_0
  obtain ⟨t, ht⟩ : ∃ t : Fin cfg0.N, t.val = (i 0).val * 16 + (i 1).val := ⟨⟨_, by omega⟩, rfl⟩
  refine ⟨t, (by decide +kernel : ∀ t : Fin grid0.N, win0_6.flush t = true) t, ?_⟩
  show i ∈ ((View.whole main_v2_1).slice (win0_6.rect t)).set
  rw [View.set_slice_whole, Rect.mem_set_unit]
  have e0 : win0_6.index t (0 : Fin 4) = t.val / 16 := by have := idx_facts t; tauto
  have e1 : win0_6.index t (1 : Fin 4) = t.val % 16 := by have := idx_facts t; tauto
  have e2 : win0_6.index t (2 : Fin 4) = 0 := by have := idx_facts t; tauto
  have e3 : win0_6.index t (3 : Fin 4) = 0 := by have := idx_facts t; tauto
  intro a
  match a with
  | ⟨0, _⟩ =>
    show win0_6.index t (0 : Fin 4) * 1 ≤ (i 0).val ∧ (i 0).val < win0_6.index t (0 : Fin 4) * 1 + 1
    rw [e0]; omega
  | ⟨1, _⟩ =>
    show win0_6.index t (1 : Fin 4) * 1 ≤ (i 1).val ∧ (i 1).val < win0_6.index t (1 : Fin 4) * 1 + 1
    rw [e1]; omega
  | ⟨2, _⟩ =>
    show win0_6.index t (2 : Fin 4) * 128 ≤ (i 2).val ∧ (i 2).val < win0_6.index t (2 : Fin 4) * 128 + 128
    rw [e2]; omega
  | ⟨3, _⟩ =>
    show win0_6.index t (3 : Fin 4) * 128 ≤ (i 3).val ∧ (i 3).val < win0_6.index t (3 : Fin 4) * 128 + 128
    rw [e3]; omega

/-- The output after the run is the reference's. -/
theorem final5 (hpre : Cert.Pre_KernelHgrnIdeal_bound_finite m) (c : Dev nD) : (dats m 0 c).arrAt 5 cfg0.N = G5 m c :=
  (dats m 0 c).arrAt_eq_of_cover 5 (G5 m c) (flushed5_eq m hpre c) covered5

/-- The state after the run is the reference's. -/
theorem final6 (hpre : Cert.Pre_KernelHgrnIdeal_bound_finite m) (c : Dev nD) : (dats m 0 c).arrAt 6 cfg0.N = G6 m c :=
  (dats m 0 c).arrAt_eq_of_cover 6 (G6 m c) (flushed6_eq m hpre c) covered6

/-- The kernel's run and the reference's end with the same two arrays and leave the arguments unchanged. -/
theorem algebraic : Cert.algebraic_KernelHgrnIdeal_ReferenceHgrnIdeal_pre_bound_finite := fun m ρ m' ρ' hpre hag =>
  ⟨fun c => G5 m c, fun c => G6 m c,
    (θ_run _ _ _).mono (fun _ h c => ⟨(h c).1.trans (final5 m hpre c), (h c).2.1.trans (final6 m hpre c), (h c).2.2⟩)
      (Value.run_blocks m ρ),
    (θ_run _ _ _).mono (fun _ h c => ⟨(h c).1.trans (by
        rw [Cert.ReferenceHgrnIdeal.Read.val_main_v78_eq, (hag c).1, (hag c).2.1, (hag c).2.2]), (h c).2.1.trans (by
        rw [Cert.ReferenceHgrnIdeal.Read.val_main_v79_eq, (hag c).1, (hag c).2.1, (hag c).2.2]), (h c).2.2⟩)
      (Cert.ReferenceHgrnIdeal.Value.run m' ρ')⟩

end Cert.HgrnValue

end
-- ==== Proof.WkvMath.lean ====
/- The arithmetic of the RWKV recurrence of one head, over the real numbers: the state after some rows as the starting
   state and the rows' contributions, each decayed; and the system of equations the rows' corrections satisfy. -/
module

public import Mathlib.Analysis.SpecialFunctions.Exp
public import Mathlib.Data.Matrix.Mul

@[expose] public section

noncomputable section

namespace Cert.WkvMath

open scoped BigOperators

variable {d : ℕ}

/-- The row with a number. -/
abbrev nth (n : ℕ) : Fin 16 := Fin.ofNat 16 n

theorem nth_val (t : Fin 16) : nth t.val = t := Fin.ext (Nat.mod_eq_of_lt t.isLt)

/-- The state before row `n`: decayed, corrected along the row's removal key and written to with the row's value. -/
def st (S : Fin d → Fin d → ℝ) (lw kk ka k v : Fin 16 → Fin d → ℝ) : ℕ → Fin d → Fin d → ℝ
  | 0 => S
  | n + 1 => fun i j => st S lw kk ka k v n i j * Real.exp (lw (nth n) j)
      - (∑ l, st S lw kk ka k v n i l * kk (nth n) l) * ka (nth n) j + v (nth n) i * k (nth n) j

/-- What row `t` removes from the state, with its sign. -/
def un (S : Fin d → Fin d → ℝ) (lw kk ka k v : Fin 16 → Fin d → ℝ) (t : Fin 16) (i : Fin d) : ℝ :=
  -∑ l, st S lw kk ka k v t.val i l * kk t l

/-- The running sum of the logarithms of the decays before row `n`. -/
def upto (lw : Fin 16 → Fin d → ℝ) (n : ℕ) (j : Fin d) : ℝ := ∑ s : Fin 16, if s.val < n then lw s j else 0

/-- The running sum of the logarithms of the decays up to row `t`. -/
def cum (lw : Fin 16 → Fin d → ℝ) (t : Fin 16) (j : Fin d) : ℝ := ∑ s : Fin 16, if s ≤ t then lw s j else 0

theorem cum_eq (lw : Fin 16 → Fin d → ℝ) (t : Fin 16) (j : Fin d) : cum lw t j = upto lw (t.val + 1) j := by
  unfold cum upto
  refine Finset.sum_congr rfl fun s _ => ?_
  have e : s ≤ t ↔ s.val < t.val + 1 := by rw [Fin.le_def]; omega
  simp only [e]

/-- One more row in a sum over the first rows. -/
theorem sum_succ (f : Fin 16 → ℝ) (t : Fin 16) :
    (∑ s : Fin 16, if s.val < t.val + 1 then f s else 0) = (∑ s : Fin 16, if s.val < t.val then f s else 0) + f t := by
  have e : ∀ s : Fin 16, (if s.val < t.val + 1 then f s else 0) = (if s.val < t.val then f s else 0) + if s = t then f s else 0 := fun s => by
    by_cases h : s.val < t.val
    · rw [if_pos h, if_pos (by omega), if_neg (fun h' => by rw [h'] at h; omega), add_zero]
    · by_cases h2 : s = t
      · rw [if_neg h, if_pos h2, if_pos (by rw [h2]; omega), zero_add]
      · rw [if_neg h, if_neg h2, if_neg (fun h3 => h2 (Fin.ext (by omega))), zero_add]
  rw [Finset.sum_congr rfl fun s _ => e s, Finset.sum_add_distrib, Finset.sum_ite_eq' Finset.univ t f, if_pos (Finset.mem_univ t)]

theorem upto_succ (lw : Fin 16 → Fin d → ℝ) (t : Fin 16) (j : Fin d) : upto lw (t.val + 1) j = upto lw t.val j + lw t j :=
  sum_succ (fun s => lw s j) t

section

variable (S : Fin d → Fin d → ℝ) (lw kk ka k v : Fin 16 → Fin d → ℝ)

/-- What row `s` adds to the state, its decay undone. -/
def adds (s : Fin 16) (i j : Fin d) : ℝ :=
  un S lw kk ka k v s i * (ka s j * Real.exp (-cum lw s j)) + v s i * (k s j * Real.exp (-cum lw s j))

theorem st_succ (t : Fin 16) (i j : Fin d) : st S lw kk ka k v (t.val + 1) i j
    = st S lw kk ka k v t.val i j * Real.exp (lw t j) + un S lw kk ka k v t i * ka t j + v t i * k t j := by
  show st S lw kk ka k v t.val i j * Real.exp (lw (nth t.val) j)
      - (∑ l, st S lw kk ka k v t.val i l * kk (nth t.val) l) * ka (nth t.val) j + v (nth t.val) i * k (nth t.val) j = _
  rw [nth_val]
  unfold un
  ring

/-- The state before row `n`. -/
theorem st_eq : ∀ n ≤ 16, ∀ i j, st S lw kk ka k v n i j
    = Real.exp (upto lw n j) * (S i j + ∑ s : Fin 16, if s.val < n then adds S lw kk ka k v s i j else 0) := by
  intro n
  induction n with
  | zero =>
    intro _ i j
    simp [upto, st]
  | succ n ih =>
    intro h i j
    obtain ⟨t, rfl⟩ : ∃ t : Fin 16, n = t.val := ⟨⟨n, by omega⟩, rfl⟩
    rw [st_succ, ih (by omega), upto_succ, sum_succ (fun s => adds S lw kk ka k v s i j), Real.exp_add]
    unfold adds
    rw [cum_eq, upto_succ, neg_add, Real.exp_add, Real.exp_neg, Real.exp_neg]
    have h1 := (Real.exp_pos (upto lw t.val j)).ne'
    have h2 := (Real.exp_pos (lw t j)).ne'
    field_simp
    ring

/-- What a row removes, from the starting state and the rows before it. -/
theorem un_eq (t : Fin 16) (i : Fin d) :
    un S lw kk ka k v t i = (∑ j, (-kk t j * Real.exp (cum lw t j - lw t j)) * S i j)
      + ∑ s : Fin 16, ((if s < t then ∑ j, (-kk t j * Real.exp (cum lw t j - lw t j)) * (ka s j * Real.exp (-cum lw s j)) else 0) * un S lw kk ka k v s i
        + (if s < t then ∑ j, (-kk t j * Real.exp (cum lw t j - lw t j)) * (k s j * Real.exp (-cum lw s j)) else 0) * v s i) := by
  have e : ∀ j, Real.exp (cum lw t j - lw t j) = Real.exp (upto lw t.val j) := fun j => by
    rw [cum_eq, upto_succ, add_sub_cancel_right]
  simp only [e]
  have l : un S lw kk ka k v t i = ∑ j, ((-kk t j * Real.exp (upto lw t.val j)) * S i j
      + ∑ s : Fin 16, if s < t then (-kk t j * Real.exp (upto lw t.val j)) * adds S lw kk ka k v s i j else 0) := by
    rw [show un S lw kk ka k v t i = -∑ l, st S lw kk ka k v t.val i l * kk t l from rfl, ← Finset.sum_neg_distrib]
    refine Finset.sum_congr rfl fun j _ => ?_
    rw [st_eq S lw kk ka k v t.val (by omega)]
    have : (∑ s : Fin 16, if s < t then (-kk t j * Real.exp (upto lw t.val j)) * adds S lw kk ka k v s i j else 0)
        = (-kk t j * Real.exp (upto lw t.val j)) * ∑ s : Fin 16, if s.val < t.val then adds S lw kk ka k v s i j else 0 := by
      rw [Finset.mul_sum]
      refine Finset.sum_congr rfl fun s _ => ?_
      simp only [Fin.lt_def, mul_ite, mul_zero]
    rw [this]
    ring
  rw [l, Finset.sum_add_distrib, Finset.sum_comm]
  refine congrArg _ (Finset.sum_congr rfl fun s _ => ?_)
  by_cases h : s < t
  · simp only [if_pos h]
    rw [Finset.sum_mul, Finset.sum_mul, ← Finset.sum_add_distrib]
    refine Finset.sum_congr rfl fun j _ => ?_
    unfold adds
    ring
  · simp only [if_neg h, Finset.sum_const_zero, zero_mul, add_zero]

/-- A row's output, from the starting state and the rows up to it. -/
theorem out_eq (r : Fin 16 → Fin d → ℝ) (t : Fin 16) (i : Fin d) :
    (∑ j, st S lw kk ka k v (t.val + 1) i j * r t j) = (∑ j, (r t j * Real.exp (cum lw t j)) * S i j)
      + (∑ s : Fin 16, (if s ≤ t then ∑ j, (r t j * Real.exp (cum lw t j)) * (ka s j * Real.exp (-cum lw s j)) else 0) * un S lw kk ka k v s i)
      + ∑ s : Fin 16, (if s ≤ t then ∑ j, (r t j * Real.exp (cum lw t j)) * (k s j * Real.exp (-cum lw s j)) else 0) * v s i := by
  have l : (∑ j, st S lw kk ka k v (t.val + 1) i j * r t j) = ∑ j, ((r t j * Real.exp (cum lw t j)) * S i j
      + ∑ s : Fin 16, if s ≤ t then (r t j * Real.exp (cum lw t j)) * adds S lw kk ka k v s i j else 0) := by
    refine Finset.sum_congr rfl fun j _ => ?_
    rw [st_eq S lw kk ka k v (t.val + 1) (by omega), ← cum_eq]
    have : (∑ s : Fin 16, if s ≤ t then (r t j * Real.exp (cum lw t j)) * adds S lw kk ka k v s i j else 0)
        = (r t j * Real.exp (cum lw t j)) * ∑ s : Fin 16, if s.val < t.val + 1 then adds S lw kk ka k v s i j else 0 := by
      rw [Finset.mul_sum]
      refine Finset.sum_congr rfl fun s _ => ?_
      have e : s ≤ t ↔ s.val < t.val + 1 := by rw [Fin.le_def]; omega
      simp only [e, mul_ite, mul_zero]
    rw [this]
    ring
  rw [l, Finset.sum_add_distrib, Finset.sum_comm, add_assoc, ← Finset.sum_add_distrib]
  refine congrArg _ (Finset.sum_congr rfl fun s _ => ?_)
  by_cases h : s ≤ t
  · simp only [if_pos h]
    rw [Finset.sum_mul, Finset.sum_mul, ← Finset.sum_add_distrib]
    refine Finset.sum_congr rfl fun j _ => ?_
    unfold adds
    ring
  · simp only [if_neg h, Finset.sum_const_zero, zero_mul, add_zero]

/-- The state after the last row. -/
theorem last_eq (i j : Fin d) : st S lw kk ka k v 16 i j
    = (S i j + ∑ s : Fin 16, (un S lw kk ka k v s i * (ka s j * Real.exp (-cum lw s j)) + v s i * (k s j * Real.exp (-cum lw s j))))
      * Real.exp (cum lw 15 j) := by
  rw [st_eq S lw kk ka k v 16 le_rfl, cum_eq, mul_comm]
  refine congrArg₂ (· * ·) (congrArg _ (Finset.sum_congr rfl fun s _ => ?_)) rfl
  rw [if_pos s.isLt]
  rfl

end

/-! ## The equations of two heads' thirty-two rows -/

/-- Powers of a matrix that looks only at earlier rows of a block of sixteen. -/
theorem pow_zero_of (N : Matrix (Fin 32) (Fin 32) ℝ) (hN : ∀ c c', ¬ (c'.val % 16 < c.val % 16) → N c c' = 0) :
    ∀ p c c', ¬ (c'.val % 16 + p ≤ c.val % 16) → (N ^ p) c c' = 0 := by
  intro p
  induction p with
  | zero =>
    intro c c' h
    rw [pow_zero, Matrix.one_apply_ne]
    intro e
    rw [e] at h
    omega
  | succ p ih =>
    intro c c' h
    rw [pow_succ, Matrix.mul_apply]
    refine Finset.sum_eq_zero fun x _ => ?_
    by_cases h1 : x.val % 16 + p ≤ c.val % 16
    · rw [hN x c' (by omega), mul_zero]
    · rw [ih c x h1, zero_mul]

/-- The doublings undo one minus such a matrix. -/
theorem inverse (N : Matrix (Fin 32) (Fin 32) ℝ) (hN : ∀ c c', ¬ (c'.val % 16 < c.val % 16) → N c c' = 0)
    (U R : Matrix (Fin 32) (Fin 128) ℝ) (hU : U = N * U + R) :
    ((((1 + N) + (1 + N) * (N * N)) + ((1 + N) + (1 + N) * (N * N)) * (N * N * (N * N)))
      + (((1 + N) + (1 + N) * (N * N)) + ((1 + N) + (1 + N) * (N * N)) * (N * N * (N * N))) * (N * N * (N * N) * (N * N * (N * N)))) * R = U := by
  have h16 : N ^ 16 = 0 := by
    ext c c'
    exact pow_zero_of N hN 16 c c' (by omega)
  have hR : R = (1 - N) * U := by
    rw [Matrix.sub_mul, Matrix.one_mul]
    conv_rhs => lhs; rw [hU]
    rw [add_sub_cancel_left]
  rw [hR, ← Matrix.mul_assoc]
  have : ((((1 + N) + (1 + N) * (N * N)) + ((1 + N) + (1 + N) * (N * N)) * (N * N * (N * N)))
      + (((1 + N) + (1 + N) * (N * N)) + ((1 + N) + (1 + N) * (N * N)) * (N * N * (N * N))) * (N * N * (N * N) * (N * N * (N * N)))) * (1 - N)
      = 1 - N ^ 16 := by noncomm_ring
  rw [this, h16, sub_zero, Matrix.one_mul]

end Cert.WkvMath

end
-- ==== Proof.WkvPair.lean ====
/- The RWKV recurrence of two heads side by side: their rows stacked head after head, their lanes side by side, and the
   chunk's outputs and final state from the solution of the stacked rows' equations. -/
module

public import proofs.«01_k».proof.Proof.WkvMath

@[expose] public section

noncomputable section

namespace Cert.WkvMath

open scoped BigOperators

/-- Row `t` of head `g` among the stacked rows. -/
abbrev srow (g : Fin 2) (t : Fin 16) : Fin 32 := ⟨16 * g.val + t.val, by omega⟩

/-- Lane `j` of head `g`. -/
abbrev lane (g : Fin 2) (j : Fin 64) : Fin 128 := ⟨64 * g.val + j.val, by omega⟩

theorem sum_rows {M : Type*} [AddCommMonoid M] (f : Fin 32 → M) : ∑ c, f c = ∑ g : Fin 2, ∑ t : Fin 16, f (srow g t) := by
  rw [← Fintype.sum_prod_type', ← (finProdFinEquiv (m := 2) (n := 16)).sum_comp f]
  exact Finset.sum_congr rfl fun x _ => congrArg f (Fin.ext (Nat.add_comm _ _))

theorem sum_lanes {M : Type*} [AddCommMonoid M] (f : Fin 128 → M) : ∑ l, f l = ∑ g : Fin 2, ∑ j : Fin 64, f (lane g j) := by
  rw [← Fintype.sum_prod_type', ← (finProdFinEquiv (m := 2) (n := 64)).sum_comp f]
  exact Finset.sum_congr rfl fun x _ => congrArg f (Fin.ext (Nat.add_comm _ _))

theorem exists_row (c : Fin 32) : ∃ g t, c = srow g t := ⟨⟨c.val / 16, by omega⟩, ⟨c.val % 16, by omega⟩, Fin.ext (Nat.div_add_mod _ _).symm⟩

theorem exists_lane (l : Fin 128) : ∃ g j, l = lane g j := ⟨⟨l.val / 64, by omega⟩, ⟨l.val % 64, by omega⟩, Fin.ext (Nat.div_add_mod _ _).symm⟩

/-- A head's lanes of an array of rows. -/
abbrev hd (g : Fin 2) (x : Fin 16 → Fin 128 → ℝ) : Fin 16 → Fin 64 → ℝ := fun t j => x t (lane g j)

/-- Rows stacked head after head, each with only its own head's lanes. -/
def stack (x : Fin 16 → Fin 128 → ℝ) (c : Fin 32) (l : Fin 128) : ℝ :=
  if l.val / 64 = c.val / 16 then x ⟨c.val % 16, by omega⟩ l else 0

theorem stack_at (x : Fin 16 → Fin 128 → ℝ) (g g' : Fin 2) (t : Fin 16) (j : Fin 64) :
    stack x (srow g t) (lane g' j) = if g = g' then hd g x t j else 0 := by
  unfold stack
  have e : (⟨(srow g t).val % 16, by omega⟩ : Fin 16) = t := Fin.ext (by show (16 * g.val + t.val) % 16 = t.val; omega)
  rw [e]
  have e2 : (lane g' j).val / 64 = (srow g t).val / 16 ↔ g = g' := by
    show (64 * g'.val + j.val) / 64 = (16 * g.val + t.val) / 16 ↔ _
    rw [Fin.ext_iff]
    omega
  by_cases h : g = g'
  · rw [if_pos (e2.mpr h), if_pos h]
    subst h
    rfl
  · rw [if_neg (fun h' => h (e2.mp h')), if_neg h]

/-- Scores of stacked rows against stacked rows, of earlier rows of the same head only. -/
def strict (x y : Fin 16 → Fin 128 → ℝ) (c c' : Fin 32) : ℝ :=
  if c'.val / 16 = c.val / 16 ∧ c'.val % 16 < c.val % 16 then ∑ l, stack x c l * stack y c' l else 0

/-- Scores of stacked rows against stacked rows, of the same head's rows so far. -/
def incl (x y : Fin 16 → Fin 128 → ℝ) (c c' : Fin 32) : ℝ :=
  if c'.val / 16 = c.val / 16 ∧ c'.val % 16 ≤ c.val % 16 then ∑ l, stack x c l * stack y c' l else 0

theorem scores (x y : Fin 16 → Fin 128 → ℝ) (g : Fin 2) (t s : Fin 16) :
    (∑ l, stack x (srow g t) l * stack y (srow g s) l) = ∑ j, hd g x t j * hd g y s j := by
  rw [sum_lanes, Finset.sum_eq_single g]
  · exact Finset.sum_congr rfl fun j _ => by rw [stack_at, stack_at, if_pos rfl, if_pos rfl]
  · intro g' _ h
    exact Finset.sum_eq_zero fun j _ => by rw [stack_at, if_neg (Ne.symm h), zero_mul]
  · intro h
    exact absurd (Finset.mem_univ g) h

theorem strict_at (x y : Fin 16 → Fin 128 → ℝ) (g g' : Fin 2) (t s : Fin 16) :
    strict x y (srow g t) (srow g' s) = if g = g' then (if s < t then ∑ j, hd g x t j * hd g y s j else 0) else 0 := by
  unfold strict
  have e : ((srow g' s).val / 16 = (srow g t).val / 16 ∧ (srow g' s).val % 16 < (srow g t).val % 16) ↔ (g = g' ∧ s < t) := by
    show ((16 * g'.val + s.val) / 16 = (16 * g.val + t.val) / 16 ∧ (16 * g'.val + s.val) % 16 < (16 * g.val + t.val) % 16) ↔ _
    rw [Fin.ext_iff, Fin.lt_def]
    omega
  by_cases h : g = g'
  · subst h
    by_cases h2 : s < t
    · rw [if_pos (e.mpr ⟨rfl, h2⟩), if_pos rfl, if_pos h2, scores]
    · rw [if_neg (fun h' => h2 (e.mp h').2), if_pos rfl, if_neg h2]
  · rw [if_neg (fun h' => h (e.mp h').1), if_neg h]

theorem incl_at (x y : Fin 16 → Fin 128 → ℝ) (g g' : Fin 2) (t s : Fin 16) :
    incl x y (srow g t) (srow g' s) = if g = g' then (if s ≤ t then ∑ j, hd g x t j * hd g y s j else 0) else 0 := by
  unfold incl
  have e : ((srow g' s).val / 16 = (srow g t).val / 16 ∧ (srow g' s).val % 16 ≤ (srow g t).val % 16) ↔ (g = g' ∧ s ≤ t) := by
    show ((16 * g'.val + s.val) / 16 = (16 * g.val + t.val) / 16 ∧ (16 * g'.val + s.val) % 16 ≤ (16 * g.val + t.val) % 16) ↔ _
    rw [Fin.ext_iff, Fin.le_def]
    omega
  by_cases h : g = g'
  · subst h
    by_cases h2 : s ≤ t
    · rw [if_pos (e.mpr ⟨rfl, h2⟩), if_pos rfl, if_pos h2, scores]
    · rw [if_neg (fun h' => h2 (e.mp h').2), if_pos rfl, if_neg h2]
  · rw [if_neg (fun h' => h (e.mp h').1), if_neg h]

/-- Two heads' states on the diagonal of one square. -/
def diag (S : Fin 2 → Fin 64 → Fin 64 → ℝ) (i j : Fin 128) : ℝ :=
  if i.val / 64 = j.val / 64 then S ⟨i.val / 64, by omega⟩ ⟨i.val % 64, by omega⟩ ⟨j.val % 64, by omega⟩ else 0

theorem diag_at (S : Fin 2 → Fin 64 → Fin 64 → ℝ) (g g' : Fin 2) (i j : Fin 64) :
    diag S (lane g i) (lane g' j) = if g = g' then S g i j else 0 := by
  unfold diag
  have e : (⟨(lane g i).val / 64, by omega⟩ : Fin 2) = g := Fin.ext (by show (64 * g.val + i.val) / 64 = g.val; omega)
  have e1 : (⟨(lane g i).val % 64, by omega⟩ : Fin 64) = i := Fin.ext (by show (64 * g.val + i.val) % 64 = i.val; omega)
  have e2 : (⟨(lane g' j).val % 64, by omega⟩ : Fin 64) = j := Fin.ext (by show (64 * g'.val + j.val) % 64 = j.val; omega)
  rw [e, e1, e2]
  have e3 : (lane g i).val / 64 = (lane g' j).val / 64 ↔ g = g' := by
    show (64 * g.val + i.val) / 64 = (64 * g'.val + j.val) / 64 ↔ _
    rw [Fin.ext_iff]
    omega
  simp only [e3]

/-- A sum over two heads of which only one counts. -/
theorem sum_head (g : Fin 2) (f : Fin 2 → ℝ) (h : ∀ g', g' ≠ g → f g' = 0) : ∑ g', f g' = f g :=
  Finset.sum_eq_single g (fun g' _ h' => h g' h') (fun h' => absurd (Finset.mem_univ g) h')

section

variable (S : Fin 2 → Fin 64 → Fin 64 → ℝ) (r lw kk ka k v : Fin 16 → Fin 128 → ℝ)

/-- The removal keys with their decay. -/
def al (t : Fin 16) (l : Fin 128) : ℝ := -kk t l * Real.exp (cum lw t l - lw t l)
/-- The receptances with their decay. -/
def rt (t : Fin 16) (l : Fin 128) : ℝ := r t l * Real.exp (cum lw t l)
/-- Keys with their decay undone. -/
def un_dec (x : Fin 16 → Fin 128 → ℝ) (t : Fin 16) (l : Fin 128) : ℝ := x t l * Real.exp (-cum lw t l)

/-- What each stacked row removes. -/
def removed (c : Fin 32) (l : Fin 128) : ℝ :=
  stack (fun t l => un (S ⟨l.val / 64, by omega⟩) (hd ⟨l.val / 64, by omega⟩ lw) (hd ⟨l.val / 64, by omega⟩ kk) (hd ⟨l.val / 64, by omega⟩ ka)
    (hd ⟨l.val / 64, by omega⟩ k) (hd ⟨l.val / 64, by omega⟩ v) t ⟨l.val % 64, by omega⟩) c l

/-- What a head's row removes. -/
abbrev hun (g : Fin 2) (t : Fin 16) (i : Fin 64) : ℝ := un (S g) (hd g lw) (hd g kk) (hd g ka) (hd g k) (hd g v) t i

theorem removed_at (g g' : Fin 2) (t : Fin 16) (i : Fin 64) :
    removed S lw kk ka k v (srow g t) (lane g' i) = if g = g' then hun S lw kk ka k v g t i else 0 := by
  unfold removed
  rw [stack_at]
  have e : (⟨(lane g i).val / 64, by omega⟩ : Fin 2) = g := Fin.ext (by show (64 * g.val + i.val) / 64 = g.val; omega)
  have e1 : (⟨(lane g i).val % 64, by omega⟩ : Fin 64) = i := Fin.ext (by show (64 * g.val + i.val) % 64 = i.val; omega)
  refine if_congr Iff.rfl ?_ rfl
  show un (S ⟨(lane g i).val / 64, _⟩) (hd ⟨(lane g i).val / 64, _⟩ lw) (hd ⟨(lane g i).val / 64, _⟩ kk) (hd ⟨(lane g i).val / 64, _⟩ ka)
    (hd ⟨(lane g i).val / 64, _⟩ k) (hd ⟨(lane g i).val / 64, _⟩ v) t ⟨(lane g i).val % 64, _⟩ = _
  rw [e, e1]

/-- The product of stacked rows with the states. -/
theorem start_at (x : Fin 16 → Fin 128 → ℝ) (g g' : Fin 2) (t : Fin 16) (i : Fin 64) :
    (∑ l, stack x (srow g t) l * diag S (lane g' i) l) = if g = g' then ∑ j, hd g x t j * S g i j else 0 := by
  rw [sum_lanes, sum_head g]
  · by_cases h : g = g'
    · rw [if_pos h]
      subst h
      exact Finset.sum_congr rfl fun j _ => by rw [stack_at, diag_at, if_pos rfl, if_pos rfl]
    · rw [if_neg h]
      exact Finset.sum_eq_zero fun j _ => by rw [diag_at, if_neg (Ne.symm h), mul_zero]
  · intro g2 h
    exact Finset.sum_eq_zero fun j _ => by rw [stack_at, if_neg (Ne.symm h), zero_mul]

/-- The product of scores with stacked values. -/
theorem scored (A : Fin 32 → Fin 32 → ℝ) (B : Fin 32 → Fin 128 → ℝ) (a : Fin 2 → Fin 16 → Fin 16 → ℝ) (b : Fin 2 → Fin 16 → Fin 64 → ℝ)
    (hA : ∀ g g' t s, A (srow g t) (srow g' s) = if g = g' then a g t s else 0)
    (hB : ∀ g g' t i, B (srow g t) (lane g' i) = if g = g' then b g t i else 0) (g g' : Fin 2) (t : Fin 16) (i : Fin 64) :
    (∑ c, A (srow g t) c * B c (lane g' i)) = if g = g' then ∑ s, a g t s * b g s i else 0 := by
  rw [sum_rows, sum_head g]
  · by_cases h : g = g'
    · rw [if_pos h]
      exact Finset.sum_congr rfl fun s _ => by rw [hA, hB, if_pos rfl, if_pos h]
    · rw [if_neg h]
      exact Finset.sum_eq_zero fun s _ => by rw [hB, if_neg h, mul_zero]
  · intro g2 h
    exact Finset.sum_eq_zero fun s _ => by rw [hA, if_neg (Ne.symm h), zero_mul]

/-- The equations of the stacked rows. -/
theorem removed_eq (c : Fin 32) (l : Fin 128) :
    removed S lw kk ka k v c l = (∑ c', strict (al lw kk) (un_dec lw ka) c c' * removed S lw kk ka k v c' l)
      + ((∑ j, stack (al lw kk) c j * diag S l j) + ∑ c', strict (al lw kk) (un_dec lw k) c c' * stack v c' l) := by
  obtain ⟨g, t, rfl⟩ := exists_row c
  obtain ⟨g', i, rfl⟩ := exists_lane l
  rw [scored _ _ _ _ (strict_at (al lw kk) (un_dec lw ka)) (removed_at S lw kk ka k v), scored _ _ _ _ (strict_at (al lw kk) (un_dec lw k)) (stack_at v),
    start_at, removed_at]
  by_cases h : g = g'
  · simp only [if_pos h]
    refine (un_eq (S g) (hd g lw) (hd g kk) (hd g ka) (hd g k) (hd g v) t i).trans ?_
    rw [Finset.sum_add_distrib]
    exact add_left_comm _ _ _
  · simp only [if_neg h, add_zero]

/-- A row's output: the two heads' rows put back on their lanes. -/
theorem pair_out (g : Fin 2) (t : Fin 16) (i : Fin 64) (f : Fin 32 → ℝ)
    (hf : ∀ c, f c = (∑ j, stack (rt r lw) c j * diag S (lane g i) j) + (∑ c', incl (rt r lw) (un_dec lw ka) c c' * removed S lw kk ka k v c' (lane g i))
      + ∑ c', incl (rt r lw) (un_dec lw k) c c' * stack v c' (lane g i)) :
    f (srow 0 t) + f (srow 1 t) = ∑ j, st (S g) (hd g lw) (hd g kk) (hd g ka) (hd g k) (hd g v) (t.val + 1) i j * hd g r t j := by
  have e : ∀ g', f (srow g' t) = if g' = g then ∑ j, st (S g) (hd g lw) (hd g kk) (hd g ka) (hd g k) (hd g v) (t.val + 1) i j * hd g r t j else 0 := by
    intro g'
    rw [hf, scored _ _ _ _ (incl_at (rt r lw) (un_dec lw ka)) (removed_at S lw kk ka k v), scored _ _ _ _ (incl_at (rt r lw) (un_dec lw k)) (stack_at v), start_at]
    by_cases h : g' = g
    · subst h
      simp only [if_true]
      exact (out_eq (S g') (hd g' lw) (hd g' kk) (hd g' ka) (hd g' k) (hd g' v) (hd g' r) t i).symm
    · simp only [if_neg h, add_zero]
  rw [← Fin.sum_univ_two (f := fun g' => f (srow g' t)), sum_head g]
  · rw [e, if_pos rfl]
  · intro g' h
    rw [e, if_neg h]

/-- What the rows add to the states. -/
theorem grown_at (x : Fin 32 → Fin 128 → ℝ) (a : Fin 2 → Fin 16 → Fin 64 → ℝ)
    (hx : ∀ g g' t i, x (srow g t) (lane g' i) = if g = g' then a g t i else 0) (y : Fin 16 → Fin 128 → ℝ) (g g' : Fin 2) (i j : Fin 64) :
    (∑ c, x c (lane g i) * stack y c (lane g' j)) = if g = g' then ∑ s, a g s i * hd g y s j else 0 := by
  rw [sum_rows, sum_head g]
  · by_cases h : g = g'
    · rw [if_pos h]
      exact Finset.sum_congr rfl fun s _ => by rw [hx, stack_at, if_pos rfl, if_pos h]
    · rw [if_neg h]
      exact Finset.sum_eq_zero fun s _ => by rw [stack_at, if_neg h, mul_zero]
  · intro g2 h
    exact Finset.sum_eq_zero fun s _ => by rw [hx, if_neg h, zero_mul]

/-- The final states. -/
theorem pair_last (i j : Fin 128) :
    (diag S i j + ((∑ c, removed S lw kk ka k v c i * stack (un_dec lw ka) c j) + ∑ c, stack v c i * stack (un_dec lw k) c j)) * Real.exp (cum lw 15 j)
      = diag (fun g => st (S g) (hd g lw) (hd g kk) (hd g ka) (hd g k) (hd g v) 16) i j := by
  obtain ⟨g, i, rfl⟩ := exists_lane i
  obtain ⟨g', j, rfl⟩ := exists_lane j
  rw [grown_at _ _ (removed_at S lw kk ka k v), grown_at _ _ (stack_at v), diag_at, diag_at]
  by_cases h : g = g'
  · subst h
    simp only [if_true]
    refine Eq.trans ?_ (last_eq (S g) (hd g lw) (hd g kk) (hd g ka) (hd g k) (hd g v) i j).symm
    rw [Finset.sum_add_distrib]
    rfl
  · simp only [if_neg h, add_zero, zero_mul]

end

end Cert.WkvMath

end
-- ==== Proof.WkvLift.lean ====
/- Arrays whose entries are real numbers, and the masks and layout steps of the RWKV call's body, entry by entry. -/
module

public import proofs.«01_k».proof.Defs
public import proofs.«01_k».proof.Proof.Common
public import proofs.«01_k».proof.Proof.Soft
public import proofs.«01_k».proof.Proof.WkvPair
public import proofs.«01_k».proof.Proof.Gen.KernelWkvIdeal.Value
public import Idealize.ShloMosaic.Lib.VecWindow
public import Idealize.ShloMosaic.Lib.Pointwise.Contract

@[expose] public section

set_option maxRecDepth 16384

noncomputable section

namespace Cert.WkvBlock

open Cert.KernelWkvIdeal Cert.KernelWkvIdeal.Gen Cert.WkvMath
open Idealize.ShloMosaic hiding ix1 ix2 ix4
open Idealize.ShloMosaic.TcCoe Idealize.SL.Sem
open Idealize.ShloMosaic.Tactic
open Idealize.ShloMosaic.ValueIdx
open scoped BigOperators

/-- A sum of real numbers, as extended real numbers. -/
theorem coe_sum {ι : Type*} (s : Finset ι) (f : ι → ℝ) : (∑ i ∈ s, (f i : EReal)) = ((∑ i ∈ s, f i : ℝ) : EReal) := by
  classical
  induction s using Finset.induction_on with
  | empty => simp
  | insert a s h ih => rw [Finset.sum_insert h, Finset.sum_insert h, ih, EReal.coe_add]

/-- The entries of a matrix are these real numbers. -/
def Is {a b : ℕ} {φ : FTy} (x : FVec Ideal ⟨2, ![a, b]⟩ φ) (f : Fin a → Fin b → ℝ) : Prop :=
  ∀ i j, x (ix2 i j) = ((f i j : ℝ) : EReal)

section

variable {a b : ℕ} {x y : FVec Ideal ⟨2, ![a, b]⟩ .f32} {f g : Fin a → Fin b → ℝ}

theorem Is.add (hx : Is x f) (hy : Is y g) : Is (addf x y) (fun i j => f i j + g i j) := fun i j =>
  (congrArg₂ (· + · : EReal → EReal → EReal) (hx i j) (hy i j)).trans (EReal.coe_add _ _).symm

theorem Is.sub (hx : Is x f) (hy : Is y g) : Is (subf x y) (fun i j => f i j - g i j) := fun i j =>
  (congrArg₂ (· - · : EReal → EReal → EReal) (hx i j) (hy i j)).trans (EReal.coe_sub _ _).symm

theorem Is.mul (hx : Is x f) (hy : Is y g) : Is (mulf x y) (fun i j => f i j * g i j) := fun i j =>
  (congrArg₂ (· * · : EReal → EReal → EReal) (hx i j) (hy i j)).trans (EReal.coe_mul _ _).symm

theorem Is.exp (hx : Is x f) : Is (exp x) (fun i j => Real.exp (f i j)) := fun i j =>
  congrArg Ideal.exp (hx i j)

theorem Is.neg (hx : Is x f) : Is (subf (broadcast ⟨2, ![a, b]⟩ (Scalar.ofBits .f32 0x00000000#32)) x) (fun i j => -f i j) := fun i j => by
  show Ideal.ofBits .f32 0x00000000#32 - x (ix2 i j) = _
  rw [Ideal.ofBits_zero_f32, zero_sub, hx i j, EReal.coe_neg]

/-- A real array less itself is zero. -/
theorem Is.rest (hx : Is x f) : Is (subf x x) (fun _ _ => 0) := fun i j =>
  (hx.sub hx i j).trans (congrArg _ (sub_self (f i j)))

end

/-- A product of matrices of real numbers. -/
theorem Is.mm {M K N : ℕ} {φ₁ φ₂ : FTy} {A : FVec Ideal ⟨2, ![M, K]⟩ φ₁} {B : FVec Ideal ⟨2, ![K, N]⟩ φ₂}
    {f : Fin M → Fin K → ℝ} {g : Fin K → Fin N → ℝ} (hA : Is A f) (hB : Is B g) :
    Is (FloatOps.matmul (DotDims.plain M K N) none A B (constant ⟨2, ![M, N]⟩ .f32 0x00000000#32) : FVec Ideal ⟨2, ![M, N]⟩ .f32) (fun i j => ∑ k, f i k * g k j) := fun i j => by
  rw [Common.mm_zero, ← coe_sum]
  exact Finset.sum_congr rfl fun k _ => by rw [hA i k, hB k j, EReal.coe_mul]

/-- A sum in three parts of which the last two are of nothing. -/
theorem three (p q s : EReal) (hq : q = 0) (hs : s = 0) : p + (q + s) = p := by rw [hq, hs, add_zero, add_zero]

/-- A truth value as a number. -/
theorem bit (p : Prop) [Decidable p] : ((((((if p then 1#1 else 0#1 : BitVec 1).setWidth 32).toInt : ℤ) : ℝ)) : EReal) = ((if p then (1 : ℝ) else 0 : ℝ) : EReal) := by
  by_cases h : p
  · rw [if_pos h, if_pos h]
    norm_num
  · rw [if_neg h, if_neg h]
    norm_num

/-- The triangle of ones. -/
theorem tri : Is (k0_pay9 (F := Ideal)) (fun t s => if s ≤ t then 1 else 0) := by
  intro t s
  have e : ∀ t s : Fin 16, IntOp.cmpi .sle (BitVec.ofNat 32 s.val) (BitVec.ofNat 32 t.val) = if s ≤ t then 1#1 else 0#1 := by decide +kernel
  show (((((IntOp.cmpi .sle (BitVec.ofNat 32 (0 * 16 + s.val)) (BitVec.ofNat 32 (0 * 16 + t.val))).setWidth 32).toInt : ℤ) : ℝ) : EReal) = _
  rw [Nat.zero_mul, Nat.zero_add, Nat.zero_add, e, bit]

/-- The running sums the body computes. -/
theorem running {x : FVec Ideal S16x128 .f32} {f : Fin 16 → Fin 128 → ℝ} (hx : Is x f) : Is (k0_pay34 (F := Ideal) k0_pay9 x) (cum f) := by
  have h1 := Is.mm (φ₁ := .bf16) (φ₂ := .bf16) tri hx
  have h2 := Is.mm (φ₁ := .bf16) (φ₂ := .bf16) tri hx.rest
  have h3 := Is.mm (φ₁ := .bf16) (φ₂ := .bf16) tri hx.rest.rest
  intro t j
  refine (three _ _ _ ((h2 t j).trans ?_) ((h3 t j).trans ?_)).trans ((h1 t j).trans (congrArg _ ?_))
  · simp
  · simp
  · exact Finset.sum_congr rfl fun s _ => by simp only [ite_mul, one_mul, zero_mul]

/-- The lane numbers of a square's columns. -/
abbrev cols : IVec S128x128 32 := iota .tc S128x128 32 [1] iota_S128x128_d1_w32

/-- The mask of two lanes of one head. -/
abbrev msk : FVec Ideal S128x128 .f32 := k0_pay8 (F := Ideal) k0_pay5 cols 64#32 k0_pay6 k0_pay7 (Scalar.cmpi .sgt 64#32 0#32)

/-- A number's head: a word's quotient by 64, rounded down. -/
def down (x : BitVec 32) : BitVec 32 :=
  Scalar.select (IntOp.andi (IntOp.cmpi .ne (IntOp.subi ((IntOp.cmpi .sgt x 0#32).setWidth 32) ((IntOp.cmpi .slt x 0#32).setWidth 32)) 1#32)
    (IntOp.cmpi .ne (IntOp.remsi .vector x 64#32) 0#32)) (IntOp.subi (IntOp.divsi .vector x 64#32) 1#32) (IntOp.divsi .vector x 64#32)

theorem down_eq : ∀ i : Fin 128, down (BitVec.ofNat 32 i.val) = BitVec.ofNat 32 (i.val / 64) := by decide +kernel

theorem head_eq : ∀ p q : Fin 2, IntOp.cmpi .eq (BitVec.ofNat 32 p.val) (BitVec.ofNat 32 q.val) = if p = q then 1#1 else 0#1 := by decide +kernel

theorem msk_at (i j : Fin 128) : msk (ix2 i j) = ((if i.val / 64 = j.val / 64 then (1 : ℝ) else 0 : ℝ) : EReal) := by
  show (((((IntOp.cmpi .eq (down (BitVec.ofNat 32 (0 * 128 + i.val))) (down (BitVec.ofNat 32 (0 * 128 + j.val)))).setWidth 32).toInt : ℤ) : ℝ) : EReal) = _
  have e := head_eq ⟨i.val / 64, by omega⟩ ⟨j.val / 64, by omega⟩
  rw [Nat.zero_mul, Nat.zero_add, Nat.zero_add, down_eq, down_eq]
  refine (congrArg (fun b : BitVec 1 => ((((b.setWidth 32).toInt : ℤ) : ℝ) : EReal)) e).trans ((bit _).trans ?_)
  simp only [Fin.mk.injEq]

/-- The stacked rows' numbers, and their columns'. -/
abbrev si : IVec S32x32 32 := iota .tc S32x32 32 [0] iota_S32x32_d0_w32
abbrev sj : IVec S32x32 32 := iota .tc S32x32 32 [1] iota_S32x32_d1_w32

/-- The masks of stacked rows: same head, earlier rows of it, its rows so far, and the identity. -/
abbrev blk : IVec S32x32 1 := k0_pay12 sj k0_pay10 16#32 k0_pay11
abbrev str : IVec S32x32 1 := k0_pay15 blk (k0_pay13 sj) (Scalar.select (Scalar.cmpi .eq 16#32 0#32) 1#32 16#32) (k0_pay14 si) 0#32
abbrev inc : IVec S32x32 1 := k0_pay18 blk (k0_pay16 sj) (k0_pay17 si)
abbrev eye : FVec Ideal S32x32 .f32 := k0_pay19 (F := Ideal) si sj

theorem str_at : ∀ c c' : Fin 32, str (ix2 c c') = if c'.val / 16 = c.val / 16 ∧ c'.val % 16 < c.val % 16 then 1#1 else 0#1 := by
  decide +kernel

theorem inc_at : ∀ c c' : Fin 32, inc (ix2 c c') = if c'.val / 16 = c.val / 16 ∧ c'.val % 16 ≤ c.val % 16 then 1#1 else 0#1 := by
  decide +kernel

theorem eye_is : Is eye (1 : Matrix (Fin 32) (Fin 32) ℝ) := by
  intro i j
  have e : ∀ i j : Fin 32, IntOp.cmpi .eq (BitVec.ofNat 32 i.val) (BitVec.ofNat 32 j.val) = if i = j then 1#1 else 0#1 := by decide +kernel
  show (((((IntOp.cmpi .eq (BitVec.ofNat 32 (0 * 32 + i.val)) (BitVec.ofNat 32 (0 * 32 + j.val))).setWidth 32).toInt : ℤ) : ℝ) : EReal) = _
  rw [Nat.zero_mul, Nat.zero_add, Nat.zero_add, e, bit, Matrix.one_apply]

/-- A choice by a condition's bit. -/
theorem pick (p : Prop) [Decidable p] (x y : EReal) : Scalar.select (if p then 1#1 else 0#1) x y = if p then x else y := by
  by_cases h : p
  · rw [if_pos h, if_pos h]; rfl
  · rw [if_neg h, if_neg h]; rfl

/-- Rows stacked head after head, as the body does it. -/
def stk (x : FVec Ideal S16x128 .f32) : FVec Ideal S32x128 .f32 :=
  concatenate S32x128 0 [⟨S16x128, select k0_pay4 x (broadcast S16x128 (Scalar.ofBits .f32 0x00000000#32))⟩,
    ⟨S16x128, select k0_pay4 (broadcast S16x128 (Scalar.ofBits .f32 0x00000000#32)) x⟩] concatenates_S16x128_S16x128_S32x128_d0

/-- Two stacks, one above the other. -/
def two (x y : FVec Ideal S32x128 .f32) : FVec Ideal S64x128 .f32 :=
  concatenate S64x128 0 [⟨S32x128, x⟩, ⟨S32x128, y⟩] concatenates_S32x128_S32x128_S64x128_d0

theorem lane_at (t : Fin 16) (l : Fin 128) : k0_pay4 (ix2 t l) = if l.val < 64 then 1#1 else 0#1 := by
  refine Eq.trans ?_ (Soft.lane_lt l)
  show IntOp.cmpi .slt (BitVec.ofNat 32 (0 * 128 + l.val)) 64#32 = _
  rw [Nat.zero_mul, Nat.zero_add]

theorem stk_is {x : FVec Ideal S16x128 .f32} {f : Fin 16 → Fin 128 → ℝ} (hx : Is x f) : Is (stk x) (stack f) := by
  intro c l
  unfold stack
  by_cases h : c.val < 16
  · refine (concatenate_pair_apply_left (t := S32x128) (s₁ := S16x128) (s₂ := S16x128) (0 : Fin 2) _ _ _ (ix2 c l) rfl (ix2 (⟨c.val, h⟩ : Fin 16) l)
      (fun b => match b with | ⟨0, _⟩ => rfl | ⟨1, _⟩ => rfl)).trans ?_
    show Scalar.select (k0_pay4 (ix2 (⟨c.val, h⟩ : Fin 16) l)) (x (ix2 (⟨c.val, h⟩ : Fin 16) l)) (Ideal.ofBits .f32 0x00000000#32) = _
    rw [lane_at, pick, hx, Ideal.ofBits_zero_f32]
    have e : (⟨c.val % 16, by omega⟩ : Fin 16) = ⟨c.val, h⟩ := Fin.ext (Nat.mod_eq_of_lt h)
    rw [e]
    by_cases h2 : l.val < 64
    · rw [if_pos h2, if_pos (by omega)]
    · rw [if_neg h2, if_neg (by omega)]
      rfl
  · refine (concatenate_pair_apply_right (t := S32x128) (s₁ := S16x128) (s₂ := S16x128) (0 : Fin 2) _ _ _ (ix2 c l) rfl rfl (ix2 (⟨c.val - 16, by omega⟩ : Fin 16) l)
      (fun b => match b with | ⟨0, _⟩ => fun hb => absurd rfl hb | ⟨1, _⟩ => fun _ => rfl) (by show c.val - 16 + 16 = c.val; omega)).trans ?_
    show Scalar.select (k0_pay4 (ix2 (⟨c.val - 16, by omega⟩ : Fin 16) l)) (Ideal.ofBits .f32 0x00000000#32) (x (ix2 (⟨c.val - 16, by omega⟩ : Fin 16) l)) = _
    rw [lane_at, pick, hx, Ideal.ofBits_zero_f32]
    have e : (⟨c.val % 16, by omega⟩ : Fin 16) = ⟨c.val - 16, by omega⟩ := Fin.ext (by show c.val % 16 = c.val - 16; omega)
    rw [e]
    by_cases h2 : l.val < 64
    · rw [if_pos h2, if_neg (by omega)]
      rfl
    · rw [if_neg h2, if_pos (by omega)]

theorem two_lo (x y : FVec Ideal S32x128 .f32) (c : Fin 32) (l : Fin 128) : two x y (ix2 (⟨c.val, by omega⟩ : Fin 64) l) = x (ix2 c l) :=
  concatenate_pair_apply_left (t := S64x128) (s₁ := S32x128) (s₂ := S32x128) (0 : Fin 2) _ _ _ (ix2 (⟨c.val, by omega⟩ : Fin 64) l) rfl (ix2 c l)
    (fun b => match b with | ⟨0, _⟩ => rfl | ⟨1, _⟩ => rfl)

theorem two_hi (x y : FVec Ideal S32x128 .f32) (c : Fin 32) (l : Fin 128) : two x y (ix2 (⟨32 + c.val, by omega⟩ : Fin 64) l) = y (ix2 c l) :=
  concatenate_pair_apply_right (t := S64x128) (s₁ := S32x128) (s₂ := S32x128) (0 : Fin 2) _ _ _ (ix2 (⟨32 + c.val, by omega⟩ : Fin 64) l) rfl rfl (ix2 c l)
    (fun b => match b with | ⟨0, _⟩ => fun hb => absurd rfl hb | ⟨1, _⟩ => fun _ => rfl) (by show c.val + 32 = 32 + c.val; omega)

/-- A sum over the two stacks' rows. -/
theorem sum_two {M : Type*} [AddCommMonoid M] (f : Fin 64 → M) :
    ∑ c, f c = (∑ c : Fin 32, f ⟨c.val, by omega⟩) + ∑ c : Fin 32, f ⟨32 + c.val, by omega⟩ := Fin.sum_univ_add (a := 32) (b := 32) f

end Cert.WkvBlock

end
-- ==== Proof.WkvBlock.lean ====
/- The recurrence of the RWKV call's body on one block of real numbers: the stacked rows' scores, the solution of their
   equations by doublings, the chunk's outputs and the final state. -/
module

public import proofs.«01_k».proof.Proof.WkvLift

@[expose] public section

set_option maxRecDepth 16384

noncomputable section

namespace Cert.WkvBlock

open Cert.KernelWkvIdeal Cert.KernelWkvIdeal.Gen Cert.WkvMath
open Idealize.ShloMosaic hiding ix1 ix2 ix4
open Idealize.ShloMosaic.TcCoe Idealize.SL.Sem
open Idealize.ShloMosaic.Tactic
open Idealize.ShloMosaic.ValueIdx
open scoped BigOperators

/-- The accumulator of zeros of a product of stacked rows' scores. -/
abbrev nil : FVec Ideal S32x32 .f32 := constant S32x32 .f32 0x00000000#32

section

variable (A R B K V : FVec Ideal S16x128 .f32) (S : FVec Ideal S128x128 .f32)

/-- The scores of the stacked rows. -/
def aa : FVec Ideal S64x64 .f32 :=
  matmul dot_S64x128_S64x128_S64x64_1_1_0_0_n_n none (truncf .bf16 (two (stk A) (stk R)) bitsLt_bf16_f32) (truncf .bf16 (two (stk B) (stk K)) bitsLt_bf16_f32)
    (constant S64x64 .f32 0x00000000#32)

/-- The four quarters of the scores, masked. -/
def nab : FVec Ideal S32x32 .f32 := select str (extractStridedSlice S32x32 ![0, 0] (aa A R B K) slices_S64x64_o0_0_S32x32) (broadcast S32x32 (Scalar.ofBits .f32 0x00000000#32))
def aak : FVec Ideal S32x32 .f32 := select str (extractStridedSlice S32x32 ![0, 32] (aa A R B K) slices_S64x64_o0_32_S32x32) (broadcast S32x32 (Scalar.ofBits .f32 0x00000000#32))
def arb : FVec Ideal S32x32 .f32 := select inc (extractStridedSlice S32x32 ![32, 0] (aa A R B K) slices_S64x64_o32_0_S32x32) (broadcast S32x32 (Scalar.ofBits .f32 0x00000000#32))
def ark : FVec Ideal S32x32 .f32 := select inc (extractStridedSlice S32x32 ![32, 32] (aa A R B K) slices_S64x64_o32_32_S32x32) (broadcast S32x32 (Scalar.ofBits .f32 0x00000000#32))

/-- A product of two square arrays of scores. -/
def sq (x y : FVec Ideal S32x32 .f32) : FVec Ideal S32x32 .f32 :=
  matmul dot_S32x32_S32x32_S32x32_1_0_0_1_n_n none (truncf .bf16 x bitsLt_bf16_f32) (truncf .bf16 y bitsLt_bf16_f32) (constant S32x32 .f32 0x00000000#32)

/-- A product of scores with stacked rows. -/
def app (x : FVec Ideal S32x32 .f32) (y : FVec Ideal S32x128 .f32) : FVec Ideal S32x128 .f32 :=
  matmul dot_S32x32_S32x128_S32x128_1_0_0_1_n_n none (truncf .bf16 x bitsLt_bf16_f32) (truncf .bf16 y bitsLt_bf16_f32) (constant S32x128 .f32 0x00000000#32)

/-- One doubling of the inverse. -/
def dbl (x p : FVec Ideal S32x32 .f32) : FVec Ideal S32x32 .f32 := addf x (sq x p)

/-- The product of the stacked rows with the states. -/
def ls : FVec Ideal S64x128 .f32 :=
  matmul dot_S64x128_S128x128_S64x128_1_1_0_0_n_n none (truncf .bf16 (two (stk A) (stk R)) bitsLt_bf16_f32) (truncf .bf16 S bitsLt_bf16_f32) (constant S64x128 .f32 0x00000000#32)

/-- What the stacked rows remove. -/
def uu : FVec Ideal S32x128 .f32 :=
  app (dbl (dbl (dbl (addf eye (nab A R B K)) (sq (nab A R B K) (nab A R B K))) (sq (sq (nab A R B K) (nab A R B K)) (sq (nab A R B K) (nab A R B K))))
      (sq (sq (sq (nab A R B K) (nab A R B K)) (sq (nab A R B K) (nab A R B K))) (sq (sq (nab A R B K) (nab A R B K)) (sq (nab A R B K) (nab A R B K)))))
    (addf (extractStridedSlice S32x128 ![0, 0] (ls A R S) slices_S64x128_o0_0_S32x128) (app (aak A R B K) (stk V)))

/-- The stacked outputs. -/
def oo : FVec Ideal S32x128 .f32 :=
  addf (addf (extractStridedSlice S32x128 ![32, 0] (ls A R S) slices_S64x128_o32_0_S32x128) (app (arb A R B K) (uu A R B K V S))) (app (ark A R B K) (stk V))

/-- The outputs. -/
def outs : FVec Ideal S16x128 .f32 :=
  addf (extractStridedSlice S16x128 ![0, 0] (oo A R B K V S) slices_S32x128_o0_0_S16x128) (extractStridedSlice S16x128 ![16, 0] (oo A R B K V S) slices_S32x128_o16_0_S16x128)

/-- The states with the rows' contributions. -/
def news : FVec Ideal S128x128 .f32 :=
  addf S (matmul dot_S64x128_S64x128_S128x128_0_0_1_1_n_n none (truncf .bf16 (two (uu A R B K V S) (stk V)) bitsLt_bf16_f32) (truncf .bf16 (two (stk B) (stk K)) bitsLt_bf16_f32)
    (constant S128x128 .f32 0x00000000#32))

end

section

variable {A R B K V : FVec Ideal S16x128 .f32} {S : FVec Ideal S128x128 .f32} {a r b k v : Fin 16 → Fin 128 → ℝ} {s : Fin 128 → Fin 128 → ℝ}

theorem sq_is {x y : FVec Ideal S32x32 .f32} {f g : Matrix (Fin 32) (Fin 32) ℝ} (hx : Is x f) (hy : Is y g) : Is (sq x y) (f * g) :=
  Is.mm (φ₁ := .bf16) (φ₂ := .bf16) hx hy

theorem app_is {x : FVec Ideal S32x32 .f32} {y : FVec Ideal S32x128 .f32} {f : Fin 32 → Fin 32 → ℝ} {g : Fin 32 → Fin 128 → ℝ} (hx : Is x f) (hy : Is y g) :
    Is (app x y) (fun i j => ∑ c, f i c * g c j) :=
  Is.mm (φ₁ := .bf16) (φ₂ := .bf16) hx hy

theorem dbl_is {x y : FVec Ideal S32x32 .f32} {f g : Matrix (Fin 32) (Fin 32) ℝ} (hx : Is x f) (hy : Is y g) : Is (dbl x y) (f + f * g) :=
  Is.add hx (sq_is hx hy)

/-- A score, of any rows of the two stacks. -/
theorem aa_at (p q : Fin 64) : aa A R B K (ix2 p q) = ∑ l : Fin 128, two (stk A) (stk R) (ix2 p l) * two (stk B) (stk K) (ix2 q l) :=
  Soft.mt_zero (φ₁ := .bf16) (φ₂ := .bf16) none (two (stk A) (stk R)) (two (stk B) (stk K)) p q

/-- A sum of products of real numbers. -/
theorem dot_coe {n : ℕ} (x y : Fin n → EReal) (f g : Fin n → ℝ) (hx : ∀ l, x l = (f l : EReal)) (hy : ∀ l, y l = (g l : EReal)) :
    (∑ l, x l * y l) = ((∑ l, f l * g l : ℝ) : EReal) := by
  rw [← coe_sum]
  exact Finset.sum_congr rfl fun l _ => by rw [hx, hy, EReal.coe_mul]

theorem nab_is (hA : Is A a) (hB : Is B b) : Is (nab A R B K) (strict a b) := by
  intro c c'
  show Scalar.select (str (ix2 c c')) (extractStridedSlice S32x32 ![0, 0] (aa A R B K) slices_S64x64_o0_0_S32x32 (ix2 c c')) (Ideal.ofBits .f32 0x00000000#32) = _
  rw [str_at, pick, Ideal.ofBits_zero_f32, extractStridedSlice_apply _ (aa A R B K) _ (ix2 c c') (ix2 (⟨c.val, by omega⟩ : Fin 64) (⟨c'.val, by omega⟩ : Fin 64))
    (fun x => match x with | ⟨0, _⟩ => (Nat.zero_add _).symm | ⟨1, _⟩ => (Nat.zero_add _).symm), aa_at,
    dot_coe _ _ (stack a c) (stack b c') (fun l => (two_lo _ _ c l).trans (stk_is hA c l)) (fun l => (two_lo _ _ c' l).trans (stk_is hB c' l))]
  unfold strict
  split_ifs <;> rfl

theorem aak_is (hA : Is A a) (hK : Is K k) : Is (aak A R B K) (strict a k) := by
  intro c c'
  show Scalar.select (str (ix2 c c')) (extractStridedSlice S32x32 ![0, 32] (aa A R B K) slices_S64x64_o0_32_S32x32 (ix2 c c')) (Ideal.ofBits .f32 0x00000000#32) = _
  rw [str_at, pick, Ideal.ofBits_zero_f32, extractStridedSlice_apply _ (aa A R B K) _ (ix2 c c') (ix2 (⟨c.val, by omega⟩ : Fin 64) (⟨32 + c'.val, by omega⟩ : Fin 64))
    (fun x => match x with | ⟨0, _⟩ => (Nat.zero_add _).symm | ⟨1, _⟩ => rfl), aa_at,
    dot_coe _ _ (stack a c) (stack k c') (fun l => (two_lo _ _ c l).trans (stk_is hA c l)) (fun l => (two_hi _ _ c' l).trans (stk_is hK c' l))]
  unfold strict
  split_ifs <;> rfl

theorem arb_is (hR : Is R r) (hB : Is B b) : Is (arb A R B K) (incl r b) := by
  intro c c'
  show Scalar.select (inc (ix2 c c')) (extractStridedSlice S32x32 ![32, 0] (aa A R B K) slices_S64x64_o32_0_S32x32 (ix2 c c')) (Ideal.ofBits .f32 0x00000000#32) = _
  rw [inc_at, pick, Ideal.ofBits_zero_f32, extractStridedSlice_apply _ (aa A R B K) _ (ix2 c c') (ix2 (⟨32 + c.val, by omega⟩ : Fin 64) (⟨c'.val, by omega⟩ : Fin 64))
    (fun x => match x with | ⟨0, _⟩ => rfl | ⟨1, _⟩ => (Nat.zero_add _).symm), aa_at,
    dot_coe _ _ (stack r c) (stack b c') (fun l => (two_hi _ _ c l).trans (stk_is hR c l)) (fun l => (two_lo _ _ c' l).trans (stk_is hB c' l))]
  unfold incl
  split_ifs <;> rfl

theorem ark_is (hR : Is R r) (hK : Is K k) : Is (ark A R B K) (incl r k) := by
  intro c c'
  show Scalar.select (inc (ix2 c c')) (extractStridedSlice S32x32 ![32, 32] (aa A R B K) slices_S64x64_o32_32_S32x32 (ix2 c c')) (Ideal.ofBits .f32 0x00000000#32) = _
  rw [inc_at, pick, Ideal.ofBits_zero_f32, extractStridedSlice_apply _ (aa A R B K) _ (ix2 c c') (ix2 (⟨32 + c.val, by omega⟩ : Fin 64) (⟨32 + c'.val, by omega⟩ : Fin 64))
    (fun x => match x with | ⟨0, _⟩ => rfl | ⟨1, _⟩ => rfl), aa_at,
    dot_coe _ _ (stack r c) (stack k c') (fun l => (two_hi _ _ c l).trans (stk_is hR c l)) (fun l => (two_hi _ _ c' l).trans (stk_is hK c' l))]
  unfold incl
  split_ifs <;> rfl

theorem ls_at (p : Fin 64) (i : Fin 128) : ls A R S (ix2 p i) = ∑ l : Fin 128, two (stk A) (stk R) (ix2 p l) * S (ix2 i l) :=
  Soft.mt_zero (φ₁ := .bf16) (φ₂ := .bf16) none (two (stk A) (stk R)) S p i

theorem lo_is (hA : Is A a) (hS : Is S s) :
    Is (extractStridedSlice S32x128 ![0, 0] (ls A R S) slices_S64x128_o0_0_S32x128) (fun c i => ∑ l, stack a c l * s i l) := fun c i => by
  rw [extractStridedSlice_apply _ (ls A R S) _ (ix2 c i) (ix2 (⟨c.val, by omega⟩ : Fin 64) i)
    (fun x => match x with | ⟨0, _⟩ => (Nat.zero_add _).symm | ⟨1, _⟩ => (Nat.zero_add _).symm), ls_at]
  exact dot_coe _ _ (stack a c) (s i) (fun l => (two_lo _ _ c l).trans (stk_is hA c l)) (hS i)

theorem hi_is (hR : Is R r) (hS : Is S s) :
    Is (extractStridedSlice S32x128 ![32, 0] (ls A R S) slices_S64x128_o32_0_S32x128) (fun c i => ∑ l, stack r c l * s i l) := fun c i => by
  rw [extractStridedSlice_apply _ (ls A R S) _ (ix2 c i) (ix2 (⟨32 + c.val, by omega⟩ : Fin 64) i)
    (fun x => match x with | ⟨0, _⟩ => rfl | ⟨1, _⟩ => (Nat.zero_add _).symm), ls_at]
  exact dot_coe _ _ (stack r c) (s i) (fun l => (two_hi _ _ c l).trans (stk_is hR c l)) (hS i)

/-- What the body solves for is the solution of the stacked rows' equations. -/
theorem uu_is (hA : Is A a) (hB : Is B b) (hK : Is K k) (hV : Is V v) (hS : Is S s) (u : Fin 32 → Fin 128 → ℝ)
    (hu : ∀ c l, u c l = (∑ c', strict a b c c' * u c' l) + ((∑ j, stack a c j * s l j) + ∑ c', strict a k c c' * stack v c' l)) :
    Is (uu A R B K V S) u := by
  have hN : Is (nab A R B K) (show Matrix (Fin 32) (Fin 32) ℝ from strict a b) := nab_is hA hB
  have h2 := sq_is hN hN
  have h4 := sq_is h2 h2
  have h8 := sq_is h4 h4
  have hi := dbl_is (dbl_is (dbl_is (f := 1 + (show Matrix (Fin 32) (Fin 32) ℝ from strict a b)) (Is.add eye_is hN) h2) h4) h8
  have hr := (lo_is (R := R) hA hS).add (app_is (aak_is (R := R) (B := B) hA hK) (stk_is hV))
  have e := inverse (strict a b) (fun c c' h => by unfold strict; rw [if_neg (fun h' => h h'.2)]) u
    (fun c l => (∑ j, stack a c j * s l j) + ∑ c', strict a k c c' * stack v c' l) (funext fun c => funext fun l => hu c l)
  intro c l
  exact (app_is hi hr c l).trans (congrArg _ (congrFun (congrFun e c) l))

/-- A chunk's outputs: each head's state after the row, applied to the row's receptances. -/
theorem outs_at (D : Fin 2 → Fin 64 → Fin 64 → ℝ) (r lw kk ka k v : Fin 16 → Fin 128 → ℝ)
    (hA : Is A (al lw kk)) (hR : Is R (rt r lw)) (hB : Is B (un_dec lw ka)) (hK : Is K (un_dec lw k)) (hV : Is V v) (hS : Is S (diag D))
    (t : Fin 16) (g : Fin 2) (i : Fin 64) :
    outs A R B K V S (ix2 t (lane g i))
      = ((∑ j, st (D g) (hd g lw) (hd g kk) (hd g ka) (hd g k) (hd g v) (t.val + 1) i j * hd g r t j : ℝ) : EReal) := by
  have hU := uu_is (R := R) hA hB hK hV hS (removed D lw kk ka k v) (removed_eq D lw kk ka k v)
  have hO : Is (oo A R B K V S) (fun c l => (∑ j, stack (rt r lw) c j * diag D l j)
      + (∑ c', incl (rt r lw) (un_dec lw ka) c c' * removed D lw kk ka k v c' l) + ∑ c', incl (rt r lw) (un_dec lw k) c c' * stack v c' l) :=
    ((hi_is (A := A) hR hS).add (app_is (arb_is (A := A) (K := K) hR hB) hU)).add (app_is (ark_is (A := A) (B := B) hR hK) (stk_is hV))
  rw [← pair_out D r lw kk ka k v g t i (fun c => (∑ j, stack (rt r lw) c j * diag D (lane g i) j)
      + (∑ c', incl (rt r lw) (un_dec lw ka) c c' * removed D lw kk ka k v c' (lane g i)) + ∑ c', incl (rt r lw) (un_dec lw k) c c' * stack v c' (lane g i))
      (fun _ => rfl), EReal.coe_add]
  refine congrArg₂ (· + · : EReal → EReal → EReal) ?_ ?_
  · refine (extractStridedSlice_apply _ (oo A R B K V S) _ (ix2 t (lane g i)) (ix2 (srow 0 t) (lane g i)) (fun x => match x with
      | ⟨0, _⟩ => rfl
      | ⟨1, _⟩ => (Nat.zero_add _).symm)).trans (hO (srow 0 t) (lane g i))
  · refine (extractStridedSlice_apply _ (oo A R B K V S) _ (ix2 t (lane g i)) (ix2 (srow 1 t) (lane g i)) (fun x => match x with
      | ⟨0, _⟩ => rfl
      | ⟨1, _⟩ => (Nat.zero_add _).symm)).trans (hO (srow 1 t) (lane g i))

/-- The states with the rows' contributions, before their last decay. -/
theorem news_is (u : Fin 32 → Fin 128 → ℝ) (hU : Is (uu A R B K V S) u) (hB : Is B b) (hK : Is K k) (hV : Is V v) (hS : Is S s) :
    Is (news A R B K V S) (fun i j => s i j + ((∑ c, u c i * stack b c j) + ∑ c, stack v c i * stack k c j)) := by
  have h : Is (matmul dot_S64x128_S64x128_S128x128_0_0_1_1_n_n none (truncf .bf16 (two (uu A R B K V S) (stk V)) bitsLt_bf16_f32)
      (truncf .bf16 (two (stk B) (stk K)) bitsLt_bf16_f32) (constant S128x128 .f32 0x00000000#32))
      (fun i j => (∑ c, u c i * stack b c j) + ∑ c, stack v c i * stack k c j) := fun i j => by
    refine (Ideal.matmul_apply₁_of dot_S64x128_S64x128_S128x128_0_0_1_1_n_n (a := 0) rfl (K := 64) rfl _ _ _ (ix2 i j) (fun t => ix2 t i) (fun t => ix2 t j)
      (fun t => funext fun c => match c with | ⟨0, _⟩ => rfl | ⟨1, _⟩ => rfl)
      (fun t => funext fun c => match c with | ⟨0, _⟩ => rfl | ⟨1, _⟩ => rfl)).trans ?_
    show Ideal.ofBits .f32 0x00000000#32 + (∑ p : Fin 64, two (uu A R B K V S) (stk V) (ix2 p i) * two (stk B) (stk K) (ix2 p j)) = _
    rw [Ideal.ofBits_zero_f32, zero_add, sum_two, EReal.coe_add]
    refine congrArg₂ (· + · : EReal → EReal → EReal) ?_ ?_
    · exact dot_coe _ _ (fun c => u c i) (fun c => stack b c j) (fun c => (two_lo _ _ c i).trans (hU c i)) (fun c => (two_lo _ _ c j).trans (stk_is hB c j))
    · exact dot_coe _ _ (fun c => stack v c i) (fun c => stack k c j) (fun c => (two_hi _ _ c i).trans (stk_is hV c i)) (fun c => (two_hi _ _ c j).trans (stk_is hK c j))
  exact hS.add h

/-- The final states. -/
theorem last_is (D : Fin 2 → Fin 64 → Fin 64 → ℝ) (lw kk ka k v : Fin 16 → Fin 128 → ℝ) {x : FVec Ideal S16x128 .f32} (hx : Is x (cum lw))
    (hA : Is A (al lw kk)) (hB : Is B (un_dec lw ka)) (hK : Is K (un_dec lw k)) (hV : Is V v) (hS : Is S (diag D)) :
    Is (k0_pay57 (F := Ideal) (news A R B K V S) (k0_pay56 x)) (diag fun g => st (D g) (hd g lw) (hd g kk) (hd g ka) (hd g k) (hd g v) 16) := by
  have hN := news_is (removed D lw kk ka k v) (uu_is (R := R) hA hB hK hV hS (removed D lw kk ka k v) (removed_eq D lw kk ka k v)) hB hK hV hS
  intro i j
  unfold k0_pay57
  rw [shapeCast_self, ← pair_last, EReal.coe_mul]
  have e : k0_pay56 (F := Ideal) x (ix2 (0 : Fin 1) j) = ((cum lw 15 j : ℝ) : EReal) :=
    (extractStridedSlice_apply _ x slices_S16x128_o15_0_S1x128 (ix2 (0 : Fin 1) j) (ix2 (15 : Fin 16) j) (fun a => match a with
      | ⟨0, _⟩ => rfl
      | ⟨1, _⟩ => (Nat.zero_add j.val).symm)).trans (hx 15 j)
  refine congrArg₂ (· * · : EReal → EReal → EReal) (hN i j) ?_
  refine (broadcastTo_apply _ _ (ix2 i j) (ix2 (0 : Fin 1) j) (fun a => match a with
    | ⟨0, _⟩ => rfl
    | ⟨1, _⟩ => rfl)).trans ?_
  show Ideal.exp (k0_pay56 (F := Ideal) x (ix2 (0 : Fin 1) j)) = _
  rw [e]
  rfl

end

end Cert.WkvBlock

end
-- ==== Proof.WkvSpec.lean ====
/- One head of the RWKV call over real numbers: its keys, its outputs row by row, their normalisation, and the output entry. -/
module

public import Idealize.ShloMosaic.PureOps.Ideal.Laws
public import proofs.«01_k».proof.Proof.WkvPair

@[expose] public section

noncomputable section

namespace Cert.WkvMath

open Idealize.ShloMosaic
open scoped BigOperators

/-- The bound below a key's squared length, and what is added to a variance. -/
abbrev tinyE : EReal := Ideal.ofBits .f32 0x179ABE15#32
abbrev epsE : EReal := Ideal.ofBits .f32 0x3A27C5AC#32
/-- One, the number of lanes of a head, and its inverse. -/
abbrev oneE : EReal := Ideal.ofBits .f32 0x3F800000#32
abbrev lanesE : EReal := Ideal.ofBits .f32 0x42800000#32
abbrev invE : EReal := Ideal.ofBits .f32 0x3C800000#32

theorem tiny_ex : ∃ c : ℝ, 0 < c ∧ tinyE = (c : EReal) := by
  unfold tinyE
  unfold Ideal.ofBits Ideal.ieee
  dsimp only
  rw [if_neg (by decide), if_neg (by decide)]
  refine ⟨_, ?_, rfl⟩
  rw [if_neg (by decide)]
  positivity

theorem eps_ex : ∃ c : ℝ, 0 < c ∧ epsE = (c : EReal) := by
  unfold epsE
  unfold Ideal.ofBits Ideal.ieee
  dsimp only
  rw [if_neg (by decide), if_neg (by decide)]
  refine ⟨_, ?_, rfl⟩
  rw [if_neg (by decide)]
  positivity

def tiny : ℝ := tiny_ex.choose
theorem tiny_pos : 0 < tiny := tiny_ex.choose_spec.1
theorem tiny_eq : tinyE = (tiny : EReal) := tiny_ex.choose_spec.2
def eps : ℝ := eps_ex.choose
theorem eps_pos : 0 < eps := eps_ex.choose_spec.1
theorem eps_eq : epsE = (eps : EReal) := eps_ex.choose_spec.2

theorem oneE_eq : oneE = ((1 : ℝ) : EReal) := by
  have e : oneE = (((8388608 : ℝ) * ((2 : ℝ) ^ 23)⁻¹ : ℝ) : EReal) := by
    rw [EReal.coe_mul]; simp [oneE, Ideal.ofBits, Ideal.ieee]
  rw [e]
  congr 1
  norm_num

theorem lanesE_eq : lanesE = ((64 : ℝ) : EReal) := by
  unfold lanesE
  unfold Ideal.ofBits Ideal.ieee
  dsimp only
  rw [if_neg (by decide), if_neg (by decide)]
  congr 1
  rw [if_neg (by decide), show ((0x42800000#32).extractLsb' 23 8).toNat = 133 from rfl, show ((0x42800000#32).extractLsb' 0 23).toNat = 0 from rfl]
  norm_num [zpow_neg]

theorem invE_eq : invE = ((1 / 64 : ℝ) : EReal) := by
  unfold invE
  unfold Ideal.ofBits Ideal.ieee
  dsimp only
  rw [if_neg (by decide), if_neg (by decide)]
  congr 1
  rw [if_neg (by decide), show ((0x3C800000#32).extractLsb' 23 8).toNat = 121 from rfl, show ((0x3C800000#32).extractLsb' 0 23).toNat = 0 from rfl]
  norm_num [zpow_neg]

/-- The inverse square root of a positive real number. -/
theorem rsqrt_pos (x : ℝ) (h : 0 < x) : Ideal.rsqrt (x : EReal) = (((Real.sqrt x)⁻¹ : ℝ) : EReal) := by
  rw [Ideal.rsqrt_coe, if_neg (not_lt.mpr h.le), if_neg h.ne']

section

variable (r k0 v lw a : Fin 16 → Fin 64 → ℝ) (kkw kaw rkw : Fin 64 → ℝ) (S : Fin 64 → Fin 64 → ℝ)

/-- The removal keys, of unit length. -/
def kkR (t : Fin 16) (j : Fin 64) : ℝ := k0 t j * kkw j * (Real.sqrt (max (∑ l, k0 t l * kkw l * (k0 t l * kkw l)) tiny))⁻¹

/-- The keys. -/
def kR (t : Fin 16) (j : Fin 64) : ℝ := k0 t j * (1 + (a t j - 1) * kaw j)

/-- The states. -/
def sR (n : ℕ) (i j : Fin 64) : ℝ := st S lw (kkR k0 kkw) (fun t j => a t j * kkR k0 kkw t j) (kR k0 a kaw) v n i j

/-- The outputs before their normalisation. -/
def oR (t : Fin 16) (i : Fin 64) : ℝ := ∑ j, sR k0 v lw a kkw kaw S (t.val + 1) i j * r t j

/-- The mean and the variance of a row. -/
def mu (f : Fin 64 → ℝ) : ℝ := (∑ i, f i) * (1 / 64)
def va (f : Fin 64 → ℝ) : ℝ := (∑ i, (f i - mu f) * (f i - mu f)) * (1 / 64)

theorem va_nonneg (f : Fin 64 → ℝ) : 0 ≤ va f :=
  mul_nonneg (Finset.sum_nonneg fun _ _ => mul_self_nonneg _) (by norm_num)

/-- A row normalised. -/
def nrm (f : Fin 64 → ℝ) (i : Fin 64) : ℝ := (f i - mu f) * (Real.sqrt (va f + eps))⁻¹

/-- The weight of a row's value in the output. -/
def bon (t : Fin 16) : ℝ := ∑ j, r t j * kR k0 a kaw t j * rkw j

/-- An output entry. -/
def outE (lng lnb gate : EReal) (t : Fin 16) (i : Fin 64) : EReal :=
  ((nrm (oR r k0 v lw a kkw kaw S t) i : ℝ) * lng + lnb + ((bon r k0 a kaw rkw t : ℝ) : EReal) * ((v t i : ℝ) : EReal)) * gate

end

end Cert.WkvMath

end
-- ==== Proof.WkvBody.lean ====
/- What the body of the RWKV call computes of one block: sixteen rows of one pair of heads, with its keys, its recurrence,
   the outputs' normalisation and the bonus. -/
module

public import proofs.«01_k».proof.Proof.WkvBlock
public import proofs.«01_k».proof.Proof.WkvSpec

@[expose] public section

set_option maxRecDepth 16384

noncomputable section

namespace Cert.WkvBlock

open Cert.KernelWkvIdeal Cert.KernelWkvIdeal.Gen Cert.WkvMath
open Idealize.ShloMosaic hiding ix1 ix2 ix4
open Idealize.ShloMosaic.TcCoe Idealize.SL.Sem
open Idealize.ShloMosaic.Tactic
open Idealize.ShloMosaic.ValueIdx
open scoped BigOperators

/-- The offsets of whole blocks are zero on every axis. -/
theorem off4 : (![0, 0, 0, 0] : Fin 4 → Nat) = fun _ => 0 :=
  funext fun a => by match a with | ⟨0, _⟩ => rfl | ⟨1, _⟩ => rfl | ⟨2, _⟩ => rfl | ⟨3, _⟩ => rfl
theorem off_rows : k0_off2 = fun _ => 0 := k0_off2_eq.trans Common.off2
theorem off_block : k0_off1 = fun _ => 0 := k0_off1_eq.trans Common.off3

/-- The sums over each head's lanes, in three parts. -/
def heads (x : FVec Ideal S16x128 .f32) : FVec Ideal S16x128 .f32 :=
  addf (matmul dot_S16x128_S128x128_S16x128_1_0_0_1_n_n none (truncf .bf16 x bitsLt_bf16_f32) (truncf .bf16 msk bitsLt_bf16_f32) (constant S16x128 .f32 0x00000000#32))
    (addf (matmul dot_S16x128_S128x128_S16x128_1_0_0_1_n_n none (truncf .bf16 (subf x x) bitsLt_bf16_f32) (truncf .bf16 msk bitsLt_bf16_f32) (constant S16x128 .f32 0x00000000#32))
      (matmul dot_S16x128_S128x128_S16x128_1_0_0_1_n_n none (truncf .bf16 (subf (subf x x) (subf x x)) bitsLt_bf16_f32) (truncf .bf16 msk bitsLt_bf16_f32) (constant S16x128 .f32 0x00000000#32)))

theorem msk_is : Is msk (fun i j => if i.val / 64 = j.val / 64 then 1 else 0) := msk_at

theorem heads_at {x : FVec Ideal S16x128 .f32} {f : Fin 16 → Fin 128 → ℝ} (hx : Is x f) (t : Fin 16) (g : Fin 2) (i : Fin 64) :
    heads x (ix2 t (lane g i)) = ((∑ j, hd g f t j : ℝ) : EReal) := by
  have h1 := Is.mm (φ₁ := .bf16) (φ₂ := .bf16) hx msk_is
  have h2 := Is.mm (φ₁ := .bf16) (φ₂ := .bf16) hx.rest msk_is
  have h3 := Is.mm (φ₁ := .bf16) (φ₂ := .bf16) hx.rest.rest msk_is
  refine (three _ _ _ ((h2 t (lane g i)).trans ?_) ((h3 t (lane g i)).trans ?_)).trans ((h1 t (lane g i)).trans (congrArg _ ?_))
  · simp
  · simp
  · show (∑ k : Fin 128, f t k * if k.val / 64 = (lane g i).val / 64 then (1 : ℝ) else 0) = _
    rw [sum_lanes, sum_head g]
    · refine Finset.sum_congr rfl fun j _ => ?_
      rw [if_pos (by show (64 * g.val + j.val) / 64 = (64 * g.val + i.val) / 64; omega), mul_one]
    · intro g' h
      refine Finset.sum_eq_zero fun j _ => ?_
      rw [if_neg (fun h' => h (Fin.ext (by
        have h'' : (64 * g'.val + j.val) / 64 = (64 * g.val + i.val) / 64 := h'
        omega))), mul_zero]

section

variable (x0 x1 x2 : FVec Ideal S1x16x128 .f32) (x3 x4 x5 : FVec Ideal S16x128 .f32) (x6 x7 x8 x9 x10 : FVec Ideal S1x128 .f32) (x11 : FVec Ideal S1x1x128x128 .f32)

/-- The removal keys, the keys, and the body's scaled rows. -/
def kkb : FVec Ideal S16x128 .f32 := k0_pay32 (k0_pay27 x6 x1) (k0_pay29 msk) (k0_pay30 x6 x1) (k0_pay31 x6 x1)
def kb : FVec Ideal S16x128 .f32 := k0_pay33 (k0_pay20 x7) (k0_pay25 x1) x4
def Ab : FVec Ideal S16x128 .f32 := k0_pay36 k0_pay9 x3 (k0_pay27 x6 x1) (k0_pay29 msk) (k0_pay30 x6 x1) (k0_pay31 x6 x1)
def Rb : FVec Ideal S16x128 .f32 := k0_pay37 k0_pay9 (k0_pay24 x0) x3
def Bb : FVec Ideal S16x128 .f32 := mulf (mulf x4 (kkb x1 x6)) (k0_pay35 k0_pay9 x3)
def Kb : FVec Ideal S16x128 .f32 := mulf (kb x1 x4 x7) (k0_pay35 k0_pay9 x3)

/-- The outputs before their normalisation, and the states at the end. -/
def Ob : FVec Ideal S16x128 .f32 := outs (Ab x1 x3 x6) (Rb x0 x3) (Bb x1 x3 x4 x6) (Kb x1 x3 x4 x7) (k0_pay26 x2) (k0_pay3 x11)
def Sb : FVec Ideal S128x128 .f32 :=
  k0_pay57 (news (Ab x1 x3 x6) (Rb x0 x3) (Bb x1 x3 x4 x6) (Kb x1 x3 x4 x7) (k0_pay26 x2) (k0_pay3 x11)) (k0_pay56 (k0_pay34 (F := Ideal) k0_pay9 x3))

/-- The block's output. -/
def outb : FVec Ideal S16x128 .f32 :=
  k0_pay1 msk (k0_pay26 x2) x5 (k0_pay58 msk (k0_pay22 x9) (k0_pay23 x10) (Ob x0 x1 x2 x3 x4 x6 x7 x11)) (k0_pay59 (k0_pay24 x0) (kb x1 x4 x7)) (k0_pay60 (k0_pay21 x8))

/-- The recurrence's payloads, put together. -/
theorem Ob_eq (s : FVec Ideal S128x128 .f32) :
    k0_pay54 k0_pay4 (k0_pay26 x2)
      (k0_pay40 k0_pay4 (Rb x0 x3) (k0_pay38 k0_pay4 k0_pay9 x3 (k0_pay27 x6 x1) (k0_pay29 msk) (k0_pay30 x6 x1) (k0_pay31 x6 x1)) (k0_pay39 k0_pay4 k0_pay9 x3 (k0_pay27 x6 x1) (k0_pay29 msk) (k0_pay30 x6 x1) (k0_pay31 x6 x1)))
      (k0_pay44 k0_pay4 str x4 (kkb x1 x6) (kb x1 x4 x7) (k0_pay35 k0_pay9 x3) (Rb x0 x3) (k0_pay38 k0_pay4 k0_pay9 x3 (k0_pay27 x6 x1) (k0_pay29 msk) (k0_pay30 x6 x1) (k0_pay31 x6 x1)) (k0_pay39 k0_pay4 k0_pay9 x3 (k0_pay27 x6 x1) (k0_pay29 msk) (k0_pay30 x6 x1) (k0_pay31 x6 x1)))
      (k0_pay45 k0_pay4 inc x4 (kkb x1 x6) (kb x1 x4 x7) (k0_pay35 k0_pay9 x3) (Rb x0 x3) (k0_pay38 k0_pay4 k0_pay9 x3 (k0_pay27 x6 x1) (k0_pay29 msk) (k0_pay30 x6 x1) (k0_pay31 x6 x1)) (k0_pay39 k0_pay4 k0_pay9 x3 (k0_pay27 x6 x1) (k0_pay29 msk) (k0_pay30 x6 x1) (k0_pay31 x6 x1)))
      (k0_pay46 k0_pay4 inc x4 (kkb x1 x6) (kb x1 x4 x7) (k0_pay35 k0_pay9 x3) (Rb x0 x3) (k0_pay38 k0_pay4 k0_pay9 x3 (k0_pay27 x6 x1) (k0_pay29 msk) (k0_pay30 x6 x1) (k0_pay31 x6 x1)) (k0_pay39 k0_pay4 k0_pay9 x3 (k0_pay27 x6 x1) (k0_pay29 msk) (k0_pay30 x6 x1) (k0_pay31 x6 x1)))
      (k0_pay48 k0_pay4 str eye x4 (kkb x1 x6) (kb x1 x4 x7) (k0_pay35 k0_pay9 x3) (Rb x0 x3) (k0_pay38 k0_pay4 k0_pay9 x3 (k0_pay27 x6 x1) (k0_pay29 msk) (k0_pay30 x6 x1) (k0_pay31 x6 x1)) (k0_pay39 k0_pay4 k0_pay9 x3 (k0_pay27 x6 x1) (k0_pay29 msk) (k0_pay30 x6 x1) (k0_pay31 x6 x1)))
      (k0_pay49 k0_pay4 str x4 (kkb x1 x6) (kb x1 x4 x7) (k0_pay35 k0_pay9 x3) (Rb x0 x3) (k0_pay38 k0_pay4 k0_pay9 x3 (k0_pay27 x6 x1) (k0_pay29 msk) (k0_pay30 x6 x1) (k0_pay31 x6 x1)) (k0_pay39 k0_pay4 k0_pay9 x3 (k0_pay27 x6 x1) (k0_pay29 msk) (k0_pay30 x6 x1) (k0_pay31 x6 x1)))
      (k0_pay50 k0_pay4 str x4 (kkb x1 x6) (kb x1 x4 x7) (k0_pay35 k0_pay9 x3) (Rb x0 x3) (k0_pay38 k0_pay4 k0_pay9 x3 (k0_pay27 x6 x1) (k0_pay29 msk) (k0_pay30 x6 x1) (k0_pay31 x6 x1)) (k0_pay39 k0_pay4 k0_pay9 x3 (k0_pay27 x6 x1) (k0_pay29 msk) (k0_pay30 x6 x1) (k0_pay31 x6 x1)))
      nil s
      = outs (Ab x1 x3 x6) (Rb x0 x3) (Bb x1 x3 x4 x6) (Kb x1 x3 x4 x7) (k0_pay26 x2) s := rfl

end

section

variable (x0 x1 x2 : Vec Ideal S1x16x128 .f32) (x3 x4 x5 : Vec Ideal S16x128 .f32) (x6 x7 x8 x9 x10 : Vec Ideal S1x128 .f32) (x11 : Vec Ideal S1x1x128x128 .f32)

/-- What the body leaves in the output's block. -/
theorem pieces12 (c : Dev nD) (i : grid0.Coords) (arg3 : Memref sig .tc .vmem S1x16x128 .f32) (harg3 : arg3.IsWhole) (arg4 : Memref sig .tc .vmem S1x16x128 .f32) (harg4 : arg4.IsWhole) (arg5 : Memref sig .tc .vmem S1x16x128 .f32) (harg5 : arg5.IsWhole) (arg6 : Memref sig .tc .vmem S16x128 .f32) (harg6 : arg6.IsWhole) (arg7 : Memref sig .tc .vmem S16x128 .f32) (harg7 : arg7.IsWhole) (arg8 : Memref sig .tc .vmem S16x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x1x128x128 .f32) (harg14 : arg14.IsWhole) (arg15 : Memref sig .tc .vmem S16x128 .f32) (harg15 : arg15.IsWhole) (arg16 : Memref sig .tc .vmem S1x1x128x128 .f32) (harg16 : arg16.IsWhole) (arg17 : Memref sig .tc .vmem S128x128 .f32) (harg17 : arg17.IsWhole) (hc0 : cond0_0 i) (hc1 : cond0_1 i) :
    out0_A_12 c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11 = outb x0 x1 x2 x3 x4 x5 x6 x7 x8 x9 x10 x11 := by
  unfold out0_A_12
  rw [View.read_writes_eq_canon _ _ _ (cover0_A_12 c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11)]
  unfold kernelRun0_A
  dsimp only
  sl_unfold_words
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread]
  simp only [View.ld_unit_zero (S := S1x128) Common.off2, View.ld_unit_zero (S := S1x1x128x128) off4, View.readCov_unit_zero (S := S128x128) _ Common.off2]
  refine (View.canon_unit_zero (S := S16x128) off_rows k0_off2_inb _).trans ?_
  have e : ∀ x : Vec Ideal S16x128 .f32, View.ld (Val := Elt Ideal) x (Rect.unit (s := S16x128) k0_off2 S16x128.size k0_off2_inb) = x :=
    fun x => View.ld_unit_zero (S := S16x128) off_rows k0_off2_inb x
  have e1 : ∀ x : Vec Ideal S1x16x128 .f32, View.ld (Val := Elt Ideal) x (Rect.unit (s := S1x16x128) k0_off1 S1x16x128.size k0_off1_inb) = x :=
    fun x => View.ld_unit_zero (S := S1x16x128) off_block k0_off1_inb x
  conv_rhs => rw [← e1 x0, ← e1 x1, ← e1 x2, ← e x3, ← e x4, ← e x5]
  rfl

/-- What the body leaves in the states' block. -/
theorem pieces13 (c : Dev nD) (i : grid0.Coords) (arg3 : Memref sig .tc .vmem S1x16x128 .f32) (harg3 : arg3.IsWhole) (arg4 : Memref sig .tc .vmem S1x16x128 .f32) (harg4 : arg4.IsWhole) (arg5 : Memref sig .tc .vmem S1x16x128 .f32) (harg5 : arg5.IsWhole) (arg6 : Memref sig .tc .vmem S16x128 .f32) (harg6 : arg6.IsWhole) (arg7 : Memref sig .tc .vmem S16x128 .f32) (harg7 : arg7.IsWhole) (arg8 : Memref sig .tc .vmem S16x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x1x128x128 .f32) (harg14 : arg14.IsWhole) (arg15 : Memref sig .tc .vmem S16x128 .f32) (harg15 : arg15.IsWhole) (arg16 : Memref sig .tc .vmem S1x1x128x128 .f32) (harg16 : arg16.IsWhole) (arg17 : Memref sig .tc .vmem S128x128 .f32) (harg17 : arg17.IsWhole) (hc0 : cond0_0 i) (hc1 : cond0_1 i) :
    out0_A_13 c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11 = k0_pay2 (F := Ideal) (Sb x0 x1 x2 x3 x4 x6 x7 x11) := by
  unfold out0_A_13
  rw [View.read_writes_eq_canon _ _ _ (cover0_A_13 c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11)]
  unfold kernelRun0_A
  dsimp only
  sl_unfold_words
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread]
  simp only [View.ld_unit_zero (S := S1x128) Common.off2, View.ld_unit_zero (S := S1x1x128x128) off4, View.readCov_unit_zero (S := S128x128) _ Common.off2]
  refine (View.canon_unit_zero (S := S1x1x128x128) off4 _ _).trans ?_
  have e : ∀ x : Vec Ideal S16x128 .f32, View.ld (Val := Elt Ideal) x (Rect.unit (s := S16x128) k0_off2 S16x128.size k0_off2_inb) = x :=
    fun x => View.ld_unit_zero (S := S16x128) off_rows k0_off2_inb x
  have e1 : ∀ x : Vec Ideal S1x16x128 .f32, View.ld (Val := Elt Ideal) x (Rect.unit (s := S1x16x128) k0_off1 S1x16x128.size k0_off1_inb) = x :=
    fun x => View.ld_unit_zero (S := S1x16x128) off_block k0_off1_inb x
  conv_rhs => rw [← e1 x0, ← e1 x1, ← e1 x2, ← e x3, ← e x4]
  first
    | rfl
    | exact congrArg k0_pay2 (View.readCov_full (s := S128x128) arg17.view _ _ _ _)

end

end Cert.WkvBlock

end
-- ==== Proof.WkvEntry.lean ====
/- The entries of what the body of the RWKV call leaves in its two blocks, where the block's inputs are real numbers. -/
module

public import proofs.«01_k».proof.Proof.WkvBody

@[expose] public section

set_option maxRecDepth 16384

noncomputable section

namespace Cert.WkvBlock

open Cert.KernelWkvIdeal Cert.KernelWkvIdeal.Gen Cert.WkvMath
open Idealize.ShloMosaic hiding ix1 ix2 ix3 ix4
open Idealize.ShloMosaic.TcCoe Idealize.SL.Sem
open Idealize.ShloMosaic.Tactic
open Idealize.ShloMosaic.ValueIdx
open scoped BigOperators

/-- Two heads' arrays side by side. -/
def glue (f : Fin 2 → Fin 16 → Fin 64 → ℝ) (t : Fin 16) (l : Fin 128) : ℝ := f ⟨l.val / 64, by omega⟩ t ⟨l.val % 64, by omega⟩

theorem glue_at (f : Fin 2 → Fin 16 → Fin 64 → ℝ) (t : Fin 16) (g : Fin 2) (j : Fin 64) : glue f t (lane g j) = f g t j := by
  unfold glue
  have e : (⟨(lane g j).val / 64, by omega⟩ : Fin 2) = g := Fin.ext (by show (64 * g.val + j.val) / 64 = g.val; omega)
  have e1 : (⟨(lane g j).val % 64, by omega⟩ : Fin 64) = j := Fin.ext (by show (64 * g.val + j.val) % 64 = j.val; omega)
  rw [e, e1]

theorem hd_glue (f : Fin 2 → Fin 16 → Fin 64 → ℝ) (g : Fin 2) : hd g (glue f) = f g := funext fun t => funext fun j => glue_at f t g j

theorem glue_is {x : FVec Ideal S16x128 .f32} {f : Fin 2 → Fin 16 → Fin 64 → ℝ} (h : ∀ t g j, x (ix2 t (lane g j)) = ((f g t j : ℝ) : EReal)) : Is x (glue f) := by
  intro t l
  obtain ⟨g, j, rfl⟩ := exists_lane l
  rw [h, glue_at]

/-- A head's lanes of a row of lanes. -/
abbrev hv (g : Fin 2) (x : Fin 128 → ℝ) : Fin 64 → ℝ := fun j => x (lane g j)

theorem coe_max (x y : ℝ) : max (x : EReal) (y : EReal) = ((max x y : ℝ) : EReal) := (EReal.coe_strictMono.monotone.map_max).symm

/-- A row of lanes spread over a block's rows. -/
theorem over (b : FVec Ideal S1x128 .f32) (t : Fin 16) (j : Fin 128) : broadcastTo S16x128 b broadcasts_S1x128_S16x128 (ix2 t j) = b (ix2 0 j) :=
  broadcastTo_apply _ _ (ix2 t j) (ix2 (0 : Fin 1) j) (fun a => match a with
    | ⟨0, _⟩ => rfl
    | ⟨1, _⟩ => rfl)

section

variable {x0 x1 x2 : FVec Ideal S1x16x128 .f32} {x3 x4 x5 : FVec Ideal S16x128 .f32} {x6 x7 x8 x9 x10 : FVec Ideal S1x128 .f32} {x11 : FVec Ideal S1x1x128x128 .f32}
  {r k0 v lw a : Fin 16 → Fin 128 → ℝ} {kkw kaw rkw : Fin 128 → ℝ} {D : Fin 2 → Fin 64 → Fin 64 → ℝ}

theorem plain_is {x : FVec Ideal S1x16x128 .f32} {f : Fin 16 → Fin 128 → ℝ} (h : ∀ t l, x (ix3 0 t l) = ((f t l : ℝ) : EReal)) :
    Is (k0_pay24 (F := Ideal) x) f := fun t l => (Soft.flat x shapeCasts_S1x16x128_S16x128 t l).trans (h t l)

theorem key0_is (h1 : ∀ t l, x1 (ix3 0 t l) = ((k0 t l : ℝ) : EReal)) (h6 : ∀ l, x6 (ix2 0 l) = ((kkw l : ℝ) : EReal)) :
    Is (k0_pay27 (F := Ideal) x6 x1) (fun t l => k0 t l * kkw l) := by
  intro t l
  unfold k0_pay27
  rw [shapeCast_self, EReal.coe_mul]
  exact congrArg₂ (· * · : EReal → EReal → EReal) (plain_is h1 t l) ((over x6 t l).trans (h6 l))

/-- The removal keys of two heads. -/
abbrev kkP (k0 : Fin 16 → Fin 128 → ℝ) (kkw : Fin 128 → ℝ) : Fin 16 → Fin 128 → ℝ := glue fun g => kkR (hd g k0) (hv g kkw)

theorem kkb_is (h1 : ∀ t l, x1 (ix3 0 t l) = ((k0 t l : ℝ) : EReal)) (h6 : ∀ l, x6 (ix2 0 l) = ((kkw l : ℝ) : EReal)) :
    Is (kkb x1 x6) (kkP k0 kkw) := by
  refine glue_is fun t g j => ?_
  have hk := key0_is h1 h6
  have e := heads_at (hk.mul hk) t g j
  show k0_pay27 (F := Ideal) x6 x1 (ix2 t (lane g j)) * Ideal.rsqrt (max (heads (mulf (k0_pay27 (F := Ideal) x6 x1) (k0_pay27 (F := Ideal) x6 x1)) (ix2 t (lane g j))) tinyE) = _
  rw [e, hk, tiny_eq, coe_max, rsqrt_pos _ (lt_max_of_lt_right tiny_pos), ← EReal.coe_mul]
  rfl

/-- The keys of two heads. -/
abbrev kP (k0 a : Fin 16 → Fin 128 → ℝ) (kaw : Fin 128 → ℝ) : Fin 16 → Fin 128 → ℝ := fun t l => k0 t l * (1 + (a t l - 1) * kaw l)

theorem kb_is (h1 : ∀ t l, x1 (ix3 0 t l) = ((k0 t l : ℝ) : EReal)) (h4 : Is x4 a) (h7 : ∀ l, x7 (ix2 0 l) = ((kaw l : ℝ) : EReal)) :
    Is (kb x1 x4 x7) (kP k0 a kaw) := by
  intro t l
  unfold kb k0_pay33 k0_pay20
  rw [shapeCast_self]
  show k0_pay25 (F := Ideal) x1 (ix2 t l) * (oneE + (x4 (ix2 t l) - oneE) * broadcastTo S16x128 x7 broadcasts_S1x128_S16x128 (ix2 t l)) = _
  rw [over, h7, h4, oneE_eq, show k0_pay25 (F := Ideal) x1 (ix2 t l) = ((k0 t l : ℝ) : EReal) from plain_is h1 t l, ← EReal.coe_sub, ← EReal.coe_mul, ← EReal.coe_add, ← EReal.coe_mul]

/-- The starting states. -/
theorem start_is (h11 : ∀ i j, x11 (ix4 0 0 i j) = ((diag D i j : ℝ) : EReal)) : Is (k0_pay3 (F := Ideal) x11) (diag D) := by
  intro l j
  unfold k0_pay3
  rw [shapeCast_self]
  exact (shapeCast_apply _ _ (ix2 l j) (ix4 (0 : Fin 1) (0 : Fin 1) l j) (by
    rw [Shape.rowMajor_val_two, Shape.rowMajor_val_four]
    show ((0 * 1 + 0) * 128 + l.val) * 128 + j.val = l.val * 128 + j.val
    omega)).trans (h11 l j)

section

variable (h0 : ∀ t l, x0 (ix3 0 t l) = ((r t l : ℝ) : EReal)) (h1 : ∀ t l, x1 (ix3 0 t l) = ((k0 t l : ℝ) : EReal)) (h2 : ∀ t l, x2 (ix3 0 t l) = ((v t l : ℝ) : EReal))
  (h3 : Is x3 lw) (h4 : Is x4 a) (h6 : ∀ l, x6 (ix2 0 l) = ((kkw l : ℝ) : EReal)) (h7 : ∀ l, x7 (ix2 0 l) = ((kaw l : ℝ) : EReal))
  (h8 : ∀ l, x8 (ix2 0 l) = ((rkw l : ℝ) : EReal)) (h11 : ∀ i j, x11 (ix4 0 0 i j) = ((diag D i j : ℝ) : EReal))

include h1 h3 h6 in
theorem A_is : Is (Ab x1 x3 x6) (al lw (kkP k0 kkw)) := (kkb_is h1 h6).neg.mul ((running h3).sub h3).exp

include h0 h3 in
theorem R_is : Is (Rb x0 x3) (rt r lw) := (plain_is h0).mul (running h3).exp

include h1 h3 h4 h6 in
theorem B_is : Is (Bb x1 x3 x4 x6) (un_dec lw fun t l => a t l * kkP k0 kkw t l) := (h4.mul (kkb_is h1 h6)).mul (running h3).neg.exp

include h1 h3 h4 h7 in
theorem K_is : Is (Kb x1 x3 x4 x7) (un_dec lw (kP k0 a kaw)) := (kb_is h1 h4 h7).mul (running h3).neg.exp

/-- A head's outputs. -/
abbrev oP (r k0 v lw a : Fin 16 → Fin 128 → ℝ) (kkw kaw : Fin 128 → ℝ) (D : Fin 2 → Fin 64 → Fin 64 → ℝ) (g : Fin 2) : Fin 16 → Fin 64 → ℝ :=
  oR (hd g r) (hd g k0) (hd g v) (hd g lw) (hd g a) (hv g kkw) (hv g kaw) (D g)

include h0 h1 h2 h3 h4 h6 h7 h11 in
theorem O_is : Is (Ob x0 x1 x2 x3 x4 x6 x7 x11) (glue (oP r k0 v lw a kkw kaw D)) := by
  refine glue_is fun t g j => ?_
  refine (outs_at D r lw (kkP k0 kkw) (fun t l => a t l * kkP k0 kkw t l) (kP k0 a kaw) v (A_is h1 h3 h6) (R_is h0 h3) (B_is h1 h3 h4 h6) (K_is h1 h3 h4 h7)
    (plain_is h2) (start_is h11) t g j).trans (congrArg _ ?_)
  rw [show hd g (fun t l => a t l * kkP k0 kkw t l) = fun t j => hd g a t j * hd g (kkP k0 kkw) t j from rfl, hd_glue]
  rfl

include h1 h2 h3 h4 h6 h7 h11 in
/-- The final states. -/
theorem S_is : Is (Sb x0 x1 x2 x3 x4 x6 x7 x11)
    (diag fun g => sR (hd g k0) (hd g v) (hd g lw) (hd g a) (hv g kkw) (hv g kaw) (D g) 16) := by
  have h := last_is (R := Rb x0 x3) D lw (kkP k0 kkw) (fun t l => a t l * kkP k0 kkw t l) (kP k0 a kaw) v (running h3) (A_is h1 h3 h6) (B_is h1 h3 h4 h6) (K_is h1 h3 h4 h7)
    (plain_is h2) (start_is h11)
  have e : (fun g => st (D g) (hd g lw) (hd g (kkP k0 kkw)) (hd g fun t l => a t l * kkP k0 kkw t l) (hd g (kP k0 a kaw)) (hd g v) 16)
      = fun g => sR (hd g k0) (hd g v) (hd g lw) (hd g a) (hv g kkw) (hv g kaw) (D g) 16 := funext fun g => by
    rw [show hd g (fun t l => a t l * kkP k0 kkw t l) = fun t j => hd g a t j * hd g (kkP k0 kkw) t j from rfl, hd_glue]
    rfl
  rw [e] at h
  exact h

/-- A row normalised, over two heads. -/
theorem norm_at {O : FVec Ideal S16x128 .f32} {f : Fin 2 → Fin 16 → Fin 64 → ℝ} (hO : Is O (glue f)) (lng lnb : FVec Ideal S1x128 .f32) (t : Fin 16) (g : Fin 2) (j : Fin 64) :
    k0_pay58 (F := Ideal) msk lng lnb O (ix2 t (lane g j)) = ((nrm (f g t) j : ℝ) : EReal) * lng (ix2 0 (lane g j)) + lnb (ix2 0 (lane g j)) := by
  have hm : Is (mulf (heads O) (broadcast S16x128 (Scalar.ofBits .f32 0x3C800000#32))) (glue fun g t _ => mu (f g t)) := glue_is fun t g j => by
    show heads O (ix2 t (lane g j)) * invE = _
    rw [heads_at hO, invE_eq, ← EReal.coe_mul, hd_glue]
    rfl
  have hd' : Is (subf O (mulf (heads O) (broadcast S16x128 (Scalar.ofBits .f32 0x3C800000#32)))) (glue fun g t i => f g t i - mu (f g t)) := glue_is fun t g j => by
    rw [hO.sub hm]
    show ((glue f t (lane g j) - glue (fun g t _ => mu (f g t)) t (lane g j) : ℝ) : EReal) = _
    rw [glue_at, glue_at]
  have hq := hd'.mul hd'
  have e := heads_at hq t g j
  show (subf O (mulf (heads O) (broadcast S16x128 (Scalar.ofBits .f32 0x3C800000#32))) (ix2 t (lane g j))
      * Ideal.rsqrt (heads (mulf (subf O (mulf (heads O) (broadcast S16x128 (Scalar.ofBits .f32 0x3C800000#32)))) (subf O (mulf (heads O) (broadcast S16x128 (Scalar.ofBits .f32 0x3C800000#32))))) (ix2 t (lane g j)) * invE + epsE))
      * broadcastTo S16x128 lng broadcasts_S1x128_S16x128 (ix2 t (lane g j)) + broadcastTo S16x128 lnb broadcasts_S1x128_S16x128 (ix2 t (lane g j)) = _
  have e2 : (∑ i, hd g (fun t l => glue (fun g t i => f g t i - mu (f g t)) t l * glue (fun g t i => f g t i - mu (f g t)) t l) t i) * (1 / 64) = va (f g t) := by
    unfold va
    refine congrArg (· * (1 / 64 : ℝ)) (Finset.sum_congr rfl fun i _ => ?_)
    show glue (fun g t i => f g t i - mu (f g t)) t (lane g i) * glue (fun g t i => f g t i - mu (f g t)) t (lane g i) = _
    rw [glue_at]
  rw [e, invE_eq, eps_eq, ← EReal.coe_mul, e2, ← EReal.coe_add, rsqrt_pos _ (add_pos_of_nonneg_of_pos (va_nonneg _) eps_pos), hd', glue_at, ← EReal.coe_mul, over, over]
  rfl

include h0 h1 h2 h3 h4 h6 h7 h8 h11 in
/-- An entry of the block's output. -/
theorem out_at (t : Fin 16) (g : Fin 2) (j : Fin 64) :
    outb x0 x1 x2 x3 x4 x5 x6 x7 x8 x9 x10 x11 (ix2 t (lane g j))
      = outE (hd g r) (hd g k0) (hd g v) (hd g lw) (hd g a) (hv g kkw) (hv g kaw) (hv g rkw) (D g) (x9 (ix2 0 (lane g j))) (x10 (ix2 0 (lane g j)))
          (x5 (ix2 t (lane g j))) t j := by
  have hr : Is (k0_pay60 (F := Ideal) (k0_pay21 x8)) (fun _ l => rkw l) := fun t l => by
    unfold k0_pay60 k0_pay21
    rw [shapeCast_self, over, h8]
  have hb := heads_at (((plain_is h0).mul (kb_is h1 h4 h7)).mul hr) t g j
  have hn := norm_at (O_is h0 h1 h2 h3 h4 h6 h7 h11) (k0_pay22 (F := Ideal) x9) (k0_pay23 (F := Ideal) x10) t g j
  have hv2 : k0_pay26 (F := Ideal) x2 (ix2 t (lane g j)) = ((v t (lane g j) : ℝ) : EReal) := plain_is h2 t (lane g j)
  show (k0_pay58 (F := Ideal) msk (k0_pay22 x9) (k0_pay23 x10) (Ob x0 x1 x2 x3 x4 x6 x7 x11) (ix2 t (lane g j))
    + heads (mulf (mulf (k0_pay24 (F := Ideal) x0) (kb x1 x4 x7)) (k0_pay60 (F := Ideal) (k0_pay21 x8))) (ix2 t (lane g j)) * k0_pay26 (F := Ideal) x2 (ix2 t (lane g j)))
    * x5 (ix2 t (lane g j)) = _
  rw [hn, hb, hv2]
  unfold k0_pay22 k0_pay23
  rw [shapeCast_self, shapeCast_self]
  rfl

end

end

end Cert.WkvBlock

end
-- ==== Proof.WkvRows.lean ====
/- The RWKV call's reference: the rows its steps read, entry by entry, where the inputs are real numbers. -/
module

public import proofs.«01_k».proof.Proof.WkvSpec
public import proofs.«01_k».proof.Proof.Gen.ReferenceWkvIdeal.Read

@[expose] public section

set_option maxRecDepth 16384

noncomputable section

namespace Cert.WkvRef

open Cert.ReferenceWkvIdeal Cert.ReferenceWkvIdeal.Gen Cert.ReferenceWkvIdeal.Read Cert.WkvMath
open Idealize.ShloMosaic Idealize.ShloMosaic.ValueIdx
open scoped BigOperators

/-- A sum of real numbers, as an extended real number. -/
theorem coe_sum (f : Fin 64 → ℝ) : ((∑ i, f i : ℝ) : EReal) = ∑ i, (f i : EReal) :=
  map_sum (⟨⟨fun x : ℝ => (x : EReal), EReal.coe_zero⟩, EReal.coe_add⟩ : ℝ →+ EReal) f _

/-- The row of the whole array that row `t` of sequence `b` is. -/
abbrev grow (b : Fin 8) (t : Fin 16) : Fin 128 := ⟨16 * b.val + t.val, by omega⟩

/-- The column that entry `j` of head `h` is. -/
abbrev hcol (h : Fin 32) (j : Fin 64) : Fin 2048 := ⟨64 * h.val + j.val, by omega⟩

/-- Head `h` of sequence `b` of an array of rows. -/
abbrev hd (x : Fin 128 → Fin 2048 → ℝ) (b : Fin 8) (h : Fin 32) : Fin 16 → Fin 64 → ℝ := fun t j => x (grow b t) (hcol h j)

/-- Head `h` of a row of columns. -/
abbrev hv (x : Fin 2048 → ℝ) (h : Fin 32) : Fin 64 → ℝ := fun j => x (hcol h j)

/-- What the call is given, as real numbers, but for the gate and the two rows of the last normalisation. -/
structure Given where
  x : Fin 3 → Fin 128 → Fin 2048 → ℝ
  lw : Fin 128 → Fin 2048 → ℝ
  a : Fin 128 → Fin 2048 → ℝ
  kkw : Fin 2048 → ℝ
  kaw : Fin 2048 → ℝ
  rkw : Fin 32 → Fin 64 → ℝ
  s : Fin 8 → Fin 32 → Fin 64 → Fin 64 → ℝ

/-- The arrays hold these real numbers. -/
structure Holds (g : Given) (x0 : S3x128x2048.Idx → EReal) (x1 x2 : S128x2048.Idx → EReal) (x4 x5 : S2048.Idx → EReal) (x6 : S32x64.Idx → EReal)
    (x9 : S8x32x64x64.Idx → EReal) : Prop where
  x : ∀ c r l, x0 (ix3 c r l) = ((g.x c r l : ℝ) : EReal)
  lw : ∀ r l, x1 (ix2 r l) = ((g.lw r l : ℝ) : EReal)
  a : ∀ r l, x2 (ix2 r l) = ((g.a r l : ℝ) : EReal)
  kkw : ∀ l, x4 (ix1 l) = ((g.kkw l : ℝ) : EReal)
  kaw : ∀ l, x5 (ix1 l) = ((g.kaw l : ℝ) : EReal)
  rkw : ∀ h j, x6 (ix2 h j) = ((g.rkw h j : ℝ) : EReal)
  s : ∀ b h i j, x9 (ix4 b h i j) = ((g.s b h i j : ℝ) : EReal)

variable {g : Given} {x0 : S3x128x2048.Idx → EReal} {x1 x2 x3 : S128x2048.Idx → EReal} {x4 x5 : S2048.Idx → EReal} {x6 : S32x64.Idx → EReal}
  {x7 x8 : S2048.Idx → EReal} {x9 : S8x32x64x64.Idx → EReal}

/-- The removal keys, the keys and the states of head `h` of sequence `b`. -/
abbrev Given.kk (g : Given) (b : Fin 8) (h : Fin 32) : Fin 16 → Fin 64 → ℝ := kkR (hd (g.x 1) b h) (hv g.kkw h)
abbrev Given.k (g : Given) (b : Fin 8) (h : Fin 32) : Fin 16 → Fin 64 → ℝ := kR (hd (g.x 1) b h) (hd g.a b h) (hv g.kaw h)
abbrev Given.st (g : Given) (b : Fin 8) (h : Fin 32) (n : ℕ) : Fin 64 → Fin 64 → ℝ :=
  sR (hd (g.x 1) b h) (hd (g.x 2) b h) (hd g.lw b h) (hd g.a b h) (hv g.kkw h) (hv g.kaw h) (g.s b h) n
abbrev Given.o (g : Given) (b : Fin 8) (h : Fin 32) : Fin 16 → Fin 64 → ℝ :=
  oR (hd (g.x 0) b h) (hd (g.x 1) b h) (hd (g.x 2) b h) (hd g.lw b h) (hd g.a b h) (hv g.kkw h) (hv g.kaw h) (g.s b h)

/-- A row of one part of the projections. -/
theorem idx_part (p : Fin 3) (r : Fin 128) (l : Fin 2048) (i : S3x128x2048.Idx) (h0 : (i 0).val = p.val)
    (h1 : (i 1).val = (r.val * 2048 + l.val) / 2048 % 128) (h2 : (i 2).val = (r.val * 2048 + l.val) % 2048) : i = ix3 p r l := by
  refine funext fun a => Fin.ext ?_
  match a with
  | ⟨0, _⟩ => exact h0
  | ⟨1, _⟩ => refine h1.trans ?_; show _ = r.val; omega
  | ⟨2, _⟩ => refine h2.trans ?_; show _ = l.val; omega

theorem v1_at (H : Holds g x0 x1 x2 x4 x5 x6 x9) (r : Fin 128) (l : Fin 2048) : val_main_v1 (F := Ideal) x0 (ix2 r l) = ((g.x 0 r l : ℝ) : EReal) := by
  rw [val_main_v1_apply, val_main_v0_apply, idx_part 0 r l (idx_main_v0 (idx_main_v1 (ix2 r l))) (by rfl) (by rfl) (by rfl), H.x]

theorem v3_at (H : Holds g x0 x1 x2 x4 x5 x6 x9) (r : Fin 128) (l : Fin 2048) : val_main_v3 (F := Ideal) x0 (ix2 r l) = ((g.x 1 r l : ℝ) : EReal) := by
  rw [val_main_v3_apply, val_main_v2_apply, idx_part 1 r l (idx_main_v2 (idx_main_v3 (ix2 r l))) (by rfl) (by rfl) (by rfl), H.x]

theorem v5_at (H : Holds g x0 x1 x2 x4 x5 x6 x9) (r : Fin 128) (l : Fin 2048) : val_main_v5 (F := Ideal) x0 (ix2 r l) = ((g.x 2 r l : ℝ) : EReal) := by
  rw [val_main_v5_apply, val_main_v4_apply, idx_part 2 r l (idx_main_v4 (idx_main_v5 (ix2 r l))) (by rfl) (by rfl) (by rfl), H.x]

/-- The keys before they are cut into heads. -/
theorem v9_at (H : Holds g x0 x1 x2 x4 x5 x6 x9) (r : Fin 128) (l : Fin 2048) :
    val_main_v9 (F := Ideal) x0 x4 (ix2 r l) = ((g.x 1 r l * g.kkw l : ℝ) : EReal) := by
  have e : idx_main_v7 (idx_main_v8 (ix2 r l)) = ix1 l := funext fun a => match a with | ⟨0, _⟩ => rfl
  rw [val_main_v9_apply, val_main_v8_apply, val_main_v7_apply, e, v3_at H, H.kkw, EReal.coe_mul]
  rfl

theorem v26_at (H : Holds g x0 x1 x2 x4 x5 x6 x9) (r : Fin 128) (l : Fin 2048) :
    val_main_v26 (F := Ideal) x0 x2 x5 (ix2 r l) = ((g.x 1 r l * (1 + (g.a r l - 1) * g.kaw l) : ℝ) : EReal) := by
  have e : idx_main_v21 (idx_main_v22 (ix2 r l)) = ix1 l := funext fun a => match a with | ⟨0, _⟩ => rfl
  rw [val_main_v26_apply, val_main_v25_apply, val_main_v24_apply, val_main_v23_apply, val_main_v20_apply, val_main_v19_apply, val_main_v22_apply, val_main_v21_apply,
    e, v3_at H, H.kaw, H.a]
  show ((g.x 1 r l : ℝ) : EReal) * (oneE + (((g.a r l : ℝ) : EReal) - oneE) * ((g.kaw l : ℝ) : EReal)) = _
  rw [oneE_eq, ← EReal.coe_sub, ← EReal.coe_mul, ← EReal.coe_add, ← EReal.coe_mul]

/-- An entry of a head, of the array of rows. -/
theorem idx_head (b : Fin 8) (t : Fin 16) (h : Fin 32) (j : Fin 64) (i : S128x2048.Idx)
    (h0 : (i 0).val = (((b.val * 16 + t.val) * 32 + h.val) * 64 + j.val) / 2048)
    (h1 : (i 1).val = (((b.val * 16 + t.val) * 32 + h.val) * 64 + j.val) % 2048) : i = ix2 (grow b t) (hcol h j) := by
  refine funext fun a => Fin.ext ?_
  match a with
  | ⟨0, _⟩ => refine h0.trans ?_; show _ = 16 * b.val + t.val; omega
  | ⟨1, _⟩ => refine h1.trans ?_; show _ = 64 * h.val + j.val; omega

theorem v10_at (H : Holds g x0 x1 x2 x4 x5 x6 x9) (b : Fin 8) (t : Fin 16) (h : Fin 32) (j : Fin 64) :
    val_main_v10 (F := Ideal) x0 x4 (ix4 b t h j) = ((hd (g.x 1) b h t j * hv g.kkw h j : ℝ) : EReal) := by
  rw [val_main_v10_apply, idx_head b t h j (idx_main_v10 (ix4 b t h j)) (by rfl) (by rfl), v9_at H]

theorem v27_at (H : Holds g x0 x1 x2 x4 x5 x6 x9) (b : Fin 8) (t : Fin 16) (h : Fin 32) (j : Fin 64) :
    val_main_v27 (F := Ideal) x0 x2 x5 (ix4 b t h j) = ((g.k b h t j : ℝ) : EReal) := by
  rw [val_main_v27_apply, idx_head b t h j (idx_main_v27 (ix4 b t h j)) (by rfl) (by rfl), v26_at H]
  rfl

theorem v28_at (H : Holds g x0 x1 x2 x4 x5 x6 x9) (b : Fin 8) (t : Fin 16) (h : Fin 32) (j : Fin 64) :
    val_main_v28 (F := Ideal) x0 (ix4 b t h j) = ((hd (g.x 0) b h t j : ℝ) : EReal) := by
  rw [val_main_v28_apply, idx_head b t h j (idx_main_v28 (ix4 b t h j)) (by rfl) (by rfl), v1_at H]

theorem v29_at (H : Holds g x0 x1 x2 x4 x5 x6 x9) (b : Fin 8) (t : Fin 16) (h : Fin 32) (j : Fin 64) :
    val_main_v29 (F := Ideal) x0 (ix4 b t h j) = ((hd (g.x 2) b h t j : ℝ) : EReal) := by
  rw [val_main_v29_apply, idx_head b t h j (idx_main_v29 (ix4 b t h j)) (by rfl) (by rfl), v5_at H]

theorem v30_at (H : Holds g x0 x1 x2 x4 x5 x6 x9) (b : Fin 8) (t : Fin 16) (h : Fin 32) (j : Fin 64) :
    val_main_v30 (F := Ideal) x1 (ix4 b t h j) = ((Real.exp (hd g.lw b h t j) : ℝ) : EReal) := by
  rw [val_main_v30_apply, idx_head b t h j (idx_main_v30 (ix4 b t h j)) (by rfl) (by rfl), val_main_v6_apply, H.lw]
  rfl

/-- The removal keys. -/
theorem v18_at (H : Holds g x0 x1 x2 x4 x5 x6 x9) (b : Fin 8) (t : Fin 16) (h : Fin 32) (j : Fin 64) :
    val_main_v18 (F := Ideal) x0 x4 (ix4 b t h j) = ((g.kk b h t j : ℝ) : EReal) := by
  have e : idx_main_v13 (idx_main_v17 (ix4 b t h j)) = ix3 b t h := funext fun a => match a with | ⟨0, _⟩ => rfl | ⟨1, _⟩ => rfl | ⟨2, _⟩ => rfl
  have es : val_main_v12 (F := Ideal) x0 x4 (ix3 b t h)
      = ((∑ l, hd (g.x 1) b h t l * hv g.kkw h l * (hd (g.x 1) b h t l * hv g.kkw h l) : ℝ) : EReal) := by
    rw [val_main_v12_apply, val_main_cst_apply, show (FloatOps.ofBits FTy.f32 0x00000000#32 : Ideal .f32) = 0 from Ideal.ofBits_zero_f32, zero_add, coe_sum]
    refine Finset.sum_congr rfl fun l _ => ?_
    have ei : idx_main_v12 (ix3 b t h) l = ix4 b t h l := funext fun a => match a with | ⟨0, _⟩ => rfl | ⟨1, _⟩ => rfl | ⟨2, _⟩ => rfl | ⟨3, _⟩ => rfl
    rw [ei, val_main_v11_apply, v10_at H, EReal.coe_mul]
    rfl
  rw [val_main_v18_apply, val_main_v17_apply, val_main_v16_apply, val_main_v15_apply, val_main_v13_apply, val_main_v14_apply, val_main_cst_0_apply, e, es, v10_at H]
  show ((hd (g.x 1) b h t j * hv g.kkw h j : ℝ) : EReal)
    * Ideal.rsqrt (max ((∑ l, hd (g.x 1) b h t l * hv g.kkw h l * (hd (g.x 1) b h t l * hv g.kkw h l) : ℝ) : EReal) tinyE) = _
  rw [tiny_eq, (EReal.coe_strictMono.monotone.map_max).symm, rsqrt_pos _ (lt_max_of_lt_right tiny_pos), ← EReal.coe_mul]
  rfl

/-- The removal values. -/
theorem v32_at (H : Holds g x0 x1 x2 x4 x5 x6 x9) (b : Fin 8) (t : Fin 16) (h : Fin 32) (j : Fin 64) :
    val_main_v32 (F := Ideal) x0 x2 x4 (ix4 b t h j) = ((hd g.a b h t j * g.kk b h t j : ℝ) : EReal) := by
  rw [val_main_v32_apply, v18_at H, val_main_v31_apply, idx_head b t h j (idx_main_v31 (ix4 b t h j)) (by rfl) (by rfl), H.a, mul_comm (hd g.a b h t j), EReal.coe_mul]
  rfl

/-- An entry of one row of heads, of the array of all rows. -/
theorem idx_row (b : Fin 8) (t : Fin 16) (h : Fin 32) (j : Fin 64) (i : S8x16x32x64.Idx)
    (h0 : (i 0).val = ((b.val * 32 + h.val) * 64 + j.val) / 2048) (h1 : (i 1).val = t.val)
    (h2 : (i 2).val = ((b.val * 32 + h.val) * 64 + j.val) / 64 % 32) (h3 : (i 3).val = ((b.val * 32 + h.val) * 64 + j.val) % 64) : i = ix4 b t h j := by
  refine funext fun a => Fin.ext ?_
  match a with
  | ⟨0, _⟩ => refine h0.trans ?_; show _ = b.val; omega
  | ⟨1, _⟩ => exact h1
  | ⟨2, _⟩ => refine h2.trans ?_; show _ = h.val; omega
  | ⟨3, _⟩ => refine h3.trans ?_; show _ = j.val; omega

/-- One step's new state from the old one, over the real numbers. -/
theorem step_at (g : Given) (b : Fin 8) (h : Fin 32) (n : ℕ) (t : Fin 16) (ht : nth n = t) (i j : Fin 64) :
    ((g.st b h n i j : ℝ) : EReal) * ((Real.exp (hd g.lw b h t j) : ℝ) : EReal)
      - (∑ l, ((g.st b h n i l : ℝ) : EReal) * ((g.kk b h t l : ℝ) : EReal)) * ((hd g.a b h t j * g.kk b h t j : ℝ) : EReal)
      + ((hd (g.x 2) b h t i : ℝ) : EReal) * ((g.k b h t j : ℝ) : EReal) = ((g.st b h (n + 1) i j : ℝ) : EReal) := by
  subst ht
  simp only [← EReal.coe_mul, ← coe_sum, ← EReal.coe_sub, ← EReal.coe_add]
  rfl

/-- One step's output from the new state. -/
theorem read_at (g : Given) (b : Fin 8) (h : Fin 32) (t : Fin 16) (i : Fin 64) :
    (∑ l, ((g.st b h (t.val + 1) i l : ℝ) : EReal) * ((hd (g.x 0) b h t l : ℝ) : EReal)) = ((g.o b h t i : ℝ) : EReal) := by
  simp only [← EReal.coe_mul, ← coe_sum]
  rfl

end Cert.WkvRef

end
-- ==== Proof.WkvSteps.lean ====
/- The RWKV call's reference: the sixteen steps' states and outputs, entry by entry. -/
module

public import proofs.«01_k».proof.Proof.WkvRows

@[expose] public section

set_option maxRecDepth 16384

noncomputable section

namespace Cert.WkvRef

open Cert.ReferenceWkvIdeal Cert.ReferenceWkvIdeal.Gen Cert.ReferenceWkvIdeal.Read Cert.WkvMath
open Idealize.ShloMosaic Idealize.ShloMosaic.ValueIdx
open scoped BigOperators

variable {g : Given} {x0 : S3x128x2048.Idx → EReal} {x1 x2 : S128x2048.Idx → EReal} {x4 x5 : S2048.Idx → EReal} {x6 : S32x64.Idx → EReal}
  {x9 : S8x32x64x64.Idx → EReal}

/-- Sixteen single rows one below the other. -/
abbrev cats (y0 y1 y2 y3 y4 y5 y6 y7 y8 y9 y10 y11 y12 y13 y14 y15 : S8x1x32x64.Idx → EReal) : List ((s : Shape) × (s.Idx → EReal)) :=
  [⟨S8x1x32x64, y0⟩, ⟨S8x1x32x64, y1⟩, ⟨S8x1x32x64, y2⟩, ⟨S8x1x32x64, y3⟩, ⟨S8x1x32x64, y4⟩, ⟨S8x1x32x64, y5⟩, ⟨S8x1x32x64, y6⟩, ⟨S8x1x32x64, y7⟩, ⟨S8x1x32x64, y8⟩, ⟨S8x1x32x64, y9⟩, ⟨S8x1x32x64, y10⟩, ⟨S8x1x32x64, y11⟩, ⟨S8x1x32x64, y12⟩, ⟨S8x1x32x64, y13⟩, ⟨S8x1x32x64, y14⟩, ⟨S8x1x32x64, y15⟩]

theorem cat0 (y0 y1 y2 y3 y4 y5 y6 y7 y8 y9 y10 y11 y12 y13 y14 y15 : S8x1x32x64.Idx → EReal) (hc : Shape.Concatenates ((cats y0 y1 y2 y3 y4 y5 y6 y7 y8 y9 y10 y11 y12 y13 y14 y15).map (·.1)) S8x16x32x64 1) (b : Fin 8) (h : Fin 32) (i : Fin 64) :
    concatenate S8x16x32x64 1 (cats y0 y1 y2 y3 y4 y5 y6 y7 y8 y9 y10 y11 y12 y13 y14 y15) hc (ix4 b 0 h i) = y0 (ix4 b 0 h i) := by
  refine concatenate_apply_piece (t := S8x16x32x64) (1 : Fin 4) (cats y0 y1 y2 y3 y4 y5 y6 y7 y8 y9 y10 y11 y12 y13 y14 y15) hc (ix4 b 0 h i) 0 (show 0 < 16 by decide) S8x1x32x64 y0 rfl rfl 0 (by simp) (ix4 b 0 h i)
    (fun a ha => ?_) (show 0 + 0 = 0 from rfl)
  match a with
  | ⟨0, _⟩ => rfl
  | ⟨1, _⟩ => exact absurd rfl ha
  | ⟨2, _⟩ => rfl
  | ⟨3, _⟩ => rfl

theorem cat1 (y0 y1 y2 y3 y4 y5 y6 y7 y8 y9 y10 y11 y12 y13 y14 y15 : S8x1x32x64.Idx → EReal) (hc : Shape.Concatenates ((cats y0 y1 y2 y3 y4 y5 y6 y7 y8 y9 y10 y11 y12 y13 y14 y15).map (·.1)) S8x16x32x64 1) (b : Fin 8) (h : Fin 32) (i : Fin 64) :
    concatenate S8x16x32x64 1 (cats y0 y1 y2 y3 y4 y5 y6 y7 y8 y9 y10 y11 y12 y13 y14 y15) hc (ix4 b 1 h i) = y1 (ix4 b 0 h i) := by
  refine concatenate_apply_piece (t := S8x16x32x64) (1 : Fin 4) (cats y0 y1 y2 y3 y4 y5 y6 y7 y8 y9 y10 y11 y12 y13 y14 y15) hc (ix4 b 1 h i) 1 (show 1 < 16 by decide) S8x1x32x64 y1 rfl rfl 1 (by simp) (ix4 b 0 h i)
    (fun a ha => ?_) (show 1 + 0 = 1 from rfl)
  match a with
  | ⟨0, _⟩ => rfl
  | ⟨1, _⟩ => exact absurd rfl ha
  | ⟨2, _⟩ => rfl
  | ⟨3, _⟩ => rfl

theorem cat2 (y0 y1 y2 y3 y4 y5 y6 y7 y8 y9 y10 y11 y12 y13 y14 y15 : S8x1x32x64.Idx → EReal) (hc : Shape.Concatenates ((cats y0 y1 y2 y3 y4 y5 y6 y7 y8 y9 y10 y11 y12 y13 y14 y15).map (·.1)) S8x16x32x64 1) (b : Fin 8) (h : Fin 32) (i : Fin 64) :
    concatenate S8x16x32x64 1 (cats y0 y1 y2 y3 y4 y5 y6 y7 y8 y9 y10 y11 y12 y13 y14 y15) hc (ix4 b 2 h i) = y2 (ix4 b 0 h i) := by
  refine concatenate_apply_piece (t := S8x16x32x64) (1 : Fin 4) (cats y0 y1 y2 y3 y4 y5 y6 y7 y8 y9 y10 y11 y12 y13 y14 y15) hc (ix4 b 2 h i) 2 (show 2 < 16 by decide) S8x1x32x64 y2 rfl rfl 2 (by simp) (ix4 b 0 h i)
    (fun a ha => ?_) (show 2 + 0 = 2 from rfl)
  match a with
  | ⟨0, _⟩ => rfl
  | ⟨1, _⟩ => exact absurd rfl ha
  | ⟨2, _⟩ => rfl
  | ⟨3, _⟩ => rfl

theorem cat3 (y0 y1 y2 y3 y4 y5 y6 y7 y8 y9 y10 y11 y12 y13 y14 y15 : S8x1x32x64.Idx → EReal) (hc : Shape.Concatenates ((cats y0 y1 y2 y3 y4 y5 y6 y7 y8 y9 y10 y11 y12 y13 y14 y15).map (·.1)) S8x16x32x64 1) (b : Fin 8) (h : Fin 32) (i : Fin 64) :
    concatenate S8x16x32x64 1 (cats y0 y1 y2 y3 y4 y5 y6 y7 y8 y9 y10 y11 y12 y13 y14 y15) hc (ix4 b 3 h i) = y3 (ix4 b 0 h i) := by
  refine concatenate_apply_piece (t := S8x16x32x64) (1 : Fin 4) (cats y0 y1 y2 y3 y4 y5 y6 y7 y8 y9 y10 y11 y12 y13 y14 y15) hc (ix4 b 3 h i) 3 (show 3 < 16 by decide) S8x1x32x64 y3 rfl rfl 3 (by simp) (ix4 b 0 h i)
    (fun a ha => ?_) (show 3 + 0 = 3 from rfl)
  match a with
  | ⟨0, _⟩ => rfl
  | ⟨1, _⟩ => exact absurd rfl ha
  | ⟨2, _⟩ => rfl
  | ⟨3, _⟩ => rfl

theorem cat4 (y0 y1 y2 y3 y4 y5 y6 y7 y8 y9 y10 y11 y12 y13 y14 y15 : S8x1x32x64.Idx → EReal) (hc : Shape.Concatenates ((cats y0 y1 y2 y3 y4 y5 y6 y7 y8 y9 y10 y11 y12 y13 y14 y15).map (·.1)) S8x16x32x64 1) (b : Fin 8) (h : Fin 32) (i : Fin 64) :
    concatenate S8x16x32x64 1 (cats y0 y1 y2 y3 y4 y5 y6 y7 y8 y9 y10 y11 y12 y13 y14 y15) hc (ix4 b 4 h i) = y4 (ix4 b 0 h i) := by
  refine concatenate_apply_piece (t := S8x16x32x64) (1 : Fin 4) (cats y0 y1 y2 y3 y4 y5 y6 y7 y8 y9 y10 y11 y12 y13 y14 y15) hc (ix4 b 4 h i) 4 (show 4 < 16 by decide) S8x1x32x64 y4 rfl rfl 4 (by simp) (ix4 b 0 h i)
    (fun a ha => ?_) (show 4 + 0 = 4 from rfl)
  match a with
  | ⟨0, _⟩ => rfl
  | ⟨1, _⟩ => exact absurd rfl ha
  | ⟨2, _⟩ => rfl
  | ⟨3, _⟩ => rfl

theorem cat5 (y0 y1 y2 y3 y4 y5 y6 y7 y8 y9 y10 y11 y12 y13 y14 y15 : S8x1x32x64.Idx → EReal) (hc : Shape.Concatenates ((cats y0 y1 y2 y3 y4 y5 y6 y7 y8 y9 y10 y11 y12 y13 y14 y15).map (·.1)) S8x16x32x64 1) (b : Fin 8) (h : Fin 32) (i : Fin 64) :
    concatenate S8x16x32x64 1 (cats y0 y1 y2 y3 y4 y5 y6 y7 y8 y9 y10 y11 y12 y13 y14 y15) hc (ix4 b 5 h i) = y5 (ix4 b 0 h i) := by
  refine concatenate_apply_piece (t := S8x16x32x64) (1 : Fin 4) (cats y0 y1 y2 y3 y4 y5 y6 y7 y8 y9 y10 y11 y12 y13 y14 y15) hc (ix4 b 5 h i) 5 (show 5 < 16 by decide) S8x1x32x64 y5 rfl rfl 5 (by simp) (ix4 b 0 h i)
    (fun a ha => ?_) (show 5 + 0 = 5 from rfl)
  match a with
  | ⟨0, _⟩ => rfl
  | ⟨1, _⟩ => exact absurd rfl ha
  | ⟨2, _⟩ => rfl
  | ⟨3, _⟩ => rfl

theorem cat6 (y0 y1 y2 y3 y4 y5 y6 y7 y8 y9 y10 y11 y12 y13 y14 y15 : S8x1x32x64.Idx → EReal) (hc : Shape.Concatenates ((cats y0 y1 y2 y3 y4 y5 y6 y7 y8 y9 y10 y11 y12 y13 y14 y15).map (·.1)) S8x16x32x64 1) (b : Fin 8) (h : Fin 32) (i : Fin 64) :
    concatenate S8x16x32x64 1 (cats y0 y1 y2 y3 y4 y5 y6 y7 y8 y9 y10 y11 y12 y13 y14 y15) hc (ix4 b 6 h i) = y6 (ix4 b 0 h i) := by
  refine concatenate_apply_piece (t := S8x16x32x64) (1 : Fin 4) (cats y0 y1 y2 y3 y4 y5 y6 y7 y8 y9 y10 y11 y12 y13 y14 y15) hc (ix4 b 6 h i) 6 (show 6 < 16 by decide) S8x1x32x64 y6 rfl rfl 6 (by simp) (ix4 b 0 h i)
    (fun a ha => ?_) (show 6 + 0 = 6 from rfl)
  match a with
  | ⟨0, _⟩ => rfl
  | ⟨1, _⟩ => exact absurd rfl ha
  | ⟨2, _⟩ => rfl
  | ⟨3, _⟩ => rfl

theorem cat7 (y0 y1 y2 y3 y4 y5 y6 y7 y8 y9 y10 y11 y12 y13 y14 y15 : S8x1x32x64.Idx → EReal) (hc : Shape.Concatenates ((cats y0 y1 y2 y3 y4 y5 y6 y7 y8 y9 y10 y11 y12 y13 y14 y15).map (·.1)) S8x16x32x64 1) (b : Fin 8) (h : Fin 32) (i : Fin 64) :
    concatenate S8x16x32x64 1 (cats y0 y1 y2 y3 y4 y5 y6 y7 y8 y9 y10 y11 y12 y13 y14 y15) hc (ix4 b 7 h i) = y7 (ix4 b 0 h i) := by
  refine concatenate_apply_piece (t := S8x16x32x64) (1 : Fin 4) (cats y0 y1 y2 y3 y4 y5 y6 y7 y8 y9 y10 y11 y12 y13 y14 y15) hc (ix4 b 7 h i) 7 (show 7 < 16 by decide) S8x1x32x64 y7 rfl rfl 7 (by simp) (ix4 b 0 h i)
    (fun a ha => ?_) (show 7 + 0 = 7 from rfl)
  match a with
  | ⟨0, _⟩ => rfl
  | ⟨1, _⟩ => exact absurd rfl ha
  | ⟨2, _⟩ => rfl
  | ⟨3, _⟩ => rfl

theorem cat8 (y0 y1 y2 y3 y4 y5 y6 y7 y8 y9 y10 y11 y12 y13 y14 y15 : S8x1x32x64.Idx → EReal) (hc : Shape.Concatenates ((cats y0 y1 y2 y3 y4 y5 y6 y7 y8 y9 y10 y11 y12 y13 y14 y15).map (·.1)) S8x16x32x64 1) (b : Fin 8) (h : Fin 32) (i : Fin 64) :
    concatenate S8x16x32x64 1 (cats y0 y1 y2 y3 y4 y5 y6 y7 y8 y9 y10 y11 y12 y13 y14 y15) hc (ix4 b 8 h i) = y8 (ix4 b 0 h i) := by
  refine concatenate_apply_piece (t := S8x16x32x64) (1 : Fin 4) (cats y0 y1 y2 y3 y4 y5 y6 y7 y8 y9 y10 y11 y12 y13 y14 y15) hc (ix4 b 8 h i) 8 (show 8 < 16 by decide) S8x1x32x64 y8 rfl rfl 8 (by simp) (ix4 b 0 h i)
    (fun a ha => ?_) (show 8 + 0 = 8 from rfl)
  match a with
  | ⟨0, _⟩ => rfl
  | ⟨1, _⟩ => exact absurd rfl ha
  | ⟨2, _⟩ => rfl
  | ⟨3, _⟩ => rfl

theorem cat9 (y0 y1 y2 y3 y4 y5 y6 y7 y8 y9 y10 y11 y12 y13 y14 y15 : S8x1x32x64.Idx → EReal) (hc : Shape.Concatenates ((cats y0 y1 y2 y3 y4 y5 y6 y7 y8 y9 y10 y11 y12 y13 y14 y15).map (·.1)) S8x16x32x64 1) (b : Fin 8) (h : Fin 32) (i : Fin 64) :
    concatenate S8x16x32x64 1 (cats y0 y1 y2 y3 y4 y5 y6 y7 y8 y9 y10 y11 y12 y13 y14 y15) hc (ix4 b 9 h i) = y9 (ix4 b 0 h i) := by
  refine concatenate_apply_piece (t := S8x16x32x64) (1 : Fin 4) (cats y0 y1 y2 y3 y4 y5 y6 y7 y8 y9 y10 y11 y12 y13 y14 y15) hc (ix4 b 9 h i) 9 (show 9 < 16 by decide) S8x1x32x64 y9 rfl rfl 9 (by simp) (ix4 b 0 h i)
    (fun a ha => ?_) (show 9 + 0 = 9 from rfl)
  match a with
  | ⟨0, _⟩ => rfl
  | ⟨1, _⟩ => exact absurd rfl ha
  | ⟨2, _⟩ => rfl
  | ⟨3, _⟩ => rfl

theorem cat10 (y0 y1 y2 y3 y4 y5 y6 y7 y8 y9 y10 y11 y12 y13 y14 y15 : S8x1x32x64.Idx → EReal) (hc : Shape.Concatenates ((cats y0 y1 y2 y3 y4 y5 y6 y7 y8 y9 y10 y11 y12 y13 y14 y15).map (·.1)) S8x16x32x64 1) (b : Fin 8) (h : Fin 32) (i : Fin 64) :
    concatenate S8x16x32x64 1 (cats y0 y1 y2 y3 y4 y5 y6 y7 y8 y9 y10 y11 y12 y13 y14 y15) hc (ix4 b 10 h i) = y10 (ix4 b 0 h i) := by
  refine concatenate_apply_piece (t := S8x16x32x64) (1 : Fin 4) (cats y0 y1 y2 y3 y4 y5 y6 y7 y8 y9 y10 y11 y12 y13 y14 y15) hc (ix4 b 10 h i) 10 (show 10 < 16 by decide) S8x1x32x64 y10 rfl rfl 10 (by simp) (ix4 b 0 h i)
    (fun a ha => ?_) (show 10 + 0 = 10 from rfl)
  match a with
  | ⟨0, _⟩ => rfl
  | ⟨1, _⟩ => exact absurd rfl ha
  | ⟨2, _⟩ => rfl
  | ⟨3, _⟩ => rfl

theorem cat11 (y0 y1 y2 y3 y4 y5 y6 y7 y8 y9 y10 y11 y12 y13 y14 y15 : S8x1x32x64.Idx → EReal) (hc : Shape.Concatenates ((cats y0 y1 y2 y3 y4 y5 y6 y7 y8 y9 y10 y11 y12 y13 y14 y15).map (·.1)) S8x16x32x64 1) (b : Fin 8) (h : Fin 32) (i : Fin 64) :
    concatenate S8x16x32x64 1 (cats y0 y1 y2 y3 y4 y5 y6 y7 y8 y9 y10 y11 y12 y13 y14 y15) hc (ix4 b 11 h i) = y11 (ix4 b 0 h i) := by
  refine concatenate_apply_piece (t := S8x16x32x64) (1 : Fin 4) (cats y0 y1 y2 y3 y4 y5 y6 y7 y8 y9 y10 y11 y12 y13 y14 y15) hc (ix4 b 11 h i) 11 (show 11 < 16 by decide) S8x1x32x64 y11 rfl rfl 11 (by simp) (ix4 b 0 h i)
    (fun a ha => ?_) (show 11 + 0 = 11 from rfl)
  match a with
  | ⟨0, _⟩ => rfl
  | ⟨1, _⟩ => exact absurd rfl ha
  | ⟨2, _⟩ => rfl
  | ⟨3, _⟩ => rfl

theorem cat12 (y0 y1 y2 y3 y4 y5 y6 y7 y8 y9 y10 y11 y12 y13 y14 y15 : S8x1x32x64.Idx → EReal) (hc : Shape.Concatenates ((cats y0 y1 y2 y3 y4 y5 y6 y7 y8 y9 y10 y11 y12 y13 y14 y15).map (·.1)) S8x16x32x64 1) (b : Fin 8) (h : Fin 32) (i : Fin 64) :
    concatenate S8x16x32x64 1 (cats y0 y1 y2 y3 y4 y5 y6 y7 y8 y9 y10 y11 y12 y13 y14 y15) hc (ix4 b 12 h i) = y12 (ix4 b 0 h i) := by
  refine concatenate_apply_piece (t := S8x16x32x64) (1 : Fin 4) (cats y0 y1 y2 y3 y4 y5 y6 y7 y8 y9 y10 y11 y12 y13 y14 y15) hc (ix4 b 12 h i) 12 (show 12 < 16 by decide) S8x1x32x64 y12 rfl rfl 12 (by simp) (ix4 b 0 h i)
    (fun a ha => ?_) (show 12 + 0 = 12 from rfl)
  match a with
  | ⟨0, _⟩ => rfl
  | ⟨1, _⟩ => exact absurd rfl ha
  | ⟨2, _⟩ => rfl
  | ⟨3, _⟩ => rfl

theorem cat13 (y0 y1 y2 y3 y4 y5 y6 y7 y8 y9 y10 y11 y12 y13 y14 y15 : S8x1x32x64.Idx → EReal) (hc : Shape.Concatenates ((cats y0 y1 y2 y3 y4 y5 y6 y7 y8 y9 y10 y11 y12 y13 y14 y15).map (·.1)) S8x16x32x64 1) (b : Fin 8) (h : Fin 32) (i : Fin 64) :
    concatenate S8x16x32x64 1 (cats y0 y1 y2 y3 y4 y5 y6 y7 y8 y9 y10 y11 y12 y13 y14 y15) hc (ix4 b 13 h i) = y13 (ix4 b 0 h i) := by
  refine concatenate_apply_piece (t := S8x16x32x64) (1 : Fin 4) (cats y0 y1 y2 y3 y4 y5 y6 y7 y8 y9 y10 y11 y12 y13 y14 y15) hc (ix4 b 13 h i) 13 (show 13 < 16 by decide) S8x1x32x64 y13 rfl rfl 13 (by simp) (ix4 b 0 h i)
    (fun a ha => ?_) (show 13 + 0 = 13 from rfl)
  match a with
  | ⟨0, _⟩ => rfl
  | ⟨1, _⟩ => exact absurd rfl ha
  | ⟨2, _⟩ => rfl
  | ⟨3, _⟩ => rfl

theorem cat14 (y0 y1 y2 y3 y4 y5 y6 y7 y8 y9 y10 y11 y12 y13 y14 y15 : S8x1x32x64.Idx → EReal) (hc : Shape.Concatenates ((cats y0 y1 y2 y3 y4 y5 y6 y7 y8 y9 y10 y11 y12 y13 y14 y15).map (·.1)) S8x16x32x64 1) (b : Fin 8) (h : Fin 32) (i : Fin 64) :
    concatenate S8x16x32x64 1 (cats y0 y1 y2 y3 y4 y5 y6 y7 y8 y9 y10 y11 y12 y13 y14 y15) hc (ix4 b 14 h i) = y14 (ix4 b 0 h i) := by
  refine concatenate_apply_piece (t := S8x16x32x64) (1 : Fin 4) (cats y0 y1 y2 y3 y4 y5 y6 y7 y8 y9 y10 y11 y12 y13 y14 y15) hc (ix4 b 14 h i) 14 (show 14 < 16 by decide) S8x1x32x64 y14 rfl rfl 14 (by simp) (ix4 b 0 h i)
    (fun a ha => ?_) (show 14 + 0 = 14 from rfl)
  match a with
  | ⟨0, _⟩ => rfl
  | ⟨1, _⟩ => exact absurd rfl ha
  | ⟨2, _⟩ => rfl
  | ⟨3, _⟩ => rfl

theorem cat15 (y0 y1 y2 y3 y4 y5 y6 y7 y8 y9 y10 y11 y12 y13 y14 y15 : S8x1x32x64.Idx → EReal) (hc : Shape.Concatenates ((cats y0 y1 y2 y3 y4 y5 y6 y7 y8 y9 y10 y11 y12 y13 y14 y15).map (·.1)) S8x16x32x64 1) (b : Fin 8) (h : Fin 32) (i : Fin 64) :
    concatenate S8x16x32x64 1 (cats y0 y1 y2 y3 y4 y5 y6 y7 y8 y9 y10 y11 y12 y13 y14 y15) hc (ix4 b 15 h i) = y15 (ix4 b 0 h i) := by
  refine concatenate_apply_piece (t := S8x16x32x64) (1 : Fin 4) (cats y0 y1 y2 y3 y4 y5 y6 y7 y8 y9 y10 y11 y12 y13 y14 y15) hc (ix4 b 15 h i) 15 (show 15 < 16 by decide) S8x1x32x64 y15 rfl rfl 15 (by simp) (ix4 b 0 h i)
    (fun a ha => ?_) (show 15 + 0 = 15 from rfl)
  match a with
  | ⟨0, _⟩ => rfl
  | ⟨1, _⟩ => exact absurd rfl ha
  | ⟨2, _⟩ => rfl
  | ⟨3, _⟩ => rfl

/-- Step 0: the state. -/
theorem s0 (H : Holds g x0 x1 x2 x4 x5 x6 x9) (b : Fin 8) (h : Fin 32) (i j : Fin 64) :
    val_main_v58 (F := Ideal) x0 x1 x2 x4 x5 x9 (ix4 b h i j) = ((g.st b h 1 i j : ℝ) : EReal) := by
  have ed : val_main_v36 (F := Ideal) x1 (ix4 b h i j) = ((Real.exp (hd g.lw b h 0 j) : ℝ) : EReal) := by
    rw [val_main_v36_apply, val_main_v35_apply, val_main_v34_apply, val_main_v33_apply, idx_row b 0 h j (idx_main_v33 (idx_main_v34 (idx_main_v35 (idx_main_v36 (ix4 b h i j))))) (by rfl) (by rfl) (by rfl) (by rfl), v30_at H]
  have ek : ∀ l, val_main_v39 (F := Ideal) x0 x4 (ix3 b h l) = ((g.kk b h 0 l : ℝ) : EReal) := fun l => by
    rw [val_main_v39_apply, val_main_v38_apply, idx_row b 0 h l (idx_main_v38 (idx_main_v39 (ix3 b h l))) (by rfl) (by rfl) (by rfl) (by rfl), v18_at H]
  have eq : val_main_v45 (F := Ideal) x0 x4 x9 (ix4 b h i j) = ∑ l, ((g.st b h 0 i l : ℝ) : EReal) * ((g.kk b h 0 l : ℝ) : EReal) := by
    have e : idx_main_v41 (idx_main_v45 (ix4 b h i j)) = ix3 b h i := funext fun a => match a with | ⟨0, _⟩ => rfl | ⟨1, _⟩ => rfl | ⟨2, _⟩ => rfl
    rw [val_main_v45_apply, val_main_v41_apply, e, val_main_v40_apply]
    refine Finset.sum_congr rfl fun l _ => congrArg₂ (· * · : EReal → EReal → EReal) ?_ ?_
    · rw [show lidx_main_v40 (ix3 b h i) l = ix4 b h i l from funext fun a => match a with | ⟨0, _⟩ => rfl | ⟨1, _⟩ => rfl | ⟨2, _⟩ => rfl | ⟨3, _⟩ => rfl]
      exact H.s b h i l
    · rw [show ridx_main_v40 (ix3 b h i) l = ix3 b h l from funext fun a => match a with | ⟨0, _⟩ => rfl | ⟨1, _⟩ => rfl | ⟨2, _⟩ => rfl]
      exact ek l
  have ea : val_main_v46 (F := Ideal) x0 x2 x4 (ix4 b h i j) = ((hd g.a b h 0 j * g.kk b h 0 j : ℝ) : EReal) := by
    rw [val_main_v46_apply, val_main_v44_apply, val_main_v43_apply, val_main_v42_apply, idx_row b 0 h j (idx_main_v42 (idx_main_v43 (idx_main_v44 (idx_main_v46 (ix4 b h i j))))) (by rfl) (by rfl) (by rfl) (by rfl), v32_at H]
  have ev : val_main_v55 (F := Ideal) x0 (ix4 b h i j) = ((hd (g.x 2) b h 0 i : ℝ) : EReal) := by
    rw [val_main_v55_apply, val_main_v51_apply, val_main_v50_apply, val_main_v49_apply, idx_row b 0 h i (idx_main_v49 (idx_main_v50 (idx_main_v51 (idx_main_v55 (ix4 b h i j))))) (by rfl) (by rfl) (by rfl) (by rfl), v29_at H]
  have ew : val_main_v56 (F := Ideal) x0 x2 x5 (ix4 b h i j) = ((g.k b h 0 j : ℝ) : EReal) := by
    rw [val_main_v56_apply, val_main_v54_apply, val_main_v53_apply, val_main_v52_apply, idx_row b 0 h j (idx_main_v52 (idx_main_v53 (idx_main_v54 (idx_main_v56 (ix4 b h i j))))) (by rfl) (by rfl) (by rfl) (by rfl), v27_at H]
  rw [val_main_v58_apply, val_main_v48_apply, val_main_v37_apply, val_main_v47_apply, val_main_v57_apply, ed, eq, ea, ev, ew, H.s b h i j]
  exact step_at g b h 0 0 (by decide) i j

/-- Step 0: the output. -/
theorem o0 (H : Holds g x0 x1 x2 x4 x5 x6 x9) (b : Fin 8) (h : Fin 32) (i : Fin 64) :
    val_main_v513 (F := Ideal) x0 x1 x2 x4 x5 x9 (ix4 b 0 h i) = ((g.o b h 0 i : ℝ) : EReal) := by
  have er : ∀ l, val_main_v60 (F := Ideal) x0 (ix3 b h l) = ((hd (g.x 0) b h 0 l : ℝ) : EReal) := fun l => by
    rw [val_main_v60_apply, val_main_v59_apply, idx_row b 0 h l (idx_main_v59 (idx_main_v60 (ix3 b h l))) (by rfl) (by rfl) (by rfl) (by rfl), v28_at H]
  unfold val_main_v513
  refine (cat0 _ _ _ _ _ _ _ _ _ _ _ _ _ _ _ _ _ b h i).trans ?_
  · have e : idx_main_v497 (ix4 b 0 h i) = ix3 b h i := funext fun a => match a with | ⟨0, _⟩ => rfl | ⟨1, _⟩ => rfl | ⟨2, _⟩ => rfl
    rw [val_main_v497_apply, e, val_main_v61_apply, ← read_at]
    refine Finset.sum_congr rfl fun l _ => congrArg₂ (· * · : EReal → EReal → EReal) ?_ ?_
    · rw [show lidx_main_v61 (ix3 b h i) l = ix4 b h i l from funext fun a => match a with | ⟨0, _⟩ => rfl | ⟨1, _⟩ => rfl | ⟨2, _⟩ => rfl | ⟨3, _⟩ => rfl]
      exact s0 H b h i l
    · rw [show ridx_main_v61 (ix3 b h i) l = ix3 b h l from funext fun a => match a with | ⟨0, _⟩ => rfl | ⟨1, _⟩ => rfl | ⟨2, _⟩ => rfl]
      exact er l

/-- Step 1: the state. -/
theorem s1 (H : Holds g x0 x1 x2 x4 x5 x6 x9) (b : Fin 8) (h : Fin 32) (i j : Fin 64) :
    val_main_v87 (F := Ideal) x0 x1 x2 x4 x5 x9 (ix4 b h i j) = ((g.st b h 2 i j : ℝ) : EReal) := by
  have ed : val_main_v65 (F := Ideal) x1 (ix4 b h i j) = ((Real.exp (hd g.lw b h 1 j) : ℝ) : EReal) := by
    rw [val_main_v65_apply, val_main_v64_apply, val_main_v63_apply, val_main_v62_apply, idx_row b 1 h j (idx_main_v62 (idx_main_v63 (idx_main_v64 (idx_main_v65 (ix4 b h i j))))) (by rfl) (by rfl) (by rfl) (by rfl), v30_at H]
  have ek : ∀ l, val_main_v68 (F := Ideal) x0 x4 (ix3 b h l) = ((g.kk b h 1 l : ℝ) : EReal) := fun l => by
    rw [val_main_v68_apply, val_main_v67_apply, idx_row b 1 h l (idx_main_v67 (idx_main_v68 (ix3 b h l))) (by rfl) (by rfl) (by rfl) (by rfl), v18_at H]
  have eq : val_main_v74 (F := Ideal) x0 x1 x2 x4 x5 x9 (ix4 b h i j) = ∑ l, ((g.st b h 1 i l : ℝ) : EReal) * ((g.kk b h 1 l : ℝ) : EReal) := by
    have e : idx_main_v70 (idx_main_v74 (ix4 b h i j)) = ix3 b h i := funext fun a => match a with | ⟨0, _⟩ => rfl | ⟨1, _⟩ => rfl | ⟨2, _⟩ => rfl
    rw [val_main_v74_apply, val_main_v70_apply, e, val_main_v69_apply]
    refine Finset.sum_congr rfl fun l _ => congrArg₂ (· * · : EReal → EReal → EReal) ?_ ?_
    · rw [show lidx_main_v69 (ix3 b h i) l = ix4 b h i l from funext fun a => match a with | ⟨0, _⟩ => rfl | ⟨1, _⟩ => rfl | ⟨2, _⟩ => rfl | ⟨3, _⟩ => rfl]
      exact s0 H b h i l
    · rw [show ridx_main_v69 (ix3 b h i) l = ix3 b h l from funext fun a => match a with | ⟨0, _⟩ => rfl | ⟨1, _⟩ => rfl | ⟨2, _⟩ => rfl]
      exact ek l
  have ea : val_main_v75 (F := Ideal) x0 x2 x4 (ix4 b h i j) = ((hd g.a b h 1 j * g.kk b h 1 j : ℝ) : EReal) := by
    rw [val_main_v75_apply, val_main_v73_apply, val_main_v72_apply, val_main_v71_apply, idx_row b 1 h j (idx_main_v71 (idx_main_v72 (idx_main_v73 (idx_main_v75 (ix4 b h i j))))) (by rfl) (by rfl) (by rfl) (by rfl), v32_at H]
  have ev : val_main_v84 (F := Ideal) x0 (ix4 b h i j) = ((hd (g.x 2) b h 1 i : ℝ) : EReal) := by
    rw [val_main_v84_apply, val_main_v80_apply, val_main_v79_apply, val_main_v78_apply, idx_row b 1 h i (idx_main_v78 (idx_main_v79 (idx_main_v80 (idx_main_v84 (ix4 b h i j))))) (by rfl) (by rfl) (by rfl) (by rfl), v29_at H]
  have ew : val_main_v85 (F := Ideal) x0 x2 x5 (ix4 b h i j) = ((g.k b h 1 j : ℝ) : EReal) := by
    rw [val_main_v85_apply, val_main_v83_apply, val_main_v82_apply, val_main_v81_apply, idx_row b 1 h j (idx_main_v81 (idx_main_v82 (idx_main_v83 (idx_main_v85 (ix4 b h i j))))) (by rfl) (by rfl) (by rfl) (by rfl), v27_at H]
  rw [val_main_v87_apply, val_main_v77_apply, val_main_v66_apply, val_main_v76_apply, val_main_v86_apply, ed, eq, ea, ev, ew, s0 H b h i j]
  exact step_at g b h 1 1 (by decide) i j

/-- Step 1: the output. -/
theorem o1 (H : Holds g x0 x1 x2 x4 x5 x6 x9) (b : Fin 8) (h : Fin 32) (i : Fin 64) :
    val_main_v513 (F := Ideal) x0 x1 x2 x4 x5 x9 (ix4 b 1 h i) = ((g.o b h 1 i : ℝ) : EReal) := by
  have er : ∀ l, val_main_v89 (F := Ideal) x0 (ix3 b h l) = ((hd (g.x 0) b h 1 l : ℝ) : EReal) := fun l => by
    rw [val_main_v89_apply, val_main_v88_apply, idx_row b 1 h l (idx_main_v88 (idx_main_v89 (ix3 b h l))) (by rfl) (by rfl) (by rfl) (by rfl), v28_at H]
  unfold val_main_v513
  refine (cat1 _ _ _ _ _ _ _ _ _ _ _ _ _ _ _ _ _ b h i).trans ?_
  · have e : idx_main_v498 (ix4 b 0 h i) = ix3 b h i := funext fun a => match a with | ⟨0, _⟩ => rfl | ⟨1, _⟩ => rfl | ⟨2, _⟩ => rfl
    rw [val_main_v498_apply, e, val_main_v90_apply, ← read_at]
    refine Finset.sum_congr rfl fun l _ => congrArg₂ (· * · : EReal → EReal → EReal) ?_ ?_
    · rw [show lidx_main_v90 (ix3 b h i) l = ix4 b h i l from funext fun a => match a with | ⟨0, _⟩ => rfl | ⟨1, _⟩ => rfl | ⟨2, _⟩ => rfl | ⟨3, _⟩ => rfl]
      exact s1 H b h i l
    · rw [show ridx_main_v90 (ix3 b h i) l = ix3 b h l from funext fun a => match a with | ⟨0, _⟩ => rfl | ⟨1, _⟩ => rfl | ⟨2, _⟩ => rfl]
      exact er l

/-- Step 2: the state. -/
theorem s2 (H : Holds g x0 x1 x2 x4 x5 x6 x9) (b : Fin 8) (h : Fin 32) (i j : Fin 64) :
    val_main_v116 (F := Ideal) x0 x1 x2 x4 x5 x9 (ix4 b h i j) = ((g.st b h 3 i j : ℝ) : EReal) := by
  have ed : val_main_v94 (F := Ideal) x1 (ix4 b h i j) = ((Real.exp (hd g.lw b h 2 j) : ℝ) : EReal) := by
    rw [val_main_v94_apply, val_main_v93_apply, val_main_v92_apply, val_main_v91_apply, idx_row b 2 h j (idx_main_v91 (idx_main_v92 (idx_main_v93 (idx_main_v94 (ix4 b h i j))))) (by rfl) (by rfl) (by rfl) (by rfl), v30_at H]
  have ek : ∀ l, val_main_v97 (F := Ideal) x0 x4 (ix3 b h l) = ((g.kk b h 2 l : ℝ) : EReal) := fun l => by
    rw [val_main_v97_apply, val_main_v96_apply, idx_row b 2 h l (idx_main_v96 (idx_main_v97 (ix3 b h l))) (by rfl) (by rfl) (by rfl) (by rfl), v18_at H]
  have eq : val_main_v103 (F := Ideal) x0 x1 x2 x4 x5 x9 (ix4 b h i j) = ∑ l, ((g.st b h 2 i l : ℝ) : EReal) * ((g.kk b h 2 l : ℝ) : EReal) := by
    have e : idx_main_v99 (idx_main_v103 (ix4 b h i j)) = ix3 b h i := funext fun a => match a with | ⟨0, _⟩ => rfl | ⟨1, _⟩ => rfl | ⟨2, _⟩ => rfl
    rw [val_main_v103_apply, val_main_v99_apply, e, val_main_v98_apply]
    refine Finset.sum_congr rfl fun l _ => congrArg₂ (· * · : EReal → EReal → EReal) ?_ ?_
    · rw [show lidx_main_v98 (ix3 b h i) l = ix4 b h i l from funext fun a => match a with | ⟨0, _⟩ => rfl | ⟨1, _⟩ => rfl | ⟨2, _⟩ => rfl | ⟨3, _⟩ => rfl]
      exact s1 H b h i l
    · rw [show ridx_main_v98 (ix3 b h i) l = ix3 b h l from funext fun a => match a with | ⟨0, _⟩ => rfl | ⟨1, _⟩ => rfl | ⟨2, _⟩ => rfl]
      exact ek l
  have ea : val_main_v104 (F := Ideal) x0 x2 x4 (ix4 b h i j) = ((hd g.a b h 2 j * g.kk b h 2 j : ℝ) : EReal) := by
    rw [val_main_v104_apply, val_main_v102_apply, val_main_v101_apply, val_main_v100_apply, idx_row b 2 h j (idx_main_v100 (idx_main_v101 (idx_main_v102 (idx_main_v104 (ix4 b h i j))))) (by rfl) (by rfl) (by rfl) (by rfl), v32_at H]
  have ev : val_main_v113 (F := Ideal) x0 (ix4 b h i j) = ((hd (g.x 2) b h 2 i : ℝ) : EReal) := by
    rw [val_main_v113_apply, val_main_v109_apply, val_main_v108_apply, val_main_v107_apply, idx_row b 2 h i (idx_main_v107 (idx_main_v108 (idx_main_v109 (idx_main_v113 (ix4 b h i j))))) (by rfl) (by rfl) (by rfl) (by rfl), v29_at H]
  have ew : val_main_v114 (F := Ideal) x0 x2 x5 (ix4 b h i j) = ((g.k b h 2 j : ℝ) : EReal) := by
    rw [val_main_v114_apply, val_main_v112_apply, val_main_v111_apply, val_main_v110_apply, idx_row b 2 h j (idx_main_v110 (idx_main_v111 (idx_main_v112 (idx_main_v114 (ix4 b h i j))))) (by rfl) (by rfl) (by rfl) (by rfl), v27_at H]
  rw [val_main_v116_apply, val_main_v106_apply, val_main_v95_apply, val_main_v105_apply, val_main_v115_apply, ed, eq, ea, ev, ew, s1 H b h i j]
  exact step_at g b h 2 2 (by decide) i j

/-- Step 2: the output. -/
theorem o2 (H : Holds g x0 x1 x2 x4 x5 x6 x9) (b : Fin 8) (h : Fin 32) (i : Fin 64) :
    val_main_v513 (F := Ideal) x0 x1 x2 x4 x5 x9 (ix4 b 2 h i) = ((g.o b h 2 i : ℝ) : EReal) := by
  have er : ∀ l, val_main_v118 (F := Ideal) x0 (ix3 b h l) = ((hd (g.x 0) b h 2 l : ℝ) : EReal) := fun l => by
    rw [val_main_v118_apply, val_main_v117_apply, idx_row b 2 h l (idx_main_v117 (idx_main_v118 (ix3 b h l))) (by rfl) (by rfl) (by rfl) (by rfl), v28_at H]
  unfold val_main_v513
  refine (cat2 _ _ _ _ _ _ _ _ _ _ _ _ _ _ _ _ _ b h i).trans ?_
  · have e : idx_main_v499 (ix4 b 0 h i) = ix3 b h i := funext fun a => match a with | ⟨0, _⟩ => rfl | ⟨1, _⟩ => rfl | ⟨2, _⟩ => rfl
    rw [val_main_v499_apply, e, val_main_v119_apply, ← read_at]
    refine Finset.sum_congr rfl fun l _ => congrArg₂ (· * · : EReal → EReal → EReal) ?_ ?_
    · rw [show lidx_main_v119 (ix3 b h i) l = ix4 b h i l from funext fun a => match a with | ⟨0, _⟩ => rfl | ⟨1, _⟩ => rfl | ⟨2, _⟩ => rfl | ⟨3, _⟩ => rfl]
      exact s2 H b h i l
    · rw [show ridx_main_v119 (ix3 b h i) l = ix3 b h l from funext fun a => match a with | ⟨0, _⟩ => rfl | ⟨1, _⟩ => rfl | ⟨2, _⟩ => rfl]
      exact er l

/-- Step 3: the state. -/
theorem s3 (H : Holds g x0 x1 x2 x4 x5 x6 x9) (b : Fin 8) (h : Fin 32) (i j : Fin 64) :
    val_main_v145 (F := Ideal) x0 x1 x2 x4 x5 x9 (ix4 b h i j) = ((g.st b h 4 i j : ℝ) : EReal) := by
  have ed : val_main_v123 (F := Ideal) x1 (ix4 b h i j) = ((Real.exp (hd g.lw b h 3 j) : ℝ) : EReal) := by
    rw [val_main_v123_apply, val_main_v122_apply, val_main_v121_apply, val_main_v120_apply, idx_row b 3 h j (idx_main_v120 (idx_main_v121 (idx_main_v122 (idx_main_v123 (ix4 b h i j))))) (by rfl) (by rfl) (by rfl) (by rfl), v30_at H]
  have ek : ∀ l, val_main_v126 (F := Ideal) x0 x4 (ix3 b h l) = ((g.kk b h 3 l : ℝ) : EReal) := fun l => by
    rw [val_main_v126_apply, val_main_v125_apply, idx_row b 3 h l (idx_main_v125 (idx_main_v126 (ix3 b h l))) (by rfl) (by rfl) (by rfl) (by rfl), v18_at H]
  have eq : val_main_v132 (F := Ideal) x0 x1 x2 x4 x5 x9 (ix4 b h i j) = ∑ l, ((g.st b h 3 i l : ℝ) : EReal) * ((g.kk b h 3 l : ℝ) : EReal) := by
    have e : idx_main_v128 (idx_main_v132 (ix4 b h i j)) = ix3 b h i := funext fun a => match a with | ⟨0, _⟩ => rfl | ⟨1, _⟩ => rfl | ⟨2, _⟩ => rfl
    rw [val_main_v132_apply, val_main_v128_apply, e, val_main_v127_apply]
    refine Finset.sum_congr rfl fun l _ => congrArg₂ (· * · : EReal → EReal → EReal) ?_ ?_
    · rw [show lidx_main_v127 (ix3 b h i) l = ix4 b h i l from funext fun a => match a with | ⟨0, _⟩ => rfl | ⟨1, _⟩ => rfl | ⟨2, _⟩ => rfl | ⟨3, _⟩ => rfl]
      exact s2 H b h i l
    · rw [show ridx_main_v127 (ix3 b h i) l = ix3 b h l from funext fun a => match a with | ⟨0, _⟩ => rfl | ⟨1, _⟩ => rfl | ⟨2, _⟩ => rfl]
      exact ek l
  have ea : val_main_v133 (F := Ideal) x0 x2 x4 (ix4 b h i j) = ((hd g.a b h 3 j * g.kk b h 3 j : ℝ) : EReal) := by
    rw [val_main_v133_apply, val_main_v131_apply, val_main_v130_apply, val_main_v129_apply, idx_row b 3 h j (idx_main_v129 (idx_main_v130 (idx_main_v131 (idx_main_v133 (ix4 b h i j))))) (by rfl) (by rfl) (by rfl) (by rfl), v32_at H]
  have ev : val_main_v142 (F := Ideal) x0 (ix4 b h i j) = ((hd (g.x 2) b h 3 i : ℝ) : EReal) := by
    rw [val_main_v142_apply, val_main_v138_apply, val_main_v137_apply, val_main_v136_apply, idx_row b 3 h i (idx_main_v136 (idx_main_v137 (idx_main_v138 (idx_main_v142 (ix4 b h i j))))) (by rfl) (by rfl) (by rfl) (by rfl), v29_at H]
  have ew : val_main_v143 (F := Ideal) x0 x2 x5 (ix4 b h i j) = ((g.k b h 3 j : ℝ) : EReal) := by
    rw [val_main_v143_apply, val_main_v141_apply, val_main_v140_apply, val_main_v139_apply, idx_row b 3 h j (idx_main_v139 (idx_main_v140 (idx_main_v141 (idx_main_v143 (ix4 b h i j))))) (by rfl) (by rfl) (by rfl) (by rfl), v27_at H]
  rw [val_main_v145_apply, val_main_v135_apply, val_main_v124_apply, val_main_v134_apply, val_main_v144_apply, ed, eq, ea, ev, ew, s2 H b h i j]
  exact step_at g b h 3 3 (by decide) i j

/-- Step 3: the output. -/
theorem o3 (H : Holds g x0 x1 x2 x4 x5 x6 x9) (b : Fin 8) (h : Fin 32) (i : Fin 64) :
    val_main_v513 (F := Ideal) x0 x1 x2 x4 x5 x9 (ix4 b 3 h i) = ((g.o b h 3 i : ℝ) : EReal) := by
  have er : ∀ l, val_main_v147 (F := Ideal) x0 (ix3 b h l) = ((hd (g.x 0) b h 3 l : ℝ) : EReal) := fun l => by
    rw [val_main_v147_apply, val_main_v146_apply, idx_row b 3 h l (idx_main_v146 (idx_main_v147 (ix3 b h l))) (by rfl) (by rfl) (by rfl) (by rfl), v28_at H]
  unfold val_main_v513
  refine (cat3 _ _ _ _ _ _ _ _ _ _ _ _ _ _ _ _ _ b h i).trans ?_
  · have e : idx_main_v500 (ix4 b 0 h i) = ix3 b h i := funext fun a => match a with | ⟨0, _⟩ => rfl | ⟨1, _⟩ => rfl | ⟨2, _⟩ => rfl
    rw [val_main_v500_apply, e, val_main_v148_apply, ← read_at]
    refine Finset.sum_congr rfl fun l _ => congrArg₂ (· * · : EReal → EReal → EReal) ?_ ?_
    · rw [show lidx_main_v148 (ix3 b h i) l = ix4 b h i l from funext fun a => match a with | ⟨0, _⟩ => rfl | ⟨1, _⟩ => rfl | ⟨2, _⟩ => rfl | ⟨3, _⟩ => rfl]
      exact s3 H b h i l
    · rw [show ridx_main_v148 (ix3 b h i) l = ix3 b h l from funext fun a => match a with | ⟨0, _⟩ => rfl | ⟨1, _⟩ => rfl | ⟨2, _⟩ => rfl]
      exact er l

/-- Step 4: the state. -/
theorem s4 (H : Holds g x0 x1 x2 x4 x5 x6 x9) (b : Fin 8) (h : Fin 32) (i j : Fin 64) :
    val_main_v174 (F := Ideal) x0 x1 x2 x4 x5 x9 (ix4 b h i j) = ((g.st b h 5 i j : ℝ) : EReal) := by
  have ed : val_main_v152 (F := Ideal) x1 (ix4 b h i j) = ((Real.exp (hd g.lw b h 4 j) : ℝ) : EReal) := by
    rw [val_main_v152_apply, val_main_v151_apply, val_main_v150_apply, val_main_v149_apply, idx_row b 4 h j (idx_main_v149 (idx_main_v150 (idx_main_v151 (idx_main_v152 (ix4 b h i j))))) (by rfl) (by rfl) (by rfl) (by rfl), v30_at H]
  have ek : ∀ l, val_main_v155 (F := Ideal) x0 x4 (ix3 b h l) = ((g.kk b h 4 l : ℝ) : EReal) := fun l => by
    rw [val_main_v155_apply, val_main_v154_apply, idx_row b 4 h l (idx_main_v154 (idx_main_v155 (ix3 b h l))) (by rfl) (by rfl) (by rfl) (by rfl), v18_at H]
  have eq : val_main_v161 (F := Ideal) x0 x1 x2 x4 x5 x9 (ix4 b h i j) = ∑ l, ((g.st b h 4 i l : ℝ) : EReal) * ((g.kk b h 4 l : ℝ) : EReal) := by
    have e : idx_main_v157 (idx_main_v161 (ix4 b h i j)) = ix3 b h i := funext fun a => match a with | ⟨0, _⟩ => rfl | ⟨1, _⟩ => rfl | ⟨2, _⟩ => rfl
    rw [val_main_v161_apply, val_main_v157_apply, e, val_main_v156_apply]
    refine Finset.sum_congr rfl fun l _ => congrArg₂ (· * · : EReal → EReal → EReal) ?_ ?_
    · rw [show lidx_main_v156 (ix3 b h i) l = ix4 b h i l from funext fun a => match a with | ⟨0, _⟩ => rfl | ⟨1, _⟩ => rfl | ⟨2, _⟩ => rfl | ⟨3, _⟩ => rfl]
      exact s3 H b h i l
    · rw [show ridx_main_v156 (ix3 b h i) l = ix3 b h l from funext fun a => match a with | ⟨0, _⟩ => rfl | ⟨1, _⟩ => rfl | ⟨2, _⟩ => rfl]
      exact ek l
  have ea : val_main_v162 (F := Ideal) x0 x2 x4 (ix4 b h i j) = ((hd g.a b h 4 j * g.kk b h 4 j : ℝ) : EReal) := by
    rw [val_main_v162_apply, val_main_v160_apply, val_main_v159_apply, val_main_v158_apply, idx_row b 4 h j (idx_main_v158 (idx_main_v159 (idx_main_v160 (idx_main_v162 (ix4 b h i j))))) (by rfl) (by rfl) (by rfl) (by rfl), v32_at H]
  have ev : val_main_v171 (F := Ideal) x0 (ix4 b h i j) = ((hd (g.x 2) b h 4 i : ℝ) : EReal) := by
    rw [val_main_v171_apply, val_main_v167_apply, val_main_v166_apply, val_main_v165_apply, idx_row b 4 h i (idx_main_v165 (idx_main_v166 (idx_main_v167 (idx_main_v171 (ix4 b h i j))))) (by rfl) (by rfl) (by rfl) (by rfl), v29_at H]
  have ew : val_main_v172 (F := Ideal) x0 x2 x5 (ix4 b h i j) = ((g.k b h 4 j : ℝ) : EReal) := by
    rw [val_main_v172_apply, val_main_v170_apply, val_main_v169_apply, val_main_v168_apply, idx_row b 4 h j (idx_main_v168 (idx_main_v169 (idx_main_v170 (idx_main_v172 (ix4 b h i j))))) (by rfl) (by rfl) (by rfl) (by rfl), v27_at H]
  rw [val_main_v174_apply, val_main_v164_apply, val_main_v153_apply, val_main_v163_apply, val_main_v173_apply, ed, eq, ea, ev, ew, s3 H b h i j]
  exact step_at g b h 4 4 (by decide) i j

/-- Step 4: the output. -/
theorem o4 (H : Holds g x0 x1 x2 x4 x5 x6 x9) (b : Fin 8) (h : Fin 32) (i : Fin 64) :
    val_main_v513 (F := Ideal) x0 x1 x2 x4 x5 x9 (ix4 b 4 h i) = ((g.o b h 4 i : ℝ) : EReal) := by
  have er : ∀ l, val_main_v176 (F := Ideal) x0 (ix3 b h l) = ((hd (g.x 0) b h 4 l : ℝ) : EReal) := fun l => by
    rw [val_main_v176_apply, val_main_v175_apply, idx_row b 4 h l (idx_main_v175 (idx_main_v176 (ix3 b h l))) (by rfl) (by rfl) (by rfl) (by rfl), v28_at H]
  unfold val_main_v513
  refine (cat4 _ _ _ _ _ _ _ _ _ _ _ _ _ _ _ _ _ b h i).trans ?_
  · have e : idx_main_v501 (ix4 b 0 h i) = ix3 b h i := funext fun a => match a with | ⟨0, _⟩ => rfl | ⟨1, _⟩ => rfl | ⟨2, _⟩ => rfl
    rw [val_main_v501_apply, e, val_main_v177_apply, ← read_at]
    refine Finset.sum_congr rfl fun l _ => congrArg₂ (· * · : EReal → EReal → EReal) ?_ ?_
    · rw [show lidx_main_v177 (ix3 b h i) l = ix4 b h i l from funext fun a => match a with | ⟨0, _⟩ => rfl | ⟨1, _⟩ => rfl | ⟨2, _⟩ => rfl | ⟨3, _⟩ => rfl]
      exact s4 H b h i l
    · rw [show ridx_main_v177 (ix3 b h i) l = ix3 b h l from funext fun a => match a with | ⟨0, _⟩ => rfl | ⟨1, _⟩ => rfl | ⟨2, _⟩ => rfl]
      exact er l

/-- Step 5: the state. -/
theorem s5 (H : Holds g x0 x1 x2 x4 x5 x6 x9) (b : Fin 8) (h : Fin 32) (i j : Fin 64) :
    val_main_v203 (F := Ideal) x0 x1 x2 x4 x5 x9 (ix4 b h i j) = ((g.st b h 6 i j : ℝ) : EReal) := by
  have ed : val_main_v181 (F := Ideal) x1 (ix4 b h i j) = ((Real.exp (hd g.lw b h 5 j) : ℝ) : EReal) := by
    rw [val_main_v181_apply, val_main_v180_apply, val_main_v179_apply, val_main_v178_apply, idx_row b 5 h j (idx_main_v178 (idx_main_v179 (idx_main_v180 (idx_main_v181 (ix4 b h i j))))) (by rfl) (by rfl) (by rfl) (by rfl), v30_at H]
  have ek : ∀ l, val_main_v184 (F := Ideal) x0 x4 (ix3 b h l) = ((g.kk b h 5 l : ℝ) : EReal) := fun l => by
    rw [val_main_v184_apply, val_main_v183_apply, idx_row b 5 h l (idx_main_v183 (idx_main_v184 (ix3 b h l))) (by rfl) (by rfl) (by rfl) (by rfl), v18_at H]
  have eq : val_main_v190 (F := Ideal) x0 x1 x2 x4 x5 x9 (ix4 b h i j) = ∑ l, ((g.st b h 5 i l : ℝ) : EReal) * ((g.kk b h 5 l : ℝ) : EReal) := by
    have e : idx_main_v186 (idx_main_v190 (ix4 b h i j)) = ix3 b h i := funext fun a => match a with | ⟨0, _⟩ => rfl | ⟨1, _⟩ => rfl | ⟨2, _⟩ => rfl
    rw [val_main_v190_apply, val_main_v186_apply, e, val_main_v185_apply]
    refine Finset.sum_congr rfl fun l _ => congrArg₂ (· * · : EReal → EReal → EReal) ?_ ?_
    · rw [show lidx_main_v185 (ix3 b h i) l = ix4 b h i l from funext fun a => match a with | ⟨0, _⟩ => rfl | ⟨1, _⟩ => rfl | ⟨2, _⟩ => rfl | ⟨3, _⟩ => rfl]
      exact s4 H b h i l
    · rw [show ridx_main_v185 (ix3 b h i) l = ix3 b h l from funext fun a => match a with | ⟨0, _⟩ => rfl | ⟨1, _⟩ => rfl | ⟨2, _⟩ => rfl]
      exact ek l
  have ea : val_main_v191 (F := Ideal) x0 x2 x4 (ix4 b h i j) = ((hd g.a b h 5 j * g.kk b h 5 j : ℝ) : EReal) := by
    rw [val_main_v191_apply, val_main_v189_apply, val_main_v188_apply, val_main_v187_apply, idx_row b 5 h j (idx_main_v187 (idx_main_v188 (idx_main_v189 (idx_main_v191 (ix4 b h i j))))) (by rfl) (by rfl) (by rfl) (by rfl), v32_at H]
  have ev : val_main_v200 (F := Ideal) x0 (ix4 b h i j) = ((hd (g.x 2) b h 5 i : ℝ) : EReal) := by
    rw [val_main_v200_apply, val_main_v196_apply, val_main_v195_apply, val_main_v194_apply, idx_row b 5 h i (idx_main_v194 (idx_main_v195 (idx_main_v196 (idx_main_v200 (ix4 b h i j))))) (by rfl) (by rfl) (by rfl) (by rfl), v29_at H]
  have ew : val_main_v201 (F := Ideal) x0 x2 x5 (ix4 b h i j) = ((g.k b h 5 j : ℝ) : EReal) := by
    rw [val_main_v201_apply, val_main_v199_apply, val_main_v198_apply, val_main_v197_apply, idx_row b 5 h j (idx_main_v197 (idx_main_v198 (idx_main_v199 (idx_main_v201 (ix4 b h i j))))) (by rfl) (by rfl) (by rfl) (by rfl), v27_at H]
  rw [val_main_v203_apply, val_main_v193_apply, val_main_v182_apply, val_main_v192_apply, val_main_v202_apply, ed, eq, ea, ev, ew, s4 H b h i j]
  exact step_at g b h 5 5 (by decide) i j

/-- Step 5: the output. -/
theorem o5 (H : Holds g x0 x1 x2 x4 x5 x6 x9) (b : Fin 8) (h : Fin 32) (i : Fin 64) :
    val_main_v513 (F := Ideal) x0 x1 x2 x4 x5 x9 (ix4 b 5 h i) = ((g.o b h 5 i : ℝ) : EReal) := by
  have er : ∀ l, val_main_v205 (F := Ideal) x0 (ix3 b h l) = ((hd (g.x 0) b h 5 l : ℝ) : EReal) := fun l => by
    rw [val_main_v205_apply, val_main_v204_apply, idx_row b 5 h l (idx_main_v204 (idx_main_v205 (ix3 b h l))) (by rfl) (by rfl) (by rfl) (by rfl), v28_at H]
  unfold val_main_v513
  refine (cat5 _ _ _ _ _ _ _ _ _ _ _ _ _ _ _ _ _ b h i).trans ?_
  · have e : idx_main_v502 (ix4 b 0 h i) = ix3 b h i := funext fun a => match a with | ⟨0, _⟩ => rfl | ⟨1, _⟩ => rfl | ⟨2, _⟩ => rfl
    rw [val_main_v502_apply, e, val_main_v206_apply, ← read_at]
    refine Finset.sum_congr rfl fun l _ => congrArg₂ (· * · : EReal → EReal → EReal) ?_ ?_
    · rw [show lidx_main_v206 (ix3 b h i) l = ix4 b h i l from funext fun a => match a with | ⟨0, _⟩ => rfl | ⟨1, _⟩ => rfl | ⟨2, _⟩ => rfl | ⟨3, _⟩ => rfl]
      exact s5 H b h i l
    · rw [show ridx_main_v206 (ix3 b h i) l = ix3 b h l from funext fun a => match a with | ⟨0, _⟩ => rfl | ⟨1, _⟩ => rfl | ⟨2, _⟩ => rfl]
      exact er l

/-- Step 6: the state. -/
theorem s6 (H : Holds g x0 x1 x2 x4 x5 x6 x9) (b : Fin 8) (h : Fin 32) (i j : Fin 64) :
    val_main_v232 (F := Ideal) x0 x1 x2 x4 x5 x9 (ix4 b h i j) = ((g.st b h 7 i j : ℝ) : EReal) := by
  have ed : val_main_v210 (F := Ideal) x1 (ix4 b h i j) = ((Real.exp (hd g.lw b h 6 j) : ℝ) : EReal) := by
    rw [val_main_v210_apply, val_main_v209_apply, val_main_v208_apply, val_main_v207_apply, idx_row b 6 h j (idx_main_v207 (idx_main_v208 (idx_main_v209 (idx_main_v210 (ix4 b h i j))))) (by rfl) (by rfl) (by rfl) (by rfl), v30_at H]
  have ek : ∀ l, val_main_v213 (F := Ideal) x0 x4 (ix3 b h l) = ((g.kk b h 6 l : ℝ) : EReal) := fun l => by
    rw [val_main_v213_apply, val_main_v212_apply, idx_row b 6 h l (idx_main_v212 (idx_main_v213 (ix3 b h l))) (by rfl) (by rfl) (by rfl) (by rfl), v18_at H]
  have eq : val_main_v219 (F := Ideal) x0 x1 x2 x4 x5 x9 (ix4 b h i j) = ∑ l, ((g.st b h 6 i l : ℝ) : EReal) * ((g.kk b h 6 l : ℝ) : EReal) := by
    have e : idx_main_v215 (idx_main_v219 (ix4 b h i j)) = ix3 b h i := funext fun a => match a with | ⟨0, _⟩ => rfl | ⟨1, _⟩ => rfl | ⟨2, _⟩ => rfl
    rw [val_main_v219_apply, val_main_v215_apply, e, val_main_v214_apply]
    refine Finset.sum_congr rfl fun l _ => congrArg₂ (· * · : EReal → EReal → EReal) ?_ ?_
    · rw [show lidx_main_v214 (ix3 b h i) l = ix4 b h i l from funext fun a => match a with | ⟨0, _⟩ => rfl | ⟨1, _⟩ => rfl | ⟨2, _⟩ => rfl | ⟨3, _⟩ => rfl]
      exact s5 H b h i l
    · rw [show ridx_main_v214 (ix3 b h i) l = ix3 b h l from funext fun a => match a with | ⟨0, _⟩ => rfl | ⟨1, _⟩ => rfl | ⟨2, _⟩ => rfl]
      exact ek l
  have ea : val_main_v220 (F := Ideal) x0 x2 x4 (ix4 b h i j) = ((hd g.a b h 6 j * g.kk b h 6 j : ℝ) : EReal) := by
    rw [val_main_v220_apply, val_main_v218_apply, val_main_v217_apply, val_main_v216_apply, idx_row b 6 h j (idx_main_v216 (idx_main_v217 (idx_main_v218 (idx_main_v220 (ix4 b h i j))))) (by rfl) (by rfl) (by rfl) (by rfl), v32_at H]
  have ev : val_main_v229 (F := Ideal) x0 (ix4 b h i j) = ((hd (g.x 2) b h 6 i : ℝ) : EReal) := by
    rw [val_main_v229_apply, val_main_v225_apply, val_main_v224_apply, val_main_v223_apply, idx_row b 6 h i (idx_main_v223 (idx_main_v224 (idx_main_v225 (idx_main_v229 (ix4 b h i j))))) (by rfl) (by rfl) (by rfl) (by rfl), v29_at H]
  have ew : val_main_v230 (F := Ideal) x0 x2 x5 (ix4 b h i j) = ((g.k b h 6 j : ℝ) : EReal) := by
    rw [val_main_v230_apply, val_main_v228_apply, val_main_v227_apply, val_main_v226_apply, idx_row b 6 h j (idx_main_v226 (idx_main_v227 (idx_main_v228 (idx_main_v230 (ix4 b h i j))))) (by rfl) (by rfl) (by rfl) (by rfl), v27_at H]
  rw [val_main_v232_apply, val_main_v222_apply, val_main_v211_apply, val_main_v221_apply, val_main_v231_apply, ed, eq, ea, ev, ew, s5 H b h i j]
  exact step_at g b h 6 6 (by decide) i j

/-- Step 6: the output. -/
theorem o6 (H : Holds g x0 x1 x2 x4 x5 x6 x9) (b : Fin 8) (h : Fin 32) (i : Fin 64) :
    val_main_v513 (F := Ideal) x0 x1 x2 x4 x5 x9 (ix4 b 6 h i) = ((g.o b h 6 i : ℝ) : EReal) := by
  have er : ∀ l, val_main_v234 (F := Ideal) x0 (ix3 b h l) = ((hd (g.x 0) b h 6 l : ℝ) : EReal) := fun l => by
    rw [val_main_v234_apply, val_main_v233_apply, idx_row b 6 h l (idx_main_v233 (idx_main_v234 (ix3 b h l))) (by rfl) (by rfl) (by rfl) (by rfl), v28_at H]
  unfold val_main_v513
  refine (cat6 _ _ _ _ _ _ _ _ _ _ _ _ _ _ _ _ _ b h i).trans ?_
  · have e : idx_main_v503 (ix4 b 0 h i) = ix3 b h i := funext fun a => match a with | ⟨0, _⟩ => rfl | ⟨1, _⟩ => rfl | ⟨2, _⟩ => rfl
    rw [val_main_v503_apply, e, val_main_v235_apply, ← read_at]
    refine Finset.sum_congr rfl fun l _ => congrArg₂ (· * · : EReal → EReal → EReal) ?_ ?_
    · rw [show lidx_main_v235 (ix3 b h i) l = ix4 b h i l from funext fun a => match a with | ⟨0, _⟩ => rfl | ⟨1, _⟩ => rfl | ⟨2, _⟩ => rfl | ⟨3, _⟩ => rfl]
      exact s6 H b h i l
    · rw [show ridx_main_v235 (ix3 b h i) l = ix3 b h l from funext fun a => match a with | ⟨0, _⟩ => rfl | ⟨1, _⟩ => rfl | ⟨2, _⟩ => rfl]
      exact er l

/-- Step 7: the state. -/
theorem s7 (H : Holds g x0 x1 x2 x4 x5 x6 x9) (b : Fin 8) (h : Fin 32) (i j : Fin 64) :
    val_main_v261 (F := Ideal) x0 x1 x2 x4 x5 x9 (ix4 b h i j) = ((g.st b h 8 i j : ℝ) : EReal) := by
  have ed : val_main_v239 (F := Ideal) x1 (ix4 b h i j) = ((Real.exp (hd g.lw b h 7 j) : ℝ) : EReal) := by
    rw [val_main_v239_apply, val_main_v238_apply, val_main_v237_apply, val_main_v236_apply, idx_row b 7 h j (idx_main_v236 (idx_main_v237 (idx_main_v238 (idx_main_v239 (ix4 b h i j))))) (by rfl) (by rfl) (by rfl) (by rfl), v30_at H]
  have ek : ∀ l, val_main_v242 (F := Ideal) x0 x4 (ix3 b h l) = ((g.kk b h 7 l : ℝ) : EReal) := fun l => by
    rw [val_main_v242_apply, val_main_v241_apply, idx_row b 7 h l (idx_main_v241 (idx_main_v242 (ix3 b h l))) (by rfl) (by rfl) (by rfl) (by rfl), v18_at H]
  have eq : val_main_v248 (F := Ideal) x0 x1 x2 x4 x5 x9 (ix4 b h i j) = ∑ l, ((g.st b h 7 i l : ℝ) : EReal) * ((g.kk b h 7 l : ℝ) : EReal) := by
    have e : idx_main_v244 (idx_main_v248 (ix4 b h i j)) = ix3 b h i := funext fun a => match a with | ⟨0, _⟩ => rfl | ⟨1, _⟩ => rfl | ⟨2, _⟩ => rfl
    rw [val_main_v248_apply, val_main_v244_apply, e, val_main_v243_apply]
    refine Finset.sum_congr rfl fun l _ => congrArg₂ (· * · : EReal → EReal → EReal) ?_ ?_
    · rw [show lidx_main_v243 (ix3 b h i) l = ix4 b h i l from funext fun a => match a with | ⟨0, _⟩ => rfl | ⟨1, _⟩ => rfl | ⟨2, _⟩ => rfl | ⟨3, _⟩ => rfl]
      exact s6 H b h i l
    · rw [show ridx_main_v243 (ix3 b h i) l = ix3 b h l from funext fun a => match a with | ⟨0, _⟩ => rfl | ⟨1, _⟩ => rfl | ⟨2, _⟩ => rfl]
      exact ek l
  have ea : val_main_v249 (F := Ideal) x0 x2 x4 (ix4 b h i j) = ((hd g.a b h 7 j * g.kk b h 7 j : ℝ) : EReal) := by
    rw [val_main_v249_apply, val_main_v247_apply, val_main_v246_apply, val_main_v245_apply, idx_row b 7 h j (idx_main_v245 (idx_main_v246 (idx_main_v247 (idx_main_v249 (ix4 b h i j))))) (by rfl) (by rfl) (by rfl) (by rfl), v32_at H]
  have ev : val_main_v258 (F := Ideal) x0 (ix4 b h i j) = ((hd (g.x 2) b h 7 i : ℝ) : EReal) := by
    rw [val_main_v258_apply, val_main_v254_apply, val_main_v253_apply, val_main_v252_apply, idx_row b 7 h i (idx_main_v252 (idx_main_v253 (idx_main_v254 (idx_main_v258 (ix4 b h i j))))) (by rfl) (by rfl) (by rfl) (by rfl), v29_at H]
  have ew : val_main_v259 (F := Ideal) x0 x2 x5 (ix4 b h i j) = ((g.k b h 7 j : ℝ) : EReal) := by
    rw [val_main_v259_apply, val_main_v257_apply, val_main_v256_apply, val_main_v255_apply, idx_row b 7 h j (idx_main_v255 (idx_main_v256 (idx_main_v257 (idx_main_v259 (ix4 b h i j))))) (by rfl) (by rfl) (by rfl) (by rfl), v27_at H]
  rw [val_main_v261_apply, val_main_v251_apply, val_main_v240_apply, val_main_v250_apply, val_main_v260_apply, ed, eq, ea, ev, ew, s6 H b h i j]
  exact step_at g b h 7 7 (by decide) i j

/-- Step 7: the output. -/
theorem o7 (H : Holds g x0 x1 x2 x4 x5 x6 x9) (b : Fin 8) (h : Fin 32) (i : Fin 64) :
    val_main_v513 (F := Ideal) x0 x1 x2 x4 x5 x9 (ix4 b 7 h i) = ((g.o b h 7 i : ℝ) : EReal) := by
  have er : ∀ l, val_main_v263 (F := Ideal) x0 (ix3 b h l) = ((hd (g.x 0) b h 7 l : ℝ) : EReal) := fun l => by
    rw [val_main_v263_apply, val_main_v262_apply, idx_row b 7 h l (idx_main_v262 (idx_main_v263 (ix3 b h l))) (by rfl) (by rfl) (by rfl) (by rfl), v28_at H]
  unfold val_main_v513
  refine (cat7 _ _ _ _ _ _ _ _ _ _ _ _ _ _ _ _ _ b h i).trans ?_
  · have e : idx_main_v504 (ix4 b 0 h i) = ix3 b h i := funext fun a => match a with | ⟨0, _⟩ => rfl | ⟨1, _⟩ => rfl | ⟨2, _⟩ => rfl
    rw [val_main_v504_apply, e, val_main_v264_apply, ← read_at]
    refine Finset.sum_congr rfl fun l _ => congrArg₂ (· * · : EReal → EReal → EReal) ?_ ?_
    · rw [show lidx_main_v264 (ix3 b h i) l = ix4 b h i l from funext fun a => match a with | ⟨0, _⟩ => rfl | ⟨1, _⟩ => rfl | ⟨2, _⟩ => rfl | ⟨3, _⟩ => rfl]
      exact s7 H b h i l
    · rw [show ridx_main_v264 (ix3 b h i) l = ix3 b h l from funext fun a => match a with | ⟨0, _⟩ => rfl | ⟨1, _⟩ => rfl | ⟨2, _⟩ => rfl]
      exact er l

/-- Step 8: the state. -/
theorem s8 (H : Holds g x0 x1 x2 x4 x5 x6 x9) (b : Fin 8) (h : Fin 32) (i j : Fin 64) :
    val_main_v290 (F := Ideal) x0 x1 x2 x4 x5 x9 (ix4 b h i j) = ((g.st b h 9 i j : ℝ) : EReal) := by
  have ed : val_main_v268 (F := Ideal) x1 (ix4 b h i j) = ((Real.exp (hd g.lw b h 8 j) : ℝ) : EReal) := by
    rw [val_main_v268_apply, val_main_v267_apply, val_main_v266_apply, val_main_v265_apply, idx_row b 8 h j (idx_main_v265 (idx_main_v266 (idx_main_v267 (idx_main_v268 (ix4 b h i j))))) (by rfl) (by rfl) (by rfl) (by rfl), v30_at H]
  have ek : ∀ l, val_main_v271 (F := Ideal) x0 x4 (ix3 b h l) = ((g.kk b h 8 l : ℝ) : EReal) := fun l => by
    rw [val_main_v271_apply, val_main_v270_apply, idx_row b 8 h l (idx_main_v270 (idx_main_v271 (ix3 b h l))) (by rfl) (by rfl) (by rfl) (by rfl), v18_at H]
  have eq : val_main_v277 (F := Ideal) x0 x1 x2 x4 x5 x9 (ix4 b h i j) = ∑ l, ((g.st b h 8 i l : ℝ) : EReal) * ((g.kk b h 8 l : ℝ) : EReal) := by
    have e : idx_main_v273 (idx_main_v277 (ix4 b h i j)) = ix3 b h i := funext fun a => match a with | ⟨0, _⟩ => rfl | ⟨1, _⟩ => rfl | ⟨2, _⟩ => rfl
    rw [val_main_v277_apply, val_main_v273_apply, e, val_main_v272_apply]
    refine Finset.sum_congr rfl fun l _ => congrArg₂ (· * · : EReal → EReal → EReal) ?_ ?_
    · rw [show lidx_main_v272 (ix3 b h i) l = ix4 b h i l from funext fun a => match a with | ⟨0, _⟩ => rfl | ⟨1, _⟩ => rfl | ⟨2, _⟩ => rfl | ⟨3, _⟩ => rfl]
      exact s7 H b h i l
    · rw [show ridx_main_v272 (ix3 b h i) l = ix3 b h l from funext fun a => match a with | ⟨0, _⟩ => rfl | ⟨1, _⟩ => rfl | ⟨2, _⟩ => rfl]
      exact ek l
  have ea : val_main_v278 (F := Ideal) x0 x2 x4 (ix4 b h i j) = ((hd g.a b h 8 j * g.kk b h 8 j : ℝ) : EReal) := by
    rw [val_main_v278_apply, val_main_v276_apply, val_main_v275_apply, val_main_v274_apply, idx_row b 8 h j (idx_main_v274 (idx_main_v275 (idx_main_v276 (idx_main_v278 (ix4 b h i j))))) (by rfl) (by rfl) (by rfl) (by rfl), v32_at H]
  have ev : val_main_v287 (F := Ideal) x0 (ix4 b h i j) = ((hd (g.x 2) b h 8 i : ℝ) : EReal) := by
    rw [val_main_v287_apply, val_main_v283_apply, val_main_v282_apply, val_main_v281_apply, idx_row b 8 h i (idx_main_v281 (idx_main_v282 (idx_main_v283 (idx_main_v287 (ix4 b h i j))))) (by rfl) (by rfl) (by rfl) (by rfl), v29_at H]
  have ew : val_main_v288 (F := Ideal) x0 x2 x5 (ix4 b h i j) = ((g.k b h 8 j : ℝ) : EReal) := by
    rw [val_main_v288_apply, val_main_v286_apply, val_main_v285_apply, val_main_v284_apply, idx_row b 8 h j (idx_main_v284 (idx_main_v285 (idx_main_v286 (idx_main_v288 (ix4 b h i j))))) (by rfl) (by rfl) (by rfl) (by rfl), v27_at H]
  rw [val_main_v290_apply, val_main_v280_apply, val_main_v269_apply, val_main_v279_apply, val_main_v289_apply, ed, eq, ea, ev, ew, s7 H b h i j]
  exact step_at g b h 8 8 (by decide) i j

/-- Step 8: the output. -/
theorem o8 (H : Holds g x0 x1 x2 x4 x5 x6 x9) (b : Fin 8) (h : Fin 32) (i : Fin 64) :
    val_main_v513 (F := Ideal) x0 x1 x2 x4 x5 x9 (ix4 b 8 h i) = ((g.o b h 8 i : ℝ) : EReal) := by
  have er : ∀ l, val_main_v292 (F := Ideal) x0 (ix3 b h l) = ((hd (g.x 0) b h 8 l : ℝ) : EReal) := fun l => by
    rw [val_main_v292_apply, val_main_v291_apply, idx_row b 8 h l (idx_main_v291 (idx_main_v292 (ix3 b h l))) (by rfl) (by rfl) (by rfl) (by rfl), v28_at H]
  unfold val_main_v513
  refine (cat8 _ _ _ _ _ _ _ _ _ _ _ _ _ _ _ _ _ b h i).trans ?_
  · have e : idx_main_v505 (ix4 b 0 h i) = ix3 b h i := funext fun a => match a with | ⟨0, _⟩ => rfl | ⟨1, _⟩ => rfl | ⟨2, _⟩ => rfl
    rw [val_main_v505_apply, e, val_main_v293_apply, ← read_at]
    refine Finset.sum_congr rfl fun l _ => congrArg₂ (· * · : EReal → EReal → EReal) ?_ ?_
    · rw [show lidx_main_v293 (ix3 b h i) l = ix4 b h i l from funext fun a => match a with | ⟨0, _⟩ => rfl | ⟨1, _⟩ => rfl | ⟨2, _⟩ => rfl | ⟨3, _⟩ => rfl]
      exact s8 H b h i l
    · rw [show ridx_main_v293 (ix3 b h i) l = ix3 b h l from funext fun a => match a with | ⟨0, _⟩ => rfl | ⟨1, _⟩ => rfl | ⟨2, _⟩ => rfl]
      exact er l

/-- Step 9: the state. -/
theorem s9 (H : Holds g x0 x1 x2 x4 x5 x6 x9) (b : Fin 8) (h : Fin 32) (i j : Fin 64) :
    val_main_v319 (F := Ideal) x0 x1 x2 x4 x5 x9 (ix4 b h i j) = ((g.st b h 10 i j : ℝ) : EReal) := by
  have ed : val_main_v297 (F := Ideal) x1 (ix4 b h i j) = ((Real.exp (hd g.lw b h 9 j) : ℝ) : EReal) := by
    rw [val_main_v297_apply, val_main_v296_apply, val_main_v295_apply, val_main_v294_apply, idx_row b 9 h j (idx_main_v294 (idx_main_v295 (idx_main_v296 (idx_main_v297 (ix4 b h i j))))) (by rfl) (by rfl) (by rfl) (by rfl), v30_at H]
  have ek : ∀ l, val_main_v300 (F := Ideal) x0 x4 (ix3 b h l) = ((g.kk b h 9 l : ℝ) : EReal) := fun l => by
    rw [val_main_v300_apply, val_main_v299_apply, idx_row b 9 h l (idx_main_v299 (idx_main_v300 (ix3 b h l))) (by rfl) (by rfl) (by rfl) (by rfl), v18_at H]
  have eq : val_main_v306 (F := Ideal) x0 x1 x2 x4 x5 x9 (ix4 b h i j) = ∑ l, ((g.st b h 9 i l : ℝ) : EReal) * ((g.kk b h 9 l : ℝ) : EReal) := by
    have e : idx_main_v302 (idx_main_v306 (ix4 b h i j)) = ix3 b h i := funext fun a => match a with | ⟨0, _⟩ => rfl | ⟨1, _⟩ => rfl | ⟨2, _⟩ => rfl
    rw [val_main_v306_apply, val_main_v302_apply, e, val_main_v301_apply]
    refine Finset.sum_congr rfl fun l _ => congrArg₂ (· * · : EReal → EReal → EReal) ?_ ?_
    · rw [show lidx_main_v301 (ix3 b h i) l = ix4 b h i l from funext fun a => match a with | ⟨0, _⟩ => rfl | ⟨1, _⟩ => rfl | ⟨2, _⟩ => rfl | ⟨3, _⟩ => rfl]
      exact s8 H b h i l
    · rw [show ridx_main_v301 (ix3 b h i) l = ix3 b h l from funext fun a => match a with | ⟨0, _⟩ => rfl | ⟨1, _⟩ => rfl | ⟨2, _⟩ => rfl]
      exact ek l
  have ea : val_main_v307 (F := Ideal) x0 x2 x4 (ix4 b h i j) = ((hd g.a b h 9 j * g.kk b h 9 j : ℝ) : EReal) := by
    rw [val_main_v307_apply, val_main_v305_apply, val_main_v304_apply, val_main_v303_apply, idx_row b 9 h j (idx_main_v303 (idx_main_v304 (idx_main_v305 (idx_main_v307 (ix4 b h i j))))) (by rfl) (by rfl) (by rfl) (by rfl), v32_at H]
  have ev : val_main_v316 (F := Ideal) x0 (ix4 b h i j) = ((hd (g.x 2) b h 9 i : ℝ) : EReal) := by
    rw [val_main_v316_apply, val_main_v312_apply, val_main_v311_apply, val_main_v310_apply, idx_row b 9 h i (idx_main_v310 (idx_main_v311 (idx_main_v312 (idx_main_v316 (ix4 b h i j))))) (by rfl) (by rfl) (by rfl) (by rfl), v29_at H]
  have ew : val_main_v317 (F := Ideal) x0 x2 x5 (ix4 b h i j) = ((g.k b h 9 j : ℝ) : EReal) := by
    rw [val_main_v317_apply, val_main_v315_apply, val_main_v314_apply, val_main_v313_apply, idx_row b 9 h j (idx_main_v313 (idx_main_v314 (idx_main_v315 (idx_main_v317 (ix4 b h i j))))) (by rfl) (by rfl) (by rfl) (by rfl), v27_at H]
  rw [val_main_v319_apply, val_main_v309_apply, val_main_v298_apply, val_main_v308_apply, val_main_v318_apply, ed, eq, ea, ev, ew, s8 H b h i j]
  exact step_at g b h 9 9 (by decide) i j

/-- Step 9: the output. -/
theorem o9 (H : Holds g x0 x1 x2 x4 x5 x6 x9) (b : Fin 8) (h : Fin 32) (i : Fin 64) :
    val_main_v513 (F := Ideal) x0 x1 x2 x4 x5 x9 (ix4 b 9 h i) = ((g.o b h 9 i : ℝ) : EReal) := by
  have er : ∀ l, val_main_v321 (F := Ideal) x0 (ix3 b h l) = ((hd (g.x 0) b h 9 l : ℝ) : EReal) := fun l => by
    rw [val_main_v321_apply, val_main_v320_apply, idx_row b 9 h l (idx_main_v320 (idx_main_v321 (ix3 b h l))) (by rfl) (by rfl) (by rfl) (by rfl), v28_at H]
  unfold val_main_v513
  refine (cat9 _ _ _ _ _ _ _ _ _ _ _ _ _ _ _ _ _ b h i).trans ?_
  · have e : idx_main_v506 (ix4 b 0 h i) = ix3 b h i := funext fun a => match a with | ⟨0, _⟩ => rfl | ⟨1, _⟩ => rfl | ⟨2, _⟩ => rfl
    rw [val_main_v506_apply, e, val_main_v322_apply, ← read_at]
    refine Finset.sum_congr rfl fun l _ => congrArg₂ (· * · : EReal → EReal → EReal) ?_ ?_
    · rw [show lidx_main_v322 (ix3 b h i) l = ix4 b h i l from funext fun a => match a with | ⟨0, _⟩ => rfl | ⟨1, _⟩ => rfl | ⟨2, _⟩ => rfl | ⟨3, _⟩ => rfl]
      exact s9 H b h i l
    · rw [show ridx_main_v322 (ix3 b h i) l = ix3 b h l from funext fun a => match a with | ⟨0, _⟩ => rfl | ⟨1, _⟩ => rfl | ⟨2, _⟩ => rfl]
      exact er l

/-- Step 10: the state. -/
theorem s10 (H : Holds g x0 x1 x2 x4 x5 x6 x9) (b : Fin 8) (h : Fin 32) (i j : Fin 64) :
    val_main_v348 (F := Ideal) x0 x1 x2 x4 x5 x9 (ix4 b h i j) = ((g.st b h 11 i j : ℝ) : EReal) := by
  have ed : val_main_v326 (F := Ideal) x1 (ix4 b h i j) = ((Real.exp (hd g.lw b h 10 j) : ℝ) : EReal) := by
    rw [val_main_v326_apply, val_main_v325_apply, val_main_v324_apply, val_main_v323_apply, idx_row b 10 h j (idx_main_v323 (idx_main_v324 (idx_main_v325 (idx_main_v326 (ix4 b h i j))))) (by rfl) (by rfl) (by rfl) (by rfl), v30_at H]
  have ek : ∀ l, val_main_v329 (F := Ideal) x0 x4 (ix3 b h l) = ((g.kk b h 10 l : ℝ) : EReal) := fun l => by
    rw [val_main_v329_apply, val_main_v328_apply, idx_row b 10 h l (idx_main_v328 (idx_main_v329 (ix3 b h l))) (by rfl) (by rfl) (by rfl) (by rfl), v18_at H]
  have eq : val_main_v335 (F := Ideal) x0 x1 x2 x4 x5 x9 (ix4 b h i j) = ∑ l, ((g.st b h 10 i l : ℝ) : EReal) * ((g.kk b h 10 l : ℝ) : EReal) := by
    have e : idx_main_v331 (idx_main_v335 (ix4 b h i j)) = ix3 b h i := funext fun a => match a with | ⟨0, _⟩ => rfl | ⟨1, _⟩ => rfl | ⟨2, _⟩ => rfl
    rw [val_main_v335_apply, val_main_v331_apply, e, val_main_v330_apply]
    refine Finset.sum_congr rfl fun l _ => congrArg₂ (· * · : EReal → EReal → EReal) ?_ ?_
    · rw [show lidx_main_v330 (ix3 b h i) l = ix4 b h i l from funext fun a => match a with | ⟨0, _⟩ => rfl | ⟨1, _⟩ => rfl | ⟨2, _⟩ => rfl | ⟨3, _⟩ => rfl]
      exact s9 H b h i l
    · rw [show ridx_main_v330 (ix3 b h i) l = ix3 b h l from funext fun a => match a with | ⟨0, _⟩ => rfl | ⟨1, _⟩ => rfl | ⟨2, _⟩ => rfl]
      exact ek l
  have ea : val_main_v336 (F := Ideal) x0 x2 x4 (ix4 b h i j) = ((hd g.a b h 10 j * g.kk b h 10 j : ℝ) : EReal) := by
    rw [val_main_v336_apply, val_main_v334_apply, val_main_v333_apply, val_main_v332_apply, idx_row b 10 h j (idx_main_v332 (idx_main_v333 (idx_main_v334 (idx_main_v336 (ix4 b h i j))))) (by rfl) (by rfl) (by rfl) (by rfl), v32_at H]
  have ev : val_main_v345 (F := Ideal) x0 (ix4 b h i j) = ((hd (g.x 2) b h 10 i : ℝ) : EReal) := by
    rw [val_main_v345_apply, val_main_v341_apply, val_main_v340_apply, val_main_v339_apply, idx_row b 10 h i (idx_main_v339 (idx_main_v340 (idx_main_v341 (idx_main_v345 (ix4 b h i j))))) (by rfl) (by rfl) (by rfl) (by rfl), v29_at H]
  have ew : val_main_v346 (F := Ideal) x0 x2 x5 (ix4 b h i j) = ((g.k b h 10 j : ℝ) : EReal) := by
    rw [val_main_v346_apply, val_main_v344_apply, val_main_v343_apply, val_main_v342_apply, idx_row b 10 h j (idx_main_v342 (idx_main_v343 (idx_main_v344 (idx_main_v346 (ix4 b h i j))))) (by rfl) (by rfl) (by rfl) (by rfl), v27_at H]
  rw [val_main_v348_apply, val_main_v338_apply, val_main_v327_apply, val_main_v337_apply, val_main_v347_apply, ed, eq, ea, ev, ew, s9 H b h i j]
  exact step_at g b h 10 10 (by decide) i j

/-- Step 10: the output. -/
theorem o10 (H : Holds g x0 x1 x2 x4 x5 x6 x9) (b : Fin 8) (h : Fin 32) (i : Fin 64) :
    val_main_v513 (F := Ideal) x0 x1 x2 x4 x5 x9 (ix4 b 10 h i) = ((g.o b h 10 i : ℝ) : EReal) := by
  have er : ∀ l, val_main_v350 (F := Ideal) x0 (ix3 b h l) = ((hd (g.x 0) b h 10 l : ℝ) : EReal) := fun l => by
    rw [val_main_v350_apply, val_main_v349_apply, idx_row b 10 h l (idx_main_v349 (idx_main_v350 (ix3 b h l))) (by rfl) (by rfl) (by rfl) (by rfl), v28_at H]
  unfold val_main_v513
  refine (cat10 _ _ _ _ _ _ _ _ _ _ _ _ _ _ _ _ _ b h i).trans ?_
  · have e : idx_main_v507 (ix4 b 0 h i) = ix3 b h i := funext fun a => match a with | ⟨0, _⟩ => rfl | ⟨1, _⟩ => rfl | ⟨2, _⟩ => rfl
    rw [val_main_v507_apply, e, val_main_v351_apply, ← read_at]
    refine Finset.sum_congr rfl fun l _ => congrArg₂ (· * · : EReal → EReal → EReal) ?_ ?_
    · rw [show lidx_main_v351 (ix3 b h i) l = ix4 b h i l from funext fun a => match a with | ⟨0, _⟩ => rfl | ⟨1, _⟩ => rfl | ⟨2, _⟩ => rfl | ⟨3, _⟩ => rfl]
      exact s10 H b h i l
    · rw [show ridx_main_v351 (ix3 b h i) l = ix3 b h l from funext fun a => match a with | ⟨0, _⟩ => rfl | ⟨1, _⟩ => rfl | ⟨2, _⟩ => rfl]
      exact er l

/-- Step 11: the state. -/
theorem s11 (H : Holds g x0 x1 x2 x4 x5 x6 x9) (b : Fin 8) (h : Fin 32) (i j : Fin 64) :
    val_main_v377 (F := Ideal) x0 x1 x2 x4 x5 x9 (ix4 b h i j) = ((g.st b h 12 i j : ℝ) : EReal) := by
  have ed : val_main_v355 (F := Ideal) x1 (ix4 b h i j) = ((Real.exp (hd g.lw b h 11 j) : ℝ) : EReal) := by
    rw [val_main_v355_apply, val_main_v354_apply, val_main_v353_apply, val_main_v352_apply, idx_row b 11 h j (idx_main_v352 (idx_main_v353 (idx_main_v354 (idx_main_v355 (ix4 b h i j))))) (by rfl) (by rfl) (by rfl) (by rfl), v30_at H]
  have ek : ∀ l, val_main_v358 (F := Ideal) x0 x4 (ix3 b h l) = ((g.kk b h 11 l : ℝ) : EReal) := fun l => by
    rw [val_main_v358_apply, val_main_v357_apply, idx_row b 11 h l (idx_main_v357 (idx_main_v358 (ix3 b h l))) (by rfl) (by rfl) (by rfl) (by rfl), v18_at H]
  have eq : val_main_v364 (F := Ideal) x0 x1 x2 x4 x5 x9 (ix4 b h i j) = ∑ l, ((g.st b h 11 i l : ℝ) : EReal) * ((g.kk b h 11 l : ℝ) : EReal) := by
    have e : idx_main_v360 (idx_main_v364 (ix4 b h i j)) = ix3 b h i := funext fun a => match a with | ⟨0, _⟩ => rfl | ⟨1, _⟩ => rfl | ⟨2, _⟩ => rfl
    rw [val_main_v364_apply, val_main_v360_apply, e, val_main_v359_apply]
    refine Finset.sum_congr rfl fun l _ => congrArg₂ (· * · : EReal → EReal → EReal) ?_ ?_
    · rw [show lidx_main_v359 (ix3 b h i) l = ix4 b h i l from funext fun a => match a with | ⟨0, _⟩ => rfl | ⟨1, _⟩ => rfl | ⟨2, _⟩ => rfl | ⟨3, _⟩ => rfl]
      exact s10 H b h i l
    · rw [show ridx_main_v359 (ix3 b h i) l = ix3 b h l from funext fun a => match a with | ⟨0, _⟩ => rfl | ⟨1, _⟩ => rfl | ⟨2, _⟩ => rfl]
      exact ek l
  have ea : val_main_v365 (F := Ideal) x0 x2 x4 (ix4 b h i j) = ((hd g.a b h 11 j * g.kk b h 11 j : ℝ) : EReal) := by
    rw [val_main_v365_apply, val_main_v363_apply, val_main_v362_apply, val_main_v361_apply, idx_row b 11 h j (idx_main_v361 (idx_main_v362 (idx_main_v363 (idx_main_v365 (ix4 b h i j))))) (by rfl) (by rfl) (by rfl) (by rfl), v32_at H]
  have ev : val_main_v374 (F := Ideal) x0 (ix4 b h i j) = ((hd (g.x 2) b h 11 i : ℝ) : EReal) := by
    rw [val_main_v374_apply, val_main_v370_apply, val_main_v369_apply, val_main_v368_apply, idx_row b 11 h i (idx_main_v368 (idx_main_v369 (idx_main_v370 (idx_main_v374 (ix4 b h i j))))) (by rfl) (by rfl) (by rfl) (by rfl), v29_at H]
  have ew : val_main_v375 (F := Ideal) x0 x2 x5 (ix4 b h i j) = ((g.k b h 11 j : ℝ) : EReal) := by
    rw [val_main_v375_apply, val_main_v373_apply, val_main_v372_apply, val_main_v371_apply, idx_row b 11 h j (idx_main_v371 (idx_main_v372 (idx_main_v373 (idx_main_v375 (ix4 b h i j))))) (by rfl) (by rfl) (by rfl) (by rfl), v27_at H]
  rw [val_main_v377_apply, val_main_v367_apply, val_main_v356_apply, val_main_v366_apply, val_main_v376_apply, ed, eq, ea, ev, ew, s10 H b h i j]
  exact step_at g b h 11 11 (by decide) i j

/-- Step 11: the output. -/
theorem o11 (H : Holds g x0 x1 x2 x4 x5 x6 x9) (b : Fin 8) (h : Fin 32) (i : Fin 64) :
    val_main_v513 (F := Ideal) x0 x1 x2 x4 x5 x9 (ix4 b 11 h i) = ((g.o b h 11 i : ℝ) : EReal) := by
  have er : ∀ l, val_main_v379 (F := Ideal) x0 (ix3 b h l) = ((hd (g.x 0) b h 11 l : ℝ) : EReal) := fun l => by
    rw [val_main_v379_apply, val_main_v378_apply, idx_row b 11 h l (idx_main_v378 (idx_main_v379 (ix3 b h l))) (by rfl) (by rfl) (by rfl) (by rfl), v28_at H]
  unfold val_main_v513
  refine (cat11 _ _ _ _ _ _ _ _ _ _ _ _ _ _ _ _ _ b h i).trans ?_
  · have e : idx_main_v508 (ix4 b 0 h i) = ix3 b h i := funext fun a => match a with | ⟨0, _⟩ => rfl | ⟨1, _⟩ => rfl | ⟨2, _⟩ => rfl
    rw [val_main_v508_apply, e, val_main_v380_apply, ← read_at]
    refine Finset.sum_congr rfl fun l _ => congrArg₂ (· * · : EReal → EReal → EReal) ?_ ?_
    · rw [show lidx_main_v380 (ix3 b h i) l = ix4 b h i l from funext fun a => match a with | ⟨0, _⟩ => rfl | ⟨1, _⟩ => rfl | ⟨2, _⟩ => rfl | ⟨3, _⟩ => rfl]
      exact s11 H b h i l
    · rw [show ridx_main_v380 (ix3 b h i) l = ix3 b h l from funext fun a => match a with | ⟨0, _⟩ => rfl | ⟨1, _⟩ => rfl | ⟨2, _⟩ => rfl]
      exact er l

/-- Step 12: the state. -/
theorem s12 (H : Holds g x0 x1 x2 x4 x5 x6 x9) (b : Fin 8) (h : Fin 32) (i j : Fin 64) :
    val_main_v406 (F := Ideal) x0 x1 x2 x4 x5 x9 (ix4 b h i j) = ((g.st b h 13 i j : ℝ) : EReal) := by
  have ed : val_main_v384 (F := Ideal) x1 (ix4 b h i j) = ((Real.exp (hd g.lw b h 12 j) : ℝ) : EReal) := by
    rw [val_main_v384_apply, val_main_v383_apply, val_main_v382_apply, val_main_v381_apply, idx_row b 12 h j (idx_main_v381 (idx_main_v382 (idx_main_v383 (idx_main_v384 (ix4 b h i j))))) (by rfl) (by rfl) (by rfl) (by rfl), v30_at H]
  have ek : ∀ l, val_main_v387 (F := Ideal) x0 x4 (ix3 b h l) = ((g.kk b h 12 l : ℝ) : EReal) := fun l => by
    rw [val_main_v387_apply, val_main_v386_apply, idx_row b 12 h l (idx_main_v386 (idx_main_v387 (ix3 b h l))) (by rfl) (by rfl) (by rfl) (by rfl), v18_at H]
  have eq : val_main_v393 (F := Ideal) x0 x1 x2 x4 x5 x9 (ix4 b h i j) = ∑ l, ((g.st b h 12 i l : ℝ) : EReal) * ((g.kk b h 12 l : ℝ) : EReal) := by
    have e : idx_main_v389 (idx_main_v393 (ix4 b h i j)) = ix3 b h i := funext fun a => match a with | ⟨0, _⟩ => rfl | ⟨1, _⟩ => rfl | ⟨2, _⟩ => rfl
    rw [val_main_v393_apply, val_main_v389_apply, e, val_main_v388_apply]
    refine Finset.sum_congr rfl fun l _ => congrArg₂ (· * · : EReal → EReal → EReal) ?_ ?_
    · rw [show lidx_main_v388 (ix3 b h i) l = ix4 b h i l from funext fun a => match a with | ⟨0, _⟩ => rfl | ⟨1, _⟩ => rfl | ⟨2, _⟩ => rfl | ⟨3, _⟩ => rfl]
      exact s11 H b h i l
    · rw [show ridx_main_v388 (ix3 b h i) l = ix3 b h l from funext fun a => match a with | ⟨0, _⟩ => rfl | ⟨1, _⟩ => rfl | ⟨2, _⟩ => rfl]
      exact ek l
  have ea : val_main_v394 (F := Ideal) x0 x2 x4 (ix4 b h i j) = ((hd g.a b h 12 j * g.kk b h 12 j : ℝ) : EReal) := by
    rw [val_main_v394_apply, val_main_v392_apply, val_main_v391_apply, val_main_v390_apply, idx_row b 12 h j (idx_main_v390 (idx_main_v391 (idx_main_v392 (idx_main_v394 (ix4 b h i j))))) (by rfl) (by rfl) (by rfl) (by rfl), v32_at H]
  have ev : val_main_v403 (F := Ideal) x0 (ix4 b h i j) = ((hd (g.x 2) b h 12 i : ℝ) : EReal) := by
    rw [val_main_v403_apply, val_main_v399_apply, val_main_v398_apply, val_main_v397_apply, idx_row b 12 h i (idx_main_v397 (idx_main_v398 (idx_main_v399 (idx_main_v403 (ix4 b h i j))))) (by rfl) (by rfl) (by rfl) (by rfl), v29_at H]
  have ew : val_main_v404 (F := Ideal) x0 x2 x5 (ix4 b h i j) = ((g.k b h 12 j : ℝ) : EReal) := by
    rw [val_main_v404_apply, val_main_v402_apply, val_main_v401_apply, val_main_v400_apply, idx_row b 12 h j (idx_main_v400 (idx_main_v401 (idx_main_v402 (idx_main_v404 (ix4 b h i j))))) (by rfl) (by rfl) (by rfl) (by rfl), v27_at H]
  rw [val_main_v406_apply, val_main_v396_apply, val_main_v385_apply, val_main_v395_apply, val_main_v405_apply, ed, eq, ea, ev, ew, s11 H b h i j]
  exact step_at g b h 12 12 (by decide) i j

/-- Step 12: the output. -/
theorem o12 (H : Holds g x0 x1 x2 x4 x5 x6 x9) (b : Fin 8) (h : Fin 32) (i : Fin 64) :
    val_main_v513 (F := Ideal) x0 x1 x2 x4 x5 x9 (ix4 b 12 h i) = ((g.o b h 12 i : ℝ) : EReal) := by
  have er : ∀ l, val_main_v408 (F := Ideal) x0 (ix3 b h l) = ((hd (g.x 0) b h 12 l : ℝ) : EReal) := fun l => by
    rw [val_main_v408_apply, val_main_v407_apply, idx_row b 12 h l (idx_main_v407 (idx_main_v408 (ix3 b h l))) (by rfl) (by rfl) (by rfl) (by rfl), v28_at H]
  unfold val_main_v513
  refine (cat12 _ _ _ _ _ _ _ _ _ _ _ _ _ _ _ _ _ b h i).trans ?_
  · have e : idx_main_v509 (ix4 b 0 h i) = ix3 b h i := funext fun a => match a with | ⟨0, _⟩ => rfl | ⟨1, _⟩ => rfl | ⟨2, _⟩ => rfl
    rw [val_main_v509_apply, e, val_main_v409_apply, ← read_at]
    refine Finset.sum_congr rfl fun l _ => congrArg₂ (· * · : EReal → EReal → EReal) ?_ ?_
    · rw [show lidx_main_v409 (ix3 b h i) l = ix4 b h i l from funext fun a => match a with | ⟨0, _⟩ => rfl | ⟨1, _⟩ => rfl | ⟨2, _⟩ => rfl | ⟨3, _⟩ => rfl]
      exact s12 H b h i l
    · rw [show ridx_main_v409 (ix3 b h i) l = ix3 b h l from funext fun a => match a with | ⟨0, _⟩ => rfl | ⟨1, _⟩ => rfl | ⟨2, _⟩ => rfl]
      exact er l

/-- Step 13: the state. -/
theorem s13 (H : Holds g x0 x1 x2 x4 x5 x6 x9) (b : Fin 8) (h : Fin 32) (i j : Fin 64) :
    val_main_v435 (F := Ideal) x0 x1 x2 x4 x5 x9 (ix4 b h i j) = ((g.st b h 14 i j : ℝ) : EReal) := by
  have ed : val_main_v413 (F := Ideal) x1 (ix4 b h i j) = ((Real.exp (hd g.lw b h 13 j) : ℝ) : EReal) := by
    rw [val_main_v413_apply, val_main_v412_apply, val_main_v411_apply, val_main_v410_apply, idx_row b 13 h j (idx_main_v410 (idx_main_v411 (idx_main_v412 (idx_main_v413 (ix4 b h i j))))) (by rfl) (by rfl) (by rfl) (by rfl), v30_at H]
  have ek : ∀ l, val_main_v416 (F := Ideal) x0 x4 (ix3 b h l) = ((g.kk b h 13 l : ℝ) : EReal) := fun l => by
    rw [val_main_v416_apply, val_main_v415_apply, idx_row b 13 h l (idx_main_v415 (idx_main_v416 (ix3 b h l))) (by rfl) (by rfl) (by rfl) (by rfl), v18_at H]
  have eq : val_main_v422 (F := Ideal) x0 x1 x2 x4 x5 x9 (ix4 b h i j) = ∑ l, ((g.st b h 13 i l : ℝ) : EReal) * ((g.kk b h 13 l : ℝ) : EReal) := by
    have e : idx_main_v418 (idx_main_v422 (ix4 b h i j)) = ix3 b h i := funext fun a => match a with | ⟨0, _⟩ => rfl | ⟨1, _⟩ => rfl | ⟨2, _⟩ => rfl
    rw [val_main_v422_apply, val_main_v418_apply, e, val_main_v417_apply]
    refine Finset.sum_congr rfl fun l _ => congrArg₂ (· * · : EReal → EReal → EReal) ?_ ?_
    · rw [show lidx_main_v417 (ix3 b h i) l = ix4 b h i l from funext fun a => match a with | ⟨0, _⟩ => rfl | ⟨1, _⟩ => rfl | ⟨2, _⟩ => rfl | ⟨3, _⟩ => rfl]
      exact s12 H b h i l
    · rw [show ridx_main_v417 (ix3 b h i) l = ix3 b h l from funext fun a => match a with | ⟨0, _⟩ => rfl | ⟨1, _⟩ => rfl | ⟨2, _⟩ => rfl]
      exact ek l
  have ea : val_main_v423 (F := Ideal) x0 x2 x4 (ix4 b h i j) = ((hd g.a b h 13 j * g.kk b h 13 j : ℝ) : EReal) := by
    rw [val_main_v423_apply, val_main_v421_apply, val_main_v420_apply, val_main_v419_apply, idx_row b 13 h j (idx_main_v419 (idx_main_v420 (idx_main_v421 (idx_main_v423 (ix4 b h i j))))) (by rfl) (by rfl) (by rfl) (by rfl), v32_at H]
  have ev : val_main_v432 (F := Ideal) x0 (ix4 b h i j) = ((hd (g.x 2) b h 13 i : ℝ) : EReal) := by
    rw [val_main_v432_apply, val_main_v428_apply, val_main_v427_apply, val_main_v426_apply, idx_row b 13 h i (idx_main_v426 (idx_main_v427 (idx_main_v428 (idx_main_v432 (ix4 b h i j))))) (by rfl) (by rfl) (by rfl) (by rfl), v29_at H]
  have ew : val_main_v433 (F := Ideal) x0 x2 x5 (ix4 b h i j) = ((g.k b h 13 j : ℝ) : EReal) := by
    rw [val_main_v433_apply, val_main_v431_apply, val_main_v430_apply, val_main_v429_apply, idx_row b 13 h j (idx_main_v429 (idx_main_v430 (idx_main_v431 (idx_main_v433 (ix4 b h i j))))) (by rfl) (by rfl) (by rfl) (by rfl), v27_at H]
  rw [val_main_v435_apply, val_main_v425_apply, val_main_v414_apply, val_main_v424_apply, val_main_v434_apply, ed, eq, ea, ev, ew, s12 H b h i j]
  exact step_at g b h 13 13 (by decide) i j

/-- Step 13: the output. -/
theorem o13 (H : Holds g x0 x1 x2 x4 x5 x6 x9) (b : Fin 8) (h : Fin 32) (i : Fin 64) :
    val_main_v513 (F := Ideal) x0 x1 x2 x4 x5 x9 (ix4 b 13 h i) = ((g.o b h 13 i : ℝ) : EReal) := by
  have er : ∀ l, val_main_v437 (F := Ideal) x0 (ix3 b h l) = ((hd (g.x 0) b h 13 l : ℝ) : EReal) := fun l => by
    rw [val_main_v437_apply, val_main_v436_apply, idx_row b 13 h l (idx_main_v436 (idx_main_v437 (ix3 b h l))) (by rfl) (by rfl) (by rfl) (by rfl), v28_at H]
  unfold val_main_v513
  refine (cat13 _ _ _ _ _ _ _ _ _ _ _ _ _ _ _ _ _ b h i).trans ?_
  · have e : idx_main_v510 (ix4 b 0 h i) = ix3 b h i := funext fun a => match a with | ⟨0, _⟩ => rfl | ⟨1, _⟩ => rfl | ⟨2, _⟩ => rfl
    rw [val_main_v510_apply, e, val_main_v438_apply, ← read_at]
    refine Finset.sum_congr rfl fun l _ => congrArg₂ (· * · : EReal → EReal → EReal) ?_ ?_
    · rw [show lidx_main_v438 (ix3 b h i) l = ix4 b h i l from funext fun a => match a with | ⟨0, _⟩ => rfl | ⟨1, _⟩ => rfl | ⟨2, _⟩ => rfl | ⟨3, _⟩ => rfl]
      exact s13 H b h i l
    · rw [show ridx_main_v438 (ix3 b h i) l = ix3 b h l from funext fun a => match a with | ⟨0, _⟩ => rfl | ⟨1, _⟩ => rfl | ⟨2, _⟩ => rfl]
      exact er l

/-- Step 14: the state. -/
theorem s14 (H : Holds g x0 x1 x2 x4 x5 x6 x9) (b : Fin 8) (h : Fin 32) (i j : Fin 64) :
    val_main_v464 (F := Ideal) x0 x1 x2 x4 x5 x9 (ix4 b h i j) = ((g.st b h 15 i j : ℝ) : EReal) := by
  have ed : val_main_v442 (F := Ideal) x1 (ix4 b h i j) = ((Real.exp (hd g.lw b h 14 j) : ℝ) : EReal) := by
    rw [val_main_v442_apply, val_main_v441_apply, val_main_v440_apply, val_main_v439_apply, idx_row b 14 h j (idx_main_v439 (idx_main_v440 (idx_main_v441 (idx_main_v442 (ix4 b h i j))))) (by rfl) (by rfl) (by rfl) (by rfl), v30_at H]
  have ek : ∀ l, val_main_v445 (F := Ideal) x0 x4 (ix3 b h l) = ((g.kk b h 14 l : ℝ) : EReal) := fun l => by
    rw [val_main_v445_apply, val_main_v444_apply, idx_row b 14 h l (idx_main_v444 (idx_main_v445 (ix3 b h l))) (by rfl) (by rfl) (by rfl) (by rfl), v18_at H]
  have eq : val_main_v451 (F := Ideal) x0 x1 x2 x4 x5 x9 (ix4 b h i j) = ∑ l, ((g.st b h 14 i l : ℝ) : EReal) * ((g.kk b h 14 l : ℝ) : EReal) := by
    have e : idx_main_v447 (idx_main_v451 (ix4 b h i j)) = ix3 b h i := funext fun a => match a with | ⟨0, _⟩ => rfl | ⟨1, _⟩ => rfl | ⟨2, _⟩ => rfl
    rw [val_main_v451_apply, val_main_v447_apply, e, val_main_v446_apply]
    refine Finset.sum_congr rfl fun l _ => congrArg₂ (· * · : EReal → EReal → EReal) ?_ ?_
    · rw [show lidx_main_v446 (ix3 b h i) l = ix4 b h i l from funext fun a => match a with | ⟨0, _⟩ => rfl | ⟨1, _⟩ => rfl | ⟨2, _⟩ => rfl | ⟨3, _⟩ => rfl]
      exact s13 H b h i l
    · rw [show ridx_main_v446 (ix3 b h i) l = ix3 b h l from funext fun a => match a with | ⟨0, _⟩ => rfl | ⟨1, _⟩ => rfl | ⟨2, _⟩ => rfl]
      exact ek l
  have ea : val_main_v452 (F := Ideal) x0 x2 x4 (ix4 b h i j) = ((hd g.a b h 14 j * g.kk b h 14 j : ℝ) : EReal) := by
    rw [val_main_v452_apply, val_main_v450_apply, val_main_v449_apply, val_main_v448_apply, idx_row b 14 h j (idx_main_v448 (idx_main_v449 (idx_main_v450 (idx_main_v452 (ix4 b h i j))))) (by rfl) (by rfl) (by rfl) (by rfl), v32_at H]
  have ev : val_main_v461 (F := Ideal) x0 (ix4 b h i j) = ((hd (g.x 2) b h 14 i : ℝ) : EReal) := by
    rw [val_main_v461_apply, val_main_v457_apply, val_main_v456_apply, val_main_v455_apply, idx_row b 14 h i (idx_main_v455 (idx_main_v456 (idx_main_v457 (idx_main_v461 (ix4 b h i j))))) (by rfl) (by rfl) (by rfl) (by rfl), v29_at H]
  have ew : val_main_v462 (F := Ideal) x0 x2 x5 (ix4 b h i j) = ((g.k b h 14 j : ℝ) : EReal) := by
    rw [val_main_v462_apply, val_main_v460_apply, val_main_v459_apply, val_main_v458_apply, idx_row b 14 h j (idx_main_v458 (idx_main_v459 (idx_main_v460 (idx_main_v462 (ix4 b h i j))))) (by rfl) (by rfl) (by rfl) (by rfl), v27_at H]
  rw [val_main_v464_apply, val_main_v454_apply, val_main_v443_apply, val_main_v453_apply, val_main_v463_apply, ed, eq, ea, ev, ew, s13 H b h i j]
  exact step_at g b h 14 14 (by decide) i j

/-- Step 14: the output. -/
theorem o14 (H : Holds g x0 x1 x2 x4 x5 x6 x9) (b : Fin 8) (h : Fin 32) (i : Fin 64) :
    val_main_v513 (F := Ideal) x0 x1 x2 x4 x5 x9 (ix4 b 14 h i) = ((g.o b h 14 i : ℝ) : EReal) := by
  have er : ∀ l, val_main_v466 (F := Ideal) x0 (ix3 b h l) = ((hd (g.x 0) b h 14 l : ℝ) : EReal) := fun l => by
    rw [val_main_v466_apply, val_main_v465_apply, idx_row b 14 h l (idx_main_v465 (idx_main_v466 (ix3 b h l))) (by rfl) (by rfl) (by rfl) (by rfl), v28_at H]
  unfold val_main_v513
  refine (cat14 _ _ _ _ _ _ _ _ _ _ _ _ _ _ _ _ _ b h i).trans ?_
  · have e : idx_main_v511 (ix4 b 0 h i) = ix3 b h i := funext fun a => match a with | ⟨0, _⟩ => rfl | ⟨1, _⟩ => rfl | ⟨2, _⟩ => rfl
    rw [val_main_v511_apply, e, val_main_v467_apply, ← read_at]
    refine Finset.sum_congr rfl fun l _ => congrArg₂ (· * · : EReal → EReal → EReal) ?_ ?_
    · rw [show lidx_main_v467 (ix3 b h i) l = ix4 b h i l from funext fun a => match a with | ⟨0, _⟩ => rfl | ⟨1, _⟩ => rfl | ⟨2, _⟩ => rfl | ⟨3, _⟩ => rfl]
      exact s14 H b h i l
    · rw [show ridx_main_v467 (ix3 b h i) l = ix3 b h l from funext fun a => match a with | ⟨0, _⟩ => rfl | ⟨1, _⟩ => rfl | ⟨2, _⟩ => rfl]
      exact er l

/-- Step 15: the state. -/
theorem s15 (H : Holds g x0 x1 x2 x4 x5 x6 x9) (b : Fin 8) (h : Fin 32) (i j : Fin 64) :
    val_main_v493 (F := Ideal) x0 x1 x2 x4 x5 x9 (ix4 b h i j) = ((g.st b h 16 i j : ℝ) : EReal) := by
  have ed : val_main_v471 (F := Ideal) x1 (ix4 b h i j) = ((Real.exp (hd g.lw b h 15 j) : ℝ) : EReal) := by
    rw [val_main_v471_apply, val_main_v470_apply, val_main_v469_apply, val_main_v468_apply, idx_row b 15 h j (idx_main_v468 (idx_main_v469 (idx_main_v470 (idx_main_v471 (ix4 b h i j))))) (by rfl) (by rfl) (by rfl) (by rfl), v30_at H]
  have ek : ∀ l, val_main_v474 (F := Ideal) x0 x4 (ix3 b h l) = ((g.kk b h 15 l : ℝ) : EReal) := fun l => by
    rw [val_main_v474_apply, val_main_v473_apply, idx_row b 15 h l (idx_main_v473 (idx_main_v474 (ix3 b h l))) (by rfl) (by rfl) (by rfl) (by rfl), v18_at H]
  have eq : val_main_v480 (F := Ideal) x0 x1 x2 x4 x5 x9 (ix4 b h i j) = ∑ l, ((g.st b h 15 i l : ℝ) : EReal) * ((g.kk b h 15 l : ℝ) : EReal) := by
    have e : idx_main_v476 (idx_main_v480 (ix4 b h i j)) = ix3 b h i := funext fun a => match a with | ⟨0, _⟩ => rfl | ⟨1, _⟩ => rfl | ⟨2, _⟩ => rfl
    rw [val_main_v480_apply, val_main_v476_apply, e, val_main_v475_apply]
    refine Finset.sum_congr rfl fun l _ => congrArg₂ (· * · : EReal → EReal → EReal) ?_ ?_
    · rw [show lidx_main_v475 (ix3 b h i) l = ix4 b h i l from funext fun a => match a with | ⟨0, _⟩ => rfl | ⟨1, _⟩ => rfl | ⟨2, _⟩ => rfl | ⟨3, _⟩ => rfl]
      exact s14 H b h i l
    · rw [show ridx_main_v475 (ix3 b h i) l = ix3 b h l from funext fun a => match a with | ⟨0, _⟩ => rfl | ⟨1, _⟩ => rfl | ⟨2, _⟩ => rfl]
      exact ek l
  have ea : val_main_v481 (F := Ideal) x0 x2 x4 (ix4 b h i j) = ((hd g.a b h 15 j * g.kk b h 15 j : ℝ) : EReal) := by
    rw [val_main_v481_apply, val_main_v479_apply, val_main_v478_apply, val_main_v477_apply, idx_row b 15 h j (idx_main_v477 (idx_main_v478 (idx_main_v479 (idx_main_v481 (ix4 b h i j))))) (by rfl) (by rfl) (by rfl) (by rfl), v32_at H]
  have ev : val_main_v490 (F := Ideal) x0 (ix4 b h i j) = ((hd (g.x 2) b h 15 i : ℝ) : EReal) := by
    rw [val_main_v490_apply, val_main_v486_apply, val_main_v485_apply, val_main_v484_apply, idx_row b 15 h i (idx_main_v484 (idx_main_v485 (idx_main_v486 (idx_main_v490 (ix4 b h i j))))) (by rfl) (by rfl) (by rfl) (by rfl), v29_at H]
  have ew : val_main_v491 (F := Ideal) x0 x2 x5 (ix4 b h i j) = ((g.k b h 15 j : ℝ) : EReal) := by
    rw [val_main_v491_apply, val_main_v489_apply, val_main_v488_apply, val_main_v487_apply, idx_row b 15 h j (idx_main_v487 (idx_main_v488 (idx_main_v489 (idx_main_v491 (ix4 b h i j))))) (by rfl) (by rfl) (by rfl) (by rfl), v27_at H]
  rw [val_main_v493_apply, val_main_v483_apply, val_main_v472_apply, val_main_v482_apply, val_main_v492_apply, ed, eq, ea, ev, ew, s14 H b h i j]
  exact step_at g b h 15 15 (by decide) i j

/-- Step 15: the output. -/
theorem o15 (H : Holds g x0 x1 x2 x4 x5 x6 x9) (b : Fin 8) (h : Fin 32) (i : Fin 64) :
    val_main_v513 (F := Ideal) x0 x1 x2 x4 x5 x9 (ix4 b 15 h i) = ((g.o b h 15 i : ℝ) : EReal) := by
  have er : ∀ l, val_main_v495 (F := Ideal) x0 (ix3 b h l) = ((hd (g.x 0) b h 15 l : ℝ) : EReal) := fun l => by
    rw [val_main_v495_apply, val_main_v494_apply, idx_row b 15 h l (idx_main_v494 (idx_main_v495 (ix3 b h l))) (by rfl) (by rfl) (by rfl) (by rfl), v28_at H]
  unfold val_main_v513
  refine (cat15 _ _ _ _ _ _ _ _ _ _ _ _ _ _ _ _ _ b h i).trans ?_
  · have e : idx_main_v512 (ix4 b 0 h i) = ix3 b h i := funext fun a => match a with | ⟨0, _⟩ => rfl | ⟨1, _⟩ => rfl | ⟨2, _⟩ => rfl
    rw [val_main_v512_apply, e, val_main_v496_apply, ← read_at]
    refine Finset.sum_congr rfl fun l _ => congrArg₂ (· * · : EReal → EReal → EReal) ?_ ?_
    · rw [show lidx_main_v496 (ix3 b h i) l = ix4 b h i l from funext fun a => match a with | ⟨0, _⟩ => rfl | ⟨1, _⟩ => rfl | ⟨2, _⟩ => rfl | ⟨3, _⟩ => rfl]
      exact s15 H b h i l
    · rw [show ridx_main_v496 (ix3 b h i) l = ix3 b h l from funext fun a => match a with | ⟨0, _⟩ => rfl | ⟨1, _⟩ => rfl | ⟨2, _⟩ => rfl]
      exact er l

/-- The outputs of all steps. -/
theorem o_at (H : Holds g x0 x1 x2 x4 x5 x6 x9) (b : Fin 8) (t : Fin 16) (h : Fin 32) (i : Fin 64) :
    val_main_v513 (F := Ideal) x0 x1 x2 x4 x5 x9 (ix4 b t h i) = ((g.o b h t i : ℝ) : EReal) :=
  match t with
  | ⟨0, _⟩ => o0 H b h i
  | ⟨1, _⟩ => o1 H b h i
  | ⟨2, _⟩ => o2 H b h i
  | ⟨3, _⟩ => o3 H b h i
  | ⟨4, _⟩ => o4 H b h i
  | ⟨5, _⟩ => o5 H b h i
  | ⟨6, _⟩ => o6 H b h i
  | ⟨7, _⟩ => o7 H b h i
  | ⟨8, _⟩ => o8 H b h i
  | ⟨9, _⟩ => o9 H b h i
  | ⟨10, _⟩ => o10 H b h i
  | ⟨11, _⟩ => o11 H b h i
  | ⟨12, _⟩ => o12 H b h i
  | ⟨13, _⟩ => o13 H b h i
  | ⟨14, _⟩ => o14 H b h i
  | ⟨15, _⟩ => o15 H b h i
  | ⟨n + 16, hn⟩ => absurd hn (by omega)

end Cert.WkvRef

end
-- ==== Proof.WkvRef.lean ====
/- The RWKV call's reference read at one entry: the output of a row of a head, and the state after the last row. -/
module

public import Idealize.ShloMosaic.Lib.ValueIdxRank6
public import proofs.«01_k».proof.Proof.WkvSteps

@[expose] public section

set_option maxRecDepth 16384

noncomputable section

namespace Cert.WkvRef

open Cert.ReferenceWkvIdeal Cert.ReferenceWkvIdeal.Gen Cert.ReferenceWkvIdeal.Read Cert.WkvMath
open Idealize.ShloMosaic Idealize.ShloMosaic.ValueIdx
open scoped BigOperators

variable {g : Given} {x0 : S3x128x2048.Idx → EReal} {x1 x2 x3 : S128x2048.Idx → EReal} {x4 x5 : S2048.Idx → EReal} {x6 : S32x64.Idx → EReal}
  {x7 x8 : S2048.Idx → EReal} {x9 : S8x32x64x64.Idx → EReal}

theorem zero_cst : (FloatOps.ofBits FTy.f32 0x00000000#32 : Ideal .f32) = (0 : EReal) := Ideal.ofBits_zero_f32

/-- A real number divided by the number of lanes. -/
theorem over_lanes (x : ℝ) : Ideal.div (x : EReal) lanesE = ((x * (1 / 64) : ℝ) : EReal) := by
  rw [lanesE_eq, Ideal.div_coe (by norm_num), ← EReal.coe_mul]

/-- The mean of a row. -/
theorem v517_at (H : Holds g x0 x1 x2 x4 x5 x6 x9) (b : Fin 8) (t : Fin 16) (h : Fin 32) :
    val_main_v517 (F := Ideal) x0 x1 x2 x4 x5 x9 (ix4 b t h 0) = ((mu (g.o b h t) : ℝ) : EReal) := by
  have e : idx_main_v515 (ix4 b t h 0) = ix3 b t h := funext fun a => match a with | ⟨0, _⟩ => rfl | ⟨1, _⟩ => rfl | ⟨2, _⟩ => rfl
  have es : val_main_v514 (F := Ideal) x0 x1 x2 x4 x5 x9 (ix3 b t h) = ((∑ i, g.o b h t i : ℝ) : EReal) := by
    rw [val_main_v514_apply, val_main_cst_3_apply, zero_cst, zero_add, coe_sum]
    refine Finset.sum_congr rfl fun l _ => ?_
    rw [show idx_main_v514 (ix3 b t h) l = ix4 b t h l from funext fun a => match a with | ⟨0, _⟩ => rfl | ⟨1, _⟩ => rfl | ⟨2, _⟩ => rfl | ⟨3, _⟩ => rfl, o_at H]
  rw [val_main_v517_apply, val_main_v515_apply, val_main_v516_apply, val_main_cst_4_apply, e, es]
  exact over_lanes _

/-- A row less its mean. -/
theorem v519_at (H : Holds g x0 x1 x2 x4 x5 x6 x9) (b : Fin 8) (t : Fin 16) (h : Fin 32) (i : Fin 64) :
    val_main_v519 (F := Ideal) x0 x1 x2 x4 x5 x9 (ix4 b t h i) = ((g.o b h t i - mu (g.o b h t) : ℝ) : EReal) := by
  have e : idx_main_v518 (ix4 b t h i) = ix4 b t h 0 := funext fun a => match a with | ⟨0, _⟩ => rfl | ⟨1, _⟩ => rfl | ⟨2, _⟩ => rfl | ⟨3, _⟩ => rfl
  rw [val_main_v519_apply, val_main_v518_apply, e, v517_at H, o_at H, EReal.coe_sub]
  rfl

/-- The variance of a row. -/
theorem v524_at (H : Holds g x0 x1 x2 x4 x5 x6 x9) (b : Fin 8) (t : Fin 16) (h : Fin 32) :
    val_main_v524 (F := Ideal) x0 x1 x2 x4 x5 x9 (ix4 b t h 0) = ((va (g.o b h t) : ℝ) : EReal) := by
  have e : idx_main_v522 (ix4 b t h 0) = ix3 b t h := funext fun a => match a with | ⟨0, _⟩ => rfl | ⟨1, _⟩ => rfl | ⟨2, _⟩ => rfl
  have es : val_main_v521 (F := Ideal) x0 x1 x2 x4 x5 x9 (ix3 b t h)
      = ((∑ i, (g.o b h t i - mu (g.o b h t)) * (g.o b h t i - mu (g.o b h t)) : ℝ) : EReal) := by
    rw [val_main_v521_apply, val_main_cst_5_apply, zero_cst, zero_add, coe_sum]
    refine Finset.sum_congr rfl fun l _ => ?_
    rw [show idx_main_v521 (ix3 b t h) l = ix4 b t h l from funext fun a => match a with | ⟨0, _⟩ => rfl | ⟨1, _⟩ => rfl | ⟨2, _⟩ => rfl | ⟨3, _⟩ => rfl,
      val_main_v520_apply, v519_at H, EReal.coe_mul]
    rfl
  rw [val_main_v524_apply, val_main_v522_apply, val_main_v523_apply, val_main_cst_6_apply, e, es]
  exact over_lanes _

/-- A row normalised. -/
theorem v531_at (H : Holds g x0 x1 x2 x4 x5 x6 x9) (b : Fin 8) (t : Fin 16) (h : Fin 32) (i : Fin 64) :
    val_main_v531 (F := Ideal) x0 x1 x2 x4 x5 x9 (ix4 b t h i) = ((nrm (g.o b h t) i : ℝ) : EReal) := by
  have e : idx_main_v530 (ix4 b t h i) = ix4 b t h 0 := funext fun a => match a with | ⟨0, _⟩ => rfl | ⟨1, _⟩ => rfl | ⟨2, _⟩ => rfl | ⟨3, _⟩ => rfl
  have e' : idx_main_v525 (ix4 b t h i) = ix4 b t h 0 := funext fun a => match a with | ⟨0, _⟩ => rfl | ⟨1, _⟩ => rfl | ⟨2, _⟩ => rfl | ⟨3, _⟩ => rfl
  rw [val_main_v531_apply, val_main_v526_apply, val_main_v525_apply, val_main_v530_apply, val_main_v529_apply, val_main_v528_apply, val_main_v527_apply,
    val_main_cst_7_apply, e, e', v517_at H, v524_at H, o_at H]
  show (((g.o b h t i : ℝ) : EReal) - ((mu (g.o b h t) : ℝ) : EReal)) * Ideal.rsqrt (((va (g.o b h t) : ℝ) : EReal) + epsE) = _
  rw [eps_eq, ← EReal.coe_add, rsqrt_pos _ (add_pos_of_nonneg_of_pos (va_nonneg _) eps_pos), ← EReal.coe_sub, ← EReal.coe_mul]
  rfl

/-- The values weighted. -/
theorem v546_at (H : Holds g x0 x1 x2 x4 x5 x6 x9) (b : Fin 8) (t : Fin 16) (h : Fin 32) (i : Fin 64) :
    val_main_v546 (F := Ideal) x0 x2 x5 x6 (ix4 b t h i)
      = ((bon (hd (g.x 0) b h) (hd (g.x 1) b h) (hd g.a b h) (hv g.kaw h) (g.rkw h) t : ℝ) : EReal) * ((hd (g.x 2) b h t i : ℝ) : EReal) := by
  have e : idx_main_v544 (idx_main_v545 (ix4 b t h i)) = ix3 b t h := funext fun a => match a with | ⟨0, _⟩ => rfl | ⟨1, _⟩ => rfl | ⟨2, _⟩ => rfl
  have es : val_main_v543 (F := Ideal) x0 x2 x5 x6 (ix3 b t h)
      = ((bon (hd (g.x 0) b h) (hd (g.x 1) b h) (hd g.a b h) (hv g.kaw h) (g.rkw h) t : ℝ) : EReal) := by
    unfold bon
    rw [val_main_v543_apply, val_main_cst_8_apply, zero_cst, zero_add, coe_sum]
    refine Finset.sum_congr rfl fun l _ => ?_
    have e2 : idx_main_v540 (idx_main_v541 (ix4 b t h l)) = ix2 h l := funext fun a => match a with | ⟨0, _⟩ => rfl | ⟨1, _⟩ => rfl
    rw [show idx_main_v543 (ix3 b t h) l = ix4 b t h l from funext fun a => match a with | ⟨0, _⟩ => rfl | ⟨1, _⟩ => rfl | ⟨2, _⟩ => rfl | ⟨3, _⟩ => rfl,
      val_main_v542_apply, val_main_v539_apply, val_main_v541_apply, val_main_v540_apply, e2, v28_at H, v27_at H, H.rkw, EReal.coe_mul, EReal.coe_mul]
    rfl
  rw [val_main_v546_apply, val_main_v545_apply, val_main_v544_apply, e, es, v29_at H]
  rfl

/-- An entry of the array of rows, of its heads. -/
theorem idx_flat (b : Fin 8) (t : Fin 16) (h : Fin 32) (j : Fin 64) (i : S8x16x32x64.Idx)
    (h0 : (i 0).val = ((16 * b.val + t.val) * 2048 + (64 * h.val + j.val)) / 32768)
    (h1 : (i 1).val = ((16 * b.val + t.val) * 2048 + (64 * h.val + j.val)) / 2048 % 16)
    (h2 : (i 2).val = ((16 * b.val + t.val) * 2048 + (64 * h.val + j.val)) / 64 % 32)
    (h3 : (i 3).val = ((16 * b.val + t.val) * 2048 + (64 * h.val + j.val)) % 64) : i = ix4 b t h j := by
  refine funext fun a => Fin.ext ?_
  match a with
  | ⟨0, _⟩ => refine h0.trans ?_; show _ = b.val; omega
  | ⟨1, _⟩ => refine h1.trans ?_; show _ = t.val; omega
  | ⟨2, _⟩ => refine h2.trans ?_; show _ = h.val; omega
  | ⟨3, _⟩ => refine h3.trans ?_; show _ = j.val; omega

/-- The output at row `t` of sequence `b` and entry `i` of head `h`. -/
theorem out_at (H : Holds g x0 x1 x2 x4 x5 x6 x9) (b : Fin 8) (t : Fin 16) (h : Fin 32) (i : Fin 64) :
    val_main_v561 (F := Ideal) x0 x1 x2 x3 x4 x5 x6 x7 x8 x9 (ix2 (grow b t) (hcol h i))
      = outE (hd (g.x 0) b h) (hd (g.x 1) b h) (hd (g.x 2) b h) (hd g.lw b h) (hd g.a b h) (hv g.kkw h) (hv g.kaw h) (g.rkw h) (g.s b h)
          (x7 (ix1 (hcol h i))) (x8 (ix1 (hcol h i))) (x3 (ix2 (grow b t) (hcol h i))) t i := by
  have e7 : idx_main_v533 (idx_main_v534 (ix2 (grow b t) (hcol h i))) = ix1 (hcol h i) := funext fun a => match a with | ⟨0, _⟩ => rfl
  have e8 : idx_main_v536 (idx_main_v537 (ix2 (grow b t) (hcol h i))) = ix1 (hcol h i) := funext fun a => match a with | ⟨0, _⟩ => rfl
  rw [val_main_v561_apply, val_main_v560_apply, val_main_v538_apply, val_main_v535_apply, val_main_v532_apply, val_main_v534_apply, val_main_v533_apply,
    val_main_v537_apply, val_main_v536_apply, val_main_v559_apply, e7, e8,
    idx_flat b t h i (idx_main_v532 (ix2 (grow b t) (hcol h i))) (by rfl) (by rfl) (by rfl) (by rfl),
    idx_flat b t h i (idx_main_v559 (ix2 (grow b t) (hcol h i))) (by rfl) (by rfl) (by rfl) (by rfl), v531_at H, v546_at H]
  rfl

/-- The heads of pair `p`. -/
abbrev head (p : Fin 16) (q : Fin 2) : Fin 32 := ⟨2 * p.val + q.val, by omega⟩

/-- The state after the last row: the two states of a pair on the diagonal. -/
theorem state_at (H : Holds g x0 x1 x2 x4 x5 x6 x9) (b : Fin 8) (p : Fin 16) (l j : Fin 128) :
    val_main_v562 (F := Ideal) x0 x1 x2 x4 x5 x9 (ix4 b p l j) = ((diag (fun q => g.st b (head p q) 16) l j : ℝ) : EReal) := by
  obtain ⟨q, i, rfl⟩ := exists_lane l
  obtain ⟨q', j, rfl⟩ := exists_lane j
  have e1 : val_main_v562 (F := Ideal) x0 x1 x2 x4 x5 x9 (ix4 b p (lane q i) (lane q' j)) = val_main_v558 (F := Ideal) x0 x1 x2 x4 x5 x9 (ix6 b p q i q' j) := by
    unfold val_main_v562
    refine shapeCast_apply _ _ _ (ix6 b p q i q' j) ?_
    rw [Shape.rowMajor_val_six, Shape.rowMajor_val_four]
    show ((((b.val * 16 + p.val) * 2 + q.val) * 64 + i.val) * 2 + q'.val) * 64 + j.val = ((b.val * 16 + p.val) * 128 + (64 * q.val + i.val)) * 128 + (64 * q'.val + j.val)
    omega
  have e2 : val_main_v547 (F := Ideal) x0 x1 x2 x4 x5 x9 (ix6 b p q i 0 j) = val_main_v493 (F := Ideal) x0 x1 x2 x4 x5 x9 (ix4 b (head p q) i j) := by
    unfold val_main_v547
    refine shapeCast_apply _ _ _ (ix4 b (head p q) i j) ?_
    rw [Shape.rowMajor_val_six, Shape.rowMajor_val_four]
    show ((b.val * 32 + (2 * p.val + q.val)) * 64 + i.val) * 64 + j.val = ((((b.val * 16 + p.val) * 2 + q.val) * 64 + i.val) * 1 + 0) * 64 + j.val
    omega
  have i1 : idx_main_v556 (ix6 b p q i q' j) = ix6 b p q i 0 j :=
    funext fun a => match a with | ⟨0, _⟩ => rfl | ⟨1, _⟩ => rfl | ⟨2, _⟩ => rfl | ⟨3, _⟩ => rfl | ⟨4, _⟩ => rfl | ⟨5, _⟩ => rfl
  have i2 : idx_main_v554 (idx_main_v555 (idx_main_v557 (ix6 b p q i q' j))) = ix2 q q' := funext fun a => match a with | ⟨0, _⟩ => rfl | ⟨1, _⟩ => rfl
  have e3 : val_main_v553 (F := Ideal) (ix2 q q') = ((if q = q' then 1 else 0 : ℝ) : EReal) := by
    rw [val_main_v553_apply, val_main_v552_apply, val_main_v551_apply, val_main_v548_apply, val_main_v549_apply, val_main_v550_apply, val_main_c_apply]
    have em : ∀ q q' : Fin 2, IntOp.cmpi .eq (IntOp.addi (BitVec.ofNat 32 q.val) 0#32) (BitVec.ofNat 32 q'.val) = if q = q' then 1#1 else 0#1 := by decide
    refine (congrArg (FloatOps.uitofp (F := Ideal) .f32) (em q q')).trans ?_
    by_cases hq : q = q'
    · rw [if_pos hq, if_pos hq]; exact congrArg (Nat.cast : ℕ → EReal) (by decide : (1#1).toNat = 1) |>.trans (by norm_num)
    · rw [if_neg hq, if_neg hq]; exact congrArg (Nat.cast : ℕ → EReal) (by decide : (0#1).toNat = 0) |>.trans (by norm_num)
  rw [e1, val_main_v558_apply, val_main_v556_apply, val_main_v557_apply, val_main_v555_apply, val_main_v554_apply, i1, i2, e2, e3, s15 H, diag_at]
  refine (EReal.coe_mul _ _).symm.trans (congrArg _ ?_)
  by_cases hq : q = q'
  · subst hq; simp
  · simp [hq]

end Cert.WkvRef

end
-- ==== Proof.WkvHost.lean ====
/- What the RWKV call's blocks hold at each grid point, in terms of the arrays the call is given: rows of one sequence and lanes
   of one pair of heads, and the pair's two states on the diagonal of one matrix. -/
module

public import proofs.«01_k».proof.Proof.Common
public import proofs.«01_k».proof.Proof.WkvEntry
public import proofs.«01_k».proof.Proof.WkvRef
public import proofs.«01_k».proof.Proof.Gen.KernelWkvIdeal.Value

@[expose] public section

set_option maxRecDepth 16384

noncomputable section

namespace Cert.WkvValue

open Cert.KernelWkvIdeal Cert.KernelWkvIdeal.Gen
open Idealize.ShloMosaic hiding ix1 ix2 ix3 ix4 ix5
open Idealize.ShloMosaic.TcCoe Idealize.SL.Sem
open Idealize.ShloMosaic.Pipeline (Dat)
open Idealize.ShloMosaic.ValueIdx
open Cert.WkvRef (grow hcol head)
open Cert.WkvMath (lane exists_lane)
open scoped BigOperators

variable (m : (ℓ : Loc nD τ sig) → Buf (Elt Ideal) ℓ)

/-- The arrays the call is given. -/
abbrev A0 (c : Dev nD) : S3x128x2048.Idx → EReal := m ((c : Thread nD τ).loc main_arg0)
abbrev A1 (c : Dev nD) : S128x2048.Idx → EReal := m ((c : Thread nD τ).loc main_arg1)
abbrev A2 (c : Dev nD) : S128x2048.Idx → EReal := m ((c : Thread nD τ).loc main_arg2)
abbrev A3 (c : Dev nD) : S128x2048.Idx → EReal := m ((c : Thread nD τ).loc main_arg3)
abbrev A4 (c : Dev nD) : S2048.Idx → EReal := m ((c : Thread nD τ).loc main_arg4)
abbrev A5 (c : Dev nD) : S2048.Idx → EReal := m ((c : Thread nD τ).loc main_arg5)
abbrev A6 (c : Dev nD) : S32x64.Idx → EReal := m ((c : Thread nD τ).loc main_arg6)
abbrev A7 (c : Dev nD) : S2048.Idx → EReal := m ((c : Thread nD τ).loc main_arg7)
abbrev A8 (c : Dev nD) : S2048.Idx → EReal := m ((c : Thread nD τ).loc main_arg8)
abbrev A9 (c : Dev nD) : S8x32x64x64.Idx → EReal := m ((c : Thread nD τ).loc main_arg9)

/-- One head of each pair's states. -/
def fst (s : S8x32x64x64.Idx → EReal) : S8x16x64x64.Idx → EReal :=
  shapeCast S8x16x64x64 (extractStridedSlice S8x16x1x64x64 ![0, 0, 0, 0, 0] (shapeCast S8x16x2x64x64 s shapeCasts_S8x32x64x64_S8x16x2x64x64)
    slices_S8x16x2x64x64_S8x16x1x64x64_0_0_0_0_0) shapeCasts_S8x16x1x64x64_S8x16x64x64

/-- The other. -/
def snd (s : S8x32x64x64.Idx → EReal) : S8x16x64x64.Idx → EReal :=
  shapeCast S8x16x64x64 (extractStridedSlice S8x16x1x64x64 ![0, 0, 1, 0, 0] (shapeCast S8x16x2x64x64 s shapeCasts_S8x32x64x64_S8x16x2x64x64)
    slices_S8x16x2x64x64_S8x16x1x64x64_0_0_1_0_0) shapeCasts_S8x16x1x64x64_S8x16x64x64

/-- What fills the corners. -/
def nil : S8x16x64x64.Idx → EReal := broadcastInDim S8x16x64x64 ![] bcast_S_S8x16x64x64 (constant (F := Ideal) S_ .f32 0x00000000#32)

/-- Two states side by side. -/
def beside (x y : S8x16x64x64.Idx → EReal) : S8x16x64x128.Idx → EReal :=
  concatenate S8x16x64x128 3 [⟨S8x16x64x64, x⟩, ⟨S8x16x64x64, y⟩] concatenates_S8x16x64x64_S8x16x64x64_S8x16x64x128_d3

/-- One above the other. -/
def above (x y : S8x16x64x128.Idx → EReal) : S8x16x128x128.Idx → EReal :=
  concatenate S8x16x128x128 2 [⟨S8x16x64x128, x⟩, ⟨S8x16x64x128, y⟩] concatenates_S8x16x64x128_S8x16x64x128_S8x16x128x128_d2

/-- The pair's two states on the diagonal. -/
def packed (s : S8x32x64x64.Idx → EReal) : S8x16x128x128.Idx → EReal := above (beside (fst s) nil) (beside nil (snd s))

theorem pair_at (s : S8x32x64x64.Idx → EReal) (b : Fin 8) (p : Fin 16) (q : Fin 2) (i j : Fin 64) :
    shapeCast S8x16x2x64x64 s shapeCasts_S8x32x64x64_S8x16x2x64x64 (ix5 b p q i j) = s (ix4 b (head p q) i j) :=
  shapeCast_apply _ _ (ix5 b p q i j) (ix4 b (head p q) i j) (by
    rw [Shape.rowMajor_val_four, Shape.rowMajor_val_five]
    show ((b.val * 32 + (2 * p.val + q.val)) * 64 + i.val) * 64 + j.val = (((b.val * 16 + p.val) * 2 + q.val) * 64 + i.val) * 64 + j.val
    omega)

theorem fst_at (s : S8x32x64x64.Idx → EReal) (b : Fin 8) (p : Fin 16) (i j : Fin 64) : fst s (ix4 b p i j) = s (ix4 b (head p 0) i j) := by
  unfold fst
  refine (shapeCast_apply _ _ (ix4 b p i j) (ix5 b p 0 i j : S8x16x1x64x64.Idx) (by
    rw [Shape.rowMajor_val_four, Shape.rowMajor_val_five]
    show (((b.val * 16 + p.val) * 1 + 0) * 64 + i.val) * 64 + j.val = ((b.val * 16 + p.val) * 64 + i.val) * 64 + j.val
    omega)).trans ?_
  refine (extractStridedSlice_apply _ _ _ (ix5 b p 0 i j : S8x16x1x64x64.Idx) (ix5 b p 0 i j : S8x16x2x64x64.Idx) (fun a => match a with
    | ⟨0, _⟩ => (Nat.zero_add _).symm
    | ⟨1, _⟩ => (Nat.zero_add _).symm
    | ⟨2, _⟩ => rfl
    | ⟨3, _⟩ => (Nat.zero_add _).symm
    | ⟨4, _⟩ => (Nat.zero_add _).symm)).trans (pair_at s b p 0 i j)

theorem snd_at (s : S8x32x64x64.Idx → EReal) (b : Fin 8) (p : Fin 16) (i j : Fin 64) : snd s (ix4 b p i j) = s (ix4 b (head p 1) i j) := by
  unfold snd
  refine (shapeCast_apply _ _ (ix4 b p i j) (ix5 b p 0 i j : S8x16x1x64x64.Idx) (by
    rw [Shape.rowMajor_val_four, Shape.rowMajor_val_five]
    show (((b.val * 16 + p.val) * 1 + 0) * 64 + i.val) * 64 + j.val = ((b.val * 16 + p.val) * 64 + i.val) * 64 + j.val
    omega)).trans ?_
  refine (extractStridedSlice_apply _ _ _ (ix5 b p 0 i j : S8x16x1x64x64.Idx) (ix5 b p 1 i j : S8x16x2x64x64.Idx) (fun a => match a with
    | ⟨0, _⟩ => (Nat.zero_add _).symm
    | ⟨1, _⟩ => (Nat.zero_add _).symm
    | ⟨2, _⟩ => rfl
    | ⟨3, _⟩ => (Nat.zero_add _).symm
    | ⟨4, _⟩ => (Nat.zero_add _).symm)).trans (pair_at s b p 1 i j)

theorem nil_at (i : S8x16x64x64.Idx) : nil i = 0 := Ideal.ofBits_zero_f32

theorem beside_fst (x y : S8x16x64x64.Idx → EReal) (b : Fin 8) (p : Fin 16) (i j : Fin 64) : beside x y (ix4 b p i (lane 0 j)) = x (ix4 b p i j) :=
  concatenate_pair_apply_left (t := S8x16x64x128) (s₁ := S8x16x64x64) (s₂ := S8x16x64x64) (3 : Fin 4) x y
    concatenates_S8x16x64x64_S8x16x64x64_S8x16x64x128_d3 (ix4 b p i (lane 0 j)) rfl (ix4 b p i j)
    (fun a => match a with | ⟨0, _⟩ => rfl | ⟨1, _⟩ => rfl | ⟨2, _⟩ => rfl | ⟨3, _⟩ => (by show j.val = 64 * 0 + j.val; omega))

theorem beside_snd (x y : S8x16x64x64.Idx → EReal) (b : Fin 8) (p : Fin 16) (i j : Fin 64) : beside x y (ix4 b p i (lane 1 j)) = y (ix4 b p i j) :=
  concatenate_pair_apply_right (t := S8x16x64x128) (s₁ := S8x16x64x64) (s₂ := S8x16x64x64) (3 : Fin 4) x y
    concatenates_S8x16x64x64_S8x16x64x64_S8x16x64x128_d3 (ix4 b p i (lane 1 j)) rfl rfl (ix4 b p i j)
    (fun a ha => match a with | ⟨0, _⟩ => rfl | ⟨1, _⟩ => rfl | ⟨2, _⟩ => rfl | ⟨3, _⟩ => absurd rfl ha)
    (by show (j.val + 64 : ℕ) = 64 * 1 + j.val; omega)

theorem above_fst (x y : S8x16x64x128.Idx → EReal) (b : Fin 8) (p : Fin 16) (i : Fin 64) (l : Fin 128) : above x y (ix4 b p (lane 0 i) l) = x (ix4 b p i l) :=
  concatenate_pair_apply_left (t := S8x16x128x128) (s₁ := S8x16x64x128) (s₂ := S8x16x64x128) (2 : Fin 4) x y
    concatenates_S8x16x64x128_S8x16x64x128_S8x16x128x128_d2 (ix4 b p (lane 0 i) l) rfl (ix4 b p i l)
    (fun a => match a with | ⟨0, _⟩ => rfl | ⟨1, _⟩ => rfl | ⟨2, _⟩ => (by show i.val = 64 * 0 + i.val; omega) | ⟨3, _⟩ => rfl)

theorem above_snd (x y : S8x16x64x128.Idx → EReal) (b : Fin 8) (p : Fin 16) (i : Fin 64) (l : Fin 128) : above x y (ix4 b p (lane 1 i) l) = y (ix4 b p i l) :=
  concatenate_pair_apply_right (t := S8x16x128x128) (s₁ := S8x16x64x128) (s₂ := S8x16x64x128) (2 : Fin 4) x y
    concatenates_S8x16x64x128_S8x16x64x128_S8x16x128x128_d2 (ix4 b p (lane 1 i) l) rfl rfl (ix4 b p i l)
    (fun a ha => match a with | ⟨0, _⟩ => rfl | ⟨1, _⟩ => rfl | ⟨2, _⟩ => absurd rfl ha | ⟨3, _⟩ => rfl)
    (by show (i.val + 64 : ℕ) = 64 * 1 + i.val; omega)

/-- An entry of the packed states: the head's own, or nothing off the diagonal. -/
theorem packed_at (s : S8x32x64x64.Idx → EReal) (b : Fin 8) (p : Fin 16) (q q' : Fin 2) (i j : Fin 64) :
    packed s (ix4 b p (lane q i) (lane q' j)) = if q = q' then s (ix4 b (head p q) i j) else 0 := by
  unfold packed
  match q, q' with
  | 0, 0 => exact (above_fst _ _ b p i _).trans ((beside_fst _ _ b p i j).trans (fst_at s b p i j))
  | 0, 1 => exact (above_fst _ _ b p i _).trans ((beside_snd _ _ b p i j).trans (nil_at _))
  | 1, 0 => exact (above_snd _ _ b p i _).trans ((beside_fst _ _ b p i j).trans (nil_at _))
  | 1, 1 => exact (above_snd _ _ b p i _).trans ((beside_snd _ _ b p i j).trans (snd_at s b p i j))

/-- The states as the region finds them. -/
theorem V_state (c : Dev nD) : Gen.V m c main_v11 = packed (A9 m c) := by
  show StableHlo.after (List.flatten [hostOps0]) (fun b => m (c, b)) main_v11 = _
  simp only [List.flatten_cons, List.flatten_nil, List.append_nil, List.cons_append, List.nil_append]
  after_results
  rfl

theorem V_row4 (c : Dev nD) : Gen.V m c main_v12 = shapeCast S1x2048 (A4 m c) shapeCasts_S2048_S1x2048 := by
  show StableHlo.after (List.flatten [hostOps0]) (fun b => m (c, b)) main_v12 = _
  simp only [List.flatten_cons, List.flatten_nil, List.append_nil, List.cons_append, List.nil_append]
  after_results
  rfl

theorem V_row5 (c : Dev nD) : Gen.V m c main_v13 = shapeCast S1x2048 (A5 m c) shapeCasts_S2048_S1x2048 := by
  show StableHlo.after (List.flatten [hostOps0]) (fun b => m (c, b)) main_v13 = _
  simp only [List.flatten_cons, List.flatten_nil, List.append_nil, List.cons_append, List.nil_append]
  after_results
  rfl

theorem V_row7 (c : Dev nD) : Gen.V m c main_v15 = shapeCast S1x2048 (A7 m c) shapeCasts_S2048_S1x2048 := by
  show StableHlo.after (List.flatten [hostOps0]) (fun b => m (c, b)) main_v15 = _
  simp only [List.flatten_cons, List.flatten_nil, List.append_nil, List.cons_append, List.nil_append]
  after_results
  rfl

theorem V_row8 (c : Dev nD) : Gen.V m c main_v16 = shapeCast S1x2048 (A8 m c) shapeCasts_S2048_S1x2048 := by
  show StableHlo.after (List.flatten [hostOps0]) (fun b => m (c, b)) main_v16 = _
  simp only [List.flatten_cons, List.flatten_nil, List.append_nil, List.cons_append, List.nil_append]
  after_results
  rfl

theorem V_row6 (c : Dev nD) : Gen.V m c main_v14
    = shapeCast S1x2048 (shapeCast S2048 (A6 m c) shapeCasts_S32x64_S2048) shapeCasts_S2048_S1x2048 := by
  show StableHlo.after (List.flatten [hostOps0]) (fun b => m (c, b)) main_v14 = _
  simp only [List.flatten_cons, List.flatten_nil, List.append_nil, List.cons_append, List.nil_append]
  after_results
  rfl

/-- A row of lanes laid flat, and a row for each head laid flat. -/
theorem row_at (x : S2048.Idx → EReal) (l : Fin 2048) : shapeCast S1x2048 x shapeCasts_S2048_S1x2048 (ix2 0 l) = x (ix1 l) :=
  shapeCast_apply _ _ (ix2 0 l) (ix1 l) (by
    rw [Shape.rowMajor_val_one, Shape.rowMajor_val_two]
    show l.val = 0 * 2048 + l.val; omega)

theorem heads_at (x : S32x64.Idx → EReal) (h : Fin 32) (j : Fin 64) : shapeCast S2048 x shapeCasts_S32x64_S2048 (ix1 (hcol h j)) = x (ix2 h j) :=
  shapeCast_apply _ _ (ix1 (hcol h j)) (ix2 h j) (by
    rw [Shape.rowMajor_val_one, Shape.rowMajor_val_two]
    show h.val * 64 + j.val = 64 * h.val + j.val; omega)

/-- Point `t` works on sequence `t / 16` and the pair of heads `t % 16`. -/
theorem idx0 : ∀ t : Fin cfg0.N, win0_0.index t (0 : Fin 3) = 0 ∧ win0_0.index t (1 : Fin 3) = t.val / 16 ∧ win0_0.index t (2 : Fin 3) = t.val % 16 :=
  (by decide +kernel : ∀ t : Fin grid0.N, _)
theorem idx1 : ∀ t : Fin cfg0.N, win0_1.index t (0 : Fin 3) = 1 ∧ win0_1.index t (1 : Fin 3) = t.val / 16 ∧ win0_1.index t (2 : Fin 3) = t.val % 16 :=
  (by decide +kernel : ∀ t : Fin grid0.N, _)
theorem idx2 : ∀ t : Fin cfg0.N, win0_2.index t (0 : Fin 3) = 2 ∧ win0_2.index t (1 : Fin 3) = t.val / 16 ∧ win0_2.index t (2 : Fin 3) = t.val % 16 :=
  (by decide +kernel : ∀ t : Fin grid0.N, _)
theorem idx3 : ∀ t : Fin cfg0.N, win0_3.index t (0 : Fin 2) = t.val / 16 ∧ win0_3.index t (1 : Fin 2) = t.val % 16 :=
  (by decide +kernel : ∀ t : Fin grid0.N, _)
theorem idx4 : ∀ t : Fin cfg0.N, win0_4.index t (0 : Fin 2) = t.val / 16 ∧ win0_4.index t (1 : Fin 2) = t.val % 16 :=
  (by decide +kernel : ∀ t : Fin grid0.N, _)
theorem idx5 : ∀ t : Fin cfg0.N, win0_5.index t (0 : Fin 2) = t.val / 16 ∧ win0_5.index t (1 : Fin 2) = t.val % 16 :=
  (by decide +kernel : ∀ t : Fin grid0.N, _)
theorem idx6 : ∀ t : Fin cfg0.N, win0_6.index t (0 : Fin 2) = 0 ∧ win0_6.index t (1 : Fin 2) = t.val % 16 :=
  (by decide +kernel : ∀ t : Fin grid0.N, _)
theorem idx7 : ∀ t : Fin cfg0.N, win0_7.index t (0 : Fin 2) = 0 ∧ win0_7.index t (1 : Fin 2) = t.val % 16 :=
  (by decide +kernel : ∀ t : Fin grid0.N, _)
theorem idx8 : ∀ t : Fin cfg0.N, win0_8.index t (0 : Fin 2) = 0 ∧ win0_8.index t (1 : Fin 2) = t.val % 16 :=
  (by decide +kernel : ∀ t : Fin grid0.N, _)
theorem idx9 : ∀ t : Fin cfg0.N, win0_9.index t (0 : Fin 2) = 0 ∧ win0_9.index t (1 : Fin 2) = t.val % 16 :=
  (by decide +kernel : ∀ t : Fin grid0.N, _)
theorem idx10 : ∀ t : Fin cfg0.N, win0_10.index t (0 : Fin 2) = 0 ∧ win0_10.index t (1 : Fin 2) = t.val % 16 :=
  (by decide +kernel : ∀ t : Fin grid0.N, _)
theorem idx11 : ∀ t : Fin cfg0.N, win0_11.index t (0 : Fin 4) = t.val / 16 ∧ win0_11.index t (1 : Fin 4) = t.val % 16 ∧ win0_11.index t (2 : Fin 4) = 0 ∧ win0_11.index t (3 : Fin 4) = 0 :=
  (by decide +kernel : ∀ t : Fin grid0.N, _)
theorem idx12 : ∀ t : Fin cfg0.N, win0_12.index t (0 : Fin 2) = t.val / 16 ∧ win0_12.index t (1 : Fin 2) = t.val % 16 :=
  (by decide +kernel : ∀ t : Fin grid0.N, _)
theorem idx13 : ∀ t : Fin cfg0.N, win0_13.index t (0 : Fin 4) = t.val / 16 ∧ win0_13.index t (1 : Fin 4) = t.val % 16 ∧ win0_13.index t (2 : Fin 4) = 0 ∧ win0_13.index t (3 : Fin 4) = 0 :=
  (by decide +kernel : ∀ t : Fin grid0.N, _)

/-- The sequence of point `t`. -/
def seq (t : Fin cfg0.N) : Fin 8 := ⟨t.val / 16, by have := t.isLt; have : cfg0.N = 128 := N_0; omega⟩

/-- The pair of heads of point `t`. -/
def pr (t : Fin cfg0.N) : Fin 16 := ⟨t.val % 16, by omega⟩

/-- A lane of a pair of heads among all the lanes. -/
def col (p : Fin 16) (l : Fin 128) : Fin 2048 := ⟨128 * p.val + l.val, by omega⟩

theorem col_lane (p : Fin 16) (q : Fin 2) (j : Fin 64) : col p (lane q j) = hcol (head p q) j :=
  Fin.ext (by show 128 * p.val + (64 * q.val + j.val) = 64 * (2 * p.val + q.val) + j.val; omega)

theorem blk0 (c : Dev nD) (t : Fin cfg0.N) (r : Fin 16) (l : Fin 128) :
    iblk m c 0 t (ix3 0 r l) = A0 m c (ix3 0 (grow (seq t) r) (col (pr t) l)) := by
  unfold iblk
  rw [View.read_apply]
  show Gen.V m c main_arg0 _ = _
  rw [V_main_arg0]
  obtain ⟨e0, e1, e2⟩ := idx0 t
  refine congrArg _ (funext fun a => Fin.ext ?_)
  match a with
  | ⟨0, _⟩ => show win0_0.index t (0 : Fin 3) * 1 + 1 * 0 = 0; rw [e0]
  | ⟨1, _⟩ => show win0_0.index t (1 : Fin 3) * 16 + 1 * r.val = 16 * (t.val / 16) + r.val; rw [e1]; omega
  | ⟨2, _⟩ => show win0_0.index t (2 : Fin 3) * 128 + 1 * l.val = 128 * (t.val % 16) + l.val; rw [e2]; omega

theorem blk1 (c : Dev nD) (t : Fin cfg0.N) (r : Fin 16) (l : Fin 128) :
    iblk m c 1 t (ix3 0 r l) = A0 m c (ix3 1 (grow (seq t) r) (col (pr t) l)) := by
  unfold iblk
  rw [View.read_apply]
  show Gen.V m c main_arg0 _ = _
  rw [V_main_arg0]
  obtain ⟨e0, e1, e2⟩ := idx1 t
  refine congrArg _ (funext fun a => Fin.ext ?_)
  match a with
  | ⟨0, _⟩ => show win0_1.index t (0 : Fin 3) * 1 + 1 * 0 = 1; rw [e0]
  | ⟨1, _⟩ => show win0_1.index t (1 : Fin 3) * 16 + 1 * r.val = 16 * (t.val / 16) + r.val; rw [e1]; omega
  | ⟨2, _⟩ => show win0_1.index t (2 : Fin 3) * 128 + 1 * l.val = 128 * (t.val % 16) + l.val; rw [e2]; omega

theorem blk2 (c : Dev nD) (t : Fin cfg0.N) (r : Fin 16) (l : Fin 128) :
    iblk m c 2 t (ix3 0 r l) = A0 m c (ix3 2 (grow (seq t) r) (col (pr t) l)) := by
  unfold iblk
  rw [View.read_apply]
  show Gen.V m c main_arg0 _ = _
  rw [V_main_arg0]
  obtain ⟨e0, e1, e2⟩ := idx2 t
  refine congrArg _ (funext fun a => Fin.ext ?_)
  match a with
  | ⟨0, _⟩ => show win0_2.index t (0 : Fin 3) * 1 + 1 * 0 = 2; rw [e0]
  | ⟨1, _⟩ => show win0_2.index t (1 : Fin 3) * 16 + 1 * r.val = 16 * (t.val / 16) + r.val; rw [e1]; omega
  | ⟨2, _⟩ => show win0_2.index t (2 : Fin 3) * 128 + 1 * l.val = 128 * (t.val % 16) + l.val; rw [e2]; omega

theorem blk3 (c : Dev nD) (t : Fin cfg0.N) (r : Fin 16) (l : Fin 128) :
    iblk m c 3 t (ix2 r l) = A1 m c (ix2 (grow (seq t) r) (col (pr t) l)) := by
  unfold iblk
  rw [View.read_apply]
  show Gen.V m c main_arg1 _ = _
  rw [V_main_arg1]
  obtain ⟨e0, e1⟩ := idx3 t
  refine congrArg _ (funext fun a => Fin.ext ?_)
  match a with
  | ⟨0, _⟩ => show win0_3.index t (0 : Fin 2) * 16 + 1 * r.val = 16 * (t.val / 16) + r.val; rw [e0]; omega
  | ⟨1, _⟩ => show win0_3.index t (1 : Fin 2) * 128 + 1 * l.val = 128 * (t.val % 16) + l.val; rw [e1]; omega

theorem blk4 (c : Dev nD) (t : Fin cfg0.N) (r : Fin 16) (l : Fin 128) :
    iblk m c 4 t (ix2 r l) = A2 m c (ix2 (grow (seq t) r) (col (pr t) l)) := by
  unfold iblk
  rw [View.read_apply]
  show Gen.V m c main_arg2 _ = _
  rw [V_main_arg2]
  obtain ⟨e0, e1⟩ := idx4 t
  refine congrArg _ (funext fun a => Fin.ext ?_)
  match a with
  | ⟨0, _⟩ => show win0_4.index t (0 : Fin 2) * 16 + 1 * r.val = 16 * (t.val / 16) + r.val; rw [e0]; omega
  | ⟨1, _⟩ => show win0_4.index t (1 : Fin 2) * 128 + 1 * l.val = 128 * (t.val % 16) + l.val; rw [e1]; omega

theorem blk5 (c : Dev nD) (t : Fin cfg0.N) (r : Fin 16) (l : Fin 128) :
    iblk m c 5 t (ix2 r l) = A3 m c (ix2 (grow (seq t) r) (col (pr t) l)) := by
  unfold iblk
  rw [View.read_apply]
  show Gen.V m c main_arg3 _ = _
  rw [V_main_arg3]
  obtain ⟨e0, e1⟩ := idx5 t
  refine congrArg _ (funext fun a => Fin.ext ?_)
  match a with
  | ⟨0, _⟩ => show win0_5.index t (0 : Fin 2) * 16 + 1 * r.val = 16 * (t.val / 16) + r.val; rw [e0]; omega
  | ⟨1, _⟩ => show win0_5.index t (1 : Fin 2) * 128 + 1 * l.val = 128 * (t.val % 16) + l.val; rw [e1]; omega

theorem blk6 (c : Dev nD) (t : Fin cfg0.N) (l : Fin 128) : iblk m c 6 t (ix2 0 l) = A4 m c (ix1 (col (pr t) l)) := by
  unfold iblk
  rw [View.read_apply]
  show Gen.V m c main_v12 _ = _
  rw [V_row4]
  obtain ⟨e0, e1⟩ := idx6 t
  refine (congrArg _ (?_ : _ = (ix2 0 (col (pr t) l) : S1x2048.Idx))).trans (row_at _ _)
  refine funext fun a => Fin.ext ?_
  match a with
  | ⟨0, _⟩ => show win0_6.index t (0 : Fin 2) * 1 + 1 * 0 = 0; rw [e0]
  | ⟨1, _⟩ => show win0_6.index t (1 : Fin 2) * 128 + 1 * l.val = 128 * (t.val % 16) + l.val; rw [e1]; omega

theorem blk7 (c : Dev nD) (t : Fin cfg0.N) (l : Fin 128) : iblk m c 7 t (ix2 0 l) = A5 m c (ix1 (col (pr t) l)) := by
  unfold iblk
  rw [View.read_apply]
  show Gen.V m c main_v13 _ = _
  rw [V_row5]
  obtain ⟨e0, e1⟩ := idx7 t
  refine (congrArg _ (?_ : _ = (ix2 0 (col (pr t) l) : S1x2048.Idx))).trans (row_at _ _)
  refine funext fun a => Fin.ext ?_
  match a with
  | ⟨0, _⟩ => show win0_7.index t (0 : Fin 2) * 1 + 1 * 0 = 0; rw [e0]
  | ⟨1, _⟩ => show win0_7.index t (1 : Fin 2) * 128 + 1 * l.val = 128 * (t.val % 16) + l.val; rw [e1]; omega

theorem blk8 (c : Dev nD) (t : Fin cfg0.N) (l : Fin 128) : iblk m c 8 t (ix2 0 l) = shapeCast S2048 (A6 m c) shapeCasts_S32x64_S2048 (ix1 (col (pr t) l)) := by
  unfold iblk
  rw [View.read_apply]
  show Gen.V m c main_v14 _ = _
  rw [V_row6]
  obtain ⟨e0, e1⟩ := idx8 t
  refine (congrArg _ (?_ : _ = (ix2 0 (col (pr t) l) : S1x2048.Idx))).trans (row_at _ _)
  refine funext fun a => Fin.ext ?_
  match a with
  | ⟨0, _⟩ => show win0_8.index t (0 : Fin 2) * 1 + 1 * 0 = 0; rw [e0]
  | ⟨1, _⟩ => show win0_8.index t (1 : Fin 2) * 128 + 1 * l.val = 128 * (t.val % 16) + l.val; rw [e1]; omega

theorem blk9 (c : Dev nD) (t : Fin cfg0.N) (l : Fin 128) : iblk m c 9 t (ix2 0 l) = A7 m c (ix1 (col (pr t) l)) := by
  unfold iblk
  rw [View.read_apply]
  show Gen.V m c main_v15 _ = _
  rw [V_row7]
  obtain ⟨e0, e1⟩ := idx9 t
  refine (congrArg _ (?_ : _ = (ix2 0 (col (pr t) l) : S1x2048.Idx))).trans (row_at _ _)
  refine funext fun a => Fin.ext ?_
  match a with
  | ⟨0, _⟩ => show win0_9.index t (0 : Fin 2) * 1 + 1 * 0 = 0; rw [e0]
  | ⟨1, _⟩ => show win0_9.index t (1 : Fin 2) * 128 + 1 * l.val = 128 * (t.val % 16) + l.val; rw [e1]; omega

theorem blk10 (c : Dev nD) (t : Fin cfg0.N) (l : Fin 128) : iblk m c 10 t (ix2 0 l) = A8 m c (ix1 (col (pr t) l)) := by
  unfold iblk
  rw [View.read_apply]
  show Gen.V m c main_v16 _ = _
  rw [V_row8]
  obtain ⟨e0, e1⟩ := idx10 t
  refine (congrArg _ (?_ : _ = (ix2 0 (col (pr t) l) : S1x2048.Idx))).trans (row_at _ _)
  refine funext fun a => Fin.ext ?_
  match a with
  | ⟨0, _⟩ => show win0_10.index t (0 : Fin 2) * 1 + 1 * 0 = 0; rw [e0]
  | ⟨1, _⟩ => show win0_10.index t (1 : Fin 2) * 128 + 1 * l.val = 128 * (t.val % 16) + l.val; rw [e1]; omega

theorem blk11 (c : Dev nD) (t : Fin cfg0.N) (l j : Fin 128) : iblk m c 11 t (ix4 0 0 l j) = packed (A9 m c) (ix4 (seq t) (pr t) l j) := by
  unfold iblk
  rw [View.read_apply]
  show Gen.V m c main_v11 _ = _
  rw [V_state]
  obtain ⟨e0, e1, e2, e3⟩ := idx11 t
  refine congrArg _ (funext fun a => Fin.ext ?_)
  match a with
  | ⟨0, _⟩ => show win0_11.index t (0 : Fin 4) * 1 + 1 * 0 = t.val / 16; rw [e0]; omega
  | ⟨1, _⟩ => show win0_11.index t (1 : Fin 4) * 1 + 1 * 0 = t.val % 16; rw [e1]; omega
  | ⟨2, _⟩ => show win0_11.index t (2 : Fin 4) * 128 + 1 * l.val = l.val; rw [e2]; omega
  | ⟨3, _⟩ => show win0_11.index t (3 : Fin 4) * 128 + 1 * j.val = j.val; rw [e3]; omega

end Cert.WkvValue

end
-- ==== Proof.Wkv.lean ====
/- The RWKV call: the output and the states after the run are the reference's, sixteen rows for each sequence and pair of
   heads. -/
module

public import proofs.«01_k».proof.Defs
public import proofs.«01_k».proof.Proof.WkvHost
public import proofs.«01_k».proof.Proof.Gen.Pre_inputs_finite

@[expose] public section

set_option maxRecDepth 16384

noncomputable section

namespace Cert.WkvValue

open Cert.KernelWkvIdeal Cert.KernelWkvIdeal.Gen
open Idealize.ShloMosaic hiding ix1 ix2 ix3 ix4 ix5
open Idealize.ShloMosaic.TcCoe Idealize.SL.Sem
open Idealize.ShloMosaic.Pipeline (Dat)
open Idealize.ShloMosaic.ValueIdx
open Cert.WkvRef (grow hcol head Given Holds)
open Cert.WkvMath (lane exists_lane diag diag_at)
open scoped BigOperators

variable (m : (ℓ : Loc nD τ sig) → Buf (Elt Ideal) ℓ) (ρ : Dev nD → PrngReg)

/-- What lies strictly between the two infinities is a real number. -/
theorem number (x : EReal) (h : (FloatOps.cmpf (F := Ideal) (φ := .f32) .ogt x (Ideal.ofBits .f32 0xFF800000#32)) &&&
    (FloatOps.cmpf (F := Ideal) (φ := .f32) .olt x (Ideal.ofBits .f32 0x7F800000#32)) = 1#1) : x = ((x.toReal : ℝ) : EReal) := by
  have ht : Ideal.ofBits .f32 0x7F800000#32 = ⊤ := by simp [Ideal.ofBits, Ideal.ieee]
  have hb : Ideal.ofBits .f32 0xFF800000#32 = ⊥ := by simp [Ideal.ofBits, Ideal.ieee]
  rw [ht, hb] at h
  refine (EReal.coe_toReal (fun e => ?_) (fun e => ?_)).symm
  · rw [e] at h; simp [FloatOps.cmpf, Ideal.cmp] at h
  · rw [e] at h; simp [FloatOps.cmpf, Ideal.cmp] at h

/-- The real numbers the arrays hold. -/
def given (c : Dev nD) : Given where
  x p r l := (A0 m c (ix3 p r l)).toReal
  lw r l := (A1 m c (ix2 r l)).toReal
  a r l := (A2 m c (ix2 r l)).toReal
  kkw l := (A4 m c (ix1 l)).toReal
  kaw l := (A5 m c (ix1 l)).toReal
  rkw h j := (A6 m c (ix2 h j)).toReal
  s b h i j := (A9 m c (ix4 b h i j)).toReal

theorem holds (hpre : Cert.Pre_KernelWkvIdeal_inputs_finite m) (c : Dev nD) :
    Holds (given m c) (A0 m c) (A1 m c) (A2 m c) (A4 m c) (A5 m c) (A6 m c) (A9 m c) where
  x p r l := number _ (congrFun (hpre c).1 (ix3 p r l))
  lw r l := number _ (congrFun (hpre c).2.1 (ix2 r l))
  a r l := number _ (congrFun (hpre c).2.2.1 (ix2 r l))
  kkw l := number _ (congrFun (hpre c).2.2.2.1 (ix1 l))
  kaw l := number _ (congrFun (hpre c).2.2.2.2.1 (ix1 l))
  rkw h j := number _ (congrFun (hpre c).2.2.2.2.2.1 (ix2 h j))
  s b h i j := number _ (congrFun (hpre c).2.2.2.2.2.2 (ix4 b h i j))

/-- A block of rows and lanes, and a block of lanes. -/
def B (X : Fin 128 → Fin 2048 → ℝ) (t : Fin cfg0.N) (r : Fin 16) (l : Fin 128) : ℝ := X (grow (seq t) r) (col (pr t) l)
def R (X : Fin 2048 → ℝ) (t : Fin cfg0.N) (l : Fin 128) : ℝ := X (col (pr t) l)
def RK (X : Fin 32 → Fin 64 → ℝ) (t : Fin cfg0.N) (l : Fin 128) : ℝ := X (head (pr t) ⟨l.val / 64, by omega⟩) ⟨l.val % 64, by omega⟩

theorem hd_B (X : Fin 128 → Fin 2048 → ℝ) (t : Fin cfg0.N) (q : Fin 2) : WkvMath.hd q (B X t) = WkvRef.hd X (seq t) (head (pr t) q) :=
  funext fun r => funext fun j => congrArg (X (grow (seq t) r)) (col_lane (pr t) q j)

theorem hv_R (X : Fin 2048 → ℝ) (t : Fin cfg0.N) (q : Fin 2) : WkvBlock.hv q (R X t) = WkvRef.hv X (head (pr t) q) :=
  funext fun j => congrArg X (col_lane (pr t) q j)

theorem RK_at (X : Fin 32 → Fin 64 → ℝ) (t : Fin cfg0.N) (q : Fin 2) (j : Fin 64) : RK X t (lane q j) = X (head (pr t) q) j := by
  unfold RK
  have e : (⟨(lane q j).val / 64, by omega⟩ : Fin 2) = q := Fin.ext (by show (64 * q.val + j.val) / 64 = q.val; omega)
  have e1 : (⟨(lane q j).val % 64, by omega⟩ : Fin 64) = j := Fin.ext (by show (64 * q.val + j.val) % 64 = j.val; omega)
  rw [e, e1]

theorem hv_RK (X : Fin 32 → Fin 64 → ℝ) (t : Fin cfg0.N) (q : Fin 2) : WkvBlock.hv q (RK X t) = X (head (pr t) q) :=
  funext fun j => RK_at X t q j

section
variable (hpre : Cert.Pre_KernelWkvIdeal_inputs_finite m) (c : Dev nD) (t : Fin cfg0.N)
include hpre

/-- The blocks of a point hold real numbers. -/
theorem is0 (r : Fin 16) (l : Fin 128) : iblk m c 0 t (ix3 0 r l) = ((B ((given m c).x 0) t r l : ℝ) : EReal) :=
  (blk0 m c t r l).trans ((holds m hpre c).x 0 _ _)
theorem is1 (r : Fin 16) (l : Fin 128) : iblk m c 1 t (ix3 0 r l) = ((B ((given m c).x 1) t r l : ℝ) : EReal) :=
  (blk1 m c t r l).trans ((holds m hpre c).x 1 _ _)
theorem is2 (r : Fin 16) (l : Fin 128) : iblk m c 2 t (ix3 0 r l) = ((B ((given m c).x 2) t r l : ℝ) : EReal) :=
  (blk2 m c t r l).trans ((holds m hpre c).x 2 _ _)
theorem is3 (r : Fin 16) (l : Fin 128) : iblk m c 3 t (ix2 r l) = ((B (given m c).lw t r l : ℝ) : EReal) :=
  (blk3 m c t r l).trans ((holds m hpre c).lw _ _)
theorem is4 (r : Fin 16) (l : Fin 128) : iblk m c 4 t (ix2 r l) = ((B (given m c).a t r l : ℝ) : EReal) :=
  (blk4 m c t r l).trans ((holds m hpre c).a _ _)
theorem is6 (l : Fin 128) : iblk m c 6 t (ix2 0 l) = ((R (given m c).kkw t l : ℝ) : EReal) :=
  (blk6 m c t l).trans ((holds m hpre c).kkw _)
theorem is7 (l : Fin 128) : iblk m c 7 t (ix2 0 l) = ((R (given m c).kaw t l : ℝ) : EReal) :=
  (blk7 m c t l).trans ((holds m hpre c).kaw _)
theorem is8 (l : Fin 128) : iblk m c 8 t (ix2 0 l) = ((RK (given m c).rkw t l : ℝ) : EReal) := by
  obtain ⟨q, j, rfl⟩ := exists_lane l
  rw [blk8, col_lane, heads_at, RK_at]
  exact (holds m hpre c).rkw _ _
theorem is11 (i j : Fin 128) : iblk m c 11 t (ix4 0 0 i j)
    = ((diag (fun q => (given m c).s (seq t) (head (pr t) q)) i j : ℝ) : EReal) := by
  obtain ⟨q, i, rfl⟩ := exists_lane i
  obtain ⟨q', j, rfl⟩ := exists_lane j
  rw [blk11, packed_at, diag_at]
  by_cases h : q = q'
  · rw [if_pos h, if_pos h]; exact (holds m hpre c).s _ _ _ _
  · rw [if_neg h, if_neg h]; exact EReal.coe_zero.symm
end

/-- The state's block, its two unit axes put back. -/
theorem end_apply (x : FVec Ideal S128x128 .f32) (l j : Fin 128) : k0_pay2 (F := Ideal) x (ix4 0 0 l j) = x (ix2 l j) := by
  unfold k0_pay2
  exact shapeCast_apply _ _ (ix4 (0 : Fin 1) (0 : Fin 1) l j) (ix2 l j) (by
    rw [Shape.rowMajor_val_two, Shape.rowMajor_val_four]
    show l.val * 128 + j.val = ((0 * 1 + 0) * 128 + l.val) * 128 + j.val
    omega)

/-- What the two arrays hold after the run: the reference's own values of the arguments. -/
abbrev G12 (c : Dev nD) : S128x2048.Idx → EReal :=
  Cert.ReferenceWkvIdeal.Read.val_main_v561 (F := Ideal) (A0 m c) (A1 m c) (A2 m c) (A3 m c) (A4 m c) (A5 m c) (A6 m c) (A7 m c) (A8 m c) (A9 m c)
abbrev G13 (c : Dev nD) : S8x16x128x128.Idx → EReal :=
  Cert.ReferenceWkvIdeal.Read.val_main_v562 (F := Ideal) (A0 m c) (A1 m c) (A2 m c) (A4 m c) (A5 m c) (A9 m c)

/-- Where an entry of point `t`'s block lies in the output. -/
theorem emb12 (t : Fin cfg0.N) (r : Fin 16) (l : Fin 128) :
    ((cfg0.win 12).blk t).view.emb (ix2 r l) = ix2 (grow (seq t) r) (col (pr t) l) := by
  obtain ⟨e0, e1⟩ := idx12 t
  funext a
  refine Fin.ext ?_
  match a with
  | ⟨0, _⟩ => show win0_12.index t (0 : Fin 2) * 16 + 1 * r.val = 16 * (t.val / 16) + r.val; rw [e0]; omega
  | ⟨1, _⟩ => show win0_12.index t (1 : Fin 2) * 128 + 1 * l.val = 128 * (t.val % 16) + l.val; rw [e1]; omega

/-- Where an entry of point `t`'s block lies in the states. -/
theorem emb13 (t : Fin cfg0.N) (l j : Fin 128) :
    ((cfg0.win 13).blk t).view.emb (ix4 0 0 l j) = ix4 (seq t) (pr t) l j := by
  obtain ⟨e0, e1, e2, e3⟩ := idx13 t
  funext a
  refine Fin.ext ?_
  match a with
  | ⟨0, _⟩ => show win0_13.index t (0 : Fin 4) * 1 + 1 * 0 = t.val / 16; rw [e0]; omega
  | ⟨1, _⟩ => show win0_13.index t (1 : Fin 4) * 1 + 1 * 0 = t.val % 16; rw [e1]; omega
  | ⟨2, _⟩ => show win0_13.index t (2 : Fin 4) * 128 + 1 * l.val = l.val; rw [e2]; omega
  | ⟨3, _⟩ => show win0_13.index t (3 : Fin 4) * 128 + 1 * j.val = j.val; rw [e3]; omega

/-- What point `t` writes back of the output is its block of that array. -/
theorem flushed12_eq (hpre : Cert.Pre_KernelWkvIdeal_inputs_finite m) (c : Dev nD) (t : Fin cfg0.N) (_ : (cfg0.win 12).flush t = true) :
    (dats m 0 c).flushed 12 t = ((cfg0.win 12).blk t).view.read (Elt Ideal) (G12 m c) := by
  rw [Value.flushed12_A, WkvBlock.pieces12]
  funext y
  obtain ⟨r, l, rfl⟩ := Common.exists_ix2 (M := 16) (N := 128) y
  obtain ⟨q, j, rfl⟩ := exists_lane l
  rw [View.read_apply, emb12 t r (lane q j), col_lane]
  refine ((WkvBlock.out_at (is0 m hpre c t) (is1 m hpre c t) (is2 m hpre c t) (is3 m hpre c t) (is4 m hpre c t) (is6 m hpre c t)
    (is7 m hpre c t) (is8 m hpre c t) (is11 m hpre c t) r q j).trans ?_).trans (WkvRef.out_at (holds m hpre c) (seq t) r (head (pr t) q) j).symm
  rw [hd_B, hd_B, hd_B, hd_B, hd_B, hv_R, hv_R, hv_RK, blk9, blk10, blk5, col_lane]

/-- What point `t` writes back of the states is its block of that array. -/
theorem flushed13_eq (hpre : Cert.Pre_KernelWkvIdeal_inputs_finite m) (c : Dev nD) (t : Fin cfg0.N) (_ : (cfg0.win 13).flush t = true) :
    (dats m 0 c).flushed 13 t = ((cfg0.win 13).blk t).view.read (Elt Ideal) (G13 m c) := by
  rw [Value.flushed13_A, WkvBlock.pieces13]
  funext y
  obtain ⟨l, j, rfl⟩ : ∃ (l j : Fin 128), y = (ix4 0 0 l j : S1x1x128x128.Idx) := by
    refine ⟨y 2, y 3, funext fun a => Fin.ext ?_⟩
    match a with
    | ⟨0, _⟩ => have h : (y 0).val < 1 := (y 0).isLt; show (y 0).val = 0; omega
    | ⟨1, _⟩ => have h : (y 1).val < 1 := (y 1).isLt; show (y 1).val = 0; omega
    | ⟨2, _⟩ => rfl
    | ⟨3, _⟩ => rfl
  rw [View.read_apply, emb13 t l j]
  refine (((end_apply _ l j).trans (WkvBlock.S_is (is1 m hpre c t) (is2 m hpre c t) (is3 m hpre c t) (is4 m hpre c t) (is6 m hpre c t)
    (is7 m hpre c t) (is11 m hpre c t) l j)).trans ?_).trans (WkvRef.state_at (holds m hpre c) (seq t) (pr t) l j).symm
  refine congrArg (fun S : Fin 2 → Fin 64 → Fin 64 → ℝ => ((diag S l j : ℝ) : EReal)) (funext fun q => ?_)
  rw [hd_B, hd_B, hd_B, hd_B, hv_R, hv_R]

/-- Every entry of the output lies in the block some point writes back. -/
theorem covered12 (i : S128x2048.Idx) : ∃ t : Fin cfg0.N, (cfg0.win 12).flush t = true ∧ i ∈ ((cfg0.win 12).blk t).view.set := by
  have h0 : (i 0).val < 128 := (i 0).isLt
  have h1 : (i 1).val < 2048 := (i 1).isLt
  have hN : cfg0.N = 128 := N_0
  obtain ⟨t, ht⟩ : ∃ t : Fin cfg0.N, t.val = (i 0).val / 16 * 16 + (i 1).val / 128 := ⟨⟨_, by omega⟩, rfl⟩
  refine ⟨t, (by decide +kernel : ∀ t : Fin grid0.N, win0_12.flush t = true) t, ?_⟩
  show i ∈ ((View.whole main_v17_0).slice (win0_12.rect t)).set
  rw [View.set_slice_whole, Rect.mem_set_unit]
  obtain ⟨e0, e1⟩ := idx12 t
  intro a
  match a with
  | ⟨0, _⟩ =>
    show win0_12.index t (0 : Fin 2) * 16 ≤ (i 0).val ∧ (i 0).val < win0_12.index t (0 : Fin 2) * 16 + 16
    rw [e0]; omega
  | ⟨1, _⟩ =>
    show win0_12.index t (1 : Fin 2) * 128 ≤ (i 1).val ∧ (i 1).val < win0_12.index t (1 : Fin 2) * 128 + 128
    rw [e1]; omega

/-- Every entry of the states lies in the block some point writes back. -/
theorem covered13 (i : S8x16x128x128.Idx) : ∃ t : Fin cfg0.N, (cfg0.win 13).flush t = true ∧ i ∈ ((cfg0.win 13).blk t).view.set := by
  have h0 : (i 0).val < 8 := (i 0).isLt
  have h1 : (i 1).val < 16 := (i 1).isLt
  have h2 : (i 2).val < 128 := (i 2).isLt
  have h3 : (i 3).val < 128 := (i 3).isLt
  have hN : cfg0.N = 128 := N_0
  obtain ⟨t, ht⟩ : ∃ t : Fin cfg0.N, t.val = (i 0).val * 16 + (i 1).val := ⟨⟨_, by omega⟩, rfl⟩
  refine ⟨t, (by decide +kernel : ∀ t : Fin grid0.N, win0_13.flush t = true) t, ?_⟩
  show i ∈ ((View.whole main_v17_1).slice (win0_13.rect t)).set
  rw [View.set_slice_whole, Rect.mem_set_unit]
  obtain ⟨e0, e1, e2, e3⟩ := idx13 t
  intro a
  match a with
  | ⟨0, _⟩ =>
    show win0_13.index t (0 : Fin 4) * 1 ≤ (i 0).val ∧ (i 0).val < win0_13.index t (0 : Fin 4) * 1 + 1
    rw [e0]; omega
  | ⟨1, _⟩ =>
    show win0_13.index t (1 : Fin 4) * 1 ≤ (i 1).val ∧ (i 1).val < win0_13.index t (1 : Fin 4) * 1 + 1
    rw [e1]; omega
  | ⟨2, _⟩ =>
    show win0_13.index t (2 : Fin 4) * 128 ≤ (i 2).val ∧ (i 2).val < win0_13.index t (2 : Fin 4) * 128 + 128
    rw [e2]; omega
  | ⟨3, _⟩ =>
    show win0_13.index t (3 : Fin 4) * 128 ≤ (i 3).val ∧ (i 3).val < win0_13.index t (3 : Fin 4) * 128 + 128
    rw [e3]; omega

/-- The output after the run is the reference's. -/
theorem final12 (hpre : Cert.Pre_KernelWkvIdeal_inputs_finite m) (c : Dev nD) : (dats m 0 c).arrAt 12 cfg0.N = G12 m c :=
  (dats m 0 c).arrAt_eq_of_cover 12 (G12 m c) (flushed12_eq m hpre c) covered12

/-- The states after the run are the reference's. -/
theorem final13 (hpre : Cert.Pre_KernelWkvIdeal_inputs_finite m) (c : Dev nD) : (dats m 0 c).arrAt 13 cfg0.N = G13 m c :=
  (dats m 0 c).arrAt_eq_of_cover 13 (G13 m c) (flushed13_eq m hpre c) covered13

/-- The kernel's run and the reference's end with the same two arrays and leave the arguments unchanged. -/
theorem algebraic : Cert.algebraic_KernelWkvIdeal_ReferenceWkvIdeal_pre_inputs_finite := fun m ρ m' ρ' hpre hag =>
  ⟨fun c => G12 m c, fun c => G13 m c,
    (θ_run _ _ _).mono (fun _ h c => ⟨(h c).1.trans (final12 m hpre c), (h c).2.1.trans (final13 m hpre c), (h c).2.2⟩)
      (Value.run_blocks m ρ),
    (θ_run _ _ _).mono (fun _ h c => ⟨(h c).1.trans (by
        have b0 : StableHlo.launchContents m' c (Proc.tc.devRef Cert.ReferenceWkvIdeal.main_arg0) = A0 m c := (hag c).1
        have b1 : StableHlo.launchContents m' c (Proc.tc.devRef Cert.ReferenceWkvIdeal.main_arg1) = A1 m c := (hag c).2.1
        have b2 : StableHlo.launchContents m' c (Proc.tc.devRef Cert.ReferenceWkvIdeal.main_arg2) = A2 m c := (hag c).2.2.1
        have b3 : StableHlo.launchContents m' c (Proc.tc.devRef Cert.ReferenceWkvIdeal.main_arg3) = A3 m c := (hag c).2.2.2.1
        have b4 : StableHlo.launchContents m' c (Proc.tc.devRef Cert.ReferenceWkvIdeal.main_arg4) = A4 m c := (hag c).2.2.2.2.1
        have b5 : StableHlo.launchContents m' c (Proc.tc.devRef Cert.ReferenceWkvIdeal.main_arg5) = A5 m c := (hag c).2.2.2.2.2.1
        have b6 : StableHlo.launchContents m' c (Proc.tc.devRef Cert.ReferenceWkvIdeal.main_arg6) = A6 m c := (hag c).2.2.2.2.2.2.1
        have b7 : StableHlo.launchContents m' c (Proc.tc.devRef Cert.ReferenceWkvIdeal.main_arg7) = A7 m c := (hag c).2.2.2.2.2.2.2.1
        have b8 : StableHlo.launchContents m' c (Proc.tc.devRef Cert.ReferenceWkvIdeal.main_arg8) = A8 m c := (hag c).2.2.2.2.2.2.2.2.1
        have b9 : StableHlo.launchContents m' c (Proc.tc.devRef Cert.ReferenceWkvIdeal.main_arg9) = A9 m c := (hag c).2.2.2.2.2.2.2.2.2
        rw [Cert.ReferenceWkvIdeal.Read.val_main_v561_eq, b0, b1, b2, b3, b4, b5, b6, b7, b8, b9]), (h c).2.1.trans (by
        have b0 : StableHlo.launchContents m' c (Proc.tc.devRef Cert.ReferenceWkvIdeal.main_arg0) = A0 m c := (hag c).1
        have b1 : StableHlo.launchContents m' c (Proc.tc.devRef Cert.ReferenceWkvIdeal.main_arg1) = A1 m c := (hag c).2.1
        have b2 : StableHlo.launchContents m' c (Proc.tc.devRef Cert.ReferenceWkvIdeal.main_arg2) = A2 m c := (hag c).2.2.1
        have b4 : StableHlo.launchContents m' c (Proc.tc.devRef Cert.ReferenceWkvIdeal.main_arg4) = A4 m c := (hag c).2.2.2.2.1
        have b5 : StableHlo.launchContents m' c (Proc.tc.devRef Cert.ReferenceWkvIdeal.main_arg5) = A5 m c := (hag c).2.2.2.2.2.1
        have b9 : StableHlo.launchContents m' c (Proc.tc.devRef Cert.ReferenceWkvIdeal.main_arg9) = A9 m c := (hag c).2.2.2.2.2.2.2.2.2
        rw [Cert.ReferenceWkvIdeal.Read.val_main_v562_eq, b0, b1, b2, b4, b5, b9]), (h c).2.2⟩)
      (Cert.ReferenceWkvIdeal.Value.run m' ρ')⟩

end Cert.WkvValue

end
-- ==== Proof.lean ====
/- The assembled certificate: for every call its facts, the three frames, and the equation of its value. -/
module

public import proofs.«01_k».proof.Defs
public import proofs.«01_k».proof.Proof.Gen.Kernel.Frame
public import proofs.«01_k».proof.Proof.Gen.KernelIdeal.Value
public import proofs.«01_k».proof.Proof.Gen.ReferenceIdeal.Read
public import proofs.«01_k».proof.Proof.Gen.KernelCached.Frame
public import proofs.«01_k».proof.Proof.Gen.KernelCachedIdeal.Value
public import proofs.«01_k».proof.Proof.Gen.ReferenceCachedIdeal.Read
public import proofs.«01_k».proof.Proof.Gen.KernelFfn.Frame
public import proofs.«01_k».proof.Proof.Gen.KernelFfnIdeal.Value
public import proofs.«01_k».proof.Proof.Gen.ReferenceFfnIdeal.Read
public import proofs.«01_k».proof.Proof.Gen.KernelNormMm.Frame
public import proofs.«01_k».proof.Proof.Gen.KernelNormMmIdeal.Value
public import proofs.«01_k».proof.Proof.Gen.ReferenceNormMmIdeal.Read
public import proofs.«01_k».proof.Proof.Gen.KernelProj.Frame
public import proofs.«01_k».proof.Proof.Gen.KernelProjIdeal.Value
public import proofs.«01_k».proof.Proof.Gen.ReferenceProjIdeal.Read
public import proofs.«01_k».proof.Proof.Gen.KernelGated.Frame
public import proofs.«01_k».proof.Proof.Gen.KernelGatedIdeal.Value
public import proofs.«01_k».proof.Proof.Gen.ReferenceGatedIdeal.Read
public import proofs.«01_k».proof.Proof.Gen.KernelNorm.Frame
public import proofs.«01_k».proof.Proof.Gen.KernelNormIdeal.Value
public import proofs.«01_k».proof.Proof.Gen.ReferenceNormIdeal.Read
public import proofs.«01_k».proof.Proof.Gen.KernelRkv.Frame
public import proofs.«01_k».proof.Proof.Gen.KernelRkvIdeal.Value
public import proofs.«01_k».proof.Proof.Gen.ReferenceRkvIdeal.Read
public import proofs.«01_k».proof.Proof.Gen.KernelLora.Frame
public import proofs.«01_k».proof.Proof.Gen.KernelLoraIdeal.Value
public import proofs.«01_k».proof.Proof.Gen.ReferenceLoraIdeal.Read
public import proofs.«01_k».proof.Proof.Gen.KernelHgrn.Frame
public import proofs.«01_k».proof.Proof.Gen.KernelHgrnIdeal.Value
public import proofs.«01_k».proof.Proof.Gen.ReferenceHgrnIdeal.Read
public import proofs.«01_k».proof.Proof.Gen.KernelWkv.Frame
public import proofs.«01_k».proof.Proof.Gen.KernelWkvIdeal.Value
public import proofs.«01_k».proof.Proof.Gen.ReferenceWkvIdeal.Read
public import proofs.«01_k».proof.Proof.Gen.Pre_scores_finite
public import proofs.«01_k».proof.Proof.Gen.Pre_bound_finite
public import proofs.«01_k».proof.Proof.Gen.Pre_inputs_finite
public import proofs.«01_k».proof.Proof.Attn
public import proofs.«01_k».proof.Proof.Cached
public import proofs.«01_k».proof.Proof.Ffn
public import proofs.«01_k».proof.Proof.NormMm
public import proofs.«01_k».proof.Proof.Proj
public import proofs.«01_k».proof.Proof.Gated
public import proofs.«01_k».proof.Proof.Norm
public import proofs.«01_k».proof.Proof.Rkv
public import proofs.«01_k».proof.Proof.Lora
public import proofs.«01_k».proof.Proof.Hgrn
public import proofs.«01_k».proof.Proof.Wkv

@[expose] public section

noncomputable section

namespace Cert.Proof

open Idealize.ShloMosaic Idealize.SL.Sem

/-- Every claim of the certificate. -/
theorem claim : Cert.Claim := ⟨
  Cert.Kernel.Gen.facts,
  Cert.KernelIdeal.Gen.facts,
  Cert.ReferenceIdeal.Gen.facts,
  Cert.KernelCached.Gen.facts,
  Cert.KernelCachedIdeal.Gen.facts,
  Cert.ReferenceCachedIdeal.Gen.facts,
  Cert.KernelFfn.Gen.facts,
  Cert.KernelFfnIdeal.Gen.facts,
  Cert.ReferenceFfnIdeal.Gen.facts,
  Cert.KernelNormMm.Gen.facts,
  Cert.KernelNormMmIdeal.Gen.facts,
  Cert.ReferenceNormMmIdeal.Gen.facts,
  Cert.KernelProj.Gen.facts,
  Cert.KernelProjIdeal.Gen.facts,
  Cert.ReferenceProjIdeal.Gen.facts,
  Cert.KernelGated.Gen.facts,
  Cert.KernelGatedIdeal.Gen.facts,
  Cert.ReferenceGatedIdeal.Gen.facts,
  Cert.KernelNorm.Gen.facts,
  Cert.KernelNormIdeal.Gen.facts,
  Cert.ReferenceNormIdeal.Gen.facts,
  Cert.KernelRkv.Gen.facts,
  Cert.KernelRkvIdeal.Gen.facts,
  Cert.ReferenceRkvIdeal.Gen.facts,
  Cert.KernelLora.Gen.facts,
  Cert.KernelLoraIdeal.Gen.facts,
  Cert.ReferenceLoraIdeal.Gen.facts,
  Cert.KernelHgrn.Gen.facts,
  Cert.KernelHgrnIdeal.Gen.facts,
  Cert.ReferenceHgrnIdeal.Gen.facts,
  Cert.KernelWkv.Gen.facts,
  Cert.KernelWkvIdeal.Gen.facts,
  Cert.ReferenceWkvIdeal.Gen.facts,
  Cert.Pre_scores_finite.Gen.facts,
  Cert.Pre_bound_finite.Gen.facts,
  Cert.Pre_inputs_finite.Gen.facts,
  fun m ρ _ => Cert.Kernel.Gen.frame m ρ,
  fun m ρ _ => Cert.KernelIdeal.Gen.frame m ρ,
  fun m ρ _ => Cert.KernelIdeal.Gen.frame m ρ,
  fun m ρ _ => (θ_run _ _ _).mono (fun r h => ⟨fun c => (h c).2, sem_eq_zero_of_no_sems (by decide) r.2⟩) (Cert.ReferenceIdeal.Value.run m ρ),
  fun m ρ _ => (θ_run _ _ _).mono (fun r h => ⟨fun c => (h c).2, sem_eq_zero_of_no_sems (by decide) r.2⟩) (Cert.ReferenceIdeal.Value.run m ρ),
  fun m ρ _ => Cert.KernelCached.Gen.frame m ρ,
  fun m ρ _ => Cert.KernelCachedIdeal.Gen.frame m ρ,
  fun m ρ _ => (θ_run _ _ _).mono (fun r h => ⟨fun c => (h c).2, sem_eq_zero_of_no_sems (by decide) r.2⟩) (Cert.ReferenceCachedIdeal.Value.run m ρ),
  fun m ρ _ => Cert.KernelFfn.Gen.frame m ρ,
  fun m ρ _ => Cert.KernelFfnIdeal.Gen.frame m ρ,
  fun m ρ _ => (θ_run _ _ _).mono (fun r h => ⟨fun c => (h c).2, sem_eq_zero_of_no_sems (by decide) r.2⟩) (Cert.ReferenceFfnIdeal.Value.run m ρ),
  fun m ρ _ => Cert.KernelNormMm.Gen.frame m ρ,
  fun m ρ _ => Cert.KernelNormMmIdeal.Gen.frame m ρ,
  fun m ρ _ => (θ_run _ _ _).mono (fun r h => ⟨fun c => (h c).2, sem_eq_zero_of_no_sems (by decide) r.2⟩) (Cert.ReferenceNormMmIdeal.Value.run m ρ),
  fun m ρ _ => Cert.KernelProj.Gen.frame m ρ,
  fun m ρ _ => Cert.KernelProjIdeal.Gen.frame m ρ,
  fun m ρ _ => (θ_run _ _ _).mono (fun r h => ⟨fun c => (h c).2, sem_eq_zero_of_no_sems (by decide) r.2⟩) (Cert.ReferenceProjIdeal.Value.run m ρ),
  fun m ρ _ => Cert.KernelGated.Gen.frame m ρ,
  fun m ρ _ => Cert.KernelGatedIdeal.Gen.frame m ρ,
  fun m ρ _ => (θ_run _ _ _).mono (fun r h => ⟨fun c => (h c).2, sem_eq_zero_of_no_sems (by decide) r.2⟩) (Cert.ReferenceGatedIdeal.Value.run m ρ),
  fun m ρ _ => Cert.KernelNorm.Gen.frame m ρ,
  fun m ρ _ => Cert.KernelNormIdeal.Gen.frame m ρ,
  fun m ρ _ => (θ_run _ _ _).mono (fun r h => ⟨fun c => (h c).2, sem_eq_zero_of_no_sems (by decide) r.2⟩) (Cert.ReferenceNormIdeal.Value.run m ρ),
  fun m ρ _ => Cert.KernelRkv.Gen.frame m ρ,
  fun m ρ _ => Cert.KernelRkvIdeal.Gen.frame m ρ,
  fun m ρ _ => (θ_run _ _ _).mono (fun r h => ⟨fun c => (h c).2, sem_eq_zero_of_no_sems (by decide) r.2⟩) (Cert.ReferenceRkvIdeal.Value.run m ρ),
  fun m ρ _ => Cert.KernelLora.Gen.frame m ρ,
  fun m ρ _ => Cert.KernelLoraIdeal.Gen.frame m ρ,
  fun m ρ _ => (θ_run _ _ _).mono (fun r h => ⟨fun c => (h c).2.2.2, sem_eq_zero_of_no_sems (by decide) r.2⟩) (Cert.ReferenceLoraIdeal.Value.run m ρ),
  fun m ρ _ => Cert.KernelHgrn.Gen.frame m ρ,
  fun m ρ _ => Cert.KernelHgrnIdeal.Gen.frame m ρ,
  fun m ρ _ => Cert.KernelHgrnIdeal.Gen.frame m ρ,
  fun m ρ _ => (θ_run _ _ _).mono (fun r h => ⟨fun c => (h c).2.2, sem_eq_zero_of_no_sems (by decide) r.2⟩) (Cert.ReferenceHgrnIdeal.Value.run m ρ),
  fun m ρ _ => (θ_run _ _ _).mono (fun r h => ⟨fun c => (h c).2.2, sem_eq_zero_of_no_sems (by decide) r.2⟩) (Cert.ReferenceHgrnIdeal.Value.run m ρ),
  fun m ρ _ => Cert.KernelWkv.Gen.frame m ρ,
  fun m ρ _ => Cert.KernelWkvIdeal.Gen.frame m ρ,
  fun m ρ _ => Cert.KernelWkvIdeal.Gen.frame m ρ,
  fun m ρ _ => (θ_run _ _ _).mono (fun r h => ⟨fun c => (h c).2.2, sem_eq_zero_of_no_sems (by decide) r.2⟩) (Cert.ReferenceWkvIdeal.Value.run m ρ),
  fun m ρ _ => (θ_run _ _ _).mono (fun r h => ⟨fun c => (h c).2.2, sem_eq_zero_of_no_sems (by decide) r.2⟩) (Cert.ReferenceWkvIdeal.Value.run m ρ),
  trivial,
  Cert.AttnValue.algebraic,
  trivial,
  Cert.CachedValue.algebraic,
  trivial,
  Cert.FfnValue.algebraic,
  trivial,
  Cert.NormMmValue.algebraic,
  trivial,
  Cert.ProjValue.algebraic,
  trivial,
  Cert.GatedValue.algebraic,
  trivial,
  Cert.NormValue.algebraic,
  trivial,
  Cert.RkvValue.algebraic,
  trivial,
  Cert.LoraValue.algebraic,
  trivial,
  Cert.HgrnValue.algebraic,
  trivial,
  Cert.WkvValue.algebraic⟩

end Cert.Proof

end
